-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2.2 = (fun _ => 1#1)

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelFwd (m : (ℓ : Loc Cert.KernelFwd.nD Cert.KernelFwd.τ Cert.KernelFwd.sig) → Buf (Elt Bits) ℓ) : Prop :=
  True

def Pre_KernelFwdIdeal (m : (ℓ : Loc Cert.KernelFwdIdeal.nD Cert.KernelFwdIdeal.τ Cert.KernelFwdIdeal.sig) → Buf (Elt Ideal) ℓ) : Prop :=
  True

def Pre_ReferenceFwdIdeal (m : (ℓ : Loc Cert.ReferenceFwdIdeal.nD Cert.ReferenceFwdIdeal.τ Cert.ReferenceFwdIdeal.sig) → Buf (Elt Ideal) ℓ) : Prop :=
  True

def Pre_KernelRgIn (m : (ℓ : Loc Cert.KernelRgIn.nD Cert.KernelRgIn.τ Cert.KernelRgIn.sig) → Buf (Elt Bits) ℓ) : Prop :=
  True

def Pre_KernelRgInIdeal (m : (ℓ : Loc Cert.KernelRgInIdeal.nD Cert.KernelRgInIdeal.τ Cert.KernelRgInIdeal.sig) → Buf (Elt Ideal) ℓ) : Prop :=
  True

def Pre_ReferenceRgInIdeal (m : (ℓ : Loc Cert.ReferenceRgInIdeal.nD Cert.ReferenceRgInIdeal.τ Cert.ReferenceRgInIdeal.sig) → Buf (Elt Ideal) ℓ) : Prop :=
  True

def Pre_KernelMix (m : (ℓ : Loc Cert.KernelMix.nD Cert.KernelMix.τ Cert.KernelMix.sig) → Buf (Elt Bits) ℓ) : Prop :=
  True

def Pre_KernelMixIdeal (m : (ℓ : Loc Cert.KernelMixIdeal.nD Cert.KernelMixIdeal.τ Cert.KernelMixIdeal.sig) → Buf (Elt Ideal) ℓ) : Prop :=
  True

def Pre_ReferenceMixIdeal (m : (ℓ : Loc Cert.ReferenceMixIdeal.nD Cert.ReferenceMixIdeal.τ Cert.ReferenceMixIdeal.sig) → Buf (Elt Ideal) ℓ) : Prop :=
  True

def Pre_KernelMixerT (m : (ℓ : Loc Cert.KernelMixerT.nD Cert.KernelMixerT.τ Cert.KernelMixerT.sig) → Buf (Elt Bits) ℓ) : Prop :=
  True

def Pre_KernelMixerTIdeal (m : (ℓ : Loc Cert.KernelMixerTIdeal.nD Cert.KernelMixerTIdeal.τ Cert.KernelMixerTIdeal.sig) → Buf (Elt Ideal) ℓ) : Prop :=
  True

def Pre_KernelMixerTIdeal_finite_mixer [hPre_finite_mixer : Cert.Pre_finite_mixer.Facts] (m : (ℓ : Loc Cert.KernelMixerTIdeal.nD Cert.KernelMixerTIdeal.τ Cert.KernelMixerTIdeal.sig) → Buf (Elt Ideal) ℓ) : Prop :=
  ∀ c : Dev Cert.KernelMixerTIdeal.nD,
    (Cert.Pre_finite_mixer.fn (F := Ideal) (m ((c.tc : Thread Cert.KernelMixerTIdeal.nD Cert.KernelMixerTIdeal.τ).loc Cert.KernelMixerTIdeal.main_arg0)) (m ((c.tc : Thread Cert.KernelMixerTIdeal.nD Cert.KernelMixerTIdeal.τ).loc Cert.KernelMixerTIdeal.main_arg1)) (m ((c.tc : Thread Cert.KernelMixerTIdeal.nD Cert.KernelMixerTIdeal.τ).loc Cert.KernelMixerTIdeal.main_arg2)) (m ((c.tc : Thread Cert.KernelMixerTIdeal.nD Cert.KernelMixerTIdeal.τ).loc Cert.KernelMixerTIdeal.main_arg3)) (m ((c.tc : Thread Cert.KernelMixerTIdeal.nD Cert.KernelMixerTIdeal.τ).loc Cert.KernelMixerTIdeal.main_arg4)) (m ((c.tc : Thread Cert.KernelMixerTIdeal.nD Cert.KernelMixerTIdeal.τ).loc Cert.KernelMixerTIdeal.main_arg5)) (m ((c.tc : Thread Cert.KernelMixerTIdeal.nD Cert.KernelMixerTIdeal.τ).loc Cert.KernelMixerTIdeal.main_arg6)) (m ((c.tc : Thread Cert.KernelMixerTIdeal.nD Cert.KernelMixerTIdeal.τ).loc Cert.KernelMixerTIdeal.main_arg7)) (m ((c.tc : Thread Cert.KernelMixerTIdeal.nD Cert.KernelMixerTIdeal.τ).loc Cert.KernelMixerTIdeal.main_arg8))).1 = (fun _ => 1#1)
    ∧ (Cert.Pre_finite_mixer.fn (F := Ideal) (m ((c.tc : Thread Cert.KernelMixerTIdeal.nD Cert.KernelMixerTIdeal.τ).loc Cert.KernelMixerTIdeal.main_arg0)) (m ((c.tc : Thread Cert.KernelMixerTIdeal.nD Cert.KernelMixerTIdeal.τ).loc Cert.KernelMixerTIdeal.main_arg1)) (m ((c.tc : Thread Cert.KernelMixerTIdeal.nD Cert.KernelMixerTIdeal.τ).loc Cert.KernelMixerTIdeal.main_arg2)) (m ((c.tc : Thread Cert.KernelMixerTIdeal.nD Cert.KernelMixerTIdeal.τ).loc Cert.KernelMixerTIdeal.main_arg3)) (m ((c.tc : Thread Cert.KernelMixerTIdeal.nD Cert.KernelMixerTIdeal.τ).loc Cert.KernelMixerTIdeal.main_arg4)) (m ((c.tc : Thread Cert.KernelMixerTIdeal.nD Cert.KernelMixerTIdeal.τ).loc Cert.KernelMixerTIdeal.main_arg5)) (m ((c.tc : Thread Cert.KernelMixerTIdeal.nD Cert.KernelMixerTIdeal.τ).loc Cert.KernelMixerTIdeal.main_arg6)) (m ((c.tc : Thread Cert.KernelMixerTIdeal.nD Cert.KernelMixerTIdeal.τ).loc Cert.KernelMixerTIdeal.main_arg7)) (m ((c.tc : Thread Cert.KernelMixerTIdeal.nD Cert.KernelMixerTIdeal.τ).loc Cert.KernelMixerTIdeal.main_arg8))).2.1 = (fun _ => 1#1)
    ∧ (Cert.Pre_finite_mixer.fn (F := Ideal) (m ((c.tc : Thread Cert.KernelMixerTIdeal.nD Cert.KernelMixerTIdeal.τ).loc Cert.KernelMixerTIdeal.main_arg0)) (m ((c.tc : Thread Cert.KernelMixerTIdeal.nD Cert.KernelMixerTIdeal.τ).loc Cert.KernelMixerTIdeal.main_arg1)) (m ((c.tc : Thread Cert.KernelMixerTIdeal.nD Cert.KernelMixerTIdeal.τ).loc Cert.KernelMixerTIdeal.main_arg2)) (m ((c.tc : Thread Cert.KernelMixerTIdeal.nD Cert.KernelMixerTIdeal.τ).loc Cert.KernelMixerTIdeal.main_arg3)) (m ((c.tc : Thread Cert.KernelMixerTIdeal.nD Cert.KernelMixerTIdeal.τ).loc Cert.KernelMixerTIdeal.main_arg4)) (m ((c.tc : Thread Cert.KernelMixerTIdeal.nD Cert.KernelMixerTIdeal.τ).loc Cert.KernelMixerTIdeal.main_arg5)) (m ((c.tc : Thread Cert.KernelMixerTIdeal.nD Cert.KernelMixerTIdeal.τ).loc Cert.KernelMixerTIdeal.main_arg6)) (m ((c.tc : Thread Cert.KernelMixerTIdeal.nD Cert.KernelMixerTIdeal.τ).loc Cert.KernelMixerTIdeal.main_arg7)) (m ((c.tc : Thread Cert.KernelMixerTIdeal.nD Cert.KernelMixerTIdeal.τ).loc Cert.KernelMixerTIdeal.main_arg8))).2.2.1 = (fun _ => 1#1)
    ∧ (Cert.Pre_finite_mixer.fn (F := Ideal) (m ((c.tc : Thread Cert.KernelMixerTIdeal.nD Cert.KernelMixerTIdeal.τ).loc Cert.KernelMixerTIdeal.main_arg0)) (m ((c.tc : Thread Cert.KernelMixerTIdeal.nD Cert.KernelMixerTIdeal.τ).loc Cert.KernelMixerTIdeal.main_arg1)) (m ((c.tc : Thread Cert.KernelMixerTIdeal.nD Cert.KernelMixerTIdeal.τ).loc Cert.KernelMixerTIdeal.main_arg2)) (m ((c.tc : Thread Cert.KernelMixerTIdeal.nD Cert.KernelMixerTIdeal.τ).loc Cert.KernelMixerTIdeal.main_arg3)) (m ((c.tc : Thread Cert.KernelMixerTIdeal.nD Cert.KernelMixerTIdeal.τ).loc Cert.KernelMixerTIdeal.main_arg4)) (m ((c.tc : Thread Cert.KernelMixerTIdeal.nD Cert.KernelMixerTIdeal.τ).loc Cert.KernelMixerTIdeal.main_arg5)) (m ((c.tc : Thread Cert.KernelMixerTIdeal.nD Cert.KernelMixerTIdeal.τ).loc Cert.KernelMixerTIdeal.main_arg6)) (m ((c.tc : Thread Cert.KernelMixerTIdeal.nD Cert.KernelMixerTIdeal.τ).loc Cert.KernelMixerTIdeal.main_arg7)) (m ((c.tc : Thread Cert.KernelMixerTIdeal.nD Cert.KernelMixerTIdeal.τ).loc Cert.KernelMixerTIdeal.main_arg8))).2.2.2.1 = (fun _ => 1#1)
    ∧ (Cert.Pre_finite_mixer.fn (F := Ideal) (m ((c.tc : Thread Cert.KernelMixerTIdeal.nD Cert.KernelMixerTIdeal.τ).loc Cert.KernelMixerTIdeal.main_arg0)) (m ((c.tc : Thread Cert.KernelMixerTIdeal.nD Cert.KernelMixerTIdeal.τ).loc Cert.KernelMixerTIdeal.main_arg1)) (m ((c.tc : Thread Cert.KernelMixerTIdeal.nD Cert.KernelMixerTIdeal.τ).loc Cert.KernelMixerTIdeal.main_arg2)) (m ((c.tc : Thread Cert.KernelMixerTIdeal.nD Cert.KernelMixerTIdeal.τ).loc Cert.KernelMixerTIdeal.main_arg3)) (m ((c.tc : Thread Cert.KernelMixerTIdeal.nD Cert.KernelMixerTIdeal.τ).loc Cert.KernelMixerTIdeal.main_arg4)) (m ((c.tc : Thread Cert.KernelMixerTIdeal.nD Cert.KernelMixerTIdeal.τ).loc Cert.KernelMixerTIdeal.main_arg5)) (m ((c.tc : Thread Cert.KernelMixerTIdeal.nD Cert.KernelMixerTIdeal.τ).loc Cert.KernelMixerTIdeal.main_arg6)) (m ((c.tc : Thread Cert.KernelMixerTIdeal.nD Cert.KernelMixerTIdeal.τ).loc Cert.KernelMixerTIdeal.main_arg7)) (m ((c.tc : Thread Cert.KernelMixerTIdeal.nD Cert.KernelMixerTIdeal.τ).loc Cert.KernelMixerTIdeal.main_arg8))).2.2.2.2.1 = (fun _ => 1#1)
    ∧ (Cert.Pre_finite_mixer.fn (F := Ideal) (m ((c.tc : Thread Cert.KernelMixerTIdeal.nD Cert.KernelMixerTIdeal.τ).loc Cert.KernelMixerTIdeal.main_arg0)) (m ((c.tc : Thread Cert.KernelMixerTIdeal.nD Cert.KernelMixerTIdeal.τ).loc Cert.KernelMixerTIdeal.main_arg1)) (m ((c.tc : Thread Cert.KernelMixerTIdeal.nD Cert.KernelMixerTIdeal.τ).loc Cert.KernelMixerTIdeal.main_arg2)) (m ((c.tc : Thread Cert.KernelMixerTIdeal.nD Cert.KernelMixerTIdeal.τ).loc Cert.KernelMixerTIdeal.main_arg3)) (m ((c.tc : Thread Cert.KernelMixerTIdeal.nD Cert.KernelMixerTIdeal.τ).loc Cert.KernelMixerTIdeal.main_arg4)) (m ((c.tc : Thread Cert.KernelMixerTIdeal.nD Cert.KernelMixerTIdeal.τ).loc Cert.KernelMixerTIdeal.main_arg5)) (m ((c.tc : Thread Cert.KernelMixerTIdeal.nD Cert.KernelMixerTIdeal.τ).loc Cert.KernelMixerTIdeal.main_arg6)) (m ((c.tc : Thread Cert.KernelMixerTIdeal.nD Cert.KernelMixerTIdeal.τ).loc Cert.KernelMixerTIdeal.main_arg7)) (m ((c.tc : Thread Cert.KernelMixerTIdeal.nD Cert.KernelMixerTIdeal.τ).loc Cert.KernelMixerTIdeal.main_arg8))).2.2.2.2.2.1 = (fun _ => 1#1)
    ∧ (Cert.Pre_finite_mixer.fn (F := Ideal) (m ((c.tc : Thread Cert.KernelMixerTIdeal.nD Cert.KernelMixerTIdeal.τ).loc Cert.KernelMixerTIdeal.main_arg0)) (m ((c.tc : Thread Cert.KernelMixerTIdeal.nD Cert.KernelMixerTIdeal.τ).loc Cert.KernelMixerTIdeal.main_arg1)) (m ((c.tc : Thread Cert.KernelMixerTIdeal.nD Cert.KernelMixerTIdeal.τ).loc Cert.KernelMixerTIdeal.main_arg2)) (m ((c.tc : Thread Cert.KernelMixerTIdeal.nD Cert.KernelMixerTIdeal.τ).loc Cert.KernelMixerTIdeal.main_arg3)) (m ((c.tc : Thread Cert.KernelMixerTIdeal.nD Cert.KernelMixerTIdeal.τ).loc Cert.KernelMixerTIdeal.main_arg4)) (m ((c.tc : Thread Cert.KernelMixerTIdeal.nD Cert.KernelMixerTIdeal.τ).loc Cert.KernelMixerTIdeal.main_arg5)) (m ((c.tc : Thread Cert.KernelMixerTIdeal.nD Cert.KernelMixerTIdeal.τ).loc Cert.KernelMixerTIdeal.main_arg6)) (m ((c.tc : Thread Cert.KernelMixerTIdeal.nD Cert.KernelMixerTIdeal.τ).loc Cert.KernelMixerTIdeal.main_arg7)) (m ((c.tc : Thread Cert.KernelMixerTIdeal.nD Cert.KernelMixerTIdeal.τ).loc Cert.KernelMixerTIdeal.main_arg8))).2.2.2.2.2.2.1 = (fun _ => 1#1)
    ∧ (Cert.Pre_finite_mixer.fn (F := Ideal) (m ((c.tc : Thread Cert.KernelMixerTIdeal.nD Cert.KernelMixerTIdeal.τ).loc Cert.KernelMixerTIdeal.main_arg0)) (m ((c.tc : Thread Cert.KernelMixerTIdeal.nD Cert.KernelMixerTIdeal.τ).loc Cert.KernelMixerTIdeal.main_arg1)) (m ((c.tc : Thread Cert.KernelMixerTIdeal.nD Cert.KernelMixerTIdeal.τ).loc Cert.KernelMixerTIdeal.main_arg2)) (m ((c.tc : Thread Cert.KernelMixerTIdeal.nD Cert.KernelMixerTIdeal.τ).loc Cert.KernelMixerTIdeal.main_arg3)) (m ((c.tc : Thread Cert.KernelMixerTIdeal.nD Cert.KernelMixerTIdeal.τ).loc Cert.KernelMixerTIdeal.main_arg4)) (m ((c.tc : Thread Cert.KernelMixerTIdeal.nD Cert.KernelMixerTIdeal.τ).loc Cert.KernelMixerTIdeal.main_arg5)) (m ((c.tc : Thread Cert.KernelMixerTIdeal.nD Cert.KernelMixerTIdeal.τ).loc Cert.KernelMixerTIdeal.main_arg6)) (m ((c.tc : Thread Cert.KernelMixerTIdeal.nD Cert.KernelMixerTIdeal.τ).loc Cert.KernelMixerTIdeal.main_arg7)) (m ((c.tc : Thread Cert.KernelMixerTIdeal.nD Cert.KernelMixerTIdeal.τ).loc Cert.KernelMixerTIdeal.main_arg8))).2.2.2.2.2.2.2.1 = (fun _ => 1#1)
    ∧ (Cert.Pre_finite_mixer.fn (F := Ideal) (m ((c.tc : Thread Cert.KernelMixerTIdeal.nD Cert.KernelMixerTIdeal.τ).loc Cert.KernelMixerTIdeal.main_arg0)) (m ((c.tc : Thread Cert.KernelMixerTIdeal.nD Cert.KernelMixerTIdeal.τ).loc Cert.KernelMixerTIdeal.main_arg1)) (m ((c.tc : Thread Cert.KernelMixerTIdeal.nD Cert.KernelMixerTIdeal.τ).loc Cert.KernelMixerTIdeal.main_arg2)) (m ((c.tc : Thread Cert.KernelMixerTIdeal.nD Cert.KernelMixerTIdeal.τ).loc Cert.KernelMixerTIdeal.main_arg3)) (m ((c.tc : Thread Cert.KernelMixerTIdeal.nD Cert.KernelMixerTIdeal.τ).loc Cert.KernelMixerTIdeal.main_arg4)) (m ((c.tc : Thread Cert.KernelMixerTIdeal.nD Cert.KernelMixerTIdeal.τ).loc Cert.KernelMixerTIdeal.main_arg5)) (m ((c.tc : Thread Cert.KernelMixerTIdeal.nD Cert.KernelMixerTIdeal.τ).loc Cert.KernelMixerTIdeal.main_arg6)) (m ((c.tc : Thread Cert.KernelMixerTIdeal.nD Cert.KernelMixerTIdeal.τ).loc Cert.KernelMixerTIdeal.main_arg7)) (m ((c.tc : Thread Cert.KernelMixerTIdeal.nD Cert.KernelMixerTIdeal.τ).loc Cert.KernelMixerTIdeal.main_arg8))).2.2.2.2.2.2.2.2 = (fun _ => 1#1)

def Pre_ReferenceMixerTIdeal (m : (ℓ : Loc Cert.ReferenceMixerTIdeal.nD Cert.ReferenceMixerTIdeal.τ Cert.ReferenceMixerTIdeal.sig) → Buf (Elt Ideal) ℓ) : Prop :=
  True

def Pre_ReferenceMixerTIdeal_finite_mixer [hPre_finite_mixer : Cert.Pre_finite_mixer.Facts] (m : (ℓ : Loc Cert.ReferenceMixerTIdeal.nD Cert.ReferenceMixerTIdeal.τ Cert.ReferenceMixerTIdeal.sig) → Buf (Elt Ideal) ℓ) : Prop :=
  ∀ c : Dev Cert.ReferenceMixerTIdeal.nD,
    (Cert.Pre_finite_mixer.fn (F := Ideal) (m ((c.tc : Thread Cert.ReferenceMixerTIdeal.nD Cert.ReferenceMixerTIdeal.τ).loc Cert.ReferenceMixerTIdeal.main_arg0)) (m ((c.tc : Thread Cert.ReferenceMixerTIdeal.nD Cert.ReferenceMixerTIdeal.τ).loc Cert.ReferenceMixerTIdeal.main_arg1)) (m ((c.tc : Thread Cert.ReferenceMixerTIdeal.nD Cert.ReferenceMixerTIdeal.τ).loc Cert.ReferenceMixerTIdeal.main_arg2)) (m ((c.tc : Thread Cert.ReferenceMixerTIdeal.nD Cert.ReferenceMixerTIdeal.τ).loc Cert.ReferenceMixerTIdeal.main_arg3)) (m ((c.tc : Thread Cert.ReferenceMixerTIdeal.nD Cert.ReferenceMixerTIdeal.τ).loc Cert.ReferenceMixerTIdeal.main_arg4)) (m ((c.tc : Thread Cert.ReferenceMixerTIdeal.nD Cert.ReferenceMixerTIdeal.τ).loc Cert.ReferenceMixerTIdeal.main_arg5)) (m ((c.tc : Thread Cert.ReferenceMixerTIdeal.nD Cert.ReferenceMixerTIdeal.τ).loc Cert.ReferenceMixerTIdeal.main_arg6)) (m ((c.tc : Thread Cert.ReferenceMixerTIdeal.nD Cert.ReferenceMixerTIdeal.τ).loc Cert.ReferenceMixerTIdeal.main_arg7)) (m ((c.tc : Thread Cert.ReferenceMixerTIdeal.nD Cert.ReferenceMixerTIdeal.τ).loc Cert.ReferenceMixerTIdeal.main_arg8))).1 = (fun _ => 1#1)
    ∧ (Cert.Pre_finite_mixer.fn (F := Ideal) (m ((c.tc : Thread Cert.ReferenceMixerTIdeal.nD Cert.ReferenceMixerTIdeal.τ).loc Cert.ReferenceMixerTIdeal.main_arg0)) (m ((c.tc : Thread Cert.ReferenceMixerTIdeal.nD Cert.ReferenceMixerTIdeal.τ).loc Cert.ReferenceMixerTIdeal.main_arg1)) (m ((c.tc : Thread Cert.ReferenceMixerTIdeal.nD Cert.ReferenceMixerTIdeal.τ).loc Cert.ReferenceMixerTIdeal.main_arg2)) (m ((c.tc : Thread Cert.ReferenceMixerTIdeal.nD Cert.ReferenceMixerTIdeal.τ).loc Cert.ReferenceMixerTIdeal.main_arg3)) (m ((c.tc : Thread Cert.ReferenceMixerTIdeal.nD Cert.ReferenceMixerTIdeal.τ).loc Cert.ReferenceMixerTIdeal.main_arg4)) (m ((c.tc : Thread Cert.ReferenceMixerTIdeal.nD Cert.ReferenceMixerTIdeal.τ).loc Cert.ReferenceMixerTIdeal.main_arg5)) (m ((c.tc : Thread Cert.ReferenceMixerTIdeal.nD Cert.ReferenceMixerTIdeal.τ).loc Cert.ReferenceMixerTIdeal.main_arg6)) (m ((c.tc : Thread Cert.ReferenceMixerTIdeal.nD Cert.ReferenceMixerTIdeal.τ).loc Cert.ReferenceMixerTIdeal.main_arg7)) (m ((c.tc : Thread Cert.ReferenceMixerTIdeal.nD Cert.ReferenceMixerTIdeal.τ).loc Cert.ReferenceMixerTIdeal.main_arg8))).2.1 = (fun _ => 1#1)
    ∧ (Cert.Pre_finite_mixer.fn (F := Ideal) (m ((c.tc : Thread Cert.ReferenceMixerTIdeal.nD Cert.ReferenceMixerTIdeal.τ).loc Cert.ReferenceMixerTIdeal.main_arg0)) (m ((c.tc : Thread Cert.ReferenceMixerTIdeal.nD Cert.ReferenceMixerTIdeal.τ).loc Cert.ReferenceMixerTIdeal.main_arg1)) (m ((c.tc : Thread Cert.ReferenceMixerTIdeal.nD Cert.ReferenceMixerTIdeal.τ).loc Cert.ReferenceMixerTIdeal.main_arg2)) (m ((c.tc : Thread Cert.ReferenceMixerTIdeal.nD Cert.ReferenceMixerTIdeal.τ).loc Cert.ReferenceMixerTIdeal.main_arg3)) (m ((c.tc : Thread Cert.ReferenceMixerTIdeal.nD Cert.ReferenceMixerTIdeal.τ).loc Cert.ReferenceMixerTIdeal.main_arg4)) (m ((c.tc : Thread Cert.ReferenceMixerTIdeal.nD Cert.ReferenceMixerTIdeal.τ).loc Cert.ReferenceMixerTIdeal.main_arg5)) (m ((c.tc : Thread Cert.ReferenceMixerTIdeal.nD Cert.ReferenceMixerTIdeal.τ).loc Cert.ReferenceMixerTIdeal.main_arg6)) (m ((c.tc : Thread Cert.ReferenceMixerTIdeal.nD Cert.ReferenceMixerTIdeal.τ).loc Cert.ReferenceMixerTIdeal.main_arg7)) (m ((c.tc : Thread Cert.ReferenceMixerTIdeal.nD Cert.ReferenceMixerTIdeal.τ).loc Cert.ReferenceMixerTIdeal.main_arg8))).2.2.1 = (fun _ => 1#1)
    ∧ (Cert.Pre_finite_mixer.fn (F := Ideal) (m ((c.tc : Thread Cert.ReferenceMixerTIdeal.nD Cert.ReferenceMixerTIdeal.τ).loc Cert.ReferenceMixerTIdeal.main_arg0)) (m ((c.tc : Thread Cert.ReferenceMixerTIdeal.nD Cert.ReferenceMixerTIdeal.τ).loc Cert.ReferenceMixerTIdeal.main_arg1)) (m ((c.tc : Thread Cert.ReferenceMixerTIdeal.nD Cert.ReferenceMixerTIdeal.τ).loc Cert.ReferenceMixerTIdeal.main_arg2)) (m ((c.tc : Thread Cert.ReferenceMixerTIdeal.nD Cert.ReferenceMixerTIdeal.τ).loc Cert.ReferenceMixerTIdeal.main_arg3)) (m ((c.tc : Thread Cert.ReferenceMixerTIdeal.nD Cert.ReferenceMixerTIdeal.τ).loc Cert.ReferenceMixerTIdeal.main_arg4)) (m ((c.tc : Thread Cert.ReferenceMixerTIdeal.nD Cert.ReferenceMixerTIdeal.τ).loc Cert.ReferenceMixerTIdeal.main_arg5)) (m ((c.tc : Thread Cert.ReferenceMixerTIdeal.nD Cert.ReferenceMixerTIdeal.τ).loc Cert.ReferenceMixerTIdeal.main_arg6)) (m ((c.tc : Thread Cert.ReferenceMixerTIdeal.nD Cert.ReferenceMixerTIdeal.τ).loc Cert.ReferenceMixerTIdeal.main_arg7)) (m ((c.tc : Thread Cert.ReferenceMixerTIdeal.nD Cert.ReferenceMixerTIdeal.τ).loc Cert.ReferenceMixerTIdeal.main_arg8))).2.2.2.1 = (fun _ => 1#1)
    ∧ (Cert.Pre_finite_mixer.fn (F := Ideal) (m ((c.tc : Thread Cert.ReferenceMixerTIdeal.nD Cert.ReferenceMixerTIdeal.τ).loc Cert.ReferenceMixerTIdeal.main_arg0)) (m ((c.tc : Thread Cert.ReferenceMixerTIdeal.nD Cert.ReferenceMixerTIdeal.τ).loc Cert.ReferenceMixerTIdeal.main_arg1)) (m ((c.tc : Thread Cert.ReferenceMixerTIdeal.nD Cert.ReferenceMixerTIdeal.τ).loc Cert.ReferenceMixerTIdeal.main_arg2)) (m ((c.tc : Thread Cert.ReferenceMixerTIdeal.nD Cert.ReferenceMixerTIdeal.τ).loc Cert.ReferenceMixerTIdeal.main_arg3)) (m ((c.tc : Thread Cert.ReferenceMixerTIdeal.nD Cert.ReferenceMixerTIdeal.τ).loc Cert.ReferenceMixerTIdeal.main_arg4)) (m ((c.tc : Thread Cert.ReferenceMixerTIdeal.nD Cert.ReferenceMixerTIdeal.τ).loc Cert.ReferenceMixerTIdeal.main_arg5)) (m ((c.tc : Thread Cert.ReferenceMixerTIdeal.nD Cert.ReferenceMixerTIdeal.τ).loc Cert.ReferenceMixerTIdeal.main_arg6)) (m ((c.tc : Thread Cert.ReferenceMixerTIdeal.nD Cert.ReferenceMixerTIdeal.τ).loc Cert.ReferenceMixerTIdeal.main_arg7)) (m ((c.tc : Thread Cert.ReferenceMixerTIdeal.nD Cert.ReferenceMixerTIdeal.τ).loc Cert.ReferenceMixerTIdeal.main_arg8))).2.2.2.2.1 = (fun _ => 1#1)
    ∧ (Cert.Pre_finite_mixer.fn (F := Ideal) (m ((c.tc : Thread Cert.ReferenceMixerTIdeal.nD Cert.ReferenceMixerTIdeal.τ).loc Cert.ReferenceMixerTIdeal.main_arg0)) (m ((c.tc : Thread Cert.ReferenceMixerTIdeal.nD Cert.ReferenceMixerTIdeal.τ).loc Cert.ReferenceMixerTIdeal.main_arg1)) (m ((c.tc : Thread Cert.ReferenceMixerTIdeal.nD Cert.ReferenceMixerTIdeal.τ).loc Cert.ReferenceMixerTIdeal.main_arg2)) (m ((c.tc : Thread Cert.ReferenceMixerTIdeal.nD Cert.ReferenceMixerTIdeal.τ).loc Cert.ReferenceMixerTIdeal.main_arg3)) (m ((c.tc : Thread Cert.ReferenceMixerTIdeal.nD Cert.ReferenceMixerTIdeal.τ).loc Cert.ReferenceMixerTIdeal.main_arg4)) (m ((c.tc : Thread Cert.ReferenceMixerTIdeal.nD Cert.ReferenceMixerTIdeal.τ).loc Cert.ReferenceMixerTIdeal.main_arg5)) (m ((c.tc : Thread Cert.ReferenceMixerTIdeal.nD Cert.ReferenceMixerTIdeal.τ).loc Cert.ReferenceMixerTIdeal.main_arg6)) (m ((c.tc : Thread Cert.ReferenceMixerTIdeal.nD Cert.ReferenceMixerTIdeal.τ).loc Cert.ReferenceMixerTIdeal.main_arg7)) (m ((c.tc : Thread Cert.ReferenceMixerTIdeal.nD Cert.ReferenceMixerTIdeal.τ).loc Cert.ReferenceMixerTIdeal.main_arg8))).2.2.2.2.2.1 = (fun _ => 1#1)
    ∧ (Cert.Pre_finite_mixer.fn (F := Ideal) (m ((c.tc : Thread Cert.ReferenceMixerTIdeal.nD Cert.ReferenceMixerTIdeal.τ).loc Cert.ReferenceMixerTIdeal.main_arg0)) (m ((c.tc : Thread Cert.ReferenceMixerTIdeal.nD Cert.ReferenceMixerTIdeal.τ).loc Cert.ReferenceMixerTIdeal.main_arg1)) (m ((c.tc : Thread Cert.ReferenceMixerTIdeal.nD Cert.ReferenceMixerTIdeal.τ).loc Cert.ReferenceMixerTIdeal.main_arg2)) (m ((c.tc : Thread Cert.ReferenceMixerTIdeal.nD Cert.ReferenceMixerTIdeal.τ).loc Cert.ReferenceMixerTIdeal.main_arg3)) (m ((c.tc : Thread Cert.ReferenceMixerTIdeal.nD Cert.ReferenceMixerTIdeal.τ).loc Cert.ReferenceMixerTIdeal.main_arg4)) (m ((c.tc : Thread Cert.ReferenceMixerTIdeal.nD Cert.ReferenceMixerTIdeal.τ).loc Cert.ReferenceMixerTIdeal.main_arg5)) (m ((c.tc : Thread Cert.ReferenceMixerTIdeal.nD Cert.ReferenceMixerTIdeal.τ).loc Cert.ReferenceMixerTIdeal.main_arg6)) (m ((c.tc : Thread Cert.ReferenceMixerTIdeal.nD Cert.ReferenceMixerTIdeal.τ).loc Cert.ReferenceMixerTIdeal.main_arg7)) (m ((c.tc : Thread Cert.ReferenceMixerTIdeal.nD Cert.ReferenceMixerTIdeal.τ).loc Cert.ReferenceMixerTIdeal.main_arg8))).2.2.2.2.2.2.1 = (fun _ => 1#1)
    ∧ (Cert.Pre_finite_mixer.fn (F := Ideal) (m ((c.tc : Thread Cert.ReferenceMixerTIdeal.nD Cert.ReferenceMixerTIdeal.τ).loc Cert.ReferenceMixerTIdeal.main_arg0)) (m ((c.tc : Thread Cert.ReferenceMixerTIdeal.nD Cert.ReferenceMixerTIdeal.τ).loc Cert.ReferenceMixerTIdeal.main_arg1)) (m ((c.tc : Thread Cert.ReferenceMixerTIdeal.nD Cert.ReferenceMixerTIdeal.τ).loc Cert.ReferenceMixerTIdeal.main_arg2)) (m ((c.tc : Thread Cert.ReferenceMixerTIdeal.nD Cert.ReferenceMixerTIdeal.τ).loc Cert.ReferenceMixerTIdeal.main_arg3)) (m ((c.tc : Thread Cert.ReferenceMixerTIdeal.nD Cert.ReferenceMixerTIdeal.τ).loc Cert.ReferenceMixerTIdeal.main_arg4)) (m ((c.tc : Thread Cert.ReferenceMixerTIdeal.nD Cert.ReferenceMixerTIdeal.τ).loc Cert.ReferenceMixerTIdeal.main_arg5)) (m ((c.tc : Thread Cert.ReferenceMixerTIdeal.nD Cert.ReferenceMixerTIdeal.τ).loc Cert.ReferenceMixerTIdeal.main_arg6)) (m ((c.tc : Thread Cert.ReferenceMixerTIdeal.nD Cert.ReferenceMixerTIdeal.τ).loc Cert.ReferenceMixerTIdeal.main_arg7)) (m ((c.tc : Thread Cert.ReferenceMixerTIdeal.nD Cert.ReferenceMixerTIdeal.τ).loc Cert.ReferenceMixerTIdeal.main_arg8))).2.2.2.2.2.2.2.1 = (fun _ => 1#1)
    ∧ (Cert.Pre_finite_mixer.fn (F := Ideal) (m ((c.tc : Thread Cert.ReferenceMixerTIdeal.nD Cert.ReferenceMixerTIdeal.τ).loc Cert.ReferenceMixerTIdeal.main_arg0)) (m ((c.tc : Thread Cert.ReferenceMixerTIdeal.nD Cert.ReferenceMixerTIdeal.τ).loc Cert.ReferenceMixerTIdeal.main_arg1)) (m ((c.tc : Thread Cert.ReferenceMixerTIdeal.nD Cert.ReferenceMixerTIdeal.τ).loc Cert.ReferenceMixerTIdeal.main_arg2)) (m ((c.tc : Thread Cert.ReferenceMixerTIdeal.nD Cert.ReferenceMixerTIdeal.τ).loc Cert.ReferenceMixerTIdeal.main_arg3)) (m ((c.tc : Thread Cert.ReferenceMixerTIdeal.nD Cert.ReferenceMixerTIdeal.τ).loc Cert.ReferenceMixerTIdeal.main_arg4)) (m ((c.tc : Thread Cert.ReferenceMixerTIdeal.nD Cert.ReferenceMixerTIdeal.τ).loc Cert.ReferenceMixerTIdeal.main_arg5)) (m ((c.tc : Thread Cert.ReferenceMixerTIdeal.nD Cert.ReferenceMixerTIdeal.τ).loc Cert.ReferenceMixerTIdeal.main_arg6)) (m ((c.tc : Thread Cert.ReferenceMixerTIdeal.nD Cert.ReferenceMixerTIdeal.τ).loc Cert.ReferenceMixerTIdeal.main_arg7)) (m ((c.tc : Thread Cert.ReferenceMixerTIdeal.nD Cert.ReferenceMixerTIdeal.τ).loc Cert.ReferenceMixerTIdeal.main_arg8))).2.2.2.2.2.2.2.2 = (fun _ => 1#1)

def Pre_KernelFirst (m : (ℓ : Loc Cert.KernelFirst.nD Cert.KernelFirst.τ Cert.KernelFirst.sig) → Buf (Elt Bits) ℓ) : Prop :=
  True

def Pre_KernelFirstIdeal (m : (ℓ : Loc Cert.KernelFirstIdeal.nD Cert.KernelFirstIdeal.τ Cert.KernelFirstIdeal.sig) → Buf (Elt Ideal) ℓ) : Prop :=
  True

def Pre_KernelFirstIdeal_finite_first [hPre_finite_first : Cert.Pre_finite_first.Facts] (m : (ℓ : Loc Cert.KernelFirstIdeal.nD Cert.KernelFirstIdeal.τ Cert.KernelFirstIdeal.sig) → Buf (Elt Ideal) ℓ) : Prop :=
  ∀ c : Dev Cert.KernelFirstIdeal.nD,
    (Cert.Pre_finite_first.fn (F := Ideal) (m ((c.tc : Thread Cert.KernelFirstIdeal.nD Cert.KernelFirstIdeal.τ).loc Cert.KernelFirstIdeal.main_arg0)) (m ((c.tc : Thread Cert.KernelFirstIdeal.nD Cert.KernelFirstIdeal.τ).loc Cert.KernelFirstIdeal.main_arg1)) (m ((c.tc : Thread Cert.KernelFirstIdeal.nD Cert.KernelFirstIdeal.τ).loc Cert.KernelFirstIdeal.main_arg2)) (m ((c.tc : Thread Cert.KernelFirstIdeal.nD Cert.KernelFirstIdeal.τ).loc Cert.KernelFirstIdeal.main_arg3)) (m ((c.tc : Thread Cert.KernelFirstIdeal.nD Cert.KernelFirstIdeal.τ).loc Cert.KernelFirstIdeal.main_arg4)) (m ((c.tc : Thread Cert.KernelFirstIdeal.nD Cert.KernelFirstIdeal.τ).loc Cert.KernelFirstIdeal.main_arg5)) (m ((c.tc : Thread Cert.KernelFirstIdeal.nD Cert.KernelFirstIdeal.τ).loc Cert.KernelFirstIdeal.main_arg6))).1 = (fun _ => 1#1)
    ∧ (Cert.Pre_finite_first.fn (F := Ideal) (m ((c.tc : Thread Cert.KernelFirstIdeal.nD Cert.KernelFirstIdeal.τ).loc Cert.KernelFirstIdeal.main_arg0)) (m ((c.tc : Thread Cert.KernelFirstIdeal.nD Cert.KernelFirstIdeal.τ).loc Cert.KernelFirstIdeal.main_arg1)) (m ((c.tc : Thread Cert.KernelFirstIdeal.nD Cert.KernelFirstIdeal.τ).loc Cert.KernelFirstIdeal.main_arg2)) (m ((c.tc : Thread Cert.KernelFirstIdeal.nD Cert.KernelFirstIdeal.τ).loc Cert.KernelFirstIdeal.main_arg3)) (m ((c.tc : Thread Cert.KernelFirstIdeal.nD Cert.KernelFirstIdeal.τ).loc Cert.KernelFirstIdeal.main_arg4)) (m ((c.tc : Thread Cert.KernelFirstIdeal.nD Cert.KernelFirstIdeal.τ).loc Cert.KernelFirstIdeal.main_arg5)) (m ((c.tc : Thread Cert.KernelFirstIdeal.nD Cert.KernelFirstIdeal.τ).loc Cert.KernelFirstIdeal.main_arg6))).2.1 = (fun _ => 1#1)
    ∧ (Cert.Pre_finite_first.fn (F := Ideal) (m ((c.tc : Thread Cert.KernelFirstIdeal.nD Cert.KernelFirstIdeal.τ).loc Cert.KernelFirstIdeal.main_arg0)) (m ((c.tc : Thread Cert.KernelFirstIdeal.nD Cert.KernelFirstIdeal.τ).loc Cert.KernelFirstIdeal.main_arg1)) (m ((c.tc : Thread Cert.KernelFirstIdeal.nD Cert.KernelFirstIdeal.τ).loc Cert.KernelFirstIdeal.main_arg2)) (m ((c.tc : Thread Cert.KernelFirstIdeal.nD Cert.KernelFirstIdeal.τ).loc Cert.KernelFirstIdeal.main_arg3)) (m ((c.tc : Thread Cert.KernelFirstIdeal.nD Cert.KernelFirstIdeal.τ).loc Cert.KernelFirstIdeal.main_arg4)) (m ((c.tc : Thread Cert.KernelFirstIdeal.nD Cert.KernelFirstIdeal.τ).loc Cert.KernelFirstIdeal.main_arg5)) (m ((c.tc : Thread Cert.KernelFirstIdeal.nD Cert.KernelFirstIdeal.τ).loc Cert.KernelFirstIdeal.main_arg6))).2.2.1 = (fun _ => 1#1)
    ∧ (Cert.Pre_finite_first.fn (F := Ideal) (m ((c.tc : Thread Cert.KernelFirstIdeal.nD Cert.KernelFirstIdeal.τ).loc Cert.KernelFirstIdeal.main_arg0)) (m ((c.tc : Thread Cert.KernelFirstIdeal.nD Cert.KernelFirstIdeal.τ).loc Cert.KernelFirstIdeal.main_arg1)) (m ((c.tc : Thread Cert.KernelFirstIdeal.nD Cert.KernelFirstIdeal.τ).loc Cert.KernelFirstIdeal.main_arg2)) (m ((c.tc : Thread Cert.KernelFirstIdeal.nD Cert.KernelFirstIdeal.τ).loc Cert.KernelFirstIdeal.main_arg3)) (m ((c.tc : Thread Cert.KernelFirstIdeal.nD Cert.KernelFirstIdeal.τ).loc Cert.KernelFirstIdeal.main_arg4)) (m ((c.tc : Thread Cert.KernelFirstIdeal.nD Cert.KernelFirstIdeal.τ).loc Cert.KernelFirstIdeal.main_arg5)) (m ((c.tc : Thread Cert.KernelFirstIdeal.nD Cert.KernelFirstIdeal.τ).loc Cert.KernelFirstIdeal.main_arg6))).2.2.2.1 = (fun _ => 1#1)
    ∧ (Cert.Pre_finite_first.fn (F := Ideal) (m ((c.tc : Thread Cert.KernelFirstIdeal.nD Cert.KernelFirstIdeal.τ).loc Cert.KernelFirstIdeal.main_arg0)) (m ((c.tc : Thread Cert.KernelFirstIdeal.nD Cert.KernelFirstIdeal.τ).loc Cert.KernelFirstIdeal.main_arg1)) (m ((c.tc : Thread Cert.KernelFirstIdeal.nD Cert.KernelFirstIdeal.τ).loc Cert.KernelFirstIdeal.main_arg2)) (m ((c.tc : Thread Cert.KernelFirstIdeal.nD Cert.KernelFirstIdeal.τ).loc Cert.KernelFirstIdeal.main_arg3)) (m ((c.tc : Thread Cert.KernelFirstIdeal.nD Cert.KernelFirstIdeal.τ).loc Cert.KernelFirstIdeal.main_arg4)) (m ((c.tc : Thread Cert.KernelFirstIdeal.nD Cert.KernelFirstIdeal.τ).loc Cert.KernelFirstIdeal.main_arg5)) (m ((c.tc : Thread Cert.KernelFirstIdeal.nD Cert.KernelFirstIdeal.τ).loc Cert.KernelFirstIdeal.main_arg6))).2.2.2.2.1 = (fun _ => 1#1)
    ∧ (Cert.Pre_finite_first.fn (F := Ideal) (m ((c.tc : Thread Cert.KernelFirstIdeal.nD Cert.KernelFirstIdeal.τ).loc Cert.KernelFirstIdeal.main_arg0)) (m ((c.tc : Thread Cert.KernelFirstIdeal.nD Cert.KernelFirstIdeal.τ).loc Cert.KernelFirstIdeal.main_arg1)) (m ((c.tc : Thread Cert.KernelFirstIdeal.nD Cert.KernelFirstIdeal.τ).loc Cert.KernelFirstIdeal.main_arg2)) (m ((c.tc : Thread Cert.KernelFirstIdeal.nD Cert.KernelFirstIdeal.τ).loc Cert.KernelFirstIdeal.main_arg3)) (m ((c.tc : Thread Cert.KernelFirstIdeal.nD Cert.KernelFirstIdeal.τ).loc Cert.KernelFirstIdeal.main_arg4)) (m ((c.tc : Thread Cert.KernelFirstIdeal.nD Cert.KernelFirstIdeal.τ).loc Cert.KernelFirstIdeal.main_arg5)) (m ((c.tc : Thread Cert.KernelFirstIdeal.nD Cert.KernelFirstIdeal.τ).loc Cert.KernelFirstIdeal.main_arg6))).2.2.2.2.2.1 = (fun _ => 1#1)
    ∧ (Cert.Pre_finite_first.fn (F := Ideal) (m ((c.tc : Thread Cert.KernelFirstIdeal.nD Cert.KernelFirstIdeal.τ).loc Cert.KernelFirstIdeal.main_arg0)) (m ((c.tc : Thread Cert.KernelFirstIdeal.nD Cert.KernelFirstIdeal.τ).loc Cert.KernelFirstIdeal.main_arg1)) (m ((c.tc : Thread Cert.KernelFirstIdeal.nD Cert.KernelFirstIdeal.τ).loc Cert.KernelFirstIdeal.main_arg2)) (m ((c.tc : Thread Cert.KernelFirstIdeal.nD Cert.KernelFirstIdeal.τ).loc Cert.KernelFirstIdeal.main_arg3)) (m ((c.tc : Thread Cert.KernelFirstIdeal.nD Cert.KernelFirstIdeal.τ).loc Cert.KernelFirstIdeal.main_arg4)) (m ((c.tc : Thread Cert.KernelFirstIdeal.nD Cert.KernelFirstIdeal.τ).loc Cert.KernelFirstIdeal.main_arg5)) (m ((c.tc : Thread Cert.KernelFirstIdeal.nD Cert.KernelFirstIdeal.τ).loc Cert.KernelFirstIdeal.main_arg6))).2.2.2.2.2.2 = (fun _ => 1#1)

def Pre_ReferenceFirstIdeal (m : (ℓ : Loc Cert.ReferenceFirstIdeal.nD Cert.ReferenceFirstIdeal.τ Cert.ReferenceFirstIdeal.sig) → Buf (Elt Ideal) ℓ) : Prop :=
  True

def Pre_ReferenceFirstIdeal_finite_first [hPre_finite_first : Cert.Pre_finite_first.Facts] (m : (ℓ : Loc Cert.ReferenceFirstIdeal.nD Cert.ReferenceFirstIdeal.τ Cert.ReferenceFirstIdeal.sig) → Buf (Elt Ideal) ℓ) : Prop :=
  ∀ c : Dev Cert.ReferenceFirstIdeal.nD,
    (Cert.Pre_finite_first.fn (F := Ideal) (m ((c.tc : Thread Cert.ReferenceFirstIdeal.nD Cert.ReferenceFirstIdeal.τ).loc Cert.ReferenceFirstIdeal.main_arg0)) (m ((c.tc : Thread Cert.ReferenceFirstIdeal.nD Cert.ReferenceFirstIdeal.τ).loc Cert.ReferenceFirstIdeal.main_arg1)) (m ((c.tc : Thread Cert.ReferenceFirstIdeal.nD Cert.ReferenceFirstIdeal.τ).loc Cert.ReferenceFirstIdeal.main_arg2)) (m ((c.tc : Thread Cert.ReferenceFirstIdeal.nD Cert.ReferenceFirstIdeal.τ).loc Cert.ReferenceFirstIdeal.main_arg3)) (m ((c.tc : Thread Cert.ReferenceFirstIdeal.nD Cert.ReferenceFirstIdeal.τ).loc Cert.ReferenceFirstIdeal.main_arg4)) (m ((c.tc : Thread Cert.ReferenceFirstIdeal.nD Cert.ReferenceFirstIdeal.τ).loc Cert.ReferenceFirstIdeal.main_arg5)) (m ((c.tc : Thread Cert.ReferenceFirstIdeal.nD Cert.ReferenceFirstIdeal.τ).loc Cert.ReferenceFirstIdeal.main_arg6))).1 = (fun _ => 1#1)
    ∧ (Cert.Pre_finite_first.fn (F := Ideal) (m ((c.tc : Thread Cert.ReferenceFirstIdeal.nD Cert.ReferenceFirstIdeal.τ).loc Cert.ReferenceFirstIdeal.main_arg0)) (m ((c.tc : Thread Cert.ReferenceFirstIdeal.nD Cert.ReferenceFirstIdeal.τ).loc Cert.ReferenceFirstIdeal.main_arg1)) (m ((c.tc : Thread Cert.ReferenceFirstIdeal.nD Cert.ReferenceFirstIdeal.τ).loc Cert.ReferenceFirstIdeal.main_arg2)) (m ((c.tc : Thread Cert.ReferenceFirstIdeal.nD Cert.ReferenceFirstIdeal.τ).loc Cert.ReferenceFirstIdeal.main_arg3)) (m ((c.tc : Thread Cert.ReferenceFirstIdeal.nD Cert.ReferenceFirstIdeal.τ).loc Cert.ReferenceFirstIdeal.main_arg4)) (m ((c.tc : Thread Cert.ReferenceFirstIdeal.nD Cert.ReferenceFirstIdeal.τ).loc Cert.ReferenceFirstIdeal.main_arg5)) (m ((c.tc : Thread Cert.ReferenceFirstIdeal.nD Cert.ReferenceFirstIdeal.τ).loc Cert.ReferenceFirstIdeal.main_arg6))).2.1 = (fun _ => 1#1)
    ∧ (Cert.Pre_finite_first.fn (F := Ideal) (m ((c.tc : Thread Cert.ReferenceFirstIdeal.nD Cert.ReferenceFirstIdeal.τ).loc Cert.ReferenceFirstIdeal.main_arg0)) (m ((c.tc : Thread Cert.ReferenceFirstIdeal.nD Cert.ReferenceFirstIdeal.τ).loc Cert.ReferenceFirstIdeal.main_arg1)) (m ((c.tc : Thread Cert.ReferenceFirstIdeal.nD Cert.ReferenceFirstIdeal.τ).loc Cert.ReferenceFirstIdeal.main_arg2)) (m ((c.tc : Thread Cert.ReferenceFirstIdeal.nD Cert.ReferenceFirstIdeal.τ).loc Cert.ReferenceFirstIdeal.main_arg3)) (m ((c.tc : Thread Cert.ReferenceFirstIdeal.nD Cert.ReferenceFirstIdeal.τ).loc Cert.ReferenceFirstIdeal.main_arg4)) (m ((c.tc : Thread Cert.ReferenceFirstIdeal.nD Cert.ReferenceFirstIdeal.τ).loc Cert.ReferenceFirstIdeal.main_arg5)) (m ((c.tc : Thread Cert.ReferenceFirstIdeal.nD Cert.ReferenceFirstIdeal.τ).loc Cert.ReferenceFirstIdeal.main_arg6))).2.2.1 = (fun _ => 1#1)
    ∧ (Cert.Pre_finite_first.fn (F := Ideal) (m ((c.tc : Thread Cert.ReferenceFirstIdeal.nD Cert.ReferenceFirstIdeal.τ).loc Cert.ReferenceFirstIdeal.main_arg0)) (m ((c.tc : Thread Cert.ReferenceFirstIdeal.nD Cert.ReferenceFirstIdeal.τ).loc Cert.ReferenceFirstIdeal.main_arg1)) (m ((c.tc : Thread Cert.ReferenceFirstIdeal.nD Cert.ReferenceFirstIdeal.τ).loc Cert.ReferenceFirstIdeal.main_arg2)) (m ((c.tc : Thread Cert.ReferenceFirstIdeal.nD Cert.ReferenceFirstIdeal.τ).loc Cert.ReferenceFirstIdeal.main_arg3)) (m ((c.tc : Thread Cert.ReferenceFirstIdeal.nD Cert.ReferenceFirstIdeal.τ).loc Cert.ReferenceFirstIdeal.main_arg4)) (m ((c.tc : Thread Cert.ReferenceFirstIdeal.nD Cert.ReferenceFirstIdeal.τ).loc Cert.ReferenceFirstIdeal.main_arg5)) (m ((c.tc : Thread Cert.ReferenceFirstIdeal.nD Cert.ReferenceFirstIdeal.τ).loc Cert.ReferenceFirstIdeal.main_arg6))).2.2.2.1 = (fun _ => 1#1)
    ∧ (Cert.Pre_finite_first.fn (F := Ideal) (m ((c.tc : Thread Cert.ReferenceFirstIdeal.nD Cert.ReferenceFirstIdeal.τ).loc Cert.ReferenceFirstIdeal.main_arg0)) (m ((c.tc : Thread Cert.ReferenceFirstIdeal.nD Cert.ReferenceFirstIdeal.τ).loc Cert.ReferenceFirstIdeal.main_arg1)) (m ((c.tc : Thread Cert.ReferenceFirstIdeal.nD Cert.ReferenceFirstIdeal.τ).loc Cert.ReferenceFirstIdeal.main_arg2)) (m ((c.tc : Thread Cert.ReferenceFirstIdeal.nD Cert.ReferenceFirstIdeal.τ).loc Cert.ReferenceFirstIdeal.main_arg3)) (m ((c.tc : Thread Cert.ReferenceFirstIdeal.nD Cert.ReferenceFirstIdeal.τ).loc Cert.ReferenceFirstIdeal.main_arg4)) (m ((c.tc : Thread Cert.ReferenceFirstIdeal.nD Cert.ReferenceFirstIdeal.τ).loc Cert.ReferenceFirstIdeal.main_arg5)) (m ((c.tc : Thread Cert.ReferenceFirstIdeal.nD Cert.ReferenceFirstIdeal.τ).loc Cert.ReferenceFirstIdeal.main_arg6))).2.2.2.2.1 = (fun _ => 1#1)
    ∧ (Cert.Pre_finite_first.fn (F := Ideal) (m ((c.tc : Thread Cert.ReferenceFirstIdeal.nD Cert.ReferenceFirstIdeal.τ).loc Cert.ReferenceFirstIdeal.main_arg0)) (m ((c.tc : Thread Cert.ReferenceFirstIdeal.nD Cert.ReferenceFirstIdeal.τ).loc Cert.ReferenceFirstIdeal.main_arg1)) (m ((c.tc : Thread Cert.ReferenceFirstIdeal.nD Cert.ReferenceFirstIdeal.τ).loc Cert.ReferenceFirstIdeal.main_arg2)) (m ((c.tc : Thread Cert.ReferenceFirstIdeal.nD Cert.ReferenceFirstIdeal.τ).loc Cert.ReferenceFirstIdeal.main_arg3)) (m ((c.tc : Thread Cert.ReferenceFirstIdeal.nD Cert.ReferenceFirstIdeal.τ).loc Cert.ReferenceFirstIdeal.main_arg4)) (m ((c.tc : Thread Cert.ReferenceFirstIdeal.nD Cert.ReferenceFirstIdeal.τ).loc Cert.ReferenceFirstIdeal.main_arg5)) (m ((c.tc : Thread Cert.ReferenceFirstIdeal.nD Cert.ReferenceFirstIdeal.τ).loc Cert.ReferenceFirstIdeal.main_arg6))).2.2.2.2.2.1 = (fun _ => 1#1)
    ∧ (Cert.Pre_finite_first.fn (F := Ideal) (m ((c.tc : Thread Cert.ReferenceFirstIdeal.nD Cert.ReferenceFirstIdeal.τ).loc Cert.ReferenceFirstIdeal.main_arg0)) (m ((c.tc : Thread Cert.ReferenceFirstIdeal.nD Cert.ReferenceFirstIdeal.τ).loc Cert.ReferenceFirstIdeal.main_arg1)) (m ((c.tc : Thread Cert.ReferenceFirstIdeal.nD Cert.ReferenceFirstIdeal.τ).loc Cert.ReferenceFirstIdeal.main_arg2)) (m ((c.tc : Thread Cert.ReferenceFirstIdeal.nD Cert.ReferenceFirstIdeal.τ).loc Cert.ReferenceFirstIdeal.main_arg3)) (m ((c.tc : Thread Cert.ReferenceFirstIdeal.nD Cert.ReferenceFirstIdeal.τ).loc Cert.ReferenceFirstIdeal.main_arg4)) (m ((c.tc : Thread Cert.ReferenceFirstIdeal.nD Cert.ReferenceFirstIdeal.τ).loc Cert.ReferenceFirstIdeal.main_arg5)) (m ((c.tc : Thread Cert.ReferenceFirstIdeal.nD Cert.ReferenceFirstIdeal.τ).loc Cert.ReferenceFirstIdeal.main_arg6))).2.2.2.2.2.2 = (fun _ => 1#1)

def Pre_KernelSmall (m : (ℓ : Loc Cert.KernelSmall.nD Cert.KernelSmall.τ Cert.KernelSmall.sig) → Buf (Elt Bits) ℓ) : Prop :=
  True

def Pre_KernelSmallIdeal (m : (ℓ : Loc Cert.KernelSmallIdeal.nD Cert.KernelSmallIdeal.τ Cert.KernelSmallIdeal.sig) → Buf (Elt Ideal) ℓ) : Prop :=
  True

def Pre_ReferenceSmallIdeal (m : (ℓ : Loc Cert.ReferenceSmallIdeal.nD Cert.ReferenceSmallIdeal.τ Cert.ReferenceSmallIdeal.sig) → Buf (Elt Ideal) ℓ) : Prop :=
  True

def Pre_KernelMod (m : (ℓ : Loc Cert.KernelMod.nD Cert.KernelMod.τ Cert.KernelMod.sig) → Buf (Elt Bits) ℓ) : Prop :=
  True

def Pre_KernelModIdeal (m : (ℓ : Loc Cert.KernelModIdeal.nD Cert.KernelModIdeal.τ Cert.KernelModIdeal.sig) → Buf (Elt Ideal) ℓ) : Prop :=
  True

def Pre_ReferenceModIdeal (m : (ℓ : Loc Cert.ReferenceModIdeal.nD Cert.ReferenceModIdeal.τ Cert.ReferenceModIdeal.sig) → Buf (Elt Ideal) ℓ) : Prop :=
  True

def Pre_KernelConv (m : (ℓ : Loc Cert.KernelConv.nD Cert.KernelConv.τ Cert.KernelConv.sig) → Buf (Elt Bits) ℓ) : Prop :=
  True

def Pre_KernelConvIdeal (m : (ℓ : Loc Cert.KernelConvIdeal.nD Cert.KernelConvIdeal.τ Cert.KernelConvIdeal.sig) → Buf (Elt Ideal) ℓ) : Prop :=
  True

def Pre_ReferenceConvIdeal (m : (ℓ : Loc Cert.ReferenceConvIdeal.nD Cert.ReferenceConvIdeal.τ Cert.ReferenceConvIdeal.sig) → Buf (Elt Ideal) ℓ) : Prop :=
  True

def Pre_KernelMixOut (m : (ℓ : Loc Cert.KernelMixOut.nD Cert.KernelMixOut.τ Cert.KernelMixOut.sig) → Buf (Elt Bits) ℓ) : Prop :=
  True

def Pre_KernelMixOutIdeal (m : (ℓ : Loc Cert.KernelMixOutIdeal.nD Cert.KernelMixOutIdeal.τ Cert.KernelMixOutIdeal.sig) → Buf (Elt Ideal) ℓ) : Prop :=
  True

def Pre_ReferenceMixOutIdeal (m : (ℓ : Loc Cert.ReferenceMixOutIdeal.nD Cert.ReferenceMixOutIdeal.τ Cert.ReferenceMixOutIdeal.sig) → Buf (Elt Ideal) ℓ) : Prop :=
  True

def Pre_KernelMixOutT (m : (ℓ : Loc Cert.KernelMixOutT.nD Cert.KernelMixOutT.τ Cert.KernelMixOutT.sig) → Buf (Elt Bits) ℓ) : Prop :=
  True

def Pre_KernelMixOutTIdeal (m : (ℓ : Loc Cert.KernelMixOutTIdeal.nD Cert.KernelMixOutTIdeal.τ Cert.KernelMixOutTIdeal.sig) → Buf (Elt Ideal) ℓ) : Prop :=
  True

def Pre_ReferenceMixOutTIdeal (m : (ℓ : Loc Cert.ReferenceMixOutTIdeal.nD Cert.ReferenceMixOutTIdeal.τ Cert.ReferenceMixOutTIdeal.sig) → Buf (Elt Ideal) ℓ) : Prop :=
  True

def Pre_KernelHgZ (m : (ℓ : Loc Cert.KernelHgZ.nD Cert.KernelHgZ.τ Cert.KernelHgZ.sig) → Buf (Elt Bits) ℓ) : Prop :=
  True

def Pre_KernelHgZIdeal (m : (ℓ : Loc Cert.KernelHgZIdeal.nD Cert.KernelHgZIdeal.τ Cert.KernelHgZIdeal.sig) → Buf (Elt Ideal) ℓ) : Prop :=
  True

def Pre_ReferenceHgZIdeal (m : (ℓ : Loc Cert.ReferenceHgZIdeal.nD Cert.ReferenceHgZIdeal.τ Cert.ReferenceHgZIdeal.sig) → Buf (Elt Ideal) ℓ) : Prop :=
  True

def Pre_KernelRgZ (m : (ℓ : Loc Cert.KernelRgZ.nD Cert.KernelRgZ.τ Cert.KernelRgZ.sig) → Buf (Elt Bits) ℓ) : Prop :=
  True

def Pre_KernelRgZIdeal (m : (ℓ : Loc Cert.KernelRgZIdeal.nD Cert.KernelRgZIdeal.τ Cert.KernelRgZIdeal.sig) → Buf (Elt Ideal) ℓ) : Prop :=
  True

def Pre_ReferenceRgZIdeal (m : (ℓ : Loc Cert.ReferenceRgZIdeal.nD Cert.ReferenceRgZIdeal.τ Cert.ReferenceRgZIdeal.sig) → Buf (Elt Ideal) ℓ) : Prop :=
  True

def Pre_KernelGate (m : (ℓ : Loc Cert.KernelGate.nD Cert.KernelGate.τ Cert.KernelGate.sig) → Buf (Elt Bits) ℓ) : Prop :=
  True

def Pre_KernelGateIdeal (m : (ℓ : Loc Cert.KernelGateIdeal.nD Cert.KernelGateIdeal.τ Cert.KernelGateIdeal.sig) → Buf (Elt Ideal) ℓ) : Prop :=
  True

def Pre_ReferenceGateIdeal (m : (ℓ : Loc Cert.ReferenceGateIdeal.nD Cert.ReferenceGateIdeal.τ Cert.ReferenceGateIdeal.sig) → Buf (Elt Ideal) ℓ) : Prop :=
  True

def Pre_KernelRgWIn (m : (ℓ : Loc Cert.KernelRgWIn.nD Cert.KernelRgWIn.τ Cert.KernelRgWIn.sig) → Buf (Elt Bits) ℓ) : Prop :=
  True

def Pre_KernelRgWInIdeal (m : (ℓ : Loc Cert.KernelRgWInIdeal.nD Cert.KernelRgWInIdeal.τ Cert.KernelRgWInIdeal.sig) → Buf (Elt Ideal) ℓ) : Prop :=
  True

def Pre_ReferenceRgWInIdeal (m : (ℓ : Loc Cert.ReferenceRgWInIdeal.nD Cert.ReferenceRgWInIdeal.τ Cert.ReferenceRgWInIdeal.sig) → Buf (Elt Ideal) ℓ) : Prop :=
  True

def Pre_KernelWOut (m : (ℓ : Loc Cert.KernelWOut.nD Cert.KernelWOut.τ Cert.KernelWOut.sig) → Buf (Elt Bits) ℓ) : Prop :=
  True

def Pre_KernelWOutIdeal (m : (ℓ : Loc Cert.KernelWOutIdeal.nD Cert.KernelWOutIdeal.τ Cert.KernelWOutIdeal.sig) → Buf (Elt Ideal) ℓ) : Prop :=
  True

def Pre_ReferenceWOutIdeal (m : (ℓ : Loc Cert.ReferenceWOutIdeal.nD Cert.ReferenceWOutIdeal.τ Cert.ReferenceWOutIdeal.sig) → Buf (Elt Ideal) ℓ) : Prop :=
  True

def Pre_KernelHgWIn (m : (ℓ : Loc Cert.KernelHgWIn.nD Cert.KernelHgWIn.τ Cert.KernelHgWIn.sig) → Buf (Elt Bits) ℓ) : Prop :=
  True

def Pre_KernelHgWInIdeal (m : (ℓ : Loc Cert.KernelHgWInIdeal.nD Cert.KernelHgWInIdeal.τ Cert.KernelHgWInIdeal.sig) → Buf (Elt Ideal) ℓ) : Prop :=
  True

def Pre_ReferenceHgWInIdeal (m : (ℓ : Loc Cert.ReferenceHgWInIdeal.nD Cert.ReferenceHgWInIdeal.τ Cert.ReferenceHgWInIdeal.sig) → Buf (Elt Ideal) ℓ) : Prop :=
  True

def Pre_KernelW1 (m : (ℓ : Loc Cert.KernelW1.nD Cert.KernelW1.τ Cert.KernelW1.sig) → Buf (Elt Bits) ℓ) : Prop :=
  True

def Pre_KernelW1Ideal (m : (ℓ : Loc Cert.KernelW1Ideal.nD Cert.KernelW1Ideal.τ Cert.KernelW1Ideal.sig) → Buf (Elt Ideal) ℓ) : Prop :=
  True

def Pre_ReferenceW1Ideal (m : (ℓ : Loc Cert.ReferenceW1Ideal.nD Cert.ReferenceW1Ideal.τ Cert.ReferenceW1Ideal.sig) → Buf (Elt Ideal) ℓ) : Prop :=
  True

def Pre_KernelW2 (m : (ℓ : Loc Cert.KernelW2.nD Cert.KernelW2.τ Cert.KernelW2.sig) → Buf (Elt Bits) ℓ) : Prop :=
  True

def Pre_KernelW2Ideal (m : (ℓ : Loc Cert.KernelW2Ideal.nD Cert.KernelW2Ideal.τ Cert.KernelW2Ideal.sig) → Buf (Elt Ideal) ℓ) : Prop :=
  True

def Pre_ReferenceW2Ideal (m : (ℓ : Loc Cert.ReferenceW2Ideal.nD Cert.ReferenceW2Ideal.τ Cert.ReferenceW2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2)
      ∧ r.2.mem ((c.tc : Thread Cert.KernelIn.nD Cert.KernelIn.τ).loc Cert.KernelIn.main_arg3) = m ((c.tc : Thread Cert.KernelIn.nD Cert.KernelIn.τ).loc Cert.KernelIn.main_arg3)
      ∧ r.2.mem ((c.tc : Thread Cert.KernelIn.nD Cert.KernelIn.τ).loc Cert.KernelIn.main_arg4) = m ((c.tc : Thread Cert.KernelIn.nD Cert.KernelIn.τ).loc Cert.KernelIn.main_arg4)
      ∧ r.2.mem ((c.tc : Thread Cert.KernelIn.nD Cert.KernelIn.τ).loc Cert.KernelIn.main_arg5) = m ((c.tc : Thread Cert.KernelIn.nD Cert.KernelIn.τ).loc Cert.KernelIn.main_arg5))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
      ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
      ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4)
      ∧ r.2.mem ((c.tc : Thread Cert.KernelInIdeal.nD Cert.KernelInIdeal.τ).loc Cert.KernelInIdeal.main_arg5) = m ((c.tc : Thread Cert.KernelInIdeal.nD Cert.KernelInIdeal.τ).loc Cert.KernelInIdeal.main_arg5))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2)
      ∧ r.2.mem ((c.tc : Thread Cert.ReferenceInIdeal.nD Cert.ReferenceInIdeal.τ).loc Cert.ReferenceInIdeal.main_arg3) = m ((c.tc : Thread Cert.ReferenceInIdeal.nD Cert.ReferenceInIdeal.τ).loc Cert.ReferenceInIdeal.main_arg3)
      ∧ r.2.mem ((c.tc : Thread Cert.ReferenceInIdeal.nD Cert.ReferenceInIdeal.τ).loc Cert.ReferenceInIdeal.main_arg4) = m ((c.tc : Thread Cert.ReferenceInIdeal.nD Cert.ReferenceInIdeal.τ).loc Cert.ReferenceInIdeal.main_arg4)
      ∧ r.2.mem ((c.tc : Thread Cert.ReferenceInIdeal.nD Cert.ReferenceInIdeal.τ).loc Cert.ReferenceInIdeal.main_arg5) = m ((c.tc : Thread Cert.ReferenceInIdeal.nD Cert.ReferenceInIdeal.τ).loc Cert.ReferenceInIdeal.main_arg5))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3))
      ∧ r.2.sem = fun _ => 0)

def quiescent_KernelFwd [hKernelFwd : Cert.KernelFwd.Facts] : Prop :=
  ∀ (m : (ℓ : Loc Cert.KernelFwd.nD Cert.KernelFwd.τ Cert.KernelFwd.sig) → Buf (Elt Bits) ℓ) (g : Dev Cert.KernelFwd.nD → PrngReg), Pre_KernelFwd m →
    θ_run (Cert.KernelFwd.defs (F := Bits)) (onTc (τ := Cert.KernelFwd.τ) (Cert.KernelFwd.main (F := Bits))) ⟨m, fun _ => 0, g⟩ (fun r => (∀ c : Dev Cert.KernelFwd.nD,
      r.2.mem ((c.tc : Thread Cert.KernelFwd.nD Cert.KernelFwd.τ).loc Cert.KernelFwd.main_arg0) = m ((c.tc : Thread Cert.KernelFwd.nD Cert.KernelFwd.τ).loc Cert.KernelFwd.main_arg0)
      ∧ r.2.mem ((c.tc : Thread Cert.KernelFwd.nD Cert.KernelFwd.τ).loc Cert.KernelFwd.main_arg1) = m ((c.tc : Thread Cert.KernelFwd.nD Cert.KernelFwd.τ).loc Cert.KernelFwd.main_arg1)
      ∧ r.2.mem ((c.tc : Thread Cert.KernelFwd.nD Cert.KernelFwd.τ).loc Cert.KernelFwd.main_arg2) = m ((c.tc : Thread Cert.KernelFwd.nD Cert.KernelFwd.τ).loc Cert.KernelFwd.main_arg2)
      ∧ r.2.mem ((c.tc : Thread Cert.KernelFwd.nD Cert.KernelFwd.τ).loc Cert.KernelFwd.main_arg3) = m ((c.tc : Thread Cert.KernelFwd.nD Cert.KernelFwd.τ).loc Cert.KernelFwd.main_arg3)
      ∧ r.2.mem ((c.tc : Thread Cert.KernelFwd.nD Cert.KernelFwd.τ).loc Cert.KernelFwd.main_arg4) = m ((c.tc : Thread Cert.KernelFwd.nD Cert.KernelFwd.τ).loc Cert.KernelFwd.main_arg4)
      ∧ r.2.mem ((c.tc : Thread Cert.KernelFwd.nD Cert.KernelFwd.τ).loc Cert.KernelFwd.main_arg5) = m ((c.tc : Thread Cert.KernelFwd.nD Cert.KernelFwd.τ).loc Cert.KernelFwd.main_arg5)
      ∧ r.2.mem ((c.tc : Thread Cert.KernelFwd.nD Cert.KernelFwd.τ).loc Cert.KernelFwd.main_arg6) = m ((c.tc : Thread Cert.KernelFwd.nD Cert.KernelFwd.τ).loc Cert.KernelFwd.main_arg6)
      ∧ r.2.mem ((c.tc : Thread Cert.KernelFwd.nD Cert.KernelFwd.τ).loc Cert.KernelFwd.main_arg7) = m ((c.tc : Thread Cert.KernelFwd.nD Cert.KernelFwd.τ).loc Cert.KernelFwd.main_arg7)
      ∧ r.2.mem ((c.tc : Thread Cert.KernelFwd.nD Cert.KernelFwd.τ).loc Cert.KernelFwd.main_arg8) = m ((c.tc : Thread Cert.KernelFwd.nD Cert.KernelFwd.τ).loc Cert.KernelFwd.main_arg8)
      ∧ r.2.mem ((c.tc : Thread Cert.KernelFwd.nD Cert.KernelFwd.τ).loc Cert.KernelFwd.main_arg9) = m ((c.tc : Thread Cert.KernelFwd.nD Cert.KernelFwd.τ).loc Cert.KernelFwd.main_arg9))
      ∧ r.2.sem = fun _ => 0)

def quiescent_KernelFwdIdeal [hKernelFwdIdeal : Cert.KernelFwdIdeal.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg), Pre_KernelFwdIdeal m →
    θ_run (Cert.KernelFwdIdeal.defs (F := Ideal)) (onTc (τ := Cert.KernelFwdIdeal.τ) (Cert.KernelFwdIdeal.main (F := Ideal))) ⟨m, fun _ => 0, g⟩ (fun r => (∀ c : Dev Cert.KernelFwdIdeal.nD,
      r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
      ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1)
      ∧ r.2.mem ((c.tc : Thread Cert.KernelFwdIdeal.nD Cert.KernelFwdIdeal.τ).loc Cert.KernelFwdIdeal.main_arg2) = m ((c.tc : Thread Cert.KernelFwdIdeal.nD Cert.KernelFwdIdeal.τ).loc Cert.KernelFwdIdeal.main_arg2)
      ∧ r.2.mem ((c.tc : Thread Cert.KernelFwdIdeal.nD Cert.KernelFwdIdeal.τ).loc Cert.KernelFwdIdeal.main_arg3) = m ((c.tc : Thread Cert.KernelFwdIdeal.nD Cert.KernelFwdIdeal.τ).loc Cert.KernelFwdIdeal.main_arg3)
      ∧ r.2.mem ((c.tc : Thread Cert.KernelFwdIdeal.nD Cert.KernelFwdIdeal.τ).loc Cert.KernelFwdIdeal.main_arg4) = m ((c.tc : Thread Cert.KernelFwdIdeal.nD Cert.KernelFwdIdeal.τ).loc Cert.KernelFwdIdeal.main_arg4)
      ∧ r.2.mem ((c.tc : Thread Cert.KernelFwdIdeal.nD Cert.KernelFwdIdeal.τ).loc Cert.KernelFwdIdeal.main_arg5) = m ((c.tc : Thread Cert.KernelFwdIdeal.nD Cert.KernelFwdIdeal.τ).loc Cert.KernelFwdIdeal.main_arg5)
      ∧ r.2.mem ((c.tc : Thread Cert.KernelFwdIdeal.nD Cert.KernelFwdIdeal.τ).loc Cert.KernelFwdIdeal.main_arg6) = m ((c.tc : Thread Cert.KernelFwdIdeal.nD Cert.KernelFwdIdeal.τ).loc Cert.KernelFwdIdeal.main_arg6)
      ∧ r.2.mem ((c.tc : Thread Cert.KernelFwdIdeal.nD Cert.KernelFwdIdeal.τ).loc Cert.KernelFwdIdeal.main_arg7) = m ((c.tc : Thread Cert.KernelFwdIdeal.nD Cert.KernelFwdIdeal.τ).loc Cert.KernelFwdIdeal.main_arg7)
      ∧ r.2.mem ((c.tc : Thread Cert.KernelFwdIdeal.nD Cert.KernelFwdIdeal.τ).loc Cert.KernelFwdIdeal.main_arg8) = m ((c.tc : Thread Cert.KernelFwdIdeal.nD Cert.KernelFwdIdeal.τ).loc Cert.KernelFwdIdeal.main_arg8)
      ∧ r.2.mem ((c.tc : Thread Cert.KernelFwdIdeal.nD Cert.KernelFwdIdeal.τ).loc Cert.KernelFwdIdeal.main_arg9) = m ((c.tc : Thread Cert.KernelFwdIdeal.nD Cert.KernelFwdIdeal.τ).loc Cert.KernelFwdIdeal.main_arg9))
      ∧ r.2.sem = fun _ => 0)

def quiescent_ReferenceFwdIdeal [hReferenceFwdIdeal : Cert.ReferenceFwdIdeal.Facts] : Prop :=
  ∀ (m : (ℓ : Loc Cert.ReferenceFwdIdeal.nD Cert.ReferenceFwdIdeal.τ Cert.ReferenceFwdIdeal.sig) → Buf (Elt Ideal) ℓ) (g : Dev Cert.ReferenceFwdIdeal.nD → PrngReg), Pre_ReferenceFwdIdeal m →
    θ_run (Cert.ReferenceFwdIdeal.defs (F := Ideal)) (onTc (τ := Cert.ReferenceFwdIdeal.τ) (Cert.ReferenceFwdIdeal.main (F := Ideal))) ⟨m, fun _ => 0, g⟩ (fun r => (∀ c : Dev Cert.ReferenceFwdIdeal.nD,
      r.2.mem ((c.tc : Thread Cert.ReferenceFwdIdeal.nD Cert.ReferenceFwdIdeal.τ).loc Cert.ReferenceFwdIdeal.main_arg0) = m ((c.tc : Thread Cert.ReferenceFwdIdeal.nD Cert.ReferenceFwdIdeal.τ).loc Cert.ReferenceFwdIdeal.main_arg0)
      ∧ r.2.mem ((c.tc : Thread Cert.ReferenceFwdIdeal.nD Cert.ReferenceFwdIdeal.τ).loc Cert.ReferenceFwdIdeal.main_arg1) = m ((c.tc : Thread Cert.ReferenceFwdIdeal.nD Cert.ReferenceFwdIdeal.τ).loc Cert.ReferenceFwdIdeal.main_arg1)
      ∧ r.2.mem ((c.tc : Thread Cert.ReferenceFwdIdeal.nD Cert.ReferenceFwdIdeal.τ).loc Cert.ReferenceFwdIdeal.main_arg2) = m ((c.tc : Thread Cert.ReferenceFwdIdeal.nD Cert.ReferenceFwdIdeal.τ).loc Cert.ReferenceFwdIdeal.main_arg2)
      ∧ r.2.mem ((c.tc : Thread Cert.ReferenceFwdIdeal.nD Cert.ReferenceFwdIdeal.τ).loc Cert.ReferenceFwdIdeal.main_arg3) = m ((c.tc : Thread Cert.ReferenceFwdIdeal.nD Cert.ReferenceFwdIdeal.τ).loc Cert.ReferenceFwdIdeal.main_arg3)
      ∧ r.2.mem ((c.tc : Thread Cert.ReferenceFwdIdeal.nD Cert.ReferenceFwdIdeal.τ).loc Cert.ReferenceFwdIdeal.main_arg4) = m ((c.tc : Thread Cert.ReferenceFwdIdeal.nD Cert.ReferenceFwdIdeal.τ).loc Cert.ReferenceFwdIdeal.main_arg4)
      ∧ r.2.mem ((c.tc : Thread Cert.ReferenceFwdIdeal.nD Cert.ReferenceFwdIdeal.τ).loc Cert.ReferenceFwdIdeal.main_arg5) = m ((c.tc : Thread Cert.ReferenceFwdIdeal.nD Cert.ReferenceFwdIdeal.τ).loc Cert.ReferenceFwdIdeal.main_arg5)
      ∧ r.2.mem ((c.tc : Thread Cert.ReferenceFwdIdeal.nD Cert.ReferenceFwdIdeal.τ).loc Cert.ReferenceFwdIdeal.main_arg6) = m ((c.tc : Thread Cert.ReferenceFwdIdeal.nD Cert.ReferenceFwdIdeal.τ).loc Cert.ReferenceFwdIdeal.main_arg6)
      ∧ r.2.mem ((c.tc : Thread Cert.ReferenceFwdIdeal.nD Cert.ReferenceFwdIdeal.τ).loc Cert.ReferenceFwdIdeal.main_arg7) = m ((c.tc : Thread Cert.ReferenceFwdIdeal.nD Cert.ReferenceFwdIdeal.τ).loc Cert.ReferenceFwdIdeal.main_arg7)
      ∧ r.2.mem ((c.tc : Thread Cert.ReferenceFwdIdeal.nD Cert.ReferenceFwdIdeal.τ).loc Cert.ReferenceFwdIdeal.main_arg8) = m ((c.tc : Thread Cert.ReferenceFwdIdeal.nD Cert.ReferenceFwdIdeal.τ).loc Cert.ReferenceFwdIdeal.main_arg8)
      ∧ r.2.mem ((c.tc : Thread Cert.ReferenceFwdIdeal.nD Cert.ReferenceFwdIdeal.τ).loc Cert.ReferenceFwdIdeal.main_arg9) = m ((c.tc : Thread Cert.ReferenceFwdIdeal.nD Cert.ReferenceFwdIdeal.τ).loc Cert.ReferenceFwdIdeal.main_arg9))
      ∧ r.2.sem = fun _ => 0)

def quiescent_KernelRgIn [hKernelRgIn : Cert.KernelRgIn.Facts] : Prop :=
  ∀ (m : (ℓ : Loc Cert.KernelRgIn.nD Cert.KernelRgIn.τ Cert.KernelRgIn.sig) → Buf (Elt Bits) ℓ) (g : Dev Cert.KernelRgIn.nD → PrngReg), Pre_KernelRgIn m →
    θ_run (Cert.KernelRgIn.defs (F := Bits)) (onTc (τ := Cert.KernelRgIn.τ) (Cert.KernelRgIn.main (F := Bits))) ⟨m, fun _ => 0, g⟩ (fun r => (∀ c : Dev Cert.KernelRgIn.nD,
      r.2.mem ((c.tc : Thread Cert.KernelRgIn.nD Cert.KernelRgIn.τ).loc Cert.KernelRgIn.main_arg0) = m ((c.tc : Thread Cert.KernelRgIn.nD Cert.KernelRgIn.τ).loc Cert.KernelRgIn.main_arg0)
      ∧ r.2.mem ((c.tc : Thread Cert.KernelRgIn.nD Cert.KernelRgIn.τ).loc Cert.KernelRgIn.main_arg1) = m ((c.tc : Thread Cert.KernelRgIn.nD Cert.KernelRgIn.τ).loc Cert.KernelRgIn.main_arg1)
      ∧ r.2.mem ((c.tc : Thread Cert.KernelRgIn.nD Cert.KernelRgIn.τ).loc Cert.KernelRgIn.main_arg2) = m ((c.tc : Thread Cert.KernelRgIn.nD Cert.KernelRgIn.τ).loc Cert.KernelRgIn.main_arg2)
      ∧ r.2.mem ((c.tc : Thread Cert.KernelRgIn.nD Cert.KernelRgIn.τ).loc Cert.KernelRgIn.main_arg3) = m ((c.tc : Thread Cert.KernelRgIn.nD Cert.KernelRgIn.τ).loc Cert.KernelRgIn.main_arg3)
      ∧ r.2.mem ((c.tc : Thread Cert.KernelRgIn.nD Cert.KernelRgIn.τ).loc Cert.KernelRgIn.main_arg4) = m ((c.tc : Thread Cert.KernelRgIn.nD Cert.KernelRgIn.τ).loc Cert.KernelRgIn.main_arg4)
      ∧ r.2.mem ((c.tc : Thread Cert.KernelRgIn.nD Cert.KernelRgIn.τ).loc Cert.KernelRgIn.main_arg5) = m ((c.tc : Thread Cert.KernelRgIn.nD Cert.KernelRgIn.τ).loc Cert.KernelRgIn.main_arg5))
      ∧ r.2.sem = fun _ => 0)

def quiescent_KernelRgInIdeal [hKernelRgInIdeal : Cert.KernelRgInIdeal.Facts] : Prop :=
  ∀ (m : (ℓ : Loc Cert.KernelRgInIdeal.nD Cert.KernelRgInIdeal.τ Cert.KernelRgInIdeal.sig) → Buf (Elt Ideal) ℓ) (g : Dev Cert.KernelRgInIdeal.nD → PrngReg), Pre_KernelRgInIdeal m →
    θ_run (Cert.KernelRgInIdeal.defs (F := Ideal)) (onTc (τ := Cert.KernelRgInIdeal.τ) (Cert.KernelRgInIdeal.main (F := Ideal))) ⟨m, fun _ => 0, g⟩ (fun r => (∀ c : Dev Cert.KernelRgInIdeal.nD,
      r.2.mem ((c.tc : Thread Cert.KernelRgInIdeal.nD Cert.KernelRgInIdeal.τ).loc Cert.KernelRgInIdeal.main_arg0) = m ((c.tc : Thread Cert.KernelRgInIdeal.nD Cert.KernelRgInIdeal.τ).loc Cert.KernelRgInIdeal.main_arg0)
      ∧ r.2.mem ((c.tc : Thread Cert.KernelRgInIdeal.nD Cert.KernelRgInIdeal.τ).loc Cert.KernelRgInIdeal.main_arg1) = m ((c.tc : Thread Cert.KernelRgInIdeal.nD Cert.KernelRgInIdeal.τ).loc Cert.KernelRgInIdeal.main_arg1)
      ∧ r.2.mem ((c.tc : Thread Cert.KernelRgInIdeal.nD Cert.KernelRgInIdeal.τ).loc Cert.KernelRgInIdeal.main_arg2) = m ((c.tc : Thread Cert.KernelRgInIdeal.nD Cert.KernelRgInIdeal.τ).loc Cert.KernelRgInIdeal.main_arg2)
      ∧ r.2.mem ((c.tc : Thread Cert.KernelRgInIdeal.nD Cert.KernelRgInIdeal.τ).loc Cert.KernelRgInIdeal.main_arg3) = m ((c.tc : Thread Cert.KernelRgInIdeal.nD Cert.KernelRgInIdeal.τ).loc Cert.KernelRgInIdeal.main_arg3)
      ∧ r.2.mem ((c.tc : Thread Cert.KernelRgInIdeal.nD Cert.KernelRgInIdeal.τ).loc Cert.KernelRgInIdeal.main_arg4) = m ((c.tc : Thread Cert.KernelRgInIdeal.nD Cert.KernelRgInIdeal.τ).loc Cert.KernelRgInIdeal.main_arg4)
      ∧ r.2.mem ((c.tc : Thread Cert.KernelRgInIdeal.nD Cert.KernelRgInIdeal.τ).loc Cert.KernelRgInIdeal.main_arg5) = m ((c.tc : Thread Cert.KernelRgInIdeal.nD Cert.KernelRgInIdeal.τ).loc Cert.KernelRgInIdeal.main_arg5))
      ∧ r.2.sem = fun _ => 0)

def quiescent_ReferenceRgInIdeal [hReferenceRgInIdeal : Cert.ReferenceRgInIdeal.Facts] : Prop :=
  ∀ (m : (ℓ : Loc Cert.ReferenceRgInIdeal.nD Cert.ReferenceRgInIdeal.τ Cert.ReferenceRgInIdeal.sig) → Buf (Elt Ideal) ℓ) (g : Dev Cert.ReferenceRgInIdeal.nD → PrngReg), Pre_ReferenceRgInIdeal m →
    θ_run (Cert.ReferenceRgInIdeal.defs (F := Ideal)) (onTc (τ := Cert.ReferenceRgInIdeal.τ) (Cert.ReferenceRgInIdeal.main (F := Ideal))) ⟨m, fun _ => 0, g⟩ (fun r => (∀ c : Dev Cert.ReferenceRgInIdeal.nD,
      r.2.mem ((c.tc : Thread Cert.ReferenceRgInIdeal.nD Cert.ReferenceRgInIdeal.τ).loc Cert.ReferenceRgInIdeal.main_arg0) = m ((c.tc : Thread Cert.ReferenceRgInIdeal.nD Cert.ReferenceRgInIdeal.τ).loc Cert.ReferenceRgInIdeal.main_arg0)
      ∧ r.2.mem ((c.tc : Thread Cert.ReferenceRgInIdeal.nD Cert.ReferenceRgInIdeal.τ).loc Cert.ReferenceRgInIdeal.main_arg1) = m ((c.tc : Thread Cert.ReferenceRgInIdeal.nD Cert.ReferenceRgInIdeal.τ).loc Cert.ReferenceRgInIdeal.main_arg1)
      ∧ r.2.mem ((c.tc : Thread Cert.ReferenceRgInIdeal.nD Cert.ReferenceRgInIdeal.τ).loc Cert.ReferenceRgInIdeal.main_arg2) = m ((c.tc : Thread Cert.ReferenceRgInIdeal.nD Cert.ReferenceRgInIdeal.τ).loc Cert.ReferenceRgInIdeal.main_arg2)
      ∧ r.2.mem ((c.tc : Thread Cert.ReferenceRgInIdeal.nD Cert.ReferenceRgInIdeal.τ).loc Cert.ReferenceRgInIdeal.main_arg3) = m ((c.tc : Thread Cert.ReferenceRgInIdeal.nD Cert.ReferenceRgInIdeal.τ).loc Cert.ReferenceRgInIdeal.main_arg3)
      ∧ r.2.mem ((c.tc : Thread Cert.ReferenceRgInIdeal.nD Cert.ReferenceRgInIdeal.τ).loc Cert.ReferenceRgInIdeal.main_arg4) = m ((c.tc : Thread Cert.ReferenceRgInIdeal.nD Cert.ReferenceRgInIdeal.τ).loc Cert.ReferenceRgInIdeal.main_arg4)
      ∧ r.2.mem ((c.tc : Thread Cert.ReferenceRgInIdeal.nD Cert.ReferenceRgInIdeal.τ).loc Cert.ReferenceRgInIdeal.main_arg5) = m ((c.tc : Thread Cert.ReferenceRgInIdeal.nD Cert.ReferenceRgInIdeal.τ).loc Cert.ReferenceRgInIdeal.main_arg5))
      ∧ r.2.sem = fun _ => 0)

def quiescent_KernelMix [hKernelMix : Cert.KernelMix.Facts] : Prop :=
  ∀ (m : (ℓ : Loc Cert.KernelMix.nD Cert.KernelMix.τ Cert.KernelMix.sig) → Buf (Elt Bits) ℓ) (g : Dev Cert.KernelMix.nD → PrngReg), Pre_KernelMix m →
    θ_run (Cert.KernelMix.defs (F := Bits)) (onTc (τ := Cert.KernelMix.τ) (Cert.KernelMix.main (F := Bits))) ⟨m, fun _ => 0, g⟩ (fun r => (∀ c : Dev Cert.KernelMix.nD,
      r.2.mem ((c.tc : Thread Cert.KernelMix.nD Cert.KernelMix.τ).loc Cert.KernelMix.main_arg0) = m ((c.tc : Thread Cert.KernelMix.nD Cert.KernelMix.τ).loc Cert.KernelMix.main_arg0)
      ∧ r.2.mem ((c.tc : Thread Cert.KernelMix.nD Cert.KernelMix.τ).loc Cert.KernelMix.main_arg1) = m ((c.tc : Thread Cert.KernelMix.nD Cert.KernelMix.τ).loc Cert.KernelMix.main_arg1)
      ∧ r.2.mem ((c.tc : Thread Cert.KernelMix.nD Cert.KernelMix.τ).loc Cert.KernelMix.main_arg2) = m ((c.tc : Thread Cert.KernelMix.nD Cert.KernelMix.τ).loc Cert.KernelMix.main_arg2))
      ∧ r.2.sem = fun _ => 0)

def quiescent_KernelMixIdeal [hKernelMixIdeal : Cert.KernelMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg), Pre_KernelMixIdeal m →
    θ_run (Cert.KernelMixIdeal.defs (F := Ideal)) (onTc (τ := Cert.KernelMixIdeal.τ) (Cert.KernelMixIdeal.main (F := Ideal))) ⟨m, fun _ => 0, g⟩ (fun r => (∀ c : Dev Cert.KernelMixIdeal.nD,
      r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
      ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
      ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2))
      ∧ r.2.sem = fun _ => 0)

def quiescent_ReferenceMixIdeal [hReferenceMixIdeal : Cert.ReferenceMixIdeal.Facts] : Prop :=
  ∀ (m : (ℓ : Loc Cert.ReferenceMixIdeal.nD Cert.ReferenceMixIdeal.τ Cert.ReferenceMixIdeal.sig) → Buf (Elt Ideal) ℓ) (g : Dev Cert.ReferenceMixIdeal.nD → PrngReg), Pre_ReferenceMixIdeal m →
    θ_run (Cert.ReferenceMixIdeal.defs (F := Ideal)) (onTc (τ := Cert.ReferenceMixIdeal.τ) (Cert.ReferenceMixIdeal.main (F := Ideal))) ⟨m, fun _ => 0, g⟩ (fun r => (∀ c : Dev Cert.ReferenceMixIdeal.nD,
      r.2.mem ((c.tc : Thread Cert.ReferenceMixIdeal.nD Cert.ReferenceMixIdeal.τ).loc Cert.ReferenceMixIdeal.main_arg0) = m ((c.tc : Thread Cert.ReferenceMixIdeal.nD Cert.ReferenceMixIdeal.τ).loc Cert.ReferenceMixIdeal.main_arg0)
      ∧ r.2.mem ((c.tc : Thread Cert.ReferenceMixIdeal.nD Cert.ReferenceMixIdeal.τ).loc Cert.ReferenceMixIdeal.main_arg1) = m ((c.tc : Thread Cert.ReferenceMixIdeal.nD Cert.ReferenceMixIdeal.τ).loc Cert.ReferenceMixIdeal.main_arg1)
      ∧ r.2.mem ((c.tc : Thread Cert.ReferenceMixIdeal.nD Cert.ReferenceMixIdeal.τ).loc Cert.ReferenceMixIdeal.main_arg2) = m ((c.tc : Thread Cert.ReferenceMixIdeal.nD Cert.ReferenceMixIdeal.τ).loc Cert.ReferenceMixIdeal.main_arg2))
      ∧ r.2.sem = fun _ => 0)

def quiescent_KernelMixerT [hKernelMixerT : Cert.KernelMixerT.Facts] : Prop :=
  ∀ (m : (ℓ : Loc Cert.KernelMixerT.nD Cert.KernelMixerT.τ Cert.KernelMixerT.sig) → Buf (Elt Bits) ℓ) (g : Dev Cert.KernelMixerT.nD → PrngReg), Pre_KernelMixerT m →
    θ_run (Cert.KernelMixerT.defs (F := Bits)) (onTc (τ := Cert.KernelMixerT.τ) (Cert.KernelMixerT.main (F := Bits))) ⟨m, fun _ => 0, g⟩ (fun r => (∀ c : Dev Cert.KernelMixerT.nD,
      r.2.mem ((c.tc : Thread Cert.KernelMixerT.nD Cert.KernelMixerT.τ).loc Cert.KernelMixerT.main_arg0) = m ((c.tc : Thread Cert.KernelMixerT.nD Cert.KernelMixerT.τ).loc Cert.KernelMixerT.main_arg0)
      ∧ r.2.mem ((c.tc : Thread Cert.KernelMixerT.nD Cert.KernelMixerT.τ).loc Cert.KernelMixerT.main_arg1) = m ((c.tc : Thread Cert.KernelMixerT.nD Cert.KernelMixerT.τ).loc Cert.KernelMixerT.main_arg1)
      ∧ r.2.mem ((c.tc : Thread Cert.KernelMixerT.nD Cert.KernelMixerT.τ).loc Cert.KernelMixerT.main_arg2) = m ((c.tc : Thread Cert.KernelMixerT.nD Cert.KernelMixerT.τ).loc Cert.KernelMixerT.main_arg2)
      ∧ r.2.mem ((c.tc : Thread Cert.KernelMixerT.nD Cert.KernelMixerT.τ).loc Cert.KernelMixerT.main_arg3) = m ((c.tc : Thread Cert.KernelMixerT.nD Cert.KernelMixerT.τ).loc Cert.KernelMixerT.main_arg3)
      ∧ r.2.mem ((c.tc : Thread Cert.KernelMixerT.nD Cert.KernelMixerT.τ).loc Cert.KernelMixerT.main_arg4) = m ((c.tc : Thread Cert.KernelMixerT.nD Cert.KernelMixerT.τ).loc Cert.KernelMixerT.main_arg4)
      ∧ r.2.mem ((c.tc : Thread Cert.KernelMixerT.nD Cert.KernelMixerT.τ).loc Cert.KernelMixerT.main_arg5) = m ((c.tc : Thread Cert.KernelMixerT.nD Cert.KernelMixerT.τ).loc Cert.KernelMixerT.main_arg5)
      ∧ r.2.mem ((c.tc : Thread Cert.KernelMixerT.nD Cert.KernelMixerT.τ).loc Cert.KernelMixerT.main_arg6) = m ((c.tc : Thread Cert.KernelMixerT.nD Cert.KernelMixerT.τ).loc Cert.KernelMixerT.main_arg6)
      ∧ r.2.mem ((c.tc : Thread Cert.KernelMixerT.nD Cert.KernelMixerT.τ).loc Cert.KernelMixerT.main_arg7) = m ((c.tc : Thread Cert.KernelMixerT.nD Cert.KernelMixerT.τ).loc Cert.KernelMixerT.main_arg7)
      ∧ r.2.mem ((c.tc : Thread Cert.KernelMixerT.nD Cert.KernelMixerT.τ).loc Cert.KernelMixerT.main_arg8) = m ((c.tc : Thread Cert.KernelMixerT.nD Cert.KernelMixerT.τ).loc Cert.KernelMixerT.main_arg8))
      ∧ r.2.sem = fun _ => 0)

def quiescent_KernelMixerTIdeal [hKernelMixerTIdeal : Cert.KernelMixerTIdeal.Facts] : Prop :=
  ∀ (m : (ℓ : Loc Cert.KernelMixerTIdeal.nD Cert.KernelMixerTIdeal.τ Cert.KernelMixerTIdeal.sig) → Buf (Elt Ideal) ℓ) (g : Dev Cert.KernelMixerTIdeal.nD → PrngReg), Pre_KernelMixerTIdeal m →
    θ_run (Cert.KernelMixerTIdeal.defs (F := Ideal)) (onTc (τ := Cert.KernelMixerTIdeal.τ) (Cert.KernelMixerTIdeal.main (F := Ideal))) ⟨m, fun _ => 0, g⟩ (fun r => (∀ c : Dev Cert.KernelMixerTIdeal.nD,
      r.2.mem ((c.tc : Thread Cert.KernelMixerTIdeal.nD Cert.KernelMixerTIdeal.τ).loc Cert.KernelMixerTIdeal.main_arg0) = m ((c.tc : Thread Cert.KernelMixerTIdeal.nD Cert.KernelMixerTIdeal.τ).loc Cert.KernelMixerTIdeal.main_arg0)
      ∧ r.2.mem ((c.tc : Thread Cert.KernelMixerTIdeal.nD Cert.KernelMixerTIdeal.τ).loc Cert.KernelMixerTIdeal.main_arg1) = m ((c.tc : Thread Cert.KernelMixerTIdeal.nD Cert.KernelMixerTIdeal.τ).loc Cert.KernelMixerTIdeal.main_arg1)
      ∧ r.2.mem ((c.tc : Thread Cert.KernelMixerTIdeal.nD Cert.KernelMixerTIdeal.τ).loc Cert.KernelMixerTIdeal.main_arg2) = m ((c.tc : Thread Cert.KernelMixerTIdeal.nD Cert.KernelMixerTIdeal.τ).loc Cert.KernelMixerTIdeal.main_arg2)
      ∧ r.2.mem ((c.tc : Thread Cert.KernelMixerTIdeal.nD Cert.KernelMixerTIdeal.τ).loc Cert.KernelMixerTIdeal.main_arg3) = m ((c.tc : Thread Cert.KernelMixerTIdeal.nD Cert.KernelMixerTIdeal.τ).loc Cert.KernelMixerTIdeal.main_arg3)
      ∧ r.2.mem ((c.tc : Thread Cert.KernelMixerTIdeal.nD Cert.KernelMixerTIdeal.τ).loc Cert.KernelMixerTIdeal.main_arg4) = m ((c.tc : Thread Cert.KernelMixerTIdeal.nD Cert.KernelMixerTIdeal.τ).loc Cert.KernelMixerTIdeal.main_arg4)
      ∧ r.2.mem ((c.tc : Thread Cert.KernelMixerTIdeal.nD Cert.KernelMixerTIdeal.τ).loc Cert.KernelMixerTIdeal.main_arg5) = m ((c.tc : Thread Cert.KernelMixerTIdeal.nD Cert.KernelMixerTIdeal.τ).loc Cert.KernelMixerTIdeal.main_arg5)
      ∧ r.2.mem ((c.tc : Thread Cert.KernelMixerTIdeal.nD Cert.KernelMixerTIdeal.τ).loc Cert.KernelMixerTIdeal.main_arg6) = m ((c.tc : Thread Cert.KernelMixerTIdeal.nD Cert.KernelMixerTIdeal.τ).loc Cert.KernelMixerTIdeal.main_arg6)
      ∧ r.2.mem ((c.tc : Thread Cert.KernelMixerTIdeal.nD Cert.KernelMixerTIdeal.τ).loc Cert.KernelMixerTIdeal.main_arg7) = m ((c.tc : Thread Cert.KernelMixerTIdeal.nD Cert.KernelMixerTIdeal.τ).loc Cert.KernelMixerTIdeal.main_arg7)
      ∧ r.2.mem ((c.tc : Thread Cert.KernelMixerTIdeal.nD Cert.KernelMixerTIdeal.τ).loc Cert.KernelMixerTIdeal.main_arg8) = m ((c.tc : Thread Cert.KernelMixerTIdeal.nD Cert.KernelMixerTIdeal.τ).loc Cert.KernelMixerTIdeal.main_arg8))
      ∧ r.2.sem = fun _ => 0)

def quiescent_KernelMixerTIdeal_pre_finite_mixer [hKernelMixerTIdeal : Cert.KernelMixerTIdeal.Facts] [hPre_finite_mixer : Cert.Pre_finite_mixer.Facts] : Prop :=
  ∀ (m : (ℓ : Loc Cert.KernelMixerTIdeal.nD Cert.KernelMixerTIdeal.τ Cert.KernelMixerTIdeal.sig) → Buf (Elt Ideal) ℓ) (g : Dev Cert.KernelMixerTIdeal.nD → PrngReg), Pre_KernelMixerTIdeal_finite_mixer m →
    θ_run (Cert.KernelMixerTIdeal.defs (F := Ideal)) (onTc (τ := Cert.KernelMixerTIdeal.τ) (Cert.KernelMixerTIdeal.main (F := Ideal))) ⟨m, fun _ => 0, g⟩ (fun r => (∀ c : Dev Cert.KernelMixerTIdeal.nD,
      r.2.mem ((c.tc : Thread Cert.KernelMixerTIdeal.nD Cert.KernelMixerTIdeal.τ).loc Cert.KernelMixerTIdeal.main_arg0) = m ((c.tc : Thread Cert.KernelMixerTIdeal.nD Cert.KernelMixerTIdeal.τ).loc Cert.KernelMixerTIdeal.main_arg0)
      ∧ r.2.mem ((c.tc : Thread Cert.KernelMixerTIdeal.nD Cert.KernelMixerTIdeal.τ).loc Cert.KernelMixerTIdeal.main_arg1) = m ((c.tc : Thread Cert.KernelMixerTIdeal.nD Cert.KernelMixerTIdeal.τ).loc Cert.KernelMixerTIdeal.main_arg1)
      ∧ r.2.mem ((c.tc : Thread Cert.KernelMixerTIdeal.nD Cert.KernelMixerTIdeal.τ).loc Cert.KernelMixerTIdeal.main_arg2) = m ((c.tc : Thread Cert.KernelMixerTIdeal.nD Cert.KernelMixerTIdeal.τ).loc Cert.KernelMixerTIdeal.main_arg2)
      ∧ r.2.mem ((c.tc : Thread Cert.KernelMixerTIdeal.nD Cert.KernelMixerTIdeal.τ).loc Cert.KernelMixerTIdeal.main_arg3) = m ((c.tc : Thread Cert.KernelMixerTIdeal.nD Cert.KernelMixerTIdeal.τ).loc Cert.KernelMixerTIdeal.main_arg3)
      ∧ r.2.mem ((c.tc : Thread Cert.KernelMixerTIdeal.nD Cert.KernelMixerTIdeal.τ).loc Cert.KernelMixerTIdeal.main_arg4) = m ((c.tc : Thread Cert.KernelMixerTIdeal.nD Cert.KernelMixerTIdeal.τ).loc Cert.KernelMixerTIdeal.main_arg4)
      ∧ r.2.mem ((c.tc : Thread Cert.KernelMixerTIdeal.nD Cert.KernelMixerTIdeal.τ).loc Cert.KernelMixerTIdeal.main_arg5) = m ((c.tc : Thread Cert.KernelMixerTIdeal.nD Cert.KernelMixerTIdeal.τ).loc Cert.KernelMixerTIdeal.main_arg5)
      ∧ r.2.mem ((c.tc : Thread Cert.KernelMixerTIdeal.nD Cert.KernelMixerTIdeal.τ).loc Cert.KernelMixerTIdeal.main_arg6) = m ((c.tc : Thread Cert.KernelMixerTIdeal.nD Cert.KernelMixerTIdeal.τ).loc Cert.KernelMixerTIdeal.main_arg6)
      ∧ r.2.mem ((c.tc : Thread Cert.KernelMixerTIdeal.nD Cert.KernelMixerTIdeal.τ).loc Cert.KernelMixerTIdeal.main_arg7) = m ((c.tc : Thread Cert.KernelMixerTIdeal.nD Cert.KernelMixerTIdeal.τ).loc Cert.KernelMixerTIdeal.main_arg7)
      ∧ r.2.mem ((c.tc : Thread Cert.KernelMixerTIdeal.nD Cert.KernelMixerTIdeal.τ).loc Cert.KernelMixerTIdeal.main_arg8) = m ((c.tc : Thread Cert.KernelMixerTIdeal.nD Cert.KernelMixerTIdeal.τ).loc Cert.KernelMixerTIdeal.main_arg8))
      ∧ r.2.sem = fun _ => 0)

def quiescent_ReferenceMixerTIdeal [hReferenceMixerTIdeal : Cert.ReferenceMixerTIdeal.Facts] : Prop :=
  ∀ (m : (ℓ : Loc Cert.ReferenceMixerTIdeal.nD Cert.ReferenceMixerTIdeal.τ Cert.ReferenceMixerTIdeal.sig) → Buf (Elt Ideal) ℓ) (g : Dev Cert.ReferenceMixerTIdeal.nD → PrngReg), Pre_ReferenceMixerTIdeal m →
    θ_run (Cert.ReferenceMixerTIdeal.defs (F := Ideal)) (onTc (τ := Cert.ReferenceMixerTIdeal.τ) (Cert.ReferenceMixerTIdeal.main (F := Ideal))) ⟨m, fun _ => 0, g⟩ (fun r => (∀ c : Dev Cert.ReferenceMixerTIdeal.nD,
      r.2.mem ((c.tc : Thread Cert.ReferenceMixerTIdeal.nD Cert.ReferenceMixerTIdeal.τ).loc Cert.ReferenceMixerTIdeal.main_arg0) = m ((c.tc : Thread Cert.ReferenceMixerTIdeal.nD Cert.ReferenceMixerTIdeal.τ).loc Cert.ReferenceMixerTIdeal.main_arg0)
      ∧ r.2.mem ((c.tc : Thread Cert.ReferenceMixerTIdeal.nD Cert.ReferenceMixerTIdeal.τ).loc Cert.ReferenceMixerTIdeal.main_arg1) = m ((c.tc : Thread Cert.ReferenceMixerTIdeal.nD Cert.ReferenceMixerTIdeal.τ).loc Cert.ReferenceMixerTIdeal.main_arg1)
      ∧ r.2.mem ((c.tc : Thread Cert.ReferenceMixerTIdeal.nD Cert.ReferenceMixerTIdeal.τ).loc Cert.ReferenceMixerTIdeal.main_arg2) = m ((c.tc : Thread Cert.ReferenceMixerTIdeal.nD Cert.ReferenceMixerTIdeal.τ).loc Cert.ReferenceMixerTIdeal.main_arg2)
      ∧ r.2.mem ((c.tc : Thread Cert.ReferenceMixerTIdeal.nD Cert.ReferenceMixerTIdeal.τ).loc Cert.ReferenceMixerTIdeal.main_arg3) = m ((c.tc : Thread Cert.ReferenceMixerTIdeal.nD Cert.ReferenceMixerTIdeal.τ).loc Cert.ReferenceMixerTIdeal.main_arg3)
      ∧ r.2.mem ((c.tc : Thread Cert.ReferenceMixerTIdeal.nD Cert.ReferenceMixerTIdeal.τ).loc Cert.ReferenceMixerTIdeal.main_arg4) = m ((c.tc : Thread Cert.ReferenceMixerTIdeal.nD Cert.ReferenceMixerTIdeal.τ).loc Cert.ReferenceMixerTIdeal.main_arg4)
      ∧ r.2.mem ((c.tc : Thread Cert.ReferenceMixerTIdeal.nD Cert.ReferenceMixerTIdeal.τ).loc Cert.ReferenceMixerTIdeal.main_arg5) = m ((c.tc : Thread Cert.ReferenceMixerTIdeal.nD Cert.ReferenceMixerTIdeal.τ).loc Cert.ReferenceMixerTIdeal.main_arg5)
      ∧ r.2.mem ((c.tc : Thread Cert.ReferenceMixerTIdeal.nD Cert.ReferenceMixerTIdeal.τ).loc Cert.ReferenceMixerTIdeal.main_arg6) = m ((c.tc : Thread Cert.ReferenceMixerTIdeal.nD Cert.ReferenceMixerTIdeal.τ).loc Cert.ReferenceMixerTIdeal.main_arg6)
      ∧ r.2.mem ((c.tc : Thread Cert.ReferenceMixerTIdeal.nD Cert.ReferenceMixerTIdeal.τ).loc Cert.ReferenceMixerTIdeal.main_arg7) = m ((c.tc : Thread Cert.ReferenceMixerTIdeal.nD Cert.ReferenceMixerTIdeal.τ).loc Cert.ReferenceMixerTIdeal.main_arg7)
      ∧ r.2.mem ((c.tc : Thread Cert.ReferenceMixerTIdeal.nD Cert.ReferenceMixerTIdeal.τ).loc Cert.ReferenceMixerTIdeal.main_arg8) = m ((c.tc : Thread Cert.ReferenceMixerTIdeal.nD Cert.ReferenceMixerTIdeal.τ).loc Cert.ReferenceMixerTIdeal.main_arg8))
      ∧ r.2.sem = fun _ => 0)

def quiescent_ReferenceMixerTIdeal_pre_finite_mixer [hReferenceMixerTIdeal : Cert.ReferenceMixerTIdeal.Facts] [hPre_finite_mixer : Cert.Pre_finite_mixer.Facts] : Prop :=
  ∀ (m : (ℓ : Loc Cert.ReferenceMixerTIdeal.nD Cert.ReferenceMixerTIdeal.τ Cert.ReferenceMixerTIdeal.sig) → Buf (Elt Ideal) ℓ) (g : Dev Cert.ReferenceMixerTIdeal.nD → PrngReg), Pre_ReferenceMixerTIdeal_finite_mixer m →
    θ_run (Cert.ReferenceMixerTIdeal.defs (F := Ideal)) (onTc (τ := Cert.ReferenceMixerTIdeal.τ) (Cert.ReferenceMixerTIdeal.main (F := Ideal))) ⟨m, fun _ => 0, g⟩ (fun r => (∀ c : Dev Cert.ReferenceMixerTIdeal.nD,
      r.2.mem ((c.tc : Thread Cert.ReferenceMixerTIdeal.nD Cert.ReferenceMixerTIdeal.τ).loc Cert.ReferenceMixerTIdeal.main_arg0) = m ((c.tc : Thread Cert.ReferenceMixerTIdeal.nD Cert.ReferenceMixerTIdeal.τ).loc Cert.ReferenceMixerTIdeal.main_arg0)
      ∧ r.2.mem ((c.tc : Thread Cert.ReferenceMixerTIdeal.nD Cert.ReferenceMixerTIdeal.τ).loc Cert.ReferenceMixerTIdeal.main_arg1) = m ((c.tc : Thread Cert.ReferenceMixerTIdeal.nD Cert.ReferenceMixerTIdeal.τ).loc Cert.ReferenceMixerTIdeal.main_arg1)
      ∧ r.2.mem ((c.tc : Thread Cert.ReferenceMixerTIdeal.nD Cert.ReferenceMixerTIdeal.τ).loc Cert.ReferenceMixerTIdeal.main_arg2) = m ((c.tc : Thread Cert.ReferenceMixerTIdeal.nD Cert.ReferenceMixerTIdeal.τ).loc Cert.ReferenceMixerTIdeal.main_arg2)
      ∧ r.2.mem ((c.tc : Thread Cert.ReferenceMixerTIdeal.nD Cert.ReferenceMixerTIdeal.τ).loc Cert.ReferenceMixerTIdeal.main_arg3) = m ((c.tc : Thread Cert.ReferenceMixerTIdeal.nD Cert.ReferenceMixerTIdeal.τ).loc Cert.ReferenceMixerTIdeal.main_arg3)
      ∧ r.2.mem ((c.tc : Thread Cert.ReferenceMixerTIdeal.nD Cert.ReferenceMixerTIdeal.τ).loc Cert.ReferenceMixerTIdeal.main_arg4) = m ((c.tc : Thread Cert.ReferenceMixerTIdeal.nD Cert.ReferenceMixerTIdeal.τ).loc Cert.ReferenceMixerTIdeal.main_arg4)
      ∧ r.2.mem ((c.tc : Thread Cert.ReferenceMixerTIdeal.nD Cert.ReferenceMixerTIdeal.τ).loc Cert.ReferenceMixerTIdeal.main_arg5) = m ((c.tc : Thread Cert.ReferenceMixerTIdeal.nD Cert.ReferenceMixerTIdeal.τ).loc Cert.ReferenceMixerTIdeal.main_arg5)
      ∧ r.2.mem ((c.tc : Thread Cert.ReferenceMixerTIdeal.nD Cert.ReferenceMixerTIdeal.τ).loc Cert.ReferenceMixerTIdeal.main_arg6) = m ((c.tc : Thread Cert.ReferenceMixerTIdeal.nD Cert.ReferenceMixerTIdeal.τ).loc Cert.ReferenceMixerTIdeal.main_arg6)
      ∧ r.2.mem ((c.tc : Thread Cert.ReferenceMixerTIdeal.nD Cert.ReferenceMixerTIdeal.τ).loc Cert.ReferenceMixerTIdeal.main_arg7) = m ((c.tc : Thread Cert.ReferenceMixerTIdeal.nD Cert.ReferenceMixerTIdeal.τ).loc Cert.ReferenceMixerTIdeal.main_arg7)
      ∧ r.2.mem ((c.tc : Thread Cert.ReferenceMixerTIdeal.nD Cert.ReferenceMixerTIdeal.τ).loc Cert.ReferenceMixerTIdeal.main_arg8) = m ((c.tc : Thread Cert.ReferenceMixerTIdeal.nD Cert.ReferenceMixerTIdeal.τ).loc Cert.ReferenceMixerTIdeal.main_arg8))
      ∧ r.2.sem = fun _ => 0)

def quiescent_KernelFirst [hKernelFirst : Cert.KernelFirst.Facts] : Prop :=
  ∀ (m : (ℓ : Loc Cert.KernelFirst.nD Cert.KernelFirst.τ Cert.KernelFirst.sig) → Buf (Elt Bits) ℓ) (g : Dev Cert.KernelFirst.nD → PrngReg), Pre_KernelFirst m →
    θ_run (Cert.KernelFirst.defs (F := Bits)) (onTc (τ := Cert.KernelFirst.τ) (Cert.KernelFirst.main (F := Bits))) ⟨m, fun _ => 0, g⟩ (fun r => (∀ c : Dev Cert.KernelFirst.nD,
      r.2.mem ((c.tc : Thread Cert.KernelFirst.nD Cert.KernelFirst.τ).loc Cert.KernelFirst.main_arg0) = m ((c.tc : Thread Cert.KernelFirst.nD Cert.KernelFirst.τ).loc Cert.KernelFirst.main_arg0)
      ∧ r.2.mem ((c.tc : Thread Cert.KernelFirst.nD Cert.KernelFirst.τ).loc Cert.KernelFirst.main_arg1) = m ((c.tc : Thread Cert.KernelFirst.nD Cert.KernelFirst.τ).loc Cert.KernelFirst.main_arg1)
      ∧ r.2.mem ((c.tc : Thread Cert.KernelFirst.nD Cert.KernelFirst.τ).loc Cert.KernelFirst.main_arg2) = m ((c.tc : Thread Cert.KernelFirst.nD Cert.KernelFirst.τ).loc Cert.KernelFirst.main_arg2)
      ∧ r.2.mem ((c.tc : Thread Cert.KernelFirst.nD Cert.KernelFirst.τ).loc Cert.KernelFirst.main_arg3) = m ((c.tc : Thread Cert.KernelFirst.nD Cert.KernelFirst.τ).loc Cert.KernelFirst.main_arg3)
      ∧ r.2.mem ((c.tc : Thread Cert.KernelFirst.nD Cert.KernelFirst.τ).loc Cert.KernelFirst.main_arg4) = m ((c.tc : Thread Cert.KernelFirst.nD Cert.KernelFirst.τ).loc Cert.KernelFirst.main_arg4)
      ∧ r.2.mem ((c.tc : Thread Cert.KernelFirst.nD Cert.KernelFirst.τ).loc Cert.KernelFirst.main_arg5) = m ((c.tc : Thread Cert.KernelFirst.nD Cert.KernelFirst.τ).loc Cert.KernelFirst.main_arg5)
      ∧ r.2.mem ((c.tc : Thread Cert.KernelFirst.nD Cert.KernelFirst.τ).loc Cert.KernelFirst.main_arg6) = m ((c.tc : Thread Cert.KernelFirst.nD Cert.KernelFirst.τ).loc Cert.KernelFirst.main_arg6))
      ∧ r.2.sem = fun _ => 0)

def quiescent_KernelFirstIdeal [hKernelFirstIdeal : Cert.KernelFirstIdeal.Facts] : Prop :=
  ∀ (m : (ℓ : Loc Cert.KernelFirstIdeal.nD Cert.KernelFirstIdeal.τ Cert.KernelFirstIdeal.sig) → Buf (Elt Ideal) ℓ) (g : Dev Cert.KernelFirstIdeal.nD → PrngReg), Pre_KernelFirstIdeal m →
    θ_run (Cert.KernelFirstIdeal.defs (F := Ideal)) (onTc (τ := Cert.KernelFirstIdeal.τ) (Cert.KernelFirstIdeal.main (F := Ideal))) ⟨m, fun _ => 0, g⟩ (fun r => (∀ c : Dev Cert.KernelFirstIdeal.nD,
      r.2.mem ((c.tc : Thread Cert.KernelFirstIdeal.nD Cert.KernelFirstIdeal.τ).loc Cert.KernelFirstIdeal.main_arg0) = m ((c.tc : Thread Cert.KernelFirstIdeal.nD Cert.KernelFirstIdeal.τ).loc Cert.KernelFirstIdeal.main_arg0)
      ∧ r.2.mem ((c.tc : Thread Cert.KernelFirstIdeal.nD Cert.KernelFirstIdeal.τ).loc Cert.KernelFirstIdeal.main_arg1) = m ((c.tc : Thread Cert.KernelFirstIdeal.nD Cert.KernelFirstIdeal.τ).loc Cert.KernelFirstIdeal.main_arg1)
      ∧ r.2.mem ((c.tc : Thread Cert.KernelFirstIdeal.nD Cert.KernelFirstIdeal.τ).loc Cert.KernelFirstIdeal.main_arg2) = m ((c.tc : Thread Cert.KernelFirstIdeal.nD Cert.KernelFirstIdeal.τ).loc Cert.KernelFirstIdeal.main_arg2)
      ∧ r.2.mem ((c.tc : Thread Cert.KernelFirstIdeal.nD Cert.KernelFirstIdeal.τ).loc Cert.KernelFirstIdeal.main_arg3) = m ((c.tc : Thread Cert.KernelFirstIdeal.nD Cert.KernelFirstIdeal.τ).loc Cert.KernelFirstIdeal.main_arg3)
      ∧ r.2.mem ((c.tc : Thread Cert.KernelFirstIdeal.nD Cert.KernelFirstIdeal.τ).loc Cert.KernelFirstIdeal.main_arg4) = m ((c.tc : Thread Cert.KernelFirstIdeal.nD Cert.KernelFirstIdeal.τ).loc Cert.KernelFirstIdeal.main_arg4)
      ∧ r.2.mem ((c.tc : Thread Cert.KernelFirstIdeal.nD Cert.KernelFirstIdeal.τ).loc Cert.KernelFirstIdeal.main_arg5) = m ((c.tc : Thread Cert.KernelFirstIdeal.nD Cert.KernelFirstIdeal.τ).loc Cert.KernelFirstIdeal.main_arg5)
      ∧ r.2.mem ((c.tc : Thread Cert.KernelFirstIdeal.nD Cert.KernelFirstIdeal.τ).loc Cert.KernelFirstIdeal.main_arg6) = m ((c.tc : Thread Cert.KernelFirstIdeal.nD Cert.KernelFirstIdeal.τ).loc Cert.KernelFirstIdeal.main_arg6))
      ∧ r.2.sem = fun _ => 0)

def quiescent_KernelFirstIdeal_pre_finite_first [hKernelFirstIdeal : Cert.KernelFirstIdeal.Facts] [hPre_finite_first : Cert.Pre_finite_first.Facts] : Prop :=
  ∀ (m : (ℓ : Loc Cert.KernelFirstIdeal.nD Cert.KernelFirstIdeal.τ Cert.KernelFirstIdeal.sig) → Buf (Elt Ideal) ℓ) (g : Dev Cert.KernelFirstIdeal.nD → PrngReg), Pre_KernelFirstIdeal_finite_first m →
    θ_run (Cert.KernelFirstIdeal.defs (F := Ideal)) (onTc (τ := Cert.KernelFirstIdeal.τ) (Cert.KernelFirstIdeal.main (F := Ideal))) ⟨m, fun _ => 0, g⟩ (fun r => (∀ c : Dev Cert.KernelFirstIdeal.nD,
      r.2.mem ((c.tc : Thread Cert.KernelFirstIdeal.nD Cert.KernelFirstIdeal.τ).loc Cert.KernelFirstIdeal.main_arg0) = m ((c.tc : Thread Cert.KernelFirstIdeal.nD Cert.KernelFirstIdeal.τ).loc Cert.KernelFirstIdeal.main_arg0)
      ∧ r.2.mem ((c.tc : Thread Cert.KernelFirstIdeal.nD Cert.KernelFirstIdeal.τ).loc Cert.KernelFirstIdeal.main_arg1) = m ((c.tc : Thread Cert.KernelFirstIdeal.nD Cert.KernelFirstIdeal.τ).loc Cert.KernelFirstIdeal.main_arg1)
      ∧ r.2.mem ((c.tc : Thread Cert.KernelFirstIdeal.nD Cert.KernelFirstIdeal.τ).loc Cert.KernelFirstIdeal.main_arg2) = m ((c.tc : Thread Cert.KernelFirstIdeal.nD Cert.KernelFirstIdeal.τ).loc Cert.KernelFirstIdeal.main_arg2)
      ∧ r.2.mem ((c.tc : Thread Cert.KernelFirstIdeal.nD Cert.KernelFirstIdeal.τ).loc Cert.KernelFirstIdeal.main_arg3) = m ((c.tc : Thread Cert.KernelFirstIdeal.nD Cert.KernelFirstIdeal.τ).loc Cert.KernelFirstIdeal.main_arg3)
      ∧ r.2.mem ((c.tc : Thread Cert.KernelFirstIdeal.nD Cert.KernelFirstIdeal.τ).loc Cert.KernelFirstIdeal.main_arg4) = m ((c.tc : Thread Cert.KernelFirstIdeal.nD Cert.KernelFirstIdeal.τ).loc Cert.KernelFirstIdeal.main_arg4)
      ∧ r.2.mem ((c.tc : Thread Cert.KernelFirstIdeal.nD Cert.KernelFirstIdeal.τ).loc Cert.KernelFirstIdeal.main_arg5) = m ((c.tc : Thread Cert.KernelFirstIdeal.nD Cert.KernelFirstIdeal.τ).loc Cert.KernelFirstIdeal.main_arg5)
      ∧ r.2.mem ((c.tc : Thread Cert.KernelFirstIdeal.nD Cert.KernelFirstIdeal.τ).loc Cert.KernelFirstIdeal.main_arg6) = m ((c.tc : Thread Cert.KernelFirstIdeal.nD Cert.KernelFirstIdeal.τ).loc Cert.KernelFirstIdeal.main_arg6))
      ∧ r.2.sem = fun _ => 0)

def quiescent_ReferenceFirstIdeal [hReferenceFirstIdeal : Cert.ReferenceFirstIdeal.Facts] : Prop :=
  ∀ (m : (ℓ : Loc Cert.ReferenceFirstIdeal.nD Cert.ReferenceFirstIdeal.τ Cert.ReferenceFirstIdeal.sig) → Buf (Elt Ideal) ℓ) (g : Dev Cert.ReferenceFirstIdeal.nD → PrngReg), Pre_ReferenceFirstIdeal m →
    θ_run (Cert.ReferenceFirstIdeal.defs (F := Ideal)) (onTc (τ := Cert.ReferenceFirstIdeal.τ) (Cert.ReferenceFirstIdeal.main (F := Ideal))) ⟨m, fun _ => 0, g⟩ (fun r => (∀ c : Dev Cert.ReferenceFirstIdeal.nD,
      r.2.mem ((c.tc : Thread Cert.ReferenceFirstIdeal.nD Cert.ReferenceFirstIdeal.τ).loc Cert.ReferenceFirstIdeal.main_arg0) = m ((c.tc : Thread Cert.ReferenceFirstIdeal.nD Cert.ReferenceFirstIdeal.τ).loc Cert.ReferenceFirstIdeal.main_arg0)
      ∧ r.2.mem ((c.tc : Thread Cert.ReferenceFirstIdeal.nD Cert.ReferenceFirstIdeal.τ).loc Cert.ReferenceFirstIdeal.main_arg1) = m ((c.tc : Thread Cert.ReferenceFirstIdeal.nD Cert.ReferenceFirstIdeal.τ).loc Cert.ReferenceFirstIdeal.main_arg1)
      ∧ r.2.mem ((c.tc : Thread Cert.ReferenceFirstIdeal.nD Cert.ReferenceFirstIdeal.τ).loc Cert.ReferenceFirstIdeal.main_arg2) = m ((c.tc : Thread Cert.ReferenceFirstIdeal.nD Cert.ReferenceFirstIdeal.τ).loc Cert.ReferenceFirstIdeal.main_arg2)
      ∧ r.2.mem ((c.tc : Thread Cert.ReferenceFirstIdeal.nD Cert.ReferenceFirstIdeal.τ).loc Cert.ReferenceFirstIdeal.main_arg3) = m ((c.tc : Thread Cert.ReferenceFirstIdeal.nD Cert.ReferenceFirstIdeal.τ).loc Cert.ReferenceFirstIdeal.main_arg3)
      ∧ r.2.mem ((c.tc : Thread Cert.ReferenceFirstIdeal.nD Cert.ReferenceFirstIdeal.τ).loc Cert.ReferenceFirstIdeal.main_arg4) = m ((c.tc : Thread Cert.ReferenceFirstIdeal.nD Cert.ReferenceFirstIdeal.τ).loc Cert.ReferenceFirstIdeal.main_arg4)
      ∧ r.2.mem ((c.tc : Thread Cert.ReferenceFirstIdeal.nD Cert.ReferenceFirstIdeal.τ).loc Cert.ReferenceFirstIdeal.main_arg5) = m ((c.tc : Thread Cert.ReferenceFirstIdeal.nD Cert.ReferenceFirstIdeal.τ).loc Cert.ReferenceFirstIdeal.main_arg5)
      ∧ r.2.mem ((c.tc : Thread Cert.ReferenceFirstIdeal.nD Cert.ReferenceFirstIdeal.τ).loc Cert.ReferenceFirstIdeal.main_arg6) = m ((c.tc : Thread Cert.ReferenceFirstIdeal.nD Cert.ReferenceFirstIdeal.τ).loc Cert.ReferenceFirstIdeal.main_arg6))
      ∧ r.2.sem = fun _ => 0)

def quiescent_ReferenceFirstIdeal_pre_finite_first [hReferenceFirstIdeal : Cert.ReferenceFirstIdeal.Facts] [hPre_finite_first : Cert.Pre_finite_first.Facts] : Prop :=
  ∀ (m : (ℓ : Loc Cert.ReferenceFirstIdeal.nD Cert.ReferenceFirstIdeal.τ Cert.ReferenceFirstIdeal.sig) → Buf (Elt Ideal) ℓ) (g : Dev Cert.ReferenceFirstIdeal.nD → PrngReg), Pre_ReferenceFirstIdeal_finite_first m →
    θ_run (Cert.ReferenceFirstIdeal.defs (F := Ideal)) (onTc (τ := Cert.ReferenceFirstIdeal.τ) (Cert.ReferenceFirstIdeal.main (F := Ideal))) ⟨m, fun _ => 0, g⟩ (fun r => (∀ c : Dev Cert.ReferenceFirstIdeal.nD,
      r.2.mem ((c.tc : Thread Cert.ReferenceFirstIdeal.nD Cert.ReferenceFirstIdeal.τ).loc Cert.ReferenceFirstIdeal.main_arg0) = m ((c.tc : Thread Cert.ReferenceFirstIdeal.nD Cert.ReferenceFirstIdeal.τ).loc Cert.ReferenceFirstIdeal.main_arg0)
      ∧ r.2.mem ((c.tc : Thread Cert.ReferenceFirstIdeal.nD Cert.ReferenceFirstIdeal.τ).loc Cert.ReferenceFirstIdeal.main_arg1) = m ((c.tc : Thread Cert.ReferenceFirstIdeal.nD Cert.ReferenceFirstIdeal.τ).loc Cert.ReferenceFirstIdeal.main_arg1)
      ∧ r.2.mem ((c.tc : Thread Cert.ReferenceFirstIdeal.nD Cert.ReferenceFirstIdeal.τ).loc Cert.ReferenceFirstIdeal.main_arg2) = m ((c.tc : Thread Cert.ReferenceFirstIdeal.nD Cert.ReferenceFirstIdeal.τ).loc Cert.ReferenceFirstIdeal.main_arg2)
      ∧ r.2.mem ((c.tc : Thread Cert.ReferenceFirstIdeal.nD Cert.ReferenceFirstIdeal.τ).loc Cert.ReferenceFirstIdeal.main_arg3) = m ((c.tc : Thread Cert.ReferenceFirstIdeal.nD Cert.ReferenceFirstIdeal.τ).loc Cert.ReferenceFirstIdeal.main_arg3)
      ∧ r.2.mem ((c.tc : Thread Cert.ReferenceFirstIdeal.nD Cert.ReferenceFirstIdeal.τ).loc Cert.ReferenceFirstIdeal.main_arg4) = m ((c.tc : Thread Cert.ReferenceFirstIdeal.nD Cert.ReferenceFirstIdeal.τ).loc Cert.ReferenceFirstIdeal.main_arg4)
      ∧ r.2.mem ((c.tc : Thread Cert.ReferenceFirstIdeal.nD Cert.ReferenceFirstIdeal.τ).loc Cert.ReferenceFirstIdeal.main_arg5) = m ((c.tc : Thread Cert.ReferenceFirstIdeal.nD Cert.ReferenceFirstIdeal.τ).loc Cert.ReferenceFirstIdeal.main_arg5)
      ∧ r.2.mem ((c.tc : Thread Cert.ReferenceFirstIdeal.nD Cert.ReferenceFirstIdeal.τ).loc Cert.ReferenceFirstIdeal.main_arg6) = m ((c.tc : Thread Cert.ReferenceFirstIdeal.nD Cert.ReferenceFirstIdeal.τ).loc Cert.ReferenceFirstIdeal.main_arg6))
      ∧ r.2.sem = fun _ => 0)

def quiescent_KernelSmall [hKernelSmall : Cert.KernelSmall.Facts] : Prop :=
  ∀ (m : (ℓ : Loc Cert.KernelSmall.nD Cert.KernelSmall.τ Cert.KernelSmall.sig) → Buf (Elt Bits) ℓ) (g : Dev Cert.KernelSmall.nD → PrngReg), Pre_KernelSmall m →
    θ_run (Cert.KernelSmall.defs (F := Bits)) (onTc (τ := Cert.KernelSmall.τ) (Cert.KernelSmall.main (F := Bits))) ⟨m, fun _ => 0, g⟩ (fun r => (∀ c : Dev Cert.KernelSmall.nD,
      r.2.mem ((c.tc : Thread Cert.KernelSmall.nD Cert.KernelSmall.τ).loc Cert.KernelSmall.main_arg0) = m ((c.tc : Thread Cert.KernelSmall.nD Cert.KernelSmall.τ).loc Cert.KernelSmall.main_arg0)
      ∧ r.2.mem ((c.tc : Thread Cert.KernelSmall.nD Cert.KernelSmall.τ).loc Cert.KernelSmall.main_arg1) = m ((c.tc : Thread Cert.KernelSmall.nD Cert.KernelSmall.τ).loc Cert.KernelSmall.main_arg1)
      ∧ r.2.mem ((c.tc : Thread Cert.KernelSmall.nD Cert.KernelSmall.τ).loc Cert.KernelSmall.main_arg2) = m ((c.tc : Thread Cert.KernelSmall.nD Cert.KernelSmall.τ).loc Cert.KernelSmall.main_arg2)
      ∧ r.2.mem ((c.tc : Thread Cert.KernelSmall.nD Cert.KernelSmall.τ).loc Cert.KernelSmall.main_arg3) = m ((c.tc : Thread Cert.KernelSmall.nD Cert.KernelSmall.τ).loc Cert.KernelSmall.main_arg3))
      ∧ r.2.sem = fun _ => 0)

def quiescent_KernelSmallIdeal [hKernelSmallIdeal : Cert.KernelSmallIdeal.Facts] : Prop :=
  ∀ (m : (ℓ : Loc Cert.KernelSmallIdeal.nD Cert.KernelSmallIdeal.τ Cert.KernelSmallIdeal.sig) → Buf (Elt Ideal) ℓ) (g : Dev Cert.KernelSmallIdeal.nD → PrngReg), Pre_KernelSmallIdeal m →
    θ_run (Cert.KernelSmallIdeal.defs (F := Ideal)) (onTc (τ := Cert.KernelSmallIdeal.τ) (Cert.KernelSmallIdeal.main (F := Ideal))) ⟨m, fun _ => 0, g⟩ (fun r => (∀ c : Dev Cert.KernelSmallIdeal.nD,
      r.2.mem ((c.tc : Thread Cert.KernelSmallIdeal.nD Cert.KernelSmallIdeal.τ).loc Cert.KernelSmallIdeal.main_arg0) = m ((c.tc : Thread Cert.KernelSmallIdeal.nD Cert.KernelSmallIdeal.τ).loc Cert.KernelSmallIdeal.main_arg0)
      ∧ r.2.mem ((c.tc : Thread Cert.KernelSmallIdeal.nD Cert.KernelSmallIdeal.τ).loc Cert.KernelSmallIdeal.main_arg1) = m ((c.tc : Thread Cert.KernelSmallIdeal.nD Cert.KernelSmallIdeal.τ).loc Cert.KernelSmallIdeal.main_arg1)
      ∧ r.2.mem ((c.tc : Thread Cert.KernelSmallIdeal.nD Cert.KernelSmallIdeal.τ).loc Cert.KernelSmallIdeal.main_arg2) = m ((c.tc : Thread Cert.KernelSmallIdeal.nD Cert.KernelSmallIdeal.τ).loc Cert.KernelSmallIdeal.main_arg2)
      ∧ r.2.mem ((c.tc : Thread Cert.KernelSmallIdeal.nD Cert.KernelSmallIdeal.τ).loc Cert.KernelSmallIdeal.main_arg3) = m ((c.tc : Thread Cert.KernelSmallIdeal.nD Cert.KernelSmallIdeal.τ).loc Cert.KernelSmallIdeal.main_arg3))
      ∧ r.2.sem = fun _ => 0)

def quiescent_ReferenceSmallIdeal [hReferenceSmallIdeal : Cert.ReferenceSmallIdeal.Facts] : Prop :=
  ∀ (m : (ℓ : Loc Cert.ReferenceSmallIdeal.nD Cert.ReferenceSmallIdeal.τ Cert.ReferenceSmallIdeal.sig) → Buf (Elt Ideal) ℓ) (g : Dev Cert.ReferenceSmallIdeal.nD → PrngReg), Pre_ReferenceSmallIdeal m →
    θ_run (Cert.ReferenceSmallIdeal.defs (F := Ideal)) (onTc (τ := Cert.ReferenceSmallIdeal.τ) (Cert.ReferenceSmallIdeal.main (F := Ideal))) ⟨m, fun _ => 0, g⟩ (fun r => (∀ c : Dev Cert.ReferenceSmallIdeal.nD,
      r.2.mem ((c.tc : Thread Cert.ReferenceSmallIdeal.nD Cert.ReferenceSmallIdeal.τ).loc Cert.ReferenceSmallIdeal.main_arg0) = m ((c.tc : Thread Cert.ReferenceSmallIdeal.nD Cert.ReferenceSmallIdeal.τ).loc Cert.ReferenceSmallIdeal.main_arg0)
      ∧ r.2.mem ((c.tc : Thread Cert.ReferenceSmallIdeal.nD Cert.ReferenceSmallIdeal.τ).loc Cert.ReferenceSmallIdeal.main_arg1) = m ((c.tc : Thread Cert.ReferenceSmallIdeal.nD Cert.ReferenceSmallIdeal.τ).loc Cert.ReferenceSmallIdeal.main_arg1)
      ∧ r.2.mem ((c.tc : Thread Cert.ReferenceSmallIdeal.nD Cert.ReferenceSmallIdeal.τ).loc Cert.ReferenceSmallIdeal.main_arg2) = m ((c.tc : Thread Cert.ReferenceSmallIdeal.nD Cert.ReferenceSmallIdeal.τ).loc Cert.ReferenceSmallIdeal.main_arg2)
      ∧ r.2.mem ((c.tc : Thread Cert.ReferenceSmallIdeal.nD Cert.ReferenceSmallIdeal.τ).loc Cert.ReferenceSmallIdeal.main_arg3) = m ((c.tc : Thread Cert.ReferenceSmallIdeal.nD Cert.ReferenceSmallIdeal.τ).loc Cert.ReferenceSmallIdeal.main_arg3))
      ∧ r.2.sem = fun _ => 0)

def quiescent_KernelMod [hKernelMod : Cert.KernelMod.Facts] : Prop :=
  ∀ (m : (ℓ : Loc Cert.KernelMod.nD Cert.KernelMod.τ Cert.KernelMod.sig) → Buf (Elt Bits) ℓ) (g : Dev Cert.KernelMod.nD → PrngReg), Pre_KernelMod m →
    θ_run (Cert.KernelMod.defs (F := Bits)) (onTc (τ := Cert.KernelMod.τ) (Cert.KernelMod.main (F := Bits))) ⟨m, fun _ => 0, g⟩ (fun r => (∀ c : Dev Cert.KernelMod.nD,
      r.2.mem ((c.tc : Thread Cert.KernelMod.nD Cert.KernelMod.τ).loc Cert.KernelMod.main_arg0) = m ((c.tc : Thread Cert.KernelMod.nD Cert.KernelMod.τ).loc Cert.KernelMod.main_arg0)
      ∧ r.2.mem ((c.tc : Thread Cert.KernelMod.nD Cert.KernelMod.τ).loc Cert.KernelMod.main_arg1) = m ((c.tc : Thread Cert.KernelMod.nD Cert.KernelMod.τ).loc Cert.KernelMod.main_arg1)
      ∧ r.2.mem ((c.tc : Thread Cert.KernelMod.nD Cert.KernelMod.τ).loc Cert.KernelMod.main_arg2) = m ((c.tc : Thread Cert.KernelMod.nD Cert.KernelMod.τ).loc Cert.KernelMod.main_arg2)
      ∧ r.2.mem ((c.tc : Thread Cert.KernelMod.nD Cert.KernelMod.τ).loc Cert.KernelMod.main_arg3) = m ((c.tc : Thread Cert.KernelMod.nD Cert.KernelMod.τ).loc Cert.KernelMod.main_arg3))
      ∧ r.2.sem = fun _ => 0)

def quiescent_KernelModIdeal [hKernelModIdeal : Cert.KernelModIdeal.Facts] : Prop :=
  ∀ (m : (ℓ : Loc Cert.KernelModIdeal.nD Cert.KernelModIdeal.τ Cert.KernelModIdeal.sig) → Buf (Elt Ideal) ℓ) (g : Dev Cert.KernelModIdeal.nD → PrngReg), Pre_KernelModIdeal m →
    θ_run (Cert.KernelModIdeal.defs (F := Ideal)) (onTc (τ := Cert.KernelModIdeal.τ) (Cert.KernelModIdeal.main (F := Ideal))) ⟨m, fun _ => 0, g⟩ (fun r => (∀ c : Dev Cert.KernelModIdeal.nD,
      r.2.mem ((c.tc : Thread Cert.KernelModIdeal.nD Cert.KernelModIdeal.τ).loc Cert.KernelModIdeal.main_arg0) = m ((c.tc : Thread Cert.KernelModIdeal.nD Cert.KernelModIdeal.τ).loc Cert.KernelModIdeal.main_arg0)
      ∧ r.2.mem ((c.tc : Thread Cert.KernelModIdeal.nD Cert.KernelModIdeal.τ).loc Cert.KernelModIdeal.main_arg1) = m ((c.tc : Thread Cert.KernelModIdeal.nD Cert.KernelModIdeal.τ).loc Cert.KernelModIdeal.main_arg1)
      ∧ r.2.mem ((c.tc : Thread Cert.KernelModIdeal.nD Cert.KernelModIdeal.τ).loc Cert.KernelModIdeal.main_arg2) = m ((c.tc : Thread Cert.KernelModIdeal.nD Cert.KernelModIdeal.τ).loc Cert.KernelModIdeal.main_arg2)
      ∧ r.2.mem ((c.tc : Thread Cert.KernelModIdeal.nD Cert.KernelModIdeal.τ).loc Cert.KernelModIdeal.main_arg3) = m ((c.tc : Thread Cert.KernelModIdeal.nD Cert.KernelModIdeal.τ).loc Cert.KernelModIdeal.main_arg3))
      ∧ r.2.sem = fun _ => 0)

def quiescent_ReferenceModIdeal [hReferenceModIdeal : Cert.ReferenceModIdeal.Facts] : Prop :=
  ∀ (m : (ℓ : Loc Cert.ReferenceModIdeal.nD Cert.ReferenceModIdeal.τ Cert.ReferenceModIdeal.sig) → Buf (Elt Ideal) ℓ) (g : Dev Cert.ReferenceModIdeal.nD → PrngReg), Pre_ReferenceModIdeal m →
    θ_run (Cert.ReferenceModIdeal.defs (F := Ideal)) (onTc (τ := Cert.ReferenceModIdeal.τ) (Cert.ReferenceModIdeal.main (F := Ideal))) ⟨m, fun _ => 0, g⟩ (fun r => (∀ c : Dev Cert.ReferenceModIdeal.nD,
      r.2.mem ((c.tc : Thread Cert.ReferenceModIdeal.nD Cert.ReferenceModIdeal.τ).loc Cert.ReferenceModIdeal.main_arg0) = m ((c.tc : Thread Cert.ReferenceModIdeal.nD Cert.ReferenceModIdeal.τ).loc Cert.ReferenceModIdeal.main_arg0)
      ∧ r.2.mem ((c.tc : Thread Cert.ReferenceModIdeal.nD Cert.ReferenceModIdeal.τ).loc Cert.ReferenceModIdeal.main_arg1) = m ((c.tc : Thread Cert.ReferenceModIdeal.nD Cert.ReferenceModIdeal.τ).loc Cert.ReferenceModIdeal.main_arg1)
      ∧ r.2.mem ((c.tc : Thread Cert.ReferenceModIdeal.nD Cert.ReferenceModIdeal.τ).loc Cert.ReferenceModIdeal.main_arg2) = m ((c.tc : Thread Cert.ReferenceModIdeal.nD Cert.ReferenceModIdeal.τ).loc Cert.ReferenceModIdeal.main_arg2)
      ∧ r.2.mem ((c.tc : Thread Cert.ReferenceModIdeal.nD Cert.ReferenceModIdeal.τ).loc Cert.ReferenceModIdeal.main_arg3) = m ((c.tc : Thread Cert.ReferenceModIdeal.nD Cert.ReferenceModIdeal.τ).loc Cert.ReferenceModIdeal.main_arg3))
      ∧ r.2.sem = fun _ => 0)

def quiescent_KernelConv [hKernelConv : Cert.KernelConv.Facts] : Prop :=
  ∀ (m : (ℓ : Loc Cert.KernelConv.nD Cert.KernelConv.τ Cert.KernelConv.sig) → Buf (Elt Bits) ℓ) (g : Dev Cert.KernelConv.nD → PrngReg), Pre_KernelConv m →
    θ_run (Cert.KernelConv.defs (F := Bits)) (onTc (τ := Cert.KernelConv.τ) (Cert.KernelConv.main (F := Bits))) ⟨m, fun _ => 0, g⟩ (fun r => (∀ c : Dev Cert.KernelConv.nD,
      r.2.mem ((c.tc : Thread Cert.KernelConv.nD Cert.KernelConv.τ).loc Cert.KernelConv.main_arg0) = m ((c.tc : Thread Cert.KernelConv.nD Cert.KernelConv.τ).loc Cert.KernelConv.main_arg0)
      ∧ r.2.mem ((c.tc : Thread Cert.KernelConv.nD Cert.KernelConv.τ).loc Cert.KernelConv.main_arg1) = m ((c.tc : Thread Cert.KernelConv.nD Cert.KernelConv.τ).loc Cert.KernelConv.main_arg1)
      ∧ r.2.mem ((c.tc : Thread Cert.KernelConv.nD Cert.KernelConv.τ).loc Cert.KernelConv.main_arg2) = m ((c.tc : Thread Cert.KernelConv.nD Cert.KernelConv.τ).loc Cert.KernelConv.main_arg2)
      ∧ r.2.mem ((c.tc : Thread Cert.KernelConv.nD Cert.KernelConv.τ).loc Cert.KernelConv.main_arg3) = m ((c.tc : Thread Cert.KernelConv.nD Cert.KernelConv.τ).loc Cert.KernelConv.main_arg3))
      ∧ r.2.sem = fun _ => 0)

def quiescent_KernelConvIdeal [hKernelConvIdeal : Cert.KernelConvIdeal.Facts] : Prop :=
  ∀ (m : (ℓ : Loc Cert.KernelConvIdeal.nD Cert.KernelConvIdeal.τ Cert.KernelConvIdeal.sig) → Buf (Elt Ideal) ℓ) (g : Dev Cert.KernelConvIdeal.nD → PrngReg), Pre_KernelConvIdeal m →
    θ_run (Cert.KernelConvIdeal.defs (F := Ideal)) (onTc (τ := Cert.KernelConvIdeal.τ) (Cert.KernelConvIdeal.main (F := Ideal))) ⟨m, fun _ => 0, g⟩ (fun r => (∀ c : Dev Cert.KernelConvIdeal.nD,
      r.2.mem ((c.tc : Thread Cert.KernelConvIdeal.nD Cert.KernelConvIdeal.τ).loc Cert.KernelConvIdeal.main_arg0) = m ((c.tc : Thread Cert.KernelConvIdeal.nD Cert.KernelConvIdeal.τ).loc Cert.KernelConvIdeal.main_arg0)
      ∧ r.2.mem ((c.tc : Thread Cert.KernelConvIdeal.nD Cert.KernelConvIdeal.τ).loc Cert.KernelConvIdeal.main_arg1) = m ((c.tc : Thread Cert.KernelConvIdeal.nD Cert.KernelConvIdeal.τ).loc Cert.KernelConvIdeal.main_arg1)
      ∧ r.2.mem ((c.tc : Thread Cert.KernelConvIdeal.nD Cert.KernelConvIdeal.τ).loc Cert.KernelConvIdeal.main_arg2) = m ((c.tc : Thread Cert.KernelConvIdeal.nD Cert.KernelConvIdeal.τ).loc Cert.KernelConvIdeal.main_arg2)
      ∧ r.2.mem ((c.tc : Thread Cert.KernelConvIdeal.nD Cert.KernelConvIdeal.τ).loc Cert.KernelConvIdeal.main_arg3) = m ((c.tc : Thread Cert.KernelConvIdeal.nD Cert.KernelConvIdeal.τ).loc Cert.KernelConvIdeal.main_arg3))
      ∧ r.2.sem = fun _ => 0)

def quiescent_ReferenceConvIdeal [hReferenceConvIdeal : Cert.ReferenceConvIdeal.Facts] : Prop :=
  ∀ (m : (ℓ : Loc Cert.ReferenceConvIdeal.nD Cert.ReferenceConvIdeal.τ Cert.ReferenceConvIdeal.sig) → Buf (Elt Ideal) ℓ) (g : Dev Cert.ReferenceConvIdeal.nD → PrngReg), Pre_ReferenceConvIdeal m →
    θ_run (Cert.ReferenceConvIdeal.defs (F := Ideal)) (onTc (τ := Cert.ReferenceConvIdeal.τ) (Cert.ReferenceConvIdeal.main (F := Ideal))) ⟨m, fun _ => 0, g⟩ (fun r => (∀ c : Dev Cert.ReferenceConvIdeal.nD,
      r.2.mem ((c.tc : Thread Cert.ReferenceConvIdeal.nD Cert.ReferenceConvIdeal.τ).loc Cert.ReferenceConvIdeal.main_arg0) = m ((c.tc : Thread Cert.ReferenceConvIdeal.nD Cert.ReferenceConvIdeal.τ).loc Cert.ReferenceConvIdeal.main_arg0)
      ∧ r.2.mem ((c.tc : Thread Cert.ReferenceConvIdeal.nD Cert.ReferenceConvIdeal.τ).loc Cert.ReferenceConvIdeal.main_arg1) = m ((c.tc : Thread Cert.ReferenceConvIdeal.nD Cert.ReferenceConvIdeal.τ).loc Cert.ReferenceConvIdeal.main_arg1)
      ∧ r.2.mem ((c.tc : Thread Cert.ReferenceConvIdeal.nD Cert.ReferenceConvIdeal.τ).loc Cert.ReferenceConvIdeal.main_arg2) = m ((c.tc : Thread Cert.ReferenceConvIdeal.nD Cert.ReferenceConvIdeal.τ).loc Cert.ReferenceConvIdeal.main_arg2)
      ∧ r.2.mem ((c.tc : Thread Cert.ReferenceConvIdeal.nD Cert.ReferenceConvIdeal.τ).loc Cert.ReferenceConvIdeal.main_arg3) = m ((c.tc : Thread Cert.ReferenceConvIdeal.nD Cert.ReferenceConvIdeal.τ).loc Cert.ReferenceConvIdeal.main_arg3))
      ∧ r.2.sem = fun _ => 0)

def quiescent_KernelMixOut [hKernelMixOut : Cert.KernelMixOut.Facts] : Prop :=
  ∀ (m : (ℓ : Loc Cert.KernelMixOut.nD Cert.KernelMixOut.τ Cert.KernelMixOut.sig) → Buf (Elt Bits) ℓ) (g : Dev Cert.KernelMixOut.nD → PrngReg), Pre_KernelMixOut m →
    θ_run (Cert.KernelMixOut.defs (F := Bits)) (onTc (τ := Cert.KernelMixOut.τ) (Cert.KernelMixOut.main (F := Bits))) ⟨m, fun _ => 0, g⟩ (fun r => (∀ c : Dev Cert.KernelMixOut.nD,
      r.2.mem ((c.tc : Thread Cert.KernelMixOut.nD Cert.KernelMixOut.τ).loc Cert.KernelMixOut.main_arg0) = m ((c.tc : Thread Cert.KernelMixOut.nD Cert.KernelMixOut.τ).loc Cert.KernelMixOut.main_arg0)
      ∧ r.2.mem ((c.tc : Thread Cert.KernelMixOut.nD Cert.KernelMixOut.τ).loc Cert.KernelMixOut.main_arg1) = m ((c.tc : Thread Cert.KernelMixOut.nD Cert.KernelMixOut.τ).loc Cert.KernelMixOut.main_arg1)
      ∧ r.2.mem ((c.tc : Thread Cert.KernelMixOut.nD Cert.KernelMixOut.τ).loc Cert.KernelMixOut.main_arg2) = m ((c.tc : Thread Cert.KernelMixOut.nD Cert.KernelMixOut.τ).loc Cert.KernelMixOut.main_arg2)
      ∧ r.2.mem ((c.tc : Thread Cert.KernelMixOut.nD Cert.KernelMixOut.τ).loc Cert.KernelMixOut.main_arg3) = m ((c.tc : Thread Cert.KernelMixOut.nD Cert.KernelMixOut.τ).loc Cert.KernelMixOut.main_arg3)
      ∧ r.2.mem ((c.tc : Thread Cert.KernelMixOut.nD Cert.KernelMixOut.τ).loc Cert.KernelMixOut.main_arg4) = m ((c.tc : Thread Cert.KernelMixOut.nD Cert.KernelMixOut.τ).loc Cert.KernelMixOut.main_arg4)
      ∧ r.2.mem ((c.tc : Thread Cert.KernelMixOut.nD Cert.KernelMixOut.τ).loc Cert.KernelMixOut.main_arg5) = m ((c.tc : Thread Cert.KernelMixOut.nD Cert.KernelMixOut.τ).loc Cert.KernelMixOut.main_arg5)
      ∧ r.2.mem ((c.tc : Thread Cert.KernelMixOut.nD Cert.KernelMixOut.τ).loc Cert.KernelMixOut.main_arg6) = m ((c.tc : Thread Cert.KernelMixOut.nD Cert.KernelMixOut.τ).loc Cert.KernelMixOut.main_arg6))
      ∧ r.2.sem = fun _ => 0)

def quiescent_KernelMixOutIdeal [hKernelMixOutIdeal : Cert.KernelMixOutIdeal.Facts] : Prop :=
  ∀ (m : (ℓ : Loc Cert.KernelMixOutIdeal.nD Cert.KernelMixOutIdeal.τ Cert.KernelMixOutIdeal.sig) → Buf (Elt Ideal) ℓ) (g : Dev Cert.KernelMixOutIdeal.nD → PrngReg), Pre_KernelMixOutIdeal m →
    θ_run (Cert.KernelMixOutIdeal.defs (F := Ideal)) (onTc (τ := Cert.KernelMixOutIdeal.τ) (Cert.KernelMixOutIdeal.main (F := Ideal))) ⟨m, fun _ => 0, g⟩ (fun r => (∀ c : Dev Cert.KernelMixOutIdeal.nD,
      r.2.mem ((c.tc : Thread Cert.KernelMixOutIdeal.nD Cert.KernelMixOutIdeal.τ).loc Cert.KernelMixOutIdeal.main_arg0) = m ((c.tc : Thread Cert.KernelMixOutIdeal.nD Cert.KernelMixOutIdeal.τ).loc Cert.KernelMixOutIdeal.main_arg0)
      ∧ r.2.mem ((c.tc : Thread Cert.KernelMixOutIdeal.nD Cert.KernelMixOutIdeal.τ).loc Cert.KernelMixOutIdeal.main_arg1) = m ((c.tc : Thread Cert.KernelMixOutIdeal.nD Cert.KernelMixOutIdeal.τ).loc Cert.KernelMixOutIdeal.main_arg1)
      ∧ r.2.mem ((c.tc : Thread Cert.KernelMixOutIdeal.nD Cert.KernelMixOutIdeal.τ).loc Cert.KernelMixOutIdeal.main_arg2) = m ((c.tc : Thread Cert.KernelMixOutIdeal.nD Cert.KernelMixOutIdeal.τ).loc Cert.KernelMixOutIdeal.main_arg2)
      ∧ r.2.mem ((c.tc : Thread Cert.KernelMixOutIdeal.nD Cert.KernelMixOutIdeal.τ).loc Cert.KernelMixOutIdeal.main_arg3) = m ((c.tc : Thread Cert.KernelMixOutIdeal.nD Cert.KernelMixOutIdeal.τ).loc Cert.KernelMixOutIdeal.main_arg3)
      ∧ r.2.mem ((c.tc : Thread Cert.KernelMixOutIdeal.nD Cert.KernelMixOutIdeal.τ).loc Cert.KernelMixOutIdeal.main_arg4) = m ((c.tc : Thread Cert.KernelMixOutIdeal.nD Cert.KernelMixOutIdeal.τ).loc Cert.KernelMixOutIdeal.main_arg4)
      ∧ r.2.mem ((c.tc : Thread Cert.KernelMixOutIdeal.nD Cert.KernelMixOutIdeal.τ).loc Cert.KernelMixOutIdeal.main_arg5) = m ((c.tc : Thread Cert.KernelMixOutIdeal.nD Cert.KernelMixOutIdeal.τ).loc Cert.KernelMixOutIdeal.main_arg5)
      ∧ r.2.mem ((c.tc : Thread Cert.KernelMixOutIdeal.nD Cert.KernelMixOutIdeal.τ).loc Cert.KernelMixOutIdeal.main_arg6) = m ((c.tc : Thread Cert.KernelMixOutIdeal.nD Cert.KernelMixOutIdeal.τ).loc Cert.KernelMixOutIdeal.main_arg6))
      ∧ r.2.sem = fun _ => 0)

def quiescent_ReferenceMixOutIdeal [hReferenceMixOutIdeal : Cert.ReferenceMixOutIdeal.Facts] : Prop :=
  ∀ (m : (ℓ : Loc Cert.ReferenceMixOutIdeal.nD Cert.ReferenceMixOutIdeal.τ Cert.ReferenceMixOutIdeal.sig) → Buf (Elt Ideal) ℓ) (g : Dev Cert.ReferenceMixOutIdeal.nD → PrngReg), Pre_ReferenceMixOutIdeal m →
    θ_run (Cert.ReferenceMixOutIdeal.defs (F := Ideal)) (onTc (τ := Cert.ReferenceMixOutIdeal.τ) (Cert.ReferenceMixOutIdeal.main (F := Ideal))) ⟨m, fun _ => 0, g⟩ (fun r => (∀ c : Dev Cert.ReferenceMixOutIdeal.nD,
      r.2.mem ((c.tc : Thread Cert.ReferenceMixOutIdeal.nD Cert.ReferenceMixOutIdeal.τ).loc Cert.ReferenceMixOutIdeal.main_arg0) = m ((c.tc : Thread Cert.ReferenceMixOutIdeal.nD Cert.ReferenceMixOutIdeal.τ).loc Cert.ReferenceMixOutIdeal.main_arg0)
      ∧ r.2.mem ((c.tc : Thread Cert.ReferenceMixOutIdeal.nD Cert.ReferenceMixOutIdeal.τ).loc Cert.ReferenceMixOutIdeal.main_arg1) = m ((c.tc : Thread Cert.ReferenceMixOutIdeal.nD Cert.ReferenceMixOutIdeal.τ).loc Cert.ReferenceMixOutIdeal.main_arg1)
      ∧ r.2.mem ((c.tc : Thread Cert.ReferenceMixOutIdeal.nD Cert.ReferenceMixOutIdeal.τ).loc Cert.ReferenceMixOutIdeal.main_arg2) = m ((c.tc : Thread Cert.ReferenceMixOutIdeal.nD Cert.ReferenceMixOutIdeal.τ).loc Cert.ReferenceMixOutIdeal.main_arg2)
      ∧ r.2.mem ((c.tc : Thread Cert.ReferenceMixOutIdeal.nD Cert.ReferenceMixOutIdeal.τ).loc Cert.ReferenceMixOutIdeal.main_arg3) = m ((c.tc : Thread Cert.ReferenceMixOutIdeal.nD Cert.ReferenceMixOutIdeal.τ).loc Cert.ReferenceMixOutIdeal.main_arg3)
      ∧ r.2.mem ((c.tc : Thread Cert.ReferenceMixOutIdeal.nD Cert.ReferenceMixOutIdeal.τ).loc Cert.ReferenceMixOutIdeal.main_arg4) = m ((c.tc : Thread Cert.ReferenceMixOutIdeal.nD Cert.ReferenceMixOutIdeal.τ).loc Cert.ReferenceMixOutIdeal.main_arg4)
      ∧ r.2.mem ((c.tc : Thread Cert.ReferenceMixOutIdeal.nD Cert.ReferenceMixOutIdeal.τ).loc Cert.ReferenceMixOutIdeal.main_arg5) = m ((c.tc : Thread Cert.ReferenceMixOutIdeal.nD Cert.ReferenceMixOutIdeal.τ).loc Cert.ReferenceMixOutIdeal.main_arg5)
      ∧ r.2.mem ((c.tc : Thread Cert.ReferenceMixOutIdeal.nD Cert.ReferenceMixOutIdeal.τ).loc Cert.ReferenceMixOutIdeal.main_arg6) = m ((c.tc : Thread Cert.ReferenceMixOutIdeal.nD Cert.ReferenceMixOutIdeal.τ).loc Cert.ReferenceMixOutIdeal.main_arg6))
      ∧ r.2.sem = fun _ => 0)

def quiescent_KernelMixOutT [hKernelMixOutT : Cert.KernelMixOutT.Facts] : Prop :=
  ∀ (m : (ℓ : Loc Cert.KernelMixOutT.nD Cert.KernelMixOutT.τ Cert.KernelMixOutT.sig) → Buf (Elt Bits) ℓ) (g : Dev Cert.KernelMixOutT.nD → PrngReg), Pre_KernelMixOutT m →
    θ_run (Cert.KernelMixOutT.defs (F := Bits)) (onTc (τ := Cert.KernelMixOutT.τ) (Cert.KernelMixOutT.main (F := Bits))) ⟨m, fun _ => 0, g⟩ (fun r => (∀ c : Dev Cert.KernelMixOutT.nD,
      r.2.mem ((c.tc : Thread Cert.KernelMixOutT.nD Cert.KernelMixOutT.τ).loc Cert.KernelMixOutT.main_arg0) = m ((c.tc : Thread Cert.KernelMixOutT.nD Cert.KernelMixOutT.τ).loc Cert.KernelMixOutT.main_arg0)
      ∧ r.2.mem ((c.tc : Thread Cert.KernelMixOutT.nD Cert.KernelMixOutT.τ).loc Cert.KernelMixOutT.main_arg1) = m ((c.tc : Thread Cert.KernelMixOutT.nD Cert.KernelMixOutT.τ).loc Cert.KernelMixOutT.main_arg1)
      ∧ r.2.mem ((c.tc : Thread Cert.KernelMixOutT.nD Cert.KernelMixOutT.τ).loc Cert.KernelMixOutT.main_arg2) = m ((c.tc : Thread Cert.KernelMixOutT.nD Cert.KernelMixOutT.τ).loc Cert.KernelMixOutT.main_arg2))
      ∧ r.2.sem = fun _ => 0)

def quiescent_KernelMixOutTIdeal [hKernelMixOutTIdeal : Cert.KernelMixOutTIdeal.Facts] : Prop :=
  ∀ (m : (ℓ : Loc Cert.KernelMixOutTIdeal.nD Cert.KernelMixOutTIdeal.τ Cert.KernelMixOutTIdeal.sig) → Buf (Elt Ideal) ℓ) (g : Dev Cert.KernelMixOutTIdeal.nD → PrngReg), Pre_KernelMixOutTIdeal m →
    θ_run (Cert.KernelMixOutTIdeal.defs (F := Ideal)) (onTc (τ := Cert.KernelMixOutTIdeal.τ) (Cert.KernelMixOutTIdeal.main (F := Ideal))) ⟨m, fun _ => 0, g⟩ (fun r => (∀ c : Dev Cert.KernelMixOutTIdeal.nD,
      r.2.mem ((c.tc : Thread Cert.KernelMixOutTIdeal.nD Cert.KernelMixOutTIdeal.τ).loc Cert.KernelMixOutTIdeal.main_arg0) = m ((c.tc : Thread Cert.KernelMixOutTIdeal.nD Cert.KernelMixOutTIdeal.τ).loc Cert.KernelMixOutTIdeal.main_arg0)
      ∧ r.2.mem ((c.tc : Thread Cert.KernelMixOutTIdeal.nD Cert.KernelMixOutTIdeal.τ).loc Cert.KernelMixOutTIdeal.main_arg1) = m ((c.tc : Thread Cert.KernelMixOutTIdeal.nD Cert.KernelMixOutTIdeal.τ).loc Cert.KernelMixOutTIdeal.main_arg1)
      ∧ r.2.mem ((c.tc : Thread Cert.KernelMixOutTIdeal.nD Cert.KernelMixOutTIdeal.τ).loc Cert.KernelMixOutTIdeal.main_arg2) = m ((c.tc : Thread Cert.KernelMixOutTIdeal.nD Cert.KernelMixOutTIdeal.τ).loc Cert.KernelMixOutTIdeal.main_arg2))
      ∧ r.2.sem = fun _ => 0)

def quiescent_ReferenceMixOutTIdeal [hReferenceMixOutTIdeal : Cert.ReferenceMixOutTIdeal.Facts] : Prop :=
  ∀ (m : (ℓ : Loc Cert.ReferenceMixOutTIdeal.nD Cert.ReferenceMixOutTIdeal.τ Cert.ReferenceMixOutTIdeal.sig) → Buf (Elt Ideal) ℓ) (g : Dev Cert.ReferenceMixOutTIdeal.nD → PrngReg), Pre_ReferenceMixOutTIdeal m →
    θ_run (Cert.ReferenceMixOutTIdeal.defs (F := Ideal)) (onTc (τ := Cert.ReferenceMixOutTIdeal.τ) (Cert.ReferenceMixOutTIdeal.main (F := Ideal))) ⟨m, fun _ => 0, g⟩ (fun r => (∀ c : Dev Cert.ReferenceMixOutTIdeal.nD,
      r.2.mem ((c.tc : Thread Cert.ReferenceMixOutTIdeal.nD Cert.ReferenceMixOutTIdeal.τ).loc Cert.ReferenceMixOutTIdeal.main_arg0) = m ((c.tc : Thread Cert.ReferenceMixOutTIdeal.nD Cert.ReferenceMixOutTIdeal.τ).loc Cert.ReferenceMixOutTIdeal.main_arg0)
      ∧ r.2.mem ((c.tc : Thread Cert.ReferenceMixOutTIdeal.nD Cert.ReferenceMixOutTIdeal.τ).loc Cert.ReferenceMixOutTIdeal.main_arg1) = m ((c.tc : Thread Cert.ReferenceMixOutTIdeal.nD Cert.ReferenceMixOutTIdeal.τ).loc Cert.ReferenceMixOutTIdeal.main_arg1)
      ∧ r.2.mem ((c.tc : Thread Cert.ReferenceMixOutTIdeal.nD Cert.ReferenceMixOutTIdeal.τ).loc Cert.ReferenceMixOutTIdeal.main_arg2) = m ((c.tc : Thread Cert.ReferenceMixOutTIdeal.nD Cert.ReferenceMixOutTIdeal.τ).loc Cert.ReferenceMixOutTIdeal.main_arg2))
      ∧ r.2.sem = fun _ => 0)

def quiescent_KernelHgZ [hKernelHgZ : Cert.KernelHgZ.Facts] : Prop :=
  ∀ (m : (ℓ : Loc Cert.KernelHgZ.nD Cert.KernelHgZ.τ Cert.KernelHgZ.sig) → Buf (Elt Bits) ℓ) (g : Dev Cert.KernelHgZ.nD → PrngReg), Pre_KernelHgZ m →
    θ_run (Cert.KernelHgZ.defs (F := Bits)) (onTc (τ := Cert.KernelHgZ.τ) (Cert.KernelHgZ.main (F := Bits))) ⟨m, fun _ => 0, g⟩ (fun r => (∀ c : Dev Cert.KernelHgZ.nD,
      r.2.mem ((c.tc : Thread Cert.KernelHgZ.nD Cert.KernelHgZ.τ).loc Cert.KernelHgZ.main_arg0) = m ((c.tc : Thread Cert.KernelHgZ.nD Cert.KernelHgZ.τ).loc Cert.KernelHgZ.main_arg0)
      ∧ r.2.mem ((c.tc : Thread Cert.KernelHgZ.nD Cert.KernelHgZ.τ).loc Cert.KernelHgZ.main_arg1) = m ((c.tc : Thread Cert.KernelHgZ.nD Cert.KernelHgZ.τ).loc Cert.KernelHgZ.main_arg1)
      ∧ r.2.mem ((c.tc : Thread Cert.KernelHgZ.nD Cert.KernelHgZ.τ).loc Cert.KernelHgZ.main_arg2) = m ((c.tc : Thread Cert.KernelHgZ.nD Cert.KernelHgZ.τ).loc Cert.KernelHgZ.main_arg2)
      ∧ r.2.mem ((c.tc : Thread Cert.KernelHgZ.nD Cert.KernelHgZ.τ).loc Cert.KernelHgZ.main_arg3) = m ((c.tc : Thread Cert.KernelHgZ.nD Cert.KernelHgZ.τ).loc Cert.KernelHgZ.main_arg3)
      ∧ r.2.mem ((c.tc : Thread Cert.KernelHgZ.nD Cert.KernelHgZ.τ).loc Cert.KernelHgZ.main_arg4) = m ((c.tc : Thread Cert.KernelHgZ.nD Cert.KernelHgZ.τ).loc Cert.KernelHgZ.main_arg4))
      ∧ r.2.sem = fun _ => 0)

def quiescent_KernelHgZIdeal [hKernelHgZIdeal : Cert.KernelHgZIdeal.Facts] : Prop :=
  ∀ (m : (ℓ : Loc Cert.KernelHgZIdeal.nD Cert.KernelHgZIdeal.τ Cert.KernelHgZIdeal.sig) → Buf (Elt Ideal) ℓ) (g : Dev Cert.KernelHgZIdeal.nD → PrngReg), Pre_KernelHgZIdeal m →
    θ_run (Cert.KernelHgZIdeal.defs (F := Ideal)) (onTc (τ := Cert.KernelHgZIdeal.τ) (Cert.KernelHgZIdeal.main (F := Ideal))) ⟨m, fun _ => 0, g⟩ (fun r => (∀ c : Dev Cert.KernelHgZIdeal.nD,
      r.2.mem ((c.tc : Thread Cert.KernelHgZIdeal.nD Cert.KernelHgZIdeal.τ).loc Cert.KernelHgZIdeal.main_arg0) = m ((c.tc : Thread Cert.KernelHgZIdeal.nD Cert.KernelHgZIdeal.τ).loc Cert.KernelHgZIdeal.main_arg0)
      ∧ r.2.mem ((c.tc : Thread Cert.KernelHgZIdeal.nD Cert.KernelHgZIdeal.τ).loc Cert.KernelHgZIdeal.main_arg1) = m ((c.tc : Thread Cert.KernelHgZIdeal.nD Cert.KernelHgZIdeal.τ).loc Cert.KernelHgZIdeal.main_arg1)
      ∧ r.2.mem ((c.tc : Thread Cert.KernelHgZIdeal.nD Cert.KernelHgZIdeal.τ).loc Cert.KernelHgZIdeal.main_arg2) = m ((c.tc : Thread Cert.KernelHgZIdeal.nD Cert.KernelHgZIdeal.τ).loc Cert.KernelHgZIdeal.main_arg2)
      ∧ r.2.mem ((c.tc : Thread Cert.KernelHgZIdeal.nD Cert.KernelHgZIdeal.τ).loc Cert.KernelHgZIdeal.main_arg3) = m ((c.tc : Thread Cert.KernelHgZIdeal.nD Cert.KernelHgZIdeal.τ).loc Cert.KernelHgZIdeal.main_arg3)
      ∧ r.2.mem ((c.tc : Thread Cert.KernelHgZIdeal.nD Cert.KernelHgZIdeal.τ).loc Cert.KernelHgZIdeal.main_arg4) = m ((c.tc : Thread Cert.KernelHgZIdeal.nD Cert.KernelHgZIdeal.τ).loc Cert.KernelHgZIdeal.main_arg4))
      ∧ r.2.sem = fun _ => 0)

def quiescent_ReferenceHgZIdeal [hReferenceHgZIdeal : Cert.ReferenceHgZIdeal.Facts] : Prop :=
  ∀ (m : (ℓ : Loc Cert.ReferenceHgZIdeal.nD Cert.ReferenceHgZIdeal.τ Cert.ReferenceHgZIdeal.sig) → Buf (Elt Ideal) ℓ) (g : Dev Cert.ReferenceHgZIdeal.nD → PrngReg), Pre_ReferenceHgZIdeal m →
    θ_run (Cert.ReferenceHgZIdeal.defs (F := Ideal)) (onTc (τ := Cert.ReferenceHgZIdeal.τ) (Cert.ReferenceHgZIdeal.main (F := Ideal))) ⟨m, fun _ => 0, g⟩ (fun r => (∀ c : Dev Cert.ReferenceHgZIdeal.nD,
      r.2.mem ((c.tc : Thread Cert.ReferenceHgZIdeal.nD Cert.ReferenceHgZIdeal.τ).loc Cert.ReferenceHgZIdeal.main_arg0) = m ((c.tc : Thread Cert.ReferenceHgZIdeal.nD Cert.ReferenceHgZIdeal.τ).loc Cert.ReferenceHgZIdeal.main_arg0)
      ∧ r.2.mem ((c.tc : Thread Cert.ReferenceHgZIdeal.nD Cert.ReferenceHgZIdeal.τ).loc Cert.ReferenceHgZIdeal.main_arg1) = m ((c.tc : Thread Cert.ReferenceHgZIdeal.nD Cert.ReferenceHgZIdeal.τ).loc Cert.ReferenceHgZIdeal.main_arg1)
      ∧ r.2.mem ((c.tc : Thread Cert.ReferenceHgZIdeal.nD Cert.ReferenceHgZIdeal.τ).loc Cert.ReferenceHgZIdeal.main_arg2) = m ((c.tc : Thread Cert.ReferenceHgZIdeal.nD Cert.ReferenceHgZIdeal.τ).loc Cert.ReferenceHgZIdeal.main_arg2)
      ∧ r.2.mem ((c.tc : Thread Cert.ReferenceHgZIdeal.nD Cert.ReferenceHgZIdeal.τ).loc Cert.ReferenceHgZIdeal.main_arg3) = m ((c.tc : Thread Cert.ReferenceHgZIdeal.nD Cert.ReferenceHgZIdeal.τ).loc Cert.ReferenceHgZIdeal.main_arg3)
      ∧ r.2.mem ((c.tc : Thread Cert.ReferenceHgZIdeal.nD Cert.ReferenceHgZIdeal.τ).loc Cert.ReferenceHgZIdeal.main_arg4) = m ((c.tc : Thread Cert.ReferenceHgZIdeal.nD Cert.ReferenceHgZIdeal.τ).loc Cert.ReferenceHgZIdeal.main_arg4))
      ∧ r.2.sem = fun _ => 0)

def quiescent_KernelRgZ [hKernelRgZ : Cert.KernelRgZ.Facts] : Prop :=
  ∀ (m : (ℓ : Loc Cert.KernelRgZ.nD Cert.KernelRgZ.τ Cert.KernelRgZ.sig) → Buf (Elt Bits) ℓ) (g : Dev Cert.KernelRgZ.nD → PrngReg), Pre_KernelRgZ m →
    θ_run (Cert.KernelRgZ.defs (F := Bits)) (onTc (τ := Cert.KernelRgZ.τ) (Cert.KernelRgZ.main (F := Bits))) ⟨m, fun _ => 0, g⟩ (fun r => (∀ c : Dev Cert.KernelRgZ.nD,
      r.2.mem ((c.tc : Thread Cert.KernelRgZ.nD Cert.KernelRgZ.τ).loc Cert.KernelRgZ.main_arg0) = m ((c.tc : Thread Cert.KernelRgZ.nD Cert.KernelRgZ.τ).loc Cert.KernelRgZ.main_arg0)
      ∧ r.2.mem ((c.tc : Thread Cert.KernelRgZ.nD Cert.KernelRgZ.τ).loc Cert.KernelRgZ.main_arg1) = m ((c.tc : Thread Cert.KernelRgZ.nD Cert.KernelRgZ.τ).loc Cert.KernelRgZ.main_arg1)
      ∧ r.2.mem ((c.tc : Thread Cert.KernelRgZ.nD Cert.KernelRgZ.τ).loc Cert.KernelRgZ.main_arg2) = m ((c.tc : Thread Cert.KernelRgZ.nD Cert.KernelRgZ.τ).loc Cert.KernelRgZ.main_arg2)
      ∧ r.2.mem ((c.tc : Thread Cert.KernelRgZ.nD Cert.KernelRgZ.τ).loc Cert.KernelRgZ.main_arg3) = m ((c.tc : Thread Cert.KernelRgZ.nD Cert.KernelRgZ.τ).loc Cert.KernelRgZ.main_arg3)
      ∧ r.2.mem ((c.tc : Thread Cert.KernelRgZ.nD Cert.KernelRgZ.τ).loc Cert.KernelRgZ.main_arg4) = m ((c.tc : Thread Cert.KernelRgZ.nD Cert.KernelRgZ.τ).loc Cert.KernelRgZ.main_arg4))
      ∧ r.2.sem = fun _ => 0)

def quiescent_KernelRgZIdeal [hKernelRgZIdeal : Cert.KernelRgZIdeal.Facts] : Prop :=
  ∀ (m : (ℓ : Loc Cert.KernelRgZIdeal.nD Cert.KernelRgZIdeal.τ Cert.KernelRgZIdeal.sig) → Buf (Elt Ideal) ℓ) (g : Dev Cert.KernelRgZIdeal.nD → PrngReg), Pre_KernelRgZIdeal m →
    θ_run (Cert.KernelRgZIdeal.defs (F := Ideal)) (onTc (τ := Cert.KernelRgZIdeal.τ) (Cert.KernelRgZIdeal.main (F := Ideal))) ⟨m, fun _ => 0, g⟩ (fun r => (∀ c : Dev Cert.KernelRgZIdeal.nD,
      r.2.mem ((c.tc : Thread Cert.KernelRgZIdeal.nD Cert.KernelRgZIdeal.τ).loc Cert.KernelRgZIdeal.main_arg0) = m ((c.tc : Thread Cert.KernelRgZIdeal.nD Cert.KernelRgZIdeal.τ).loc Cert.KernelRgZIdeal.main_arg0)
      ∧ r.2.mem ((c.tc : Thread Cert.KernelRgZIdeal.nD Cert.KernelRgZIdeal.τ).loc Cert.KernelRgZIdeal.main_arg1) = m ((c.tc : Thread Cert.KernelRgZIdeal.nD Cert.KernelRgZIdeal.τ).loc Cert.KernelRgZIdeal.main_arg1)
      ∧ r.2.mem ((c.tc : Thread Cert.KernelRgZIdeal.nD Cert.KernelRgZIdeal.τ).loc Cert.KernelRgZIdeal.main_arg2) = m ((c.tc : Thread Cert.KernelRgZIdeal.nD Cert.KernelRgZIdeal.τ).loc Cert.KernelRgZIdeal.main_arg2)
      ∧ r.2.mem ((c.tc : Thread Cert.KernelRgZIdeal.nD Cert.KernelRgZIdeal.τ).loc Cert.KernelRgZIdeal.main_arg3) = m ((c.tc : Thread Cert.KernelRgZIdeal.nD Cert.KernelRgZIdeal.τ).loc Cert.KernelRgZIdeal.main_arg3)
      ∧ r.2.mem ((c.tc : Thread Cert.KernelRgZIdeal.nD Cert.KernelRgZIdeal.τ).loc Cert.KernelRgZIdeal.main_arg4) = m ((c.tc : Thread Cert.KernelRgZIdeal.nD Cert.KernelRgZIdeal.τ).loc Cert.KernelRgZIdeal.main_arg4))
      ∧ r.2.sem = fun _ => 0)

def quiescent_ReferenceRgZIdeal [hReferenceRgZIdeal : Cert.ReferenceRgZIdeal.Facts] : Prop :=
  ∀ (m : (ℓ : Loc Cert.ReferenceRgZIdeal.nD Cert.ReferenceRgZIdeal.τ Cert.ReferenceRgZIdeal.sig) → Buf (Elt Ideal) ℓ) (g : Dev Cert.ReferenceRgZIdeal.nD → PrngReg), Pre_ReferenceRgZIdeal m →
    θ_run (Cert.ReferenceRgZIdeal.defs (F := Ideal)) (onTc (τ := Cert.ReferenceRgZIdeal.τ) (Cert.ReferenceRgZIdeal.main (F := Ideal))) ⟨m, fun _ => 0, g⟩ (fun r => (∀ c : Dev Cert.ReferenceRgZIdeal.nD,
      r.2.mem ((c.tc : Thread Cert.ReferenceRgZIdeal.nD Cert.ReferenceRgZIdeal.τ).loc Cert.ReferenceRgZIdeal.main_arg0) = m ((c.tc : Thread Cert.ReferenceRgZIdeal.nD Cert.ReferenceRgZIdeal.τ).loc Cert.ReferenceRgZIdeal.main_arg0)
      ∧ r.2.mem ((c.tc : Thread Cert.ReferenceRgZIdeal.nD Cert.ReferenceRgZIdeal.τ).loc Cert.ReferenceRgZIdeal.main_arg1) = m ((c.tc : Thread Cert.ReferenceRgZIdeal.nD Cert.ReferenceRgZIdeal.τ).loc Cert.ReferenceRgZIdeal.main_arg1)
      ∧ r.2.mem ((c.tc : Thread Cert.ReferenceRgZIdeal.nD Cert.ReferenceRgZIdeal.τ).loc Cert.ReferenceRgZIdeal.main_arg2) = m ((c.tc : Thread Cert.ReferenceRgZIdeal.nD Cert.ReferenceRgZIdeal.τ).loc Cert.ReferenceRgZIdeal.main_arg2)
      ∧ r.2.mem ((c.tc : Thread Cert.ReferenceRgZIdeal.nD Cert.ReferenceRgZIdeal.τ).loc Cert.ReferenceRgZIdeal.main_arg3) = m ((c.tc : Thread Cert.ReferenceRgZIdeal.nD Cert.ReferenceRgZIdeal.τ).loc Cert.ReferenceRgZIdeal.main_arg3)
      ∧ r.2.mem ((c.tc : Thread Cert.ReferenceRgZIdeal.nD Cert.ReferenceRgZIdeal.τ).loc Cert.ReferenceRgZIdeal.main_arg4) = m ((c.tc : Thread Cert.ReferenceRgZIdeal.nD Cert.ReferenceRgZIdeal.τ).loc Cert.ReferenceRgZIdeal.main_arg4))
      ∧ r.2.sem = fun _ => 0)

def quiescent_KernelGate [hKernelGate : Cert.KernelGate.Facts] : Prop :=
  ∀ (m : (ℓ : Loc Cert.KernelGate.nD Cert.KernelGate.τ Cert.KernelGate.sig) → Buf (Elt Bits) ℓ) (g : Dev Cert.KernelGate.nD → PrngReg), Pre_KernelGate m →
    θ_run (Cert.KernelGate.defs (F := Bits)) (onTc (τ := Cert.KernelGate.τ) (Cert.KernelGate.main (F := Bits))) ⟨m, fun _ => 0, g⟩ (fun r => (∀ c : Dev Cert.KernelGate.nD,
      r.2.mem ((c.tc : Thread Cert.KernelGate.nD Cert.KernelGate.τ).loc Cert.KernelGate.main_arg0) = m ((c.tc : Thread Cert.KernelGate.nD Cert.KernelGate.τ).loc Cert.KernelGate.main_arg0)
      ∧ r.2.mem ((c.tc : Thread Cert.KernelGate.nD Cert.KernelGate.τ).loc Cert.KernelGate.main_arg1) = m ((c.tc : Thread Cert.KernelGate.nD Cert.KernelGate.τ).loc Cert.KernelGate.main_arg1)
      ∧ r.2.mem ((c.tc : Thread Cert.KernelGate.nD Cert.KernelGate.τ).loc Cert.KernelGate.main_arg2) = m ((c.tc : Thread Cert.KernelGate.nD Cert.KernelGate.τ).loc Cert.KernelGate.main_arg2)
      ∧ r.2.mem ((c.tc : Thread Cert.KernelGate.nD Cert.KernelGate.τ).loc Cert.KernelGate.main_arg3) = m ((c.tc : Thread Cert.KernelGate.nD Cert.KernelGate.τ).loc Cert.KernelGate.main_arg3)
      ∧ r.2.mem ((c.tc : Thread Cert.KernelGate.nD Cert.KernelGate.τ).loc Cert.KernelGate.main_arg4) = m ((c.tc : Thread Cert.KernelGate.nD Cert.KernelGate.τ).loc Cert.KernelGate.main_arg4)
      ∧ r.2.mem ((c.tc : Thread Cert.KernelGate.nD Cert.KernelGate.τ).loc Cert.KernelGate.main_arg5) = m ((c.tc : Thread Cert.KernelGate.nD Cert.KernelGate.τ).loc Cert.KernelGate.main_arg5)
      ∧ r.2.mem ((c.tc : Thread Cert.KernelGate.nD Cert.KernelGate.τ).loc Cert.KernelGate.main_arg6) = m ((c.tc : Thread Cert.KernelGate.nD Cert.KernelGate.τ).loc Cert.KernelGate.main_arg6)
      ∧ r.2.mem ((c.tc : Thread Cert.KernelGate.nD Cert.KernelGate.τ).loc Cert.KernelGate.main_arg7) = m ((c.tc : Thread Cert.KernelGate.nD Cert.KernelGate.τ).loc Cert.KernelGate.main_arg7))
      ∧ r.2.sem = fun _ => 0)

def quiescent_KernelGateIdeal [hKernelGateIdeal : Cert.KernelGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg), Pre_KernelGateIdeal m →
    θ_run (Cert.KernelGateIdeal.defs (F := Ideal)) (onTc (τ := Cert.KernelGateIdeal.τ) (Cert.KernelGateIdeal.main (F := Ideal))) ⟨m, fun _ => 0, g⟩ (fun r => (∀ c : Dev Cert.KernelGateIdeal.nD,
      r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
      ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1)
      ∧ r.2.mem ((c.tc : Thread Cert.KernelGateIdeal.nD Cert.KernelGateIdeal.τ).loc Cert.KernelGateIdeal.main_arg2) = m ((c.tc : Thread Cert.KernelGateIdeal.nD Cert.KernelGateIdeal.τ).loc Cert.KernelGateIdeal.main_arg2)
      ∧ r.2.mem ((c.tc : Thread Cert.KernelGateIdeal.nD Cert.KernelGateIdeal.τ).loc Cert.KernelGateIdeal.main_arg3) = m ((c.tc : Thread Cert.KernelGateIdeal.nD Cert.KernelGateIdeal.τ).loc Cert.KernelGateIdeal.main_arg3)
      ∧ r.2.mem ((c.tc : Thread Cert.KernelGateIdeal.nD Cert.KernelGateIdeal.τ).loc Cert.KernelGateIdeal.main_arg4) = m ((c.tc : Thread Cert.KernelGateIdeal.nD Cert.KernelGateIdeal.τ).loc Cert.KernelGateIdeal.main_arg4)
      ∧ r.2.mem ((c.tc : Thread Cert.KernelGateIdeal.nD Cert.KernelGateIdeal.τ).loc Cert.KernelGateIdeal.main_arg5) = m ((c.tc : Thread Cert.KernelGateIdeal.nD Cert.KernelGateIdeal.τ).loc Cert.KernelGateIdeal.main_arg5)
      ∧ r.2.mem ((c.tc : Thread Cert.KernelGateIdeal.nD Cert.KernelGateIdeal.τ).loc Cert.KernelGateIdeal.main_arg6) = m ((c.tc : Thread Cert.KernelGateIdeal.nD Cert.KernelGateIdeal.τ).loc Cert.KernelGateIdeal.main_arg6)
      ∧ r.2.mem ((c.tc : Thread Cert.KernelGateIdeal.nD Cert.KernelGateIdeal.τ).loc Cert.KernelGateIdeal.main_arg7) = m ((c.tc : Thread Cert.KernelGateIdeal.nD Cert.KernelGateIdeal.τ).loc Cert.KernelGateIdeal.main_arg7))
      ∧ r.2.sem = fun _ => 0)

def quiescent_ReferenceGateIdeal [hReferenceGateIdeal : Cert.ReferenceGateIdeal.Facts] : Prop :=
  ∀ (m : (ℓ : Loc Cert.ReferenceGateIdeal.nD Cert.ReferenceGateIdeal.τ Cert.ReferenceGateIdeal.sig) → Buf (Elt Ideal) ℓ) (g : Dev Cert.ReferenceGateIdeal.nD → PrngReg), Pre_ReferenceGateIdeal m →
    θ_run (Cert.ReferenceGateIdeal.defs (F := Ideal)) (onTc (τ := Cert.ReferenceGateIdeal.τ) (Cert.ReferenceGateIdeal.main (F := Ideal))) ⟨m, fun _ => 0, g⟩ (fun r => (∀ c : Dev Cert.ReferenceGateIdeal.nD,
      r.2.mem ((c.tc : Thread Cert.ReferenceGateIdeal.nD Cert.ReferenceGateIdeal.τ).loc Cert.ReferenceGateIdeal.main_arg0) = m ((c.tc : Thread Cert.ReferenceGateIdeal.nD Cert.ReferenceGateIdeal.τ).loc Cert.ReferenceGateIdeal.main_arg0)
      ∧ r.2.mem ((c.tc : Thread Cert.ReferenceGateIdeal.nD Cert.ReferenceGateIdeal.τ).loc Cert.ReferenceGateIdeal.main_arg1) = m ((c.tc : Thread Cert.ReferenceGateIdeal.nD Cert.ReferenceGateIdeal.τ).loc Cert.ReferenceGateIdeal.main_arg1)
      ∧ r.2.mem ((c.tc : Thread Cert.ReferenceGateIdeal.nD Cert.ReferenceGateIdeal.τ).loc Cert.ReferenceGateIdeal.main_arg2) = m ((c.tc : Thread Cert.ReferenceGateIdeal.nD Cert.ReferenceGateIdeal.τ).loc Cert.ReferenceGateIdeal.main_arg2)
      ∧ r.2.mem ((c.tc : Thread Cert.ReferenceGateIdeal.nD Cert.ReferenceGateIdeal.τ).loc Cert.ReferenceGateIdeal.main_arg3) = m ((c.tc : Thread Cert.ReferenceGateIdeal.nD Cert.ReferenceGateIdeal.τ).loc Cert.ReferenceGateIdeal.main_arg3)
      ∧ r.2.mem ((c.tc : Thread Cert.ReferenceGateIdeal.nD Cert.ReferenceGateIdeal.τ).loc Cert.ReferenceGateIdeal.main_arg4) = m ((c.tc : Thread Cert.ReferenceGateIdeal.nD Cert.ReferenceGateIdeal.τ).loc Cert.ReferenceGateIdeal.main_arg4)
      ∧ r.2.mem ((c.tc : Thread Cert.ReferenceGateIdeal.nD Cert.ReferenceGateIdeal.τ).loc Cert.ReferenceGateIdeal.main_arg5) = m ((c.tc : Thread Cert.ReferenceGateIdeal.nD Cert.ReferenceGateIdeal.τ).loc Cert.ReferenceGateIdeal.main_arg5)
      ∧ r.2.mem ((c.tc : Thread Cert.ReferenceGateIdeal.nD Cert.ReferenceGateIdeal.τ).loc Cert.ReferenceGateIdeal.main_arg6) = m ((c.tc : Thread Cert.ReferenceGateIdeal.nD Cert.ReferenceGateIdeal.τ).loc Cert.ReferenceGateIdeal.main_arg6)
      ∧ r.2.mem ((c.tc : Thread Cert.ReferenceGateIdeal.nD Cert.ReferenceGateIdeal.τ).loc Cert.ReferenceGateIdeal.main_arg7) = m ((c.tc : Thread Cert.ReferenceGateIdeal.nD Cert.ReferenceGateIdeal.τ).loc Cert.ReferenceGateIdeal.main_arg7))
      ∧ r.2.sem = fun _ => 0)

def quiescent_KernelRgWIn [hKernelRgWIn : Cert.KernelRgWIn.Facts] : Prop :=
  ∀ (m : (ℓ : Loc Cert.KernelRgWIn.nD Cert.KernelRgWIn.τ Cert.KernelRgWIn.sig) → Buf (Elt Bits) ℓ) (g : Dev Cert.KernelRgWIn.nD → PrngReg), Pre_KernelRgWIn m →
    θ_run (Cert.KernelRgWIn.defs (F := Bits)) (onTc (τ := Cert.KernelRgWIn.τ) (Cert.KernelRgWIn.main (F := Bits))) ⟨m, fun _ => 0, g⟩ (fun r => (∀ c : Dev Cert.KernelRgWIn.nD,
      r.2.mem ((c.tc : Thread Cert.KernelRgWIn.nD Cert.KernelRgWIn.τ).loc Cert.KernelRgWIn.main_arg0) = m ((c.tc : Thread Cert.KernelRgWIn.nD Cert.KernelRgWIn.τ).loc Cert.KernelRgWIn.main_arg0)
      ∧ r.2.mem ((c.tc : Thread Cert.KernelRgWIn.nD Cert.KernelRgWIn.τ).loc Cert.KernelRgWIn.main_arg1) = m ((c.tc : Thread Cert.KernelRgWIn.nD Cert.KernelRgWIn.τ).loc Cert.KernelRgWIn.main_arg1)
      ∧ r.2.mem ((c.tc : Thread Cert.KernelRgWIn.nD Cert.KernelRgWIn.τ).loc Cert.KernelRgWIn.main_arg2) = m ((c.tc : Thread Cert.KernelRgWIn.nD Cert.KernelRgWIn.τ).loc Cert.KernelRgWIn.main_arg2)
      ∧ r.2.mem ((c.tc : Thread Cert.KernelRgWIn.nD Cert.KernelRgWIn.τ).loc Cert.KernelRgWIn.main_arg3) = m ((c.tc : Thread Cert.KernelRgWIn.nD Cert.KernelRgWIn.τ).loc Cert.KernelRgWIn.main_arg3)
      ∧ r.2.mem ((c.tc : Thread Cert.KernelRgWIn.nD Cert.KernelRgWIn.τ).loc Cert.KernelRgWIn.main_arg4) = m ((c.tc : Thread Cert.KernelRgWIn.nD Cert.KernelRgWIn.τ).loc Cert.KernelRgWIn.main_arg4)
      ∧ r.2.mem ((c.tc : Thread Cert.KernelRgWIn.nD Cert.KernelRgWIn.τ).loc Cert.KernelRgWIn.main_arg5) = m ((c.tc : Thread Cert.KernelRgWIn.nD Cert.KernelRgWIn.τ).loc Cert.KernelRgWIn.main_arg5)
      ∧ r.2.mem ((c.tc : Thread Cert.KernelRgWIn.nD Cert.KernelRgWIn.τ).loc Cert.KernelRgWIn.main_arg6) = m ((c.tc : Thread Cert.KernelRgWIn.nD Cert.KernelRgWIn.τ).loc Cert.KernelRgWIn.main_arg6)
      ∧ r.2.mem ((c.tc : Thread Cert.KernelRgWIn.nD Cert.KernelRgWIn.τ).loc Cert.KernelRgWIn.main_arg7) = m ((c.tc : Thread Cert.KernelRgWIn.nD Cert.KernelRgWIn.τ).loc Cert.KernelRgWIn.main_arg7))
      ∧ r.2.sem = fun _ => 0)

def quiescent_KernelRgWInIdeal [hKernelRgWInIdeal : Cert.KernelRgWInIdeal.Facts] : Prop :=
  ∀ (m : (ℓ : Loc Cert.KernelRgWInIdeal.nD Cert.KernelRgWInIdeal.τ Cert.KernelRgWInIdeal.sig) → Buf (Elt Ideal) ℓ) (g : Dev Cert.KernelRgWInIdeal.nD → PrngReg), Pre_KernelRgWInIdeal m →
    θ_run (Cert.KernelRgWInIdeal.defs (F := Ideal)) (onTc (τ := Cert.KernelRgWInIdeal.τ) (Cert.KernelRgWInIdeal.main (F := Ideal))) ⟨m, fun _ => 0, g⟩ (fun r => (∀ c : Dev Cert.KernelRgWInIdeal.nD,
      r.2.mem ((c.tc : Thread Cert.KernelRgWInIdeal.nD Cert.KernelRgWInIdeal.τ).loc Cert.KernelRgWInIdeal.main_arg0) = m ((c.tc : Thread Cert.KernelRgWInIdeal.nD Cert.KernelRgWInIdeal.τ).loc Cert.KernelRgWInIdeal.main_arg0)
      ∧ r.2.mem ((c.tc : Thread Cert.KernelRgWInIdeal.nD Cert.KernelRgWInIdeal.τ).loc Cert.KernelRgWInIdeal.main_arg1) = m ((c.tc : Thread Cert.KernelRgWInIdeal.nD Cert.KernelRgWInIdeal.τ).loc Cert.KernelRgWInIdeal.main_arg1)
      ∧ r.2.mem ((c.tc : Thread Cert.KernelRgWInIdeal.nD Cert.KernelRgWInIdeal.τ).loc Cert.KernelRgWInIdeal.main_arg2) = m ((c.tc : Thread Cert.KernelRgWInIdeal.nD Cert.KernelRgWInIdeal.τ).loc Cert.KernelRgWInIdeal.main_arg2)
      ∧ r.2.mem ((c.tc : Thread Cert.KernelRgWInIdeal.nD Cert.KernelRgWInIdeal.τ).loc Cert.KernelRgWInIdeal.main_arg3) = m ((c.tc : Thread Cert.KernelRgWInIdeal.nD Cert.KernelRgWInIdeal.τ).loc Cert.KernelRgWInIdeal.main_arg3)
      ∧ r.2.mem ((c.tc : Thread Cert.KernelRgWInIdeal.nD Cert.KernelRgWInIdeal.τ).loc Cert.KernelRgWInIdeal.main_arg4) = m ((c.tc : Thread Cert.KernelRgWInIdeal.nD Cert.KernelRgWInIdeal.τ).loc Cert.KernelRgWInIdeal.main_arg4)
      ∧ r.2.mem ((c.tc : Thread Cert.KernelRgWInIdeal.nD Cert.KernelRgWInIdeal.τ).loc Cert.KernelRgWInIdeal.main_arg5) = m ((c.tc : Thread Cert.KernelRgWInIdeal.nD Cert.KernelRgWInIdeal.τ).loc Cert.KernelRgWInIdeal.main_arg5)
      ∧ r.2.mem ((c.tc : Thread Cert.KernelRgWInIdeal.nD Cert.KernelRgWInIdeal.τ).loc Cert.KernelRgWInIdeal.main_arg6) = m ((c.tc : Thread Cert.KernelRgWInIdeal.nD Cert.KernelRgWInIdeal.τ).loc Cert.KernelRgWInIdeal.main_arg6)
      ∧ r.2.mem ((c.tc : Thread Cert.KernelRgWInIdeal.nD Cert.KernelRgWInIdeal.τ).loc Cert.KernelRgWInIdeal.main_arg7) = m ((c.tc : Thread Cert.KernelRgWInIdeal.nD Cert.KernelRgWInIdeal.τ).loc Cert.KernelRgWInIdeal.main_arg7))
      ∧ r.2.sem = fun _ => 0)

def quiescent_ReferenceRgWInIdeal [hReferenceRgWInIdeal : Cert.ReferenceRgWInIdeal.Facts] : Prop :=
  ∀ (m : (ℓ : Loc Cert.ReferenceRgWInIdeal.nD Cert.ReferenceRgWInIdeal.τ Cert.ReferenceRgWInIdeal.sig) → Buf (Elt Ideal) ℓ) (g : Dev Cert.ReferenceRgWInIdeal.nD → PrngReg), Pre_ReferenceRgWInIdeal m →
    θ_run (Cert.ReferenceRgWInIdeal.defs (F := Ideal)) (onTc (τ := Cert.ReferenceRgWInIdeal.τ) (Cert.ReferenceRgWInIdeal.main (F := Ideal))) ⟨m, fun _ => 0, g⟩ (fun r => (∀ c : Dev Cert.ReferenceRgWInIdeal.nD,
      r.2.mem ((c.tc : Thread Cert.ReferenceRgWInIdeal.nD Cert.ReferenceRgWInIdeal.τ).loc Cert.ReferenceRgWInIdeal.main_arg0) = m ((c.tc : Thread Cert.ReferenceRgWInIdeal.nD Cert.ReferenceRgWInIdeal.τ).loc Cert.ReferenceRgWInIdeal.main_arg0)
      ∧ r.2.mem ((c.tc : Thread Cert.ReferenceRgWInIdeal.nD Cert.ReferenceRgWInIdeal.τ).loc Cert.ReferenceRgWInIdeal.main_arg1) = m ((c.tc : Thread Cert.ReferenceRgWInIdeal.nD Cert.ReferenceRgWInIdeal.τ).loc Cert.ReferenceRgWInIdeal.main_arg1)
      ∧ r.2.mem ((c.tc : Thread Cert.ReferenceRgWInIdeal.nD Cert.ReferenceRgWInIdeal.τ).loc Cert.ReferenceRgWInIdeal.main_arg2) = m ((c.tc : Thread Cert.ReferenceRgWInIdeal.nD Cert.ReferenceRgWInIdeal.τ).loc Cert.ReferenceRgWInIdeal.main_arg2)
      ∧ r.2.mem ((c.tc : Thread Cert.ReferenceRgWInIdeal.nD Cert.ReferenceRgWInIdeal.τ).loc Cert.ReferenceRgWInIdeal.main_arg3) = m ((c.tc : Thread Cert.ReferenceRgWInIdeal.nD Cert.ReferenceRgWInIdeal.τ).loc Cert.ReferenceRgWInIdeal.main_arg3)
      ∧ r.2.mem ((c.tc : Thread Cert.ReferenceRgWInIdeal.nD Cert.ReferenceRgWInIdeal.τ).loc Cert.ReferenceRgWInIdeal.main_arg4) = m ((c.tc : Thread Cert.ReferenceRgWInIdeal.nD Cert.ReferenceRgWInIdeal.τ).loc Cert.ReferenceRgWInIdeal.main_arg4)
      ∧ r.2.mem ((c.tc : Thread Cert.ReferenceRgWInIdeal.nD Cert.ReferenceRgWInIdeal.τ).loc Cert.ReferenceRgWInIdeal.main_arg5) = m ((c.tc : Thread Cert.ReferenceRgWInIdeal.nD Cert.ReferenceRgWInIdeal.τ).loc Cert.ReferenceRgWInIdeal.main_arg5)
      ∧ r.2.mem ((c.tc : Thread Cert.ReferenceRgWInIdeal.nD Cert.ReferenceRgWInIdeal.τ).loc Cert.ReferenceRgWInIdeal.main_arg6) = m ((c.tc : Thread Cert.ReferenceRgWInIdeal.nD Cert.ReferenceRgWInIdeal.τ).loc Cert.ReferenceRgWInIdeal.main_arg6)
      ∧ r.2.mem ((c.tc : Thread Cert.ReferenceRgWInIdeal.nD Cert.ReferenceRgWInIdeal.τ).loc Cert.ReferenceRgWInIdeal.main_arg7) = m ((c.tc : Thread Cert.ReferenceRgWInIdeal.nD Cert.ReferenceRgWInIdeal.τ).loc Cert.ReferenceRgWInIdeal.main_arg7))
      ∧ r.2.sem = fun _ => 0)

def quiescent_KernelWOut [hKernelWOut : Cert.KernelWOut.Facts] : Prop :=
  ∀ (m : (ℓ : Loc Cert.KernelWOut.nD Cert.KernelWOut.τ Cert.KernelWOut.sig) → Buf (Elt Bits) ℓ) (g : Dev Cert.KernelWOut.nD → PrngReg), Pre_KernelWOut m →
    θ_run (Cert.KernelWOut.defs (F := Bits)) (onTc (τ := Cert.KernelWOut.τ) (Cert.KernelWOut.main (F := Bits))) ⟨m, fun _ => 0, g⟩ (fun r => (∀ c : Dev Cert.KernelWOut.nD,
      r.2.mem ((c.tc : Thread Cert.KernelWOut.nD Cert.KernelWOut.τ).loc Cert.KernelWOut.main_arg0) = m ((c.tc : Thread Cert.KernelWOut.nD Cert.KernelWOut.τ).loc Cert.KernelWOut.main_arg0)
      ∧ r.2.mem ((c.tc : Thread Cert.KernelWOut.nD Cert.KernelWOut.τ).loc Cert.KernelWOut.main_arg1) = m ((c.tc : Thread Cert.KernelWOut.nD Cert.KernelWOut.τ).loc Cert.KernelWOut.main_arg1)
      ∧ r.2.mem ((c.tc : Thread Cert.KernelWOut.nD Cert.KernelWOut.τ).loc Cert.KernelWOut.main_arg2) = m ((c.tc : Thread Cert.KernelWOut.nD Cert.KernelWOut.τ).loc Cert.KernelWOut.main_arg2)
      ∧ r.2.mem ((c.tc : Thread Cert.KernelWOut.nD Cert.KernelWOut.τ).loc Cert.KernelWOut.main_arg3) = m ((c.tc : Thread Cert.KernelWOut.nD Cert.KernelWOut.τ).loc Cert.KernelWOut.main_arg3)
      ∧ r.2.mem ((c.tc : Thread Cert.KernelWOut.nD Cert.KernelWOut.τ).loc Cert.KernelWOut.main_arg4) = m ((c.tc : Thread Cert.KernelWOut.nD Cert.KernelWOut.τ).loc Cert.KernelWOut.main_arg4)
      ∧ r.2.mem ((c.tc : Thread Cert.KernelWOut.nD Cert.KernelWOut.τ).loc Cert.KernelWOut.main_arg5) = m ((c.tc : Thread Cert.KernelWOut.nD Cert.KernelWOut.τ).loc Cert.KernelWOut.main_arg5)
      ∧ r.2.mem ((c.tc : Thread Cert.KernelWOut.nD Cert.KernelWOut.τ).loc Cert.KernelWOut.main_arg6) = m ((c.tc : Thread Cert.KernelWOut.nD Cert.KernelWOut.τ).loc Cert.KernelWOut.main_arg6)
      ∧ r.2.mem ((c.tc : Thread Cert.KernelWOut.nD Cert.KernelWOut.τ).loc Cert.KernelWOut.main_arg7) = m ((c.tc : Thread Cert.KernelWOut.nD Cert.KernelWOut.τ).loc Cert.KernelWOut.main_arg7))
      ∧ r.2.sem = fun _ => 0)

def quiescent_KernelWOutIdeal [hKernelWOutIdeal : Cert.KernelWOutIdeal.Facts] : Prop :=
  ∀ (m : (ℓ : Loc Cert.KernelWOutIdeal.nD Cert.KernelWOutIdeal.τ Cert.KernelWOutIdeal.sig) → Buf (Elt Ideal) ℓ) (g : Dev Cert.KernelWOutIdeal.nD → PrngReg), Pre_KernelWOutIdeal m →
    θ_run (Cert.KernelWOutIdeal.defs (F := Ideal)) (onTc (τ := Cert.KernelWOutIdeal.τ) (Cert.KernelWOutIdeal.main (F := Ideal))) ⟨m, fun _ => 0, g⟩ (fun r => (∀ c : Dev Cert.KernelWOutIdeal.nD,
      r.2.mem ((c.tc : Thread Cert.KernelWOutIdeal.nD Cert.KernelWOutIdeal.τ).loc Cert.KernelWOutIdeal.main_arg0) = m ((c.tc : Thread Cert.KernelWOutIdeal.nD Cert.KernelWOutIdeal.τ).loc Cert.KernelWOutIdeal.main_arg0)
      ∧ r.2.mem ((c.tc : Thread Cert.KernelWOutIdeal.nD Cert.KernelWOutIdeal.τ).loc Cert.KernelWOutIdeal.main_arg1) = m ((c.tc : Thread Cert.KernelWOutIdeal.nD Cert.KernelWOutIdeal.τ).loc Cert.KernelWOutIdeal.main_arg1)
      ∧ r.2.mem ((c.tc : Thread Cert.KernelWOutIdeal.nD Cert.KernelWOutIdeal.τ).loc Cert.KernelWOutIdeal.main_arg2) = m ((c.tc : Thread Cert.KernelWOutIdeal.nD Cert.KernelWOutIdeal.τ).loc Cert.KernelWOutIdeal.main_arg2)
      ∧ r.2.mem ((c.tc : Thread Cert.KernelWOutIdeal.nD Cert.KernelWOutIdeal.τ).loc Cert.KernelWOutIdeal.main_arg3) = m ((c.tc : Thread Cert.KernelWOutIdeal.nD Cert.KernelWOutIdeal.τ).loc Cert.KernelWOutIdeal.main_arg3)
      ∧ r.2.mem ((c.tc : Thread Cert.KernelWOutIdeal.nD Cert.KernelWOutIdeal.τ).loc Cert.KernelWOutIdeal.main_arg4) = m ((c.tc : Thread Cert.KernelWOutIdeal.nD Cert.KernelWOutIdeal.τ).loc Cert.KernelWOutIdeal.main_arg4)
      ∧ r.2.mem ((c.tc : Thread Cert.KernelWOutIdeal.nD Cert.KernelWOutIdeal.τ).loc Cert.KernelWOutIdeal.main_arg5) = m ((c.tc : Thread Cert.KernelWOutIdeal.nD Cert.KernelWOutIdeal.τ).loc Cert.KernelWOutIdeal.main_arg5)
      ∧ r.2.mem ((c.tc : Thread Cert.KernelWOutIdeal.nD Cert.KernelWOutIdeal.τ).loc Cert.KernelWOutIdeal.main_arg6) = m ((c.tc : Thread Cert.KernelWOutIdeal.nD Cert.KernelWOutIdeal.τ).loc Cert.KernelWOutIdeal.main_arg6)
      ∧ r.2.mem ((c.tc : Thread Cert.KernelWOutIdeal.nD Cert.KernelWOutIdeal.τ).loc Cert.KernelWOutIdeal.main_arg7) = m ((c.tc : Thread Cert.KernelWOutIdeal.nD Cert.KernelWOutIdeal.τ).loc Cert.KernelWOutIdeal.main_arg7))
      ∧ r.2.sem = fun _ => 0)

def quiescent_ReferenceWOutIdeal [hReferenceWOutIdeal : Cert.ReferenceWOutIdeal.Facts] : Prop :=
  ∀ (m : (ℓ : Loc Cert.ReferenceWOutIdeal.nD Cert.ReferenceWOutIdeal.τ Cert.ReferenceWOutIdeal.sig) → Buf (Elt Ideal) ℓ) (g : Dev Cert.ReferenceWOutIdeal.nD → PrngReg), Pre_ReferenceWOutIdeal m →
    θ_run (Cert.ReferenceWOutIdeal.defs (F := Ideal)) (onTc (τ := Cert.ReferenceWOutIdeal.τ) (Cert.ReferenceWOutIdeal.main (F := Ideal))) ⟨m, fun _ => 0, g⟩ (fun r => (∀ c : Dev Cert.ReferenceWOutIdeal.nD,
      r.2.mem ((c.tc : Thread Cert.ReferenceWOutIdeal.nD Cert.ReferenceWOutIdeal.τ).loc Cert.ReferenceWOutIdeal.main_arg0) = m ((c.tc : Thread Cert.ReferenceWOutIdeal.nD Cert.ReferenceWOutIdeal.τ).loc Cert.ReferenceWOutIdeal.main_arg0)
      ∧ r.2.mem ((c.tc : Thread Cert.ReferenceWOutIdeal.nD Cert.ReferenceWOutIdeal.τ).loc Cert.ReferenceWOutIdeal.main_arg1) = m ((c.tc : Thread Cert.ReferenceWOutIdeal.nD Cert.ReferenceWOutIdeal.τ).loc Cert.ReferenceWOutIdeal.main_arg1)
      ∧ r.2.mem ((c.tc : Thread Cert.ReferenceWOutIdeal.nD Cert.ReferenceWOutIdeal.τ).loc Cert.ReferenceWOutIdeal.main_arg2) = m ((c.tc : Thread Cert.ReferenceWOutIdeal.nD Cert.ReferenceWOutIdeal.τ).loc Cert.ReferenceWOutIdeal.main_arg2)
      ∧ r.2.mem ((c.tc : Thread Cert.ReferenceWOutIdeal.nD Cert.ReferenceWOutIdeal.τ).loc Cert.ReferenceWOutIdeal.main_arg3) = m ((c.tc : Thread Cert.ReferenceWOutIdeal.nD Cert.ReferenceWOutIdeal.τ).loc Cert.ReferenceWOutIdeal.main_arg3)
      ∧ r.2.mem ((c.tc : Thread Cert.ReferenceWOutIdeal.nD Cert.ReferenceWOutIdeal.τ).loc Cert.ReferenceWOutIdeal.main_arg4) = m ((c.tc : Thread Cert.ReferenceWOutIdeal.nD Cert.ReferenceWOutIdeal.τ).loc Cert.ReferenceWOutIdeal.main_arg4)
      ∧ r.2.mem ((c.tc : Thread Cert.ReferenceWOutIdeal.nD Cert.ReferenceWOutIdeal.τ).loc Cert.ReferenceWOutIdeal.main_arg5) = m ((c.tc : Thread Cert.ReferenceWOutIdeal.nD Cert.ReferenceWOutIdeal.τ).loc Cert.ReferenceWOutIdeal.main_arg5)
      ∧ r.2.mem ((c.tc : Thread Cert.ReferenceWOutIdeal.nD Cert.ReferenceWOutIdeal.τ).loc Cert.ReferenceWOutIdeal.main_arg6) = m ((c.tc : Thread Cert.ReferenceWOutIdeal.nD Cert.ReferenceWOutIdeal.τ).loc Cert.ReferenceWOutIdeal.main_arg6)
      ∧ r.2.mem ((c.tc : Thread Cert.ReferenceWOutIdeal.nD Cert.ReferenceWOutIdeal.τ).loc Cert.ReferenceWOutIdeal.main_arg7) = m ((c.tc : Thread Cert.ReferenceWOutIdeal.nD Cert.ReferenceWOutIdeal.τ).loc Cert.ReferenceWOutIdeal.main_arg7))
      ∧ r.2.sem = fun _ => 0)

def quiescent_KernelHgWIn [hKernelHgWIn : Cert.KernelHgWIn.Facts] : Prop :=
  ∀ (m : (ℓ : Loc Cert.KernelHgWIn.nD Cert.KernelHgWIn.τ Cert.KernelHgWIn.sig) → Buf (Elt Bits) ℓ) (g : Dev Cert.KernelHgWIn.nD → PrngReg), Pre_KernelHgWIn m →
    θ_run (Cert.KernelHgWIn.defs (F := Bits)) (onTc (τ := Cert.KernelHgWIn.τ) (Cert.KernelHgWIn.main (F := Bits))) ⟨m, fun _ => 0, g⟩ (fun r => (∀ c : Dev Cert.KernelHgWIn.nD,
      r.2.mem ((c.tc : Thread Cert.KernelHgWIn.nD Cert.KernelHgWIn.τ).loc Cert.KernelHgWIn.main_arg0) = m ((c.tc : Thread Cert.KernelHgWIn.nD Cert.KernelHgWIn.τ).loc Cert.KernelHgWIn.main_arg0)
      ∧ r.2.mem ((c.tc : Thread Cert.KernelHgWIn.nD Cert.KernelHgWIn.τ).loc Cert.KernelHgWIn.main_arg1) = m ((c.tc : Thread Cert.KernelHgWIn.nD Cert.KernelHgWIn.τ).loc Cert.KernelHgWIn.main_arg1)
      ∧ r.2.mem ((c.tc : Thread Cert.KernelHgWIn.nD Cert.KernelHgWIn.τ).loc Cert.KernelHgWIn.main_arg2) = m ((c.tc : Thread Cert.KernelHgWIn.nD Cert.KernelHgWIn.τ).loc Cert.KernelHgWIn.main_arg2)
      ∧ r.2.mem ((c.tc : Thread Cert.KernelHgWIn.nD Cert.KernelHgWIn.τ).loc Cert.KernelHgWIn.main_arg3) = m ((c.tc : Thread Cert.KernelHgWIn.nD Cert.KernelHgWIn.τ).loc Cert.KernelHgWIn.main_arg3)
      ∧ r.2.mem ((c.tc : Thread Cert.KernelHgWIn.nD Cert.KernelHgWIn.τ).loc Cert.KernelHgWIn.main_arg4) = m ((c.tc : Thread Cert.KernelHgWIn.nD Cert.KernelHgWIn.τ).loc Cert.KernelHgWIn.main_arg4)
      ∧ r.2.mem ((c.tc : Thread Cert.KernelHgWIn.nD Cert.KernelHgWIn.τ).loc Cert.KernelHgWIn.main_arg5) = m ((c.tc : Thread Cert.KernelHgWIn.nD Cert.KernelHgWIn.τ).loc Cert.KernelHgWIn.main_arg5)
      ∧ r.2.mem ((c.tc : Thread Cert.KernelHgWIn.nD Cert.KernelHgWIn.τ).loc Cert.KernelHgWIn.main_arg6) = m ((c.tc : Thread Cert.KernelHgWIn.nD Cert.KernelHgWIn.τ).loc Cert.KernelHgWIn.main_arg6)
      ∧ r.2.mem ((c.tc : Thread Cert.KernelHgWIn.nD Cert.KernelHgWIn.τ).loc Cert.KernelHgWIn.main_arg7) = m ((c.tc : Thread Cert.KernelHgWIn.nD Cert.KernelHgWIn.τ).loc Cert.KernelHgWIn.main_arg7))
      ∧ r.2.sem = fun _ => 0)

def quiescent_KernelHgWInIdeal [hKernelHgWInIdeal : Cert.KernelHgWInIdeal.Facts] : Prop :=
  ∀ (m : (ℓ : Loc Cert.KernelHgWInIdeal.nD Cert.KernelHgWInIdeal.τ Cert.KernelHgWInIdeal.sig) → Buf (Elt Ideal) ℓ) (g : Dev Cert.KernelHgWInIdeal.nD → PrngReg), Pre_KernelHgWInIdeal m →
    θ_run (Cert.KernelHgWInIdeal.defs (F := Ideal)) (onTc (τ := Cert.KernelHgWInIdeal.τ) (Cert.KernelHgWInIdeal.main (F := Ideal))) ⟨m, fun _ => 0, g⟩ (fun r => (∀ c : Dev Cert.KernelHgWInIdeal.nD,
      r.2.mem ((c.tc : Thread Cert.KernelHgWInIdeal.nD Cert.KernelHgWInIdeal.τ).loc Cert.KernelHgWInIdeal.main_arg0) = m ((c.tc : Thread Cert.KernelHgWInIdeal.nD Cert.KernelHgWInIdeal.τ).loc Cert.KernelHgWInIdeal.main_arg0)
      ∧ r.2.mem ((c.tc : Thread Cert.KernelHgWInIdeal.nD Cert.KernelHgWInIdeal.τ).loc Cert.KernelHgWInIdeal.main_arg1) = m ((c.tc : Thread Cert.KernelHgWInIdeal.nD Cert.KernelHgWInIdeal.τ).loc Cert.KernelHgWInIdeal.main_arg1)
      ∧ r.2.mem ((c.tc : Thread Cert.KernelHgWInIdeal.nD Cert.KernelHgWInIdeal.τ).loc Cert.KernelHgWInIdeal.main_arg2) = m ((c.tc : Thread Cert.KernelHgWInIdeal.nD Cert.KernelHgWInIdeal.τ).loc Cert.KernelHgWInIdeal.main_arg2)
      ∧ r.2.mem ((c.tc : Thread Cert.KernelHgWInIdeal.nD Cert.KernelHgWInIdeal.τ).loc Cert.KernelHgWInIdeal.main_arg3) = m ((c.tc : Thread Cert.KernelHgWInIdeal.nD Cert.KernelHgWInIdeal.τ).loc Cert.KernelHgWInIdeal.main_arg3)
      ∧ r.2.mem ((c.tc : Thread Cert.KernelHgWInIdeal.nD Cert.KernelHgWInIdeal.τ).loc Cert.KernelHgWInIdeal.main_arg4) = m ((c.tc : Thread Cert.KernelHgWInIdeal.nD Cert.KernelHgWInIdeal.τ).loc Cert.KernelHgWInIdeal.main_arg4)
      ∧ r.2.mem ((c.tc : Thread Cert.KernelHgWInIdeal.nD Cert.KernelHgWInIdeal.τ).loc Cert.KernelHgWInIdeal.main_arg5) = m ((c.tc : Thread Cert.KernelHgWInIdeal.nD Cert.KernelHgWInIdeal.τ).loc Cert.KernelHgWInIdeal.main_arg5)
      ∧ r.2.mem ((c.tc : Thread Cert.KernelHgWInIdeal.nD Cert.KernelHgWInIdeal.τ).loc Cert.KernelHgWInIdeal.main_arg6) = m ((c.tc : Thread Cert.KernelHgWInIdeal.nD Cert.KernelHgWInIdeal.τ).loc Cert.KernelHgWInIdeal.main_arg6)
      ∧ r.2.mem ((c.tc : Thread Cert.KernelHgWInIdeal.nD Cert.KernelHgWInIdeal.τ).loc Cert.KernelHgWInIdeal.main_arg7) = m ((c.tc : Thread Cert.KernelHgWInIdeal.nD Cert.KernelHgWInIdeal.τ).loc Cert.KernelHgWInIdeal.main_arg7))
      ∧ r.2.sem = fun _ => 0)

def quiescent_ReferenceHgWInIdeal [hReferenceHgWInIdeal : Cert.ReferenceHgWInIdeal.Facts] : Prop :=
  ∀ (m : (ℓ : Loc Cert.ReferenceHgWInIdeal.nD Cert.ReferenceHgWInIdeal.τ Cert.ReferenceHgWInIdeal.sig) → Buf (Elt Ideal) ℓ) (g : Dev Cert.ReferenceHgWInIdeal.nD → PrngReg), Pre_ReferenceHgWInIdeal m →
    θ_run (Cert.ReferenceHgWInIdeal.defs (F := Ideal)) (onTc (τ := Cert.ReferenceHgWInIdeal.τ) (Cert.ReferenceHgWInIdeal.main (F := Ideal))) ⟨m, fun _ => 0, g⟩ (fun r => (∀ c : Dev Cert.ReferenceHgWInIdeal.nD,
      r.2.mem ((c.tc : Thread Cert.ReferenceHgWInIdeal.nD Cert.ReferenceHgWInIdeal.τ).loc Cert.ReferenceHgWInIdeal.main_arg0) = m ((c.tc : Thread Cert.ReferenceHgWInIdeal.nD Cert.ReferenceHgWInIdeal.τ).loc Cert.ReferenceHgWInIdeal.main_arg0)
      ∧ r.2.mem ((c.tc : Thread Cert.ReferenceHgWInIdeal.nD Cert.ReferenceHgWInIdeal.τ).loc Cert.ReferenceHgWInIdeal.main_arg1) = m ((c.tc : Thread Cert.ReferenceHgWInIdeal.nD Cert.ReferenceHgWInIdeal.τ).loc Cert.ReferenceHgWInIdeal.main_arg1)
      ∧ r.2.mem ((c.tc : Thread Cert.ReferenceHgWInIdeal.nD Cert.ReferenceHgWInIdeal.τ).loc Cert.ReferenceHgWInIdeal.main_arg2) = m ((c.tc : Thread Cert.ReferenceHgWInIdeal.nD Cert.ReferenceHgWInIdeal.τ).loc Cert.ReferenceHgWInIdeal.main_arg2)
      ∧ r.2.mem ((c.tc : Thread Cert.ReferenceHgWInIdeal.nD Cert.ReferenceHgWInIdeal.τ).loc Cert.ReferenceHgWInIdeal.main_arg3) = m ((c.tc : Thread Cert.ReferenceHgWInIdeal.nD Cert.ReferenceHgWInIdeal.τ).loc Cert.ReferenceHgWInIdeal.main_arg3)
      ∧ r.2.mem ((c.tc : Thread Cert.ReferenceHgWInIdeal.nD Cert.ReferenceHgWInIdeal.τ).loc Cert.ReferenceHgWInIdeal.main_arg4) = m ((c.tc : Thread Cert.ReferenceHgWInIdeal.nD Cert.ReferenceHgWInIdeal.τ).loc Cert.ReferenceHgWInIdeal.main_arg4)
      ∧ r.2.mem ((c.tc : Thread Cert.ReferenceHgWInIdeal.nD Cert.ReferenceHgWInIdeal.τ).loc Cert.ReferenceHgWInIdeal.main_arg5) = m ((c.tc : Thread Cert.ReferenceHgWInIdeal.nD Cert.ReferenceHgWInIdeal.τ).loc Cert.ReferenceHgWInIdeal.main_arg5)
      ∧ r.2.mem ((c.tc : Thread Cert.ReferenceHgWInIdeal.nD Cert.ReferenceHgWInIdeal.τ).loc Cert.ReferenceHgWInIdeal.main_arg6) = m ((c.tc : Thread Cert.ReferenceHgWInIdeal.nD Cert.ReferenceHgWInIdeal.τ).loc Cert.ReferenceHgWInIdeal.main_arg6)
      ∧ r.2.mem ((c.tc : Thread Cert.ReferenceHgWInIdeal.nD Cert.ReferenceHgWInIdeal.τ).loc Cert.ReferenceHgWInIdeal.main_arg7) = m ((c.tc : Thread Cert.ReferenceHgWInIdeal.nD Cert.ReferenceHgWInIdeal.τ).loc Cert.ReferenceHgWInIdeal.main_arg7))
      ∧ r.2.sem = fun _ => 0)

def quiescent_KernelW1 [hKernelW1 : Cert.KernelW1.Facts] : Prop :=
  ∀ (m : (ℓ : Loc Cert.KernelW1.nD Cert.KernelW1.τ Cert.KernelW1.sig) → Buf (Elt Bits) ℓ) (g : Dev Cert.KernelW1.nD → PrngReg), Pre_KernelW1 m →
    θ_run (Cert.KernelW1.defs (F := Bits)) (onTc (τ := Cert.KernelW1.τ) (Cert.KernelW1.main (F := Bits))) ⟨m, fun _ => 0, g⟩ (fun r => (∀ c : Dev Cert.KernelW1.nD,
      r.2.mem ((c.tc : Thread Cert.KernelW1.nD Cert.KernelW1.τ).loc Cert.KernelW1.main_arg0) = m ((c.tc : Thread Cert.KernelW1.nD Cert.KernelW1.τ).loc Cert.KernelW1.main_arg0)
      ∧ r.2.mem ((c.tc : Thread Cert.KernelW1.nD Cert.KernelW1.τ).loc Cert.KernelW1.main_arg1) = m ((c.tc : Thread Cert.KernelW1.nD Cert.KernelW1.τ).loc Cert.KernelW1.main_arg1)
      ∧ r.2.mem ((c.tc : Thread Cert.KernelW1.nD Cert.KernelW1.τ).loc Cert.KernelW1.main_arg2) = m ((c.tc : Thread Cert.KernelW1.nD Cert.KernelW1.τ).loc Cert.KernelW1.main_arg2)
      ∧ r.2.mem ((c.tc : Thread Cert.KernelW1.nD Cert.KernelW1.τ).loc Cert.KernelW1.main_arg3) = m ((c.tc : Thread Cert.KernelW1.nD Cert.KernelW1.τ).loc Cert.KernelW1.main_arg3)
      ∧ r.2.mem ((c.tc : Thread Cert.KernelW1.nD Cert.KernelW1.τ).loc Cert.KernelW1.main_arg4) = m ((c.tc : Thread Cert.KernelW1.nD Cert.KernelW1.τ).loc Cert.KernelW1.main_arg4)
      ∧ r.2.mem ((c.tc : Thread Cert.KernelW1.nD Cert.KernelW1.τ).loc Cert.KernelW1.main_arg5) = m ((c.tc : Thread Cert.KernelW1.nD Cert.KernelW1.τ).loc Cert.KernelW1.main_arg5)
      ∧ r.2.mem ((c.tc : Thread Cert.KernelW1.nD Cert.KernelW1.τ).loc Cert.KernelW1.main_arg6) = m ((c.tc : Thread Cert.KernelW1.nD Cert.KernelW1.τ).loc Cert.KernelW1.main_arg6)
      ∧ r.2.mem ((c.tc : Thread Cert.KernelW1.nD Cert.KernelW1.τ).loc Cert.KernelW1.main_arg7) = m ((c.tc : Thread Cert.KernelW1.nD Cert.KernelW1.τ).loc Cert.KernelW1.main_arg7))
      ∧ r.2.sem = fun _ => 0)

def quiescent_KernelW1Ideal [hKernelW1Ideal : Cert.KernelW1Ideal.Facts] : Prop :=
  ∀ (m : (ℓ : Loc Cert.KernelW1Ideal.nD Cert.KernelW1Ideal.τ Cert.KernelW1Ideal.sig) → Buf (Elt Ideal) ℓ) (g : Dev Cert.KernelW1Ideal.nD → PrngReg), Pre_KernelW1Ideal m →
    θ_run (Cert.KernelW1Ideal.defs (F := Ideal)) (onTc (τ := Cert.KernelW1Ideal.τ) (Cert.KernelW1Ideal.main (F := Ideal))) ⟨m, fun _ => 0, g⟩ (fun r => (∀ c : Dev Cert.KernelW1Ideal.nD,
      r.2.mem ((c.tc : Thread Cert.KernelW1Ideal.nD Cert.KernelW1Ideal.τ).loc Cert.KernelW1Ideal.main_arg0) = m ((c.tc : Thread Cert.KernelW1Ideal.nD Cert.KernelW1Ideal.τ).loc Cert.KernelW1Ideal.main_arg0)
      ∧ r.2.mem ((c.tc : Thread Cert.KernelW1Ideal.nD Cert.KernelW1Ideal.τ).loc Cert.KernelW1Ideal.main_arg1) = m ((c.tc : Thread Cert.KernelW1Ideal.nD Cert.KernelW1Ideal.τ).loc Cert.KernelW1Ideal.main_arg1)
      ∧ r.2.mem ((c.tc : Thread Cert.KernelW1Ideal.nD Cert.KernelW1Ideal.τ).loc Cert.KernelW1Ideal.main_arg2) = m ((c.tc : Thread Cert.KernelW1Ideal.nD Cert.KernelW1Ideal.τ).loc Cert.KernelW1Ideal.main_arg2)
      ∧ r.2.mem ((c.tc : Thread Cert.KernelW1Ideal.nD Cert.KernelW1Ideal.τ).loc Cert.KernelW1Ideal.main_arg3) = m ((c.tc : Thread Cert.KernelW1Ideal.nD Cert.KernelW1Ideal.τ).loc Cert.KernelW1Ideal.main_arg3)
      ∧ r.2.mem ((c.tc : Thread Cert.KernelW1Ideal.nD Cert.KernelW1Ideal.τ).loc Cert.KernelW1Ideal.main_arg4) = m ((c.tc : Thread Cert.KernelW1Ideal.nD Cert.KernelW1Ideal.τ).loc Cert.KernelW1Ideal.main_arg4)
      ∧ r.2.mem ((c.tc : Thread Cert.KernelW1Ideal.nD Cert.KernelW1Ideal.τ).loc Cert.KernelW1Ideal.main_arg5) = m ((c.tc : Thread Cert.KernelW1Ideal.nD Cert.KernelW1Ideal.τ).loc Cert.KernelW1Ideal.main_arg5)
      ∧ r.2.mem ((c.tc : Thread Cert.KernelW1Ideal.nD Cert.KernelW1Ideal.τ).loc Cert.KernelW1Ideal.main_arg6) = m ((c.tc : Thread Cert.KernelW1Ideal.nD Cert.KernelW1Ideal.τ).loc Cert.KernelW1Ideal.main_arg6)
      ∧ r.2.mem ((c.tc : Thread Cert.KernelW1Ideal.nD Cert.KernelW1Ideal.τ).loc Cert.KernelW1Ideal.main_arg7) = m ((c.tc : Thread Cert.KernelW1Ideal.nD Cert.KernelW1Ideal.τ).loc Cert.KernelW1Ideal.main_arg7))
      ∧ r.2.sem = fun _ => 0)

def quiescent_ReferenceW1Ideal [hReferenceW1Ideal : Cert.ReferenceW1Ideal.Facts] : Prop :=
  ∀ (m : (ℓ : Loc Cert.ReferenceW1Ideal.nD Cert.ReferenceW1Ideal.τ Cert.ReferenceW1Ideal.sig) → Buf (Elt Ideal) ℓ) (g : Dev Cert.ReferenceW1Ideal.nD → PrngReg), Pre_ReferenceW1Ideal m →
    θ_run (Cert.ReferenceW1Ideal.defs (F := Ideal)) (onTc (τ := Cert.ReferenceW1Ideal.τ) (Cert.ReferenceW1Ideal.main (F := Ideal))) ⟨m, fun _ => 0, g⟩ (fun r => (∀ c : Dev Cert.ReferenceW1Ideal.nD,
      r.2.mem ((c.tc : Thread Cert.ReferenceW1Ideal.nD Cert.ReferenceW1Ideal.τ).loc Cert.ReferenceW1Ideal.main_arg0) = m ((c.tc : Thread Cert.ReferenceW1Ideal.nD Cert.ReferenceW1Ideal.τ).loc Cert.ReferenceW1Ideal.main_arg0)
      ∧ r.2.mem ((c.tc : Thread Cert.ReferenceW1Ideal.nD Cert.ReferenceW1Ideal.τ).loc Cert.ReferenceW1Ideal.main_arg1) = m ((c.tc : Thread Cert.ReferenceW1Ideal.nD Cert.ReferenceW1Ideal.τ).loc Cert.ReferenceW1Ideal.main_arg1)
      ∧ r.2.mem ((c.tc : Thread Cert.ReferenceW1Ideal.nD Cert.ReferenceW1Ideal.τ).loc Cert.ReferenceW1Ideal.main_arg2) = m ((c.tc : Thread Cert.ReferenceW1Ideal.nD Cert.ReferenceW1Ideal.τ).loc Cert.ReferenceW1Ideal.main_arg2)
      ∧ r.2.mem ((c.tc : Thread Cert.ReferenceW1Ideal.nD Cert.ReferenceW1Ideal.τ).loc Cert.ReferenceW1Ideal.main_arg3) = m ((c.tc : Thread Cert.ReferenceW1Ideal.nD Cert.ReferenceW1Ideal.τ).loc Cert.ReferenceW1Ideal.main_arg3)
      ∧ r.2.mem ((c.tc : Thread Cert.ReferenceW1Ideal.nD Cert.ReferenceW1Ideal.τ).loc Cert.ReferenceW1Ideal.main_arg4) = m ((c.tc : Thread Cert.ReferenceW1Ideal.nD Cert.ReferenceW1Ideal.τ).loc Cert.ReferenceW1Ideal.main_arg4)
      ∧ r.2.mem ((c.tc : Thread Cert.ReferenceW1Ideal.nD Cert.ReferenceW1Ideal.τ).loc Cert.ReferenceW1Ideal.main_arg5) = m ((c.tc : Thread Cert.ReferenceW1Ideal.nD Cert.ReferenceW1Ideal.τ).loc Cert.ReferenceW1Ideal.main_arg5)
      ∧ r.2.mem ((c.tc : Thread Cert.ReferenceW1Ideal.nD Cert.ReferenceW1Ideal.τ).loc Cert.ReferenceW1Ideal.main_arg6) = m ((c.tc : Thread Cert.ReferenceW1Ideal.nD Cert.ReferenceW1Ideal.τ).loc Cert.ReferenceW1Ideal.main_arg6)
      ∧ r.2.mem ((c.tc : Thread Cert.ReferenceW1Ideal.nD Cert.ReferenceW1Ideal.τ).loc Cert.ReferenceW1Ideal.main_arg7) = m ((c.tc : Thread Cert.ReferenceW1Ideal.nD Cert.ReferenceW1Ideal.τ).loc Cert.ReferenceW1Ideal.main_arg7))
      ∧ r.2.sem = fun _ => 0)

def quiescent_KernelW2 [hKernelW2 : Cert.KernelW2.Facts] : Prop :=
  ∀ (m : (ℓ : Loc Cert.KernelW2.nD Cert.KernelW2.τ Cert.KernelW2.sig) → Buf (Elt Bits) ℓ) (g : Dev Cert.KernelW2.nD → PrngReg), Pre_KernelW2 m →
    θ_run (Cert.KernelW2.defs (F := Bits)) (onTc (τ := Cert.KernelW2.τ) (Cert.KernelW2.main (F := Bits))) ⟨m, fun _ => 0, g⟩ (fun r => (∀ c : Dev Cert.KernelW2.nD,
      r.2.mem ((c.tc : Thread Cert.KernelW2.nD Cert.KernelW2.τ).loc Cert.KernelW2.main_arg0) = m ((c.tc : Thread Cert.KernelW2.nD Cert.KernelW2.τ).loc Cert.KernelW2.main_arg0)
      ∧ r.2.mem ((c.tc : Thread Cert.KernelW2.nD Cert.KernelW2.τ).loc Cert.KernelW2.main_arg1) = m ((c.tc : Thread Cert.KernelW2.nD Cert.KernelW2.τ).loc Cert.KernelW2.main_arg1)
      ∧ r.2.mem ((c.tc : Thread Cert.KernelW2.nD Cert.KernelW2.τ).loc Cert.KernelW2.main_arg2) = m ((c.tc : Thread Cert.KernelW2.nD Cert.KernelW2.τ).loc Cert.KernelW2.main_arg2)
      ∧ r.2.mem ((c.tc : Thread Cert.KernelW2.nD Cert.KernelW2.τ).loc Cert.KernelW2.main_arg3) = m ((c.tc : Thread Cert.KernelW2.nD Cert.KernelW2.τ).loc Cert.KernelW2.main_arg3)
      ∧ r.2.mem ((c.tc : Thread Cert.KernelW2.nD Cert.KernelW2.τ).loc Cert.KernelW2.main_arg4) = m ((c.tc : Thread Cert.KernelW2.nD Cert.KernelW2.τ).loc Cert.KernelW2.main_arg4)
      ∧ r.2.mem ((c.tc : Thread Cert.KernelW2.nD Cert.KernelW2.τ).loc Cert.KernelW2.main_arg5) = m ((c.tc : Thread Cert.KernelW2.nD Cert.KernelW2.τ).loc Cert.KernelW2.main_arg5)
      ∧ r.2.mem ((c.tc : Thread Cert.KernelW2.nD Cert.KernelW2.τ).loc Cert.KernelW2.main_arg6) = m ((c.tc : Thread Cert.KernelW2.nD Cert.KernelW2.τ).loc Cert.KernelW2.main_arg6)
      ∧ r.2.mem ((c.tc : Thread Cert.KernelW2.nD Cert.KernelW2.τ).loc Cert.KernelW2.main_arg7) = m ((c.tc : Thread Cert.KernelW2.nD Cert.KernelW2.τ).loc Cert.KernelW2.main_arg7))
      ∧ r.2.sem = fun _ => 0)

def quiescent_KernelW2Ideal [hKernelW2Ideal : Cert.KernelW2Ideal.Facts] : Prop :=
  ∀ (m : (ℓ : Loc Cert.KernelW2Ideal.nD Cert.KernelW2Ideal.τ Cert.KernelW2Ideal.sig) → Buf (Elt Ideal) ℓ) (g : Dev Cert.KernelW2Ideal.nD → PrngReg), Pre_KernelW2Ideal m →
    θ_run (Cert.KernelW2Ideal.defs (F := Ideal)) (onTc (τ := Cert.KernelW2Ideal.τ) (Cert.KernelW2Ideal.main (F := Ideal))) ⟨m, fun _ => 0, g⟩ (fun r => (∀ c : Dev Cert.KernelW2Ideal.nD,
      r.2.mem ((c.tc : Thread Cert.KernelW2Ideal.nD Cert.KernelW2Ideal.τ).loc Cert.KernelW2Ideal.main_arg0) = m ((c.tc : Thread Cert.KernelW2Ideal.nD Cert.KernelW2Ideal.τ).loc Cert.KernelW2Ideal.main_arg0)
      ∧ r.2.mem ((c.tc : Thread Cert.KernelW2Ideal.nD Cert.KernelW2Ideal.τ).loc Cert.KernelW2Ideal.main_arg1) = m ((c.tc : Thread Cert.KernelW2Ideal.nD Cert.KernelW2Ideal.τ).loc Cert.KernelW2Ideal.main_arg1)
      ∧ r.2.mem ((c.tc : Thread Cert.KernelW2Ideal.nD Cert.KernelW2Ideal.τ).loc Cert.KernelW2Ideal.main_arg2) = m ((c.tc : Thread Cert.KernelW2Ideal.nD Cert.KernelW2Ideal.τ).loc Cert.KernelW2Ideal.main_arg2)
      ∧ r.2.mem ((c.tc : Thread Cert.KernelW2Ideal.nD Cert.KernelW2Ideal.τ).loc Cert.KernelW2Ideal.main_arg3) = m ((c.tc : Thread Cert.KernelW2Ideal.nD Cert.KernelW2Ideal.τ).loc Cert.KernelW2Ideal.main_arg3)
      ∧ r.2.mem ((c.tc : Thread Cert.KernelW2Ideal.nD Cert.KernelW2Ideal.τ).loc Cert.KernelW2Ideal.main_arg4) = m ((c.tc : Thread Cert.KernelW2Ideal.nD Cert.KernelW2Ideal.τ).loc Cert.KernelW2Ideal.main_arg4)
      ∧ r.2.mem ((c.tc : Thread Cert.KernelW2Ideal.nD Cert.KernelW2Ideal.τ).loc Cert.KernelW2Ideal.main_arg5) = m ((c.tc : Thread Cert.KernelW2Ideal.nD Cert.KernelW2Ideal.τ).loc Cert.KernelW2Ideal.main_arg5)
      ∧ r.2.mem ((c.tc : Thread Cert.KernelW2Ideal.nD Cert.KernelW2Ideal.τ).loc Cert.KernelW2Ideal.main_arg6) = m ((c.tc : Thread Cert.KernelW2Ideal.nD Cert.KernelW2Ideal.τ).loc Cert.KernelW2Ideal.main_arg6)
      ∧ r.2.mem ((c.tc : Thread Cert.KernelW2Ideal.nD Cert.KernelW2Ideal.τ).loc Cert.KernelW2Ideal.main_arg7) = m ((c.tc : Thread Cert.KernelW2Ideal.nD Cert.KernelW2Ideal.τ).loc Cert.KernelW2Ideal.main_arg7))
      ∧ r.2.sem = fun _ => 0)

def quiescent_ReferenceW2Ideal [hReferenceW2Ideal : Cert.ReferenceW2Ideal.Facts] : Prop :=
  ∀ (m : (ℓ : Loc Cert.ReferenceW2Ideal.nD Cert.ReferenceW2Ideal.τ Cert.ReferenceW2Ideal.sig) → Buf (Elt Ideal) ℓ) (g : Dev Cert.ReferenceW2Ideal.nD → PrngReg), Pre_ReferenceW2Ideal m →
    θ_run (Cert.ReferenceW2Ideal.defs (F := Ideal)) (onTc (τ := Cert.ReferenceW2Ideal.τ) (Cert.ReferenceW2Ideal.main (F := Ideal))) ⟨m, fun _ => 0, g⟩ (fun r => (∀ c : Dev Cert.ReferenceW2Ideal.nD,
      r.2.mem ((c.tc : Thread Cert.ReferenceW2Ideal.nD Cert.ReferenceW2Ideal.τ).loc Cert.ReferenceW2Ideal.main_arg0) = m ((c.tc : Thread Cert.ReferenceW2Ideal.nD Cert.ReferenceW2Ideal.τ).loc Cert.ReferenceW2Ideal.main_arg0)
      ∧ r.2.mem ((c.tc : Thread Cert.ReferenceW2Ideal.nD Cert.ReferenceW2Ideal.τ).loc Cert.ReferenceW2Ideal.main_arg1) = m ((c.tc : Thread Cert.ReferenceW2Ideal.nD Cert.ReferenceW2Ideal.τ).loc Cert.ReferenceW2Ideal.main_arg1)
      ∧ r.2.mem ((c.tc : Thread Cert.ReferenceW2Ideal.nD Cert.ReferenceW2Ideal.τ).loc Cert.ReferenceW2Ideal.main_arg2) = m ((c.tc : Thread Cert.ReferenceW2Ideal.nD Cert.ReferenceW2Ideal.τ).loc Cert.ReferenceW2Ideal.main_arg2)
      ∧ r.2.mem ((c.tc : Thread Cert.ReferenceW2Ideal.nD Cert.ReferenceW2Ideal.τ).loc Cert.ReferenceW2Ideal.main_arg3) = m ((c.tc : Thread Cert.ReferenceW2Ideal.nD Cert.ReferenceW2Ideal.τ).loc Cert.ReferenceW2Ideal.main_arg3)
      ∧ r.2.mem ((c.tc : Thread Cert.ReferenceW2Ideal.nD Cert.ReferenceW2Ideal.τ).loc Cert.ReferenceW2Ideal.main_arg4) = m ((c.tc : Thread Cert.ReferenceW2Ideal.nD Cert.ReferenceW2Ideal.τ).loc Cert.ReferenceW2Ideal.main_arg4)
      ∧ r.2.mem ((c.tc : Thread Cert.ReferenceW2Ideal.nD Cert.ReferenceW2Ideal.τ).loc Cert.ReferenceW2Ideal.main_arg5) = m ((c.tc : Thread Cert.ReferenceW2Ideal.nD Cert.ReferenceW2Ideal.τ).loc Cert.ReferenceW2Ideal.main_arg5)
      ∧ r.2.mem ((c.tc : Thread Cert.ReferenceW2Ideal.nD Cert.ReferenceW2Ideal.τ).loc Cert.ReferenceW2Ideal.main_arg6) = m ((c.tc : Thread Cert.ReferenceW2Ideal.nD Cert.ReferenceW2Ideal.τ).loc Cert.ReferenceW2Ideal.main_arg6)
      ∧ r.2.mem ((c.tc : Thread Cert.ReferenceW2Ideal.nD Cert.ReferenceW2Ideal.τ).loc Cert.ReferenceW2Ideal.main_arg7) = m ((c.tc : Thread Cert.ReferenceW2Ideal.nD Cert.ReferenceW2Ideal.τ).loc Cert.ReferenceW2Ideal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v45_0)) (v1 : (c : Dev Cert.KernelIdeal.nD) → Buf (Elt Ideal) ((c.tc : Thread Cert.KernelIdeal.nD Cert.KernelIdeal.τ).loc Cert.KernelIdeal.main_v45_1)) (v2 : (c : Dev Cert.KernelIdeal.nD) → Buf (Elt Ideal) ((c.tc : Thread Cert.KernelIdeal.nD Cert.KernelIdeal.τ).loc Cert.KernelIdeal.main_v45_2)) (v3 : (c : Dev Cert.KernelIdeal.nD) → Buf (Elt Ideal) ((c.tc : Thread Cert.KernelIdeal.nD Cert.KernelIdeal.τ).loc Cert.KernelIdeal.main_v45_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45_0) = v0 c
          ∧ r.2.mem ((c.tc : Thread Cert.KernelIdeal.nD Cert.KernelIdeal.τ).loc Cert.KernelIdeal.main_v45_1) = v1 c
          ∧ r.2.mem ((c.tc : Thread Cert.KernelIdeal.nD Cert.KernelIdeal.τ).loc Cert.KernelIdeal.main_v45_2) = v2 c
          ∧ r.2.mem ((c.tc : Thread Cert.KernelIdeal.nD Cert.KernelIdeal.τ).loc Cert.KernelIdeal.main_v45_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_v93) = v2 c
          ∧ r.2.mem ((c.tc : Thread Cert.ReferenceIdeal.nD Cert.ReferenceIdeal.τ).loc Cert.ReferenceIdeal.main_v94) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)
      ∧ m' ((c.tc : Thread Cert.ReferenceInIdeal.nD Cert.ReferenceInIdeal.τ).loc Cert.ReferenceInIdeal.main_arg3) = m ((c.tc : Thread Cert.KernelInIdeal.nD Cert.KernelInIdeal.τ).loc Cert.KernelInIdeal.main_arg3)
      ∧ m' ((c.tc : Thread Cert.ReferenceInIdeal.nD Cert.ReferenceInIdeal.τ).loc Cert.ReferenceInIdeal.main_arg4) = m ((c.tc : Thread Cert.KernelInIdeal.nD Cert.KernelInIdeal.τ).loc Cert.KernelInIdeal.main_arg4)
      ∧ m' ((c.tc : Thread Cert.ReferenceInIdeal.nD Cert.ReferenceInIdeal.τ).loc Cert.ReferenceInIdeal.main_arg5) = m ((c.tc : Thread Cert.KernelInIdeal.nD Cert.KernelInIdeal.τ).loc Cert.KernelInIdeal.main_arg5)) →
    ∃ (v0 : (c : Dev Cert.KernelInIdeal.nD) → Buf (Elt Ideal) ((c.tc : Thread Cert.KernelInIdeal.nD Cert.KernelInIdeal.τ).loc Cert.KernelInIdeal.main_v22)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v22) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
          ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
          ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4)
          ∧ r.2.mem ((c.tc : Thread Cert.KernelInIdeal.nD Cert.KernelInIdeal.τ).loc Cert.KernelInIdeal.main_arg5) = m ((c.tc : Thread Cert.KernelInIdeal.nD Cert.KernelInIdeal.τ).loc Cert.KernelInIdeal.main_arg5))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v27) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2)
          ∧ r.2.mem ((c.tc : Thread Cert.ReferenceInIdeal.nD Cert.ReferenceInIdeal.τ).loc Cert.ReferenceInIdeal.main_arg3) = m' ((c.tc : Thread Cert.ReferenceInIdeal.nD Cert.ReferenceInIdeal.τ).loc Cert.ReferenceInIdeal.main_arg3)
          ∧ r.2.mem ((c.tc : Thread Cert.ReferenceInIdeal.nD Cert.ReferenceInIdeal.τ).loc Cert.ReferenceInIdeal.main_arg4) = m' ((c.tc : Thread Cert.ReferenceInIdeal.nD Cert.ReferenceInIdeal.τ).loc Cert.ReferenceInIdeal.main_arg4)
          ∧ r.2.mem ((c.tc : Thread Cert.ReferenceInIdeal.nD Cert.ReferenceInIdeal.τ).loc Cert.ReferenceInIdeal.main_arg5) = m' ((c.tc : Thread Cert.ReferenceInIdeal.nD Cert.ReferenceInIdeal.τ).loc Cert.ReferenceInIdeal.main_arg5))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)) →
    ∃ (v0 : (c : Dev Cert.KernelOutIdeal.nD) → Buf (Elt Ideal) ((c.tc : Thread Cert.KernelOutIdeal.nD Cert.KernelOutIdeal.τ).loc Cert.KernelOutIdeal.main_v6)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v6) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v10) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3))

def preserves_KernelFwd_KernelFwdIdeal : Prop :=
  True

def algebraic_KernelFwdIdeal_ReferenceFwdIdeal [hKernelFwdIdeal : Cert.KernelFwdIdeal.Facts] [hReferenceFwdIdeal : Cert.ReferenceFwdIdeal.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg)
    (m' : (ℓ : Loc Cert.ReferenceFwdIdeal.nD Cert.ReferenceFwdIdeal.τ Cert.ReferenceFwdIdeal.sig) → Buf (Elt Ideal) ℓ) (g' : Dev Cert.ReferenceFwdIdeal.nD → PrngReg), Pre_KernelFwdIdeal m →
    (∀ c : Dev Cert.KernelFwdIdeal.nD,
      m' ((c.tc : Thread Cert.ReferenceFwdIdeal.nD Cert.ReferenceFwdIdeal.τ).loc Cert.ReferenceFwdIdeal.main_arg0) = m ((c.tc : Thread Cert.KernelFwdIdeal.nD Cert.KernelFwdIdeal.τ).loc Cert.KernelFwdIdeal.main_arg0)
      ∧ m' ((c.tc : Thread Cert.ReferenceFwdIdeal.nD Cert.ReferenceFwdIdeal.τ).loc Cert.ReferenceFwdIdeal.main_arg1) = m ((c.tc : Thread Cert.KernelFwdIdeal.nD Cert.KernelFwdIdeal.τ).loc Cert.KernelFwdIdeal.main_arg1)
      ∧ m' ((c.tc : Thread Cert.ReferenceFwdIdeal.nD Cert.ReferenceFwdIdeal.τ).loc Cert.ReferenceFwdIdeal.main_arg2) = m ((c.tc : Thread Cert.KernelFwdIdeal.nD Cert.KernelFwdIdeal.τ).loc Cert.KernelFwdIdeal.main_arg2)
      ∧ m' ((c.tc : Thread Cert.ReferenceFwdIdeal.nD Cert.ReferenceFwdIdeal.τ).loc Cert.ReferenceFwdIdeal.main_arg3) = m ((c.tc : Thread Cert.KernelFwdIdeal.nD Cert.KernelFwdIdeal.τ).loc Cert.KernelFwdIdeal.main_arg3)
      ∧ m' ((c.tc : Thread Cert.ReferenceFwdIdeal.nD Cert.ReferenceFwdIdeal.τ).loc Cert.ReferenceFwdIdeal.main_arg4) = m ((c.tc : Thread Cert.KernelFwdIdeal.nD Cert.KernelFwdIdeal.τ).loc Cert.KernelFwdIdeal.main_arg4)
      ∧ m' ((c.tc : Thread Cert.ReferenceFwdIdeal.nD Cert.ReferenceFwdIdeal.τ).loc Cert.ReferenceFwdIdeal.main_arg5) = m ((c.tc : Thread Cert.KernelFwdIdeal.nD Cert.KernelFwdIdeal.τ).loc Cert.KernelFwdIdeal.main_arg5)
      ∧ m' ((c.tc : Thread Cert.ReferenceFwdIdeal.nD Cert.ReferenceFwdIdeal.τ).loc Cert.ReferenceFwdIdeal.main_arg6) = m ((c.tc : Thread Cert.KernelFwdIdeal.nD Cert.KernelFwdIdeal.τ).loc Cert.KernelFwdIdeal.main_arg6)
      ∧ m' ((c.tc : Thread Cert.ReferenceFwdIdeal.nD Cert.ReferenceFwdIdeal.τ).loc Cert.ReferenceFwdIdeal.main_arg7) = m ((c.tc : Thread Cert.KernelFwdIdeal.nD Cert.KernelFwdIdeal.τ).loc Cert.KernelFwdIdeal.main_arg7)
      ∧ m' ((c.tc : Thread Cert.ReferenceFwdIdeal.nD Cert.ReferenceFwdIdeal.τ).loc Cert.ReferenceFwdIdeal.main_arg8) = m ((c.tc : Thread Cert.KernelFwdIdeal.nD Cert.KernelFwdIdeal.τ).loc Cert.KernelFwdIdeal.main_arg8)
      ∧ m' ((c.tc : Thread Cert.ReferenceFwdIdeal.nD Cert.ReferenceFwdIdeal.τ).loc Cert.ReferenceFwdIdeal.main_arg9) = m ((c.tc : Thread Cert.KernelFwdIdeal.nD Cert.KernelFwdIdeal.τ).loc Cert.KernelFwdIdeal.main_arg9)) →
    ∃ (v0 : (c : Dev Cert.KernelFwdIdeal.nD) → Buf (Elt Ideal) ((c.tc : Thread Cert.KernelFwdIdeal.nD Cert.KernelFwdIdeal.τ).loc Cert.KernelFwdIdeal.main_v34_0)) (v1 : (c : Dev Cert.KernelFwdIdeal.nD) → Buf (Elt Ideal) ((c.tc : Thread Cert.KernelFwdIdeal.nD Cert.KernelFwdIdeal.τ).loc Cert.KernelFwdIdeal.main_v34_1)) (v2 : (c : Dev Cert.KernelFwdIdeal.nD) → Buf (Elt Ideal) ((c.tc : Thread Cert.KernelFwdIdeal.nD Cert.KernelFwdIdeal.τ).loc Cert.KernelFwdIdeal.main_v34_2)) (v3 : (c : Dev Cert.KernelFwdIdeal.nD) → Buf (Elt Ideal) ((c.tc : Thread Cert.KernelFwdIdeal.nD Cert.KernelFwdIdeal.τ).loc Cert.KernelFwdIdeal.main_v34_3)),
      θ_run (Cert.KernelFwdIdeal.defs (F := Ideal)) (onTc (τ := Cert.KernelFwdIdeal.τ) (Cert.KernelFwdIdeal.main (F := Ideal))) ⟨m, fun _ => 0, g⟩ (fun r => ∀ c : Dev Cert.KernelFwdIdeal.nD,
          r.2.mem ((c.tc : Thread Cert.KernelFwdIdeal.nD Cert.KernelFwdIdeal.τ).loc Cert.KernelFwdIdeal.main_v34_0) = v0 c
          ∧ r.2.mem ((c.tc : Thread Cert.KernelFwdIdeal.nD Cert.KernelFwdIdeal.τ).loc Cert.KernelFwdIdeal.main_v34_1) = v1 c
          ∧ r.2.mem ((c.tc : Thread Cert.KernelFwdIdeal.nD Cert.KernelFwdIdeal.τ).loc Cert.KernelFwdIdeal.main_v34_2) = v2 c
          ∧ r.2.mem ((c.tc : Thread Cert.KernelFwdIdeal.nD Cert.KernelFwdIdeal.τ).loc Cert.KernelFwdIdeal.main_v34_3) = v3 c
          ∧ r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
          ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1)
          ∧ r.2.mem ((c.tc : Thread Cert.KernelFwdIdeal.nD Cert.KernelFwdIdeal.τ).loc Cert.KernelFwdIdeal.main_arg2) = m ((c.tc : Thread Cert.KernelFwdIdeal.nD Cert.KernelFwdIdeal.τ).loc Cert.KernelFwdIdeal.main_arg2)
          ∧ r.2.mem ((c.tc : Thread Cert.KernelFwdIdeal.nD Cert.KernelFwdIdeal.τ).loc Cert.KernelFwdIdeal.main_arg3) = m ((c.tc : Thread Cert.KernelFwdIdeal.nD Cert.KernelFwdIdeal.τ).loc Cert.KernelFwdIdeal.main_arg3)
          ∧ r.2.mem ((c.tc : Thread Cert.KernelFwdIdeal.nD Cert.KernelFwdIdeal.τ).loc Cert.KernelFwdIdeal.main_arg4) = m ((c.tc : Thread Cert.KernelFwdIdeal.nD Cert.KernelFwdIdeal.τ).loc Cert.KernelFwdIdeal.main_arg4)
          ∧ r.2.mem ((c.tc : Thread Cert.KernelFwdIdeal.nD Cert.KernelFwdIdeal.τ).loc Cert.KernelFwdIdeal.main_arg5) = m ((c.tc : Thread Cert.KernelFwdIdeal.nD Cert.KernelFwdIdeal.τ).loc Cert.KernelFwdIdeal.main_arg5)
          ∧ r.2.mem ((c.tc : Thread Cert.KernelFwdIdeal.nD Cert.KernelFwdIdeal.τ).loc Cert.KernelFwdIdeal.main_arg6) = m ((c.tc : Thread Cert.KernelFwdIdeal.nD Cert.KernelFwdIdeal.τ).loc Cert.KernelFwdIdeal.main_arg6)
          ∧ r.2.mem ((c.tc : Thread Cert.KernelFwdIdeal.nD Cert.KernelFwdIdeal.τ).loc Cert.KernelFwdIdeal.main_arg7) = m ((c.tc : Thread Cert.KernelFwdIdeal.nD Cert.KernelFwdIdeal.τ).loc Cert.KernelFwdIdeal.main_arg7)
          ∧ r.2.mem ((c.tc : Thread Cert.KernelFwdIdeal.nD Cert.KernelFwdIdeal.τ).loc Cert.KernelFwdIdeal.main_arg8) = m ((c.tc : Thread Cert.KernelFwdIdeal.nD Cert.KernelFwdIdeal.τ).loc Cert.KernelFwdIdeal.main_arg8)
          ∧ r.2.mem ((c.tc : Thread Cert.KernelFwdIdeal.nD Cert.KernelFwdIdeal.τ).loc Cert.KernelFwdIdeal.main_arg9) = m ((c.tc : Thread Cert.KernelFwdIdeal.nD Cert.KernelFwdIdeal.τ).loc Cert.KernelFwdIdeal.main_arg9))
      ∧ θ_run (Cert.ReferenceFwdIdeal.defs (F := Ideal)) (onTc (τ := Cert.ReferenceFwdIdeal.τ) (Cert.ReferenceFwdIdeal.main (F := Ideal))) ⟨m', fun _ => 0, g'⟩ (fun r => ∀ c : Dev Cert.ReferenceFwdIdeal.nD,
          r.2.mem ((c.tc : Thread Cert.ReferenceFwdIdeal.nD Cert.ReferenceFwdIdeal.τ).loc Cert.ReferenceFwdIdeal.main_v29) = v0 c
          ∧ r.2.mem ((c.tc : Thread Cert.ReferenceFwdIdeal.nD Cert.ReferenceFwdIdeal.τ).loc Cert.ReferenceFwdIdeal.main_v30) = v1 c
          ∧ r.2.mem ((c.tc : Thread Cert.ReferenceFwdIdeal.nD Cert.ReferenceFwdIdeal.τ).loc Cert.ReferenceFwdIdeal.main_v28) = v2 c
          ∧ r.2.mem ((c.tc : Thread Cert.ReferenceFwdIdeal.nD Cert.ReferenceFwdIdeal.τ).loc Cert.ReferenceFwdIdeal.main_v52) = v3 c
          ∧ r.2.mem ((c.tc : Thread Cert.ReferenceFwdIdeal.nD Cert.ReferenceFwdIdeal.τ).loc Cert.ReferenceFwdIdeal.main_arg0) = m' ((c.tc : Thread Cert.ReferenceFwdIdeal.nD Cert.ReferenceFwdIdeal.τ).loc Cert.ReferenceFwdIdeal.main_arg0)
          ∧ r.2.mem ((c.tc : Thread Cert.ReferenceFwdIdeal.nD Cert.ReferenceFwdIdeal.τ).loc Cert.ReferenceFwdIdeal.main_arg1) = m' ((c.tc : Thread Cert.ReferenceFwdIdeal.nD Cert.ReferenceFwdIdeal.τ).loc Cert.ReferenceFwdIdeal.main_arg1)
          ∧ r.2.mem ((c.tc : Thread Cert.ReferenceFwdIdeal.nD Cert.ReferenceFwdIdeal.τ).loc Cert.ReferenceFwdIdeal.main_arg2) = m' ((c.tc : Thread Cert.ReferenceFwdIdeal.nD Cert.ReferenceFwdIdeal.τ).loc Cert.ReferenceFwdIdeal.main_arg2)
          ∧ r.2.mem ((c.tc : Thread Cert.ReferenceFwdIdeal.nD Cert.ReferenceFwdIdeal.τ).loc Cert.ReferenceFwdIdeal.main_arg3) = m' ((c.tc : Thread Cert.ReferenceFwdIdeal.nD Cert.ReferenceFwdIdeal.τ).loc Cert.ReferenceFwdIdeal.main_arg3)
          ∧ r.2.mem ((c.tc : Thread Cert.ReferenceFwdIdeal.nD Cert.ReferenceFwdIdeal.τ).loc Cert.ReferenceFwdIdeal.main_arg4) = m' ((c.tc : Thread Cert.ReferenceFwdIdeal.nD Cert.ReferenceFwdIdeal.τ).loc Cert.ReferenceFwdIdeal.main_arg4)
          ∧ r.2.mem ((c.tc : Thread Cert.ReferenceFwdIdeal.nD Cert.ReferenceFwdIdeal.τ).loc Cert.ReferenceFwdIdeal.main_arg5) = m' ((c.tc : Thread Cert.ReferenceFwdIdeal.nD Cert.ReferenceFwdIdeal.τ).loc Cert.ReferenceFwdIdeal.main_arg5)
          ∧ r.2.mem ((c.tc : Thread Cert.ReferenceFwdIdeal.nD Cert.ReferenceFwdIdeal.τ).loc Cert.ReferenceFwdIdeal.main_arg6) = m' ((c.tc : Thread Cert.ReferenceFwdIdeal.nD Cert.ReferenceFwdIdeal.τ).loc Cert.ReferenceFwdIdeal.main_arg6)
          ∧ r.2.mem ((c.tc : Thread Cert.ReferenceFwdIdeal.nD Cert.ReferenceFwdIdeal.τ).loc Cert.ReferenceFwdIdeal.main_arg7) = m' ((c.tc : Thread Cert.ReferenceFwdIdeal.nD Cert.ReferenceFwdIdeal.τ).loc Cert.ReferenceFwdIdeal.main_arg7)
          ∧ r.2.mem ((c.tc : Thread Cert.ReferenceFwdIdeal.nD Cert.ReferenceFwdIdeal.τ).loc Cert.ReferenceFwdIdeal.main_arg8) = m' ((c.tc : Thread Cert.ReferenceFwdIdeal.nD Cert.ReferenceFwdIdeal.τ).loc Cert.ReferenceFwdIdeal.main_arg8)
          ∧ r.2.mem ((c.tc : Thread Cert.ReferenceFwdIdeal.nD Cert.ReferenceFwdIdeal.τ).loc Cert.ReferenceFwdIdeal.main_arg9) = m' ((c.tc : Thread Cert.ReferenceFwdIdeal.nD Cert.ReferenceFwdIdeal.τ).loc Cert.ReferenceFwdIdeal.main_arg9))

def preserves_KernelRgIn_KernelRgInIdeal : Prop :=
  True

def algebraic_KernelRgInIdeal_ReferenceRgInIdeal [hKernelRgInIdeal : Cert.KernelRgInIdeal.Facts] [hReferenceRgInIdeal : Cert.ReferenceRgInIdeal.Facts] : Prop :=
  ∀ (m : (ℓ : Loc Cert.KernelRgInIdeal.nD Cert.KernelRgInIdeal.τ Cert.KernelRgInIdeal.sig) → Buf (Elt Ideal) ℓ) (g : Dev Cert.KernelRgInIdeal.nD → PrngReg)
    (m' : (ℓ : Loc Cert.ReferenceRgInIdeal.nD Cert.ReferenceRgInIdeal.τ Cert.ReferenceRgInIdeal.sig) → Buf (Elt Ideal) ℓ) (g' : Dev Cert.ReferenceRgInIdeal.nD → PrngReg), Pre_KernelRgInIdeal m →
    (∀ c : Dev Cert.KernelRgInIdeal.nD,
      m' ((c.tc : Thread Cert.ReferenceRgInIdeal.nD Cert.ReferenceRgInIdeal.τ).loc Cert.ReferenceRgInIdeal.main_arg0) = m ((c.tc : Thread Cert.KernelRgInIdeal.nD Cert.KernelRgInIdeal.τ).loc Cert.KernelRgInIdeal.main_arg0)
      ∧ m' ((c.tc : Thread Cert.ReferenceRgInIdeal.nD Cert.ReferenceRgInIdeal.τ).loc Cert.ReferenceRgInIdeal.main_arg1) = m ((c.tc : Thread Cert.KernelRgInIdeal.nD Cert.KernelRgInIdeal.τ).loc Cert.KernelRgInIdeal.main_arg1)
      ∧ m' ((c.tc : Thread Cert.ReferenceRgInIdeal.nD Cert.ReferenceRgInIdeal.τ).loc Cert.ReferenceRgInIdeal.main_arg2) = m ((c.tc : Thread Cert.KernelRgInIdeal.nD Cert.KernelRgInIdeal.τ).loc Cert.KernelRgInIdeal.main_arg2)
      ∧ m' ((c.tc : Thread Cert.ReferenceRgInIdeal.nD Cert.ReferenceRgInIdeal.τ).loc Cert.ReferenceRgInIdeal.main_arg3) = m ((c.tc : Thread Cert.KernelRgInIdeal.nD Cert.KernelRgInIdeal.τ).loc Cert.KernelRgInIdeal.main_arg3)
      ∧ m' ((c.tc : Thread Cert.ReferenceRgInIdeal.nD Cert.ReferenceRgInIdeal.τ).loc Cert.ReferenceRgInIdeal.main_arg4) = m ((c.tc : Thread Cert.KernelRgInIdeal.nD Cert.KernelRgInIdeal.τ).loc Cert.KernelRgInIdeal.main_arg4)
      ∧ m' ((c.tc : Thread Cert.ReferenceRgInIdeal.nD Cert.ReferenceRgInIdeal.τ).loc Cert.ReferenceRgInIdeal.main_arg5) = m ((c.tc : Thread Cert.KernelRgInIdeal.nD Cert.KernelRgInIdeal.τ).loc Cert.KernelRgInIdeal.main_arg5)) →
    ∃ (v0 : (c : Dev Cert.KernelRgInIdeal.nD) → Buf (Elt Ideal) ((c.tc : Thread Cert.KernelRgInIdeal.nD Cert.KernelRgInIdeal.τ).loc Cert.KernelRgInIdeal.main_v22)),
      θ_run (Cert.KernelRgInIdeal.defs (F := Ideal)) (onTc (τ := Cert.KernelRgInIdeal.τ) (Cert.KernelRgInIdeal.main (F := Ideal))) ⟨m, fun _ => 0, g⟩ (fun r => ∀ c : Dev Cert.KernelRgInIdeal.nD,
          r.2.mem ((c.tc : Thread Cert.KernelRgInIdeal.nD Cert.KernelRgInIdeal.τ).loc Cert.KernelRgInIdeal.main_v22) = v0 c
          ∧ r.2.mem ((c.tc : Thread Cert.KernelRgInIdeal.nD Cert.KernelRgInIdeal.τ).loc Cert.KernelRgInIdeal.main_arg0) = m ((c.tc : Thread Cert.KernelRgInIdeal.nD Cert.KernelRgInIdeal.τ).loc Cert.KernelRgInIdeal.main_arg0)
          ∧ r.2.mem ((c.tc : Thread Cert.KernelRgInIdeal.nD Cert.KernelRgInIdeal.τ).loc Cert.KernelRgInIdeal.main_arg1) = m ((c.tc : Thread Cert.KernelRgInIdeal.nD Cert.KernelRgInIdeal.τ).loc Cert.KernelRgInIdeal.main_arg1)
          ∧ r.2.mem ((c.tc : Thread Cert.KernelRgInIdeal.nD Cert.KernelRgInIdeal.τ).loc Cert.KernelRgInIdeal.main_arg2) = m ((c.tc : Thread Cert.KernelRgInIdeal.nD Cert.KernelRgInIdeal.τ).loc Cert.KernelRgInIdeal.main_arg2)
          ∧ r.2.mem ((c.tc : Thread Cert.KernelRgInIdeal.nD Cert.KernelRgInIdeal.τ).loc Cert.KernelRgInIdeal.main_arg3) = m ((c.tc : Thread Cert.KernelRgInIdeal.nD Cert.KernelRgInIdeal.τ).loc Cert.KernelRgInIdeal.main_arg3)
          ∧ r.2.mem ((c.tc : Thread Cert.KernelRgInIdeal.nD Cert.KernelRgInIdeal.τ).loc Cert.KernelRgInIdeal.main_arg4) = m ((c.tc : Thread Cert.KernelRgInIdeal.nD Cert.KernelRgInIdeal.τ).loc Cert.KernelRgInIdeal.main_arg4)
          ∧ r.2.mem ((c.tc : Thread Cert.KernelRgInIdeal.nD Cert.KernelRgInIdeal.τ).loc Cert.KernelRgInIdeal.main_arg5) = m ((c.tc : Thread Cert.KernelRgInIdeal.nD Cert.KernelRgInIdeal.τ).loc Cert.KernelRgInIdeal.main_arg5))
      ∧ θ_run (Cert.ReferenceRgInIdeal.defs (F := Ideal)) (onTc (τ := Cert.ReferenceRgInIdeal.τ) (Cert.ReferenceRgInIdeal.main (F := Ideal))) ⟨m', fun _ => 0, g'⟩ (fun r => ∀ c : Dev Cert.ReferenceRgInIdeal.nD,
          r.2.mem ((c.tc : Thread Cert.ReferenceRgInIdeal.nD Cert.ReferenceRgInIdeal.τ).loc Cert.ReferenceRgInIdeal.main_v27) = v0 c
          ∧ r.2.mem ((c.tc : Thread Cert.ReferenceRgInIdeal.nD Cert.ReferenceRgInIdeal.τ).loc Cert.ReferenceRgInIdeal.main_arg0) = m' ((c.tc : Thread Cert.ReferenceRgInIdeal.nD Cert.ReferenceRgInIdeal.τ).loc Cert.ReferenceRgInIdeal.main_arg0)
          ∧ r.2.mem ((c.tc : Thread Cert.ReferenceRgInIdeal.nD Cert.ReferenceRgInIdeal.τ).loc Cert.ReferenceRgInIdeal.main_arg1) = m' ((c.tc : Thread Cert.ReferenceRgInIdeal.nD Cert.ReferenceRgInIdeal.τ).loc Cert.ReferenceRgInIdeal.main_arg1)
          ∧ r.2.mem ((c.tc : Thread Cert.ReferenceRgInIdeal.nD Cert.ReferenceRgInIdeal.τ).loc Cert.ReferenceRgInIdeal.main_arg2) = m' ((c.tc : Thread Cert.ReferenceRgInIdeal.nD Cert.ReferenceRgInIdeal.τ).loc Cert.ReferenceRgInIdeal.main_arg2)
          ∧ r.2.mem ((c.tc : Thread Cert.ReferenceRgInIdeal.nD Cert.ReferenceRgInIdeal.τ).loc Cert.ReferenceRgInIdeal.main_arg3) = m' ((c.tc : Thread Cert.ReferenceRgInIdeal.nD Cert.ReferenceRgInIdeal.τ).loc Cert.ReferenceRgInIdeal.main_arg3)
          ∧ r.2.mem ((c.tc : Thread Cert.ReferenceRgInIdeal.nD Cert.ReferenceRgInIdeal.τ).loc Cert.ReferenceRgInIdeal.main_arg4) = m' ((c.tc : Thread Cert.ReferenceRgInIdeal.nD Cert.ReferenceRgInIdeal.τ).loc Cert.ReferenceRgInIdeal.main_arg4)
          ∧ r.2.mem ((c.tc : Thread Cert.ReferenceRgInIdeal.nD Cert.ReferenceRgInIdeal.τ).loc Cert.ReferenceRgInIdeal.main_arg5) = m' ((c.tc : Thread Cert.ReferenceRgInIdeal.nD Cert.ReferenceRgInIdeal.τ).loc Cert.ReferenceRgInIdeal.main_arg5))

def preserves_KernelMix_KernelMixIdeal : Prop :=
  True

def algebraic_KernelMixIdeal_ReferenceMixIdeal [hKernelMixIdeal : Cert.KernelMixIdeal.Facts] [hReferenceMixIdeal : Cert.ReferenceMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg)
    (m' : (ℓ : Loc Cert.ReferenceMixIdeal.nD Cert.ReferenceMixIdeal.τ Cert.ReferenceMixIdeal.sig) → Buf (Elt Ideal) ℓ) (g' : Dev Cert.ReferenceMixIdeal.nD → PrngReg), Pre_KernelMixIdeal m →
    (∀ c : Dev Cert.KernelMixIdeal.nD,
      m' ((c.tc : Thread Cert.ReferenceMixIdeal.nD Cert.ReferenceMixIdeal.τ).loc Cert.ReferenceMixIdeal.main_arg0) = m ((c.tc : Thread Cert.KernelMixIdeal.nD Cert.KernelMixIdeal.τ).loc Cert.KernelMixIdeal.main_arg0)
      ∧ m' ((c.tc : Thread Cert.ReferenceMixIdeal.nD Cert.ReferenceMixIdeal.τ).loc Cert.ReferenceMixIdeal.main_arg1) = m ((c.tc : Thread Cert.KernelMixIdeal.nD Cert.KernelMixIdeal.τ).loc Cert.KernelMixIdeal.main_arg1)
      ∧ m' ((c.tc : Thread Cert.ReferenceMixIdeal.nD Cert.ReferenceMixIdeal.τ).loc Cert.ReferenceMixIdeal.main_arg2) = m ((c.tc : Thread Cert.KernelMixIdeal.nD Cert.KernelMixIdeal.τ).loc Cert.KernelMixIdeal.main_arg2)) →
    ∃ (v0 : (c : Dev Cert.KernelMixIdeal.nD) → Buf (Elt Ideal) ((c.tc : Thread Cert.KernelMixIdeal.nD Cert.KernelMixIdeal.τ).loc Cert.KernelMixIdeal.main_v0)),
      θ_run (Cert.KernelMixIdeal.defs (F := Ideal)) (onTc (τ := Cert.KernelMixIdeal.τ) (Cert.KernelMixIdeal.main (F := Ideal))) ⟨m, fun _ => 0, g⟩ (fun r => ∀ c : Dev Cert.KernelMixIdeal.nD,
          r.2.mem ((c.tc : Thread Cert.KernelMixIdeal.nD Cert.KernelMixIdeal.τ).loc Cert.KernelMixIdeal.main_v0) = v0 c
          ∧ r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
          ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
          ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2))
      ∧ θ_run (Cert.ReferenceMixIdeal.defs (F := Ideal)) (onTc (τ := Cert.ReferenceMixIdeal.τ) (Cert.ReferenceMixIdeal.main (F := Ideal))) ⟨m', fun _ => 0, g'⟩ (fun r => ∀ c : Dev Cert.ReferenceMixIdeal.nD,
          r.2.mem ((c.tc : Thread Cert.ReferenceMixIdeal.nD Cert.ReferenceMixIdeal.τ).loc Cert.ReferenceMixIdeal.main_v5) = v0 c
          ∧ r.2.mem ((c.tc : Thread Cert.ReferenceMixIdeal.nD Cert.ReferenceMixIdeal.τ).loc Cert.ReferenceMixIdeal.main_arg0) = m' ((c.tc : Thread Cert.ReferenceMixIdeal.nD Cert.ReferenceMixIdeal.τ).loc Cert.ReferenceMixIdeal.main_arg0)
          ∧ r.2.mem ((c.tc : Thread Cert.ReferenceMixIdeal.nD Cert.ReferenceMixIdeal.τ).loc Cert.ReferenceMixIdeal.main_arg1) = m' ((c.tc : Thread Cert.ReferenceMixIdeal.nD Cert.ReferenceMixIdeal.τ).loc Cert.ReferenceMixIdeal.main_arg1)
          ∧ r.2.mem ((c.tc : Thread Cert.ReferenceMixIdeal.nD Cert.ReferenceMixIdeal.τ).loc Cert.ReferenceMixIdeal.main_arg2) = m' ((c.tc : Thread Cert.ReferenceMixIdeal.nD Cert.ReferenceMixIdeal.τ).loc Cert.ReferenceMixIdeal.main_arg2))

def preserves_KernelMixerT_KernelMixerTIdeal : Prop :=
  True

def algebraic_KernelMixerTIdeal_ReferenceMixerTIdeal_pre_finite_mixer [hKernelMixerTIdeal : Cert.KernelMixerTIdeal.Facts] [hReferenceMixerTIdeal : Cert.ReferenceMixerTIdeal.Facts] [hPre_finite_mixer : Cert.Pre_finite_mixer.Facts] : Prop :=
  ∀ (m : (ℓ : Loc Cert.KernelMixerTIdeal.nD Cert.KernelMixerTIdeal.τ Cert.KernelMixerTIdeal.sig) → Buf (Elt Ideal) ℓ) (g : Dev Cert.KernelMixerTIdeal.nD → PrngReg)
    (m' : (ℓ : Loc Cert.ReferenceMixerTIdeal.nD Cert.ReferenceMixerTIdeal.τ Cert.ReferenceMixerTIdeal.sig) → Buf (Elt Ideal) ℓ) (g' : Dev Cert.ReferenceMixerTIdeal.nD → PrngReg), Pre_KernelMixerTIdeal_finite_mixer m →
    (∀ c : Dev Cert.KernelMixerTIdeal.nD,
      m' ((c.tc : Thread Cert.ReferenceMixerTIdeal.nD Cert.ReferenceMixerTIdeal.τ).loc Cert.ReferenceMixerTIdeal.main_arg0) = m ((c.tc : Thread Cert.KernelMixerTIdeal.nD Cert.KernelMixerTIdeal.τ).loc Cert.KernelMixerTIdeal.main_arg0)
      ∧ m' ((c.tc : Thread Cert.ReferenceMixerTIdeal.nD Cert.ReferenceMixerTIdeal.τ).loc Cert.ReferenceMixerTIdeal.main_arg1) = m ((c.tc : Thread Cert.KernelMixerTIdeal.nD Cert.KernelMixerTIdeal.τ).loc Cert.KernelMixerTIdeal.main_arg1)
      ∧ m' ((c.tc : Thread Cert.ReferenceMixerTIdeal.nD Cert.ReferenceMixerTIdeal.τ).loc Cert.ReferenceMixerTIdeal.main_arg2) = m ((c.tc : Thread Cert.KernelMixerTIdeal.nD Cert.KernelMixerTIdeal.τ).loc Cert.KernelMixerTIdeal.main_arg2)
      ∧ m' ((c.tc : Thread Cert.ReferenceMixerTIdeal.nD Cert.ReferenceMixerTIdeal.τ).loc Cert.ReferenceMixerTIdeal.main_arg3) = m ((c.tc : Thread Cert.KernelMixerTIdeal.nD Cert.KernelMixerTIdeal.τ).loc Cert.KernelMixerTIdeal.main_arg3)
      ∧ m' ((c.tc : Thread Cert.ReferenceMixerTIdeal.nD Cert.ReferenceMixerTIdeal.τ).loc Cert.ReferenceMixerTIdeal.main_arg4) = m ((c.tc : Thread Cert.KernelMixerTIdeal.nD Cert.KernelMixerTIdeal.τ).loc Cert.KernelMixerTIdeal.main_arg4)
      ∧ m' ((c.tc : Thread Cert.ReferenceMixerTIdeal.nD Cert.ReferenceMixerTIdeal.τ).loc Cert.ReferenceMixerTIdeal.main_arg5) = m ((c.tc : Thread Cert.KernelMixerTIdeal.nD Cert.KernelMixerTIdeal.τ).loc Cert.KernelMixerTIdeal.main_arg5)
      ∧ m' ((c.tc : Thread Cert.ReferenceMixerTIdeal.nD Cert.ReferenceMixerTIdeal.τ).loc Cert.ReferenceMixerTIdeal.main_arg6) = m ((c.tc : Thread Cert.KernelMixerTIdeal.nD Cert.KernelMixerTIdeal.τ).loc Cert.KernelMixerTIdeal.main_arg6)
      ∧ m' ((c.tc : Thread Cert.ReferenceMixerTIdeal.nD Cert.ReferenceMixerTIdeal.τ).loc Cert.ReferenceMixerTIdeal.main_arg7) = m ((c.tc : Thread Cert.KernelMixerTIdeal.nD Cert.KernelMixerTIdeal.τ).loc Cert.KernelMixerTIdeal.main_arg7)
      ∧ m' ((c.tc : Thread Cert.ReferenceMixerTIdeal.nD Cert.ReferenceMixerTIdeal.τ).loc Cert.ReferenceMixerTIdeal.main_arg8) = m ((c.tc : Thread Cert.KernelMixerTIdeal.nD Cert.KernelMixerTIdeal.τ).loc Cert.KernelMixerTIdeal.main_arg8)) →
    ∃ (v0 : (c : Dev Cert.KernelMixerTIdeal.nD) → Buf (Elt Ideal) ((c.tc : Thread Cert.KernelMixerTIdeal.nD Cert.KernelMixerTIdeal.τ).loc Cert.KernelMixerTIdeal.main_v16_0)) (v1 : (c : Dev Cert.KernelMixerTIdeal.nD) → Buf (Elt Ideal) ((c.tc : Thread Cert.KernelMixerTIdeal.nD Cert.KernelMixerTIdeal.τ).loc Cert.KernelMixerTIdeal.main_v16_1)) (v2 : (c : Dev Cert.KernelMixerTIdeal.nD) → Buf (Elt Ideal) ((c.tc : Thread Cert.KernelMixerTIdeal.nD Cert.KernelMixerTIdeal.τ).loc Cert.KernelMixerTIdeal.main_v16_2)),
      θ_run (Cert.KernelMixerTIdeal.defs (F := Ideal)) (onTc (τ := Cert.KernelMixerTIdeal.τ) (Cert.KernelMixerTIdeal.main (F := Ideal))) ⟨m, fun _ => 0, g⟩ (fun r => ∀ c : Dev Cert.KernelMixerTIdeal.nD,
          r.2.mem ((c.tc : Thread Cert.KernelMixerTIdeal.nD Cert.KernelMixerTIdeal.τ).loc Cert.KernelMixerTIdeal.main_v16_0) = v0 c
          ∧ r.2.mem ((c.tc : Thread Cert.KernelMixerTIdeal.nD Cert.KernelMixerTIdeal.τ).loc Cert.KernelMixerTIdeal.main_v16_1) = v1 c
          ∧ r.2.mem ((c.tc : Thread Cert.KernelMixerTIdeal.nD Cert.KernelMixerTIdeal.τ).loc Cert.KernelMixerTIdeal.main_v16_2) = v2 c
          ∧ r.2.mem ((c.tc : Thread Cert.KernelMixerTIdeal.nD Cert.KernelMixerTIdeal.τ).loc Cert.KernelMixerTIdeal.main_arg0) = m ((c.tc : Thread Cert.KernelMixerTIdeal.nD Cert.KernelMixerTIdeal.τ).loc Cert.KernelMixerTIdeal.main_arg0)
          ∧ r.2.mem ((c.tc : Thread Cert.KernelMixerTIdeal.nD Cert.KernelMixerTIdeal.τ).loc Cert.KernelMixerTIdeal.main_arg1) = m ((c.tc : Thread Cert.KernelMixerTIdeal.nD Cert.KernelMixerTIdeal.τ).loc Cert.KernelMixerTIdeal.main_arg1)
          ∧ r.2.mem ((c.tc : Thread Cert.KernelMixerTIdeal.nD Cert.KernelMixerTIdeal.τ).loc Cert.KernelMixerTIdeal.main_arg2) = m ((c.tc : Thread Cert.KernelMixerTIdeal.nD Cert.KernelMixerTIdeal.τ).loc Cert.KernelMixerTIdeal.main_arg2)
          ∧ r.2.mem ((c.tc : Thread Cert.KernelMixerTIdeal.nD Cert.KernelMixerTIdeal.τ).loc Cert.KernelMixerTIdeal.main_arg3) = m ((c.tc : Thread Cert.KernelMixerTIdeal.nD Cert.KernelMixerTIdeal.τ).loc Cert.KernelMixerTIdeal.main_arg3)
          ∧ r.2.mem ((c.tc : Thread Cert.KernelMixerTIdeal.nD Cert.KernelMixerTIdeal.τ).loc Cert.KernelMixerTIdeal.main_arg4) = m ((c.tc : Thread Cert.KernelMixerTIdeal.nD Cert.KernelMixerTIdeal.τ).loc Cert.KernelMixerTIdeal.main_arg4)
          ∧ r.2.mem ((c.tc : Thread Cert.KernelMixerTIdeal.nD Cert.KernelMixerTIdeal.τ).loc Cert.KernelMixerTIdeal.main_arg5) = m ((c.tc : Thread Cert.KernelMixerTIdeal.nD Cert.KernelMixerTIdeal.τ).loc Cert.KernelMixerTIdeal.main_arg5)
          ∧ r.2.mem ((c.tc : Thread Cert.KernelMixerTIdeal.nD Cert.KernelMixerTIdeal.τ).loc Cert.KernelMixerTIdeal.main_arg6) = m ((c.tc : Thread Cert.KernelMixerTIdeal.nD Cert.KernelMixerTIdeal.τ).loc Cert.KernelMixerTIdeal.main_arg6)
          ∧ r.2.mem ((c.tc : Thread Cert.KernelMixerTIdeal.nD Cert.KernelMixerTIdeal.τ).loc Cert.KernelMixerTIdeal.main_arg7) = m ((c.tc : Thread Cert.KernelMixerTIdeal.nD Cert.KernelMixerTIdeal.τ).loc Cert.KernelMixerTIdeal.main_arg7)
          ∧ r.2.mem ((c.tc : Thread Cert.KernelMixerTIdeal.nD Cert.KernelMixerTIdeal.τ).loc Cert.KernelMixerTIdeal.main_arg8) = m ((c.tc : Thread Cert.KernelMixerTIdeal.nD Cert.KernelMixerTIdeal.τ).loc Cert.KernelMixerTIdeal.main_arg8))
      ∧ θ_run (Cert.ReferenceMixerTIdeal.defs (F := Ideal)) (onTc (τ := Cert.ReferenceMixerTIdeal.τ) (Cert.ReferenceMixerTIdeal.main (F := Ideal))) ⟨m', fun _ => 0, g'⟩ (fun r => ∀ c : Dev Cert.ReferenceMixerTIdeal.nD,
          r.2.mem ((c.tc : Thread Cert.ReferenceMixerTIdeal.nD Cert.ReferenceMixerTIdeal.τ).loc Cert.ReferenceMixerTIdeal.main_v60) = v0 c
          ∧ r.2.mem ((c.tc : Thread Cert.ReferenceMixerTIdeal.nD Cert.ReferenceMixerTIdeal.τ).loc Cert.ReferenceMixerTIdeal.main_v74) = v1 c
          ∧ r.2.mem ((c.tc : Thread Cert.ReferenceMixerTIdeal.nD Cert.ReferenceMixerTIdeal.τ).loc Cert.ReferenceMixerTIdeal.main_v75) = v2 c
          ∧ r.2.mem ((c.tc : Thread Cert.ReferenceMixerTIdeal.nD Cert.ReferenceMixerTIdeal.τ).loc Cert.ReferenceMixerTIdeal.main_arg0) = m' ((c.tc : Thread Cert.ReferenceMixerTIdeal.nD Cert.ReferenceMixerTIdeal.τ).loc Cert.ReferenceMixerTIdeal.main_arg0)
          ∧ r.2.mem ((c.tc : Thread Cert.ReferenceMixerTIdeal.nD Cert.ReferenceMixerTIdeal.τ).loc Cert.ReferenceMixerTIdeal.main_arg1) = m' ((c.tc : Thread Cert.ReferenceMixerTIdeal.nD Cert.ReferenceMixerTIdeal.τ).loc Cert.ReferenceMixerTIdeal.main_arg1)
          ∧ r.2.mem ((c.tc : Thread Cert.ReferenceMixerTIdeal.nD Cert.ReferenceMixerTIdeal.τ).loc Cert.ReferenceMixerTIdeal.main_arg2) = m' ((c.tc : Thread Cert.ReferenceMixerTIdeal.nD Cert.ReferenceMixerTIdeal.τ).loc Cert.ReferenceMixerTIdeal.main_arg2)
          ∧ r.2.mem ((c.tc : Thread Cert.ReferenceMixerTIdeal.nD Cert.ReferenceMixerTIdeal.τ).loc Cert.ReferenceMixerTIdeal.main_arg3) = m' ((c.tc : Thread Cert.ReferenceMixerTIdeal.nD Cert.ReferenceMixerTIdeal.τ).loc Cert.ReferenceMixerTIdeal.main_arg3)
          ∧ r.2.mem ((c.tc : Thread Cert.ReferenceMixerTIdeal.nD Cert.ReferenceMixerTIdeal.τ).loc Cert.ReferenceMixerTIdeal.main_arg4) = m' ((c.tc : Thread Cert.ReferenceMixerTIdeal.nD Cert.ReferenceMixerTIdeal.τ).loc Cert.ReferenceMixerTIdeal.main_arg4)
          ∧ r.2.mem ((c.tc : Thread Cert.ReferenceMixerTIdeal.nD Cert.ReferenceMixerTIdeal.τ).loc Cert.ReferenceMixerTIdeal.main_arg5) = m' ((c.tc : Thread Cert.ReferenceMixerTIdeal.nD Cert.ReferenceMixerTIdeal.τ).loc Cert.ReferenceMixerTIdeal.main_arg5)
          ∧ r.2.mem ((c.tc : Thread Cert.ReferenceMixerTIdeal.nD Cert.ReferenceMixerTIdeal.τ).loc Cert.ReferenceMixerTIdeal.main_arg6) = m' ((c.tc : Thread Cert.ReferenceMixerTIdeal.nD Cert.ReferenceMixerTIdeal.τ).loc Cert.ReferenceMixerTIdeal.main_arg6)
          ∧ r.2.mem ((c.tc : Thread Cert.ReferenceMixerTIdeal.nD Cert.ReferenceMixerTIdeal.τ).loc Cert.ReferenceMixerTIdeal.main_arg7) = m' ((c.tc : Thread Cert.ReferenceMixerTIdeal.nD Cert.ReferenceMixerTIdeal.τ).loc Cert.ReferenceMixerTIdeal.main_arg7)
          ∧ r.2.mem ((c.tc : Thread Cert.ReferenceMixerTIdeal.nD Cert.ReferenceMixerTIdeal.τ).loc Cert.ReferenceMixerTIdeal.main_arg8) = m' ((c.tc : Thread Cert.ReferenceMixerTIdeal.nD Cert.ReferenceMixerTIdeal.τ).loc Cert.ReferenceMixerTIdeal.main_arg8))

def preserves_KernelFirst_KernelFirstIdeal : Prop :=
  True

def algebraic_KernelFirstIdeal_ReferenceFirstIdeal_pre_finite_first [hKernelFirstIdeal : Cert.KernelFirstIdeal.Facts] [hReferenceFirstIdeal : Cert.ReferenceFirstIdeal.Facts] [hPre_finite_first : Cert.Pre_finite_first.Facts] : Prop :=
  ∀ (m : (ℓ : Loc Cert.KernelFirstIdeal.nD Cert.KernelFirstIdeal.τ Cert.KernelFirstIdeal.sig) → Buf (Elt Ideal) ℓ) (g : Dev Cert.KernelFirstIdeal.nD → PrngReg)
    (m' : (ℓ : Loc Cert.ReferenceFirstIdeal.nD Cert.ReferenceFirstIdeal.τ Cert.ReferenceFirstIdeal.sig) → Buf (Elt Ideal) ℓ) (g' : Dev Cert.ReferenceFirstIdeal.nD → PrngReg), Pre_KernelFirstIdeal_finite_first m →
    (∀ c : Dev Cert.KernelFirstIdeal.nD,
      m' ((c.tc : Thread Cert.ReferenceFirstIdeal.nD Cert.ReferenceFirstIdeal.τ).loc Cert.ReferenceFirstIdeal.main_arg0) = m ((c.tc : Thread Cert.KernelFirstIdeal.nD Cert.KernelFirstIdeal.τ).loc Cert.KernelFirstIdeal.main_arg0)
      ∧ m' ((c.tc : Thread Cert.ReferenceFirstIdeal.nD Cert.ReferenceFirstIdeal.τ).loc Cert.ReferenceFirstIdeal.main_arg1) = m ((c.tc : Thread Cert.KernelFirstIdeal.nD Cert.KernelFirstIdeal.τ).loc Cert.KernelFirstIdeal.main_arg1)
      ∧ m' ((c.tc : Thread Cert.ReferenceFirstIdeal.nD Cert.ReferenceFirstIdeal.τ).loc Cert.ReferenceFirstIdeal.main_arg2) = m ((c.tc : Thread Cert.KernelFirstIdeal.nD Cert.KernelFirstIdeal.τ).loc Cert.KernelFirstIdeal.main_arg2)
      ∧ m' ((c.tc : Thread Cert.ReferenceFirstIdeal.nD Cert.ReferenceFirstIdeal.τ).loc Cert.ReferenceFirstIdeal.main_arg3) = m ((c.tc : Thread Cert.KernelFirstIdeal.nD Cert.KernelFirstIdeal.τ).loc Cert.KernelFirstIdeal.main_arg3)
      ∧ m' ((c.tc : Thread Cert.ReferenceFirstIdeal.nD Cert.ReferenceFirstIdeal.τ).loc Cert.ReferenceFirstIdeal.main_arg4) = m ((c.tc : Thread Cert.KernelFirstIdeal.nD Cert.KernelFirstIdeal.τ).loc Cert.KernelFirstIdeal.main_arg4)
      ∧ m' ((c.tc : Thread Cert.ReferenceFirstIdeal.nD Cert.ReferenceFirstIdeal.τ).loc Cert.ReferenceFirstIdeal.main_arg5) = m ((c.tc : Thread Cert.KernelFirstIdeal.nD Cert.KernelFirstIdeal.τ).loc Cert.KernelFirstIdeal.main_arg5)
      ∧ m' ((c.tc : Thread Cert.ReferenceFirstIdeal.nD Cert.ReferenceFirstIdeal.τ).loc Cert.ReferenceFirstIdeal.main_arg6) = m ((c.tc : Thread Cert.KernelFirstIdeal.nD Cert.KernelFirstIdeal.τ).loc Cert.KernelFirstIdeal.main_arg6)) →
    ∃ (v0 : (c : Dev Cert.KernelFirstIdeal.nD) → Buf (Elt Ideal) ((c.tc : Thread Cert.KernelFirstIdeal.nD Cert.KernelFirstIdeal.τ).loc Cert.KernelFirstIdeal.main_v7_0)) (v1 : (c : Dev Cert.KernelFirstIdeal.nD) → Buf (Elt Ideal) ((c.tc : Thread Cert.KernelFirstIdeal.nD Cert.KernelFirstIdeal.τ).loc Cert.KernelFirstIdeal.main_v7_1)),
      θ_run (Cert.KernelFirstIdeal.defs (F := Ideal)) (onTc (τ := Cert.KernelFirstIdeal.τ) (Cert.KernelFirstIdeal.main (F := Ideal))) ⟨m, fun _ => 0, g⟩ (fun r => ∀ c : Dev Cert.KernelFirstIdeal.nD,
          r.2.mem ((c.tc : Thread Cert.KernelFirstIdeal.nD Cert.KernelFirstIdeal.τ).loc Cert.KernelFirstIdeal.main_v7_0) = v0 c
          ∧ r.2.mem ((c.tc : Thread Cert.KernelFirstIdeal.nD Cert.KernelFirstIdeal.τ).loc Cert.KernelFirstIdeal.main_v7_1) = v1 c
          ∧ r.2.mem ((c.tc : Thread Cert.KernelFirstIdeal.nD Cert.KernelFirstIdeal.τ).loc Cert.KernelFirstIdeal.main_arg0) = m ((c.tc : Thread Cert.KernelFirstIdeal.nD Cert.KernelFirstIdeal.τ).loc Cert.KernelFirstIdeal.main_arg0)
          ∧ r.2.mem ((c.tc : Thread Cert.KernelFirstIdeal.nD Cert.KernelFirstIdeal.τ).loc Cert.KernelFirstIdeal.main_arg1) = m ((c.tc : Thread Cert.KernelFirstIdeal.nD Cert.KernelFirstIdeal.τ).loc Cert.KernelFirstIdeal.main_arg1)
          ∧ r.2.mem ((c.tc : Thread Cert.KernelFirstIdeal.nD Cert.KernelFirstIdeal.τ).loc Cert.KernelFirstIdeal.main_arg2) = m ((c.tc : Thread Cert.KernelFirstIdeal.nD Cert.KernelFirstIdeal.τ).loc Cert.KernelFirstIdeal.main_arg2)
          ∧ r.2.mem ((c.tc : Thread Cert.KernelFirstIdeal.nD Cert.KernelFirstIdeal.τ).loc Cert.KernelFirstIdeal.main_arg3) = m ((c.tc : Thread Cert.KernelFirstIdeal.nD Cert.KernelFirstIdeal.τ).loc Cert.KernelFirstIdeal.main_arg3)
          ∧ r.2.mem ((c.tc : Thread Cert.KernelFirstIdeal.nD Cert.KernelFirstIdeal.τ).loc Cert.KernelFirstIdeal.main_arg4) = m ((c.tc : Thread Cert.KernelFirstIdeal.nD Cert.KernelFirstIdeal.τ).loc Cert.KernelFirstIdeal.main_arg4)
          ∧ r.2.mem ((c.tc : Thread Cert.KernelFirstIdeal.nD Cert.KernelFirstIdeal.τ).loc Cert.KernelFirstIdeal.main_arg5) = m ((c.tc : Thread Cert.KernelFirstIdeal.nD Cert.KernelFirstIdeal.τ).loc Cert.KernelFirstIdeal.main_arg5)
          ∧ r.2.mem ((c.tc : Thread Cert.KernelFirstIdeal.nD Cert.KernelFirstIdeal.τ).loc Cert.KernelFirstIdeal.main_arg6) = m ((c.tc : Thread Cert.KernelFirstIdeal.nD Cert.KernelFirstIdeal.τ).loc Cert.KernelFirstIdeal.main_arg6))
      ∧ θ_run (Cert.ReferenceFirstIdeal.defs (F := Ideal)) (onTc (τ := Cert.ReferenceFirstIdeal.τ) (Cert.ReferenceFirstIdeal.main (F := Ideal))) ⟨m', fun _ => 0, g'⟩ (fun r => ∀ c : Dev Cert.ReferenceFirstIdeal.nD,
          r.2.mem ((c.tc : Thread Cert.ReferenceFirstIdeal.nD Cert.ReferenceFirstIdeal.τ).loc Cert.ReferenceFirstIdeal.main_v56) = v0 c
          ∧ r.2.mem ((c.tc : Thread Cert.ReferenceFirstIdeal.nD Cert.ReferenceFirstIdeal.τ).loc Cert.ReferenceFirstIdeal.main_v62) = v1 c
          ∧ r.2.mem ((c.tc : Thread Cert.ReferenceFirstIdeal.nD Cert.ReferenceFirstIdeal.τ).loc Cert.ReferenceFirstIdeal.main_arg0) = m' ((c.tc : Thread Cert.ReferenceFirstIdeal.nD Cert.ReferenceFirstIdeal.τ).loc Cert.ReferenceFirstIdeal.main_arg0)
          ∧ r.2.mem ((c.tc : Thread Cert.ReferenceFirstIdeal.nD Cert.ReferenceFirstIdeal.τ).loc Cert.ReferenceFirstIdeal.main_arg1) = m' ((c.tc : Thread Cert.ReferenceFirstIdeal.nD Cert.ReferenceFirstIdeal.τ).loc Cert.ReferenceFirstIdeal.main_arg1)
          ∧ r.2.mem ((c.tc : Thread Cert.ReferenceFirstIdeal.nD Cert.ReferenceFirstIdeal.τ).loc Cert.ReferenceFirstIdeal.main_arg2) = m' ((c.tc : Thread Cert.ReferenceFirstIdeal.nD Cert.ReferenceFirstIdeal.τ).loc Cert.ReferenceFirstIdeal.main_arg2)
          ∧ r.2.mem ((c.tc : Thread Cert.ReferenceFirstIdeal.nD Cert.ReferenceFirstIdeal.τ).loc Cert.ReferenceFirstIdeal.main_arg3) = m' ((c.tc : Thread Cert.ReferenceFirstIdeal.nD Cert.ReferenceFirstIdeal.τ).loc Cert.ReferenceFirstIdeal.main_arg3)
          ∧ r.2.mem ((c.tc : Thread Cert.ReferenceFirstIdeal.nD Cert.ReferenceFirstIdeal.τ).loc Cert.ReferenceFirstIdeal.main_arg4) = m' ((c.tc : Thread Cert.ReferenceFirstIdeal.nD Cert.ReferenceFirstIdeal.τ).loc Cert.ReferenceFirstIdeal.main_arg4)
          ∧ r.2.mem ((c.tc : Thread Cert.ReferenceFirstIdeal.nD Cert.ReferenceFirstIdeal.τ).loc Cert.ReferenceFirstIdeal.main_arg5) = m' ((c.tc : Thread Cert.ReferenceFirstIdeal.nD Cert.ReferenceFirstIdeal.τ).loc Cert.ReferenceFirstIdeal.main_arg5)
          ∧ r.2.mem ((c.tc : Thread Cert.ReferenceFirstIdeal.nD Cert.ReferenceFirstIdeal.τ).loc Cert.ReferenceFirstIdeal.main_arg6) = m' ((c.tc : Thread Cert.ReferenceFirstIdeal.nD Cert.ReferenceFirstIdeal.τ).loc Cert.ReferenceFirstIdeal.main_arg6))

def preserves_KernelSmall_KernelSmallIdeal : Prop :=
  True

def algebraic_KernelSmallIdeal_ReferenceSmallIdeal [hKernelSmallIdeal : Cert.KernelSmallIdeal.Facts] [hReferenceSmallIdeal : Cert.ReferenceSmallIdeal.Facts] : Prop :=
  ∀ (m : (ℓ : Loc Cert.KernelSmallIdeal.nD Cert.KernelSmallIdeal.τ Cert.KernelSmallIdeal.sig) → Buf (Elt Ideal) ℓ) (g : Dev Cert.KernelSmallIdeal.nD → PrngReg)
    (m' : (ℓ : Loc Cert.ReferenceSmallIdeal.nD Cert.ReferenceSmallIdeal.τ Cert.ReferenceSmallIdeal.sig) → Buf (Elt Ideal) ℓ) (g' : Dev Cert.ReferenceSmallIdeal.nD → PrngReg), Pre_KernelSmallIdeal m →
    (∀ c : Dev Cert.KernelSmallIdeal.nD,
      m' ((c.tc : Thread Cert.ReferenceSmallIdeal.nD Cert.ReferenceSmallIdeal.τ).loc Cert.ReferenceSmallIdeal.main_arg0) = m ((c.tc : Thread Cert.KernelSmallIdeal.nD Cert.KernelSmallIdeal.τ).loc Cert.KernelSmallIdeal.main_arg0)
      ∧ m' ((c.tc : Thread Cert.ReferenceSmallIdeal.nD Cert.ReferenceSmallIdeal.τ).loc Cert.ReferenceSmallIdeal.main_arg1) = m ((c.tc : Thread Cert.KernelSmallIdeal.nD Cert.KernelSmallIdeal.τ).loc Cert.KernelSmallIdeal.main_arg1)
      ∧ m' ((c.tc : Thread Cert.ReferenceSmallIdeal.nD Cert.ReferenceSmallIdeal.τ).loc Cert.ReferenceSmallIdeal.main_arg2) = m ((c.tc : Thread Cert.KernelSmallIdeal.nD Cert.KernelSmallIdeal.τ).loc Cert.KernelSmallIdeal.main_arg2)
      ∧ m' ((c.tc : Thread Cert.ReferenceSmallIdeal.nD Cert.ReferenceSmallIdeal.τ).loc Cert.ReferenceSmallIdeal.main_arg3) = m ((c.tc : Thread Cert.KernelSmallIdeal.nD Cert.KernelSmallIdeal.τ).loc Cert.KernelSmallIdeal.main_arg3)) →
    ∃ (v0 : (c : Dev Cert.KernelSmallIdeal.nD) → Buf (Elt Ideal) ((c.tc : Thread Cert.KernelSmallIdeal.nD Cert.KernelSmallIdeal.τ).loc Cert.KernelSmallIdeal.main_v0_0)) (v1 : (c : Dev Cert.KernelSmallIdeal.nD) → Buf (Elt Ideal) ((c.tc : Thread Cert.KernelSmallIdeal.nD Cert.KernelSmallIdeal.τ).loc Cert.KernelSmallIdeal.main_v0_1)) (v2 : (c : Dev Cert.KernelSmallIdeal.nD) → Buf (Elt Ideal) ((c.tc : Thread Cert.KernelSmallIdeal.nD Cert.KernelSmallIdeal.τ).loc Cert.KernelSmallIdeal.main_v0_2)) (v3 : (c : Dev Cert.KernelSmallIdeal.nD) → Buf (Elt Ideal) ((c.tc : Thread Cert.KernelSmallIdeal.nD Cert.KernelSmallIdeal.τ).loc Cert.KernelSmallIdeal.main_v0_3)) (v4 : (c : Dev Cert.KernelSmallIdeal.nD) → Buf (Elt Ideal) ((c.tc : Thread Cert.KernelSmallIdeal.nD Cert.KernelSmallIdeal.τ).loc Cert.KernelSmallIdeal.main_v3)),
      θ_run (Cert.KernelSmallIdeal.defs (F := Ideal)) (onTc (τ := Cert.KernelSmallIdeal.τ) (Cert.KernelSmallIdeal.main (F := Ideal))) ⟨m, fun _ => 0, g⟩ (fun r => ∀ c : Dev Cert.KernelSmallIdeal.nD,
          r.2.mem ((c.tc : Thread Cert.KernelSmallIdeal.nD Cert.KernelSmallIdeal.τ).loc Cert.KernelSmallIdeal.main_v0_0) = v0 c
          ∧ r.2.mem ((c.tc : Thread Cert.KernelSmallIdeal.nD Cert.KernelSmallIdeal.τ).loc Cert.KernelSmallIdeal.main_v0_1) = v1 c
          ∧ r.2.mem ((c.tc : Thread Cert.KernelSmallIdeal.nD Cert.KernelSmallIdeal.τ).loc Cert.KernelSmallIdeal.main_v0_2) = v2 c
          ∧ r.2.mem ((c.tc : Thread Cert.KernelSmallIdeal.nD Cert.KernelSmallIdeal.τ).loc Cert.KernelSmallIdeal.main_v0_3) = v3 c
          ∧ r.2.mem ((c.tc : Thread Cert.KernelSmallIdeal.nD Cert.KernelSmallIdeal.τ).loc Cert.KernelSmallIdeal.main_v3) = v4 c
          ∧ r.2.mem ((c.tc : Thread Cert.KernelSmallIdeal.nD Cert.KernelSmallIdeal.τ).loc Cert.KernelSmallIdeal.main_arg0) = m ((c.tc : Thread Cert.KernelSmallIdeal.nD Cert.KernelSmallIdeal.τ).loc Cert.KernelSmallIdeal.main_arg0)
          ∧ r.2.mem ((c.tc : Thread Cert.KernelSmallIdeal.nD Cert.KernelSmallIdeal.τ).loc Cert.KernelSmallIdeal.main_arg1) = m ((c.tc : Thread Cert.KernelSmallIdeal.nD Cert.KernelSmallIdeal.τ).loc Cert.KernelSmallIdeal.main_arg1)
          ∧ r.2.mem ((c.tc : Thread Cert.KernelSmallIdeal.nD Cert.KernelSmallIdeal.τ).loc Cert.KernelSmallIdeal.main_arg2) = m ((c.tc : Thread Cert.KernelSmallIdeal.nD Cert.KernelSmallIdeal.τ).loc Cert.KernelSmallIdeal.main_arg2)
          ∧ r.2.mem ((c.tc : Thread Cert.KernelSmallIdeal.nD Cert.KernelSmallIdeal.τ).loc Cert.KernelSmallIdeal.main_arg3) = m ((c.tc : Thread Cert.KernelSmallIdeal.nD Cert.KernelSmallIdeal.τ).loc Cert.KernelSmallIdeal.main_arg3))
      ∧ θ_run (Cert.ReferenceSmallIdeal.defs (F := Ideal)) (onTc (τ := Cert.ReferenceSmallIdeal.τ) (Cert.ReferenceSmallIdeal.main (F := Ideal))) ⟨m', fun _ => 0, g'⟩ (fun r => ∀ c : Dev Cert.ReferenceSmallIdeal.nD,
          r.2.mem ((c.tc : Thread Cert.ReferenceSmallIdeal.nD Cert.ReferenceSmallIdeal.τ).loc Cert.ReferenceSmallIdeal.main_v0) = v0 c
          ∧ r.2.mem ((c.tc : Thread Cert.ReferenceSmallIdeal.nD Cert.ReferenceSmallIdeal.τ).loc Cert.ReferenceSmallIdeal.main_v24) = v1 c
          ∧ r.2.mem ((c.tc : Thread Cert.ReferenceSmallIdeal.nD Cert.ReferenceSmallIdeal.τ).loc Cert.ReferenceSmallIdeal.main_v5) = v2 c
          ∧ r.2.mem ((c.tc : Thread Cert.ReferenceSmallIdeal.nD Cert.ReferenceSmallIdeal.τ).loc Cert.ReferenceSmallIdeal.main_v11) = v3 c
          ∧ r.2.mem ((c.tc : Thread Cert.ReferenceSmallIdeal.nD Cert.ReferenceSmallIdeal.τ).loc Cert.ReferenceSmallIdeal.main_v27) = v4 c
          ∧ r.2.mem ((c.tc : Thread Cert.ReferenceSmallIdeal.nD Cert.ReferenceSmallIdeal.τ).loc Cert.ReferenceSmallIdeal.main_arg0) = m' ((c.tc : Thread Cert.ReferenceSmallIdeal.nD Cert.ReferenceSmallIdeal.τ).loc Cert.ReferenceSmallIdeal.main_arg0)
          ∧ r.2.mem ((c.tc : Thread Cert.ReferenceSmallIdeal.nD Cert.ReferenceSmallIdeal.τ).loc Cert.ReferenceSmallIdeal.main_arg1) = m' ((c.tc : Thread Cert.ReferenceSmallIdeal.nD Cert.ReferenceSmallIdeal.τ).loc Cert.ReferenceSmallIdeal.main_arg1)
          ∧ r.2.mem ((c.tc : Thread Cert.ReferenceSmallIdeal.nD Cert.ReferenceSmallIdeal.τ).loc Cert.ReferenceSmallIdeal.main_arg2) = m' ((c.tc : Thread Cert.ReferenceSmallIdeal.nD Cert.ReferenceSmallIdeal.τ).loc Cert.ReferenceSmallIdeal.main_arg2)
          ∧ r.2.mem ((c.tc : Thread Cert.ReferenceSmallIdeal.nD Cert.ReferenceSmallIdeal.τ).loc Cert.ReferenceSmallIdeal.main_arg3) = m' ((c.tc : Thread Cert.ReferenceSmallIdeal.nD Cert.ReferenceSmallIdeal.τ).loc Cert.ReferenceSmallIdeal.main_arg3))

def preserves_KernelMod_KernelModIdeal : Prop :=
  True

def algebraic_KernelModIdeal_ReferenceModIdeal [hKernelModIdeal : Cert.KernelModIdeal.Facts] [hReferenceModIdeal : Cert.ReferenceModIdeal.Facts] : Prop :=
  ∀ (m : (ℓ : Loc Cert.KernelModIdeal.nD Cert.KernelModIdeal.τ Cert.KernelModIdeal.sig) → Buf (Elt Ideal) ℓ) (g : Dev Cert.KernelModIdeal.nD → PrngReg)
    (m' : (ℓ : Loc Cert.ReferenceModIdeal.nD Cert.ReferenceModIdeal.τ Cert.ReferenceModIdeal.sig) → Buf (Elt Ideal) ℓ) (g' : Dev Cert.ReferenceModIdeal.nD → PrngReg), Pre_KernelModIdeal m →
    (∀ c : Dev Cert.KernelModIdeal.nD,
      m' ((c.tc : Thread Cert.ReferenceModIdeal.nD Cert.ReferenceModIdeal.τ).loc Cert.ReferenceModIdeal.main_arg0) = m ((c.tc : Thread Cert.KernelModIdeal.nD Cert.KernelModIdeal.τ).loc Cert.KernelModIdeal.main_arg0)
      ∧ m' ((c.tc : Thread Cert.ReferenceModIdeal.nD Cert.ReferenceModIdeal.τ).loc Cert.ReferenceModIdeal.main_arg1) = m ((c.tc : Thread Cert.KernelModIdeal.nD Cert.KernelModIdeal.τ).loc Cert.KernelModIdeal.main_arg1)
      ∧ m' ((c.tc : Thread Cert.ReferenceModIdeal.nD Cert.ReferenceModIdeal.τ).loc Cert.ReferenceModIdeal.main_arg2) = m ((c.tc : Thread Cert.KernelModIdeal.nD Cert.KernelModIdeal.τ).loc Cert.KernelModIdeal.main_arg2)
      ∧ m' ((c.tc : Thread Cert.ReferenceModIdeal.nD Cert.ReferenceModIdeal.τ).loc Cert.ReferenceModIdeal.main_arg3) = m ((c.tc : Thread Cert.KernelModIdeal.nD Cert.KernelModIdeal.τ).loc Cert.KernelModIdeal.main_arg3)) →
    ∃ (v0 : (c : Dev Cert.KernelModIdeal.nD) → Buf (Elt Ideal) ((c.tc : Thread Cert.KernelModIdeal.nD Cert.KernelModIdeal.τ).loc Cert.KernelModIdeal.main_v0_0)) (v1 : (c : Dev Cert.KernelModIdeal.nD) → Buf (Elt Ideal) ((c.tc : Thread Cert.KernelModIdeal.nD Cert.KernelModIdeal.τ).loc Cert.KernelModIdeal.main_v0_1)) (v2 : (c : Dev Cert.KernelModIdeal.nD) → Buf (Elt Ideal) ((c.tc : Thread Cert.KernelModIdeal.nD Cert.KernelModIdeal.τ).loc Cert.KernelModIdeal.main_v0_2)) (v3 : (c : Dev Cert.KernelModIdeal.nD) → Buf (Elt Ideal) ((c.tc : Thread Cert.KernelModIdeal.nD Cert.KernelModIdeal.τ).loc Cert.KernelModIdeal.main_v0_3)),
      θ_run (Cert.KernelModIdeal.defs (F := Ideal)) (onTc (τ := Cert.KernelModIdeal.τ) (Cert.KernelModIdeal.main (F := Ideal))) ⟨m, fun _ => 0, g⟩ (fun r => ∀ c : Dev Cert.KernelModIdeal.nD,
          r.2.mem ((c.tc : Thread Cert.KernelModIdeal.nD Cert.KernelModIdeal.τ).loc Cert.KernelModIdeal.main_v0_0) = v0 c
          ∧ r.2.mem ((c.tc : Thread Cert.KernelModIdeal.nD Cert.KernelModIdeal.τ).loc Cert.KernelModIdeal.main_v0_1) = v1 c
          ∧ r.2.mem ((c.tc : Thread Cert.KernelModIdeal.nD Cert.KernelModIdeal.τ).loc Cert.KernelModIdeal.main_v0_2) = v2 c
          ∧ r.2.mem ((c.tc : Thread Cert.KernelModIdeal.nD Cert.KernelModIdeal.τ).loc Cert.KernelModIdeal.main_v0_3) = v3 c
          ∧ r.2.mem ((c.tc : Thread Cert.KernelModIdeal.nD Cert.KernelModIdeal.τ).loc Cert.KernelModIdeal.main_arg0) = m ((c.tc : Thread Cert.KernelModIdeal.nD Cert.KernelModIdeal.τ).loc Cert.KernelModIdeal.main_arg0)
          ∧ r.2.mem ((c.tc : Thread Cert.KernelModIdeal.nD Cert.KernelModIdeal.τ).loc Cert.KernelModIdeal.main_arg1) = m ((c.tc : Thread Cert.KernelModIdeal.nD Cert.KernelModIdeal.τ).loc Cert.KernelModIdeal.main_arg1)
          ∧ r.2.mem ((c.tc : Thread Cert.KernelModIdeal.nD Cert.KernelModIdeal.τ).loc Cert.KernelModIdeal.main_arg2) = m ((c.tc : Thread Cert.KernelModIdeal.nD Cert.KernelModIdeal.τ).loc Cert.KernelModIdeal.main_arg2)
          ∧ r.2.mem ((c.tc : Thread Cert.KernelModIdeal.nD Cert.KernelModIdeal.τ).loc Cert.KernelModIdeal.main_arg3) = m ((c.tc : Thread Cert.KernelModIdeal.nD Cert.KernelModIdeal.τ).loc Cert.KernelModIdeal.main_arg3))
      ∧ θ_run (Cert.ReferenceModIdeal.defs (F := Ideal)) (onTc (τ := Cert.ReferenceModIdeal.τ) (Cert.ReferenceModIdeal.main (F := Ideal))) ⟨m', fun _ => 0, g'⟩ (fun r => ∀ c : Dev Cert.ReferenceModIdeal.nD,
          r.2.mem ((c.tc : Thread Cert.ReferenceModIdeal.nD Cert.ReferenceModIdeal.τ).loc Cert.ReferenceModIdeal.main_v0) = v0 c
          ∧ r.2.mem ((c.tc : Thread Cert.ReferenceModIdeal.nD Cert.ReferenceModIdeal.τ).loc Cert.ReferenceModIdeal.main_v24) = v1 c
          ∧ r.2.mem ((c.tc : Thread Cert.ReferenceModIdeal.nD Cert.ReferenceModIdeal.τ).loc Cert.ReferenceModIdeal.main_v5) = v2 c
          ∧ r.2.mem ((c.tc : Thread Cert.ReferenceModIdeal.nD Cert.ReferenceModIdeal.τ).loc Cert.ReferenceModIdeal.main_v11) = v3 c
          ∧ r.2.mem ((c.tc : Thread Cert.ReferenceModIdeal.nD Cert.ReferenceModIdeal.τ).loc Cert.ReferenceModIdeal.main_arg0) = m' ((c.tc : Thread Cert.ReferenceModIdeal.nD Cert.ReferenceModIdeal.τ).loc Cert.ReferenceModIdeal.main_arg0)
          ∧ r.2.mem ((c.tc : Thread Cert.ReferenceModIdeal.nD Cert.ReferenceModIdeal.τ).loc Cert.ReferenceModIdeal.main_arg1) = m' ((c.tc : Thread Cert.ReferenceModIdeal.nD Cert.ReferenceModIdeal.τ).loc Cert.ReferenceModIdeal.main_arg1)
          ∧ r.2.mem ((c.tc : Thread Cert.ReferenceModIdeal.nD Cert.ReferenceModIdeal.τ).loc Cert.ReferenceModIdeal.main_arg2) = m' ((c.tc : Thread Cert.ReferenceModIdeal.nD Cert.ReferenceModIdeal.τ).loc Cert.ReferenceModIdeal.main_arg2)
          ∧ r.2.mem ((c.tc : Thread Cert.ReferenceModIdeal.nD Cert.ReferenceModIdeal.τ).loc Cert.ReferenceModIdeal.main_arg3) = m' ((c.tc : Thread Cert.ReferenceModIdeal.nD Cert.ReferenceModIdeal.τ).loc Cert.ReferenceModIdeal.main_arg3))

def preserves_KernelConv_KernelConvIdeal : Prop :=
  True

def algebraic_KernelConvIdeal_ReferenceConvIdeal [hKernelConvIdeal : Cert.KernelConvIdeal.Facts] [hReferenceConvIdeal : Cert.ReferenceConvIdeal.Facts] : Prop :=
  ∀ (m : (ℓ : Loc Cert.KernelConvIdeal.nD Cert.KernelConvIdeal.τ Cert.KernelConvIdeal.sig) → Buf (Elt Ideal) ℓ) (g : Dev Cert.KernelConvIdeal.nD → PrngReg)
    (m' : (ℓ : Loc Cert.ReferenceConvIdeal.nD Cert.ReferenceConvIdeal.τ Cert.ReferenceConvIdeal.sig) → Buf (Elt Ideal) ℓ) (g' : Dev Cert.ReferenceConvIdeal.nD → PrngReg), Pre_KernelConvIdeal m →
    (∀ c : Dev Cert.KernelConvIdeal.nD,
      m' ((c.tc : Thread Cert.ReferenceConvIdeal.nD Cert.ReferenceConvIdeal.τ).loc Cert.ReferenceConvIdeal.main_arg0) = m ((c.tc : Thread Cert.KernelConvIdeal.nD Cert.KernelConvIdeal.τ).loc Cert.KernelConvIdeal.main_arg0)
      ∧ m' ((c.tc : Thread Cert.ReferenceConvIdeal.nD Cert.ReferenceConvIdeal.τ).loc Cert.ReferenceConvIdeal.main_arg1) = m ((c.tc : Thread Cert.KernelConvIdeal.nD Cert.KernelConvIdeal.τ).loc Cert.KernelConvIdeal.main_arg1)
      ∧ m' ((c.tc : Thread Cert.ReferenceConvIdeal.nD Cert.ReferenceConvIdeal.τ).loc Cert.ReferenceConvIdeal.main_arg2) = m ((c.tc : Thread Cert.KernelConvIdeal.nD Cert.KernelConvIdeal.τ).loc Cert.KernelConvIdeal.main_arg2)
      ∧ m' ((c.tc : Thread Cert.ReferenceConvIdeal.nD Cert.ReferenceConvIdeal.τ).loc Cert.ReferenceConvIdeal.main_arg3) = m ((c.tc : Thread Cert.KernelConvIdeal.nD Cert.KernelConvIdeal.τ).loc Cert.KernelConvIdeal.main_arg3)) →
    ∃ (v0 : (c : Dev Cert.KernelConvIdeal.nD) → Buf (Elt Ideal) ((c.tc : Thread Cert.KernelConvIdeal.nD Cert.KernelConvIdeal.τ).loc Cert.KernelConvIdeal.main_v0_0)) (v1 : (c : Dev Cert.KernelConvIdeal.nD) → Buf (Elt Ideal) ((c.tc : Thread Cert.KernelConvIdeal.nD Cert.KernelConvIdeal.τ).loc Cert.KernelConvIdeal.main_v0_1)) (v2 : (c : Dev Cert.KernelConvIdeal.nD) → Buf (Elt Ideal) ((c.tc : Thread Cert.KernelConvIdeal.nD Cert.KernelConvIdeal.τ).loc Cert.KernelConvIdeal.main_v0_2)) (v3 : (c : Dev Cert.KernelConvIdeal.nD) → Buf (Elt Ideal) ((c.tc : Thread Cert.KernelConvIdeal.nD Cert.KernelConvIdeal.τ).loc Cert.KernelConvIdeal.main_v0_3)),
      θ_run (Cert.KernelConvIdeal.defs (F := Ideal)) (onTc (τ := Cert.KernelConvIdeal.τ) (Cert.KernelConvIdeal.main (F := Ideal))) ⟨m, fun _ => 0, g⟩ (fun r => ∀ c : Dev Cert.KernelConvIdeal.nD,
          r.2.mem ((c.tc : Thread Cert.KernelConvIdeal.nD Cert.KernelConvIdeal.τ).loc Cert.KernelConvIdeal.main_v0_0) = v0 c
          ∧ r.2.mem ((c.tc : Thread Cert.KernelConvIdeal.nD Cert.KernelConvIdeal.τ).loc Cert.KernelConvIdeal.main_v0_1) = v1 c
          ∧ r.2.mem ((c.tc : Thread Cert.KernelConvIdeal.nD Cert.KernelConvIdeal.τ).loc Cert.KernelConvIdeal.main_v0_2) = v2 c
          ∧ r.2.mem ((c.tc : Thread Cert.KernelConvIdeal.nD Cert.KernelConvIdeal.τ).loc Cert.KernelConvIdeal.main_v0_3) = v3 c
          ∧ r.2.mem ((c.tc : Thread Cert.KernelConvIdeal.nD Cert.KernelConvIdeal.τ).loc Cert.KernelConvIdeal.main_arg0) = m ((c.tc : Thread Cert.KernelConvIdeal.nD Cert.KernelConvIdeal.τ).loc Cert.KernelConvIdeal.main_arg0)
          ∧ r.2.mem ((c.tc : Thread Cert.KernelConvIdeal.nD Cert.KernelConvIdeal.τ).loc Cert.KernelConvIdeal.main_arg1) = m ((c.tc : Thread Cert.KernelConvIdeal.nD Cert.KernelConvIdeal.τ).loc Cert.KernelConvIdeal.main_arg1)
          ∧ r.2.mem ((c.tc : Thread Cert.KernelConvIdeal.nD Cert.KernelConvIdeal.τ).loc Cert.KernelConvIdeal.main_arg2) = m ((c.tc : Thread Cert.KernelConvIdeal.nD Cert.KernelConvIdeal.τ).loc Cert.KernelConvIdeal.main_arg2)
          ∧ r.2.mem ((c.tc : Thread Cert.KernelConvIdeal.nD Cert.KernelConvIdeal.τ).loc Cert.KernelConvIdeal.main_arg3) = m ((c.tc : Thread Cert.KernelConvIdeal.nD Cert.KernelConvIdeal.τ).loc Cert.KernelConvIdeal.main_arg3))
      ∧ θ_run (Cert.ReferenceConvIdeal.defs (F := Ideal)) (onTc (τ := Cert.ReferenceConvIdeal.τ) (Cert.ReferenceConvIdeal.main (F := Ideal))) ⟨m', fun _ => 0, g'⟩ (fun r => ∀ c : Dev Cert.ReferenceConvIdeal.nD,
          r.2.mem ((c.tc : Thread Cert.ReferenceConvIdeal.nD Cert.ReferenceConvIdeal.τ).loc Cert.ReferenceConvIdeal.main_v0) = v0 c
          ∧ r.2.mem ((c.tc : Thread Cert.ReferenceConvIdeal.nD Cert.ReferenceConvIdeal.τ).loc Cert.ReferenceConvIdeal.main_v24) = v1 c
          ∧ r.2.mem ((c.tc : Thread Cert.ReferenceConvIdeal.nD Cert.ReferenceConvIdeal.τ).loc Cert.ReferenceConvIdeal.main_v5) = v2 c
          ∧ r.2.mem ((c.tc : Thread Cert.ReferenceConvIdeal.nD Cert.ReferenceConvIdeal.τ).loc Cert.ReferenceConvIdeal.main_v11) = v3 c
          ∧ r.2.mem ((c.tc : Thread Cert.ReferenceConvIdeal.nD Cert.ReferenceConvIdeal.τ).loc Cert.ReferenceConvIdeal.main_arg0) = m' ((c.tc : Thread Cert.ReferenceConvIdeal.nD Cert.ReferenceConvIdeal.τ).loc Cert.ReferenceConvIdeal.main_arg0)
          ∧ r.2.mem ((c.tc : Thread Cert.ReferenceConvIdeal.nD Cert.ReferenceConvIdeal.τ).loc Cert.ReferenceConvIdeal.main_arg1) = m' ((c.tc : Thread Cert.ReferenceConvIdeal.nD Cert.ReferenceConvIdeal.τ).loc Cert.ReferenceConvIdeal.main_arg1)
          ∧ r.2.mem ((c.tc : Thread Cert.ReferenceConvIdeal.nD Cert.ReferenceConvIdeal.τ).loc Cert.ReferenceConvIdeal.main_arg2) = m' ((c.tc : Thread Cert.ReferenceConvIdeal.nD Cert.ReferenceConvIdeal.τ).loc Cert.ReferenceConvIdeal.main_arg2)
          ∧ r.2.mem ((c.tc : Thread Cert.ReferenceConvIdeal.nD Cert.ReferenceConvIdeal.τ).loc Cert.ReferenceConvIdeal.main_arg3) = m' ((c.tc : Thread Cert.ReferenceConvIdeal.nD Cert.ReferenceConvIdeal.τ).loc Cert.ReferenceConvIdeal.main_arg3))

def preserves_KernelMixOut_KernelMixOutIdeal : Prop :=
  True

def algebraic_KernelMixOutIdeal_ReferenceMixOutIdeal [hKernelMixOutIdeal : Cert.KernelMixOutIdeal.Facts] [hReferenceMixOutIdeal : Cert.ReferenceMixOutIdeal.Facts] : Prop :=
  ∀ (m : (ℓ : Loc Cert.KernelMixOutIdeal.nD Cert.KernelMixOutIdeal.τ Cert.KernelMixOutIdeal.sig) → Buf (Elt Ideal) ℓ) (g : Dev Cert.KernelMixOutIdeal.nD → PrngReg)
    (m' : (ℓ : Loc Cert.ReferenceMixOutIdeal.nD Cert.ReferenceMixOutIdeal.τ Cert.ReferenceMixOutIdeal.sig) → Buf (Elt Ideal) ℓ) (g' : Dev Cert.ReferenceMixOutIdeal.nD → PrngReg), Pre_KernelMixOutIdeal m →
    (∀ c : Dev Cert.KernelMixOutIdeal.nD,
      m' ((c.tc : Thread Cert.ReferenceMixOutIdeal.nD Cert.ReferenceMixOutIdeal.τ).loc Cert.ReferenceMixOutIdeal.main_arg0) = m ((c.tc : Thread Cert.KernelMixOutIdeal.nD Cert.KernelMixOutIdeal.τ).loc Cert.KernelMixOutIdeal.main_arg0)
      ∧ m' ((c.tc : Thread Cert.ReferenceMixOutIdeal.nD Cert.ReferenceMixOutIdeal.τ).loc Cert.ReferenceMixOutIdeal.main_arg1) = m ((c.tc : Thread Cert.KernelMixOutIdeal.nD Cert.KernelMixOutIdeal.τ).loc Cert.KernelMixOutIdeal.main_arg1)
      ∧ m' ((c.tc : Thread Cert.ReferenceMixOutIdeal.nD Cert.ReferenceMixOutIdeal.τ).loc Cert.ReferenceMixOutIdeal.main_arg2) = m ((c.tc : Thread Cert.KernelMixOutIdeal.nD Cert.KernelMixOutIdeal.τ).loc Cert.KernelMixOutIdeal.main_arg2)
      ∧ m' ((c.tc : Thread Cert.ReferenceMixOutIdeal.nD Cert.ReferenceMixOutIdeal.τ).loc Cert.ReferenceMixOutIdeal.main_arg3) = m ((c.tc : Thread Cert.KernelMixOutIdeal.nD Cert.KernelMixOutIdeal.τ).loc Cert.KernelMixOutIdeal.main_arg3)
      ∧ m' ((c.tc : Thread Cert.ReferenceMixOutIdeal.nD Cert.ReferenceMixOutIdeal.τ).loc Cert.ReferenceMixOutIdeal.main_arg4) = m ((c.tc : Thread Cert.KernelMixOutIdeal.nD Cert.KernelMixOutIdeal.τ).loc Cert.KernelMixOutIdeal.main_arg4)
      ∧ m' ((c.tc : Thread Cert.ReferenceMixOutIdeal.nD Cert.ReferenceMixOutIdeal.τ).loc Cert.ReferenceMixOutIdeal.main_arg5) = m ((c.tc : Thread Cert.KernelMixOutIdeal.nD Cert.KernelMixOutIdeal.τ).loc Cert.KernelMixOutIdeal.main_arg5)
      ∧ m' ((c.tc : Thread Cert.ReferenceMixOutIdeal.nD Cert.ReferenceMixOutIdeal.τ).loc Cert.ReferenceMixOutIdeal.main_arg6) = m ((c.tc : Thread Cert.KernelMixOutIdeal.nD Cert.KernelMixOutIdeal.τ).loc Cert.KernelMixOutIdeal.main_arg6)) →
    ∃ (v0 : (c : Dev Cert.KernelMixOutIdeal.nD) → Buf (Elt Ideal) ((c.tc : Thread Cert.KernelMixOutIdeal.nD Cert.KernelMixOutIdeal.τ).loc Cert.KernelMixOutIdeal.main_v11_0)) (v1 : (c : Dev Cert.KernelMixOutIdeal.nD) → Buf (Elt Ideal) ((c.tc : Thread Cert.KernelMixOutIdeal.nD Cert.KernelMixOutIdeal.τ).loc Cert.KernelMixOutIdeal.main_v11_1)) (v2 : (c : Dev Cert.KernelMixOutIdeal.nD) → Buf (Elt Ideal) ((c.tc : Thread Cert.KernelMixOutIdeal.nD Cert.KernelMixOutIdeal.τ).loc Cert.KernelMixOutIdeal.main_v11_2)),
      θ_run (Cert.KernelMixOutIdeal.defs (F := Ideal)) (onTc (τ := Cert.KernelMixOutIdeal.τ) (Cert.KernelMixOutIdeal.main (F := Ideal))) ⟨m, fun _ => 0, g⟩ (fun r => ∀ c : Dev Cert.KernelMixOutIdeal.nD,
          r.2.mem ((c.tc : Thread Cert.KernelMixOutIdeal.nD Cert.KernelMixOutIdeal.τ).loc Cert.KernelMixOutIdeal.main_v11_0) = v0 c
          ∧ r.2.mem ((c.tc : Thread Cert.KernelMixOutIdeal.nD Cert.KernelMixOutIdeal.τ).loc Cert.KernelMixOutIdeal.main_v11_1) = v1 c
          ∧ r.2.mem ((c.tc : Thread Cert.KernelMixOutIdeal.nD Cert.KernelMixOutIdeal.τ).loc Cert.KernelMixOutIdeal.main_v11_2) = v2 c
          ∧ r.2.mem ((c.tc : Thread Cert.KernelMixOutIdeal.nD Cert.KernelMixOutIdeal.τ).loc Cert.KernelMixOutIdeal.main_arg0) = m ((c.tc : Thread Cert.KernelMixOutIdeal.nD Cert.KernelMixOutIdeal.τ).loc Cert.KernelMixOutIdeal.main_arg0)
          ∧ r.2.mem ((c.tc : Thread Cert.KernelMixOutIdeal.nD Cert.KernelMixOutIdeal.τ).loc Cert.KernelMixOutIdeal.main_arg1) = m ((c.tc : Thread Cert.KernelMixOutIdeal.nD Cert.KernelMixOutIdeal.τ).loc Cert.KernelMixOutIdeal.main_arg1)
          ∧ r.2.mem ((c.tc : Thread Cert.KernelMixOutIdeal.nD Cert.KernelMixOutIdeal.τ).loc Cert.KernelMixOutIdeal.main_arg2) = m ((c.tc : Thread Cert.KernelMixOutIdeal.nD Cert.KernelMixOutIdeal.τ).loc Cert.KernelMixOutIdeal.main_arg2)
          ∧ r.2.mem ((c.tc : Thread Cert.KernelMixOutIdeal.nD Cert.KernelMixOutIdeal.τ).loc Cert.KernelMixOutIdeal.main_arg3) = m ((c.tc : Thread Cert.KernelMixOutIdeal.nD Cert.KernelMixOutIdeal.τ).loc Cert.KernelMixOutIdeal.main_arg3)
          ∧ r.2.mem ((c.tc : Thread Cert.KernelMixOutIdeal.nD Cert.KernelMixOutIdeal.τ).loc Cert.KernelMixOutIdeal.main_arg4) = m ((c.tc : Thread Cert.KernelMixOutIdeal.nD Cert.KernelMixOutIdeal.τ).loc Cert.KernelMixOutIdeal.main_arg4)
          ∧ r.2.mem ((c.tc : Thread Cert.KernelMixOutIdeal.nD Cert.KernelMixOutIdeal.τ).loc Cert.KernelMixOutIdeal.main_arg5) = m ((c.tc : Thread Cert.KernelMixOutIdeal.nD Cert.KernelMixOutIdeal.τ).loc Cert.KernelMixOutIdeal.main_arg5)
          ∧ r.2.mem ((c.tc : Thread Cert.KernelMixOutIdeal.nD Cert.KernelMixOutIdeal.τ).loc Cert.KernelMixOutIdeal.main_arg6) = m ((c.tc : Thread Cert.KernelMixOutIdeal.nD Cert.KernelMixOutIdeal.τ).loc Cert.KernelMixOutIdeal.main_arg6))
      ∧ θ_run (Cert.ReferenceMixOutIdeal.defs (F := Ideal)) (onTc (τ := Cert.ReferenceMixOutIdeal.τ) (Cert.ReferenceMixOutIdeal.main (F := Ideal))) ⟨m', fun _ => 0, g'⟩ (fun r => ∀ c : Dev Cert.ReferenceMixOutIdeal.nD,
          r.2.mem ((c.tc : Thread Cert.ReferenceMixOutIdeal.nD Cert.ReferenceMixOutIdeal.τ).loc Cert.ReferenceMixOutIdeal.main_v6) = v0 c
          ∧ r.2.mem ((c.tc : Thread Cert.ReferenceMixOutIdeal.nD Cert.ReferenceMixOutIdeal.τ).loc Cert.ReferenceMixOutIdeal.main_v5) = v1 c
          ∧ r.2.mem ((c.tc : Thread Cert.ReferenceMixOutIdeal.nD Cert.ReferenceMixOutIdeal.τ).loc Cert.ReferenceMixOutIdeal.main_v28) = v2 c
          ∧ r.2.mem ((c.tc : Thread Cert.ReferenceMixOutIdeal.nD Cert.ReferenceMixOutIdeal.τ).loc Cert.ReferenceMixOutIdeal.main_arg0) = m' ((c.tc : Thread Cert.ReferenceMixOutIdeal.nD Cert.ReferenceMixOutIdeal.τ).loc Cert.ReferenceMixOutIdeal.main_arg0)
          ∧ r.2.mem ((c.tc : Thread Cert.ReferenceMixOutIdeal.nD Cert.ReferenceMixOutIdeal.τ).loc Cert.ReferenceMixOutIdeal.main_arg1) = m' ((c.tc : Thread Cert.ReferenceMixOutIdeal.nD Cert.ReferenceMixOutIdeal.τ).loc Cert.ReferenceMixOutIdeal.main_arg1)
          ∧ r.2.mem ((c.tc : Thread Cert.ReferenceMixOutIdeal.nD Cert.ReferenceMixOutIdeal.τ).loc Cert.ReferenceMixOutIdeal.main_arg2) = m' ((c.tc : Thread Cert.ReferenceMixOutIdeal.nD Cert.ReferenceMixOutIdeal.τ).loc Cert.ReferenceMixOutIdeal.main_arg2)
          ∧ r.2.mem ((c.tc : Thread Cert.ReferenceMixOutIdeal.nD Cert.ReferenceMixOutIdeal.τ).loc Cert.ReferenceMixOutIdeal.main_arg3) = m' ((c.tc : Thread Cert.ReferenceMixOutIdeal.nD Cert.ReferenceMixOutIdeal.τ).loc Cert.ReferenceMixOutIdeal.main_arg3)
          ∧ r.2.mem ((c.tc : Thread Cert.ReferenceMixOutIdeal.nD Cert.ReferenceMixOutIdeal.τ).loc Cert.ReferenceMixOutIdeal.main_arg4) = m' ((c.tc : Thread Cert.ReferenceMixOutIdeal.nD Cert.ReferenceMixOutIdeal.τ).loc Cert.ReferenceMixOutIdeal.main_arg4)
          ∧ r.2.mem ((c.tc : Thread Cert.ReferenceMixOutIdeal.nD Cert.ReferenceMixOutIdeal.τ).loc Cert.ReferenceMixOutIdeal.main_arg5) = m' ((c.tc : Thread Cert.ReferenceMixOutIdeal.nD Cert.ReferenceMixOutIdeal.τ).loc Cert.ReferenceMixOutIdeal.main_arg5)
          ∧ r.2.mem ((c.tc : Thread Cert.ReferenceMixOutIdeal.nD Cert.ReferenceMixOutIdeal.τ).loc Cert.ReferenceMixOutIdeal.main_arg6) = m' ((c.tc : Thread Cert.ReferenceMixOutIdeal.nD Cert.ReferenceMixOutIdeal.τ).loc Cert.ReferenceMixOutIdeal.main_arg6))

def preserves_KernelMixOutT_KernelMixOutTIdeal : Prop :=
  True

def algebraic_KernelMixOutTIdeal_ReferenceMixOutTIdeal [hKernelMixOutTIdeal : Cert.KernelMixOutTIdeal.Facts] [hReferenceMixOutTIdeal : Cert.ReferenceMixOutTIdeal.Facts] : Prop :=
  ∀ (m : (ℓ : Loc Cert.KernelMixOutTIdeal.nD Cert.KernelMixOutTIdeal.τ Cert.KernelMixOutTIdeal.sig) → Buf (Elt Ideal) ℓ) (g : Dev Cert.KernelMixOutTIdeal.nD → PrngReg)
    (m' : (ℓ : Loc Cert.ReferenceMixOutTIdeal.nD Cert.ReferenceMixOutTIdeal.τ Cert.ReferenceMixOutTIdeal.sig) → Buf (Elt Ideal) ℓ) (g' : Dev Cert.ReferenceMixOutTIdeal.nD → PrngReg), Pre_KernelMixOutTIdeal m →
    (∀ c : Dev Cert.KernelMixOutTIdeal.nD,
      m' ((c.tc : Thread Cert.ReferenceMixOutTIdeal.nD Cert.ReferenceMixOutTIdeal.τ).loc Cert.ReferenceMixOutTIdeal.main_arg0) = m ((c.tc : Thread Cert.KernelMixOutTIdeal.nD Cert.KernelMixOutTIdeal.τ).loc Cert.KernelMixOutTIdeal.main_arg0)
      ∧ m' ((c.tc : Thread Cert.ReferenceMixOutTIdeal.nD Cert.ReferenceMixOutTIdeal.τ).loc Cert.ReferenceMixOutTIdeal.main_arg1) = m ((c.tc : Thread Cert.KernelMixOutTIdeal.nD Cert.KernelMixOutTIdeal.τ).loc Cert.KernelMixOutTIdeal.main_arg1)
      ∧ m' ((c.tc : Thread Cert.ReferenceMixOutTIdeal.nD Cert.ReferenceMixOutTIdeal.τ).loc Cert.ReferenceMixOutTIdeal.main_arg2) = m ((c.tc : Thread Cert.KernelMixOutTIdeal.nD Cert.KernelMixOutTIdeal.τ).loc Cert.KernelMixOutTIdeal.main_arg2)) →
    ∃ (v0 : (c : Dev Cert.KernelMixOutTIdeal.nD) → Buf (Elt Ideal) ((c.tc : Thread Cert.KernelMixOutTIdeal.nD Cert.KernelMixOutTIdeal.τ).loc Cert.KernelMixOutTIdeal.main_v1)),
      θ_run (Cert.KernelMixOutTIdeal.defs (F := Ideal)) (onTc (τ := Cert.KernelMixOutTIdeal.τ) (Cert.KernelMixOutTIdeal.main (F := Ideal))) ⟨m, fun _ => 0, g⟩ (fun r => ∀ c : Dev Cert.KernelMixOutTIdeal.nD,
          r.2.mem ((c.tc : Thread Cert.KernelMixOutTIdeal.nD Cert.KernelMixOutTIdeal.τ).loc Cert.KernelMixOutTIdeal.main_v1) = v0 c
          ∧ r.2.mem ((c.tc : Thread Cert.KernelMixOutTIdeal.nD Cert.KernelMixOutTIdeal.τ).loc Cert.KernelMixOutTIdeal.main_arg0) = m ((c.tc : Thread Cert.KernelMixOutTIdeal.nD Cert.KernelMixOutTIdeal.τ).loc Cert.KernelMixOutTIdeal.main_arg0)
          ∧ r.2.mem ((c.tc : Thread Cert.KernelMixOutTIdeal.nD Cert.KernelMixOutTIdeal.τ).loc Cert.KernelMixOutTIdeal.main_arg1) = m ((c.tc : Thread Cert.KernelMixOutTIdeal.nD Cert.KernelMixOutTIdeal.τ).loc Cert.KernelMixOutTIdeal.main_arg1)
          ∧ r.2.mem ((c.tc : Thread Cert.KernelMixOutTIdeal.nD Cert.KernelMixOutTIdeal.τ).loc Cert.KernelMixOutTIdeal.main_arg2) = m ((c.tc : Thread Cert.KernelMixOutTIdeal.nD Cert.KernelMixOutTIdeal.τ).loc Cert.KernelMixOutTIdeal.main_arg2))
      ∧ θ_run (Cert.ReferenceMixOutTIdeal.defs (F := Ideal)) (onTc (τ := Cert.ReferenceMixOutTIdeal.τ) (Cert.ReferenceMixOutTIdeal.main (F := Ideal))) ⟨m', fun _ => 0, g'⟩ (fun r => ∀ c : Dev Cert.ReferenceMixOutTIdeal.nD,
          r.2.mem ((c.tc : Thread Cert.ReferenceMixOutTIdeal.nD Cert.ReferenceMixOutTIdeal.τ).loc Cert.ReferenceMixOutTIdeal.main_v3) = v0 c
          ∧ r.2.mem ((c.tc : Thread Cert.ReferenceMixOutTIdeal.nD Cert.ReferenceMixOutTIdeal.τ).loc Cert.ReferenceMixOutTIdeal.main_arg0) = m' ((c.tc : Thread Cert.ReferenceMixOutTIdeal.nD Cert.ReferenceMixOutTIdeal.τ).loc Cert.ReferenceMixOutTIdeal.main_arg0)
          ∧ r.2.mem ((c.tc : Thread Cert.ReferenceMixOutTIdeal.nD Cert.ReferenceMixOutTIdeal.τ).loc Cert.ReferenceMixOutTIdeal.main_arg1) = m' ((c.tc : Thread Cert.ReferenceMixOutTIdeal.nD Cert.ReferenceMixOutTIdeal.τ).loc Cert.ReferenceMixOutTIdeal.main_arg1)
          ∧ r.2.mem ((c.tc : Thread Cert.ReferenceMixOutTIdeal.nD Cert.ReferenceMixOutTIdeal.τ).loc Cert.ReferenceMixOutTIdeal.main_arg2) = m' ((c.tc : Thread Cert.ReferenceMixOutTIdeal.nD Cert.ReferenceMixOutTIdeal.τ).loc Cert.ReferenceMixOutTIdeal.main_arg2))

def preserves_KernelHgZ_KernelHgZIdeal : Prop :=
  True

def algebraic_KernelHgZIdeal_ReferenceHgZIdeal [hKernelHgZIdeal : Cert.KernelHgZIdeal.Facts] [hReferenceHgZIdeal : Cert.ReferenceHgZIdeal.Facts] : Prop :=
  ∀ (m : (ℓ : Loc Cert.KernelHgZIdeal.nD Cert.KernelHgZIdeal.τ Cert.KernelHgZIdeal.sig) → Buf (Elt Ideal) ℓ) (g : Dev Cert.KernelHgZIdeal.nD → PrngReg)
    (m' : (ℓ : Loc Cert.ReferenceHgZIdeal.nD Cert.ReferenceHgZIdeal.τ Cert.ReferenceHgZIdeal.sig) → Buf (Elt Ideal) ℓ) (g' : Dev Cert.ReferenceHgZIdeal.nD → PrngReg), Pre_KernelHgZIdeal m →
    (∀ c : Dev Cert.KernelHgZIdeal.nD,
      m' ((c.tc : Thread Cert.ReferenceHgZIdeal.nD Cert.ReferenceHgZIdeal.τ).loc Cert.ReferenceHgZIdeal.main_arg0) = m ((c.tc : Thread Cert.KernelHgZIdeal.nD Cert.KernelHgZIdeal.τ).loc Cert.KernelHgZIdeal.main_arg0)
      ∧ m' ((c.tc : Thread Cert.ReferenceHgZIdeal.nD Cert.ReferenceHgZIdeal.τ).loc Cert.ReferenceHgZIdeal.main_arg1) = m ((c.tc : Thread Cert.KernelHgZIdeal.nD Cert.KernelHgZIdeal.τ).loc Cert.KernelHgZIdeal.main_arg1)
      ∧ m' ((c.tc : Thread Cert.ReferenceHgZIdeal.nD Cert.ReferenceHgZIdeal.τ).loc Cert.ReferenceHgZIdeal.main_arg2) = m ((c.tc : Thread Cert.KernelHgZIdeal.nD Cert.KernelHgZIdeal.τ).loc Cert.KernelHgZIdeal.main_arg2)
      ∧ m' ((c.tc : Thread Cert.ReferenceHgZIdeal.nD Cert.ReferenceHgZIdeal.τ).loc Cert.ReferenceHgZIdeal.main_arg3) = m ((c.tc : Thread Cert.KernelHgZIdeal.nD Cert.KernelHgZIdeal.τ).loc Cert.KernelHgZIdeal.main_arg3)
      ∧ m' ((c.tc : Thread Cert.ReferenceHgZIdeal.nD Cert.ReferenceHgZIdeal.τ).loc Cert.ReferenceHgZIdeal.main_arg4) = m ((c.tc : Thread Cert.KernelHgZIdeal.nD Cert.KernelHgZIdeal.τ).loc Cert.KernelHgZIdeal.main_arg4)) →
    ∃ (v0 : (c : Dev Cert.KernelHgZIdeal.nD) → Buf (Elt Ideal) ((c.tc : Thread Cert.KernelHgZIdeal.nD Cert.KernelHgZIdeal.τ).loc Cert.KernelHgZIdeal.main_v23)),
      θ_run (Cert.KernelHgZIdeal.defs (F := Ideal)) (onTc (τ := Cert.KernelHgZIdeal.τ) (Cert.KernelHgZIdeal.main (F := Ideal))) ⟨m, fun _ => 0, g⟩ (fun r => ∀ c : Dev Cert.KernelHgZIdeal.nD,
          r.2.mem ((c.tc : Thread Cert.KernelHgZIdeal.nD Cert.KernelHgZIdeal.τ).loc Cert.KernelHgZIdeal.main_v23) = v0 c
          ∧ r.2.mem ((c.tc : Thread Cert.KernelHgZIdeal.nD Cert.KernelHgZIdeal.τ).loc Cert.KernelHgZIdeal.main_arg0) = m ((c.tc : Thread Cert.KernelHgZIdeal.nD Cert.KernelHgZIdeal.τ).loc Cert.KernelHgZIdeal.main_arg0)
          ∧ r.2.mem ((c.tc : Thread Cert.KernelHgZIdeal.nD Cert.KernelHgZIdeal.τ).loc Cert.KernelHgZIdeal.main_arg1) = m ((c.tc : Thread Cert.KernelHgZIdeal.nD Cert.KernelHgZIdeal.τ).loc Cert.KernelHgZIdeal.main_arg1)
          ∧ r.2.mem ((c.tc : Thread Cert.KernelHgZIdeal.nD Cert.KernelHgZIdeal.τ).loc Cert.KernelHgZIdeal.main_arg2) = m ((c.tc : Thread Cert.KernelHgZIdeal.nD Cert.KernelHgZIdeal.τ).loc Cert.KernelHgZIdeal.main_arg2)
          ∧ r.2.mem ((c.tc : Thread Cert.KernelHgZIdeal.nD Cert.KernelHgZIdeal.τ).loc Cert.KernelHgZIdeal.main_arg3) = m ((c.tc : Thread Cert.KernelHgZIdeal.nD Cert.KernelHgZIdeal.τ).loc Cert.KernelHgZIdeal.main_arg3)
          ∧ r.2.mem ((c.tc : Thread Cert.KernelHgZIdeal.nD Cert.KernelHgZIdeal.τ).loc Cert.KernelHgZIdeal.main_arg4) = m ((c.tc : Thread Cert.KernelHgZIdeal.nD Cert.KernelHgZIdeal.τ).loc Cert.KernelHgZIdeal.main_arg4))
      ∧ θ_run (Cert.ReferenceHgZIdeal.defs (F := Ideal)) (onTc (τ := Cert.ReferenceHgZIdeal.τ) (Cert.ReferenceHgZIdeal.main (F := Ideal))) ⟨m', fun _ => 0, g'⟩ (fun r => ∀ c : Dev Cert.ReferenceHgZIdeal.nD,
          r.2.mem ((c.tc : Thread Cert.ReferenceHgZIdeal.nD Cert.ReferenceHgZIdeal.τ).loc Cert.ReferenceHgZIdeal.main_v21) = v0 c
          ∧ r.2.mem ((c.tc : Thread Cert.ReferenceHgZIdeal.nD Cert.ReferenceHgZIdeal.τ).loc Cert.ReferenceHgZIdeal.main_arg0) = m' ((c.tc : Thread Cert.ReferenceHgZIdeal.nD Cert.ReferenceHgZIdeal.τ).loc Cert.ReferenceHgZIdeal.main_arg0)
          ∧ r.2.mem ((c.tc : Thread Cert.ReferenceHgZIdeal.nD Cert.ReferenceHgZIdeal.τ).loc Cert.ReferenceHgZIdeal.main_arg1) = m' ((c.tc : Thread Cert.ReferenceHgZIdeal.nD Cert.ReferenceHgZIdeal.τ).loc Cert.ReferenceHgZIdeal.main_arg1)
          ∧ r.2.mem ((c.tc : Thread Cert.ReferenceHgZIdeal.nD Cert.ReferenceHgZIdeal.τ).loc Cert.ReferenceHgZIdeal.main_arg2) = m' ((c.tc : Thread Cert.ReferenceHgZIdeal.nD Cert.ReferenceHgZIdeal.τ).loc Cert.ReferenceHgZIdeal.main_arg2)
          ∧ r.2.mem ((c.tc : Thread Cert.ReferenceHgZIdeal.nD Cert.ReferenceHgZIdeal.τ).loc Cert.ReferenceHgZIdeal.main_arg3) = m' ((c.tc : Thread Cert.ReferenceHgZIdeal.nD Cert.ReferenceHgZIdeal.τ).loc Cert.ReferenceHgZIdeal.main_arg3)
          ∧ r.2.mem ((c.tc : Thread Cert.ReferenceHgZIdeal.nD Cert.ReferenceHgZIdeal.τ).loc Cert.ReferenceHgZIdeal.main_arg4) = m' ((c.tc : Thread Cert.ReferenceHgZIdeal.nD Cert.ReferenceHgZIdeal.τ).loc Cert.ReferenceHgZIdeal.main_arg4))

def preserves_KernelRgZ_KernelRgZIdeal : Prop :=
  True

def algebraic_KernelRgZIdeal_ReferenceRgZIdeal [hKernelRgZIdeal : Cert.KernelRgZIdeal.Facts] [hReferenceRgZIdeal : Cert.ReferenceRgZIdeal.Facts] : Prop :=
  ∀ (m : (ℓ : Loc Cert.KernelRgZIdeal.nD Cert.KernelRgZIdeal.τ Cert.KernelRgZIdeal.sig) → Buf (Elt Ideal) ℓ) (g : Dev Cert.KernelRgZIdeal.nD → PrngReg)
    (m' : (ℓ : Loc Cert.ReferenceRgZIdeal.nD Cert.ReferenceRgZIdeal.τ Cert.ReferenceRgZIdeal.sig) → Buf (Elt Ideal) ℓ) (g' : Dev Cert.ReferenceRgZIdeal.nD → PrngReg), Pre_KernelRgZIdeal m →
    (∀ c : Dev Cert.KernelRgZIdeal.nD,
      m' ((c.tc : Thread Cert.ReferenceRgZIdeal.nD Cert.ReferenceRgZIdeal.τ).loc Cert.ReferenceRgZIdeal.main_arg0) = m ((c.tc : Thread Cert.KernelRgZIdeal.nD Cert.KernelRgZIdeal.τ).loc Cert.KernelRgZIdeal.main_arg0)
      ∧ m' ((c.tc : Thread Cert.ReferenceRgZIdeal.nD Cert.ReferenceRgZIdeal.τ).loc Cert.ReferenceRgZIdeal.main_arg1) = m ((c.tc : Thread Cert.KernelRgZIdeal.nD Cert.KernelRgZIdeal.τ).loc Cert.KernelRgZIdeal.main_arg1)
      ∧ m' ((c.tc : Thread Cert.ReferenceRgZIdeal.nD Cert.ReferenceRgZIdeal.τ).loc Cert.ReferenceRgZIdeal.main_arg2) = m ((c.tc : Thread Cert.KernelRgZIdeal.nD Cert.KernelRgZIdeal.τ).loc Cert.KernelRgZIdeal.main_arg2)
      ∧ m' ((c.tc : Thread Cert.ReferenceRgZIdeal.nD Cert.ReferenceRgZIdeal.τ).loc Cert.ReferenceRgZIdeal.main_arg3) = m ((c.tc : Thread Cert.KernelRgZIdeal.nD Cert.KernelRgZIdeal.τ).loc Cert.KernelRgZIdeal.main_arg3)
      ∧ m' ((c.tc : Thread Cert.ReferenceRgZIdeal.nD Cert.ReferenceRgZIdeal.τ).loc Cert.ReferenceRgZIdeal.main_arg4) = m ((c.tc : Thread Cert.KernelRgZIdeal.nD Cert.KernelRgZIdeal.τ).loc Cert.KernelRgZIdeal.main_arg4)) →
    ∃ (v0 : (c : Dev Cert.KernelRgZIdeal.nD) → Buf (Elt Ideal) ((c.tc : Thread Cert.KernelRgZIdeal.nD Cert.KernelRgZIdeal.τ).loc Cert.KernelRgZIdeal.main_v23)),
      θ_run (Cert.KernelRgZIdeal.defs (F := Ideal)) (onTc (τ := Cert.KernelRgZIdeal.τ) (Cert.KernelRgZIdeal.main (F := Ideal))) ⟨m, fun _ => 0, g⟩ (fun r => ∀ c : Dev Cert.KernelRgZIdeal.nD,
          r.2.mem ((c.tc : Thread Cert.KernelRgZIdeal.nD Cert.KernelRgZIdeal.τ).loc Cert.KernelRgZIdeal.main_v23) = v0 c
          ∧ r.2.mem ((c.tc : Thread Cert.KernelRgZIdeal.nD Cert.KernelRgZIdeal.τ).loc Cert.KernelRgZIdeal.main_arg0) = m ((c.tc : Thread Cert.KernelRgZIdeal.nD Cert.KernelRgZIdeal.τ).loc Cert.KernelRgZIdeal.main_arg0)
          ∧ r.2.mem ((c.tc : Thread Cert.KernelRgZIdeal.nD Cert.KernelRgZIdeal.τ).loc Cert.KernelRgZIdeal.main_arg1) = m ((c.tc : Thread Cert.KernelRgZIdeal.nD Cert.KernelRgZIdeal.τ).loc Cert.KernelRgZIdeal.main_arg1)
          ∧ r.2.mem ((c.tc : Thread Cert.KernelRgZIdeal.nD Cert.KernelRgZIdeal.τ).loc Cert.KernelRgZIdeal.main_arg2) = m ((c.tc : Thread Cert.KernelRgZIdeal.nD Cert.KernelRgZIdeal.τ).loc Cert.KernelRgZIdeal.main_arg2)
          ∧ r.2.mem ((c.tc : Thread Cert.KernelRgZIdeal.nD Cert.KernelRgZIdeal.τ).loc Cert.KernelRgZIdeal.main_arg3) = m ((c.tc : Thread Cert.KernelRgZIdeal.nD Cert.KernelRgZIdeal.τ).loc Cert.KernelRgZIdeal.main_arg3)
          ∧ r.2.mem ((c.tc : Thread Cert.KernelRgZIdeal.nD Cert.KernelRgZIdeal.τ).loc Cert.KernelRgZIdeal.main_arg4) = m ((c.tc : Thread Cert.KernelRgZIdeal.nD Cert.KernelRgZIdeal.τ).loc Cert.KernelRgZIdeal.main_arg4))
      ∧ θ_run (Cert.ReferenceRgZIdeal.defs (F := Ideal)) (onTc (τ := Cert.ReferenceRgZIdeal.τ) (Cert.ReferenceRgZIdeal.main (F := Ideal))) ⟨m', fun _ => 0, g'⟩ (fun r => ∀ c : Dev Cert.ReferenceRgZIdeal.nD,
          r.2.mem ((c.tc : Thread Cert.ReferenceRgZIdeal.nD Cert.ReferenceRgZIdeal.τ).loc Cert.ReferenceRgZIdeal.main_v21) = v0 c
          ∧ r.2.mem ((c.tc : Thread Cert.ReferenceRgZIdeal.nD Cert.ReferenceRgZIdeal.τ).loc Cert.ReferenceRgZIdeal.main_arg0) = m' ((c.tc : Thread Cert.ReferenceRgZIdeal.nD Cert.ReferenceRgZIdeal.τ).loc Cert.ReferenceRgZIdeal.main_arg0)
          ∧ r.2.mem ((c.tc : Thread Cert.ReferenceRgZIdeal.nD Cert.ReferenceRgZIdeal.τ).loc Cert.ReferenceRgZIdeal.main_arg1) = m' ((c.tc : Thread Cert.ReferenceRgZIdeal.nD Cert.ReferenceRgZIdeal.τ).loc Cert.ReferenceRgZIdeal.main_arg1)
          ∧ r.2.mem ((c.tc : Thread Cert.ReferenceRgZIdeal.nD Cert.ReferenceRgZIdeal.τ).loc Cert.ReferenceRgZIdeal.main_arg2) = m' ((c.tc : Thread Cert.ReferenceRgZIdeal.nD Cert.ReferenceRgZIdeal.τ).loc Cert.ReferenceRgZIdeal.main_arg2)
          ∧ r.2.mem ((c.tc : Thread Cert.ReferenceRgZIdeal.nD Cert.ReferenceRgZIdeal.τ).loc Cert.ReferenceRgZIdeal.main_arg3) = m' ((c.tc : Thread Cert.ReferenceRgZIdeal.nD Cert.ReferenceRgZIdeal.τ).loc Cert.ReferenceRgZIdeal.main_arg3)
          ∧ r.2.mem ((c.tc : Thread Cert.ReferenceRgZIdeal.nD Cert.ReferenceRgZIdeal.τ).loc Cert.ReferenceRgZIdeal.main_arg4) = m' ((c.tc : Thread Cert.ReferenceRgZIdeal.nD Cert.ReferenceRgZIdeal.τ).loc Cert.ReferenceRgZIdeal.main_arg4))

def preserves_KernelGate_KernelGateIdeal : Prop :=
  True

def algebraic_KernelGateIdeal_ReferenceGateIdeal [hKernelGateIdeal : Cert.KernelGateIdeal.Facts] [hReferenceGateIdeal : Cert.ReferenceGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg)
    (m' : (ℓ : Loc Cert.ReferenceGateIdeal.nD Cert.ReferenceGateIdeal.τ Cert.ReferenceGateIdeal.sig) → Buf (Elt Ideal) ℓ) (g' : Dev Cert.ReferenceGateIdeal.nD → PrngReg), Pre_KernelGateIdeal m →
    (∀ c : Dev Cert.KernelGateIdeal.nD,
      m' ((c.tc : Thread Cert.ReferenceGateIdeal.nD Cert.ReferenceGateIdeal.τ).loc Cert.ReferenceGateIdeal.main_arg0) = m ((c.tc : Thread Cert.KernelGateIdeal.nD Cert.KernelGateIdeal.τ).loc Cert.KernelGateIdeal.main_arg0)
      ∧ m' ((c.tc : Thread Cert.ReferenceGateIdeal.nD Cert.ReferenceGateIdeal.τ).loc Cert.ReferenceGateIdeal.main_arg1) = m ((c.tc : Thread Cert.KernelGateIdeal.nD Cert.KernelGateIdeal.τ).loc Cert.KernelGateIdeal.main_arg1)
      ∧ m' ((c.tc : Thread Cert.ReferenceGateIdeal.nD Cert.ReferenceGateIdeal.τ).loc Cert.ReferenceGateIdeal.main_arg2) = m ((c.tc : Thread Cert.KernelGateIdeal.nD Cert.KernelGateIdeal.τ).loc Cert.KernelGateIdeal.main_arg2)
      ∧ m' ((c.tc : Thread Cert.ReferenceGateIdeal.nD Cert.ReferenceGateIdeal.τ).loc Cert.ReferenceGateIdeal.main_arg3) = m ((c.tc : Thread Cert.KernelGateIdeal.nD Cert.KernelGateIdeal.τ).loc Cert.KernelGateIdeal.main_arg3)
      ∧ m' ((c.tc : Thread Cert.ReferenceGateIdeal.nD Cert.ReferenceGateIdeal.τ).loc Cert.ReferenceGateIdeal.main_arg4) = m ((c.tc : Thread Cert.KernelGateIdeal.nD Cert.KernelGateIdeal.τ).loc Cert.KernelGateIdeal.main_arg4)
      ∧ m' ((c.tc : Thread Cert.ReferenceGateIdeal.nD Cert.ReferenceGateIdeal.τ).loc Cert.ReferenceGateIdeal.main_arg5) = m ((c.tc : Thread Cert.KernelGateIdeal.nD Cert.KernelGateIdeal.τ).loc Cert.KernelGateIdeal.main_arg5)
      ∧ m' ((c.tc : Thread Cert.ReferenceGateIdeal.nD Cert.ReferenceGateIdeal.τ).loc Cert.ReferenceGateIdeal.main_arg6) = m ((c.tc : Thread Cert.KernelGateIdeal.nD Cert.KernelGateIdeal.τ).loc Cert.KernelGateIdeal.main_arg6)
      ∧ m' ((c.tc : Thread Cert.ReferenceGateIdeal.nD Cert.ReferenceGateIdeal.τ).loc Cert.ReferenceGateIdeal.main_arg7) = m ((c.tc : Thread Cert.KernelGateIdeal.nD Cert.KernelGateIdeal.τ).loc Cert.KernelGateIdeal.main_arg7)) →
    ∃ (v0 : (c : Dev Cert.KernelGateIdeal.nD) → Buf (Elt Ideal) ((c.tc : Thread Cert.KernelGateIdeal.nD Cert.KernelGateIdeal.τ).loc Cert.KernelGateIdeal.main_v0_0)) (v1 : (c : Dev Cert.KernelGateIdeal.nD) → Buf (Elt Ideal) ((c.tc : Thread Cert.KernelGateIdeal.nD Cert.KernelGateIdeal.τ).loc Cert.KernelGateIdeal.main_v0_1)) (v2 : (c : Dev Cert.KernelGateIdeal.nD) → Buf (Elt Ideal) ((c.tc : Thread Cert.KernelGateIdeal.nD Cert.KernelGateIdeal.τ).loc Cert.KernelGateIdeal.main_v0_2)) (v3 : (c : Dev Cert.KernelGateIdeal.nD) → Buf (Elt Ideal) ((c.tc : Thread Cert.KernelGateIdeal.nD Cert.KernelGateIdeal.τ).loc Cert.KernelGateIdeal.main_v0_3)),
      θ_run (Cert.KernelGateIdeal.defs (F := Ideal)) (onTc (τ := Cert.KernelGateIdeal.τ) (Cert.KernelGateIdeal.main (F := Ideal))) ⟨m, fun _ => 0, g⟩ (fun r => ∀ c : Dev Cert.KernelGateIdeal.nD,
          r.2.mem ((c.tc : Thread Cert.KernelGateIdeal.nD Cert.KernelGateIdeal.τ).loc Cert.KernelGateIdeal.main_v0_0) = v0 c
          ∧ r.2.mem ((c.tc : Thread Cert.KernelGateIdeal.nD Cert.KernelGateIdeal.τ).loc Cert.KernelGateIdeal.main_v0_1) = v1 c
          ∧ r.2.mem ((c.tc : Thread Cert.KernelGateIdeal.nD Cert.KernelGateIdeal.τ).loc Cert.KernelGateIdeal.main_v0_2) = v2 c
          ∧ r.2.mem ((c.tc : Thread Cert.KernelGateIdeal.nD Cert.KernelGateIdeal.τ).loc Cert.KernelGateIdeal.main_v0_3) = v3 c
          ∧ r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
          ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1)
          ∧ r.2.mem ((c.tc : Thread Cert.KernelGateIdeal.nD Cert.KernelGateIdeal.τ).loc Cert.KernelGateIdeal.main_arg2) = m ((c.tc : Thread Cert.KernelGateIdeal.nD Cert.KernelGateIdeal.τ).loc Cert.KernelGateIdeal.main_arg2)
          ∧ r.2.mem ((c.tc : Thread Cert.KernelGateIdeal.nD Cert.KernelGateIdeal.τ).loc Cert.KernelGateIdeal.main_arg3) = m ((c.tc : Thread Cert.KernelGateIdeal.nD Cert.KernelGateIdeal.τ).loc Cert.KernelGateIdeal.main_arg3)
          ∧ r.2.mem ((c.tc : Thread Cert.KernelGateIdeal.nD Cert.KernelGateIdeal.τ).loc Cert.KernelGateIdeal.main_arg4) = m ((c.tc : Thread Cert.KernelGateIdeal.nD Cert.KernelGateIdeal.τ).loc Cert.KernelGateIdeal.main_arg4)
          ∧ r.2.mem ((c.tc : Thread Cert.KernelGateIdeal.nD Cert.KernelGateIdeal.τ).loc Cert.KernelGateIdeal.main_arg5) = m ((c.tc : Thread Cert.KernelGateIdeal.nD Cert.KernelGateIdeal.τ).loc Cert.KernelGateIdeal.main_arg5)
          ∧ r.2.mem ((c.tc : Thread Cert.KernelGateIdeal.nD Cert.KernelGateIdeal.τ).loc Cert.KernelGateIdeal.main_arg6) = m ((c.tc : Thread Cert.KernelGateIdeal.nD Cert.KernelGateIdeal.τ).loc Cert.KernelGateIdeal.main_arg6)
          ∧ r.2.mem ((c.tc : Thread Cert.KernelGateIdeal.nD Cert.KernelGateIdeal.τ).loc Cert.KernelGateIdeal.main_arg7) = m ((c.tc : Thread Cert.KernelGateIdeal.nD Cert.KernelGateIdeal.τ).loc Cert.KernelGateIdeal.main_arg7))
      ∧ θ_run (Cert.ReferenceGateIdeal.defs (F := Ideal)) (onTc (τ := Cert.ReferenceGateIdeal.τ) (Cert.ReferenceGateIdeal.main (F := Ideal))) ⟨m', fun _ => 0, g'⟩ (fun r => ∀ c : Dev Cert.ReferenceGateIdeal.nD,
          r.2.mem ((c.tc : Thread Cert.ReferenceGateIdeal.nD Cert.ReferenceGateIdeal.τ).loc Cert.ReferenceGateIdeal.main_v34) = v0 c
          ∧ r.2.mem ((c.tc : Thread Cert.ReferenceGateIdeal.nD Cert.ReferenceGateIdeal.τ).loc Cert.ReferenceGateIdeal.main_v37) = v1 c
          ∧ r.2.mem ((c.tc : Thread Cert.ReferenceGateIdeal.nD Cert.ReferenceGateIdeal.τ).loc Cert.ReferenceGateIdeal.main_v40) = v2 c
          ∧ r.2.mem ((c.tc : Thread Cert.ReferenceGateIdeal.nD Cert.ReferenceGateIdeal.τ).loc Cert.ReferenceGateIdeal.main_v43) = v3 c
          ∧ r.2.mem ((c.tc : Thread Cert.ReferenceGateIdeal.nD Cert.ReferenceGateIdeal.τ).loc Cert.ReferenceGateIdeal.main_arg0) = m' ((c.tc : Thread Cert.ReferenceGateIdeal.nD Cert.ReferenceGateIdeal.τ).loc Cert.ReferenceGateIdeal.main_arg0)
          ∧ r.2.mem ((c.tc : Thread Cert.ReferenceGateIdeal.nD Cert.ReferenceGateIdeal.τ).loc Cert.ReferenceGateIdeal.main_arg1) = m' ((c.tc : Thread Cert.ReferenceGateIdeal.nD Cert.ReferenceGateIdeal.τ).loc Cert.ReferenceGateIdeal.main_arg1)
          ∧ r.2.mem ((c.tc : Thread Cert.ReferenceGateIdeal.nD Cert.ReferenceGateIdeal.τ).loc Cert.ReferenceGateIdeal.main_arg2) = m' ((c.tc : Thread Cert.ReferenceGateIdeal.nD Cert.ReferenceGateIdeal.τ).loc Cert.ReferenceGateIdeal.main_arg2)
          ∧ r.2.mem ((c.tc : Thread Cert.ReferenceGateIdeal.nD Cert.ReferenceGateIdeal.τ).loc Cert.ReferenceGateIdeal.main_arg3) = m' ((c.tc : Thread Cert.ReferenceGateIdeal.nD Cert.ReferenceGateIdeal.τ).loc Cert.ReferenceGateIdeal.main_arg3)
          ∧ r.2.mem ((c.tc : Thread Cert.ReferenceGateIdeal.nD Cert.ReferenceGateIdeal.τ).loc Cert.ReferenceGateIdeal.main_arg4) = m' ((c.tc : Thread Cert.ReferenceGateIdeal.nD Cert.ReferenceGateIdeal.τ).loc Cert.ReferenceGateIdeal.main_arg4)
          ∧ r.2.mem ((c.tc : Thread Cert.ReferenceGateIdeal.nD Cert.ReferenceGateIdeal.τ).loc Cert.ReferenceGateIdeal.main_arg5) = m' ((c.tc : Thread Cert.ReferenceGateIdeal.nD Cert.ReferenceGateIdeal.τ).loc Cert.ReferenceGateIdeal.main_arg5)
          ∧ r.2.mem ((c.tc : Thread Cert.ReferenceGateIdeal.nD Cert.ReferenceGateIdeal.τ).loc Cert.ReferenceGateIdeal.main_arg6) = m' ((c.tc : Thread Cert.ReferenceGateIdeal.nD Cert.ReferenceGateIdeal.τ).loc Cert.ReferenceGateIdeal.main_arg6)
          ∧ r.2.mem ((c.tc : Thread Cert.ReferenceGateIdeal.nD Cert.ReferenceGateIdeal.τ).loc Cert.ReferenceGateIdeal.main_arg7) = m' ((c.tc : Thread Cert.ReferenceGateIdeal.nD Cert.ReferenceGateIdeal.τ).loc Cert.ReferenceGateIdeal.main_arg7))

def preserves_KernelRgWIn_KernelRgWInIdeal : Prop :=
  True

def algebraic_KernelRgWInIdeal_ReferenceRgWInIdeal [hKernelRgWInIdeal : Cert.KernelRgWInIdeal.Facts] [hReferenceRgWInIdeal : Cert.ReferenceRgWInIdeal.Facts] : Prop :=
  ∀ (m : (ℓ : Loc Cert.KernelRgWInIdeal.nD Cert.KernelRgWInIdeal.τ Cert.KernelRgWInIdeal.sig) → Buf (Elt Ideal) ℓ) (g : Dev Cert.KernelRgWInIdeal.nD → PrngReg)
    (m' : (ℓ : Loc Cert.ReferenceRgWInIdeal.nD Cert.ReferenceRgWInIdeal.τ Cert.ReferenceRgWInIdeal.sig) → Buf (Elt Ideal) ℓ) (g' : Dev Cert.ReferenceRgWInIdeal.nD → PrngReg), Pre_KernelRgWInIdeal m →
    (∀ c : Dev Cert.KernelRgWInIdeal.nD,
      m' ((c.tc : Thread Cert.ReferenceRgWInIdeal.nD Cert.ReferenceRgWInIdeal.τ).loc Cert.ReferenceRgWInIdeal.main_arg0) = m ((c.tc : Thread Cert.KernelRgWInIdeal.nD Cert.KernelRgWInIdeal.τ).loc Cert.KernelRgWInIdeal.main_arg0)
      ∧ m' ((c.tc : Thread Cert.ReferenceRgWInIdeal.nD Cert.ReferenceRgWInIdeal.τ).loc Cert.ReferenceRgWInIdeal.main_arg1) = m ((c.tc : Thread Cert.KernelRgWInIdeal.nD Cert.KernelRgWInIdeal.τ).loc Cert.KernelRgWInIdeal.main_arg1)
      ∧ m' ((c.tc : Thread Cert.ReferenceRgWInIdeal.nD Cert.ReferenceRgWInIdeal.τ).loc Cert.ReferenceRgWInIdeal.main_arg2) = m ((c.tc : Thread Cert.KernelRgWInIdeal.nD Cert.KernelRgWInIdeal.τ).loc Cert.KernelRgWInIdeal.main_arg2)
      ∧ m' ((c.tc : Thread Cert.ReferenceRgWInIdeal.nD Cert.ReferenceRgWInIdeal.τ).loc Cert.ReferenceRgWInIdeal.main_arg3) = m ((c.tc : Thread Cert.KernelRgWInIdeal.nD Cert.KernelRgWInIdeal.τ).loc Cert.KernelRgWInIdeal.main_arg3)
      ∧ m' ((c.tc : Thread Cert.ReferenceRgWInIdeal.nD Cert.ReferenceRgWInIdeal.τ).loc Cert.ReferenceRgWInIdeal.main_arg4) = m ((c.tc : Thread Cert.KernelRgWInIdeal.nD Cert.KernelRgWInIdeal.τ).loc Cert.KernelRgWInIdeal.main_arg4)
      ∧ m' ((c.tc : Thread Cert.ReferenceRgWInIdeal.nD Cert.ReferenceRgWInIdeal.τ).loc Cert.ReferenceRgWInIdeal.main_arg5) = m ((c.tc : Thread Cert.KernelRgWInIdeal.nD Cert.KernelRgWInIdeal.τ).loc Cert.KernelRgWInIdeal.main_arg5)
      ∧ m' ((c.tc : Thread Cert.ReferenceRgWInIdeal.nD Cert.ReferenceRgWInIdeal.τ).loc Cert.ReferenceRgWInIdeal.main_arg6) = m ((c.tc : Thread Cert.KernelRgWInIdeal.nD Cert.KernelRgWInIdeal.τ).loc Cert.KernelRgWInIdeal.main_arg6)
      ∧ m' ((c.tc : Thread Cert.ReferenceRgWInIdeal.nD Cert.ReferenceRgWInIdeal.τ).loc Cert.ReferenceRgWInIdeal.main_arg7) = m ((c.tc : Thread Cert.KernelRgWInIdeal.nD Cert.KernelRgWInIdeal.τ).loc Cert.KernelRgWInIdeal.main_arg7)) →
    ∃ (v0 : (c : Dev Cert.KernelRgWInIdeal.nD) → Buf (Elt Ideal) ((c.tc : Thread Cert.KernelRgWInIdeal.nD Cert.KernelRgWInIdeal.τ).loc Cert.KernelRgWInIdeal.main_v0_0)) (v1 : (c : Dev Cert.KernelRgWInIdeal.nD) → Buf (Elt Ideal) ((c.tc : Thread Cert.KernelRgWInIdeal.nD Cert.KernelRgWInIdeal.τ).loc Cert.KernelRgWInIdeal.main_v0_1)) (v2 : (c : Dev Cert.KernelRgWInIdeal.nD) → Buf (Elt Ideal) ((c.tc : Thread Cert.KernelRgWInIdeal.nD Cert.KernelRgWInIdeal.τ).loc Cert.KernelRgWInIdeal.main_v0_2)) (v3 : (c : Dev Cert.KernelRgWInIdeal.nD) → Buf (Elt Ideal) ((c.tc : Thread Cert.KernelRgWInIdeal.nD Cert.KernelRgWInIdeal.τ).loc Cert.KernelRgWInIdeal.main_v0_3)),
      θ_run (Cert.KernelRgWInIdeal.defs (F := Ideal)) (onTc (τ := Cert.KernelRgWInIdeal.τ) (Cert.KernelRgWInIdeal.main (F := Ideal))) ⟨m, fun _ => 0, g⟩ (fun r => ∀ c : Dev Cert.KernelRgWInIdeal.nD,
          r.2.mem ((c.tc : Thread Cert.KernelRgWInIdeal.nD Cert.KernelRgWInIdeal.τ).loc Cert.KernelRgWInIdeal.main_v0_0) = v0 c
          ∧ r.2.mem ((c.tc : Thread Cert.KernelRgWInIdeal.nD Cert.KernelRgWInIdeal.τ).loc Cert.KernelRgWInIdeal.main_v0_1) = v1 c
          ∧ r.2.mem ((c.tc : Thread Cert.KernelRgWInIdeal.nD Cert.KernelRgWInIdeal.τ).loc Cert.KernelRgWInIdeal.main_v0_2) = v2 c
          ∧ r.2.mem ((c.tc : Thread Cert.KernelRgWInIdeal.nD Cert.KernelRgWInIdeal.τ).loc Cert.KernelRgWInIdeal.main_v0_3) = v3 c
          ∧ r.2.mem ((c.tc : Thread Cert.KernelRgWInIdeal.nD Cert.KernelRgWInIdeal.τ).loc Cert.KernelRgWInIdeal.main_arg0) = m ((c.tc : Thread Cert.KernelRgWInIdeal.nD Cert.KernelRgWInIdeal.τ).loc Cert.KernelRgWInIdeal.main_arg0)
          ∧ r.2.mem ((c.tc : Thread Cert.KernelRgWInIdeal.nD Cert.KernelRgWInIdeal.τ).loc Cert.KernelRgWInIdeal.main_arg1) = m ((c.tc : Thread Cert.KernelRgWInIdeal.nD Cert.KernelRgWInIdeal.τ).loc Cert.KernelRgWInIdeal.main_arg1)
          ∧ r.2.mem ((c.tc : Thread Cert.KernelRgWInIdeal.nD Cert.KernelRgWInIdeal.τ).loc Cert.KernelRgWInIdeal.main_arg2) = m ((c.tc : Thread Cert.KernelRgWInIdeal.nD Cert.KernelRgWInIdeal.τ).loc Cert.KernelRgWInIdeal.main_arg2)
          ∧ r.2.mem ((c.tc : Thread Cert.KernelRgWInIdeal.nD Cert.KernelRgWInIdeal.τ).loc Cert.KernelRgWInIdeal.main_arg3) = m ((c.tc : Thread Cert.KernelRgWInIdeal.nD Cert.KernelRgWInIdeal.τ).loc Cert.KernelRgWInIdeal.main_arg3)
          ∧ r.2.mem ((c.tc : Thread Cert.KernelRgWInIdeal.nD Cert.KernelRgWInIdeal.τ).loc Cert.KernelRgWInIdeal.main_arg4) = m ((c.tc : Thread Cert.KernelRgWInIdeal.nD Cert.KernelRgWInIdeal.τ).loc Cert.KernelRgWInIdeal.main_arg4)
          ∧ r.2.mem ((c.tc : Thread Cert.KernelRgWInIdeal.nD Cert.KernelRgWInIdeal.τ).loc Cert.KernelRgWInIdeal.main_arg5) = m ((c.tc : Thread Cert.KernelRgWInIdeal.nD Cert.KernelRgWInIdeal.τ).loc Cert.KernelRgWInIdeal.main_arg5)
          ∧ r.2.mem ((c.tc : Thread Cert.KernelRgWInIdeal.nD Cert.KernelRgWInIdeal.τ).loc Cert.KernelRgWInIdeal.main_arg6) = m ((c.tc : Thread Cert.KernelRgWInIdeal.nD Cert.KernelRgWInIdeal.τ).loc Cert.KernelRgWInIdeal.main_arg6)
          ∧ r.2.mem ((c.tc : Thread Cert.KernelRgWInIdeal.nD Cert.KernelRgWInIdeal.τ).loc Cert.KernelRgWInIdeal.main_arg7) = m ((c.tc : Thread Cert.KernelRgWInIdeal.nD Cert.KernelRgWInIdeal.τ).loc Cert.KernelRgWInIdeal.main_arg7))
      ∧ θ_run (Cert.ReferenceRgWInIdeal.defs (F := Ideal)) (onTc (τ := Cert.ReferenceRgWInIdeal.τ) (Cert.ReferenceRgWInIdeal.main (F := Ideal))) ⟨m', fun _ => 0, g'⟩ (fun r => ∀ c : Dev Cert.ReferenceRgWInIdeal.nD,
          r.2.mem ((c.tc : Thread Cert.ReferenceRgWInIdeal.nD Cert.ReferenceRgWInIdeal.τ).loc Cert.ReferenceRgWInIdeal.main_v34) = v0 c
          ∧ r.2.mem ((c.tc : Thread Cert.ReferenceRgWInIdeal.nD Cert.ReferenceRgWInIdeal.τ).loc Cert.ReferenceRgWInIdeal.main_v37) = v1 c
          ∧ r.2.mem ((c.tc : Thread Cert.ReferenceRgWInIdeal.nD Cert.ReferenceRgWInIdeal.τ).loc Cert.ReferenceRgWInIdeal.main_v40) = v2 c
          ∧ r.2.mem ((c.tc : Thread Cert.ReferenceRgWInIdeal.nD Cert.ReferenceRgWInIdeal.τ).loc Cert.ReferenceRgWInIdeal.main_v43) = v3 c
          ∧ r.2.mem ((c.tc : Thread Cert.ReferenceRgWInIdeal.nD Cert.ReferenceRgWInIdeal.τ).loc Cert.ReferenceRgWInIdeal.main_arg0) = m' ((c.tc : Thread Cert.ReferenceRgWInIdeal.nD Cert.ReferenceRgWInIdeal.τ).loc Cert.ReferenceRgWInIdeal.main_arg0)
          ∧ r.2.mem ((c.tc : Thread Cert.ReferenceRgWInIdeal.nD Cert.ReferenceRgWInIdeal.τ).loc Cert.ReferenceRgWInIdeal.main_arg1) = m' ((c.tc : Thread Cert.ReferenceRgWInIdeal.nD Cert.ReferenceRgWInIdeal.τ).loc Cert.ReferenceRgWInIdeal.main_arg1)
          ∧ r.2.mem ((c.tc : Thread Cert.ReferenceRgWInIdeal.nD Cert.ReferenceRgWInIdeal.τ).loc Cert.ReferenceRgWInIdeal.main_arg2) = m' ((c.tc : Thread Cert.ReferenceRgWInIdeal.nD Cert.ReferenceRgWInIdeal.τ).loc Cert.ReferenceRgWInIdeal.main_arg2)
          ∧ r.2.mem ((c.tc : Thread Cert.ReferenceRgWInIdeal.nD Cert.ReferenceRgWInIdeal.τ).loc Cert.ReferenceRgWInIdeal.main_arg3) = m' ((c.tc : Thread Cert.ReferenceRgWInIdeal.nD Cert.ReferenceRgWInIdeal.τ).loc Cert.ReferenceRgWInIdeal.main_arg3)
          ∧ r.2.mem ((c.tc : Thread Cert.ReferenceRgWInIdeal.nD Cert.ReferenceRgWInIdeal.τ).loc Cert.ReferenceRgWInIdeal.main_arg4) = m' ((c.tc : Thread Cert.ReferenceRgWInIdeal.nD Cert.ReferenceRgWInIdeal.τ).loc Cert.ReferenceRgWInIdeal.main_arg4)
          ∧ r.2.mem ((c.tc : Thread Cert.ReferenceRgWInIdeal.nD Cert.ReferenceRgWInIdeal.τ).loc Cert.ReferenceRgWInIdeal.main_arg5) = m' ((c.tc : Thread Cert.ReferenceRgWInIdeal.nD Cert.ReferenceRgWInIdeal.τ).loc Cert.ReferenceRgWInIdeal.main_arg5)
          ∧ r.2.mem ((c.tc : Thread Cert.ReferenceRgWInIdeal.nD Cert.ReferenceRgWInIdeal.τ).loc Cert.ReferenceRgWInIdeal.main_arg6) = m' ((c.tc : Thread Cert.ReferenceRgWInIdeal.nD Cert.ReferenceRgWInIdeal.τ).loc Cert.ReferenceRgWInIdeal.main_arg6)
          ∧ r.2.mem ((c.tc : Thread Cert.ReferenceRgWInIdeal.nD Cert.ReferenceRgWInIdeal.τ).loc Cert.ReferenceRgWInIdeal.main_arg7) = m' ((c.tc : Thread Cert.ReferenceRgWInIdeal.nD Cert.ReferenceRgWInIdeal.τ).loc Cert.ReferenceRgWInIdeal.main_arg7))

def preserves_KernelWOut_KernelWOutIdeal : Prop :=
  True

def algebraic_KernelWOutIdeal_ReferenceWOutIdeal [hKernelWOutIdeal : Cert.KernelWOutIdeal.Facts] [hReferenceWOutIdeal : Cert.ReferenceWOutIdeal.Facts] : Prop :=
  ∀ (m : (ℓ : Loc Cert.KernelWOutIdeal.nD Cert.KernelWOutIdeal.τ Cert.KernelWOutIdeal.sig) → Buf (Elt Ideal) ℓ) (g : Dev Cert.KernelWOutIdeal.nD → PrngReg)
    (m' : (ℓ : Loc Cert.ReferenceWOutIdeal.nD Cert.ReferenceWOutIdeal.τ Cert.ReferenceWOutIdeal.sig) → Buf (Elt Ideal) ℓ) (g' : Dev Cert.ReferenceWOutIdeal.nD → PrngReg), Pre_KernelWOutIdeal m →
    (∀ c : Dev Cert.KernelWOutIdeal.nD,
      m' ((c.tc : Thread Cert.ReferenceWOutIdeal.nD Cert.ReferenceWOutIdeal.τ).loc Cert.ReferenceWOutIdeal.main_arg0) = m ((c.tc : Thread Cert.KernelWOutIdeal.nD Cert.KernelWOutIdeal.τ).loc Cert.KernelWOutIdeal.main_arg0)
      ∧ m' ((c.tc : Thread Cert.ReferenceWOutIdeal.nD Cert.ReferenceWOutIdeal.τ).loc Cert.ReferenceWOutIdeal.main_arg1) = m ((c.tc : Thread Cert.KernelWOutIdeal.nD Cert.KernelWOutIdeal.τ).loc Cert.KernelWOutIdeal.main_arg1)
      ∧ m' ((c.tc : Thread Cert.ReferenceWOutIdeal.nD Cert.ReferenceWOutIdeal.τ).loc Cert.ReferenceWOutIdeal.main_arg2) = m ((c.tc : Thread Cert.KernelWOutIdeal.nD Cert.KernelWOutIdeal.τ).loc Cert.KernelWOutIdeal.main_arg2)
      ∧ m' ((c.tc : Thread Cert.ReferenceWOutIdeal.nD Cert.ReferenceWOutIdeal.τ).loc Cert.ReferenceWOutIdeal.main_arg3) = m ((c.tc : Thread Cert.KernelWOutIdeal.nD Cert.KernelWOutIdeal.τ).loc Cert.KernelWOutIdeal.main_arg3)
      ∧ m' ((c.tc : Thread Cert.ReferenceWOutIdeal.nD Cert.ReferenceWOutIdeal.τ).loc Cert.ReferenceWOutIdeal.main_arg4) = m ((c.tc : Thread Cert.KernelWOutIdeal.nD Cert.KernelWOutIdeal.τ).loc Cert.KernelWOutIdeal.main_arg4)
      ∧ m' ((c.tc : Thread Cert.ReferenceWOutIdeal.nD Cert.ReferenceWOutIdeal.τ).loc Cert.ReferenceWOutIdeal.main_arg5) = m ((c.tc : Thread Cert.KernelWOutIdeal.nD Cert.KernelWOutIdeal.τ).loc Cert.KernelWOutIdeal.main_arg5)
      ∧ m' ((c.tc : Thread Cert.ReferenceWOutIdeal.nD Cert.ReferenceWOutIdeal.τ).loc Cert.ReferenceWOutIdeal.main_arg6) = m ((c.tc : Thread Cert.KernelWOutIdeal.nD Cert.KernelWOutIdeal.τ).loc Cert.KernelWOutIdeal.main_arg6)
      ∧ m' ((c.tc : Thread Cert.ReferenceWOutIdeal.nD Cert.ReferenceWOutIdeal.τ).loc Cert.ReferenceWOutIdeal.main_arg7) = m ((c.tc : Thread Cert.KernelWOutIdeal.nD Cert.KernelWOutIdeal.τ).loc Cert.KernelWOutIdeal.main_arg7)) →
    ∃ (v0 : (c : Dev Cert.KernelWOutIdeal.nD) → Buf (Elt Ideal) ((c.tc : Thread Cert.KernelWOutIdeal.nD Cert.KernelWOutIdeal.τ).loc Cert.KernelWOutIdeal.main_v0_0)) (v1 : (c : Dev Cert.KernelWOutIdeal.nD) → Buf (Elt Ideal) ((c.tc : Thread Cert.KernelWOutIdeal.nD Cert.KernelWOutIdeal.τ).loc Cert.KernelWOutIdeal.main_v0_1)) (v2 : (c : Dev Cert.KernelWOutIdeal.nD) → Buf (Elt Ideal) ((c.tc : Thread Cert.KernelWOutIdeal.nD Cert.KernelWOutIdeal.τ).loc Cert.KernelWOutIdeal.main_v0_2)) (v3 : (c : Dev Cert.KernelWOutIdeal.nD) → Buf (Elt Ideal) ((c.tc : Thread Cert.KernelWOutIdeal.nD Cert.KernelWOutIdeal.τ).loc Cert.KernelWOutIdeal.main_v0_3)),
      θ_run (Cert.KernelWOutIdeal.defs (F := Ideal)) (onTc (τ := Cert.KernelWOutIdeal.τ) (Cert.KernelWOutIdeal.main (F := Ideal))) ⟨m, fun _ => 0, g⟩ (fun r => ∀ c : Dev Cert.KernelWOutIdeal.nD,
          r.2.mem ((c.tc : Thread Cert.KernelWOutIdeal.nD Cert.KernelWOutIdeal.τ).loc Cert.KernelWOutIdeal.main_v0_0) = v0 c
          ∧ r.2.mem ((c.tc : Thread Cert.KernelWOutIdeal.nD Cert.KernelWOutIdeal.τ).loc Cert.KernelWOutIdeal.main_v0_1) = v1 c
          ∧ r.2.mem ((c.tc : Thread Cert.KernelWOutIdeal.nD Cert.KernelWOutIdeal.τ).loc Cert.KernelWOutIdeal.main_v0_2) = v2 c
          ∧ r.2.mem ((c.tc : Thread Cert.KernelWOutIdeal.nD Cert.KernelWOutIdeal.τ).loc Cert.KernelWOutIdeal.main_v0_3) = v3 c
          ∧ r.2.mem ((c.tc : Thread Cert.KernelWOutIdeal.nD Cert.KernelWOutIdeal.τ).loc Cert.KernelWOutIdeal.main_arg0) = m ((c.tc : Thread Cert.KernelWOutIdeal.nD Cert.KernelWOutIdeal.τ).loc Cert.KernelWOutIdeal.main_arg0)
          ∧ r.2.mem ((c.tc : Thread Cert.KernelWOutIdeal.nD Cert.KernelWOutIdeal.τ).loc Cert.KernelWOutIdeal.main_arg1) = m ((c.tc : Thread Cert.KernelWOutIdeal.nD Cert.KernelWOutIdeal.τ).loc Cert.KernelWOutIdeal.main_arg1)
          ∧ r.2.mem ((c.tc : Thread Cert.KernelWOutIdeal.nD Cert.KernelWOutIdeal.τ).loc Cert.KernelWOutIdeal.main_arg2) = m ((c.tc : Thread Cert.KernelWOutIdeal.nD Cert.KernelWOutIdeal.τ).loc Cert.KernelWOutIdeal.main_arg2)
          ∧ r.2.mem ((c.tc : Thread Cert.KernelWOutIdeal.nD Cert.KernelWOutIdeal.τ).loc Cert.KernelWOutIdeal.main_arg3) = m ((c.tc : Thread Cert.KernelWOutIdeal.nD Cert.KernelWOutIdeal.τ).loc Cert.KernelWOutIdeal.main_arg3)
          ∧ r.2.mem ((c.tc : Thread Cert.KernelWOutIdeal.nD Cert.KernelWOutIdeal.τ).loc Cert.KernelWOutIdeal.main_arg4) = m ((c.tc : Thread Cert.KernelWOutIdeal.nD Cert.KernelWOutIdeal.τ).loc Cert.KernelWOutIdeal.main_arg4)
          ∧ r.2.mem ((c.tc : Thread Cert.KernelWOutIdeal.nD Cert.KernelWOutIdeal.τ).loc Cert.KernelWOutIdeal.main_arg5) = m ((c.tc : Thread Cert.KernelWOutIdeal.nD Cert.KernelWOutIdeal.τ).loc Cert.KernelWOutIdeal.main_arg5)
          ∧ r.2.mem ((c.tc : Thread Cert.KernelWOutIdeal.nD Cert.KernelWOutIdeal.τ).loc Cert.KernelWOutIdeal.main_arg6) = m ((c.tc : Thread Cert.KernelWOutIdeal.nD Cert.KernelWOutIdeal.τ).loc Cert.KernelWOutIdeal.main_arg6)
          ∧ r.2.mem ((c.tc : Thread Cert.KernelWOutIdeal.nD Cert.KernelWOutIdeal.τ).loc Cert.KernelWOutIdeal.main_arg7) = m ((c.tc : Thread Cert.KernelWOutIdeal.nD Cert.KernelWOutIdeal.τ).loc Cert.KernelWOutIdeal.main_arg7))
      ∧ θ_run (Cert.ReferenceWOutIdeal.defs (F := Ideal)) (onTc (τ := Cert.ReferenceWOutIdeal.τ) (Cert.ReferenceWOutIdeal.main (F := Ideal))) ⟨m', fun _ => 0, g'⟩ (fun r => ∀ c : Dev Cert.ReferenceWOutIdeal.nD,
          r.2.mem ((c.tc : Thread Cert.ReferenceWOutIdeal.nD Cert.ReferenceWOutIdeal.τ).loc Cert.ReferenceWOutIdeal.main_v34) = v0 c
          ∧ r.2.mem ((c.tc : Thread Cert.ReferenceWOutIdeal.nD Cert.ReferenceWOutIdeal.τ).loc Cert.ReferenceWOutIdeal.main_v37) = v1 c
          ∧ r.2.mem ((c.tc : Thread Cert.ReferenceWOutIdeal.nD Cert.ReferenceWOutIdeal.τ).loc Cert.ReferenceWOutIdeal.main_v40) = v2 c
          ∧ r.2.mem ((c.tc : Thread Cert.ReferenceWOutIdeal.nD Cert.ReferenceWOutIdeal.τ).loc Cert.ReferenceWOutIdeal.main_v43) = v3 c
          ∧ r.2.mem ((c.tc : Thread Cert.ReferenceWOutIdeal.nD Cert.ReferenceWOutIdeal.τ).loc Cert.ReferenceWOutIdeal.main_arg0) = m' ((c.tc : Thread Cert.ReferenceWOutIdeal.nD Cert.ReferenceWOutIdeal.τ).loc Cert.ReferenceWOutIdeal.main_arg0)
          ∧ r.2.mem ((c.tc : Thread Cert.ReferenceWOutIdeal.nD Cert.ReferenceWOutIdeal.τ).loc Cert.ReferenceWOutIdeal.main_arg1) = m' ((c.tc : Thread Cert.ReferenceWOutIdeal.nD Cert.ReferenceWOutIdeal.τ).loc Cert.ReferenceWOutIdeal.main_arg1)
          ∧ r.2.mem ((c.tc : Thread Cert.ReferenceWOutIdeal.nD Cert.ReferenceWOutIdeal.τ).loc Cert.ReferenceWOutIdeal.main_arg2) = m' ((c.tc : Thread Cert.ReferenceWOutIdeal.nD Cert.ReferenceWOutIdeal.τ).loc Cert.ReferenceWOutIdeal.main_arg2)
          ∧ r.2.mem ((c.tc : Thread Cert.ReferenceWOutIdeal.nD Cert.ReferenceWOutIdeal.τ).loc Cert.ReferenceWOutIdeal.main_arg3) = m' ((c.tc : Thread Cert.ReferenceWOutIdeal.nD Cert.ReferenceWOutIdeal.τ).loc Cert.ReferenceWOutIdeal.main_arg3)
          ∧ r.2.mem ((c.tc : Thread Cert.ReferenceWOutIdeal.nD Cert.ReferenceWOutIdeal.τ).loc Cert.ReferenceWOutIdeal.main_arg4) = m' ((c.tc : Thread Cert.ReferenceWOutIdeal.nD Cert.ReferenceWOutIdeal.τ).loc Cert.ReferenceWOutIdeal.main_arg4)
          ∧ r.2.mem ((c.tc : Thread Cert.ReferenceWOutIdeal.nD Cert.ReferenceWOutIdeal.τ).loc Cert.ReferenceWOutIdeal.main_arg5) = m' ((c.tc : Thread Cert.ReferenceWOutIdeal.nD Cert.ReferenceWOutIdeal.τ).loc Cert.ReferenceWOutIdeal.main_arg5)
          ∧ r.2.mem ((c.tc : Thread Cert.ReferenceWOutIdeal.nD Cert.ReferenceWOutIdeal.τ).loc Cert.ReferenceWOutIdeal.main_arg6) = m' ((c.tc : Thread Cert.ReferenceWOutIdeal.nD Cert.ReferenceWOutIdeal.τ).loc Cert.ReferenceWOutIdeal.main_arg6)
          ∧ r.2.mem ((c.tc : Thread Cert.ReferenceWOutIdeal.nD Cert.ReferenceWOutIdeal.τ).loc Cert.ReferenceWOutIdeal.main_arg7) = m' ((c.tc : Thread Cert.ReferenceWOutIdeal.nD Cert.ReferenceWOutIdeal.τ).loc Cert.ReferenceWOutIdeal.main_arg7))

def preserves_KernelHgWIn_KernelHgWInIdeal : Prop :=
  True

def algebraic_KernelHgWInIdeal_ReferenceHgWInIdeal [hKernelHgWInIdeal : Cert.KernelHgWInIdeal.Facts] [hReferenceHgWInIdeal : Cert.ReferenceHgWInIdeal.Facts] : Prop :=
  ∀ (m : (ℓ : Loc Cert.KernelHgWInIdeal.nD Cert.KernelHgWInIdeal.τ Cert.KernelHgWInIdeal.sig) → Buf (Elt Ideal) ℓ) (g : Dev Cert.KernelHgWInIdeal.nD → PrngReg)
    (m' : (ℓ : Loc Cert.ReferenceHgWInIdeal.nD Cert.ReferenceHgWInIdeal.τ Cert.ReferenceHgWInIdeal.sig) → Buf (Elt Ideal) ℓ) (g' : Dev Cert.ReferenceHgWInIdeal.nD → PrngReg), Pre_KernelHgWInIdeal m →
    (∀ c : Dev Cert.KernelHgWInIdeal.nD,
      m' ((c.tc : Thread Cert.ReferenceHgWInIdeal.nD Cert.ReferenceHgWInIdeal.τ).loc Cert.ReferenceHgWInIdeal.main_arg0) = m ((c.tc : Thread Cert.KernelHgWInIdeal.nD Cert.KernelHgWInIdeal.τ).loc Cert.KernelHgWInIdeal.main_arg0)
      ∧ m' ((c.tc : Thread Cert.ReferenceHgWInIdeal.nD Cert.ReferenceHgWInIdeal.τ).loc Cert.ReferenceHgWInIdeal.main_arg1) = m ((c.tc : Thread Cert.KernelHgWInIdeal.nD Cert.KernelHgWInIdeal.τ).loc Cert.KernelHgWInIdeal.main_arg1)
      ∧ m' ((c.tc : Thread Cert.ReferenceHgWInIdeal.nD Cert.ReferenceHgWInIdeal.τ).loc Cert.ReferenceHgWInIdeal.main_arg2) = m ((c.tc : Thread Cert.KernelHgWInIdeal.nD Cert.KernelHgWInIdeal.τ).loc Cert.KernelHgWInIdeal.main_arg2)
      ∧ m' ((c.tc : Thread Cert.ReferenceHgWInIdeal.nD Cert.ReferenceHgWInIdeal.τ).loc Cert.ReferenceHgWInIdeal.main_arg3) = m ((c.tc : Thread Cert.KernelHgWInIdeal.nD Cert.KernelHgWInIdeal.τ).loc Cert.KernelHgWInIdeal.main_arg3)
      ∧ m' ((c.tc : Thread Cert.ReferenceHgWInIdeal.nD Cert.ReferenceHgWInIdeal.τ).loc Cert.ReferenceHgWInIdeal.main_arg4) = m ((c.tc : Thread Cert.KernelHgWInIdeal.nD Cert.KernelHgWInIdeal.τ).loc Cert.KernelHgWInIdeal.main_arg4)
      ∧ m' ((c.tc : Thread Cert.ReferenceHgWInIdeal.nD Cert.ReferenceHgWInIdeal.τ).loc Cert.ReferenceHgWInIdeal.main_arg5) = m ((c.tc : Thread Cert.KernelHgWInIdeal.nD Cert.KernelHgWInIdeal.τ).loc Cert.KernelHgWInIdeal.main_arg5)
      ∧ m' ((c.tc : Thread Cert.ReferenceHgWInIdeal.nD Cert.ReferenceHgWInIdeal.τ).loc Cert.ReferenceHgWInIdeal.main_arg6) = m ((c.tc : Thread Cert.KernelHgWInIdeal.nD Cert.KernelHgWInIdeal.τ).loc Cert.KernelHgWInIdeal.main_arg6)
      ∧ m' ((c.tc : Thread Cert.ReferenceHgWInIdeal.nD Cert.ReferenceHgWInIdeal.τ).loc Cert.ReferenceHgWInIdeal.main_arg7) = m ((c.tc : Thread Cert.KernelHgWInIdeal.nD Cert.KernelHgWInIdeal.τ).loc Cert.KernelHgWInIdeal.main_arg7)) →
    ∃ (v0 : (c : Dev Cert.KernelHgWInIdeal.nD) → Buf (Elt Ideal) ((c.tc : Thread Cert.KernelHgWInIdeal.nD Cert.KernelHgWInIdeal.τ).loc Cert.KernelHgWInIdeal.main_v0_0)) (v1 : (c : Dev Cert.KernelHgWInIdeal.nD) → Buf (Elt Ideal) ((c.tc : Thread Cert.KernelHgWInIdeal.nD Cert.KernelHgWInIdeal.τ).loc Cert.KernelHgWInIdeal.main_v0_1)) (v2 : (c : Dev Cert.KernelHgWInIdeal.nD) → Buf (Elt Ideal) ((c.tc : Thread Cert.KernelHgWInIdeal.nD Cert.KernelHgWInIdeal.τ).loc Cert.KernelHgWInIdeal.main_v0_2)) (v3 : (c : Dev Cert.KernelHgWInIdeal.nD) → Buf (Elt Ideal) ((c.tc : Thread Cert.KernelHgWInIdeal.nD Cert.KernelHgWInIdeal.τ).loc Cert.KernelHgWInIdeal.main_v0_3)),
      θ_run (Cert.KernelHgWInIdeal.defs (F := Ideal)) (onTc (τ := Cert.KernelHgWInIdeal.τ) (Cert.KernelHgWInIdeal.main (F := Ideal))) ⟨m, fun _ => 0, g⟩ (fun r => ∀ c : Dev Cert.KernelHgWInIdeal.nD,
          r.2.mem ((c.tc : Thread Cert.KernelHgWInIdeal.nD Cert.KernelHgWInIdeal.τ).loc Cert.KernelHgWInIdeal.main_v0_0) = v0 c
          ∧ r.2.mem ((c.tc : Thread Cert.KernelHgWInIdeal.nD Cert.KernelHgWInIdeal.τ).loc Cert.KernelHgWInIdeal.main_v0_1) = v1 c
          ∧ r.2.mem ((c.tc : Thread Cert.KernelHgWInIdeal.nD Cert.KernelHgWInIdeal.τ).loc Cert.KernelHgWInIdeal.main_v0_2) = v2 c
          ∧ r.2.mem ((c.tc : Thread Cert.KernelHgWInIdeal.nD Cert.KernelHgWInIdeal.τ).loc Cert.KernelHgWInIdeal.main_v0_3) = v3 c
          ∧ r.2.mem ((c.tc : Thread Cert.KernelHgWInIdeal.nD Cert.KernelHgWInIdeal.τ).loc Cert.KernelHgWInIdeal.main_arg0) = m ((c.tc : Thread Cert.KernelHgWInIdeal.nD Cert.KernelHgWInIdeal.τ).loc Cert.KernelHgWInIdeal.main_arg0)
          ∧ r.2.mem ((c.tc : Thread Cert.KernelHgWInIdeal.nD Cert.KernelHgWInIdeal.τ).loc Cert.KernelHgWInIdeal.main_arg1) = m ((c.tc : Thread Cert.KernelHgWInIdeal.nD Cert.KernelHgWInIdeal.τ).loc Cert.KernelHgWInIdeal.main_arg1)
          ∧ r.2.mem ((c.tc : Thread Cert.KernelHgWInIdeal.nD Cert.KernelHgWInIdeal.τ).loc Cert.KernelHgWInIdeal.main_arg2) = m ((c.tc : Thread Cert.KernelHgWInIdeal.nD Cert.KernelHgWInIdeal.τ).loc Cert.KernelHgWInIdeal.main_arg2)
          ∧ r.2.mem ((c.tc : Thread Cert.KernelHgWInIdeal.nD Cert.KernelHgWInIdeal.τ).loc Cert.KernelHgWInIdeal.main_arg3) = m ((c.tc : Thread Cert.KernelHgWInIdeal.nD Cert.KernelHgWInIdeal.τ).loc Cert.KernelHgWInIdeal.main_arg3)
          ∧ r.2.mem ((c.tc : Thread Cert.KernelHgWInIdeal.nD Cert.KernelHgWInIdeal.τ).loc Cert.KernelHgWInIdeal.main_arg4) = m ((c.tc : Thread Cert.KernelHgWInIdeal.nD Cert.KernelHgWInIdeal.τ).loc Cert.KernelHgWInIdeal.main_arg4)
          ∧ r.2.mem ((c.tc : Thread Cert.KernelHgWInIdeal.nD Cert.KernelHgWInIdeal.τ).loc Cert.KernelHgWInIdeal.main_arg5) = m ((c.tc : Thread Cert.KernelHgWInIdeal.nD Cert.KernelHgWInIdeal.τ).loc Cert.KernelHgWInIdeal.main_arg5)
          ∧ r.2.mem ((c.tc : Thread Cert.KernelHgWInIdeal.nD Cert.KernelHgWInIdeal.τ).loc Cert.KernelHgWInIdeal.main_arg6) = m ((c.tc : Thread Cert.KernelHgWInIdeal.nD Cert.KernelHgWInIdeal.τ).loc Cert.KernelHgWInIdeal.main_arg6)
          ∧ r.2.mem ((c.tc : Thread Cert.KernelHgWInIdeal.nD Cert.KernelHgWInIdeal.τ).loc Cert.KernelHgWInIdeal.main_arg7) = m ((c.tc : Thread Cert.KernelHgWInIdeal.nD Cert.KernelHgWInIdeal.τ).loc Cert.KernelHgWInIdeal.main_arg7))
      ∧ θ_run (Cert.ReferenceHgWInIdeal.defs (F := Ideal)) (onTc (τ := Cert.ReferenceHgWInIdeal.τ) (Cert.ReferenceHgWInIdeal.main (F := Ideal))) ⟨m', fun _ => 0, g'⟩ (fun r => ∀ c : Dev Cert.ReferenceHgWInIdeal.nD,
          r.2.mem ((c.tc : Thread Cert.ReferenceHgWInIdeal.nD Cert.ReferenceHgWInIdeal.τ).loc Cert.ReferenceHgWInIdeal.main_v34) = v0 c
          ∧ r.2.mem ((c.tc : Thread Cert.ReferenceHgWInIdeal.nD Cert.ReferenceHgWInIdeal.τ).loc Cert.ReferenceHgWInIdeal.main_v37) = v1 c
          ∧ r.2.mem ((c.tc : Thread Cert.ReferenceHgWInIdeal.nD Cert.ReferenceHgWInIdeal.τ).loc Cert.ReferenceHgWInIdeal.main_v40) = v2 c
          ∧ r.2.mem ((c.tc : Thread Cert.ReferenceHgWInIdeal.nD Cert.ReferenceHgWInIdeal.τ).loc Cert.ReferenceHgWInIdeal.main_v43) = v3 c
          ∧ r.2.mem ((c.tc : Thread Cert.ReferenceHgWInIdeal.nD Cert.ReferenceHgWInIdeal.τ).loc Cert.ReferenceHgWInIdeal.main_arg0) = m' ((c.tc : Thread Cert.ReferenceHgWInIdeal.nD Cert.ReferenceHgWInIdeal.τ).loc Cert.ReferenceHgWInIdeal.main_arg0)
          ∧ r.2.mem ((c.tc : Thread Cert.ReferenceHgWInIdeal.nD Cert.ReferenceHgWInIdeal.τ).loc Cert.ReferenceHgWInIdeal.main_arg1) = m' ((c.tc : Thread Cert.ReferenceHgWInIdeal.nD Cert.ReferenceHgWInIdeal.τ).loc Cert.ReferenceHgWInIdeal.main_arg1)
          ∧ r.2.mem ((c.tc : Thread Cert.ReferenceHgWInIdeal.nD Cert.ReferenceHgWInIdeal.τ).loc Cert.ReferenceHgWInIdeal.main_arg2) = m' ((c.tc : Thread Cert.ReferenceHgWInIdeal.nD Cert.ReferenceHgWInIdeal.τ).loc Cert.ReferenceHgWInIdeal.main_arg2)
          ∧ r.2.mem ((c.tc : Thread Cert.ReferenceHgWInIdeal.nD Cert.ReferenceHgWInIdeal.τ).loc Cert.ReferenceHgWInIdeal.main_arg3) = m' ((c.tc : Thread Cert.ReferenceHgWInIdeal.nD Cert.ReferenceHgWInIdeal.τ).loc Cert.ReferenceHgWInIdeal.main_arg3)
          ∧ r.2.mem ((c.tc : Thread Cert.ReferenceHgWInIdeal.nD Cert.ReferenceHgWInIdeal.τ).loc Cert.ReferenceHgWInIdeal.main_arg4) = m' ((c.tc : Thread Cert.ReferenceHgWInIdeal.nD Cert.ReferenceHgWInIdeal.τ).loc Cert.ReferenceHgWInIdeal.main_arg4)
          ∧ r.2.mem ((c.tc : Thread Cert.ReferenceHgWInIdeal.nD Cert.ReferenceHgWInIdeal.τ).loc Cert.ReferenceHgWInIdeal.main_arg5) = m' ((c.tc : Thread Cert.ReferenceHgWInIdeal.nD Cert.ReferenceHgWInIdeal.τ).loc Cert.ReferenceHgWInIdeal.main_arg5)
          ∧ r.2.mem ((c.tc : Thread Cert.ReferenceHgWInIdeal.nD Cert.ReferenceHgWInIdeal.τ).loc Cert.ReferenceHgWInIdeal.main_arg6) = m' ((c.tc : Thread Cert.ReferenceHgWInIdeal.nD Cert.ReferenceHgWInIdeal.τ).loc Cert.ReferenceHgWInIdeal.main_arg6)
          ∧ r.2.mem ((c.tc : Thread Cert.ReferenceHgWInIdeal.nD Cert.ReferenceHgWInIdeal.τ).loc Cert.ReferenceHgWInIdeal.main_arg7) = m' ((c.tc : Thread Cert.ReferenceHgWInIdeal.nD Cert.ReferenceHgWInIdeal.τ).loc Cert.ReferenceHgWInIdeal.main_arg7))

def preserves_KernelW1_KernelW1Ideal : Prop :=
  True

def algebraic_KernelW1Ideal_ReferenceW1Ideal [hKernelW1Ideal : Cert.KernelW1Ideal.Facts] [hReferenceW1Ideal : Cert.ReferenceW1Ideal.Facts] : Prop :=
  ∀ (m : (ℓ : Loc Cert.KernelW1Ideal.nD Cert.KernelW1Ideal.τ Cert.KernelW1Ideal.sig) → Buf (Elt Ideal) ℓ) (g : Dev Cert.KernelW1Ideal.nD → PrngReg)
    (m' : (ℓ : Loc Cert.ReferenceW1Ideal.nD Cert.ReferenceW1Ideal.τ Cert.ReferenceW1Ideal.sig) → Buf (Elt Ideal) ℓ) (g' : Dev Cert.ReferenceW1Ideal.nD → PrngReg), Pre_KernelW1Ideal m →
    (∀ c : Dev Cert.KernelW1Ideal.nD,
      m' ((c.tc : Thread Cert.ReferenceW1Ideal.nD Cert.ReferenceW1Ideal.τ).loc Cert.ReferenceW1Ideal.main_arg0) = m ((c.tc : Thread Cert.KernelW1Ideal.nD Cert.KernelW1Ideal.τ).loc Cert.KernelW1Ideal.main_arg0)
      ∧ m' ((c.tc : Thread Cert.ReferenceW1Ideal.nD Cert.ReferenceW1Ideal.τ).loc Cert.ReferenceW1Ideal.main_arg1) = m ((c.tc : Thread Cert.KernelW1Ideal.nD Cert.KernelW1Ideal.τ).loc Cert.KernelW1Ideal.main_arg1)
      ∧ m' ((c.tc : Thread Cert.ReferenceW1Ideal.nD Cert.ReferenceW1Ideal.τ).loc Cert.ReferenceW1Ideal.main_arg2) = m ((c.tc : Thread Cert.KernelW1Ideal.nD Cert.KernelW1Ideal.τ).loc Cert.KernelW1Ideal.main_arg2)
      ∧ m' ((c.tc : Thread Cert.ReferenceW1Ideal.nD Cert.ReferenceW1Ideal.τ).loc Cert.ReferenceW1Ideal.main_arg3) = m ((c.tc : Thread Cert.KernelW1Ideal.nD Cert.KernelW1Ideal.τ).loc Cert.KernelW1Ideal.main_arg3)
      ∧ m' ((c.tc : Thread Cert.ReferenceW1Ideal.nD Cert.ReferenceW1Ideal.τ).loc Cert.ReferenceW1Ideal.main_arg4) = m ((c.tc : Thread Cert.KernelW1Ideal.nD Cert.KernelW1Ideal.τ).loc Cert.KernelW1Ideal.main_arg4)
      ∧ m' ((c.tc : Thread Cert.ReferenceW1Ideal.nD Cert.ReferenceW1Ideal.τ).loc Cert.ReferenceW1Ideal.main_arg5) = m ((c.tc : Thread Cert.KernelW1Ideal.nD Cert.KernelW1Ideal.τ).loc Cert.KernelW1Ideal.main_arg5)
      ∧ m' ((c.tc : Thread Cert.ReferenceW1Ideal.nD Cert.ReferenceW1Ideal.τ).loc Cert.ReferenceW1Ideal.main_arg6) = m ((c.tc : Thread Cert.KernelW1Ideal.nD Cert.KernelW1Ideal.τ).loc Cert.KernelW1Ideal.main_arg6)
      ∧ m' ((c.tc : Thread Cert.ReferenceW1Ideal.nD Cert.ReferenceW1Ideal.τ).loc Cert.ReferenceW1Ideal.main_arg7) = m ((c.tc : Thread Cert.KernelW1Ideal.nD Cert.KernelW1Ideal.τ).loc Cert.KernelW1Ideal.main_arg7)) →
    ∃ (v0 : (c : Dev Cert.KernelW1Ideal.nD) → Buf (Elt Ideal) ((c.tc : Thread Cert.KernelW1Ideal.nD Cert.KernelW1Ideal.τ).loc Cert.KernelW1Ideal.main_v0_0)) (v1 : (c : Dev Cert.KernelW1Ideal.nD) → Buf (Elt Ideal) ((c.tc : Thread Cert.KernelW1Ideal.nD Cert.KernelW1Ideal.τ).loc Cert.KernelW1Ideal.main_v0_1)) (v2 : (c : Dev Cert.KernelW1Ideal.nD) → Buf (Elt Ideal) ((c.tc : Thread Cert.KernelW1Ideal.nD Cert.KernelW1Ideal.τ).loc Cert.KernelW1Ideal.main_v0_2)) (v3 : (c : Dev Cert.KernelW1Ideal.nD) → Buf (Elt Ideal) ((c.tc : Thread Cert.KernelW1Ideal.nD Cert.KernelW1Ideal.τ).loc Cert.KernelW1Ideal.main_v0_3)),
      θ_run (Cert.KernelW1Ideal.defs (F := Ideal)) (onTc (τ := Cert.KernelW1Ideal.τ) (Cert.KernelW1Ideal.main (F := Ideal))) ⟨m, fun _ => 0, g⟩ (fun r => ∀ c : Dev Cert.KernelW1Ideal.nD,
          r.2.mem ((c.tc : Thread Cert.KernelW1Ideal.nD Cert.KernelW1Ideal.τ).loc Cert.KernelW1Ideal.main_v0_0) = v0 c
          ∧ r.2.mem ((c.tc : Thread Cert.KernelW1Ideal.nD Cert.KernelW1Ideal.τ).loc Cert.KernelW1Ideal.main_v0_1) = v1 c
          ∧ r.2.mem ((c.tc : Thread Cert.KernelW1Ideal.nD Cert.KernelW1Ideal.τ).loc Cert.KernelW1Ideal.main_v0_2) = v2 c
          ∧ r.2.mem ((c.tc : Thread Cert.KernelW1Ideal.nD Cert.KernelW1Ideal.τ).loc Cert.KernelW1Ideal.main_v0_3) = v3 c
          ∧ r.2.mem ((c.tc : Thread Cert.KernelW1Ideal.nD Cert.KernelW1Ideal.τ).loc Cert.KernelW1Ideal.main_arg0) = m ((c.tc : Thread Cert.KernelW1Ideal.nD Cert.KernelW1Ideal.τ).loc Cert.KernelW1Ideal.main_arg0)
          ∧ r.2.mem ((c.tc : Thread Cert.KernelW1Ideal.nD Cert.KernelW1Ideal.τ).loc Cert.KernelW1Ideal.main_arg1) = m ((c.tc : Thread Cert.KernelW1Ideal.nD Cert.KernelW1Ideal.τ).loc Cert.KernelW1Ideal.main_arg1)
          ∧ r.2.mem ((c.tc : Thread Cert.KernelW1Ideal.nD Cert.KernelW1Ideal.τ).loc Cert.KernelW1Ideal.main_arg2) = m ((c.tc : Thread Cert.KernelW1Ideal.nD Cert.KernelW1Ideal.τ).loc Cert.KernelW1Ideal.main_arg2)
          ∧ r.2.mem ((c.tc : Thread Cert.KernelW1Ideal.nD Cert.KernelW1Ideal.τ).loc Cert.KernelW1Ideal.main_arg3) = m ((c.tc : Thread Cert.KernelW1Ideal.nD Cert.KernelW1Ideal.τ).loc Cert.KernelW1Ideal.main_arg3)
          ∧ r.2.mem ((c.tc : Thread Cert.KernelW1Ideal.nD Cert.KernelW1Ideal.τ).loc Cert.KernelW1Ideal.main_arg4) = m ((c.tc : Thread Cert.KernelW1Ideal.nD Cert.KernelW1Ideal.τ).loc Cert.KernelW1Ideal.main_arg4)
          ∧ r.2.mem ((c.tc : Thread Cert.KernelW1Ideal.nD Cert.KernelW1Ideal.τ).loc Cert.KernelW1Ideal.main_arg5) = m ((c.tc : Thread Cert.KernelW1Ideal.nD Cert.KernelW1Ideal.τ).loc Cert.KernelW1Ideal.main_arg5)
          ∧ r.2.mem ((c.tc : Thread Cert.KernelW1Ideal.nD Cert.KernelW1Ideal.τ).loc Cert.KernelW1Ideal.main_arg6) = m ((c.tc : Thread Cert.KernelW1Ideal.nD Cert.KernelW1Ideal.τ).loc Cert.KernelW1Ideal.main_arg6)
          ∧ r.2.mem ((c.tc : Thread Cert.KernelW1Ideal.nD Cert.KernelW1Ideal.τ).loc Cert.KernelW1Ideal.main_arg7) = m ((c.tc : Thread Cert.KernelW1Ideal.nD Cert.KernelW1Ideal.τ).loc Cert.KernelW1Ideal.main_arg7))
      ∧ θ_run (Cert.ReferenceW1Ideal.defs (F := Ideal)) (onTc (τ := Cert.ReferenceW1Ideal.τ) (Cert.ReferenceW1Ideal.main (F := Ideal))) ⟨m', fun _ => 0, g'⟩ (fun r => ∀ c : Dev Cert.ReferenceW1Ideal.nD,
          r.2.mem ((c.tc : Thread Cert.ReferenceW1Ideal.nD Cert.ReferenceW1Ideal.τ).loc Cert.ReferenceW1Ideal.main_v34) = v0 c
          ∧ r.2.mem ((c.tc : Thread Cert.ReferenceW1Ideal.nD Cert.ReferenceW1Ideal.τ).loc Cert.ReferenceW1Ideal.main_v37) = v1 c
          ∧ r.2.mem ((c.tc : Thread Cert.ReferenceW1Ideal.nD Cert.ReferenceW1Ideal.τ).loc Cert.ReferenceW1Ideal.main_v40) = v2 c
          ∧ r.2.mem ((c.tc : Thread Cert.ReferenceW1Ideal.nD Cert.ReferenceW1Ideal.τ).loc Cert.ReferenceW1Ideal.main_v43) = v3 c
          ∧ r.2.mem ((c.tc : Thread Cert.ReferenceW1Ideal.nD Cert.ReferenceW1Ideal.τ).loc Cert.ReferenceW1Ideal.main_arg0) = m' ((c.tc : Thread Cert.ReferenceW1Ideal.nD Cert.ReferenceW1Ideal.τ).loc Cert.ReferenceW1Ideal.main_arg0)
          ∧ r.2.mem ((c.tc : Thread Cert.ReferenceW1Ideal.nD Cert.ReferenceW1Ideal.τ).loc Cert.ReferenceW1Ideal.main_arg1) = m' ((c.tc : Thread Cert.ReferenceW1Ideal.nD Cert.ReferenceW1Ideal.τ).loc Cert.ReferenceW1Ideal.main_arg1)
          ∧ r.2.mem ((c.tc : Thread Cert.ReferenceW1Ideal.nD Cert.ReferenceW1Ideal.τ).loc Cert.ReferenceW1Ideal.main_arg2) = m' ((c.tc : Thread Cert.ReferenceW1Ideal.nD Cert.ReferenceW1Ideal.τ).loc Cert.ReferenceW1Ideal.main_arg2)
          ∧ r.2.mem ((c.tc : Thread Cert.ReferenceW1Ideal.nD Cert.ReferenceW1Ideal.τ).loc Cert.ReferenceW1Ideal.main_arg3) = m' ((c.tc : Thread Cert.ReferenceW1Ideal.nD Cert.ReferenceW1Ideal.τ).loc Cert.ReferenceW1Ideal.main_arg3)
          ∧ r.2.mem ((c.tc : Thread Cert.ReferenceW1Ideal.nD Cert.ReferenceW1Ideal.τ).loc Cert.ReferenceW1Ideal.main_arg4) = m' ((c.tc : Thread Cert.ReferenceW1Ideal.nD Cert.ReferenceW1Ideal.τ).loc Cert.ReferenceW1Ideal.main_arg4)
          ∧ r.2.mem ((c.tc : Thread Cert.ReferenceW1Ideal.nD Cert.ReferenceW1Ideal.τ).loc Cert.ReferenceW1Ideal.main_arg5) = m' ((c.tc : Thread Cert.ReferenceW1Ideal.nD Cert.ReferenceW1Ideal.τ).loc Cert.ReferenceW1Ideal.main_arg5)
          ∧ r.2.mem ((c.tc : Thread Cert.ReferenceW1Ideal.nD Cert.ReferenceW1Ideal.τ).loc Cert.ReferenceW1Ideal.main_arg6) = m' ((c.tc : Thread Cert.ReferenceW1Ideal.nD Cert.ReferenceW1Ideal.τ).loc Cert.ReferenceW1Ideal.main_arg6)
          ∧ r.2.mem ((c.tc : Thread Cert.ReferenceW1Ideal.nD Cert.ReferenceW1Ideal.τ).loc Cert.ReferenceW1Ideal.main_arg7) = m' ((c.tc : Thread Cert.ReferenceW1Ideal.nD Cert.ReferenceW1Ideal.τ).loc Cert.ReferenceW1Ideal.main_arg7))

def preserves_KernelW2_KernelW2Ideal : Prop :=
  True

def algebraic_KernelW2Ideal_ReferenceW2Ideal [hKernelW2Ideal : Cert.KernelW2Ideal.Facts] [hReferenceW2Ideal : Cert.ReferenceW2Ideal.Facts] : Prop :=
  ∀ (m : (ℓ : Loc Cert.KernelW2Ideal.nD Cert.KernelW2Ideal.τ Cert.KernelW2Ideal.sig) → Buf (Elt Ideal) ℓ) (g : Dev Cert.KernelW2Ideal.nD → PrngReg)
    (m' : (ℓ : Loc Cert.ReferenceW2Ideal.nD Cert.ReferenceW2Ideal.τ Cert.ReferenceW2Ideal.sig) → Buf (Elt Ideal) ℓ) (g' : Dev Cert.ReferenceW2Ideal.nD → PrngReg), Pre_KernelW2Ideal m →
    (∀ c : Dev Cert.KernelW2Ideal.nD,
      m' ((c.tc : Thread Cert.ReferenceW2Ideal.nD Cert.ReferenceW2Ideal.τ).loc Cert.ReferenceW2Ideal.main_arg0) = m ((c.tc : Thread Cert.KernelW2Ideal.nD Cert.KernelW2Ideal.τ).loc Cert.KernelW2Ideal.main_arg0)
      ∧ m' ((c.tc : Thread Cert.ReferenceW2Ideal.nD Cert.ReferenceW2Ideal.τ).loc Cert.ReferenceW2Ideal.main_arg1) = m ((c.tc : Thread Cert.KernelW2Ideal.nD Cert.KernelW2Ideal.τ).loc Cert.KernelW2Ideal.main_arg1)
      ∧ m' ((c.tc : Thread Cert.ReferenceW2Ideal.nD Cert.ReferenceW2Ideal.τ).loc Cert.ReferenceW2Ideal.main_arg2) = m ((c.tc : Thread Cert.KernelW2Ideal.nD Cert.KernelW2Ideal.τ).loc Cert.KernelW2Ideal.main_arg2)
      ∧ m' ((c.tc : Thread Cert.ReferenceW2Ideal.nD Cert.ReferenceW2Ideal.τ).loc Cert.ReferenceW2Ideal.main_arg3) = m ((c.tc : Thread Cert.KernelW2Ideal.nD Cert.KernelW2Ideal.τ).loc Cert.KernelW2Ideal.main_arg3)
      ∧ m' ((c.tc : Thread Cert.ReferenceW2Ideal.nD Cert.ReferenceW2Ideal.τ).loc Cert.ReferenceW2Ideal.main_arg4) = m ((c.tc : Thread Cert.KernelW2Ideal.nD Cert.KernelW2Ideal.τ).loc Cert.KernelW2Ideal.main_arg4)
      ∧ m' ((c.tc : Thread Cert.ReferenceW2Ideal.nD Cert.ReferenceW2Ideal.τ).loc Cert.ReferenceW2Ideal.main_arg5) = m ((c.tc : Thread Cert.KernelW2Ideal.nD Cert.KernelW2Ideal.τ).loc Cert.KernelW2Ideal.main_arg5)
      ∧ m' ((c.tc : Thread Cert.ReferenceW2Ideal.nD Cert.ReferenceW2Ideal.τ).loc Cert.ReferenceW2Ideal.main_arg6) = m ((c.tc : Thread Cert.KernelW2Ideal.nD Cert.KernelW2Ideal.τ).loc Cert.KernelW2Ideal.main_arg6)
      ∧ m' ((c.tc : Thread Cert.ReferenceW2Ideal.nD Cert.ReferenceW2Ideal.τ).loc Cert.ReferenceW2Ideal.main_arg7) = m ((c.tc : Thread Cert.KernelW2Ideal.nD Cert.KernelW2Ideal.τ).loc Cert.KernelW2Ideal.main_arg7)) →
    ∃ (v0 : (c : Dev Cert.KernelW2Ideal.nD) → Buf (Elt Ideal) ((c.tc : Thread Cert.KernelW2Ideal.nD Cert.KernelW2Ideal.τ).loc Cert.KernelW2Ideal.main_v0_0)) (v1 : (c : Dev Cert.KernelW2Ideal.nD) → Buf (Elt Ideal) ((c.tc : Thread Cert.KernelW2Ideal.nD Cert.KernelW2Ideal.τ).loc Cert.KernelW2Ideal.main_v0_1)) (v2 : (c : Dev Cert.KernelW2Ideal.nD) → Buf (Elt Ideal) ((c.tc : Thread Cert.KernelW2Ideal.nD Cert.KernelW2Ideal.τ).loc Cert.KernelW2Ideal.main_v0_2)) (v3 : (c : Dev Cert.KernelW2Ideal.nD) → Buf (Elt Ideal) ((c.tc : Thread Cert.KernelW2Ideal.nD Cert.KernelW2Ideal.τ).loc Cert.KernelW2Ideal.main_v0_3)),
      θ_run (Cert.KernelW2Ideal.defs (F := Ideal)) (onTc (τ := Cert.KernelW2Ideal.τ) (Cert.KernelW2Ideal.main (F := Ideal))) ⟨m, fun _ => 0, g⟩ (fun r => ∀ c : Dev Cert.KernelW2Ideal.nD,
          r.2.mem ((c.tc : Thread Cert.KernelW2Ideal.nD Cert.KernelW2Ideal.τ).loc Cert.KernelW2Ideal.main_v0_0) = v0 c
          ∧ r.2.mem ((c.tc : Thread Cert.KernelW2Ideal.nD Cert.KernelW2Ideal.τ).loc Cert.KernelW2Ideal.main_v0_1) = v1 c
          ∧ r.2.mem ((c.tc : Thread Cert.KernelW2Ideal.nD Cert.KernelW2Ideal.τ).loc Cert.KernelW2Ideal.main_v0_2) = v2 c
          ∧ r.2.mem ((c.tc : Thread Cert.KernelW2Ideal.nD Cert.KernelW2Ideal.τ).loc Cert.KernelW2Ideal.main_v0_3) = v3 c
          ∧ r.2.mem ((c.tc : Thread Cert.KernelW2Ideal.nD Cert.KernelW2Ideal.τ).loc Cert.KernelW2Ideal.main_arg0) = m ((c.tc : Thread Cert.KernelW2Ideal.nD Cert.KernelW2Ideal.τ).loc Cert.KernelW2Ideal.main_arg0)
          ∧ r.2.mem ((c.tc : Thread Cert.KernelW2Ideal.nD Cert.KernelW2Ideal.τ).loc Cert.KernelW2Ideal.main_arg1) = m ((c.tc : Thread Cert.KernelW2Ideal.nD Cert.KernelW2Ideal.τ).loc Cert.KernelW2Ideal.main_arg1)
          ∧ r.2.mem ((c.tc : Thread Cert.KernelW2Ideal.nD Cert.KernelW2Ideal.τ).loc Cert.KernelW2Ideal.main_arg2) = m ((c.tc : Thread Cert.KernelW2Ideal.nD Cert.KernelW2Ideal.τ).loc Cert.KernelW2Ideal.main_arg2)
          ∧ r.2.mem ((c.tc : Thread Cert.KernelW2Ideal.nD Cert.KernelW2Ideal.τ).loc Cert.KernelW2Ideal.main_arg3) = m ((c.tc : Thread Cert.KernelW2Ideal.nD Cert.KernelW2Ideal.τ).loc Cert.KernelW2Ideal.main_arg3)
          ∧ r.2.mem ((c.tc : Thread Cert.KernelW2Ideal.nD Cert.KernelW2Ideal.τ).loc Cert.KernelW2Ideal.main_arg4) = m ((c.tc : Thread Cert.KernelW2Ideal.nD Cert.KernelW2Ideal.τ).loc Cert.KernelW2Ideal.main_arg4)
          ∧ r.2.mem ((c.tc : Thread Cert.KernelW2Ideal.nD Cert.KernelW2Ideal.τ).loc Cert.KernelW2Ideal.main_arg5) = m ((c.tc : Thread Cert.KernelW2Ideal.nD Cert.KernelW2Ideal.τ).loc Cert.KernelW2Ideal.main_arg5)
          ∧ r.2.mem ((c.tc : Thread Cert.KernelW2Ideal.nD Cert.KernelW2Ideal.τ).loc Cert.KernelW2Ideal.main_arg6) = m ((c.tc : Thread Cert.KernelW2Ideal.nD Cert.KernelW2Ideal.τ).loc Cert.KernelW2Ideal.main_arg6)
          ∧ r.2.mem ((c.tc : Thread Cert.KernelW2Ideal.nD Cert.KernelW2Ideal.τ).loc Cert.KernelW2Ideal.main_arg7) = m ((c.tc : Thread Cert.KernelW2Ideal.nD Cert.KernelW2Ideal.τ).loc Cert.KernelW2Ideal.main_arg7))
      ∧ θ_run (Cert.ReferenceW2Ideal.defs (F := Ideal)) (onTc (τ := Cert.ReferenceW2Ideal.τ) (Cert.ReferenceW2Ideal.main (F := Ideal))) ⟨m', fun _ => 0, g'⟩ (fun r => ∀ c : Dev Cert.ReferenceW2Ideal.nD,
          r.2.mem ((c.tc : Thread Cert.ReferenceW2Ideal.nD Cert.ReferenceW2Ideal.τ).loc Cert.ReferenceW2Ideal.main_v34) = v0 c
          ∧ r.2.mem ((c.tc : Thread Cert.ReferenceW2Ideal.nD Cert.ReferenceW2Ideal.τ).loc Cert.ReferenceW2Ideal.main_v37) = v1 c
          ∧ r.2.mem ((c.tc : Thread Cert.ReferenceW2Ideal.nD Cert.ReferenceW2Ideal.τ).loc Cert.ReferenceW2Ideal.main_v40) = v2 c
          ∧ r.2.mem ((c.tc : Thread Cert.ReferenceW2Ideal.nD Cert.ReferenceW2Ideal.τ).loc Cert.ReferenceW2Ideal.main_v43) = v3 c
          ∧ r.2.mem ((c.tc : Thread Cert.ReferenceW2Ideal.nD Cert.ReferenceW2Ideal.τ).loc Cert.ReferenceW2Ideal.main_arg0) = m' ((c.tc : Thread Cert.ReferenceW2Ideal.nD Cert.ReferenceW2Ideal.τ).loc Cert.ReferenceW2Ideal.main_arg0)
          ∧ r.2.mem ((c.tc : Thread Cert.ReferenceW2Ideal.nD Cert.ReferenceW2Ideal.τ).loc Cert.ReferenceW2Ideal.main_arg1) = m' ((c.tc : Thread Cert.ReferenceW2Ideal.nD Cert.ReferenceW2Ideal.τ).loc Cert.ReferenceW2Ideal.main_arg1)
          ∧ r.2.mem ((c.tc : Thread Cert.ReferenceW2Ideal.nD Cert.ReferenceW2Ideal.τ).loc Cert.ReferenceW2Ideal.main_arg2) = m' ((c.tc : Thread Cert.ReferenceW2Ideal.nD Cert.ReferenceW2Ideal.τ).loc Cert.ReferenceW2Ideal.main_arg2)
          ∧ r.2.mem ((c.tc : Thread Cert.ReferenceW2Ideal.nD Cert.ReferenceW2Ideal.τ).loc Cert.ReferenceW2Ideal.main_arg3) = m' ((c.tc : Thread Cert.ReferenceW2Ideal.nD Cert.ReferenceW2Ideal.τ).loc Cert.ReferenceW2Ideal.main_arg3)
          ∧ r.2.mem ((c.tc : Thread Cert.ReferenceW2Ideal.nD Cert.ReferenceW2Ideal.τ).loc Cert.ReferenceW2Ideal.main_arg4) = m' ((c.tc : Thread Cert.ReferenceW2Ideal.nD Cert.ReferenceW2Ideal.τ).loc Cert.ReferenceW2Ideal.main_arg4)
          ∧ r.2.mem ((c.tc : Thread Cert.ReferenceW2Ideal.nD Cert.ReferenceW2Ideal.τ).loc Cert.ReferenceW2Ideal.main_arg5) = m' ((c.tc : Thread Cert.ReferenceW2Ideal.nD Cert.ReferenceW2Ideal.τ).loc Cert.ReferenceW2Ideal.main_arg5)
          ∧ r.2.mem ((c.tc : Thread Cert.ReferenceW2Ideal.nD Cert.ReferenceW2Ideal.τ).loc Cert.ReferenceW2Ideal.main_arg6) = m' ((c.tc : Thread Cert.ReferenceW2Ideal.nD Cert.ReferenceW2Ideal.τ).loc Cert.ReferenceW2Ideal.main_arg6)
          ∧ r.2.mem ((c.tc : Thread Cert.ReferenceW2Ideal.nD Cert.ReferenceW2Ideal.τ).loc Cert.ReferenceW2Ideal.main_arg7) = m' ((c.tc : Thread Cert.ReferenceW2Ideal.nD Cert.ReferenceW2Ideal.τ).loc Cert.ReferenceW2Ideal.main_arg7))

def Claim : Prop :=
  ∃ (hKernel : Cert.Kernel.Facts) (hKernelIdeal : Cert.KernelIdeal.Facts) (hReferenceIdeal : Cert.ReferenceIdeal.Facts) (hKernelIn : Cert.KernelIn.Facts) (hKernelInIdeal : Cert.KernelInIdeal.Facts) (hReferenceInIdeal : Cert.ReferenceInIdeal.Facts) (hKernelOut : Cert.KernelOut.Facts) (hKernelOutIdeal : Cert.KernelOutIdeal.Facts) (hReferenceOutIdeal : Cert.ReferenceOutIdeal.Facts) (hKernelFwd : Cert.KernelFwd.Facts) (hKernelFwdIdeal : Cert.KernelFwdIdeal.Facts) (hReferenceFwdIdeal : Cert.ReferenceFwdIdeal.Facts) (hKernelRgIn : Cert.KernelRgIn.Facts) (hKernelRgInIdeal : Cert.KernelRgInIdeal.Facts) (hReferenceRgInIdeal : Cert.ReferenceRgInIdeal.Facts) (hKernelMix : Cert.KernelMix.Facts) (hKernelMixIdeal : Cert.KernelMixIdeal.Facts) (hReferenceMixIdeal : Cert.ReferenceMixIdeal.Facts) (hKernelMixerT : Cert.KernelMixerT.Facts) (hKernelMixerTIdeal : Cert.KernelMixerTIdeal.Facts) (hReferenceMixerTIdeal : Cert.ReferenceMixerTIdeal.Facts) (hKernelFirst : Cert.KernelFirst.Facts) (hKernelFirstIdeal : Cert.KernelFirstIdeal.Facts) (hReferenceFirstIdeal : Cert.ReferenceFirstIdeal.Facts) (hKernelSmall : Cert.KernelSmall.Facts) (hKernelSmallIdeal : Cert.KernelSmallIdeal.Facts) (hReferenceSmallIdeal : Cert.ReferenceSmallIdeal.Facts) (hKernelMod : Cert.KernelMod.Facts) (hKernelModIdeal : Cert.KernelModIdeal.Facts) (hReferenceModIdeal : Cert.ReferenceModIdeal.Facts) (hKernelConv : Cert.KernelConv.Facts) (hKernelConvIdeal : Cert.KernelConvIdeal.Facts) (hReferenceConvIdeal : Cert.ReferenceConvIdeal.Facts) (hKernelMixOut : Cert.KernelMixOut.Facts) (hKernelMixOutIdeal : Cert.KernelMixOutIdeal.Facts) (hReferenceMixOutIdeal : Cert.ReferenceMixOutIdeal.Facts) (hKernelMixOutT : Cert.KernelMixOutT.Facts) (hKernelMixOutTIdeal : Cert.KernelMixOutTIdeal.Facts) (hReferenceMixOutTIdeal : Cert.ReferenceMixOutTIdeal.Facts) (hKernelHgZ : Cert.KernelHgZ.Facts) (hKernelHgZIdeal : Cert.KernelHgZIdeal.Facts) (hReferenceHgZIdeal : Cert.ReferenceHgZIdeal.Facts) (hKernelRgZ : Cert.KernelRgZ.Facts) (hKernelRgZIdeal : Cert.KernelRgZIdeal.Facts) (hReferenceRgZIdeal : Cert.ReferenceRgZIdeal.Facts) (hKernelGate : Cert.KernelGate.Facts) (hKernelGateIdeal : Cert.KernelGateIdeal.Facts) (hReferenceGateIdeal : Cert.ReferenceGateIdeal.Facts) (hKernelRgWIn : Cert.KernelRgWIn.Facts) (hKernelRgWInIdeal : Cert.KernelRgWInIdeal.Facts) (hReferenceRgWInIdeal : Cert.ReferenceRgWInIdeal.Facts) (hKernelWOut : Cert.KernelWOut.Facts) (hKernelWOutIdeal : Cert.KernelWOutIdeal.Facts) (hReferenceWOutIdeal : Cert.ReferenceWOutIdeal.Facts) (hKernelHgWIn : Cert.KernelHgWIn.Facts) (hKernelHgWInIdeal : Cert.KernelHgWInIdeal.Facts) (hReferenceHgWInIdeal : Cert.ReferenceHgWInIdeal.Facts) (hKernelW1 : Cert.KernelW1.Facts) (hKernelW1Ideal : Cert.KernelW1Ideal.Facts) (hReferenceW1Ideal : Cert.ReferenceW1Ideal.Facts) (hKernelW2 : Cert.KernelW2.Facts) (hKernelW2Ideal : Cert.KernelW2Ideal.Facts) (hReferenceW2Ideal : Cert.ReferenceW2Ideal.Facts) (hPre_finite : Cert.Pre_finite.Facts) (hPre_finite_mixer : Cert.Pre_finite_mixer.Facts) (hPre_finite_first : Cert.Pre_finite_first.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelFwd (hKernelFwd := hKernelFwd)
    ∧ quiescent_KernelFwdIdeal (hKernelFwdIdeal := hKernelFwdIdeal)
    ∧ quiescent_ReferenceFwdIdeal (hReferenceFwdIdeal := hReferenceFwdIdeal)
    ∧ quiescent_KernelRgIn (hKernelRgIn := hKernelRgIn)
    ∧ quiescent_KernelRgInIdeal (hKernelRgInIdeal := hKernelRgInIdeal)
    ∧ quiescent_ReferenceRgInIdeal (hReferenceRgInIdeal := hReferenceRgInIdeal)
    ∧ quiescent_KernelMix (hKernelMix := hKernelMix)
    ∧ quiescent_KernelMixIdeal (hKernelMixIdeal := hKernelMixIdeal)
    ∧ quiescent_ReferenceMixIdeal (hReferenceMixIdeal := hReferenceMixIdeal)
    ∧ quiescent_KernelMixerT (hKernelMixerT := hKernelMixerT)
    ∧ quiescent_KernelMixerTIdeal (hKernelMixerTIdeal := hKernelMixerTIdeal)
    ∧ quiescent_KernelMixerTIdeal_pre_finite_mixer (hKernelMixerTIdeal := hKernelMixerTIdeal) (hPre_finite_mixer := hPre_finite_mixer)
    ∧ quiescent_ReferenceMixerTIdeal (hReferenceMixerTIdeal := hReferenceMixerTIdeal)
    ∧ quiescent_ReferenceMixerTIdeal_pre_finite_mixer (hReferenceMixerTIdeal := hReferenceMixerTIdeal) (hPre_finite_mixer := hPre_finite_mixer)
    ∧ quiescent_KernelFirst (hKernelFirst := hKernelFirst)
    ∧ quiescent_KernelFirstIdeal (hKernelFirstIdeal := hKernelFirstIdeal)
    ∧ quiescent_KernelFirstIdeal_pre_finite_first (hKernelFirstIdeal := hKernelFirstIdeal) (hPre_finite_first := hPre_finite_first)
    ∧ quiescent_ReferenceFirstIdeal (hReferenceFirstIdeal := hReferenceFirstIdeal)
    ∧ quiescent_ReferenceFirstIdeal_pre_finite_first (hReferenceFirstIdeal := hReferenceFirstIdeal) (hPre_finite_first := hPre_finite_first)
    ∧ quiescent_KernelSmall (hKernelSmall := hKernelSmall)
    ∧ quiescent_KernelSmallIdeal (hKernelSmallIdeal := hKernelSmallIdeal)
    ∧ quiescent_ReferenceSmallIdeal (hReferenceSmallIdeal := hReferenceSmallIdeal)
    ∧ quiescent_KernelMod (hKernelMod := hKernelMod)
    ∧ quiescent_KernelModIdeal (hKernelModIdeal := hKernelModIdeal)
    ∧ quiescent_ReferenceModIdeal (hReferenceModIdeal := hReferenceModIdeal)
    ∧ quiescent_KernelConv (hKernelConv := hKernelConv)
    ∧ quiescent_KernelConvIdeal (hKernelConvIdeal := hKernelConvIdeal)
    ∧ quiescent_ReferenceConvIdeal (hReferenceConvIdeal := hReferenceConvIdeal)
    ∧ quiescent_KernelMixOut (hKernelMixOut := hKernelMixOut)
    ∧ quiescent_KernelMixOutIdeal (hKernelMixOutIdeal := hKernelMixOutIdeal)
    ∧ quiescent_ReferenceMixOutIdeal (hReferenceMixOutIdeal := hReferenceMixOutIdeal)
    ∧ quiescent_KernelMixOutT (hKernelMixOutT := hKernelMixOutT)
    ∧ quiescent_KernelMixOutTIdeal (hKernelMixOutTIdeal := hKernelMixOutTIdeal)
    ∧ quiescent_ReferenceMixOutTIdeal (hReferenceMixOutTIdeal := hReferenceMixOutTIdeal)
    ∧ quiescent_KernelHgZ (hKernelHgZ := hKernelHgZ)
    ∧ quiescent_KernelHgZIdeal (hKernelHgZIdeal := hKernelHgZIdeal)
    ∧ quiescent_ReferenceHgZIdeal (hReferenceHgZIdeal := hReferenceHgZIdeal)
    ∧ quiescent_KernelRgZ (hKernelRgZ := hKernelRgZ)
    ∧ quiescent_KernelRgZIdeal (hKernelRgZIdeal := hKernelRgZIdeal)
    ∧ quiescent_ReferenceRgZIdeal (hReferenceRgZIdeal := hReferenceRgZIdeal)
    ∧ quiescent_KernelGate (hKernelGate := hKernelGate)
    ∧ quiescent_KernelGateIdeal (hKernelGateIdeal := hKernelGateIdeal)
    ∧ quiescent_ReferenceGateIdeal (hReferenceGateIdeal := hReferenceGateIdeal)
    ∧ quiescent_KernelRgWIn (hKernelRgWIn := hKernelRgWIn)
    ∧ quiescent_KernelRgWInIdeal (hKernelRgWInIdeal := hKernelRgWInIdeal)
    ∧ quiescent_ReferenceRgWInIdeal (hReferenceRgWInIdeal := hReferenceRgWInIdeal)
    ∧ quiescent_KernelWOut (hKernelWOut := hKernelWOut)
    ∧ quiescent_KernelWOutIdeal (hKernelWOutIdeal := hKernelWOutIdeal)
    ∧ quiescent_ReferenceWOutIdeal (hReferenceWOutIdeal := hReferenceWOutIdeal)
    ∧ quiescent_KernelHgWIn (hKernelHgWIn := hKernelHgWIn)
    ∧ quiescent_KernelHgWInIdeal (hKernelHgWInIdeal := hKernelHgWInIdeal)
    ∧ quiescent_ReferenceHgWInIdeal (hReferenceHgWInIdeal := hReferenceHgWInIdeal)
    ∧ quiescent_KernelW1 (hKernelW1 := hKernelW1)
    ∧ quiescent_KernelW1Ideal (hKernelW1Ideal := hKernelW1Ideal)
    ∧ quiescent_ReferenceW1Ideal (hReferenceW1Ideal := hReferenceW1Ideal)
    ∧ quiescent_KernelW2 (hKernelW2 := hKernelW2)
    ∧ quiescent_KernelW2Ideal (hKernelW2Ideal := hKernelW2Ideal)
    ∧ quiescent_ReferenceW2Ideal (hReferenceW2Ideal := hReferenceW2Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelIn_KernelInIdeal
    ∧ algebraic_KernelInIdeal_ReferenceInIdeal (hKernelInIdeal := hKernelInIdeal) (hReferenceInIdeal := hReferenceInIdeal)
    ∧ preserves_KernelOut_KernelOutIdeal
    ∧ algebraic_KernelOutIdeal_ReferenceOutIdeal (hKernelOutIdeal := hKernelOutIdeal) (hReferenceOutIdeal := hReferenceOutIdeal)
    ∧ preserves_KernelFwd_KernelFwdIdeal
    ∧ algebraic_KernelFwdIdeal_ReferenceFwdIdeal (hKernelFwdIdeal := hKernelFwdIdeal) (hReferenceFwdIdeal := hReferenceFwdIdeal)
    ∧ preserves_KernelRgIn_KernelRgInIdeal
    ∧ algebraic_KernelRgInIdeal_ReferenceRgInIdeal (hKernelRgInIdeal := hKernelRgInIdeal) (hReferenceRgInIdeal := hReferenceRgInIdeal)
    ∧ preserves_KernelMix_KernelMixIdeal
    ∧ algebraic_KernelMixIdeal_ReferenceMixIdeal (hKernelMixIdeal := hKernelMixIdeal) (hReferenceMixIdeal := hReferenceMixIdeal)
    ∧ preserves_KernelMixerT_KernelMixerTIdeal
    ∧ algebraic_KernelMixerTIdeal_ReferenceMixerTIdeal_pre_finite_mixer (hKernelMixerTIdeal := hKernelMixerTIdeal) (hReferenceMixerTIdeal := hReferenceMixerTIdeal) (hPre_finite_mixer := hPre_finite_mixer)
    ∧ preserves_KernelFirst_KernelFirstIdeal
    ∧ algebraic_KernelFirstIdeal_ReferenceFirstIdeal_pre_finite_first (hKernelFirstIdeal := hKernelFirstIdeal) (hReferenceFirstIdeal := hReferenceFirstIdeal) (hPre_finite_first := hPre_finite_first)
    ∧ preserves_KernelSmall_KernelSmallIdeal
    ∧ algebraic_KernelSmallIdeal_ReferenceSmallIdeal (hKernelSmallIdeal := hKernelSmallIdeal) (hReferenceSmallIdeal := hReferenceSmallIdeal)
    ∧ preserves_KernelMod_KernelModIdeal
    ∧ algebraic_KernelModIdeal_ReferenceModIdeal (hKernelModIdeal := hKernelModIdeal) (hReferenceModIdeal := hReferenceModIdeal)
    ∧ preserves_KernelConv_KernelConvIdeal
    ∧ algebraic_KernelConvIdeal_ReferenceConvIdeal (hKernelConvIdeal := hKernelConvIdeal) (hReferenceConvIdeal := hReferenceConvIdeal)
    ∧ preserves_KernelMixOut_KernelMixOutIdeal
    ∧ algebraic_KernelMixOutIdeal_ReferenceMixOutIdeal (hKernelMixOutIdeal := hKernelMixOutIdeal) (hReferenceMixOutIdeal := hReferenceMixOutIdeal)
    ∧ preserves_KernelMixOutT_KernelMixOutTIdeal
    ∧ algebraic_KernelMixOutTIdeal_ReferenceMixOutTIdeal (hKernelMixOutTIdeal := hKernelMixOutTIdeal) (hReferenceMixOutTIdeal := hReferenceMixOutTIdeal)
    ∧ preserves_KernelHgZ_KernelHgZIdeal
    ∧ algebraic_KernelHgZIdeal_ReferenceHgZIdeal (hKernelHgZIdeal := hKernelHgZIdeal) (hReferenceHgZIdeal := hReferenceHgZIdeal)
    ∧ preserves_KernelRgZ_KernelRgZIdeal
    ∧ algebraic_KernelRgZIdeal_ReferenceRgZIdeal (hKernelRgZIdeal := hKernelRgZIdeal) (hReferenceRgZIdeal := hReferenceRgZIdeal)
    ∧ preserves_KernelGate_KernelGateIdeal
    ∧ algebraic_KernelGateIdeal_ReferenceGateIdeal (hKernelGateIdeal := hKernelGateIdeal) (hReferenceGateIdeal := hReferenceGateIdeal)
    ∧ preserves_KernelRgWIn_KernelRgWInIdeal
    ∧ algebraic_KernelRgWInIdeal_ReferenceRgWInIdeal (hKernelRgWInIdeal := hKernelRgWInIdeal) (hReferenceRgWInIdeal := hReferenceRgWInIdeal)
    ∧ preserves_KernelWOut_KernelWOutIdeal
    ∧ algebraic_KernelWOutIdeal_ReferenceWOutIdeal (hKernelWOutIdeal := hKernelWOutIdeal) (hReferenceWOutIdeal := hReferenceWOutIdeal)
    ∧ preserves_KernelHgWIn_KernelHgWInIdeal
    ∧ algebraic_KernelHgWInIdeal_ReferenceHgWInIdeal (hKernelHgWInIdeal := hKernelHgWInIdeal) (hReferenceHgWInIdeal := hReferenceHgWInIdeal)
    ∧ preserves_KernelW1_KernelW1Ideal
    ∧ algebraic_KernelW1Ideal_ReferenceW1Ideal (hKernelW1Ideal := hKernelW1Ideal) (hReferenceW1Ideal := hReferenceW1Ideal)
    ∧ preserves_KernelW2_KernelW2Ideal
    ∧ algebraic_KernelW2Ideal_ReferenceW2Ideal (hKernelW2Ideal := hKernelW2Ideal) (hReferenceW2Ideal := hReferenceW2Ideal)
-- ==== Pre_finite.lean ====
abbrev S2048x1024 : Shape := ⟨2, ![2048, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩

class Facts : Prop where
  bcast_S_S2048x1024 : S_.BroadcastsInDim S2048x1024 (![] : Fin 0 → Fin S2048x1024.rank)
  bcast_S_S1024 : S_.BroadcastsInDim S1024 (![] : Fin 0 → Fin S1024.rank)
  bcast_S_S1024x4096 : S_.BroadcastsInDim S1024x4096 (![] : Fin 0 → Fin S1024x4096.rank)
  bcast_S_S4096x1024 : S_.BroadcastsInDim S4096x1024 (![] : Fin 0 → Fin S4096x1024.rank)

variable [Facts]

def fn_part1 {F : FTy → Type} [FloatOps F] (main_arg6 : FVec F S1024 .f32) (main_arg7 : FVec F S1024x4096 .f32) (main_arg8 : FVec F S4096x1024 .f32) (main_arg9 : FVec F S2048x1024 .f32) (main_v2 : IVec S2048x1024 1) (main_v5 : IVec S2048x1024 1) (main_v8 : IVec S1024 1) (main_v11 : IVec S1024 1) (main_v14 : IVec S1024 1) (main_v17 : IVec S1024 1) : IVec S2048x1024 1 × IVec S2048x1024 1 × IVec S1024 1 × IVec S1024 1 × IVec S1024 1 × IVec S1024 1 × IVec S1024 1 × IVec S1024x4096 1 × IVec S4096x1024 1 × IVec S2048x1024 1 :=
  let main_v18 : FVec F S1024 .f32 := Host.absf main_arg6
  let main_cst_5 : FVec F S_ .f32 := constant S_ .f32 0x7F800000#32
  let main_v19 : FVec F S1024 .f32 := broadcastInDim S1024 ![] bcast_S_S1024 main_cst_5
  let main_v20 : IVec S1024 1 := cmpf .olt main_v18 main_v19
  let main_v21 : FVec F S1024x4096 .f32 := Host.absf main_arg7
  let main_cst_6 : FVec F S_ .f32 := constant S_ .f32 0x7F800000#32
  let main_v22 : FVec F S1024x4096 .f32 := broadcastInDim S1024x4096 ![] bcast_S_S1024x4096 main_cst_6
  let main_v23 : IVec S1024x4096 1 := cmpf .olt main_v21 main_v22
  let main_v24 : FVec F S4096x1024 .f32 := Host.absf main_arg8
  let main_cst_7 : FVec F S_ .f32 := constant S_ .f32 0x7F800000#32
  let main_v25 : FVec F S4096x1024 .f32 := broadcastInDim S4096x1024 ![] bcast_S_S4096x1024 main_cst_7
  let main_v26 : IVec S4096x1024 1 := cmpf .olt main_v24 main_v25
  let main_v27 : FVec F S2048x1024 .f32 := Host.absf main_arg9
  let main_cst_8 : FVec F S_ .f32 := constant S_ .f32 0x7F800000#32
  let main_v28 : FVec F S2048x1024 .f32 := broadcastInDim S2048x1024 ![] bcast_S_S2048x1024 main_cst_8
  let main_v29 : IVec S2048x1024 1 := cmpf .olt main_v27 main_v28
  (main_v2, main_v5, main_v8, main_v11, main_v14, main_v17, main_v20, main_v23, main_v26, main_v29)

def fn {F : FTy → Type} [FloatOps F] (main_arg0 : FVec F S2048x1024 .f32) (main_arg1 : FVec F S2048x1024 .f32) (main_arg2 : FVec F S1024 .f32) (main_arg3 : FVec F S1024 .f32) (main_arg4 : FVec F S1024 .f32) (main_arg5 : FVec F S1024 .f32) (main_arg6 : FVec F S1024 .f32) (main_arg7 : FVec F S1024x4096 .f32) (main_arg8 : FVec F S4096x1024 .f32) (main_arg9 : FVec F S2048x1024 .f32) : IVec S2048x1024 1 × IVec S2048x1024 1 × IVec S1024 1 × IVec S1024 1 × IVec S1024 1 × IVec S1024 1 × IVec S1024 1 × IVec S1024x4096 1 × IVec S4096x1024 1 × IVec S2048x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S2048x1024 .f32 := Host.absf main_arg1
  let main_cst_0 : FVec F S_ .f32 := constant S_ .f32 0x7F800000#32
  let main_v4 : FVec F S2048x1024 .f32 := broadcastInDim S2048x1024 ![] bcast_S_S2048x1024 main_cst_0
  let main_v5 : IVec S2048x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S1024 .f32 := Host.absf main_arg5
  let main_cst_4 : FVec F S_ .f32 := constant S_ .f32 0x7F800000#32
  let main_v16 : FVec F S1024 .f32 := broadcastInDim S1024 ![] bcast_S_S1024 main_cst_4
  let main_v17 : IVec S1024 1 := cmpf .olt main_v15 main_v16
  fn_part1 (F := F) main_arg6 main_arg7 main_arg8 main_arg9 main_v2 main_v5 main_v8 main_v11 main_v14 main_v17
-- ==== Pre_finite_first.lean ====
abbrev S2048x1024 : Shape := ⟨2, ![2048, 1024]⟩
abbrev S1024 : Shape := ⟨1, ![1024]⟩
abbrev S1024x2048 : Shape := ⟨2, ![1024, 2048]⟩
abbrev S2048x2048 : Shape := ⟨2, ![2048, 2048]⟩
abbrev S_ : Shape := ⟨0, ![]⟩

class Facts : Prop where
  bcast_S_S2048x1024 : S_.BroadcastsInDim S2048x1024 (![] : Fin 0 → Fin S2048x1024.rank)
  bcast_S_S1024 : S_.BroadcastsInDim S1024 (![] : Fin 0 → Fin S1024.rank)
  bcast_S_S1024x2048 : S_.BroadcastsInDim S1024x2048 (![] : Fin 0 → Fin S1024x2048.rank)
  bitsLt_bf16_f32 : FTy.bits .bf16 < FTy.bits .f32
  bcast_S_S2048x2048 : S_.BroadcastsInDim S2048x2048 (![] : Fin 0 → Fin S2048x2048.rank)

variable [Facts]

def fn_part1 {F : FTy → Type} [FloatOps F] (main_arg6 : FVec F S2048x1024 .f32) (main_v2 : IVec S2048x1024 1) (main_v5 : IVec S1024 1) (main_v8 : IVec S1024 1) (main_v11 : IVec S1024 1) (main_v14 : IVec S1024x2048 1) (main_v16 : FVec F S2048x2048 .f32) (main_v17 : FVec F S2048x2048 .f32) : IVec S2048x1024 1 × IVec S1024 1 × IVec S1024 1 × IVec S1024 1 × IVec S1024x2048 1 × IVec S2048x2048 1 × IVec S2048x1024 1 :=
  let main_v18 : IVec S2048x2048 1 := cmpf .olt main_v16 main_v17
  let main_v19 : FVec F S2048x1024 .f32 := Host.absf main_arg6
  let main_cst_5 : FVec F S_ .f32 := constant S_ .f32 0x7F800000#32
  let main_v20 : FVec F S2048x1024 .f32 := broadcastInDim S2048x1024 ![] bcast_S_S2048x1024 main_cst_5
  let main_v21 : IVec S2048x1024 1 := cmpf .olt main_v19 main_v20
  (main_v2, main_v5, main_v8, main_v11, main_v14, main_v18, main_v21)

def fn {F : FTy → Type} [FloatOps F] (main_arg0 : FVec F S2048x1024 .f32) (main_arg1 : FVec F S1024 .f32) (main_arg2 : FVec F S1024 .f32) (main_arg3 : FVec F S1024 .f32) (main_arg4 : FVec F S1024x2048 .f32) (main_arg5 : FVec F S2048x2048 .bf16) (main_arg6 : FVec F S2048x1024 .f32) : IVec S2048x1024 1 × IVec S1024 1 × IVec S1024 1 × IVec S1024 1 × IVec S1024x2048 1 × IVec S2048x2048 1 × IVec S2048x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1024x2048 .f32 := Host.absf main_arg4
  let main_cst_3 : FVec F S_ .f32 := constant S_ .f32 0x7F800000#32
  let main_v13 : FVec F S1024x2048 .f32 := broadcastInDim S1024x2048 ![] bcast_S_S1024x2048 main_cst_3
  let main_v14 : IVec S1024x2048 1 := cmpf .olt main_v12 main_v13
  let main_v15 : FVec F S2048x2048 .f32 := (extf .f32 · bitsLt_bf16_f32) main_arg5
  let main_v16 : FVec F S2048x2048 .f32 := Host.absf main_v15
  let main_cst_4 : FVec F S_ .f32 := constant S_ .f32 0x7F800000#32
  let main_v17 : FVec F S2048x2048 .f32 := broadcastInDim S2048x2048 ![] bcast_S_S2048x2048 main_cst_4
  fn_part1 (F := F) main_arg6 main_v2 main_v5 main_v8 main_v11 main_v14 main_v16 main_v17
-- ==== Pre_finite_mixer.lean ====
abbrev S2048x1024 : Shape := ⟨2, ![2048, 1024]⟩
abbrev S1024 : Shape := ⟨1, ![1024]⟩
abbrev S1024x4096 : Shape := ⟨2, ![1024, 4096]⟩
abbrev S2048x4096 : Shape := ⟨2, ![2048, 4096]⟩
abbrev S_ : Shape := ⟨0, ![]⟩

class Facts : Prop where
  bcast_S_S2048x1024 : S_.BroadcastsInDim S2048x1024 (![] : Fin 0 → Fin S2048x1024.rank)
  bcast_S_S1024 : S_.BroadcastsInDim S1024 (![] : Fin 0 → Fin S1024.rank)
  bcast_S_S1024x4096 : S_.BroadcastsInDim S1024x4096 (![] : Fin 0 → Fin S1024x4096.rank)
  bitsLt_bf16_f32 : FTy.bits .bf16 < FTy.bits .f32
  bcast_S_S2048x4096 : S_.BroadcastsInDim S2048x4096 (![] : Fin 0 → Fin S2048x4096.rank)

variable [Facts]

def fn_part1 {F : FTy → Type} [FloatOps F] (main_arg6 : FVec F S1024x4096 .f32) (main_arg7 : FVec F S2048x4096 .bf16) (main_arg8 : FVec F S2048x1024 .f32) (main_v2 : IVec S2048x1024 1) (main_v5 : IVec S2048x1024 1) (main_v8 : IVec S1024 1) (main_v11 : IVec S1024 1) (main_v14 : IVec S1024 1) (main_v17 : IVec S1024 1) : IVec S2048x1024 1 × IVec S2048x1024 1 × IVec S1024 1 × IVec S1024 1 × IVec S1024 1 × IVec S1024 1 × IVec S1024x4096 1 × IVec S2048x4096 1 × IVec S2048x1024 1 :=
  let main_v18 : FVec F S1024x4096 .f32 := Host.absf main_arg6
  let main_cst_5 : FVec F S_ .f32 := constant S_ .f32 0x7F800000#32
  let main_v19 : FVec F S1024x4096 .f32 := broadcastInDim S1024x4096 ![] bcast_S_S1024x4096 main_cst_5
  let main_v20 : IVec S1024x4096 1 := cmpf .olt main_v18 main_v19
  let main_v21 : FVec F S2048x4096 .f32 := (extf .f32 · bitsLt_bf16_f32) main_arg7
  let main_v22 : FVec F S2048x4096 .f32 := Host.absf main_v21
  let main_cst_6 : FVec F S_ .f32 := constant S_ .f32 0x7F800000#32
  let main_v23 : FVec F S2048x4096 .f32 := broadcastInDim S2048x4096 ![] bcast_S_S2048x4096 main_cst_6
  let main_v24 : IVec S2048x4096 1 := cmpf .olt main_v22 main_v23
  let main_v25 : FVec F S2048x1024 .f32 := Host.absf main_arg8
  let main_cst_7 : FVec F S_ .f32 := constant S_ .f32 0x7F800000#32
  let main_v26 : FVec F S2048x1024 .f32 := broadcastInDim S2048x1024 ![] bcast_S_S2048x1024 main_cst_7
  let main_v27 : IVec S2048x1024 1 := cmpf .olt main_v25 main_v26
  (main_v2, main_v5, main_v8, main_v11, main_v14, main_v17, main_v20, main_v24, main_v27)

def fn {F : FTy → Type} [FloatOps F] (main_arg0 : FVec F S2048x1024 .f32) (main_arg1 : FVec F S2048x1024 .f32) (main_arg2 : FVec F S1024 .f32) (main_arg3 : FVec F S1024 .f32) (main_arg4 : FVec F S1024 .f32) (main_arg5 : FVec F S1024 .f32) (main_arg6 : FVec F S1024x4096 .f32) (main_arg7 : FVec F S2048x4096 .bf16) (main_arg8 : FVec F S2048x1024 .f32) : IVec S2048x1024 1 × IVec S2048x1024 1 × IVec S1024 1 × IVec S1024 1 × IVec S1024 1 × IVec S1024 1 × IVec S1024x4096 1 × IVec S2048x4096 1 × IVec S2048x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S2048x1024 .f32 := Host.absf main_arg1
  let main_cst_0 : FVec F S_ .f32 := constant S_ .f32 0x7F800000#32
  let main_v4 : FVec F S2048x1024 .f32 := broadcastInDim S2048x1024 ![] bcast_S_S2048x1024 main_cst_0
  let main_v5 : IVec S2048x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S1024 .f32 := Host.absf main_arg5
  let main_cst_4 : FVec F S_ .f32 := constant S_ .f32 0x7F800000#32
  let main_v16 : FVec F S1024 .f32 := broadcastInDim S1024 ![] bcast_S_S1024 main_cst_4
  let main_v17 : IVec S1024 1 := cmpf .olt main_v15 main_v16
  fn_part1 (F := F) main_arg6 main_arg7 main_arg8 main_v2 main_v5 main_v8 main_v11 main_v14 main_v17
-- ==== Kernel.lean ====
abbrev S2048x1024 : Shape := ⟨2, ![2048, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S2048x4096 : Shape := ⟨2, ![2048, 4096]⟩
abbrev S3x1024 : Shape := ⟨2, ![3, 1024]⟩
abbrev S5x1024 : Shape := ⟨2, ![5, 1024]⟩
abbrev S8x1024 : Shape := ⟨2, ![8, 1024]⟩
abbrev S7x1024 : Shape := ⟨2, ![7, 1024]⟩
abbrev S16x1024 : Shape := ⟨2, ![16, 1024]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩

abbrev nBuf : Space → Nat
  | .hbm => 67
  | .vmem => 21
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024x4096, .f32⟩
  | .hbm, ⟨8, _⟩ => ⟨S4096x1024, .f32⟩
  | .hbm, ⟨9, _⟩ => ⟨S2048x1024, .f32⟩
  | .hbm, ⟨10, _⟩ => ⟨S1x1024, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x1, .f32⟩
  | .hbm, ⟨25, _⟩ => ⟨S2048x1024, .f32⟩
  | .hbm, ⟨26, _⟩ => ⟨S2048x1024, .f32⟩
  | .hbm, ⟨27, _⟩ => ⟨S1x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S1024, .f32⟩
  | .hbm, ⟨32, _⟩ => ⟨S1024, .f32⟩
  | .hbm, ⟨33, _⟩ => ⟨S1x1024, .f32⟩
  | .hbm, ⟨34, _⟩ => ⟨S2048x1024, .f32⟩
  | .hbm, ⟨35, _⟩ => ⟨S2048x1024, .f32⟩
  | .hbm, ⟨36, _⟩ => ⟨S1x1024, .f32⟩
  | .hbm, ⟨37, _⟩ => ⟨S2048x1024, .f32⟩
  | .hbm, ⟨38, _⟩ => ⟨S2048x1024, .f32⟩
  | .hbm, ⟨39, _⟩ => ⟨S2048x4096, .f32⟩
  | .hbm, ⟨40, _⟩ => ⟨S_, .f32⟩
  | .hbm, ⟨41, _⟩ => ⟨S2048x4096, .f32⟩
  | .hbm, ⟨42, _⟩ => ⟨S2048x4096, .f32⟩
  | .hbm, ⟨43, _⟩ => ⟨S2048x4096, .bf16⟩
  | .hbm, ⟨44, _⟩ => ⟨S1x1024, .f32⟩
  | .hbm, ⟨45, _⟩ => ⟨S2048x1024, .f32⟩
  | .hbm, ⟨46, _⟩ => ⟨S2048x1024, .f32⟩
  | .hbm, ⟨47, _⟩ => ⟨S2048x1024, .bf16⟩
  | .hbm, ⟨48, _⟩ => ⟨S1x1024, .f32⟩
  | .hbm, ⟨49, _⟩ => ⟨S1x1024, .f32⟩
  | .hbm, ⟨50, _⟩ => ⟨S1x1024, .f32⟩
  | .hbm, ⟨51, _⟩ => ⟨S3x1024, .f32⟩
  | .hbm, ⟨52, _⟩ => ⟨S_, .f32⟩
  | .hbm, ⟨53, _⟩ => ⟨S5x1024, .f32⟩
  | .hbm, ⟨54, _⟩ => ⟨S8x1024, .f32⟩
  | .hbm, ⟨55, _⟩ => ⟨S1x1024, .f32⟩
  | .hbm, ⟨56, _⟩ => ⟨S_, .f32⟩
  | .hbm, ⟨57, _⟩ => ⟨S7x1024, .f32⟩
  | .hbm, ⟨58, _⟩ => ⟨S8x1024, .f32⟩
  | .hbm, ⟨59, _⟩ => ⟨S16x1024, .f32⟩
  | .hbm, ⟨60, _⟩ => ⟨S1024x4096, .bf16⟩
  | .hbm, ⟨61, _⟩ => ⟨S4096x1024, .bf16⟩
  | .hbm, ⟨62, _⟩ => ⟨S2048x1024, .bf16⟩
  | .hbm, ⟨63, _⟩ => ⟨S2048x4096, .bf16⟩
  | .hbm, ⟨64, _⟩ => ⟨S2048x1024, .f32⟩
  | .hbm, ⟨65, _⟩ => ⟨S8x1024, .f32⟩
  | .hbm, ⟨66, _⟩ => ⟨S2048x1024, .bf16⟩
  | .local _ .vmem, ⟨0, _⟩ => ⟨S256x1024, .bf16⟩
  | .local _ .vmem, ⟨1, _⟩ => ⟨S256x1024, .bf16⟩
  | .local _ .vmem, ⟨2, _⟩ => ⟨S256x4096, .bf16⟩
  | .local _ .vmem, ⟨3, _⟩ => ⟨S256x4096, .bf16⟩
  | .local _ .vmem, ⟨4, _⟩ => ⟨S1024x4096, .bf16⟩
  | .local _ .vmem, ⟨5, _⟩ => ⟨S4096x1024, .bf16⟩
  | .local _ .vmem, ⟨6, _⟩ => ⟨S256x1024, .f32⟩
  | .local _ .vmem, ⟨7, _⟩ => ⟨S256x1024, .f32⟩
  | .local _ .vmem, ⟨8, _⟩ => ⟨S8x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | .local _ .vmem, ⟨13, _⟩ => ⟨S8x1024, .f32⟩
  | .local _ .vmem, ⟨14, _⟩ => ⟨S256x4096, .bf16⟩
  | .local _ .vmem, ⟨15, _⟩ => ⟨S256x4096, .bf16⟩
  | .local _ .vmem, ⟨16, _⟩ => ⟨S256x1024, .f32⟩
  | .local _ .vmem, ⟨17, _⟩ => ⟨S256x1024, .f32⟩
  | .local _ .vmem, ⟨18, _⟩ => ⟨S8x1024, .f32⟩
  | .local _ .vmem, ⟨19, _⟩ => ⟨S256x1024, .bf16⟩
  | .local _ .vmem, ⟨20, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_call0_cst : Ref sig .tc := ⟨.hbm, 40, rfl⟩
abbrev main_call0_v0 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_3 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_4 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45_0 : Ref sig .tc := ⟨.hbm, 63, rfl⟩
abbrev main_v45_1 : Ref sig .tc := ⟨.hbm, 64, rfl⟩
abbrev main_v45_2 : Ref sig .tc := ⟨.hbm, 65, rfl⟩
abbrev main_v45_3 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S2048x1024 : Shape := ⟨2, ![2048, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S2048x4096 : Shape := ⟨2, ![2048, 4096]⟩
abbrev S4x1024 : Shape := ⟨2, ![4, 1024]⟩
abbrev S8x1024 : Shape := ⟨2, ![8, 1024]⟩

abbrev nBuf : Space → Nat
  | .hbm => 128
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024x4096, .f32⟩
  | .hbm, ⟨8, _⟩ => ⟨S4096x1024, .f32⟩
  | .hbm, ⟨9, _⟩ => ⟨S2048x1024, .f32⟩
  | .hbm, ⟨10, _⟩ => ⟨S1x1024, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x1, .f32⟩
  | .hbm, ⟨25, _⟩ => ⟨S2048x1, .f32⟩
  | .hbm, ⟨26, _⟩ => ⟨S_, .f32⟩
  | .hbm, ⟨27, _⟩ => ⟨S2048x1, .f32⟩
  | .hbm, ⟨28, _⟩ => ⟨S2048x1, .f32⟩
  | .hbm, ⟨29, _⟩ => ⟨S2048x1024, .f32⟩
  | .hbm, ⟨30, _⟩ => ⟨S2048x1024, .f32⟩
  | .hbm, ⟨31, _⟩ => ⟨S1x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S1024, .f32⟩
  | .hbm, ⟨36, _⟩ => ⟨S1024, .f32⟩
  | .hbm, ⟨37, _⟩ => ⟨S1x1024, .f32⟩
  | .hbm, ⟨38, _⟩ => ⟨S2048x1024, .f32⟩
  | .hbm, ⟨39, _⟩ => ⟨S2048x1024, .f32⟩
  | .hbm, ⟨40, _⟩ => ⟨S1x1024, .f32⟩
  | .hbm, ⟨41, _⟩ => ⟨S2048x1024, .f32⟩
  | .hbm, ⟨42, _⟩ => ⟨S2048x1024, .f32⟩
  | .hbm, ⟨43, _⟩ => ⟨S2048x4096, .f32⟩
  | .hbm, ⟨44, _⟩ => ⟨S_, .f32⟩
  | .hbm, ⟨45, _⟩ => ⟨S2048x4096, .f32⟩
  | .hbm, ⟨46, _⟩ => ⟨S2048x4096, .f32⟩
  | .hbm, ⟨47, _⟩ => ⟨S_, .f32⟩
  | .hbm, ⟨48, _⟩ => ⟨S2048x4096, .f32⟩
  | .hbm, ⟨49, _⟩ => ⟨S2048x4096, .i1⟩
  | .hbm, ⟨50, _⟩ => ⟨S_, .f32⟩
  | .hbm, ⟨51, _⟩ => ⟨S2048x4096, .f32⟩
  | .hbm, ⟨52, _⟩ => ⟨S2048x4096, .f32⟩
  | .hbm, ⟨53, _⟩ => ⟨S_, .f32⟩
  | .hbm, ⟨54, _⟩ => ⟨S2048x4096, .f32⟩
  | .hbm, ⟨55, _⟩ => ⟨S2048x4096, .f32⟩
  | .hbm, ⟨56, _⟩ => ⟨S2048x1024, .f32⟩
  | .hbm, ⟨57, _⟩ => ⟨S1x1024, .f32⟩
  | .hbm, ⟨58, _⟩ => ⟨S2048x1024, .f32⟩
  | .hbm, ⟨59, _⟩ => ⟨S2048x1024, .f32⟩
  | .hbm, ⟨60, _⟩ => ⟨S2048x1024, .f32⟩
  | .hbm, ⟨61, _⟩ => ⟨S2048x1024, .f32⟩
  | .hbm, ⟨62, _⟩ => ⟨S2048x1024, .f32⟩
  | .hbm, ⟨63, _⟩ => ⟨S2048x1024, .f32⟩
  | .hbm, ⟨64, _⟩ => ⟨S2048x1024, .f32⟩
  | .hbm, ⟨65, _⟩ => ⟨S2048x4096, .f32⟩
  | .hbm, ⟨66, _⟩ => ⟨S2048x4096, .f32⟩
  | .hbm, ⟨67, _⟩ => ⟨S_, .f32⟩
  | .hbm, ⟨68, _⟩ => ⟨S2048x4096, .f32⟩
  | .hbm, ⟨69, _⟩ => ⟨S2048x4096, .f32⟩
  | .hbm, ⟨70, _⟩ => ⟨S2048x1024, .f32⟩
  | .hbm, ⟨71, _⟩ => ⟨S_, .f32⟩
  | .hbm, ⟨72, _⟩ => ⟨S1024, .f32⟩
  | .hbm, ⟨73, _⟩ => ⟨S1x1024, .f32⟩
  | .hbm, ⟨74, _⟩ => ⟨S_, .f32⟩
  | .hbm, ⟨75, _⟩ => ⟨S1024, .f32⟩
  | .hbm, ⟨76, _⟩ => ⟨S2048x1024, .f32⟩
  | .hbm, ⟨77, _⟩ => ⟨S_, .f32⟩
  | .hbm, ⟨78, _⟩ => ⟨S1024, .f32⟩
  | .hbm, ⟨79, _⟩ => ⟨S1x1024, .f32⟩
  | .hbm, ⟨80, _⟩ => ⟨S2048x1024, .f32⟩
  | .hbm, ⟨81, _⟩ => ⟨S2048x1024, .f32⟩
  | .hbm, ⟨82, _⟩ => ⟨S_, .f32⟩
  | .hbm, ⟨83, _⟩ => ⟨S1024, .f32⟩
  | .hbm, ⟨84, _⟩ => ⟨S2048x1024, .f32⟩
  | .hbm, ⟨85, _⟩ => ⟨S_, .f32⟩
  | .hbm, ⟨86, _⟩ => ⟨S1024, .f32⟩
  | .hbm, ⟨87, _⟩ => ⟨S1x1024, .f32⟩
  | .hbm, ⟨88, _⟩ => ⟨S2048x1024, .f32⟩
  | .hbm, ⟨89, _⟩ => ⟨S2048x1024, .f32⟩
  | .hbm, ⟨90, _⟩ => ⟨S_, .f32⟩
  | .hbm, ⟨91, _⟩ => ⟨S1024, .f32⟩
  | .hbm, ⟨92, _⟩ => ⟨S2048x1024, .f32⟩
  | .hbm, ⟨93, _⟩ => ⟨S_, .f32⟩
  | .hbm, ⟨94, _⟩ => ⟨S2048, .f32⟩
  | .hbm, ⟨95, _⟩ => ⟨S2048x1, .f32⟩
  | .hbm, ⟨96, _⟩ => ⟨S2048x1024, .f32⟩
  | .hbm, ⟨97, _⟩ => ⟨S2048x1024, .f32⟩
  | .hbm, ⟨98, _⟩ => ⟨S2048x1024, .f32⟩
  | .hbm, ⟨99, _⟩ => ⟨S2048x1, .f32⟩
  | .hbm, ⟨100, _⟩ => ⟨S_, .f32⟩
  | .hbm, ⟨101, _⟩ => ⟨S2048x1, .f32⟩
  | .hbm, ⟨102, _⟩ => ⟨S2048x1, .f32⟩
  | .hbm, ⟨103, _⟩ => ⟨S_, .f32⟩
  | .hbm, ⟨104, _⟩ => ⟨S2048, .f32⟩
  | .hbm, ⟨105, _⟩ => ⟨S2048x1024, .f32⟩
  | .hbm, ⟨106, _⟩ => ⟨S2048x1024, .f32⟩
  | .hbm, ⟨107, _⟩ => ⟨S2048x1024, .f32⟩
  | .hbm, ⟨108, _⟩ => ⟨S2048x1024, .f32⟩
  | .hbm, ⟨109, _⟩ => ⟨S2048x1024, .f32⟩
  | .hbm, ⟨110, _⟩ => ⟨S2048x1024, .f32⟩
  | .hbm, ⟨111, _⟩ => ⟨S2048x1024, .f32⟩
  | .hbm, ⟨112, _⟩ => ⟨S2048x1024, .f32⟩
  | .hbm, ⟨113, _⟩ => ⟨S_, .f32⟩
  | .hbm, ⟨114, _⟩ => ⟨S1024, .f32⟩
  | .hbm, ⟨115, _⟩ => ⟨S1x1024, .f32⟩
  | .hbm, ⟨116, _⟩ => ⟨S_, .f32⟩
  | .hbm, ⟨117, _⟩ => ⟨S1024, .f32⟩
  | .hbm, ⟨118, _⟩ => ⟨S2048x4096, .bf16⟩
  | .hbm, ⟨119, _⟩ => ⟨S1x1024, .f32⟩
  | .hbm, ⟨120, _⟩ => ⟨S1x1024, .f32⟩
  | .hbm, ⟨121, _⟩ => ⟨S1x1024, .f32⟩
  | .hbm, ⟨122, _⟩ => ⟨S1x1024, .f32⟩
  | .hbm, ⟨123, _⟩ => ⟨S4x1024, .f32⟩
  | .hbm, ⟨124, _⟩ => ⟨S_, .f32⟩
  | .hbm, ⟨125, _⟩ => ⟨S4x1024, .f32⟩
  | .hbm, ⟨126, _⟩ => ⟨S8x1024, .f32⟩
  | .hbm, ⟨127, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_call0_cst : Ref sig .tc := ⟨.hbm, 44, rfl⟩
abbrev main_call0_v0 : Ref sig .tc := ⟨.hbm, 45, rfl⟩
abbrev main_v29 : Ref sig .tc := ⟨.hbm, 46, rfl⟩
abbrev main_cst_4 : Ref sig .tc := ⟨.hbm, 47, rfl⟩
abbrev main_v30 : Ref sig .tc := ⟨.hbm, 48, rfl⟩
abbrev main_v31 : Ref sig .tc := ⟨.hbm, 49, rfl⟩
abbrev main_cst_5 : Ref sig .tc := ⟨.hbm, 50, rfl⟩
abbrev main_v32 : Ref sig .tc := ⟨.hbm, 51, rfl⟩
abbrev main_v33 : Ref sig .tc := ⟨.hbm, 52, rfl⟩
abbrev main_cst_6 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_7 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_8 : Ref sig .tc := ⟨.hbm, 71, rfl⟩
abbrev main_v50 : Ref sig .tc := ⟨.hbm, 72, rfl⟩
abbrev main_v51 : Ref sig .tc := ⟨.hbm, 73, rfl⟩
abbrev main_cst_9 : Ref sig .tc := ⟨.hbm, 74, rfl⟩
abbrev main_v52 : Ref sig .tc := ⟨.hbm, 75, rfl⟩
abbrev main_v53 : Ref sig .tc := ⟨.hbm, 76, rfl⟩
abbrev main_cst_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_11 : Ref sig .tc := ⟨.hbm, 82, rfl⟩
abbrev main_v58 : Ref sig .tc := ⟨.hbm, 83, rfl⟩
abbrev main_v59 : Ref sig .tc := ⟨.hbm, 84, rfl⟩
abbrev main_cst_12 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_13 : Ref sig .tc := ⟨.hbm, 90, rfl⟩
abbrev main_v64 : Ref sig .tc := ⟨.hbm, 91, rfl⟩
abbrev main_v65 : Ref sig .tc := ⟨.hbm, 92, rfl⟩
abbrev main_cst_14 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_15 : Ref sig .tc := ⟨.hbm, 100, rfl⟩
abbrev main_v72 : Ref sig .tc := ⟨.hbm, 101, rfl⟩
abbrev main_v73 : Ref sig .tc := ⟨.hbm, 102, rfl⟩
abbrev main_cst_16 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_17 : Ref sig .tc := ⟨.hbm, 113, rfl⟩
abbrev main_v83 : Ref sig .tc := ⟨.hbm, 114, rfl⟩
abbrev main_v84 : Ref sig .tc := ⟨.hbm, 115, rfl⟩
abbrev main_cst_18 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_cst_19 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩

abbrev nD : Nat := 1
abbrev τ : Topo := Topo.v7x

variable {F : FTy → Type} [FloatOps F]
-- ==== KernelIn.lean ====
abbrev S2048x1024 : Shape := ⟨2, ![2048, 1024]⟩
abbrev S1024 : Shape := ⟨1, ![1024]⟩
abbrev S1024x4096 : Shape := ⟨2, ![1024, 4096]⟩
abbrev S2048x4096 : Shape := ⟨2, ![2048, 4096]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S8x1024x512 : Shape := ⟨3, ![8, 1024, 512]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 33
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x4096, .f32⟩
  | .hbm, ⟨5, _⟩ => ⟨S2048x4096, .bf16⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1024, .f32⟩
  | .hbm, ⟨18, _⟩ => ⟨S2048x1024, .f32⟩
  | .hbm, ⟨19, _⟩ => ⟨S1x1024, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S1x1024, .f32⟩
  | .hbm, ⟨26, _⟩ => ⟨S2048x1024, .f32⟩
  | .hbm, ⟨27, _⟩ => ⟨S2048x1024, .f32⟩
  | .hbm, ⟨28, _⟩ => ⟨S1x1024, .f32⟩
  | .hbm, ⟨29, _⟩ => ⟨S2048x1024, .f32⟩
  | .hbm, ⟨30, _⟩ => ⟨S2048x1024, .f32⟩
  | .hbm, ⟨31, _⟩ => ⟨S2048x1024, .bf16⟩
  | .hbm, ⟨32, _⟩ => ⟨S8x1024x512, .bf16⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S1x1024x512, .bf16⟩
  | .local _ .vmem, ⟨4, _⟩ => ⟨S1x1024x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KernelInIdeal.lean ====
abbrev S2048x1024 : Shape := ⟨2, ![2048, 1024]⟩
abbrev S1024 : Shape := ⟨1, ![1024]⟩
abbrev S1024x4096 : Shape := ⟨2, ![1024, 4096]⟩
abbrev S2048x4096 : Shape := ⟨2, ![2048, 4096]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S8x1024x512 : Shape := ⟨3, ![8, 1024, 512]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 33
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x4096, .f32⟩
  | .hbm, ⟨5, _⟩ => ⟨S2048x4096, .bf16⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1024, .f32⟩
  | .hbm, ⟨18, _⟩ => ⟨S2048x1024, .f32⟩
  | .hbm, ⟨19, _⟩ => ⟨S1x1024, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S1x1024, .f32⟩
  | .hbm, ⟨26, _⟩ => ⟨S2048x1024, .f32⟩
  | .hbm, ⟨27, _⟩ => ⟨S2048x1024, .f32⟩
  | .hbm, ⟨28, _⟩ => ⟨S1x1024, .f32⟩
  | .hbm, ⟨29, _⟩ => ⟨S2048x1024, .f32⟩
  | .hbm, ⟨30, _⟩ => ⟨S2048x1024, .f32⟩
  | .hbm, ⟨31, _⟩ => ⟨S2048x1024, .bf16⟩
  | .hbm, ⟨32, _⟩ => ⟨S8x1024x512, .bf16⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S1x1024x512, .bf16⟩
  | .local _ .vmem, ⟨4, _⟩ => ⟨S1x1024x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceInIdeal.lean ====
abbrev S2048x1024 : Shape := ⟨2, ![2048, 1024]⟩
abbrev S1024 : Shape := ⟨1, ![1024]⟩
abbrev S1024x4096 : Shape := ⟨2, ![1024, 4096]⟩
abbrev S2048x4096 : Shape := ⟨2, ![2048, 4096]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S4096x1024 : Shape := ⟨2, ![4096, 1024]⟩
abbrev S1024x8x512 : Shape := ⟨3, ![1024, 8, 512]⟩
abbrev S8x1024x512 : Shape := ⟨3, ![8, 1024, 512]⟩

abbrev nBuf : Space → Nat
  | .hbm => 38
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x4096, .f32⟩
  | .hbm, ⟨5, _⟩ => ⟨S2048x4096, .bf16⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1024, .f32⟩
  | .hbm, ⟨18, _⟩ => ⟨S2048x1024, .f32⟩
  | .hbm, ⟨19, _⟩ => ⟨S1x1024, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S1x1024, .f32⟩
  | .hbm, ⟨26, _⟩ => ⟨S2048x1024, .f32⟩
  | .hbm, ⟨27, _⟩ => ⟨S2048x1024, .f32⟩
  | .hbm, ⟨28, _⟩ => ⟨S1x1024, .f32⟩
  | .hbm, ⟨29, _⟩ => ⟨S2048x1024, .f32⟩
  | .hbm, ⟨30, _⟩ => ⟨S2048x1024, .f32⟩
  | .hbm, ⟨31, _⟩ => ⟨S2048x4096, .f32⟩
  | .hbm, ⟨32, _⟩ => ⟨S2048x4096, .f32⟩
  | .hbm, ⟨33, _⟩ => ⟨S4096x1024, .f32⟩
  | .hbm, ⟨34, _⟩ => ⟨S1024x4096, .f32⟩
  | .hbm, ⟨35, _⟩ => ⟨S1024x4096, .bf16⟩
  | .hbm, ⟨36, _⟩ => ⟨S1024x8x512, .bf16⟩
  | .hbm, ⟨37, _⟩ => ⟨S8x1024x512, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== KernelOut.lean ====
abbrev S2048x4096 : Shape := ⟨2, ![2048, 4096]⟩
abbrev S1024 : Shape := ⟨1, ![1024]⟩
abbrev S4096x1024 : Shape := ⟨2, ![4096, 1024]⟩
abbrev S2048x1024 : Shape := ⟨2, ![2048, 1024]⟩
abbrev S_ : Shape := ⟨0, ![]⟩
abbrev S1x1024 : Shape := ⟨2, ![1, 1024]⟩
abbrev S1024x1024 : Shape := ⟨2, ![1024, 1024]⟩

abbrev nBuf : Space → Nat
  | .hbm => 13
  | .vmem => 5
  | .smem => 0
  | _ => 0

abbrev bufTy : (tb : Table) → Fin (tcTables nBuf tb) → BufTy
  | .hbm, ⟨0, _⟩ => ⟨S2048x4096, .f32⟩
  | .hbm, ⟨1, _⟩ => ⟨S1024, .f32⟩
  | .hbm, ⟨2, _⟩ => ⟨S4096x1024, .f32⟩
  | .hbm, ⟨3, _⟩ => ⟨S2048x1024, .f32⟩
  | .hbm, ⟨4, _⟩ => ⟨S_, .f32⟩
  | .hbm, ⟨5, _⟩ => ⟨S2048x4096, .f32⟩
  | .hbm, ⟨6, _⟩ => ⟨S2048x4096, .f32⟩
  | .hbm, ⟨7, _⟩ => ⟨S2048x4096, .bf16⟩
  | .hbm, ⟨8, _⟩ => ⟨S1x1024, .f32⟩
  | .hbm, ⟨9, _⟩ => ⟨S2048x1024, .f32⟩
  | .hbm, ⟨10, _⟩ => ⟨S2048x1024, .f32⟩
  | .hbm, ⟨11, _⟩ => ⟨S2048x1024, .bf16⟩
  | .hbm, ⟨12, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceOutIdeal.lean ====
abbrev S2048x4096 : Shape := ⟨2, ![2048, 4096]⟩
abbrev S1024 : Shape := ⟨1, ![1024]⟩
abbrev S4096x1024 : Shape := ⟨2, ![4096, 1024]⟩
abbrev S2048x1024 : Shape := ⟨2, ![2048, 1024]⟩
abbrev S_ : Shape := ⟨0, ![]⟩
abbrev S1x1024 : Shape := ⟨2, ![1, 1024]⟩
abbrev S1024x4096 : Shape := ⟨2, ![1024, 4096]⟩

abbrev nBuf : Space → Nat
  | .hbm => 17
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S1024, .f32⟩
  | .hbm, ⟨2, _⟩ => ⟨S4096x1024, .f32⟩
  | .hbm, ⟨3, _⟩ => ⟨S2048x1024, .f32⟩
  | .hbm, ⟨4, _⟩ => ⟨S_, .f32⟩
  | .hbm, ⟨5, _⟩ => ⟨S2048x4096, .f32⟩
  | .hbm, ⟨6, _⟩ => ⟨S2048x4096, .f32⟩
  | .hbm, ⟨7, _⟩ => ⟨S2048x4096, .f32⟩
  | .hbm, ⟨8, _⟩ => ⟨S2048x1024, .f32⟩
  | .hbm, ⟨9, _⟩ => ⟨S1x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S1024x4096, .f32⟩
  | .hbm, ⟨15, _⟩ => ⟨S4096x1024, .f32⟩
  | .hbm, ⟨16, _⟩ => ⟨S4096x1024, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== KernelFwd.lean ====
abbrev S2048x1024 : Shape := ⟨2, ![2048, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S7x1024 : Shape := ⟨2, ![7, 1024]⟩
abbrev S8x1024 : Shape := ⟨2, ![8, 1024]⟩
abbrev S3x1024 : Shape := ⟨2, ![3, 1024]⟩
abbrev S5x1024 : Shape := ⟨2, ![5, 1024]⟩
abbrev S16x1024 : Shape := ⟨2, ![16, 1024]⟩
abbrev S2048x4096 : Shape := ⟨2, ![2048, 4096]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩

abbrev nBuf : Space → Nat
  | .hbm => 54
  | .vmem => 16
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S2048x1024, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S1x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1x1024, .f32⟩
  | .hbm, ⟨30, _⟩ => ⟨S2048x1024, .f32⟩
  | .hbm, ⟨31, _⟩ => ⟨S2048x1024, .f32⟩
  | .hbm, ⟨32, _⟩ => ⟨S1x1024, .f32⟩
  | .hbm, ⟨33, _⟩ => ⟨S2048x1024, .f32⟩
  | .hbm, ⟨34, _⟩ => ⟨S2048x1024, .f32⟩
  | .hbm, ⟨35, _⟩ => ⟨S2048x1024, .bf16⟩
  | .hbm, ⟨36, _⟩ => ⟨S1x1024, .f32⟩
  | .hbm, ⟨37, _⟩ => ⟨S_, .f32⟩
  | .hbm, ⟨38, _⟩ => ⟨S7x1024, .f32⟩
  | .hbm, ⟨39, _⟩ => ⟨S8x1024, .f32⟩
  | .hbm, ⟨40, _⟩ => ⟨S1x1024, .f32⟩
  | .hbm, ⟨41, _⟩ => ⟨S1x1024, .f32⟩
  | .hbm, ⟨42, _⟩ => ⟨S1x1024, .f32⟩
  | .hbm, ⟨43, _⟩ => ⟨S3x1024, .f32⟩
  | .hbm, ⟨44, _⟩ => ⟨S_, .f32⟩
  | .hbm, ⟨45, _⟩ => ⟨S5x1024, .f32⟩
  | .hbm, ⟨46, _⟩ => ⟨S8x1024, .f32⟩
  | .hbm, ⟨47, _⟩ => ⟨S16x1024, .f32⟩
  | .hbm, ⟨48, _⟩ => ⟨S1024x4096, .bf16⟩
  | .hbm, ⟨49, _⟩ => ⟨S4096x1024, .bf16⟩
  | .hbm, ⟨50, _⟩ => ⟨S2048x4096, .bf16⟩
  | .hbm, ⟨51, _⟩ => ⟨S2048x1024, .bf16⟩
  | .hbm, ⟨52, _⟩ => ⟨S2048x1024, .f32⟩
  | .hbm, ⟨53, _⟩ => ⟨S2048x1024, .bf16⟩
  | .local _ .vmem, ⟨0, _⟩ => ⟨S256x1024, .bf16⟩
  | .local _ .vmem, ⟨1, _⟩ => ⟨S256x1024, .bf16⟩
  | .local _ .vmem, ⟨2, _⟩ => ⟨S1024x4096, .bf16⟩
  | .local _ .vmem, ⟨3, _⟩ => ⟨S4096x1024, .bf16⟩
  | .local _ .vmem, ⟨4, _⟩ => ⟨S256x1024, .f32⟩
  | .local _ .vmem, ⟨5, _⟩ => ⟨S256x1024, .f32⟩
  | .local _ .vmem, ⟨6, _⟩ => ⟨S8x1024, .f32⟩
  | .local _ .vmem, ⟨7, _⟩ => ⟨S8x1024, .f32⟩
  | .local _ .vmem, ⟨8, _⟩ => ⟨S256x4096, .bf16⟩
  | .local _ .vmem, ⟨9, _⟩ => ⟨S256x4096, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34_0 : Ref sig .tc := ⟨.hbm, 50, rfl⟩
abbrev main_v34_1 : Ref sig .tc := ⟨.hbm, 51, rfl⟩
abbrev main_v34_2 : Ref sig .tc := ⟨.hbm, 52, rfl⟩
abbrev main_v34_3 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceFwdIdeal.lean ====
abbrev S2048x1024 : Shape := ⟨2, ![2048, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x4096 : Shape := ⟨2, ![2048, 4096]⟩

abbrev nBuf : Space → Nat
  | .hbm => 73
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S2048x1024, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S1x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1x1024, .f32⟩
  | .hbm, ⟨30, _⟩ => ⟨S2048x1024, .f32⟩
  | .hbm, ⟨31, _⟩ => ⟨S2048x1024, .f32⟩
  | .hbm, ⟨32, _⟩ => ⟨S1x1024, .f32⟩
  | .hbm, ⟨33, _⟩ => ⟨S2048x1024, .f32⟩
  | .hbm, ⟨34, _⟩ => ⟨S2048x1024, .f32⟩
  | .hbm, ⟨35, _⟩ => ⟨S2048x4096, .f32⟩
  | .hbm, ⟨36, _⟩ => ⟨S_, .f32⟩
  | .hbm, ⟨37, _⟩ => ⟨S2048x4096, .f32⟩
  | .hbm, ⟨38, _⟩ => ⟨S2048x4096, .f32⟩
  | .hbm, ⟨39, _⟩ => ⟨S2048x4096, .f32⟩
  | .hbm, ⟨40, _⟩ => ⟨S2048x1024, .f32⟩
  | .hbm, ⟨41, _⟩ => ⟨S1x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x4096, .bf16⟩
  | .hbm, ⟨46, _⟩ => ⟨S2048x1024, .bf16⟩
  | .hbm, ⟨47, _⟩ => ⟨S2048x1024, .f32⟩
  | .hbm, ⟨48, _⟩ => ⟨S_, .f32⟩
  | .hbm, ⟨49, _⟩ => ⟨S2048, .f32⟩
  | .hbm, ⟨50, _⟩ => ⟨S2048x1, .f32⟩
  | .hbm, ⟨51, _⟩ => ⟨S_, .f32⟩
  | .hbm, ⟨52, _⟩ => ⟨S2048x1, .f32⟩
  | .hbm, ⟨53, _⟩ => ⟨S2048x1, .f32⟩
  | .hbm, ⟨54, _⟩ => ⟨S_, .f32⟩
  | .hbm, ⟨55, _⟩ => ⟨S2048x1, .f32⟩
  | .hbm, ⟨56, _⟩ => ⟨S2048x1, .f32⟩
  | .hbm, ⟨57, _⟩ => ⟨S2048x1, .f32⟩
  | .hbm, ⟨58, _⟩ => ⟨S2048x1024, .f32⟩
  | .hbm, ⟨59, _⟩ => ⟨S2048x1024, .f32⟩
  | .hbm, ⟨60, _⟩ => ⟨S1x1024, .f32⟩
  | .hbm, ⟨61, _⟩ => ⟨S2048x1024, .f32⟩
  | .hbm, ⟨62, _⟩ => ⟨S2048x1024, .f32⟩
  | .hbm, ⟨63, _⟩ => ⟨S_, .f32⟩
  | .hbm, ⟨64, _⟩ => ⟨S1024, .f32⟩
  | .hbm, ⟨65, _⟩ => ⟨S1024, .f32⟩
  | .hbm, ⟨66, _⟩ => ⟨S1x1024, .f32⟩
  | .hbm, ⟨67, _⟩ => ⟨S2048x1024, .f32⟩
  | .hbm, ⟨68, _⟩ => ⟨S2048x1024, .f32⟩
  | .hbm, ⟨69, _⟩ => ⟨S1x1024, .f32⟩
  | .hbm, ⟨70, _⟩ => ⟨S2048x1024, .f32⟩
  | .hbm, ⟨71, _⟩ => ⟨S2048x1024, .f32⟩
  | .hbm, ⟨72, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_call0_cst : Ref sig .tc := ⟨.hbm, 36, rfl⟩
abbrev main_call0_v0 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_3 : Ref sig .tc := ⟨.hbm, 48, rfl⟩
abbrev main_v32 : Ref sig .tc := ⟨.hbm, 49, rfl⟩
abbrev main_v33 : Ref sig .tc := ⟨.hbm, 50, rfl⟩
abbrev main_cst_4 : Ref sig .tc := ⟨.hbm, 51, rfl⟩
abbrev main_v34 : Ref sig .tc := ⟨.hbm, 52, rfl⟩
abbrev main_v35 : Ref sig .tc := ⟨.hbm, 53, rfl⟩
abbrev main_cst_5 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_6 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== KernelRgIn.lean ====
abbrev S2048x1024 : Shape := ⟨2, ![2048, 1024]⟩
abbrev S1024 : Shape := ⟨1, ![1024]⟩
abbrev S1024x2048 : Shape := ⟨2, ![1024, 2048]⟩
abbrev S2048x2048 : Shape := ⟨2, ![2048, 2048]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S8x1024x256 : Shape := ⟨3, ![8, 1024, 256]⟩
abbrev S2048x256 : Shape := ⟨2, ![2048, 256]⟩
abbrev S1x1024x256 : Shape := ⟨3, ![1, 1024, 256]⟩
abbrev S1024x256 : Shape := ⟨2, ![1024, 256]⟩

abbrev nBuf : Space → Nat
  | .hbm => 33
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x2048, .f32⟩
  | .hbm, ⟨5, _⟩ => ⟨S2048x2048, .bf16⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1024, .f32⟩
  | .hbm, ⟨18, _⟩ => ⟨S2048x1024, .f32⟩
  | .hbm, ⟨19, _⟩ => ⟨S1x1024, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S1x1024, .f32⟩
  | .hbm, ⟨26, _⟩ => ⟨S2048x1024, .f32⟩
  | .hbm, ⟨27, _⟩ => ⟨S2048x1024, .f32⟩
  | .hbm, ⟨28, _⟩ => ⟨S1x1024, .f32⟩
  | .hbm, ⟨29, _⟩ => ⟨S2048x1024, .f32⟩
  | .hbm, ⟨30, _⟩ => ⟨S2048x1024, .f32⟩
  | .hbm, ⟨31, _⟩ => ⟨S2048x1024, .bf16⟩
  | .hbm, ⟨32, _⟩ => ⟨S8x1024x256, .bf16⟩
  | .local _ .vmem, ⟨0, _⟩ => ⟨S2048x1024, .bf16⟩
  | .local _ .vmem, ⟨1, _⟩ => ⟨S2048x256, .bf16⟩
  | .local _ .vmem, ⟨2, _⟩ => ⟨S2048x256, .bf16⟩
  | .local _ .vmem, ⟨3, _⟩ => ⟨S1x1024x256, .bf16⟩
  | .local _ .vmem, ⟨4, _⟩ => ⟨S1x1024x256, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, false]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceRgInIdeal.lean ====
abbrev S2048x1024 : Shape := ⟨2, ![2048, 1024]⟩
abbrev S1024 : Shape := ⟨1, ![1024]⟩
abbrev S1024x2048 : Shape := ⟨2, ![1024, 2048]⟩
abbrev S2048x2048 : Shape := ⟨2, ![2048, 2048]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S1024x8x256 : Shape := ⟨3, ![1024, 8, 256]⟩
abbrev S8x1024x256 : Shape := ⟨3, ![8, 1024, 256]⟩

abbrev nBuf : Space → Nat
  | .hbm => 38
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x2048, .f32⟩
  | .hbm, ⟨5, _⟩ => ⟨S2048x2048, .bf16⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1024, .f32⟩
  | .hbm, ⟨18, _⟩ => ⟨S2048x1024, .f32⟩
  | .hbm, ⟨19, _⟩ => ⟨S1x1024, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S1x1024, .f32⟩
  | .hbm, ⟨26, _⟩ => ⟨S2048x1024, .f32⟩
  | .hbm, ⟨27, _⟩ => ⟨S2048x1024, .f32⟩
  | .hbm, ⟨28, _⟩ => ⟨S1x1024, .f32⟩
  | .hbm, ⟨29, _⟩ => ⟨S2048x1024, .f32⟩
  | .hbm, ⟨30, _⟩ => ⟨S2048x1024, .f32⟩
  | .hbm, ⟨31, _⟩ => ⟨S2048x2048, .f32⟩
  | .hbm, ⟨32, _⟩ => ⟨S2048x2048, .f32⟩
  | .hbm, ⟨33, _⟩ => ⟨S2048x1024, .f32⟩
  | .hbm, ⟨34, _⟩ => ⟨S1024x2048, .f32⟩
  | .hbm, ⟨35, _⟩ => ⟨S1024x2048, .bf16⟩
  | .hbm, ⟨36, _⟩ => ⟨S1024x8x256, .bf16⟩
  | .hbm, ⟨37, _⟩ => ⟨S8x1024x256, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== KernelMix.lean ====
abbrev S2048x1024 : Shape := ⟨2, ![2048, 1024]⟩
abbrev S1024x1024 : Shape := ⟨2, ![1024, 1024]⟩

abbrev nBuf : Space → Nat
  | .hbm => 4
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .f32⟩
  | .hbm, ⟨2, _⟩ => ⟨S2048x1024, .bf16⟩
  | .hbm, ⟨3, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceMixIdeal.lean ====
abbrev S2048x1024 : Shape := ⟨2, ![2048, 1024]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .f32⟩
  | .hbm, ⟨2, _⟩ => ⟨S2048x1024, .bf16⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelMixerT.lean ====
abbrev S2048x1024 : Shape := ⟨2, ![2048, 1024]⟩
abbrev S1024 : Shape := ⟨1, ![1024]⟩
abbrev S1024x4096 : Shape := ⟨2, ![1024, 4096]⟩
abbrev S2048x4096 : Shape := ⟨2, ![2048, 4096]⟩
abbrev S1x1024 : Shape := ⟨2, ![1, 1024]⟩
abbrev S3x1024 : Shape := ⟨2, ![3, 1024]⟩
abbrev S_ : Shape := ⟨0, ![]⟩
abbrev S5x1024 : Shape := ⟨2, ![5, 1024]⟩
abbrev S8x1024 : Shape := ⟨2, ![8, 1024]⟩
abbrev S7x1024 : Shape := ⟨2, ![7, 1024]⟩
abbrev S16x1024 : Shape := ⟨2, ![16, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 30
  | .vmem => 16
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x4096, .f32⟩
  | .hbm, ⟨7, _⟩ => ⟨S2048x4096, .bf16⟩
  | .hbm, ⟨8, _⟩ => ⟨S2048x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S3x1024, .f32⟩
  | .hbm, ⟨13, _⟩ => ⟨S_, .f32⟩
  | .hbm, ⟨14, _⟩ => ⟨S5x1024, .f32⟩
  | .hbm, ⟨15, _⟩ => ⟨S8x1024, .f32⟩
  | .hbm, ⟨16, _⟩ => ⟨S1x1024, .f32⟩
  | .hbm, ⟨17, _⟩ => ⟨S_, .f32⟩
  | .hbm, ⟨18, _⟩ => ⟨S7x1024, .f32⟩
  | .hbm, ⟨19, _⟩ => ⟨S8x1024, .f32⟩
  | .hbm, ⟨20, _⟩ => ⟨S16x1024, .f32⟩
  | .hbm, ⟨21, _⟩ => ⟨S1024x4096, .bf16⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .bf16⟩
  | .hbm, ⟨27, _⟩ => ⟨S2048x1024, .f32⟩
  | .hbm, ⟨28, _⟩ => ⟨S8x1024, .f32⟩
  | .hbm, ⟨29, _⟩ => ⟨S2048x1024, .bf16⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S512x1024, .f32⟩
  | .local _ .vmem, ⟨4, _⟩ => ⟨S512x1024, .f32⟩
  | .local _ .vmem, ⟨5, _⟩ => ⟨S8x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S8x1024, .f32⟩
  | .local _ .vmem, ⟨11, _⟩ => ⟨S512x1024, .f32⟩
  | .local _ .vmem, ⟨12, _⟩ => ⟨S512x1024, .f32⟩
  | .local _ .vmem, ⟨13, _⟩ => ⟨S8x1024, .f32⟩
  | .local _ .vmem, ⟨14, _⟩ => ⟨S512x1024, .bf16⟩
  | .local _ .vmem, ⟨15, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16_0 : Ref sig .tc := ⟨.hbm, 27, rfl⟩
abbrev main_v16_1 : Ref sig .tc := ⟨.hbm, 28, rfl⟩
abbrev main_v16_2 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceMixerTIdeal.lean ====
abbrev S2048x1024 : Shape := ⟨2, ![2048, 1024]⟩
abbrev S1024 : Shape := ⟨1, ![1024]⟩
abbrev S1024x4096 : Shape := ⟨2, ![1024, 4096]⟩
abbrev S2048x4096 : Shape := ⟨2, ![2048, 4096]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S4x1024 : Shape := ⟨2, ![4, 1024]⟩
abbrev S8x1024 : Shape := ⟨2, ![8, 1024]⟩

abbrev nBuf : Space → Nat
  | .hbm => 102
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x4096, .f32⟩
  | .hbm, ⟨7, _⟩ => ⟨S2048x4096, .bf16⟩
  | .hbm, ⟨8, _⟩ => ⟨S2048x1024, .f32⟩
  | .hbm, ⟨9, _⟩ => ⟨S1x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1, .f32⟩
  | .hbm, ⟨24, _⟩ => ⟨S2048x1, .f32⟩
  | .hbm, ⟨25, _⟩ => ⟨S_, .f32⟩
  | .hbm, ⟨26, _⟩ => ⟨S2048x1, .f32⟩
  | .hbm, ⟨27, _⟩ => ⟨S2048x1, .f32⟩
  | .hbm, ⟨28, _⟩ => ⟨S2048x1024, .f32⟩
  | .hbm, ⟨29, _⟩ => ⟨S2048x1024, .f32⟩
  | .hbm, ⟨30, _⟩ => ⟨S1x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S1024, .f32⟩
  | .hbm, ⟨35, _⟩ => ⟨S1024, .f32⟩
  | .hbm, ⟨36, _⟩ => ⟨S1x1024, .f32⟩
  | .hbm, ⟨37, _⟩ => ⟨S2048x1024, .f32⟩
  | .hbm, ⟨38, _⟩ => ⟨S2048x1024, .f32⟩
  | .hbm, ⟨39, _⟩ => ⟨S1x1024, .f32⟩
  | .hbm, ⟨40, _⟩ => ⟨S2048x1024, .f32⟩
  | .hbm, ⟨41, _⟩ => ⟨S2048x1024, .f32⟩
  | .hbm, ⟨42, _⟩ => ⟨S2048x4096, .f32⟩
  | .hbm, ⟨43, _⟩ => ⟨S2048x4096, .f32⟩
  | .hbm, ⟨44, _⟩ => ⟨S2048x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S_, .f32⟩
  | .hbm, ⟨49, _⟩ => ⟨S1024, .f32⟩
  | .hbm, ⟨50, _⟩ => ⟨S2048x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S2048x1024, .f32⟩
  | .hbm, ⟨55, _⟩ => ⟨S2048x1024, .f32⟩
  | .hbm, ⟨56, _⟩ => ⟨S_, .f32⟩
  | .hbm, ⟨57, _⟩ => ⟨S1024, .f32⟩
  | .hbm, ⟨58, _⟩ => ⟨S2048x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S2048x1024, .f32⟩
  | .hbm, ⟨63, _⟩ => ⟨S2048x1024, .f32⟩
  | .hbm, ⟨64, _⟩ => ⟨S_, .f32⟩
  | .hbm, ⟨65, _⟩ => ⟨S1024, .f32⟩
  | .hbm, ⟨66, _⟩ => ⟨S2048x1024, .f32⟩
  | .hbm, ⟨67, _⟩ => ⟨S_, .f32⟩
  | .hbm, ⟨68, _⟩ => ⟨S2048, .f32⟩
  | .hbm, ⟨69, _⟩ => ⟨S2048x1, .f32⟩
  | .hbm, ⟨70, _⟩ => ⟨S2048x1024, .f32⟩
  | .hbm, ⟨71, _⟩ => ⟨S2048x1024, .f32⟩
  | .hbm, ⟨72, _⟩ => ⟨S2048x1024, .f32⟩
  | .hbm, ⟨73, _⟩ => ⟨S2048x1, .f32⟩
  | .hbm, ⟨74, _⟩ => ⟨S_, .f32⟩
  | .hbm, ⟨75, _⟩ => ⟨S2048x1, .f32⟩
  | .hbm, ⟨76, _⟩ => ⟨S2048x1, .f32⟩
  | .hbm, ⟨77, _⟩ => ⟨S_, .f32⟩
  | .hbm, ⟨78, _⟩ => ⟨S2048, .f32⟩
  | .hbm, ⟨79, _⟩ => ⟨S2048x1024, .f32⟩
  | .hbm, ⟨80, _⟩ => ⟨S2048x1024, .f32⟩
  | .hbm, ⟨81, _⟩ => ⟨S2048x1024, .f32⟩
  | .hbm, ⟨82, _⟩ => ⟨S2048x1024, .f32⟩
  | .hbm, ⟨83, _⟩ => ⟨S2048x1024, .f32⟩
  | .hbm, ⟨84, _⟩ => ⟨S2048x1024, .f32⟩
  | .hbm, ⟨85, _⟩ => ⟨S2048x1024, .f32⟩
  | .hbm, ⟨86, _⟩ => ⟨S2048x1024, .f32⟩
  | .hbm, ⟨87, _⟩ => ⟨S2048x1024, .f32⟩
  | .hbm, ⟨88, _⟩ => ⟨S_, .f32⟩
  | .hbm, ⟨89, _⟩ => ⟨S1024, .f32⟩
  | .hbm, ⟨90, _⟩ => ⟨S1x1024, .f32⟩
  | .hbm, ⟨91, _⟩ => ⟨S_, .f32⟩
  | .hbm, ⟨92, _⟩ => ⟨S1024, .f32⟩
  | .hbm, ⟨93, _⟩ => ⟨S1x1024, .f32⟩
  | .hbm, ⟨94, _⟩ => ⟨S1x1024, .f32⟩
  | .hbm, ⟨95, _⟩ => ⟨S1x1024, .f32⟩
  | .hbm, ⟨96, _⟩ => ⟨S1x1024, .f32⟩
  | .hbm, ⟨97, _⟩ => ⟨S4x1024, .f32⟩
  | .hbm, ⟨98, _⟩ => ⟨S_, .f32⟩
  | .hbm, ⟨99, _⟩ => ⟨S4x1024, .f32⟩
  | .hbm, ⟨100, _⟩ => ⟨S8x1024, .f32⟩
  | .hbm, ⟨101, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_9 : Ref sig .tc := ⟨.hbm, 64, rfl⟩
abbrev main_v45 : Ref sig .tc := ⟨.hbm, 65, rfl⟩
abbrev main_v46 : Ref sig .tc := ⟨.hbm, 66, rfl⟩
abbrev main_cst_10 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_11 : Ref sig .tc := ⟨.hbm, 74, rfl⟩
abbrev main_v53 : Ref sig .tc := ⟨.hbm, 75, rfl⟩
abbrev main_v54 : Ref sig .tc := ⟨.hbm, 76, rfl⟩
abbrev main_cst_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_13 : Ref sig .tc := ⟨.hbm, 88, rfl⟩
abbrev main_v65 : Ref sig .tc := ⟨.hbm, 89, rfl⟩
abbrev main_v66 : Ref sig .tc := ⟨.hbm, 90, rfl⟩
abbrev main_cst_14 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_15 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩

abbrev nD : Nat := 1
abbrev τ : Topo := Topo.v7x

variable {F : FTy → Type} [FloatOps F]
-- ==== KernelFirst.lean ====
abbrev S2048x1024 : Shape := ⟨2, ![2048, 1024]⟩
abbrev S1024 : Shape := ⟨1, ![1024]⟩
abbrev S1024x2048 : Shape := ⟨2, ![1024, 2048]⟩
abbrev S2048x2048 : Shape := ⟨2, ![2048, 2048]⟩
abbrev S1x1024 : Shape := ⟨2, ![1, 1024]⟩
abbrev S3x1024 : Shape := ⟨2, ![3, 1024]⟩
abbrev S_ : Shape := ⟨0, ![]⟩
abbrev S5x1024 : Shape := ⟨2, ![5, 1024]⟩
abbrev S8x1024 : Shape := ⟨2, ![8, 1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩

abbrev nBuf : Space → Nat
  | .hbm => 17
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x2048, .f32⟩
  | .hbm, ⟨5, _⟩ => ⟨S2048x2048, .bf16⟩
  | .hbm, ⟨6, _⟩ => ⟨S2048x1024, .f32⟩
  | .hbm, ⟨7, _⟩ => ⟨S1024x2048, .bf16⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S3x1024, .f32⟩
  | .hbm, ⟨12, _⟩ => ⟨S_, .f32⟩
  | .hbm, ⟨13, _⟩ => ⟨S5x1024, .f32⟩
  | .hbm, ⟨14, _⟩ => ⟨S8x1024, .f32⟩
  | .hbm, ⟨15, _⟩ => ⟨S2048x1024, .f32⟩
  | .hbm, ⟨16, _⟩ => ⟨S8x1024, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S512x1024, .f32⟩
  | .local _ .vmem, ⟨4, _⟩ => ⟨S512x1024, .f32⟩
  | .local _ .vmem, ⟨5, _⟩ => ⟨S8x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceFirstIdeal.lean ====
abbrev S2048x1024 : Shape := ⟨2, ![2048, 1024]⟩
abbrev S1024 : Shape := ⟨1, ![1024]⟩
abbrev S1024x2048 : Shape := ⟨2, ![1024, 2048]⟩
abbrev S2048x2048 : Shape := ⟨2, ![2048, 2048]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S3x1024 : Shape := ⟨2, ![3, 1024]⟩
abbrev S5x1024 : Shape := ⟨2, ![5, 1024]⟩
abbrev S8x1024 : Shape := ⟨2, ![8, 1024]⟩

abbrev nBuf : Space → Nat
  | .hbm => 85
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x2048, .f32⟩
  | .hbm, ⟨5, _⟩ => ⟨S2048x2048, .bf16⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1024, .f32⟩
  | .hbm, ⟨23, _⟩ => ⟨S2048x1024, .f32⟩
  | .hbm, ⟨24, _⟩ => ⟨S1x1024, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S1024, .f32⟩
  | .hbm, ⟨29, _⟩ => ⟨S1024, .f32⟩
  | .hbm, ⟨30, _⟩ => ⟨S1x1024, .f32⟩
  | .hbm, ⟨31, _⟩ => ⟨S2048x1024, .f32⟩
  | .hbm, ⟨32, _⟩ => ⟨S2048x1024, .f32⟩
  | .hbm, ⟨33, _⟩ => ⟨S1x1024, .f32⟩
  | .hbm, ⟨34, _⟩ => ⟨S2048x1024, .f32⟩
  | .hbm, ⟨35, _⟩ => ⟨S2048x1024, .f32⟩
  | .hbm, ⟨36, _⟩ => ⟨S2048x2048, .f32⟩
  | .hbm, ⟨37, _⟩ => ⟨S2048x2048, .f32⟩
  | .hbm, ⟨38, _⟩ => ⟨S2048x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S_, .f32⟩
  | .hbm, ⟨43, _⟩ => ⟨S1024, .f32⟩
  | .hbm, ⟨44, _⟩ => ⟨S2048x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S2048x1024, .f32⟩
  | .hbm, ⟨49, _⟩ => ⟨S2048x1024, .f32⟩
  | .hbm, ⟨50, _⟩ => ⟨S_, .f32⟩
  | .hbm, ⟨51, _⟩ => ⟨S1024, .f32⟩
  | .hbm, ⟨52, _⟩ => ⟨S2048x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S2048x1024, .f32⟩
  | .hbm, ⟨57, _⟩ => ⟨S2048x1024, .f32⟩
  | .hbm, ⟨58, _⟩ => ⟨S_, .f32⟩
  | .hbm, ⟨59, _⟩ => ⟨S1024, .f32⟩
  | .hbm, ⟨60, _⟩ => ⟨S2048x1024, .f32⟩
  | .hbm, ⟨61, _⟩ => ⟨S_, .f32⟩
  | .hbm, ⟨62, _⟩ => ⟨S2048, .f32⟩
  | .hbm, ⟨63, _⟩ => ⟨S2048x1, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S2048x1, .f32⟩
  | .hbm, ⟨68, _⟩ => ⟨S_, .f32⟩
  | .hbm, ⟨69, _⟩ => ⟨S2048x1, .f32⟩
  | .hbm, ⟨70, _⟩ => ⟨S2048x1, .f32⟩
  | .hbm, ⟨71, _⟩ => ⟨S_, .f32⟩
  | .hbm, ⟨72, _⟩ => ⟨S2048, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S2048x1024, .f32⟩
  | .hbm, ⟨77, _⟩ => ⟨S2048x1024, .f32⟩
  | .hbm, ⟨78, _⟩ => ⟨S1x1024, .f32⟩
  | .hbm, ⟨79, _⟩ => ⟨S1x1024, .f32⟩
  | .hbm, ⟨80, _⟩ => ⟨S1x1024, .f32⟩
  | .hbm, ⟨81, _⟩ => ⟨S3x1024, .f32⟩
  | .hbm, ⟨82, _⟩ => ⟨S_, .f32⟩
  | .hbm, ⟨83, _⟩ => ⟨S5x1024, .f32⟩
  | .hbm, ⟨84, _⟩ => ⟨S8x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_cst_10 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_11 : Ref sig .tc := ⟨.hbm, 68, rfl⟩
abbrev main_v49 : Ref sig .tc := ⟨.hbm, 69, rfl⟩
abbrev main_v50 : Ref sig .tc := ⟨.hbm, 70, rfl⟩
abbrev main_cst_12 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_13 : Ref sig .tc := ⟨.hbm, 82, rfl⟩
abbrev main_v61 : Ref sig .tc := ⟨.hbm, 83, rfl⟩
abbrev main_v62 : Ref sig .tc := ⟨.hbm, 84, rfl⟩

abbrev nD : Nat := 1
abbrev τ : Topo := Topo.v7x

variable {F : FTy → Type} [FloatOps F]
-- ==== KernelSmall.lean ====
abbrev S8x112x1024 : Shape := ⟨3, ![8, 112, 1024]⟩
abbrev S112x1024 : Shape := ⟨2, ![112, 1024]⟩
abbrev S1x112x1024 : Shape := ⟨3, ![1, 112, 1024]⟩
abbrev S1x1024 : Shape := ⟨2, ![1, 1024]⟩
abbrev S1024 : Shape := ⟨1, ![1024]⟩
abbrev S_ : Shape := ⟨0, ![]⟩

abbrev nBuf : Space → Nat
  | .hbm => 12
  | .vmem => 8
  | .smem => 0
  | _ => 0

abbrev bufTy : (tb : Table) → Fin (tcTables nBuf tb) → BufTy
  | .hbm, ⟨0, _⟩ => ⟨S8x112x1024, .f32⟩
  | .hbm, ⟨1, _⟩ => ⟨S112x1024, .f32⟩
  | .hbm, ⟨2, _⟩ => ⟨S112x1024, .f32⟩
  | .hbm, ⟨3, _⟩ => ⟨S112x1024, .f32⟩
  | .hbm, ⟨4, _⟩ => ⟨S112x1024, .f32⟩
  | .hbm, ⟨5, _⟩ => ⟨S112x1024, .f32⟩
  | .hbm, ⟨6, _⟩ => ⟨S112x1024, .f32⟩
  | .hbm, ⟨7, _⟩ => ⟨S112x1024, .f32⟩
  | .hbm, ⟨8, _⟩ => ⟨S1x1024, .f32⟩
  | .hbm, ⟨9, _⟩ => ⟨S1024, .f32⟩
  | .hbm, ⟨10, _⟩ => ⟨S_, .f32⟩
  | .hbm, ⟨11, _⟩ => ⟨S_, .f32⟩
  | .local _ .vmem, ⟨0, _⟩ => ⟨S8x112x1024, .f32⟩
  | .local _ .vmem, ⟨1, _⟩ => ⟨S112x1024, .f32⟩
  | .local _ .vmem, ⟨2, _⟩ => ⟨S112x1024, .f32⟩
  | .local _ .vmem, ⟨3, _⟩ => ⟨S112x1024, .f32⟩
  | .local _ .vmem, ⟨4, _⟩ => ⟨S112x1024, .f32⟩
  | .local _ .vmem, ⟨5, _⟩ => ⟨S112x1024, .f32⟩
  | .local _ .vmem, ⟨6, _⟩ => ⟨S112x1024, .f32⟩
  | .local _ .vmem, ⟨7, _⟩ => ⟨S112x1024, .f32⟩
  | _, _ => ⟨S8x112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x112x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S112x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S112x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S112x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S112x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S112x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S112x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S112x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== ReferenceSmallIdeal.lean ====
abbrev S8x112x1024 : Shape := ⟨3, ![8, 112, 1024]⟩
abbrev S112x1024 : Shape := ⟨2, ![112, 1024]⟩
abbrev S_ : Shape := ⟨0, ![]⟩
abbrev S1x1024 : Shape := ⟨2, ![1, 1024]⟩
abbrev S1024 : Shape := ⟨1, ![1024]⟩

abbrev nBuf : Space → Nat
  | .hbm => 43
  | .vmem => 0
  | .smem => 0
  | _ => 0

abbrev bufTy : (tb : Table) → Fin (tcTables nBuf tb) → BufTy
  | .hbm, ⟨0, _⟩ => ⟨S8x112x1024, .f32⟩
  | .hbm, ⟨1, _⟩ => ⟨S112x1024, .f32⟩
  | .hbm, ⟨2, _⟩ => ⟨S112x1024, .f32⟩
  | .hbm, ⟨3, _⟩ => ⟨S112x1024, .f32⟩
  | .hbm, ⟨4, _⟩ => ⟨S_, .f32⟩
  | .hbm, ⟨5, _⟩ => ⟨S112x1024, .f32⟩
  | .hbm, ⟨6, _⟩ => ⟨S_, .f32⟩
  | .hbm, ⟨7, _⟩ => ⟨S112x1024, .f32⟩
  | .hbm, ⟨8, _⟩ => ⟨S112x1024, .f32⟩
  | .hbm, ⟨9, _⟩ => ⟨S_, .f32⟩
  | .hbm, ⟨10, _⟩ => ⟨S112x1024, .f32⟩
  | .hbm, ⟨11, _⟩ => ⟨S112x1024, .f32⟩
  | .hbm, ⟨12, _⟩ => ⟨S112x1024, .f32⟩
  | .hbm, ⟨13, _⟩ => ⟨S_, .f32⟩
  | .hbm, ⟨14, _⟩ => ⟨S112x1024, .f32⟩
  | .hbm, ⟨15, _⟩ => ⟨S112x1024, .f32⟩
  | .hbm, ⟨16, _⟩ => ⟨S112x1024, .f32⟩
  | .hbm, ⟨17, _⟩ => ⟨S_, .f32⟩
  | .hbm, ⟨18, _⟩ => ⟨S112x1024, .f32⟩
  | .hbm, ⟨19, _⟩ => ⟨S112x1024, .f32⟩
  | .hbm, ⟨20, _⟩ => ⟨S112x1024, .f32⟩
  | .hbm, ⟨21, _⟩ => ⟨S_, .f32⟩
  | .hbm, ⟨22, _⟩ => ⟨S112x1024, .f32⟩
  | .hbm, ⟨23, _⟩ => ⟨S112x1024, .f32⟩
  | .hbm, ⟨24, _⟩ => ⟨S_, .f32⟩
  | .hbm, ⟨25, _⟩ => ⟨S112x1024, .f32⟩
  | .hbm, ⟨26, _⟩ => ⟨S112x1024, .f32⟩
  | .hbm, ⟨27, _⟩ => ⟨S112x1024, .f32⟩
  | .hbm, ⟨28, _⟩ => ⟨S_, .f32⟩
  | .hbm, ⟨29, _⟩ => ⟨S112x1024, .f32⟩
  | .hbm, ⟨30, _⟩ => ⟨S112x1024, .f32⟩
  | .hbm, ⟨31, _⟩ => ⟨S112x1024, .f32⟩
  | .hbm, ⟨32, _⟩ => ⟨S_, .f32⟩
  | .hbm, ⟨33, _⟩ => ⟨S112x1024, .f32⟩
  | .hbm, ⟨34, _⟩ => ⟨S112x1024, .f32⟩
  | .hbm, ⟨35, _⟩ => ⟨S112x1024, .f32⟩
  | .hbm, ⟨36, _⟩ => ⟨S_, .f32⟩
  | .hbm, ⟨37, _⟩ => ⟨S112x1024, .f32⟩
  | .hbm, ⟨38, _⟩ => ⟨S112x1024, .f32⟩
  | .hbm, ⟨39, _⟩ => ⟨S1x1024, .f32⟩
  | .hbm, ⟨40, _⟩ => ⟨S1024, .f32⟩
  | .hbm, ⟨41, _⟩ => ⟨S_, .f32⟩
  | .hbm, ⟨42, _⟩ => ⟨S_, .f32⟩
  | _, _ => ⟨S8x112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_9 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== KernelMod.lean ====
abbrev S1x4096x768 : Shape := ⟨3, ![1, 4096, 768]⟩
abbrev S4096x768 : Shape := ⟨2, ![4096, 768]⟩
abbrev S1x256x768 : Shape := ⟨3, ![1, 256, 768]⟩
abbrev S256x768 : Shape := ⟨2, ![256, 768]⟩

abbrev nBuf : Space → Nat
  | .hbm => 8
  | .vmem => 16
  | .smem => 0
  | _ => 0

abbrev bufTy : (tb : Table) → Fin (tcTables nBuf tb) → BufTy
  | .hbm, ⟨0, _⟩ => ⟨S1x4096x768, .f32⟩
  | .hbm, ⟨1, _⟩ => ⟨S4096x768, .f32⟩
  | .hbm, ⟨2, _⟩ => ⟨S4096x768, .f32⟩
  | .hbm, ⟨3, _⟩ => ⟨S4096x768, .f32⟩
  | .hbm, ⟨4, _⟩ => ⟨S4096x768, .f32⟩
  | .hbm, ⟨5, _⟩ => ⟨S4096x768, .f32⟩
  | .hbm, ⟨6, _⟩ => ⟨S4096x768, .f32⟩
  | .hbm, ⟨7, _⟩ => ⟨S4096x768, .f32⟩
  | .local _ .vmem, ⟨0, _⟩ => ⟨S1x256x768, .f32⟩
  | .local _ .vmem, ⟨1, _⟩ => ⟨S1x256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | _, _ => ⟨S1x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelModIdeal.lean ====
abbrev S1x4096x768 : Shape := ⟨3, ![1, 4096, 768]⟩
abbrev S4096x768 : Shape := ⟨2, ![4096, 768]⟩
abbrev S1x256x768 : Shape := ⟨3, ![1, 256, 768]⟩
abbrev S256x768 : Shape := ⟨2, ![256, 768]⟩

abbrev nBuf : Space → Nat
  | .hbm => 8
  | .vmem => 16
  | .smem => 0
  | _ => 0

abbrev bufTy : (tb : Table) → Fin (tcTables nBuf tb) → BufTy
  | .hbm, ⟨0, _⟩ => ⟨S1x4096x768, .f32⟩
  | .hbm, ⟨1, _⟩ => ⟨S4096x768, .f32⟩
  | .hbm, ⟨2, _⟩ => ⟨S4096x768, .f32⟩
  | .hbm, ⟨3, _⟩ => ⟨S4096x768, .f32⟩
  | .hbm, ⟨4, _⟩ => ⟨S4096x768, .f32⟩
  | .hbm, ⟨5, _⟩ => ⟨S4096x768, .f32⟩
  | .hbm, ⟨6, _⟩ => ⟨S4096x768, .f32⟩
  | .hbm, ⟨7, _⟩ => ⟨S4096x768, .f32⟩
  | .local _ .vmem, ⟨0, _⟩ => ⟨S1x256x768, .f32⟩
  | .local _ .vmem, ⟨1, _⟩ => ⟨S1x256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | _, _ => ⟨S1x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceModIdeal.lean ====
abbrev S1x4096x768 : Shape := ⟨3, ![1, 4096, 768]⟩
abbrev S4096x768 : Shape := ⟨2, ![4096, 768]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x4096x768, .f32⟩
  | .hbm, ⟨1, _⟩ => ⟨S4096x768, .f32⟩
  | .hbm, ⟨2, _⟩ => ⟨S4096x768, .f32⟩
  | .hbm, ⟨3, _⟩ => ⟨S4096x768, .f32⟩
  | .hbm, ⟨4, _⟩ => ⟨S_, .f32⟩
  | .hbm, ⟨5, _⟩ => ⟨S4096x768, .f32⟩
  | .hbm, ⟨6, _⟩ => ⟨S_, .f32⟩
  | .hbm, ⟨7, _⟩ => ⟨S4096x768, .f32⟩
  | .hbm, ⟨8, _⟩ => ⟨S4096x768, .f32⟩
  | .hbm, ⟨9, _⟩ => ⟨S_, .f32⟩
  | .hbm, ⟨10, _⟩ => ⟨S4096x768, .f32⟩
  | .hbm, ⟨11, _⟩ => ⟨S4096x768, .f32⟩
  | .hbm, ⟨12, _⟩ => ⟨S4096x768, .f32⟩
  | .hbm, ⟨13, _⟩ => ⟨S_, .f32⟩
  | .hbm, ⟨14, _⟩ => ⟨S4096x768, .f32⟩
  | .hbm, ⟨15, _⟩ => ⟨S4096x768, .f32⟩
  | .hbm, ⟨16, _⟩ => ⟨S4096x768, .f32⟩
  | .hbm, ⟨17, _⟩ => ⟨S_, .f32⟩
  | .hbm, ⟨18, _⟩ => ⟨S4096x768, .f32⟩
  | .hbm, ⟨19, _⟩ => ⟨S4096x768, .f32⟩
  | .hbm, ⟨20, _⟩ => ⟨S4096x768, .f32⟩
  | .hbm, ⟨21, _⟩ => ⟨S_, .f32⟩
  | .hbm, ⟨22, _⟩ => ⟨S4096x768, .f32⟩
  | .hbm, ⟨23, _⟩ => ⟨S4096x768, .f32⟩
  | .hbm, ⟨24, _⟩ => ⟨S_, .f32⟩
  | .hbm, ⟨25, _⟩ => ⟨S4096x768, .f32⟩
  | .hbm, ⟨26, _⟩ => ⟨S4096x768, .f32⟩
  | .hbm, ⟨27, _⟩ => ⟨S4096x768, .f32⟩
  | .hbm, ⟨28, _⟩ => ⟨S_, .f32⟩
  | .hbm, ⟨29, _⟩ => ⟨S4096x768, .f32⟩
  | .hbm, ⟨30, _⟩ => ⟨S4096x768, .f32⟩
  | .hbm, ⟨31, _⟩ => ⟨S4096x768, .f32⟩
  | .hbm, ⟨32, _⟩ => ⟨S_, .f32⟩
  | .hbm, ⟨33, _⟩ => ⟨S4096x768, .f32⟩
  | .hbm, ⟨34, _⟩ => ⟨S4096x768, .f32⟩
  | .hbm, ⟨35, _⟩ => ⟨S4096x768, .f32⟩
  | .hbm, ⟨36, _⟩ => ⟨S_, .f32⟩
  | .hbm, ⟨37, _⟩ => ⟨S4096x768, .f32⟩
  | .hbm, ⟨38, _⟩ => ⟨S4096x768, .f32⟩
  | _, _ => ⟨S1x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== KernelConv.lean ====
abbrev S8x8x128 : Shape := ⟨3, ![8, 8, 128]⟩
abbrev S8x128 : Shape := ⟨2, ![8, 128]⟩
abbrev S1x8x128 : Shape := ⟨3, ![1, 8, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x8x128, .f32⟩
  | .hbm, ⟨1, _⟩ => ⟨S8x128, .f32⟩
  | .hbm, ⟨2, _⟩ => ⟨S8x128, .f32⟩
  | .hbm, ⟨3, _⟩ => ⟨S8x128, .f32⟩
  | .hbm, ⟨4, _⟩ => ⟨S8x128, .f32⟩
  | .hbm, ⟨5, _⟩ => ⟨S8x128, .f32⟩
  | .hbm, ⟨6, _⟩ => ⟨S8x128, .f32⟩
  | .hbm, ⟨7, _⟩ => ⟨S8x128, .f32⟩
  | .local _ .vmem, ⟨0, _⟩ => ⟨S8x8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | _, _ => ⟨S8x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== ReferenceConvIdeal.lean ====
abbrev S8x8x128 : Shape := ⟨3, ![8, 8, 128]⟩
abbrev S8x128 : Shape := ⟨2, ![8, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x8x128, .f32⟩
  | .hbm, ⟨1, _⟩ => ⟨S8x128, .f32⟩
  | .hbm, ⟨2, _⟩ => ⟨S8x128, .f32⟩
  | .hbm, ⟨3, _⟩ => ⟨S8x128, .f32⟩
  | .hbm, ⟨4, _⟩ => ⟨S_, .f32⟩
  | .hbm, ⟨5, _⟩ => ⟨S8x128, .f32⟩
  | .hbm, ⟨6, _⟩ => ⟨S_, .f32⟩
  | .hbm, ⟨7, _⟩ => ⟨S8x128, .f32⟩
  | .hbm, ⟨8, _⟩ => ⟨S8x128, .f32⟩
  | .hbm, ⟨9, _⟩ => ⟨S_, .f32⟩
  | .hbm, ⟨10, _⟩ => ⟨S8x128, .f32⟩
  | .hbm, ⟨11, _⟩ => ⟨S8x128, .f32⟩
  | .hbm, ⟨12, _⟩ => ⟨S8x128, .f32⟩
  | .hbm, ⟨13, _⟩ => ⟨S_, .f32⟩
  | .hbm, ⟨14, _⟩ => ⟨S8x128, .f32⟩
  | .hbm, ⟨15, _⟩ => ⟨S8x128, .f32⟩
  | .hbm, ⟨16, _⟩ => ⟨S8x128, .f32⟩
  | .hbm, ⟨17, _⟩ => ⟨S_, .f32⟩
  | .hbm, ⟨18, _⟩ => ⟨S8x128, .f32⟩
  | .hbm, ⟨19, _⟩ => ⟨S8x128, .f32⟩
  | .hbm, ⟨20, _⟩ => ⟨S8x128, .f32⟩
  | .hbm, ⟨21, _⟩ => ⟨S_, .f32⟩
  | .hbm, ⟨22, _⟩ => ⟨S8x128, .f32⟩
  | .hbm, ⟨23, _⟩ => ⟨S8x128, .f32⟩
  | .hbm, ⟨24, _⟩ => ⟨S_, .f32⟩
  | .hbm, ⟨25, _⟩ => ⟨S8x128, .f32⟩
  | .hbm, ⟨26, _⟩ => ⟨S8x128, .f32⟩
  | .hbm, ⟨27, _⟩ => ⟨S8x128, .f32⟩
  | .hbm, ⟨28, _⟩ => ⟨S_, .f32⟩
  | .hbm, ⟨29, _⟩ => ⟨S8x128, .f32⟩
  | .hbm, ⟨30, _⟩ => ⟨S8x128, .f32⟩
  | .hbm, ⟨31, _⟩ => ⟨S8x128, .f32⟩
  | .hbm, ⟨32, _⟩ => ⟨S_, .f32⟩
  | .hbm, ⟨33, _⟩ => ⟨S8x128, .f32⟩
  | .hbm, ⟨34, _⟩ => ⟨S8x128, .f32⟩
  | .hbm, ⟨35, _⟩ => ⟨S8x128, .f32⟩
  | .hbm, ⟨36, _⟩ => ⟨S_, .f32⟩
  | .hbm, ⟨37, _⟩ => ⟨S8x128, .f32⟩
  | .hbm, ⟨38, _⟩ => ⟨S8x128, .f32⟩
  | _, _ => ⟨S8x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== KernelMixOut.lean ====
abbrev S2048x1024 : Shape := ⟨2, ![2048, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩
abbrev S7x1024 : Shape := ⟨2, ![7, 1024]⟩
abbrev S8x1024 : Shape := ⟨2, ![8, 1024]⟩
abbrev S3x1024 : Shape := ⟨2, ![3, 1024]⟩
abbrev S5x1024 : Shape := ⟨2, ![5, 1024]⟩
abbrev S16x1024 : Shape := ⟨2, ![16, 1024]⟩
abbrev S512x1024 : Shape := ⟨2, ![512, 1024]⟩
abbrev S512 : Shape := ⟨1, ![512]⟩
abbrev S512x1 : Shape := ⟨2, ![512, 1]⟩

abbrev nBuf : Space → Nat
  | .hbm => 23
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1x1024, .f32⟩
  | .hbm, ⟨8, _⟩ => ⟨S_, .f32⟩
  | .hbm, ⟨9, _⟩ => ⟨S7x1024, .f32⟩
  | .hbm, ⟨10, _⟩ => ⟨S8x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S3x1024, .f32⟩
  | .hbm, ⟨15, _⟩ => ⟨S_, .f32⟩
  | .hbm, ⟨16, _⟩ => ⟨S5x1024, .f32⟩
  | .hbm, ⟨17, _⟩ => ⟨S8x1024, .f32⟩
  | .hbm, ⟨18, _⟩ => ⟨S16x1024, .f32⟩
  | .hbm, ⟨19, _⟩ => ⟨S1024x1024, .bf16⟩
  | .hbm, ⟨20, _⟩ => ⟨S2048x1024, .bf16⟩
  | .hbm, ⟨21, _⟩ => ⟨S2048x1024, .f32⟩
  | .hbm, ⟨22, _⟩ => ⟨S2048x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S8x1024, .f32⟩
  | .local _ .vmem, ⟨6, _⟩ => ⟨S8x1024, .f32⟩
  | .local _ .vmem, ⟨7, _⟩ => ⟨S512x1024, .bf16⟩
  | .local _ .vmem, ⟨8, _⟩ => ⟨S512x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev main_v11_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]
-- ==== ReferenceMixOutIdeal.lean ====
abbrev S2048x1024 : Shape := ⟨2, ![2048, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 40
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S2048x1024, .f32⟩
  | .hbm, ⟨8, _⟩ => ⟨S2048x1024, .f32⟩
  | .hbm, ⟨9, _⟩ => ⟨S1x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x1024, .bf16⟩
  | .hbm, ⟨14, _⟩ => ⟨S2048x1024, .f32⟩
  | .hbm, ⟨15, _⟩ => ⟨S_, .f32⟩
  | .hbm, ⟨16, _⟩ => ⟨S2048, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x1, .f32⟩
  | .hbm, ⟨25, _⟩ => ⟨S2048x1024, .f32⟩
  | .hbm, ⟨26, _⟩ => ⟨S2048x1024, .f32⟩
  | .hbm, ⟨27, _⟩ => ⟨S1x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S1024, .f32⟩
  | .hbm, ⟨32, _⟩ => ⟨S1024, .f32⟩
  | .hbm, ⟨33, _⟩ => ⟨S1x1024, .f32⟩
  | .hbm, ⟨34, _⟩ => ⟨S2048x1024, .f32⟩
  | .hbm, ⟨35, _⟩ => ⟨S2048x1024, .f32⟩
  | .hbm, ⟨36, _⟩ => ⟨S1x1024, .f32⟩
  | .hbm, ⟨37, _⟩ => ⟨S2048x1024, .f32⟩
  | .hbm, ⟨38, _⟩ => ⟨S2048x1024, .f32⟩
  | .hbm, ⟨39, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== KernelMixOutT.lean ====
abbrev S2048x1024 : Shape := ⟨2, ![2048, 1024]⟩
abbrev S1024x1024 : Shape := ⟨2, ![1024, 1024]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .f32⟩
  | .hbm, ⟨2, _⟩ => ⟨S2048x1024, .bf16⟩
  | .hbm, ⟨3, _⟩ => ⟨S1024x1024, .bf16⟩
  | .hbm, ⟨4, _⟩ => ⟨S2048x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== ReferenceMixOutTIdeal.lean ====
abbrev S2048x1024 : Shape := ⟨2, ![2048, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .f32⟩
  | .hbm, ⟨2, _⟩ => ⟨S2048x1024, .bf16⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelHgZ.lean ====
abbrev S2048x1024 : Shape := ⟨2, ![2048, 1024]⟩
abbrev S1024 : Shape := ⟨1, ![1024]⟩
abbrev S1024x4096 : Shape := ⟨2, ![1024, 4096]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x4096 : Shape := ⟨2, ![2048, 4096]⟩
abbrev S512x1024 : Shape := ⟨2, ![512, 1024]⟩
abbrev S512x4096 : Shape := ⟨2, ![512, 4096]⟩

abbrev nBuf : Space → Nat
  | .hbm => 33
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x4096, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S1x1024, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S1024, .f32⟩
  | .hbm, ⟨23, _⟩ => ⟨S1024, .f32⟩
  | .hbm, ⟨24, _⟩ => ⟨S1x1024, .f32⟩
  | .hbm, ⟨25, _⟩ => ⟨S2048x1024, .f32⟩
  | .hbm, ⟨26, _⟩ => ⟨S2048x1024, .f32⟩
  | .hbm, ⟨27, _⟩ => ⟨S1x1024, .f32⟩
  | .hbm, ⟨28, _⟩ => ⟨S2048x1024, .f32⟩
  | .hbm, ⟨29, _⟩ => ⟨S2048x1024, .f32⟩
  | .hbm, ⟨30, _⟩ => ⟨S2048x1024, .bf16⟩
  | .hbm, ⟨31, _⟩ => ⟨S1024x4096, .bf16⟩
  | .hbm, ⟨32, _⟩ => ⟨S2048x4096, .f32⟩
  | .local _ .vmem, ⟨0, _⟩ => ⟨S512x1024, .bf16⟩
  | .local _ .vmem, ⟨1, _⟩ => ⟨S512x1024, .bf16⟩
  | .local _ .vmem, ⟨2, _⟩ => ⟨S1024x4096, .bf16⟩
  | .local _ .vmem, ⟨3, _⟩ => ⟨S512x4096, .f32⟩
  | .local _ .vmem, ⟨4, _⟩ => ⟨S512x4096, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== KernelHgZIdeal.lean ====
abbrev S2048x1024 : Shape := ⟨2, ![2048, 1024]⟩
abbrev S1024 : Shape := ⟨1, ![1024]⟩
abbrev S1024x4096 : Shape := ⟨2, ![1024, 4096]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x4096 : Shape := ⟨2, ![2048, 4096]⟩
abbrev S512x1024 : Shape := ⟨2, ![512, 1024]⟩
abbrev S512x4096 : Shape := ⟨2, ![512, 4096]⟩

abbrev nBuf : Space → Nat
  | .hbm => 33
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x4096, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S1x1024, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S1024, .f32⟩
  | .hbm, ⟨23, _⟩ => ⟨S1024, .f32⟩
  | .hbm, ⟨24, _⟩ => ⟨S1x1024, .f32⟩
  | .hbm, ⟨25, _⟩ => ⟨S2048x1024, .f32⟩
  | .hbm, ⟨26, _⟩ => ⟨S2048x1024, .f32⟩
  | .hbm, ⟨27, _⟩ => ⟨S1x1024, .f32⟩
  | .hbm, ⟨28, _⟩ => ⟨S2048x1024, .f32⟩
  | .hbm, ⟨29, _⟩ => ⟨S2048x1024, .f32⟩
  | .hbm, ⟨30, _⟩ => ⟨S2048x1024, .bf16⟩
  | .hbm, ⟨31, _⟩ => ⟨S1024x4096, .bf16⟩
  | .hbm, ⟨32, _⟩ => ⟨S2048x4096, .f32⟩
  | .local _ .vmem, ⟨0, _⟩ => ⟨S512x1024, .bf16⟩
  | .local _ .vmem, ⟨1, _⟩ => ⟨S512x1024, .bf16⟩
  | .local _ .vmem, ⟨2, _⟩ => ⟨S1024x4096, .bf16⟩
  | .local _ .vmem, ⟨3, _⟩ => ⟨S512x4096, .f32⟩
  | .local _ .vmem, ⟨4, _⟩ => ⟨S512x4096, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== ReferenceHgZIdeal.lean ====
abbrev S2048x1024 : Shape := ⟨2, ![2048, 1024]⟩
abbrev S1024 : Shape := ⟨1, ![1024]⟩
abbrev S1024x4096 : Shape := ⟨2, ![1024, 4096]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x4096 : Shape := ⟨2, ![2048, 4096]⟩

abbrev nBuf : Space → Nat
  | .hbm => 31
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x4096, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S1x1024, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S1024, .f32⟩
  | .hbm, ⟨23, _⟩ => ⟨S1024, .f32⟩
  | .hbm, ⟨24, _⟩ => ⟨S1x1024, .f32⟩
  | .hbm, ⟨25, _⟩ => ⟨S2048x1024, .f32⟩
  | .hbm, ⟨26, _⟩ => ⟨S2048x1024, .f32⟩
  | .hbm, ⟨27, _⟩ => ⟨S1x1024, .f32⟩
  | .hbm, ⟨28, _⟩ => ⟨S2048x1024, .f32⟩
  | .hbm, ⟨29, _⟩ => ⟨S2048x1024, .f32⟩
  | .hbm, ⟨30, _⟩ => ⟨S2048x4096, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== KernelRgZ.lean ====
abbrev S2048x1024 : Shape := ⟨2, ![2048, 1024]⟩
abbrev S1024 : Shape := ⟨1, ![1024]⟩
abbrev S1024x2048 : Shape := ⟨2, ![1024, 2048]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x2048 : Shape := ⟨2, ![2048, 2048]⟩
abbrev S512x1024 : Shape := ⟨2, ![512, 1024]⟩
abbrev S512x2048 : Shape := ⟨2, ![512, 2048]⟩

abbrev nBuf : Space → Nat
  | .hbm => 33
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x2048, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S1x1024, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S1024, .f32⟩
  | .hbm, ⟨23, _⟩ => ⟨S1024, .f32⟩
  | .hbm, ⟨24, _⟩ => ⟨S1x1024, .f32⟩
  | .hbm, ⟨25, _⟩ => ⟨S2048x1024, .f32⟩
  | .hbm, ⟨26, _⟩ => ⟨S2048x1024, .f32⟩
  | .hbm, ⟨27, _⟩ => ⟨S1x1024, .f32⟩
  | .hbm, ⟨28, _⟩ => ⟨S2048x1024, .f32⟩
  | .hbm, ⟨29, _⟩ => ⟨S2048x1024, .f32⟩
  | .hbm, ⟨30, _⟩ => ⟨S2048x1024, .bf16⟩
  | .hbm, ⟨31, _⟩ => ⟨S1024x2048, .bf16⟩
  | .hbm, ⟨32, _⟩ => ⟨S2048x2048, .f32⟩
  | .local _ .vmem, ⟨0, _⟩ => ⟨S512x1024, .bf16⟩
  | .local _ .vmem, ⟨1, _⟩ => ⟨S512x1024, .bf16⟩
  | .local _ .vmem, ⟨2, _⟩ => ⟨S1024x2048, .bf16⟩
  | .local _ .vmem, ⟨3, _⟩ => ⟨S512x2048, .f32⟩
  | .local _ .vmem, ⟨4, _⟩ => ⟨S512x2048, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== ReferenceRgZIdeal.lean ====
abbrev S2048x1024 : Shape := ⟨2, ![2048, 1024]⟩
abbrev S1024 : Shape := ⟨1, ![1024]⟩
abbrev S1024x2048 : Shape := ⟨2, ![1024, 2048]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x2048 : Shape := ⟨2, ![2048, 2048]⟩

abbrev nBuf : Space → Nat
  | .hbm => 31
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x2048, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S1x1024, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S1024, .f32⟩
  | .hbm, ⟨23, _⟩ => ⟨S1024, .f32⟩
  | .hbm, ⟨24, _⟩ => ⟨S1x1024, .f32⟩
  | .hbm, ⟨25, _⟩ => ⟨S2048x1024, .f32⟩
  | .hbm, ⟨26, _⟩ => ⟨S2048x1024, .f32⟩
  | .hbm, ⟨27, _⟩ => ⟨S1x1024, .f32⟩
  | .hbm, ⟨28, _⟩ => ⟨S2048x1024, .f32⟩
  | .hbm, ⟨29, _⟩ => ⟨S2048x1024, .f32⟩
  | .hbm, ⟨30, _⟩ => ⟨S2048x2048, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== KernelGate.lean ====
abbrev S8x1024x128 : Shape := ⟨3, ![8, 1024, 128]⟩
abbrev S2x1024x128 : Shape := ⟨3, ![2, 1024, 128]⟩
abbrev S1x1024x128 : Shape := ⟨3, ![1, 1024, 128]⟩
abbrev S1024x128 : Shape := ⟨2, ![1024, 128]⟩

abbrev nBuf : Space → Nat
  | .hbm => 12
  | .vmem => 8
  | .smem => 0
  | _ => 0

abbrev bufTy : (tb : Table) → Fin (tcTables nBuf tb) → BufTy
  | .hbm, ⟨0, _⟩ => ⟨S8x1024x128, .bf16⟩
  | .hbm, ⟨1, _⟩ => ⟨S2x1024x128, .f32⟩
  | .hbm, ⟨2, _⟩ => ⟨S2x1024x128, .f32⟩
  | .hbm, ⟨3, _⟩ => ⟨S2x1024x128, .f32⟩
  | .hbm, ⟨4, _⟩ => ⟨S2x1024x128, .f32⟩
  | .hbm, ⟨5, _⟩ => ⟨S2x1024x128, .f32⟩
  | .hbm, ⟨6, _⟩ => ⟨S2x1024x128, .f32⟩
  | .hbm, ⟨7, _⟩ => ⟨S2x1024x128, .f32⟩
  | .hbm, ⟨8, _⟩ => ⟨S2x1024x128, .f32⟩
  | .hbm, ⟨9, _⟩ => ⟨S2x1024x128, .f32⟩
  | .hbm, ⟨10, _⟩ => ⟨S2x1024x128, .f32⟩
  | .hbm, ⟨11, _⟩ => ⟨S2x1024x128, .f32⟩
  | .local _ .vmem, ⟨0, _⟩ => ⟨S8x1024x128, .bf16⟩
  | .local _ .vmem, ⟨1, _⟩ => ⟨S1x1024x128, .f32⟩
  | .local _ .vmem, ⟨2, _⟩ => ⟨S1x1024x128, .f32⟩
  | .local _ .vmem, ⟨3, _⟩ => ⟨S1x1024x128, .f32⟩
  | .local _ .vmem, ⟨4, _⟩ => ⟨S1x1024x128, .f32⟩
  | .local _ .vmem, ⟨5, _⟩ => ⟨S1x1024x128, .f32⟩
  | .local _ .vmem, ⟨6, _⟩ => ⟨S1x1024x128, .f32⟩
  | .local _ .vmem, ⟨7, _⟩ => ⟨S1x1024x128, .f32⟩
  | _, _ => ⟨S8x1024x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x1024x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1024x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== KernelGateIdeal.lean ====
abbrev S8x1024x128 : Shape := ⟨3, ![8, 1024, 128]⟩
abbrev S2x1024x128 : Shape := ⟨3, ![2, 1024, 128]⟩
abbrev S1x1024x128 : Shape := ⟨3, ![1, 1024, 128]⟩
abbrev S1024x128 : Shape := ⟨2, ![1024, 128]⟩

abbrev nBuf : Space → Nat
  | .hbm => 12
  | .vmem => 8
  | .smem => 0
  | _ => 0

abbrev bufTy : (tb : Table) → Fin (tcTables nBuf tb) → BufTy
  | .hbm, ⟨0, _⟩ => ⟨S8x1024x128, .bf16⟩
  | .hbm, ⟨1, _⟩ => ⟨S2x1024x128, .f32⟩
  | .hbm, ⟨2, _⟩ => ⟨S2x1024x128, .f32⟩
  | .hbm, ⟨3, _⟩ => ⟨S2x1024x128, .f32⟩
  | .hbm, ⟨4, _⟩ => ⟨S2x1024x128, .f32⟩
  | .hbm, ⟨5, _⟩ => ⟨S2x1024x128, .f32⟩
  | .hbm, ⟨6, _⟩ => ⟨S2x1024x128, .f32⟩
  | .hbm, ⟨7, _⟩ => ⟨S2x1024x128, .f32⟩
  | .hbm, ⟨8, _⟩ => ⟨S2x1024x128, .f32⟩
  | .hbm, ⟨9, _⟩ => ⟨S2x1024x128, .f32⟩
  | .hbm, ⟨10, _⟩ => ⟨S2x1024x128, .f32⟩
  | .hbm, ⟨11, _⟩ => ⟨S2x1024x128, .f32⟩
  | .local _ .vmem, ⟨0, _⟩ => ⟨S8x1024x128, .bf16⟩
  | .local _ .vmem, ⟨1, _⟩ => ⟨S1x1024x128, .f32⟩
  | .local _ .vmem, ⟨2, _⟩ => ⟨S1x1024x128, .f32⟩
  | .local _ .vmem, ⟨3, _⟩ => ⟨S1x1024x128, .f32⟩
  | .local _ .vmem, ⟨4, _⟩ => ⟨S1x1024x128, .f32⟩
  | .local _ .vmem, ⟨5, _⟩ => ⟨S1x1024x128, .f32⟩
  | .local _ .vmem, ⟨6, _⟩ => ⟨S1x1024x128, .f32⟩
  | .local _ .vmem, ⟨7, _⟩ => ⟨S1x1024x128, .f32⟩
  | _, _ => ⟨S8x1024x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x1024x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1024x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== ReferenceGateIdeal.lean ====
abbrev S8x1024x128 : Shape := ⟨3, ![8, 1024, 128]⟩
abbrev S2x1024x128 : Shape := ⟨3, ![2, 1024, 128]⟩
abbrev S_ : Shape := ⟨0, ![]⟩
abbrev S1024x128 : Shape := ⟨2, ![1024, 128]⟩
abbrev S1x1024x128 : Shape := ⟨3, ![1, 1024, 128]⟩

abbrev nBuf : Space → Nat
  | .hbm => 62
  | .vmem => 0
  | .smem => 0
  | _ => 0

abbrev bufTy : (tb : Table) → Fin (tcTables nBuf tb) → BufTy
  | .hbm, ⟨0, _⟩ => ⟨S8x1024x128, .bf16⟩
  | .hbm, ⟨1, _⟩ => ⟨S2x1024x128, .f32⟩
  | .hbm, ⟨2, _⟩ => ⟨S2x1024x128, .f32⟩
  | .hbm, ⟨3, _⟩ => ⟨S2x1024x128, .f32⟩
  | .hbm, ⟨4, _⟩ => ⟨S2x1024x128, .f32⟩
  | .hbm, ⟨5, _⟩ => ⟨S2x1024x128, .f32⟩
  | .hbm, ⟨6, _⟩ => ⟨S2x1024x128, .f32⟩
  | .hbm, ⟨7, _⟩ => ⟨S2x1024x128, .f32⟩
  | .hbm, ⟨8, _⟩ => ⟨S8x1024x128, .f32⟩
  | .hbm, ⟨9, _⟩ => ⟨S_, .f32⟩
  | .hbm, ⟨10, _⟩ => ⟨S1024x128, .f32⟩
  | .hbm, ⟨11, _⟩ => ⟨S1x1024x128, .f32⟩
  | .hbm, ⟨12, _⟩ => ⟨S1024x128, .f32⟩
  | .hbm, ⟨13, _⟩ => ⟨S1x1024x128, .f32⟩
  | .hbm, ⟨14, _⟩ => ⟨S1024x128, .f32⟩
  | .hbm, ⟨15, _⟩ => ⟨S1x1024x128, .f32⟩
  | .hbm, ⟨16, _⟩ => ⟨S1024x128, .f32⟩
  | .hbm, ⟨17, _⟩ => ⟨S_, .f32⟩
  | .hbm, ⟨18, _⟩ => ⟨S1024x128, .f32⟩
  | .hbm, ⟨19, _⟩ => ⟨S1024x128, .f32⟩
  | .hbm, ⟨20, _⟩ => ⟨S_, .f32⟩
  | .hbm, ⟨21, _⟩ => ⟨S1024x128, .f32⟩
  | .hbm, ⟨22, _⟩ => ⟨S1024x128, .f32⟩
  | .hbm, ⟨23, _⟩ => ⟨S1024x128, .f32⟩
  | .hbm, ⟨24, _⟩ => ⟨S_, .f32⟩
  | .hbm, ⟨25, _⟩ => ⟨S1024x128, .f32⟩
  | .hbm, ⟨26, _⟩ => ⟨S1024x128, .f32⟩
  | .hbm, ⟨27, _⟩ => ⟨S1024x128, .f32⟩
  | .hbm, ⟨28, _⟩ => ⟨S_, .f32⟩
  | .hbm, ⟨29, _⟩ => ⟨S1024x128, .f32⟩
  | .hbm, ⟨30, _⟩ => ⟨S1024x128, .f32⟩
  | .hbm, ⟨31, _⟩ => ⟨S1024x128, .f32⟩
  | .hbm, ⟨32, _⟩ => ⟨S_, .f32⟩
  | .hbm, ⟨33, _⟩ => ⟨S1024x128, .f32⟩
  | .hbm, ⟨34, _⟩ => ⟨S1024x128, .f32⟩
  | .hbm, ⟨35, _⟩ => ⟨S_, .f32⟩
  | .hbm, ⟨36, _⟩ => ⟨S1024x128, .f32⟩
  | .hbm, ⟨37, _⟩ => ⟨S1024x128, .f32⟩
  | .hbm, ⟨38, _⟩ => ⟨S1024x128, .f32⟩
  | .hbm, ⟨39, _⟩ => ⟨S_, .f32⟩
  | .hbm, ⟨40, _⟩ => ⟨S1024x128, .f32⟩
  | .hbm, ⟨41, _⟩ => ⟨S1024x128, .f32⟩
  | .hbm, ⟨42, _⟩ => ⟨S1024x128, .f32⟩
  | .hbm, ⟨43, _⟩ => ⟨S_, .f32⟩
  | .hbm, ⟨44, _⟩ => ⟨S1024x128, .f32⟩
  | .hbm, ⟨45, _⟩ => ⟨S1024x128, .f32⟩
  | .hbm, ⟨46, _⟩ => ⟨S1024x128, .f32⟩
  | .hbm, ⟨47, _⟩ => ⟨S_, .f32⟩
  | .hbm, ⟨48, _⟩ => ⟨S1024x128, .f32⟩
  | .hbm, ⟨49, _⟩ => ⟨S1024x128, .f32⟩
  | .hbm, ⟨50, _⟩ => ⟨S1x1024x128, .f32⟩
  | .hbm, ⟨51, _⟩ => ⟨S1x1024x128, .f32⟩
  | .hbm, ⟨52, _⟩ => ⟨S2x1024x128, .f32⟩
  | .hbm, ⟨53, _⟩ => ⟨S1x1024x128, .f32⟩
  | .hbm, ⟨54, _⟩ => ⟨S1x1024x128, .f32⟩
  | .hbm, ⟨55, _⟩ => ⟨S2x1024x128, .f32⟩
  | .hbm, ⟨56, _⟩ => ⟨S1x1024x128, .f32⟩
  | .hbm, ⟨57, _⟩ => ⟨S1x1024x128, .f32⟩
  | .hbm, ⟨58, _⟩ => ⟨S2x1024x128, .f32⟩
  | .hbm, ⟨59, _⟩ => ⟨S1x1024x128, .f32⟩
  | .hbm, ⟨60, _⟩ => ⟨S1x1024x128, .f32⟩
  | .hbm, ⟨61, _⟩ => ⟨S2x1024x128, .f32⟩
  | _, _ => ⟨S8x1024x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== KernelRgWIn.lean ====
abbrev S4x1024x256 : Shape := ⟨3, ![4, 1024, 256]⟩
abbrev S2x1024x256 : Shape := ⟨3, ![2, 1024, 256]⟩
abbrev S4x512x256 : Shape := ⟨3, ![4, 512, 256]⟩
abbrev S1x512x256 : Shape := ⟨3, ![1, 512, 256]⟩
abbrev S512x256 : Shape := ⟨2, ![512, 256]⟩

abbrev nBuf : Space → Nat
  | .hbm => 12
  | .vmem => 16
  | .smem => 0
  | _ => 0

abbrev bufTy : (tb : Table) → Fin (tcTables nBuf tb) → BufTy
  | .hbm, ⟨0, _⟩ => ⟨S4x1024x256, .bf16⟩
  | .hbm, ⟨1, _⟩ => ⟨S2x1024x256, .f32⟩
  | .hbm, ⟨2, _⟩ => ⟨S2x1024x256, .f32⟩
  | .hbm, ⟨3, _⟩ => ⟨S2x1024x256, .f32⟩
  | .hbm, ⟨4, _⟩ => ⟨S2x1024x256, .f32⟩
  | .hbm, ⟨5, _⟩ => ⟨S2x1024x256, .f32⟩
  | .hbm, ⟨6, _⟩ => ⟨S2x1024x256, .f32⟩
  | .hbm, ⟨7, _⟩ => ⟨S2x1024x256, .f32⟩
  | .hbm, ⟨8, _⟩ => ⟨S2x1024x256, .f32⟩
  | .hbm, ⟨9, _⟩ => ⟨S2x1024x256, .f32⟩
  | .hbm, ⟨10, _⟩ => ⟨S2x1024x256, .f32⟩
  | .hbm, ⟨11, _⟩ => ⟨S2x1024x256, .f32⟩
  | .local _ .vmem, ⟨0, _⟩ => ⟨S4x512x256, .bf16⟩
  | .local _ .vmem, ⟨1, _⟩ => ⟨S4x512x256, .bf16⟩
  | .local _ .vmem, ⟨2, _⟩ => ⟨S1x512x256, .f32⟩
  | .local _ .vmem, ⟨3, _⟩ => ⟨S1x512x256, .f32⟩
  | .local _ .vmem, ⟨4, _⟩ => ⟨S1x512x256, .f32⟩
  | .local _ .vmem, ⟨5, _⟩ => ⟨S1x512x256, .f32⟩
  | .local _ .vmem, ⟨6, _⟩ => ⟨S1x512x256, .f32⟩
  | .local _ .vmem, ⟨7, _⟩ => ⟨S1x512x256, .f32⟩
  | .local _ .vmem, ⟨8, _⟩ => ⟨S1x512x256, .f32⟩
  | .local _ .vmem, ⟨9, _⟩ => ⟨S1x512x256, .f32⟩
  | .local _ .vmem, ⟨10, _⟩ => ⟨S1x512x256, .f32⟩
  | .local _ .vmem, ⟨11, _⟩ => ⟨S1x512x256, .f32⟩
  | .local _ .vmem, ⟨12, _⟩ => ⟨S1x512x256, .f32⟩
  | .local _ .vmem, ⟨13, _⟩ => ⟨S1x512x256, .f32⟩
  | .local _ .vmem, ⟨14, _⟩ => ⟨S1x512x256, .f32⟩
  | .local _ .vmem, ⟨15, _⟩ => ⟨S1x512x256, .f32⟩
  | _, _ => ⟨S4x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelRgWInIdeal.lean ====
abbrev S4x1024x256 : Shape := ⟨3, ![4, 1024, 256]⟩
abbrev S2x1024x256 : Shape := ⟨3, ![2, 1024, 256]⟩
abbrev S4x512x256 : Shape := ⟨3, ![4, 512, 256]⟩
abbrev S1x512x256 : Shape := ⟨3, ![1, 512, 256]⟩
abbrev S512x256 : Shape := ⟨2, ![512, 256]⟩

abbrev nBuf : Space → Nat
  | .hbm => 12
  | .vmem => 16
  | .smem => 0
  | _ => 0

abbrev bufTy : (tb : Table) → Fin (tcTables nBuf tb) → BufTy
  | .hbm, ⟨0, _⟩ => ⟨S4x1024x256, .bf16⟩
  | .hbm, ⟨1, _⟩ => ⟨S2x1024x256, .f32⟩
  | .hbm, ⟨2, _⟩ => ⟨S2x1024x256, .f32⟩
  | .hbm, ⟨3, _⟩ => ⟨S2x1024x256, .f32⟩
  | .hbm, ⟨4, _⟩ => ⟨S2x1024x256, .f32⟩
  | .hbm, ⟨5, _⟩ => ⟨S2x1024x256, .f32⟩
  | .hbm, ⟨6, _⟩ => ⟨S2x1024x256, .f32⟩
  | .hbm, ⟨7, _⟩ => ⟨S2x1024x256, .f32⟩
  | .hbm, ⟨8, _⟩ => ⟨S2x1024x256, .f32⟩
  | .hbm, ⟨9, _⟩ => ⟨S2x1024x256, .f32⟩
  | .hbm, ⟨10, _⟩ => ⟨S2x1024x256, .f32⟩
  | .hbm, ⟨11, _⟩ => ⟨S2x1024x256, .f32⟩
  | .local _ .vmem, ⟨0, _⟩ => ⟨S4x512x256, .bf16⟩
  | .local _ .vmem, ⟨1, _⟩ => ⟨S4x512x256, .bf16⟩
  | .local _ .vmem, ⟨2, _⟩ => ⟨S1x512x256, .f32⟩
  | .local _ .vmem, ⟨3, _⟩ => ⟨S1x512x256, .f32⟩
  | .local _ .vmem, ⟨4, _⟩ => ⟨S1x512x256, .f32⟩
  | .local _ .vmem, ⟨5, _⟩ => ⟨S1x512x256, .f32⟩
  | .local _ .vmem, ⟨6, _⟩ => ⟨S1x512x256, .f32⟩
  | .local _ .vmem, ⟨7, _⟩ => ⟨S1x512x256, .f32⟩
  | .local _ .vmem, ⟨8, _⟩ => ⟨S1x512x256, .f32⟩
  | .local _ .vmem, ⟨9, _⟩ => ⟨S1x512x256, .f32⟩
  | .local _ .vmem, ⟨10, _⟩ => ⟨S1x512x256, .f32⟩
  | .local _ .vmem, ⟨11, _⟩ => ⟨S1x512x256, .f32⟩
  | .local _ .vmem, ⟨12, _⟩ => ⟨S1x512x256, .f32⟩
  | .local _ .vmem, ⟨13, _⟩ => ⟨S1x512x256, .f32⟩
  | .local _ .vmem, ⟨14, _⟩ => ⟨S1x512x256, .f32⟩
  | .local _ .vmem, ⟨15, _⟩ => ⟨S1x512x256, .f32⟩
  | _, _ => ⟨S4x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceRgWInIdeal.lean ====
abbrev S4x1024x256 : Shape := ⟨3, ![4, 1024, 256]⟩
abbrev S2x1024x256 : Shape := ⟨3, ![2, 1024, 256]⟩
abbrev S_ : Shape := ⟨0, ![]⟩
abbrev S1024x256 : Shape := ⟨2, ![1024, 256]⟩
abbrev S1x1024x256 : Shape := ⟨3, ![1, 1024, 256]⟩

abbrev nBuf : Space → Nat
  | .hbm => 62
  | .vmem => 0
  | .smem => 0
  | _ => 0

abbrev bufTy : (tb : Table) → Fin (tcTables nBuf tb) → BufTy
  | .hbm, ⟨0, _⟩ => ⟨S4x1024x256, .bf16⟩
  | .hbm, ⟨1, _⟩ => ⟨S2x1024x256, .f32⟩
  | .hbm, ⟨2, _⟩ => ⟨S2x1024x256, .f32⟩
  | .hbm, ⟨3, _⟩ => ⟨S2x1024x256, .f32⟩
  | .hbm, ⟨4, _⟩ => ⟨S2x1024x256, .f32⟩
  | .hbm, ⟨5, _⟩ => ⟨S2x1024x256, .f32⟩
  | .hbm, ⟨6, _⟩ => ⟨S2x1024x256, .f32⟩
  | .hbm, ⟨7, _⟩ => ⟨S2x1024x256, .f32⟩
  | .hbm, ⟨8, _⟩ => ⟨S4x1024x256, .f32⟩
  | .hbm, ⟨9, _⟩ => ⟨S_, .f32⟩
  | .hbm, ⟨10, _⟩ => ⟨S1024x256, .f32⟩
  | .hbm, ⟨11, _⟩ => ⟨S1x1024x256, .f32⟩
  | .hbm, ⟨12, _⟩ => ⟨S1024x256, .f32⟩
  | .hbm, ⟨13, _⟩ => ⟨S1x1024x256, .f32⟩
  | .hbm, ⟨14, _⟩ => ⟨S1024x256, .f32⟩
  | .hbm, ⟨15, _⟩ => ⟨S1x1024x256, .f32⟩
  | .hbm, ⟨16, _⟩ => ⟨S1024x256, .f32⟩
  | .hbm, ⟨17, _⟩ => ⟨S_, .f32⟩
  | .hbm, ⟨18, _⟩ => ⟨S1024x256, .f32⟩
  | .hbm, ⟨19, _⟩ => ⟨S1024x256, .f32⟩
  | .hbm, ⟨20, _⟩ => ⟨S_, .f32⟩
  | .hbm, ⟨21, _⟩ => ⟨S1024x256, .f32⟩
  | .hbm, ⟨22, _⟩ => ⟨S1024x256, .f32⟩
  | .hbm, ⟨23, _⟩ => ⟨S1024x256, .f32⟩
  | .hbm, ⟨24, _⟩ => ⟨S_, .f32⟩
  | .hbm, ⟨25, _⟩ => ⟨S1024x256, .f32⟩
  | .hbm, ⟨26, _⟩ => ⟨S1024x256, .f32⟩
  | .hbm, ⟨27, _⟩ => ⟨S1024x256, .f32⟩
  | .hbm, ⟨28, _⟩ => ⟨S_, .f32⟩
  | .hbm, ⟨29, _⟩ => ⟨S1024x256, .f32⟩
  | .hbm, ⟨30, _⟩ => ⟨S1024x256, .f32⟩
  | .hbm, ⟨31, _⟩ => ⟨S1024x256, .f32⟩
  | .hbm, ⟨32, _⟩ => ⟨S_, .f32⟩
  | .hbm, ⟨33, _⟩ => ⟨S1024x256, .f32⟩
  | .hbm, ⟨34, _⟩ => ⟨S1024x256, .f32⟩
  | .hbm, ⟨35, _⟩ => ⟨S_, .f32⟩
  | .hbm, ⟨36, _⟩ => ⟨S1024x256, .f32⟩
  | .hbm, ⟨37, _⟩ => ⟨S1024x256, .f32⟩
  | .hbm, ⟨38, _⟩ => ⟨S1024x256, .f32⟩
  | .hbm, ⟨39, _⟩ => ⟨S_, .f32⟩
  | .hbm, ⟨40, _⟩ => ⟨S1024x256, .f32⟩
  | .hbm, ⟨41, _⟩ => ⟨S1024x256, .f32⟩
  | .hbm, ⟨42, _⟩ => ⟨S1024x256, .f32⟩
  | .hbm, ⟨43, _⟩ => ⟨S_, .f32⟩
  | .hbm, ⟨44, _⟩ => ⟨S1024x256, .f32⟩
  | .hbm, ⟨45, _⟩ => ⟨S1024x256, .f32⟩
  | .hbm, ⟨46, _⟩ => ⟨S1024x256, .f32⟩
  | .hbm, ⟨47, _⟩ => ⟨S_, .f32⟩
  | .hbm, ⟨48, _⟩ => ⟨S1024x256, .f32⟩
  | .hbm, ⟨49, _⟩ => ⟨S1024x256, .f32⟩
  | .hbm, ⟨50, _⟩ => ⟨S1x1024x256, .f32⟩
  | .hbm, ⟨51, _⟩ => ⟨S1x1024x256, .f32⟩
  | .hbm, ⟨52, _⟩ => ⟨S2x1024x256, .f32⟩
  | .hbm, ⟨53, _⟩ => ⟨S1x1024x256, .f32⟩
  | .hbm, ⟨54, _⟩ => ⟨S1x1024x256, .f32⟩
  | .hbm, ⟨55, _⟩ => ⟨S2x1024x256, .f32⟩
  | .hbm, ⟨56, _⟩ => ⟨S1x1024x256, .f32⟩
  | .hbm, ⟨57, _⟩ => ⟨S1x1024x256, .f32⟩
  | .hbm, ⟨58, _⟩ => ⟨S2x1024x256, .f32⟩
  | .hbm, ⟨59, _⟩ => ⟨S1x1024x256, .f32⟩
  | .hbm, ⟨60, _⟩ => ⟨S1x1024x256, .f32⟩
  | .hbm, ⟨61, _⟩ => ⟨S2x1024x256, .f32⟩
  | _, _ => ⟨S4x1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== KernelWOut.lean ====
abbrev S4x128x1024 : Shape := ⟨3, ![4, 128, 1024]⟩
abbrev S2x128x1024 : Shape := ⟨3, ![2, 128, 1024]⟩
abbrev S1x128x1024 : Shape := ⟨3, ![1, 128, 1024]⟩
abbrev S128x1024 : Shape := ⟨2, ![128, 1024]⟩

abbrev nBuf : Space → Nat
  | .hbm => 12
  | .vmem => 8
  | .smem => 0
  | _ => 0

abbrev bufTy : (tb : Table) → Fin (tcTables nBuf tb) → BufTy
  | .hbm, ⟨0, _⟩ => ⟨S4x128x1024, .bf16⟩
  | .hbm, ⟨1, _⟩ => ⟨S2x128x1024, .f32⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .hbm, ⟨9, _⟩ => ⟨S2x128x1024, .f32⟩
  | .hbm, ⟨10, _⟩ => ⟨S2x128x1024, .f32⟩
  | .hbm, ⟨11, _⟩ => ⟨S2x128x1024, .f32⟩
  | .local _ .vmem, ⟨0, _⟩ => ⟨S4x128x1024, .bf16⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | _, _ => ⟨S4x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S4x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== KernelWOutIdeal.lean ====
abbrev S4x128x1024 : Shape := ⟨3, ![4, 128, 1024]⟩
abbrev S2x128x1024 : Shape := ⟨3, ![2, 128, 1024]⟩
abbrev S1x128x1024 : Shape := ⟨3, ![1, 128, 1024]⟩
abbrev S128x1024 : Shape := ⟨2, ![128, 1024]⟩

abbrev nBuf : Space → Nat
  | .hbm => 12
  | .vmem => 8
  | .smem => 0
  | _ => 0

abbrev bufTy : (tb : Table) → Fin (tcTables nBuf tb) → BufTy
  | .hbm, ⟨0, _⟩ => ⟨S4x128x1024, .bf16⟩
  | .hbm, ⟨1, _⟩ => ⟨S2x128x1024, .f32⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .hbm, ⟨9, _⟩ => ⟨S2x128x1024, .f32⟩
  | .hbm, ⟨10, _⟩ => ⟨S2x128x1024, .f32⟩
  | .hbm, ⟨11, _⟩ => ⟨S2x128x1024, .f32⟩
  | .local _ .vmem, ⟨0, _⟩ => ⟨S4x128x1024, .bf16⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | _, _ => ⟨S4x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S4x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== ReferenceWOutIdeal.lean ====
abbrev S4x128x1024 : Shape := ⟨3, ![4, 128, 1024]⟩
abbrev S2x128x1024 : Shape := ⟨3, ![2, 128, 1024]⟩
abbrev S_ : Shape := ⟨0, ![]⟩
abbrev S128x1024 : Shape := ⟨2, ![128, 1024]⟩
abbrev S1x128x1024 : Shape := ⟨3, ![1, 128, 1024]⟩

abbrev nBuf : Space → Nat
  | .hbm => 62
  | .vmem => 0
  | .smem => 0
  | _ => 0

abbrev bufTy : (tb : Table) → Fin (tcTables nBuf tb) → BufTy
  | .hbm, ⟨0, _⟩ => ⟨S4x128x1024, .bf16⟩
  | .hbm, ⟨1, _⟩ => ⟨S2x128x1024, .f32⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S4x128x1024, .f32⟩
  | .hbm, ⟨9, _⟩ => ⟨S_, .f32⟩
  | .hbm, ⟨10, _⟩ => ⟨S128x1024, .f32⟩
  | .hbm, ⟨11, _⟩ => ⟨S1x128x1024, .f32⟩
  | .hbm, ⟨12, _⟩ => ⟨S128x1024, .f32⟩
  | .hbm, ⟨13, _⟩ => ⟨S1x128x1024, .f32⟩
  | .hbm, ⟨14, _⟩ => ⟨S128x1024, .f32⟩
  | .hbm, ⟨15, _⟩ => ⟨S1x128x1024, .f32⟩
  | .hbm, ⟨16, _⟩ => ⟨S128x1024, .f32⟩
  | .hbm, ⟨17, _⟩ => ⟨S_, .f32⟩
  | .hbm, ⟨18, _⟩ => ⟨S128x1024, .f32⟩
  | .hbm, ⟨19, _⟩ => ⟨S128x1024, .f32⟩
  | .hbm, ⟨20, _⟩ => ⟨S_, .f32⟩
  | .hbm, ⟨21, _⟩ => ⟨S128x1024, .f32⟩
  | .hbm, ⟨22, _⟩ => ⟨S128x1024, .f32⟩
  | .hbm, ⟨23, _⟩ => ⟨S128x1024, .f32⟩
  | .hbm, ⟨24, _⟩ => ⟨S_, .f32⟩
  | .hbm, ⟨25, _⟩ => ⟨S128x1024, .f32⟩
  | .hbm, ⟨26, _⟩ => ⟨S128x1024, .f32⟩
  | .hbm, ⟨27, _⟩ => ⟨S128x1024, .f32⟩
  | .hbm, ⟨28, _⟩ => ⟨S_, .f32⟩
  | .hbm, ⟨29, _⟩ => ⟨S128x1024, .f32⟩
  | .hbm, ⟨30, _⟩ => ⟨S128x1024, .f32⟩
  | .hbm, ⟨31, _⟩ => ⟨S128x1024, .f32⟩
  | .hbm, ⟨32, _⟩ => ⟨S_, .f32⟩
  | .hbm, ⟨33, _⟩ => ⟨S128x1024, .f32⟩
  | .hbm, ⟨34, _⟩ => ⟨S128x1024, .f32⟩
  | .hbm, ⟨35, _⟩ => ⟨S_, .f32⟩
  | .hbm, ⟨36, _⟩ => ⟨S128x1024, .f32⟩
  | .hbm, ⟨37, _⟩ => ⟨S128x1024, .f32⟩
  | .hbm, ⟨38, _⟩ => ⟨S128x1024, .f32⟩
  | .hbm, ⟨39, _⟩ => ⟨S_, .f32⟩
  | .hbm, ⟨40, _⟩ => ⟨S128x1024, .f32⟩
  | .hbm, ⟨41, _⟩ => ⟨S128x1024, .f32⟩
  | .hbm, ⟨42, _⟩ => ⟨S128x1024, .f32⟩
  | .hbm, ⟨43, _⟩ => ⟨S_, .f32⟩
  | .hbm, ⟨44, _⟩ => ⟨S128x1024, .f32⟩
  | .hbm, ⟨45, _⟩ => ⟨S128x1024, .f32⟩
  | .hbm, ⟨46, _⟩ => ⟨S128x1024, .f32⟩
  | .hbm, ⟨47, _⟩ => ⟨S_, .f32⟩
  | .hbm, ⟨48, _⟩ => ⟨S128x1024, .f32⟩
  | .hbm, ⟨49, _⟩ => ⟨S128x1024, .f32⟩
  | .hbm, ⟨50, _⟩ => ⟨S1x128x1024, .f32⟩
  | .hbm, ⟨51, _⟩ => ⟨S1x128x1024, .f32⟩
  | .hbm, ⟨52, _⟩ => ⟨S2x128x1024, .f32⟩
  | .hbm, ⟨53, _⟩ => ⟨S1x128x1024, .f32⟩
  | .hbm, ⟨54, _⟩ => ⟨S1x128x1024, .f32⟩
  | .hbm, ⟨55, _⟩ => ⟨S2x128x1024, .f32⟩
  | .hbm, ⟨56, _⟩ => ⟨S1x128x1024, .f32⟩
  | .hbm, ⟨57, _⟩ => ⟨S1x128x1024, .f32⟩
  | .hbm, ⟨58, _⟩ => ⟨S2x128x1024, .f32⟩
  | .hbm, ⟨59, _⟩ => ⟨S1x128x1024, .f32⟩
  | .hbm, ⟨60, _⟩ => ⟨S1x128x1024, .f32⟩
  | .hbm, ⟨61, _⟩ => ⟨S2x128x1024, .f32⟩
  | _, _ => ⟨S4x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== KernelHgWIn.lean ====
abbrev S4x1024x512 : Shape := ⟨3, ![4, 1024, 512]⟩
abbrev S2x1024x512 : Shape := ⟨3, ![2, 1024, 512]⟩
abbrev S4x256x512 : Shape := ⟨3, ![4, 256, 512]⟩
abbrev S1x256x512 : Shape := ⟨3, ![1, 256, 512]⟩
abbrev S256x512 : Shape := ⟨2, ![256, 512]⟩

abbrev nBuf : Space → Nat
  | .hbm => 12
  | .vmem => 16
  | .smem => 0
  | _ => 0

abbrev bufTy : (tb : Table) → Fin (tcTables nBuf tb) → BufTy
  | .hbm, ⟨0, _⟩ => ⟨S4x1024x512, .bf16⟩
  | .hbm, ⟨1, _⟩ => ⟨S2x1024x512, .f32⟩
  | .hbm, ⟨2, _⟩ => ⟨S2x1024x512, .f32⟩
  | .hbm, ⟨3, _⟩ => ⟨S2x1024x512, .f32⟩
  | .hbm, ⟨4, _⟩ => ⟨S2x1024x512, .f32⟩
  | .hbm, ⟨5, _⟩ => ⟨S2x1024x512, .f32⟩
  | .hbm, ⟨6, _⟩ => ⟨S2x1024x512, .f32⟩
  | .hbm, ⟨7, _⟩ => ⟨S2x1024x512, .f32⟩
  | .hbm, ⟨8, _⟩ => ⟨S2x1024x512, .f32⟩
  | .hbm, ⟨9, _⟩ => ⟨S2x1024x512, .f32⟩
  | .hbm, ⟨10, _⟩ => ⟨S2x1024x512, .f32⟩
  | .hbm, ⟨11, _⟩ => ⟨S2x1024x512, .f32⟩
  | .local _ .vmem, ⟨0, _⟩ => ⟨S4x256x512, .bf16⟩
  | .local _ .vmem, ⟨1, _⟩ => ⟨S4x256x512, .bf16⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | _, _ => ⟨S4x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelHgWInIdeal.lean ====
abbrev S4x1024x512 : Shape := ⟨3, ![4, 1024, 512]⟩
abbrev S2x1024x512 : Shape := ⟨3, ![2, 1024, 512]⟩
abbrev S4x256x512 : Shape := ⟨3, ![4, 256, 512]⟩
abbrev S1x256x512 : Shape := ⟨3, ![1, 256, 512]⟩
abbrev S256x512 : Shape := ⟨2, ![256, 512]⟩

abbrev nBuf : Space → Nat
  | .hbm => 12
  | .vmem => 16
  | .smem => 0
  | _ => 0

abbrev bufTy : (tb : Table) → Fin (tcTables nBuf tb) → BufTy
  | .hbm, ⟨0, _⟩ => ⟨S4x1024x512, .bf16⟩
  | .hbm, ⟨1, _⟩ => ⟨S2x1024x512, .f32⟩
  | .hbm, ⟨2, _⟩ => ⟨S2x1024x512, .f32⟩
  | .hbm, ⟨3, _⟩ => ⟨S2x1024x512, .f32⟩
  | .hbm, ⟨4, _⟩ => ⟨S2x1024x512, .f32⟩
  | .hbm, ⟨5, _⟩ => ⟨S2x1024x512, .f32⟩
  | .hbm, ⟨6, _⟩ => ⟨S2x1024x512, .f32⟩
  | .hbm, ⟨7, _⟩ => ⟨S2x1024x512, .f32⟩
  | .hbm, ⟨8, _⟩ => ⟨S2x1024x512, .f32⟩
  | .hbm, ⟨9, _⟩ => ⟨S2x1024x512, .f32⟩
  | .hbm, ⟨10, _⟩ => ⟨S2x1024x512, .f32⟩
  | .hbm, ⟨11, _⟩ => ⟨S2x1024x512, .f32⟩
  | .local _ .vmem, ⟨0, _⟩ => ⟨S4x256x512, .bf16⟩
  | .local _ .vmem, ⟨1, _⟩ => ⟨S4x256x512, .bf16⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | _, _ => ⟨S4x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceHgWInIdeal.lean ====
abbrev S4x1024x512 : Shape := ⟨3, ![4, 1024, 512]⟩
abbrev S2x1024x512 : Shape := ⟨3, ![2, 1024, 512]⟩
abbrev S_ : Shape := ⟨0, ![]⟩
abbrev S1024x512 : Shape := ⟨2, ![1024, 512]⟩
abbrev S1x1024x512 : Shape := ⟨3, ![1, 1024, 512]⟩

abbrev nBuf : Space → Nat
  | .hbm => 62
  | .vmem => 0
  | .smem => 0
  | _ => 0

abbrev bufTy : (tb : Table) → Fin (tcTables nBuf tb) → BufTy
  | .hbm, ⟨0, _⟩ => ⟨S4x1024x512, .bf16⟩
  | .hbm, ⟨1, _⟩ => ⟨S2x1024x512, .f32⟩
  | .hbm, ⟨2, _⟩ => ⟨S2x1024x512, .f32⟩
  | .hbm, ⟨3, _⟩ => ⟨S2x1024x512, .f32⟩
  | .hbm, ⟨4, _⟩ => ⟨S2x1024x512, .f32⟩
  | .hbm, ⟨5, _⟩ => ⟨S2x1024x512, .f32⟩
  | .hbm, ⟨6, _⟩ => ⟨S2x1024x512, .f32⟩
  | .hbm, ⟨7, _⟩ => ⟨S2x1024x512, .f32⟩
  | .hbm, ⟨8, _⟩ => ⟨S4x1024x512, .f32⟩
  | .hbm, ⟨9, _⟩ => ⟨S_, .f32⟩
  | .hbm, ⟨10, _⟩ => ⟨S1024x512, .f32⟩
  | .hbm, ⟨11, _⟩ => ⟨S1x1024x512, .f32⟩
  | .hbm, ⟨12, _⟩ => ⟨S1024x512, .f32⟩
  | .hbm, ⟨13, _⟩ => ⟨S1x1024x512, .f32⟩
  | .hbm, ⟨14, _⟩ => ⟨S1024x512, .f32⟩
  | .hbm, ⟨15, _⟩ => ⟨S1x1024x512, .f32⟩
  | .hbm, ⟨16, _⟩ => ⟨S1024x512, .f32⟩
  | .hbm, ⟨17, _⟩ => ⟨S_, .f32⟩
  | .hbm, ⟨18, _⟩ => ⟨S1024x512, .f32⟩
  | .hbm, ⟨19, _⟩ => ⟨S1024x512, .f32⟩
  | .hbm, ⟨20, _⟩ => ⟨S_, .f32⟩
  | .hbm, ⟨21, _⟩ => ⟨S1024x512, .f32⟩
  | .hbm, ⟨22, _⟩ => ⟨S1024x512, .f32⟩
  | .hbm, ⟨23, _⟩ => ⟨S1024x512, .f32⟩
  | .hbm, ⟨24, _⟩ => ⟨S_, .f32⟩
  | .hbm, ⟨25, _⟩ => ⟨S1024x512, .f32⟩
  | .hbm, ⟨26, _⟩ => ⟨S1024x512, .f32⟩
  | .hbm, ⟨27, _⟩ => ⟨S1024x512, .f32⟩
  | .hbm, ⟨28, _⟩ => ⟨S_, .f32⟩
  | .hbm, ⟨29, _⟩ => ⟨S1024x512, .f32⟩
  | .hbm, ⟨30, _⟩ => ⟨S1024x512, .f32⟩
  | .hbm, ⟨31, _⟩ => ⟨S1024x512, .f32⟩
  | .hbm, ⟨32, _⟩ => ⟨S_, .f32⟩
  | .hbm, ⟨33, _⟩ => ⟨S1024x512, .f32⟩
  | .hbm, ⟨34, _⟩ => ⟨S1024x512, .f32⟩
  | .hbm, ⟨35, _⟩ => ⟨S_, .f32⟩
  | .hbm, ⟨36, _⟩ => ⟨S1024x512, .f32⟩
  | .hbm, ⟨37, _⟩ => ⟨S1024x512, .f32⟩
  | .hbm, ⟨38, _⟩ => ⟨S1024x512, .f32⟩
  | .hbm, ⟨39, _⟩ => ⟨S_, .f32⟩
  | .hbm, ⟨40, _⟩ => ⟨S1024x512, .f32⟩
  | .hbm, ⟨41, _⟩ => ⟨S1024x512, .f32⟩
  | .hbm, ⟨42, _⟩ => ⟨S1024x512, .f32⟩
  | .hbm, ⟨43, _⟩ => ⟨S_, .f32⟩
  | .hbm, ⟨44, _⟩ => ⟨S1024x512, .f32⟩
  | .hbm, ⟨45, _⟩ => ⟨S1024x512, .f32⟩
  | .hbm, ⟨46, _⟩ => ⟨S1024x512, .f32⟩
  | .hbm, ⟨47, _⟩ => ⟨S_, .f32⟩
  | .hbm, ⟨48, _⟩ => ⟨S1024x512, .f32⟩
  | .hbm, ⟨49, _⟩ => ⟨S1024x512, .f32⟩
  | .hbm, ⟨50, _⟩ => ⟨S1x1024x512, .f32⟩
  | .hbm, ⟨51, _⟩ => ⟨S1x1024x512, .f32⟩
  | .hbm, ⟨52, _⟩ => ⟨S2x1024x512, .f32⟩
  | .hbm, ⟨53, _⟩ => ⟨S1x1024x512, .f32⟩
  | .hbm, ⟨54, _⟩ => ⟨S1x1024x512, .f32⟩
  | .hbm, ⟨55, _⟩ => ⟨S2x1024x512, .f32⟩
  | .hbm, ⟨56, _⟩ => ⟨S1x1024x512, .f32⟩
  | .hbm, ⟨57, _⟩ => ⟨S1x1024x512, .f32⟩
  | .hbm, ⟨58, _⟩ => ⟨S2x1024x512, .f32⟩
  | .hbm, ⟨59, _⟩ => ⟨S1x1024x512, .f32⟩
  | .hbm, ⟨60, _⟩ => ⟨S1x1024x512, .f32⟩
  | .hbm, ⟨61, _⟩ => ⟨S2x1024x512, .f32⟩
  | _, _ => ⟨S4x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== KernelW1.lean ====
abbrev S4x1024x512 : Shape := ⟨3, ![4, 1024, 512]⟩
abbrev S4x256x512 : Shape := ⟨3, ![4, 256, 512]⟩
abbrev S1x256x512 : Shape := ⟨3, ![1, 256, 512]⟩
abbrev S256x512 : Shape := ⟨2, ![256, 512]⟩

abbrev nBuf : Space → Nat
  | .hbm => 12
  | .vmem => 16
  | .smem => 0
  | _ => 0

abbrev bufTy : (tb : Table) → Fin (tcTables nBuf tb) → BufTy
  | .hbm, ⟨0, _⟩ => ⟨S4x1024x512, .bf16⟩
  | .hbm, ⟨1, _⟩ => ⟨S4x1024x512, .f32⟩
  | .hbm, ⟨2, _⟩ => ⟨S4x1024x512, .f32⟩
  | .hbm, ⟨3, _⟩ => ⟨S4x1024x512, .f32⟩
  | .hbm, ⟨4, _⟩ => ⟨S4x1024x512, .f32⟩
  | .hbm, ⟨5, _⟩ => ⟨S4x1024x512, .f32⟩
  | .hbm, ⟨6, _⟩ => ⟨S4x1024x512, .f32⟩
  | .hbm, ⟨7, _⟩ => ⟨S4x1024x512, .f32⟩
  | .hbm, ⟨8, _⟩ => ⟨S4x1024x512, .f32⟩
  | .hbm, ⟨9, _⟩ => ⟨S4x1024x512, .f32⟩
  | .hbm, ⟨10, _⟩ => ⟨S4x1024x512, .f32⟩
  | .hbm, ⟨11, _⟩ => ⟨S4x1024x512, .f32⟩
  | .local _ .vmem, ⟨0, _⟩ => ⟨S4x256x512, .bf16⟩
  | .local _ .vmem, ⟨1, _⟩ => ⟨S4x256x512, .bf16⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | _, _ => ⟨S4x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelW1Ideal.lean ====
abbrev S4x1024x512 : Shape := ⟨3, ![4, 1024, 512]⟩
abbrev S4x256x512 : Shape := ⟨3, ![4, 256, 512]⟩
abbrev S1x256x512 : Shape := ⟨3, ![1, 256, 512]⟩
abbrev S256x512 : Shape := ⟨2, ![256, 512]⟩

abbrev nBuf : Space → Nat
  | .hbm => 12
  | .vmem => 16
  | .smem => 0
  | _ => 0

abbrev bufTy : (tb : Table) → Fin (tcTables nBuf tb) → BufTy
  | .hbm, ⟨0, _⟩ => ⟨S4x1024x512, .bf16⟩
  | .hbm, ⟨1, _⟩ => ⟨S4x1024x512, .f32⟩
  | .hbm, ⟨2, _⟩ => ⟨S4x1024x512, .f32⟩
  | .hbm, ⟨3, _⟩ => ⟨S4x1024x512, .f32⟩
  | .hbm, ⟨4, _⟩ => ⟨S4x1024x512, .f32⟩
  | .hbm, ⟨5, _⟩ => ⟨S4x1024x512, .f32⟩
  | .hbm, ⟨6, _⟩ => ⟨S4x1024x512, .f32⟩
  | .hbm, ⟨7, _⟩ => ⟨S4x1024x512, .f32⟩
  | .hbm, ⟨8, _⟩ => ⟨S4x1024x512, .f32⟩
  | .hbm, ⟨9, _⟩ => ⟨S4x1024x512, .f32⟩
  | .hbm, ⟨10, _⟩ => ⟨S4x1024x512, .f32⟩
  | .hbm, ⟨11, _⟩ => ⟨S4x1024x512, .f32⟩
  | .local _ .vmem, ⟨0, _⟩ => ⟨S4x256x512, .bf16⟩
  | .local _ .vmem, ⟨1, _⟩ => ⟨S4x256x512, .bf16⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | _, _ => ⟨S4x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceW1Ideal.lean ====
abbrev S4x1024x512 : Shape := ⟨3, ![4, 1024, 512]⟩
abbrev S_ : Shape := ⟨0, ![]⟩
abbrev S1024x512 : Shape := ⟨2, ![1024, 512]⟩
abbrev S1x1024x512 : Shape := ⟨3, ![1, 1024, 512]⟩
abbrev S3x1024x512 : Shape := ⟨3, ![3, 1024, 512]⟩

abbrev nBuf : Space → Nat
  | .hbm => 62
  | .vmem => 0
  | .smem => 0
  | _ => 0

abbrev bufTy : (tb : Table) → Fin (tcTables nBuf tb) → BufTy
  | .hbm, ⟨0, _⟩ => ⟨S4x1024x512, .bf16⟩
  | .hbm, ⟨1, _⟩ => ⟨S4x1024x512, .f32⟩
  | .hbm, ⟨2, _⟩ => ⟨S4x1024x512, .f32⟩
  | .hbm, ⟨3, _⟩ => ⟨S4x1024x512, .f32⟩
  | .hbm, ⟨4, _⟩ => ⟨S4x1024x512, .f32⟩
  | .hbm, ⟨5, _⟩ => ⟨S4x1024x512, .f32⟩
  | .hbm, ⟨6, _⟩ => ⟨S4x1024x512, .f32⟩
  | .hbm, ⟨7, _⟩ => ⟨S4x1024x512, .f32⟩
  | .hbm, ⟨8, _⟩ => ⟨S4x1024x512, .f32⟩
  | .hbm, ⟨9, _⟩ => ⟨S_, .f32⟩
  | .hbm, ⟨10, _⟩ => ⟨S1024x512, .f32⟩
  | .hbm, ⟨11, _⟩ => ⟨S1x1024x512, .f32⟩
  | .hbm, ⟨12, _⟩ => ⟨S1024x512, .f32⟩
  | .hbm, ⟨13, _⟩ => ⟨S1x1024x512, .f32⟩
  | .hbm, ⟨14, _⟩ => ⟨S1024x512, .f32⟩
  | .hbm, ⟨15, _⟩ => ⟨S1x1024x512, .f32⟩
  | .hbm, ⟨16, _⟩ => ⟨S1024x512, .f32⟩
  | .hbm, ⟨17, _⟩ => ⟨S_, .f32⟩
  | .hbm, ⟨18, _⟩ => ⟨S1024x512, .f32⟩
  | .hbm, ⟨19, _⟩ => ⟨S1024x512, .f32⟩
  | .hbm, ⟨20, _⟩ => ⟨S_, .f32⟩
  | .hbm, ⟨21, _⟩ => ⟨S1024x512, .f32⟩
  | .hbm, ⟨22, _⟩ => ⟨S1024x512, .f32⟩
  | .hbm, ⟨23, _⟩ => ⟨S1024x512, .f32⟩
  | .hbm, ⟨24, _⟩ => ⟨S_, .f32⟩
  | .hbm, ⟨25, _⟩ => ⟨S1024x512, .f32⟩
  | .hbm, ⟨26, _⟩ => ⟨S1024x512, .f32⟩
  | .hbm, ⟨27, _⟩ => ⟨S1024x512, .f32⟩
  | .hbm, ⟨28, _⟩ => ⟨S_, .f32⟩
  | .hbm, ⟨29, _⟩ => ⟨S1024x512, .f32⟩
  | .hbm, ⟨30, _⟩ => ⟨S1024x512, .f32⟩
  | .hbm, ⟨31, _⟩ => ⟨S1024x512, .f32⟩
  | .hbm, ⟨32, _⟩ => ⟨S_, .f32⟩
  | .hbm, ⟨33, _⟩ => ⟨S1024x512, .f32⟩
  | .hbm, ⟨34, _⟩ => ⟨S1024x512, .f32⟩
  | .hbm, ⟨35, _⟩ => ⟨S_, .f32⟩
  | .hbm, ⟨36, _⟩ => ⟨S1024x512, .f32⟩
  | .hbm, ⟨37, _⟩ => ⟨S1024x512, .f32⟩
  | .hbm, ⟨38, _⟩ => ⟨S1024x512, .f32⟩
  | .hbm, ⟨39, _⟩ => ⟨S_, .f32⟩
  | .hbm, ⟨40, _⟩ => ⟨S1024x512, .f32⟩
  | .hbm, ⟨41, _⟩ => ⟨S1024x512, .f32⟩
  | .hbm, ⟨42, _⟩ => ⟨S1024x512, .f32⟩
  | .hbm, ⟨43, _⟩ => ⟨S_, .f32⟩
  | .hbm, ⟨44, _⟩ => ⟨S1024x512, .f32⟩
  | .hbm, ⟨45, _⟩ => ⟨S1024x512, .f32⟩
  | .hbm, ⟨46, _⟩ => ⟨S1024x512, .f32⟩
  | .hbm, ⟨47, _⟩ => ⟨S_, .f32⟩
  | .hbm, ⟨48, _⟩ => ⟨S1024x512, .f32⟩
  | .hbm, ⟨49, _⟩ => ⟨S1024x512, .f32⟩
  | .hbm, ⟨50, _⟩ => ⟨S1x1024x512, .f32⟩
  | .hbm, ⟨51, _⟩ => ⟨S3x1024x512, .f32⟩
  | .hbm, ⟨52, _⟩ => ⟨S4x1024x512, .f32⟩
  | .hbm, ⟨53, _⟩ => ⟨S1x1024x512, .f32⟩
  | .hbm, ⟨54, _⟩ => ⟨S3x1024x512, .f32⟩
  | .hbm, ⟨55, _⟩ => ⟨S4x1024x512, .f32⟩
  | .hbm, ⟨56, _⟩ => ⟨S1x1024x512, .f32⟩
  | .hbm, ⟨57, _⟩ => ⟨S3x1024x512, .f32⟩
  | .hbm, ⟨58, _⟩ => ⟨S4x1024x512, .f32⟩
  | .hbm, ⟨59, _⟩ => ⟨S1x1024x512, .f32⟩
  | .hbm, ⟨60, _⟩ => ⟨S3x1024x512, .f32⟩
  | .hbm, ⟨61, _⟩ => ⟨S4x1024x512, .f32⟩
  | _, _ => ⟨S4x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== KernelW2.lean ====
abbrev S4x512x1024 : Shape := ⟨3, ![4, 512, 1024]⟩
abbrev S4x128x1024 : Shape := ⟨3, ![4, 128, 1024]⟩
abbrev S1x128x1024 : Shape := ⟨3, ![1, 128, 1024]⟩
abbrev S128x1024 : Shape := ⟨2, ![128, 1024]⟩

abbrev nBuf : Space → Nat
  | .hbm => 12
  | .vmem => 16
  | .smem => 0
  | _ => 0

abbrev bufTy : (tb : Table) → Fin (tcTables nBuf tb) → BufTy
  | .hbm, ⟨0, _⟩ => ⟨S4x512x1024, .bf16⟩
  | .hbm, ⟨1, _⟩ => ⟨S4x512x1024, .f32⟩
  | .hbm, ⟨2, _⟩ => ⟨S4x512x1024, .f32⟩
  | .hbm, ⟨3, _⟩ => ⟨S4x512x1024, .f32⟩
  | .hbm, ⟨4, _⟩ => ⟨S4x512x1024, .f32⟩
  | .hbm, ⟨5, _⟩ => ⟨S4x512x1024, .f32⟩
  | .hbm, ⟨6, _⟩ => ⟨S4x512x1024, .f32⟩
  | .hbm, ⟨7, _⟩ => ⟨S4x512x1024, .f32⟩
  | .hbm, ⟨8, _⟩ => ⟨S4x512x1024, .f32⟩
  | .hbm, ⟨9, _⟩ => ⟨S4x512x1024, .f32⟩
  | .hbm, ⟨10, _⟩ => ⟨S4x512x1024, .f32⟩
  | .hbm, ⟨11, _⟩ => ⟨S4x512x1024, .f32⟩
  | .local _ .vmem, ⟨0, _⟩ => ⟨S4x128x1024, .bf16⟩
  | .local _ .vmem, ⟨1, _⟩ => ⟨S4x128x1024, .bf16⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | _, _ => ⟨S4x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceW2Ideal.lean ====
abbrev S4x512x1024 : Shape := ⟨3, ![4, 512, 1024]⟩
abbrev S_ : Shape := ⟨0, ![]⟩
abbrev S512x1024 : Shape := ⟨2, ![512, 1024]⟩
abbrev S1x512x1024 : Shape := ⟨3, ![1, 512, 1024]⟩
abbrev S3x512x1024 : Shape := ⟨3, ![3, 512, 1024]⟩

abbrev nBuf : Space → Nat
  | .hbm => 62
  | .vmem => 0
  | .smem => 0
  | _ => 0

abbrev bufTy : (tb : Table) → Fin (tcTables nBuf tb) → BufTy
  | .hbm, ⟨0, _⟩ => ⟨S4x512x1024, .bf16⟩
  | .hbm, ⟨1, _⟩ => ⟨S4x512x1024, .f32⟩
  | .hbm, ⟨2, _⟩ => ⟨S4x512x1024, .f32⟩
  | .hbm, ⟨3, _⟩ => ⟨S4x512x1024, .f32⟩
  | .hbm, ⟨4, _⟩ => ⟨S4x512x1024, .f32⟩
  | .hbm, ⟨5, _⟩ => ⟨S4x512x1024, .f32⟩
  | .hbm, ⟨6, _⟩ => ⟨S4x512x1024, .f32⟩
  | .hbm, ⟨7, _⟩ => ⟨S4x512x1024, .f32⟩
  | .hbm, ⟨8, _⟩ => ⟨S4x512x1024, .f32⟩
  | .hbm, ⟨9, _⟩ => ⟨S_, .f32⟩
  | .hbm, ⟨10, _⟩ => ⟨S512x1024, .f32⟩
  | .hbm, ⟨11, _⟩ => ⟨S1x512x1024, .f32⟩
  | .hbm, ⟨12, _⟩ => ⟨S512x1024, .f32⟩
  | .hbm, ⟨13, _⟩ => ⟨S1x512x1024, .f32⟩
  | .hbm, ⟨14, _⟩ => ⟨S512x1024, .f32⟩
  | .hbm, ⟨15, _⟩ => ⟨S1x512x1024, .f32⟩
  | .hbm, ⟨16, _⟩ => ⟨S512x1024, .f32⟩
  | .hbm, ⟨17, _⟩ => ⟨S_, .f32⟩
  | .hbm, ⟨18, _⟩ => ⟨S512x1024, .f32⟩
  | .hbm, ⟨19, _⟩ => ⟨S512x1024, .f32⟩
  | .hbm, ⟨20, _⟩ => ⟨S_, .f32⟩
  | .hbm, ⟨21, _⟩ => ⟨S512x1024, .f32⟩
  | .hbm, ⟨22, _⟩ => ⟨S512x1024, .f32⟩
  | .hbm, ⟨23, _⟩ => ⟨S512x1024, .f32⟩
  | .hbm, ⟨24, _⟩ => ⟨S_, .f32⟩
  | .hbm, ⟨25, _⟩ => ⟨S512x1024, .f32⟩
  | .hbm, ⟨26, _⟩ => ⟨S512x1024, .f32⟩
  | .hbm, ⟨27, _⟩ => ⟨S512x1024, .f32⟩
  | .hbm, ⟨28, _⟩ => ⟨S_, .f32⟩
  | .hbm, ⟨29, _⟩ => ⟨S512x1024, .f32⟩
  | .hbm, ⟨30, _⟩ => ⟨S512x1024, .f32⟩
  | .hbm, ⟨31, _⟩ => ⟨S512x1024, .f32⟩
  | .hbm, ⟨32, _⟩ => ⟨S_, .f32⟩
  | .hbm, ⟨33, _⟩ => ⟨S512x1024, .f32⟩
  | .hbm, ⟨34, _⟩ => ⟨S512x1024, .f32⟩
  | .hbm, ⟨35, _⟩ => ⟨S_, .f32⟩
  | .hbm, ⟨36, _⟩ => ⟨S512x1024, .f32⟩
  | .hbm, ⟨37, _⟩ => ⟨S512x1024, .f32⟩
  | .hbm, ⟨38, _⟩ => ⟨S512x1024, .f32⟩
  | .hbm, ⟨39, _⟩ => ⟨S_, .f32⟩
  | .hbm, ⟨40, _⟩ => ⟨S512x1024, .f32⟩
  | .hbm, ⟨41, _⟩ => ⟨S512x1024, .f32⟩
  | .hbm, ⟨42, _⟩ => ⟨S512x1024, .f32⟩
  | .hbm, ⟨43, _⟩ => ⟨S_, .f32⟩
  | .hbm, ⟨44, _⟩ => ⟨S512x1024, .f32⟩
  | .hbm, ⟨45, _⟩ => ⟨S512x1024, .f32⟩
  | .hbm, ⟨46, _⟩ => ⟨S512x1024, .f32⟩
  | .hbm, ⟨47, _⟩ => ⟨S_, .f32⟩
  | .hbm, ⟨48, _⟩ => ⟨S512x1024, .f32⟩
  | .hbm, ⟨49, _⟩ => ⟨S512x1024, .f32⟩
  | .hbm, ⟨50, _⟩ => ⟨S1x512x1024, .f32⟩
  | .hbm, ⟨51, _⟩ => ⟨S3x512x1024, .f32⟩
  | .hbm, ⟨52, _⟩ => ⟨S4x512x1024, .f32⟩
  | .hbm, ⟨53, _⟩ => ⟨S1x512x1024, .f32⟩
  | .hbm, ⟨54, _⟩ => ⟨S3x512x1024, .f32⟩
  | .hbm, ⟨55, _⟩ => ⟨S4x512x1024, .f32⟩
  | .hbm, ⟨56, _⟩ => ⟨S1x512x1024, .f32⟩
  | .hbm, ⟨57, _⟩ => ⟨S3x512x1024, .f32⟩
  | .hbm, ⟨58, _⟩ => ⟨S4x512x1024, .f32⟩
  | .hbm, ⟨59, _⟩ => ⟨S1x512x1024, .f32⟩
  | .hbm, ⟨60, _⟩ => ⟨S3x512x1024, .f32⟩
  | .hbm, ⟨61, _⟩ => ⟨S4x512x1024, .f32⟩
  | _, _ => ⟨S4x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== Proof.Spec.lean ====
module

public import Mathlib.Data.EReal.Basic
public import Idealize.ShloMosaic.PureOps.Ideal.Laws

@[expose] public section

/-!
The backward pass of the MLP block, over the real numbers: the inputs as real tables and the quantities the two programs compute,
each written once; with them the facts of extended-real arithmetic that the readings share (the literals, a finite sum, a quotient by
1024, the reciprocal root).
-/

namespace Cert.Mlp

open Idealize.ShloMosaic

/-- A finite sum of real numbers, as an extended real, is the sum of the extended reals. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The small number added to the mean square before the root: the literal's own value. -/
noncomputable def eps : ℝ := 8796093 / 2 ^ 43

theorem eps_pos : 0 < eps := by unfold eps; positivity

theorem lit_zero : Ideal.ofBits .f32 0x00000000#32 = ((0 : ℝ) : EReal) := by
  simp [Ideal.ofBits, Ideal.ieee]
theorem lit_one : Ideal.ofBits .f32 0x3F800000#32 = ((1 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num
theorem lit_neg_half : Ideal.ofBits .f32 0xBF000000#32 = ((-(1 / 2) : ℝ) : EReal) := by
  simp [Ideal.ofBits, Ideal.ieee, -EReal.coe_mul]; norm_num
theorem lit_width : Ideal.ofBits .f32 0x44800000#32 = ((1024 : ℝ) : EReal) := by
  simp [Ideal.ofBits, Ideal.ieee, -EReal.coe_mul]; norm_num
theorem lit_eps : Ideal.ofBits .f32 0x358637BD#32 = ((eps : ℝ) : EReal) := by
  unfold eps
  simp [Ideal.ofBits, Ideal.ieee, -EReal.coe_mul]; norm_num
theorem lit_top : Ideal.ofBits .f32 0x7F800000#32 = (⊤ : EReal) := by
  simp [Ideal.ofBits, Ideal.ieee]

/-- The inputs: the residual stream, the mixer's output and the incoming gradient (tokens by features), the two gates, the norm's
    gain, the scale and the shift (features), and the two weight matrices. -/
structure Data where
  X : Fin 2048 → Fin 1024 → ℝ
  Y : Fin 2048 → Fin 1024 → ℝ
  G : Fin 1024 → ℝ
  N : Fin 1024 → ℝ
  SC : Fin 1024 → ℝ
  SH : Fin 1024 → ℝ
  GC : Fin 1024 → ℝ
  W1 : Fin 1024 → Fin 4096 → ℝ
  W2 : Fin 4096 → Fin 1024 → ℝ
  CT : Fin 2048 → Fin 1024 → ℝ

namespace Data

variable (D : Data)

/-- The MLP's input: the residual stream plus the gated mixer output. -/
noncomputable def s (t : Fin 2048) (d : Fin 1024) : ℝ := D.X t d + D.G d * D.Y t d
/-- The mean square of a token's input, plus the small number. -/
noncomputable def m (t : Fin 2048) : ℝ := (∑ d, D.s t d * D.s t d) * (1 / 1024) + eps
/-- The reciprocal of the root of the mean square. -/
noncomputable def r (t : Fin 2048) : ℝ := (√(D.m t))⁻¹
/-- The normalised input. -/
noncomputable def xn (t : Fin 2048) (d : Fin 1024) : ℝ := D.s t d * D.r t
/-- The modulated input: gain, scale and shift applied. -/
noncomputable def h (t : Fin 2048) (d : Fin 1024) : ℝ := D.xn t d * D.N d * (1 + D.SC d) + D.SH d
/-- The hidden layer before the rectifier. -/
noncomputable def a (t : Fin 2048) (f : Fin 4096) : ℝ := ∑ k, D.h t k * D.W1 k f
/-- The gradient at the squared rectifier's output. -/
noncomputable def ds (t : Fin 2048) (f : Fin 4096) : ℝ := ∑ k, (D.CT t k * D.GC k) * D.W2 f k
/-- The gradient at the hidden layer. -/
noncomputable def da (t : Fin 2048) (f : Fin 4096) : ℝ := D.ds t f * (2 * max (D.a t f) 0)
/-- The gradient at the modulated input. -/
noncomputable def dh (t : Fin 2048) (d : Fin 1024) : ℝ := ∑ f, D.da t f * D.W1 d f
/-- The two gains a normalised feature is multiplied by. -/
noncomputable def w (d : Fin 1024) : ℝ := D.N d * (1 + D.SC d)
/-- The gradient at the residual stream. -/
noncomputable def dx (t : Fin 2048) (d : Fin 1024) : ℝ :=
  D.CT t d + D.r t * (D.dh t d * D.w d - D.xn t d * ((∑ k, D.dh t k * D.w k * D.xn t k) * (1 / 1024)))
/-- The gradient at the mixer's output. -/
noncomputable def dy (t : Fin 2048) (d : Fin 1024) : ℝ := D.dx t d * D.G d
/-- The gradients of the gain, the scale, the shift and the gate, and four rows of zeros. -/
noncomputable def rows (i : Fin 8) (d : Fin 1024) : ℝ :=
  if i.val = 0 then (∑ t, D.dh t d * D.xn t d) * (1 + D.SC d)
  else if i.val = 1 then (∑ t, D.dh t d * D.xn t d) * D.N d
  else if i.val = 2 then ∑ t, D.dh t d
  else if i.val = 3 then ∑ t, D.dx t d * D.Y t d
  else 0

theorem m_pos (t : Fin 2048) : 0 < D.m t := by
  unfold m
  have : 0 ≤ ∑ d, D.s t d * D.s t d := Finset.sum_nonneg fun d _ => mul_self_nonneg _
  have := eps_pos
  positivity

theorem m_ne (t : Fin 2048) : D.m t ≠ 0 := (D.m_pos t).ne'

/-- The square of the reciprocal root is the reciprocal. -/
theorem r_mul_r (t : Fin 2048) : D.r t * D.r t = 1 / D.m t := by
  unfold r
  rw [← mul_inv, Real.mul_self_sqrt (D.m_pos t).le, one_div]

/-- The reciprocal root of the mean square over the extended reals. -/
theorem rsqrt_m (t : Fin 2048) : Ideal.rsqrt (D.m t : EReal) = (D.r t : EReal) := by
  rw [Ideal.rsqrt_coe, if_neg (not_lt.2 (D.m_pos t).le), if_neg (D.m_ne t)]
  rfl

/-- Where the rectifier is shut, its output is zero and so is the gradient through its square. -/
theorem da_select (t : Fin 2048) (f : Fin 4096) : (if 0 < D.a t f then D.ds t f * (2 * max (D.a t f) 0) else 0) = D.da t f := by
  unfold da
  split
  · rfl
  · rename_i hn
    rw [max_eq_right (not_lt.1 hn)]; simp

/-- The gradient of the norm as differentiation gives it: through the product by the reciprocal root, and through the mean square. -/
theorem dx_eq (t : Fin 2048) (d : Fin 1024) :
    (D.CT t d + D.dh t d * (1 + D.SC d) * D.N d * D.r t
        + D.s t d * ((∑ k, D.s t k * (D.dh t k * (1 + D.SC k) * D.N k)) * (-(1 / 2) * (D.r t * (1 / D.m t))) * (1 / 1024)))
      + D.s t d * ((∑ k, D.s t k * (D.dh t k * (1 + D.SC k) * D.N k)) * (-(1 / 2) * (D.r t * (1 / D.m t))) * (1 / 1024))
      = D.dx t d := by
  have hS : ∑ k, D.dh t k * D.w k * D.xn t k = (∑ k, D.s t k * (D.dh t k * (1 + D.SC k) * D.N k)) * D.r t := by
    rw [Finset.sum_mul]
    refine Finset.sum_congr rfl fun k _ => ?_
    unfold w xn; ring
  unfold dx
  rw [hS, ← D.r_mul_r]
  unfold w xn
  ring

/-- The scale's gradient, a feature at a time. -/
theorem dsc_eq (d : Fin 1024) : ∑ t, D.xn t d * D.N d * D.dh t d = (∑ t, D.dh t d * D.xn t d) * D.N d := by
  rw [Finset.sum_mul]
  exact Finset.sum_congr rfl fun t _ => by ring

/-- The gain's gradient, a feature at a time. -/
theorem dnorm_eq (d : Fin 1024) : ∑ t, D.xn t d * (D.dh t d * (1 + D.SC d)) = (∑ t, D.dh t d * D.xn t d) * (1 + D.SC d) := by
  rw [Finset.sum_mul]
  exact Finset.sum_congr rfl fun t _ => by ring

end Data

end Cert.Mlp

end
-- ==== Proof.RefRead.lean ====
/-
  The reference's operations over real inputs: each stage, at an index, is the real quantity of the backward pass it stands for.
-/
module

public import proofs.«01_k».proof.Proof.Spec
public import proofs.«01_k».proof.Proof.Gen.ReferenceIdeal.Read

@[expose] public section

noncomputable section

namespace Cert.ReferenceIdeal.Read

open Cert.ReferenceIdeal Cert.ReferenceIdeal.Gen Idealize.ShloMosaic Idealize.ShloMosaic.TcCoe Idealize.ShloMosaic.ValueIdx
open Cert.Mlp

/-- A rank-1 index with the coordinate `d`. -/
theorem at1 {n : Nat} (j : (⟨1, ![n]⟩ : Shape).Idx) (d : Fin n) (h : (j 0).val = d.val) : j = ix1 d :=
  (eq_ix1 j).trans (congrArg ix1 (Fin.ext h))

/-- A rank-2 index with the coordinates `p` and `q`. -/
theorem at2 {m n : Nat} (j : (⟨2, ![m, n]⟩ : Shape).Idx) (p : Fin m) (q : Fin n) (hp : (j 0).val = p.val) (hq : (j 1).val = q.val) :
    j = ix2 p q := by
  funext a
  match a with
  | ⟨0, _⟩ => exact Fin.ext hp
  | ⟨1, _⟩ => exact Fin.ext hq

/-! Where each layout operation, each sum and each product reads its operand. -/

theorem i0 (z : Fin 1) (d : Fin 1024) : idx_main_v0 (ix2 z d) = ix1 d :=
  at1 _ _ (by have := z.isLt; have := d.isLt; dsimp only [ix1, ix2, idx_main_v0]; try omega)

theorem i17 (z : Fin 1) (d : Fin 1024) : idx_main_v17 (ix2 z d) = ix1 d :=
  at1 _ _ (by have := z.isLt; have := d.isLt; dsimp only [ix1, ix2, idx_main_v17]; try omega)

theorem i22 (z : Fin 1) (d : Fin 1024) : idx_main_v22 (ix2 z d) = ix1 d :=
  at1 _ _ (by have := z.isLt; have := d.isLt; dsimp only [ix1, ix2, idx_main_v22]; try omega)

theorem i25 (z : Fin 1) (d : Fin 1024) : idx_main_v25 (ix2 z d) = ix1 d :=
  at1 _ _ (by have := z.isLt; have := d.isLt; dsimp only [ix1, ix2, idx_main_v25]; try omega)

theorem i37 (z : Fin 1) (d : Fin 1024) : idx_main_v37 (ix2 z d) = ix1 d :=
  at1 _ _ (by have := z.isLt; have := d.isLt; dsimp only [ix1, ix2, idx_main_v37]; try omega)

theorem i51 (z : Fin 1) (d : Fin 1024) : idx_main_v51 (ix2 z d) = ix1 d :=
  at1 _ _ (by have := z.isLt; have := d.isLt; dsimp only [ix1, ix2, idx_main_v51]; try omega)

theorem i84 (z : Fin 1) (d : Fin 1024) : idx_main_v84 (ix2 z d) = ix1 d :=
  at1 _ _ (by have := z.isLt; have := d.isLt; dsimp only [ix1, ix2, idx_main_v84]; try omega)

theorem i87 (z : Fin 1) (d : Fin 1024) : idx_main_v87 (ix2 z d) = ix1 d :=
  at1 _ _ (by have := z.isLt; have := d.isLt; dsimp only [ix1, ix2, idx_main_v87]; try omega)

theorem i88 (z : Fin 1) (d : Fin 1024) : idx_main_v88 (ix2 z d) = ix1 d :=
  at1 _ _ (by have := z.isLt; have := d.isLt; dsimp only [ix1, ix2, idx_main_v88]; try omega)

theorem i89 (z : Fin 1) (d : Fin 1024) : idx_main_v89 (ix2 z d) = ix1 d :=
  at1 _ _ (by have := z.isLt; have := d.isLt; dsimp only [ix1, ix2, idx_main_v89]; try omega)

theorem i90 (z : Fin 1) (d : Fin 1024) : idx_main_v90 (ix2 z d) = ix1 d :=
  at1 _ _ (by have := z.isLt; have := d.isLt; dsimp only [ix1, ix2, idx_main_v90]; try omega)

theorem i55 (z : Fin 1) (d : Fin 1024) : idx_main_v55 (ix2 z d) = ix1 d :=
  at1 _ _ (by have := z.isLt; have := d.isLt; dsimp only [ix1, ix2, idx_main_v55]; try omega)

theorem i61 (z : Fin 1) (d : Fin 1024) : idx_main_v61 (ix2 z d) = ix1 d :=
  at1 _ _ (by have := z.isLt; have := d.isLt; dsimp only [ix1, ix2, idx_main_v61]; try omega)

theorem i1 (t : Fin 2048) (d : Fin 1024) : idx_main_v1 (ix2 t d) = ix2 0 d :=
  at2 _ _ _ (by have := t.isLt; have := d.isLt; dsimp only [ix1, ix2, idx_main_v1]; try omega) (by have := t.isLt; have := d.isLt; dsimp only [ix1, ix2, idx_main_v1]; try omega)

theorem i18 (t : Fin 2048) (d : Fin 1024) : idx_main_v18 (ix2 t d) = ix2 0 d :=
  at2 _ _ _ (by have := t.isLt; have := d.isLt; dsimp only [ix1, ix2, idx_main_v18]; try omega) (by have := t.isLt; have := d.isLt; dsimp only [ix1, ix2, idx_main_v18]; try omega)

theorem i23 (t : Fin 2048) (d : Fin 1024) : idx_main_v23 (ix2 t d) = ix2 0 d :=
  at2 _ _ _ (by have := t.isLt; have := d.isLt; dsimp only [ix1, ix2, idx_main_v23]; try omega) (by have := t.isLt; have := d.isLt; dsimp only [ix1, ix2, idx_main_v23]; try omega)

theorem i26 (t : Fin 2048) (d : Fin 1024) : idx_main_v26 (ix2 t d) = ix2 0 d :=
  at2 _ _ _ (by have := t.isLt; have := d.isLt; dsimp only [ix1, ix2, idx_main_v26]; try omega) (by have := t.isLt; have := d.isLt; dsimp only [ix1, ix2, idx_main_v26]; try omega)

theorem i43 (t : Fin 2048) (d : Fin 1024) : idx_main_v43 (ix2 t d) = ix2 0 d :=
  at2 _ _ _ (by have := t.isLt; have := d.isLt; dsimp only [ix1, ix2, idx_main_v43]; try omega) (by have := t.isLt; have := d.isLt; dsimp only [ix1, ix2, idx_main_v43]; try omega)

theorem i56 (t : Fin 2048) (d : Fin 1024) : idx_main_v56 (ix2 t d) = ix2 0 d :=
  at2 _ _ _ (by have := t.isLt; have := d.isLt; dsimp only [ix1, ix2, idx_main_v56]; try omega) (by have := t.isLt; have := d.isLt; dsimp only [ix1, ix2, idx_main_v56]; try omega)

theorem i62 (t : Fin 2048) (d : Fin 1024) : idx_main_v62 (ix2 t d) = ix2 0 d :=
  at2 _ _ _ (by have := t.isLt; have := d.isLt; dsimp only [ix1, ix2, idx_main_v62]; try omega) (by have := t.isLt; have := d.isLt; dsimp only [ix1, ix2, idx_main_v62]; try omega)

theorem i80 (t : Fin 2048) (d : Fin 1024) : idx_main_v80 (ix2 t d) = ix2 0 d :=
  at2 _ _ _ (by have := t.isLt; have := d.isLt; dsimp only [ix1, ix2, idx_main_v80]; try omega) (by have := t.isLt; have := d.isLt; dsimp only [ix1, ix2, idx_main_v80]; try omega)

theorem i41 (t : Fin 2048) (d : Fin 1024) : idx_main_v41 (ix2 t d) = ix2 t d :=
  at2 _ _ _ (by have := t.isLt; have := d.isLt; dsimp only [ix1, ix2, idx_main_v41]; try omega) (by have := t.isLt; have := d.isLt; dsimp only [ix1, ix2, idx_main_v41]; try omega)

theorem i42 (t : Fin 2048) (d : Fin 1024) : idx_main_v42 (ix2 t d) = ix2 t d :=
  at2 _ _ _ (by have := t.isLt; have := d.isLt; dsimp only [ix1, ix2, idx_main_v42]; try omega) (by have := t.isLt; have := d.isLt; dsimp only [ix1, ix2, idx_main_v42]; try omega)

theorem i5 (t : Fin 2048) (k : Fin 1024) : idx_main_v5 (ix1 t) k = ix2 t k :=
  at2 _ _ _ (by have := t.isLt; have := k.isLt; dsimp only [ix1, ix2, idx_main_v5]; try omega) (by have := t.isLt; have := k.isLt; dsimp only [ix1, ix2, idx_main_v5]; try omega)

theorem i66 (t : Fin 2048) (k : Fin 1024) : idx_main_v66 (ix1 t) k = ix2 t k :=
  at2 _ _ _ (by have := t.isLt; have := k.isLt; dsimp only [ix1, ix2, idx_main_v66]; try omega) (by have := t.isLt; have := k.isLt; dsimp only [ix1, ix2, idx_main_v66]; try omega)

theorem i50 (d : Fin 1024) (kt : Fin 2048) : idx_main_v50 (ix1 d) kt = ix2 kt d :=
  at2 _ _ _ (by have := d.isLt; have := kt.isLt; dsimp only [ix1, ix2, idx_main_v50]; try omega) (by have := d.isLt; have := kt.isLt; dsimp only [ix1, ix2, idx_main_v50]; try omega)

theorem i54 (d : Fin 1024) (kt : Fin 2048) : idx_main_v54 (ix1 d) kt = ix2 kt d :=
  at2 _ _ _ (by have := d.isLt; have := kt.isLt; dsimp only [ix1, ix2, idx_main_v54]; try omega) (by have := d.isLt; have := kt.isLt; dsimp only [ix1, ix2, idx_main_v54]; try omega)

theorem i60 (d : Fin 1024) (kt : Fin 2048) : idx_main_v60 (ix1 d) kt = ix2 kt d :=
  at2 _ _ _ (by have := d.isLt; have := kt.isLt; dsimp only [ix1, ix2, idx_main_v60]; try omega) (by have := d.isLt; have := kt.isLt; dsimp only [ix1, ix2, idx_main_v60]; try omega)

theorem i83 (d : Fin 1024) (kt : Fin 2048) : idx_main_v83 (ix1 d) kt = ix2 kt d :=
  at2 _ _ _ (by have := d.isLt; have := kt.isLt; dsimp only [ix1, ix2, idx_main_v83]; try omega) (by have := d.isLt; have := kt.isLt; dsimp only [ix1, ix2, idx_main_v83]; try omega)

theorem i52 (d : Fin 1024) (z : Fin 1) : idx_main_v52 (ix1 d) z = ix2 z d :=
  at2 _ _ _ (by have := d.isLt; have := z.isLt; dsimp only [ix1, ix2, idx_main_v52]; try omega) (by have := d.isLt; have := z.isLt; dsimp only [ix1, ix2, idx_main_v52]; try omega)

theorem i58 (d : Fin 1024) (z : Fin 1) : idx_main_v58 (ix1 d) z = ix2 z d :=
  at2 _ _ _ (by have := d.isLt; have := z.isLt; dsimp only [ix1, ix2, idx_main_v58]; try omega) (by have := d.isLt; have := z.isLt; dsimp only [ix1, ix2, idx_main_v58]; try omega)

theorem i64 (d : Fin 1024) (z : Fin 1) : idx_main_v64 (ix1 d) z = ix2 z d :=
  at2 _ _ _ (by have := d.isLt; have := z.isLt; dsimp only [ix1, ix2, idx_main_v64]; try omega) (by have := d.isLt; have := z.isLt; dsimp only [ix1, ix2, idx_main_v64]; try omega)

theorem i85 (d : Fin 1024) (z : Fin 1) : idx_main_v85 (ix1 d) z = ix2 z d :=
  at2 _ _ _ (by have := d.isLt; have := z.isLt; dsimp only [ix1, ix2, idx_main_v85]; try omega) (by have := d.isLt; have := z.isLt; dsimp only [ix1, ix2, idx_main_v85]; try omega)

theorem i74 (t : Fin 2048) (z : Fin 1) : idx_main_v74 (ix1 t) z = ix2 t z :=
  at2 _ _ _ (by have := t.isLt; have := z.isLt; dsimp only [ix1, ix2, idx_main_v74]; try omega) (by have := t.isLt; have := z.isLt; dsimp only [ix1, ix2, idx_main_v74]; try omega)

theorem i6 (t : Fin 2048) (z : Fin 1) : idx_main_v6 (ix2 t z) = ix1 t :=
  at1 _ _ (by have := t.isLt; have := z.isLt; dsimp only [ix1, ix2, idx_main_v6]; try omega)

theorem i67 (t : Fin 2048) (z : Fin 1) : idx_main_v67 (ix2 t z) = ix1 t :=
  at1 _ _ (by have := t.isLt; have := z.isLt; dsimp only [ix1, ix2, idx_main_v67]; try omega)

theorem i15 (t : Fin 2048) (d : Fin 1024) : idx_main_v15 (ix2 t d) = ix2 t 0 :=
  at2 _ _ _ (by have := t.isLt; have := d.isLt; dsimp only [ix1, ix2, idx_main_v15]; try omega) (by have := t.isLt; have := d.isLt; dsimp only [ix1, ix2, idx_main_v15]; try omega)

theorem i68 (t : Fin 2048) (d : Fin 1024) : idx_main_v68 (ix2 t d) = ix2 t 0 :=
  at2 _ _ _ (by have := t.isLt; have := d.isLt; dsimp only [ix1, ix2, idx_main_v68]; try omega) (by have := t.isLt; have := d.isLt; dsimp only [ix1, ix2, idx_main_v68]; try omega)

theorem i75 (t : Fin 2048) (d : Fin 1024) : idx_main_v75 (ix2 t d) = ix1 t :=
  at1 _ _ (by have := t.isLt; have := d.isLt; dsimp only [ix1, ix2, idx_main_v75]; try omega)

theorem l28 (t : Fin 2048) (f : Fin 4096) (k : Fin 1024) : lidx_main_v28 (ix2 t f) k = ix2 t k :=
  at2 _ _ _ (by have := t.isLt; have := f.isLt; have := k.isLt; dsimp only [ix1, ix2, lidx_main_v28]; try omega) (by have := t.isLt; have := f.isLt; have := k.isLt; dsimp only [ix1, ix2, lidx_main_v28]; try omega)

theorem r28 (t : Fin 2048) (f : Fin 4096) (k : Fin 1024) : ridx_main_v28 (ix2 t f) k = ix2 k f :=
  at2 _ _ _ (by have := t.isLt; have := f.isLt; have := k.isLt; dsimp only [ix1, ix2, ridx_main_v28]; try omega) (by have := t.isLt; have := f.isLt; have := k.isLt; dsimp only [ix1, ix2, ridx_main_v28]; try omega)

theorem l45 (t : Fin 2048) (f : Fin 4096) (k : Fin 1024) : lidx_main_v45 (ix2 t f) k = ix2 t k :=
  at2 _ _ _ (by have := t.isLt; have := f.isLt; have := k.isLt; dsimp only [ix1, ix2, lidx_main_v45]; try omega) (by have := t.isLt; have := f.isLt; have := k.isLt; dsimp only [ix1, ix2, lidx_main_v45]; try omega)

theorem r45 (t : Fin 2048) (f : Fin 4096) (k : Fin 1024) : ridx_main_v45 (ix2 t f) k = ix2 f k :=
  at2 _ _ _ (by have := t.isLt; have := f.isLt; have := k.isLt; dsimp only [ix1, ix2, ridx_main_v45]; try omega) (by have := t.isLt; have := f.isLt; have := k.isLt; dsimp only [ix1, ix2, ridx_main_v45]; try omega)

theorem l49 (t : Fin 2048) (d : Fin 1024) (kf : Fin 4096) : lidx_main_v49 (ix2 t d) kf = ix2 t kf :=
  at2 _ _ _ (by have := t.isLt; have := d.isLt; have := kf.isLt; dsimp only [ix1, ix2, lidx_main_v49]; try omega) (by have := t.isLt; have := d.isLt; have := kf.isLt; dsimp only [ix1, ix2, lidx_main_v49]; try omega)

theorem r49 (t : Fin 2048) (d : Fin 1024) (kf : Fin 4096) : ridx_main_v49 (ix2 t d) kf = ix2 d kf :=
  at2 _ _ _ (by have := t.isLt; have := d.isLt; have := kf.isLt; dsimp only [ix1, ix2, ridx_main_v49]; try omega) (by have := t.isLt; have := d.isLt; have := kf.isLt; dsimp only [ix1, ix2, ridx_main_v49]; try omega)

/-- The ten arguments hold the real tables of `D`. -/
structure Holds (D : Data) (x0 x1 : (⟨S2048x1024, .f32⟩ : BufTy).Contents (Elt Ideal)) (x2 x3 x4 x5 x6 : (⟨S1024, .f32⟩ : BufTy).Contents (Elt Ideal))
    (x7 : (⟨S1024x4096, .f32⟩ : BufTy).Contents (Elt Ideal)) (x8 : (⟨S4096x1024, .f32⟩ : BufTy).Contents (Elt Ideal))
    (x9 : (⟨S2048x1024, .f32⟩ : BufTy).Contents (Elt Ideal)) : Prop where
  h0 : ∀ t d, x0 (ix2 t d) = ((D.X t d : ℝ) : EReal)
  h1 : ∀ t d, x1 (ix2 t d) = ((D.Y t d : ℝ) : EReal)
  h2 : ∀ d, x2 (ix1 d) = ((D.G d : ℝ) : EReal)
  h3 : ∀ d, x3 (ix1 d) = ((D.N d : ℝ) : EReal)
  h4 : ∀ d, x4 (ix1 d) = ((D.SC d : ℝ) : EReal)
  h5 : ∀ d, x5 (ix1 d) = ((D.SH d : ℝ) : EReal)
  h6 : ∀ d, x6 (ix1 d) = ((D.GC d : ℝ) : EReal)
  h7 : ∀ k f, x7 (ix2 k f) = ((D.W1 k f : ℝ) : EReal)
  h8 : ∀ f k, x8 (ix2 f k) = ((D.W2 f k : ℝ) : EReal)
  h9 : ∀ t d, x9 (ix2 t d) = ((D.CT t d : ℝ) : EReal)

variable {D : Data} {x0 x1 x9 : (⟨S2048x1024, .f32⟩ : BufTy).Contents (Elt Ideal)} {x2 x3 x4 x5 x6 : (⟨S1024, .f32⟩ : BufTy).Contents (Elt Ideal)}
  {x7 : (⟨S1024x4096, .f32⟩ : BufTy).Contents (Elt Ideal)} {x8 : (⟨S4096x1024, .f32⟩ : BufTy).Contents (Elt Ideal)}
  (H : Holds D x0 x1 x2 x3 x4 x5 x6 x7 x8 x9)
include H

/-- The MLP's input. -/
theorem v3 (t : Fin 2048) (d : Fin 1024) : val_main_v3 (F := Ideal) x0 x1 x2 (ix2 t d) = ((D.s t d : ℝ) : EReal) := by
  rw [val_main_v3_apply, val_main_v2_apply, val_main_v1_apply, i1, val_main_v0_apply, i0, H.h0, H.h1, H.h2]
  show ((_ : ℝ) : EReal) + ((_ : ℝ) : EReal) * ((_ : ℝ) : EReal) = _
  rw [← EReal.coe_mul, ← EReal.coe_add]; rfl

/-- The mean square plus the small number. -/
theorem v10 (t : Fin 2048) (z : Fin 1) : val_main_v10 (F := Ideal) x0 x1 x2 (ix2 t z) = ((D.m t : ℝ) : EReal) := by
  rw [val_main_v10_apply, val_main_v8_apply, val_main_v9_apply, val_main_v6_apply, i6, val_main_v5_apply, val_main_v7_apply, val_main_cst_apply, val_main_cst_0_apply, val_main_cst_1_apply]
  simp only [i5, val_main_v4_apply, v3 H]
  show Ideal.div (Ideal.ofBits .f32 _ + ∑ k, ((_ : ℝ) : EReal) * ((_ : ℝ) : EReal)) (Ideal.ofBits .f32 _) + Ideal.ofBits .f32 _ = _
  rw [lit_zero, lit_width, lit_eps, Ideal.div_coe (by norm_num)]
  simp only [← EReal.coe_mul, ← coe_sum, ← EReal.coe_add, zero_add]
  rfl

/-- The reciprocal root. -/
theorem v11 (t : Fin 2048) (z : Fin 1) : val_main_v11 (F := Ideal) x0 x1 x2 (ix2 t z) = ((D.r t : ℝ) : EReal) := by
  rw [val_main_v11_apply, v10 H]
  exact D.rsqrt_m t

/-- The derivative of the reciprocal root. -/
theorem v14 (t : Fin 2048) (z : Fin 1) : val_main_v14 (F := Ideal) x0 x1 x2 (ix2 t z) = ((-(1 / 2) * (D.r t * (1 / D.m t)) : ℝ) : EReal) := by
  rw [val_main_v14_apply, val_main_v13_apply, val_main_v12_apply, v10 H, v11 H, val_main_cst_2_apply]
  show Ideal.ofBits .f32 _ * Ideal.div _ _ = _
  rw [lit_neg_half, Ideal.div_coe (D.m_ne t), ← EReal.coe_mul, ← EReal.coe_mul]

/-- The normalised input. -/
theorem v16 (t : Fin 2048) (d : Fin 1024) : val_main_v16 (F := Ideal) x0 x1 x2 (ix2 t d) = ((D.xn t d : ℝ) : EReal) := by
  rw [val_main_v16_apply, val_main_v15_apply, i15, v3 H, v11 H]
  show ((_ : ℝ) : EReal) * ((_ : ℝ) : EReal) = _
  rw [← EReal.coe_mul]; rfl

/-- The normalised input times the gain. -/
theorem v19 (t : Fin 2048) (d : Fin 1024) : val_main_v19 (F := Ideal) x0 x1 x2 x3 (ix2 t d) = ((D.xn t d * D.N d : ℝ) : EReal) := by
  rw [val_main_v19_apply, val_main_v18_apply, i18, val_main_v17_apply, i17, v16 H, H.h3]
  show ((_ : ℝ) : EReal) * ((_ : ℝ) : EReal) = _
  rw [← EReal.coe_mul]

/-- One plus the scale. -/
theorem v22 (z : Fin 1) (d : Fin 1024) : val_main_v22 (F := Ideal) x4 (ix2 z d) = ((1 + D.SC d : ℝ) : EReal) := by
  rw [val_main_v22_apply, i22, val_main_v21_apply, val_main_v20_apply, H.h4, val_main_cst_3_apply]
  show Ideal.ofBits .f32 _ + ((_ : ℝ) : EReal) = _
  rw [lit_one, ← EReal.coe_add]

/-- The modulated input. -/
theorem v27 (t : Fin 2048) (d : Fin 1024) : val_main_v27 (F := Ideal) x0 x1 x2 x3 x4 x5 (ix2 t d) = ((D.h t d : ℝ) : EReal) := by
  rw [val_main_v27_apply, val_main_v24_apply, val_main_v23_apply, i23, val_main_v26_apply, i26, val_main_v25_apply, i25, v19 H, v22 H, H.h5]
  show ((_ : ℝ) : EReal) * ((_ : ℝ) : EReal) + ((_ : ℝ) : EReal) = _
  rw [← EReal.coe_mul, ← EReal.coe_add]; rfl

/-- The hidden layer. -/
theorem v28 (t : Fin 2048) (f : Fin 4096) : val_main_v28 (F := Ideal) x0 x1 x2 x3 x4 x5 x7 (ix2 t f) = ((D.a t f : ℝ) : EReal) := by
  rw [val_main_v28_apply]
  simp only [l28, r28, v27 H, H.h7, ← EReal.coe_mul, ← coe_sum]
  rfl

/-- The rectifier. -/
theorem v29 (t : Fin 2048) (f : Fin 4096) : val_main_v29 (F := Ideal) x0 x1 x2 x3 x4 x5 x7 (ix2 t f) = ((max (D.a t f) 0 : ℝ) : EReal) := by
  rw [val_main_v29_apply, v28 H]
  show max ((_ : ℝ) : EReal) (Ideal.ofBits .f32 0x00000000#32) = _
  rw [lit_zero]
  exact (EReal.coe_strictMono.monotone.map_max).symm

/-- The gradient at the squared rectifier's output. -/
theorem v45 (t : Fin 2048) (f : Fin 4096) : val_main_v45 (F := Ideal) x6 x8 x9 (ix2 t f) = ((D.ds t f : ℝ) : EReal) := by
  rw [val_main_v45_apply]
  simp only [l45, r45, val_main_v44_apply, val_main_v43_apply, i43, val_main_v42_apply, i42, val_main_v37_apply, i37, H.h6, H.h8, H.h9, Data.ds]
  rw [coe_sum]
  refine Finset.sum_congr rfl fun k _ => ?_
  show ((_ : ℝ) : EReal) * ((_ : ℝ) : EReal) * ((_ : ℝ) : EReal) = _
  rw [← EReal.coe_mul, ← EReal.coe_mul, mul_comm (D.CT t k)]

/-- The gradient at the hidden layer. -/
theorem v48 (t : Fin 2048) (f : Fin 4096) : val_main_v48 (F := Ideal) x0 x1 x2 x3 x4 x5 x6 x7 x8 x9 (ix2 t f) = ((D.da t f : ℝ) : EReal) := by
  rw [val_main_v48_apply, val_main_v31_apply, val_main_v46_apply, val_main_v47_apply, val_main_v35_apply, val_main_v34_apply, val_main_v30_apply, v28 H, v29 H, v45 H, val_main_cst_4_apply, val_main_cst_6_apply, val_main_cst_7_apply]
  show (if Ideal.cmp .ogt ((_ : ℝ) : EReal) (Ideal.ofBits .f32 _) = 1 then ((_ : ℝ) : EReal) * (Ideal.ofBits .f32 _ * ((_ : ℝ) : EReal))
    else Ideal.ofBits .f32 _) = _
  rw [lit_zero, lit_two, ← EReal.coe_mul, ← EReal.coe_mul, ← D.da_select]
  unfold Ideal.cmp
  by_cases h : 0 < D.a t f
  · simp [h]
  · simp [h]

/-- The gradient at the modulated input. -/
theorem v49 (t : Fin 2048) (d : Fin 1024) : val_main_v49 (F := Ideal) x0 x1 x2 x3 x4 x5 x6 x7 x8 x9 (ix2 t d) = ((D.dh t d : ℝ) : EReal) := by
  rw [val_main_v49_apply]
  simp only [l49, r49, v48 H, H.h7, ← EReal.coe_mul, ← coe_sum]
  rfl

/-- The gradient after the scale. -/
theorem v57 (t : Fin 2048) (d : Fin 1024) : val_main_v57 (F := Ideal) x0 x1 x2 x3 x4 x5 x6 x7 x8 x9 (ix2 t d) = ((D.dh t d * (1 + D.SC d) : ℝ) : EReal) := by
  rw [val_main_v57_apply, val_main_v56_apply, i56, v49 H, v22 H]
  show ((_ : ℝ) : EReal) * ((_ : ℝ) : EReal) = _
  rw [← EReal.coe_mul]

/-- The gradient at the normalised input. -/
theorem v63 (t : Fin 2048) (d : Fin 1024) : val_main_v63 (F := Ideal) x0 x1 x2 x3 x4 x5 x6 x7 x8 x9 (ix2 t d) = ((D.dh t d * (1 + D.SC d) * D.N d : ℝ) : EReal) := by
  rw [val_main_v63_apply, val_main_v62_apply, i62, val_main_v17_apply, i17, v57 H, H.h3]
  show ((_ : ℝ) : EReal) * ((_ : ℝ) : EReal) = _
  rw [← EReal.coe_mul]

/-- The gradient at the reciprocal root. -/
theorem v66 (t : Fin 2048) : val_main_v66 (F := Ideal) x0 x1 x2 x3 x4 x5 x6 x7 x8 x9 (ix1 t) = ((∑ k, D.s t k * (D.dh t k * (1 + D.SC k) * D.N k) : ℝ) : EReal) := by
  rw [val_main_v66_apply, val_main_cst_14_apply]
  simp only [i66, val_main_v65_apply, v3 H, v63 H]
  show Ideal.ofBits .f32 _ + ∑ k, ((_ : ℝ) : EReal) * ((_ : ℝ) : EReal) = _
  rw [lit_zero]
  simp only [← EReal.coe_mul, ← coe_sum, ← EReal.coe_add, zero_add]

/-- The gradient at a squared input. -/
theorem v75 (t : Fin 2048) (d : Fin 1024) : val_main_v75 (F := Ideal) x0 x1 x2 x3 x4 x5 x6 x7 x8 x9 (ix2 t d) = (((∑ k, D.s t k * (D.dh t k * (1 + D.SC k) * D.N k)) * (-(1 / 2) * (D.r t * (1 / D.m t))) * (1 / 1024) : ℝ) : EReal) := by
  rw [val_main_v75_apply, i75, val_main_v74_apply, val_main_cst_16_apply, Fin.sum_univ_one, i74, val_main_v73_apply, val_main_v71_apply, val_main_v67_apply, i67, val_main_v72_apply, v66 H, v14 H, val_main_cst_15_apply]
  show Ideal.ofBits .f32 _ + Ideal.div (((_ : ℝ) : EReal) * ((_ : ℝ) : EReal)) (Ideal.ofBits .f32 _) = _
  rw [lit_zero, lit_width, Ideal.div_coe (by norm_num)]
  simp only [← EReal.coe_mul, ← EReal.coe_add, zero_add]

/-- The gradient at the residual stream. -/
theorem v79 (t : Fin 2048) (d : Fin 1024) : val_main_v79 (F := Ideal) x0 x1 x2 x3 x4 x5 x6 x7 x8 x9 (ix2 t d) = ((D.dx t d : ℝ) : EReal) := by
  rw [val_main_v79_apply, val_main_v77_apply, val_main_v78_apply, val_main_v76_apply, val_main_v70_apply, val_main_v69_apply, val_main_v41_apply, i41, val_main_v68_apply, i68, v75 H, v63 H, v11 H, v3 H, H.h9]
  show ((_ : ℝ) : EReal) + ((_ : ℝ) : EReal) * ((_ : ℝ) : EReal) + ((_ : ℝ) : EReal) * ((_ : ℝ) : EReal) + ((_ : ℝ) : EReal) * ((_ : ℝ) : EReal) = _
  simp only [← EReal.coe_mul, ← EReal.coe_add]
  rw [← D.dx_eq t d, mul_comm (D.s t d)]

/-- The gradient at the mixer's output. -/
theorem v94 (t : Fin 2048) (d : Fin 1024) : val_main_v94 (F := Ideal) x0 x1 x2 x3 x4 x5 x6 x7 x8 x9 (ix2 t d) = ((D.dy t d : ℝ) : EReal) := by
  rw [val_main_v94_apply, val_main_v81_apply, val_main_v80_apply, i80, val_main_v0_apply, i0, v79 H, H.h2]
  show ((_ : ℝ) : EReal) * ((_ : ℝ) : EReal) = _
  rw [← EReal.coe_mul, mul_comm]; rfl

/-- The gradient at the hidden layer, as it is returned. -/
theorem v86 (t : Fin 2048) (f : Fin 4096) : val_main_v86 (F := Ideal) x0 x1 x2 x3 x4 x5 x6 x7 x8 x9 (ix2 t f) = ((D.da t f : ℝ) : EReal) := by
  rw [val_main_v86_apply, v48 H]; rfl

/-- The gradient of the shift. -/
theorem v52 (d : Fin 1024) : val_main_v52 (F := Ideal) x0 x1 x2 x3 x4 x5 x6 x7 x8 x9 (ix1 d) = ((∑ t, D.dh t d : ℝ) : EReal) := by
  rw [val_main_v52_apply, val_main_cst_9_apply, Fin.sum_univ_one, i52, val_main_v51_apply, i51, val_main_v50_apply, val_main_cst_8_apply]
  simp only [i50, v49 H]
  show Ideal.ofBits .f32 _ + (Ideal.ofBits .f32 _ + ∑ k, ((_ : ℝ) : EReal)) = _
  rw [lit_zero, ← coe_sum, ← EReal.coe_add, ← EReal.coe_add, zero_add, zero_add]

/-- The gradient of the scale. -/
theorem v58 (d : Fin 1024) : val_main_v58 (F := Ideal) x0 x1 x2 x3 x4 x5 x6 x7 x8 x9 (ix1 d) = (((∑ t, D.dh t d * D.xn t d) * D.N d : ℝ) : EReal) := by
  rw [val_main_v58_apply, val_main_cst_11_apply, Fin.sum_univ_one, i58, val_main_v55_apply, i55, val_main_v54_apply, val_main_cst_10_apply]
  simp only [i54, val_main_v53_apply, v19 H, v49 H]
  show Ideal.ofBits .f32 _ + (Ideal.ofBits .f32 _ + ∑ k, ((_ : ℝ) : EReal) * ((_ : ℝ) : EReal)) = _
  simp only [← EReal.coe_mul]
  rw [lit_zero, ← coe_sum, ← EReal.coe_add, ← EReal.coe_add, zero_add, zero_add]
  rw [← D.dsc_eq]

/-- The gradient of the gain. -/
theorem v64 (d : Fin 1024) : val_main_v64 (F := Ideal) x0 x1 x2 x3 x4 x5 x6 x7 x8 x9 (ix1 d) = (((∑ t, D.dh t d * D.xn t d) * (1 + D.SC d) : ℝ) : EReal) := by
  rw [val_main_v64_apply, val_main_cst_13_apply, Fin.sum_univ_one, i64, val_main_v61_apply, i61, val_main_v60_apply, val_main_cst_12_apply]
  simp only [i60, val_main_v59_apply, v16 H, v57 H]
  show Ideal.ofBits .f32 _ + (Ideal.ofBits .f32 _ + ∑ k, ((_ : ℝ) : EReal) * ((_ : ℝ) : EReal)) = _
  simp only [← EReal.coe_mul]
  rw [lit_zero, ← coe_sum, ← EReal.coe_add, ← EReal.coe_add, zero_add, zero_add]
  rw [← D.dnorm_eq]

/-- The gradient of the gate. -/
theorem v85 (d : Fin 1024) : val_main_v85 (F := Ideal) x0 x1 x2 x3 x4 x5 x6 x7 x8 x9 (ix1 d) = ((∑ t, D.dx t d * D.Y t d : ℝ) : EReal) := by
  rw [val_main_v85_apply, val_main_cst_18_apply, Fin.sum_univ_one, i85, val_main_v84_apply, i84, val_main_v83_apply, val_main_cst_17_apply]
  simp only [i83, val_main_v82_apply, v79 H, H.h1]
  show Ideal.ofBits .f32 _ + (Ideal.ofBits .f32 _ + ∑ k, ((_ : ℝ) : EReal) * ((_ : ℝ) : EReal)) = _
  simp only [← EReal.coe_mul]
  rw [lit_zero, ← coe_sum, ← EReal.coe_add, ← EReal.coe_add, zero_add, zero_add]

theorem v93_0 (d : Fin 1024) : val_main_v93 (F := Ideal) x0 x1 x2 x3 x4 x5 x6 x7 x8 x9 (ix2 0 d) = ((D.rows 0 d : ℝ) : EReal) := by
  unfold val_main_v93
  refine (concatenate_pair_apply_left (t := S8x1024) (s₁ := S4x1024) (s₂ := S4x1024) (0 : Fin 2) _ _ concatenates_S4x1024_S4x1024_S8x1024_d0 (ix2 0 d) rfl (ix2 (0 : Fin 4) d)
    (fun b => by match b with | ⟨0, _⟩ => rfl | ⟨1, _⟩ => rfl)).trans ?_
  unfold val_main_v91
  refine (concatenate_apply_piece (t := S4x1024) (0 : Fin 2)
    [⟨S1x1024, val_main_v87 (F := Ideal) x0 x1 x2 x3 x4 x5 x6 x7 x8 x9⟩, ⟨S1x1024, val_main_v88 (F := Ideal) x0 x1 x2 x3 x4 x5 x6 x7 x8 x9⟩,
      ⟨S1x1024, val_main_v89 (F := Ideal) x0 x1 x2 x3 x4 x5 x6 x7 x8 x9⟩, ⟨S1x1024, val_main_v90 (F := Ideal) x0 x1 x2 x3 x4 x5 x6 x7 x8 x9⟩] concatenates_S1x1024_S1x1024_S1x1024_S1x1024_S4x1024_d0 (ix2 0 d) 0 (by show 0 < 4; omega) S1x1024
    (val_main_v87 (F := Ideal) x0 x1 x2 x3 x4 x5 x6 x7 x8 x9) rfl rfl 0 rfl (ix2 0 d)
    (fun b hb => by match b with | ⟨0, _⟩ => exact absurd rfl hb | ⟨1, _⟩ => rfl) rfl).trans ?_
  rw [val_main_v87_apply, i87, v64 H]
  rfl

theorem v93_1 (d : Fin 1024) : val_main_v93 (F := Ideal) x0 x1 x2 x3 x4 x5 x6 x7 x8 x9 (ix2 1 d) = ((D.rows 1 d : ℝ) : EReal) := by
  unfold val_main_v93
  refine (concatenate_pair_apply_left (t := S8x1024) (s₁ := S4x1024) (s₂ := S4x1024) (0 : Fin 2) _ _ concatenates_S4x1024_S4x1024_S8x1024_d0 (ix2 1 d) rfl (ix2 (1 : Fin 4) d)
    (fun b => by match b with | ⟨0, _⟩ => rfl | ⟨1, _⟩ => rfl)).trans ?_
  unfold val_main_v91
  refine (concatenate_apply_piece (t := S4x1024) (0 : Fin 2)
    [⟨S1x1024, val_main_v87 (F := Ideal) x0 x1 x2 x3 x4 x5 x6 x7 x8 x9⟩, ⟨S1x1024, val_main_v88 (F := Ideal) x0 x1 x2 x3 x4 x5 x6 x7 x8 x9⟩,
      ⟨S1x1024, val_main_v89 (F := Ideal) x0 x1 x2 x3 x4 x5 x6 x7 x8 x9⟩, ⟨S1x1024, val_main_v90 (F := Ideal) x0 x1 x2 x3 x4 x5 x6 x7 x8 x9⟩] concatenates_S1x1024_S1x1024_S1x1024_S1x1024_S4x1024_d0 (ix2 1 d) 1 (by show 1 < 4; omega) S1x1024
    (val_main_v88 (F := Ideal) x0 x1 x2 x3 x4 x5 x6 x7 x8 x9) rfl rfl 1 rfl (ix2 0 d)
    (fun b hb => by match b with | ⟨0, _⟩ => exact absurd rfl hb | ⟨1, _⟩ => rfl) rfl).trans ?_
  rw [val_main_v88_apply, i88, v58 H]
  rfl

theorem v93_2 (d : Fin 1024) : val_main_v93 (F := Ideal) x0 x1 x2 x3 x4 x5 x6 x7 x8 x9 (ix2 2 d) = ((D.rows 2 d : ℝ) : EReal) := by
  unfold val_main_v93
  refine (concatenate_pair_apply_left (t := S8x1024) (s₁ := S4x1024) (s₂ := S4x1024) (0 : Fin 2) _ _ concatenates_S4x1024_S4x1024_S8x1024_d0 (ix2 2 d) rfl (ix2 (2 : Fin 4) d)
    (fun b => by match b with | ⟨0, _⟩ => rfl | ⟨1, _⟩ => rfl)).trans ?_
  unfold val_main_v91
  refine (concatenate_apply_piece (t := S4x1024) (0 : Fin 2)
    [⟨S1x1024, val_main_v87 (F := Ideal) x0 x1 x2 x3 x4 x5 x6 x7 x8 x9⟩, ⟨S1x1024, val_main_v88 (F := Ideal) x0 x1 x2 x3 x4 x5 x6 x7 x8 x9⟩,
      ⟨S1x1024, val_main_v89 (F := Ideal) x0 x1 x2 x3 x4 x5 x6 x7 x8 x9⟩, ⟨S1x1024, val_main_v90 (F := Ideal) x0 x1 x2 x3 x4 x5 x6 x7 x8 x9⟩] concatenates_S1x1024_S1x1024_S1x1024_S1x1024_S4x1024_d0 (ix2 2 d) 2 (by show 2 < 4; omega) S1x1024
    (val_main_v89 (F := Ideal) x0 x1 x2 x3 x4 x5 x6 x7 x8 x9) rfl rfl 2 rfl (ix2 0 d)
    (fun b hb => by match b with | ⟨0, _⟩ => exact absurd rfl hb | ⟨1, _⟩ => rfl) rfl).trans ?_
  rw [val_main_v89_apply, i89, v52 H]
  rfl

theorem v93_3 (d : Fin 1024) : val_main_v93 (F := Ideal) x0 x1 x2 x3 x4 x5 x6 x7 x8 x9 (ix2 3 d) = ((D.rows 3 d : ℝ) : EReal) := by
  unfold val_main_v93
  refine (concatenate_pair_apply_left (t := S8x1024) (s₁ := S4x1024) (s₂ := S4x1024) (0 : Fin 2) _ _ concatenates_S4x1024_S4x1024_S8x1024_d0 (ix2 3 d) rfl (ix2 (3 : Fin 4) d)
    (fun b => by match b with | ⟨0, _⟩ => rfl | ⟨1, _⟩ => rfl)).trans ?_
  unfold val_main_v91
  refine (concatenate_apply_piece (t := S4x1024) (0 : Fin 2)
    [⟨S1x1024, val_main_v87 (F := Ideal) x0 x1 x2 x3 x4 x5 x6 x7 x8 x9⟩, ⟨S1x1024, val_main_v88 (F := Ideal) x0 x1 x2 x3 x4 x5 x6 x7 x8 x9⟩,
      ⟨S1x1024, val_main_v89 (F := Ideal) x0 x1 x2 x3 x4 x5 x6 x7 x8 x9⟩, ⟨S1x1024, val_main_v90 (F := Ideal) x0 x1 x2 x3 x4 x5 x6 x7 x8 x9⟩] concatenates_S1x1024_S1x1024_S1x1024_S1x1024_S4x1024_d0 (ix2 3 d) 3 (by show 3 < 4; omega) S1x1024
    (val_main_v90 (F := Ideal) x0 x1 x2 x3 x4 x5 x6 x7 x8 x9) rfl rfl 3 rfl (ix2 0 d)
    (fun b hb => by match b with | ⟨0, _⟩ => exact absurd rfl hb | ⟨1, _⟩ => rfl) rfl).trans ?_
  rw [val_main_v90_apply, i90, v85 H]
  rfl

/-- The eight rows: the gradients of the gain, the scale, the shift and the gate, then four rows of zeros. -/
theorem v93 (i : Fin 8) (d : Fin 1024) :
    val_main_v93 (F := Ideal) x0 x1 x2 x3 x4 x5 x6 x7 x8 x9 (ix2 i d) = ((D.rows i d : ℝ) : EReal) := by
  by_cases hi : i.val < 4
  · obtain ⟨n, hn⟩ := i
    dsimp only at hi
    interval_cases n
    · exact v93_0 H d
    · exact v93_1 H d
    · exact v93_2 H d
    · exact v93_3 H d
  · have h8 : i.val < 8 := i.isLt
    have hz : D.rows i d = 0 := by
      unfold Data.rows
      rw [if_neg (by omega), if_neg (by omega), if_neg (by omega), if_neg (by omega)]
    rw [hz]
    unfold val_main_v93
    refine (concatenate_pair_apply_right (t := S8x1024) (s₁ := S4x1024) (s₂ := S4x1024) (0 : Fin 2) _ _ concatenates_S4x1024_S4x1024_S8x1024_d0 (ix2 i d) rfl rfl
      (ix2 (⟨i.val - 4, by omega⟩ : Fin 4) d) (fun b hb => by match b with | ⟨0, _⟩ => exact absurd rfl hb | ⟨1, _⟩ => rfl)
      (by show (i.val - 4) + 4 = i.val; omega)).trans ?_
    rw [val_main_v92_apply]
    exact lit_zero

end Cert.ReferenceIdeal.Read

end
-- ==== Proof.RowStore.lean ====
/-
  Stores of one row of an accumulator. A list of stores read back over nothing is a chain of `VecWindow.put`s, and a
  put of the row `k` changes the row `k` and nothing else.
-/
module

public import Idealize.ShloMosaic.Lib.VecWindow
public import Idealize.ShloMosaic.Lib.ValueIdx

@[expose] public section

noncomputable section

namespace Idealize.ShloMosaic

open Idealize.ShloMosaic.ValueIdx

variable {Val : EltTy → Type} {e : EltTy}

/-- The last store of a list of stores is put over what the earlier ones leave. -/
theorem View.canon_cons_put [∀ e, Nonempty (Val e)] {s : Shape} {off size : Fin s.rank → ℕ} (inb : ∀ a, off a + size a ≤ s.size a)
    (w : (Rect.unit off size inb).shape.Idx → Val e) (L : List (View.Piece Val s e)) :
    View.canon ((⟨Rect.unit off size inb, w⟩ : View.Piece Val s e) :: L) = VecWindow.put (View.canon L) off size w := by
  funext y
  by_cases h : ∀ a, off a ≤ (y a).val ∧ (y a).val < off a + size a
  · have hy : (Rect.unit off size inb).emb (Rect.unitLocal (s := s) (off := off) (size := size) y h) = y := funext fun a => Fin.ext (by
      show off a + 1 * ((y a).val - off a) = (y a).val
      have := h a
      omega)
    have e1 := View.canon_cons_emb (Val := Val) (Rect.unit off size inb) w L (Rect.unitLocal (s := s) (off := off) (size := size) y h)
    rw [hy] at e1
    exact e1.trans (by unfold VecWindow.put; rw [dif_pos h])
  · rw [View.canon_cons_of_not_mem (Val := Val) ⟨Rect.unit off size inb, w⟩ L (fun hm => h ((Rect.mem_set_unit (inb := inb)).mp hm))]
    unfold VecWindow.put
    rw [dif_neg h]

/-- A load of what a list of stores leaves. -/
theorem View.readCov_eq_ld [∀ e, Nonempty (Val e)] {sig : RefSig} {κ : Kind} {sp : Space} {s : Shape} (v : View sig κ sp s e)
    (L : List (View.Piece Val s e)) (r : Rect s) : v.readCov L r.toLoadRect = View.ld (View.canon L) r :=
  (View.readCov_eq_canon' v L r.toLoadRect).trans rfl

/-- The row `k` just put, at one of its columns, is the payload there; any other row is as it was. -/
theorem VecWindow.put_row_apply {α : Type} {m n : ℕ} (X : (⟨2, ![m, n]⟩ : Shape).Idx → α) (k : ℕ)
    (w : (⟨2, ![1, n]⟩ : Shape).Idx → α) (r : Fin m) (c : Fin n) :
    VecWindow.put (s := ⟨2, ![m, n]⟩) X ![k, 0] ![1, n] w (ix2 r c) = if r.val = k then w (ix2 0 c) else X (ix2 r c) := by
  by_cases hr : r.val = k
  · have h : ∀ a : Fin 2, (![k, 0] : Fin 2 → ℕ) a ≤ ((ix2 r c : (⟨2, ![m, n]⟩ : Shape).Idx) a).val
        ∧ ((ix2 r c : (⟨2, ![m, n]⟩ : Shape).Idx) a).val < (![k, 0] : Fin 2 → ℕ) a + (![1, n] : Fin 2 → ℕ) a := fun a => by
      match a with
      | ⟨0, _⟩ => exact ⟨hr.ge, by show r.val < k + 1; omega⟩
      | ⟨1, _⟩ => exact ⟨Nat.zero_le _, by show c.val < 0 + n; have := c.isLt; omega⟩
    rw [if_pos hr]
    refine (dif_pos h).trans (congrArg w (funext fun a => Fin.ext ?_))
    match a with
    | ⟨0, _⟩ => show r.val - k = 0; omega
    | ⟨1, _⟩ => show c.val - 0 = c.val; omega
  · rw [if_neg hr]
    refine dif_neg fun h => hr ?_
    have h0 := h (0 : Fin 2)
    have h1 : k ≤ r.val := h0.1
    have h2 : r.val < k + 1 := h0.2
    omega

/-- A load of the row `k` of a matrix, at a column. -/
theorem View.ld_row_apply {m n k : ℕ} (X : (⟨2, ![m, n]⟩ : Shape).Idx → Val e) (inb : ∀ a : Fin 2, (![k, 0] : Fin 2 → ℕ) a + (![1, n] : Fin 2 → ℕ) a ≤ (![m, n] : Fin 2 → ℕ) a)
    (hk : k < m) (r : Fin 1) (c : Fin n) :
    View.ld (Val := Val) X (Rect.unit (s := ⟨2, ![m, n]⟩) ![k, 0] ![1, n] inb) (ix2 r c) = X (ix2 ⟨k, hk⟩ c) :=
  congrArg X (funext fun a => Fin.ext (by
    match a with
    | ⟨0, _⟩ => show k + 1 * r.val = k; have := r.isLt; omega
    | ⟨1, _⟩ => show 0 + 1 * c.val = c.val; omega))

end Idealize.ShloMosaic
-- ==== Proof.Points.lean ====
/-
  What one grid point of the kernel leaves in its four outputs, over any float operations: the gradient of the MLP's
  hidden layer, the gradient of the stream, the gradient of the mixer's branch, and the eight rows of sums that the
  points accumulate. The block terms are the payloads of the kernel's body at the point's input blocks.
-/
module

public import proofs.«01_k».proof.Proof.RowStore
public import proofs.«01_k».proof.Proof.Gen.KernelIdeal.Value
public import Idealize.ShloMosaic.Lib.Tactic
public import Idealize.ShloMosaic.Lib.Pipeline.ReadBack

@[expose] public section

noncomputable section

namespace Cert.KernelIdeal.Points

open Cert.KernelIdeal Cert.KernelIdeal.Gen Idealize.ShloMosaic Idealize.ShloMosaic.TcCoe Idealize.SL.Sem

variable {F : FTy → Type} [FloatOps F]

/-- The zero offsets. -/
theorem hz : (![0, 0] : Fin 2 → Nat) = fun _ => 0 := funext fun a => by fin_cases a <;> rfl

/-- The row `k` of a group of eight rows. -/
abbrev row0 (X : Vec F S8x1024 .f32) : Vec F S1x1024 .f32 := View.ld X (Rect.unit (s := S8x1024) ![0, 0] ![1, 1024] inb_S8x1024_S1x1024_0_0)
@[inherit_doc row0] abbrev row1 (X : Vec F S8x1024 .f32) : Vec F S1x1024 .f32 := View.ld X (Rect.unit (s := S8x1024) ![1, 0] ![1, 1024] inb_S8x1024_S1x1024_1_0)
@[inherit_doc row0] abbrev row2 (X : Vec F S8x1024 .f32) : Vec F S1x1024 .f32 := View.ld X (Rect.unit (s := S8x1024) ![2, 0] ![1, 1024] inb_S8x1024_S1x1024_2_0)
@[inherit_doc row0] abbrev row3 (X : Vec F S8x1024 .f32) : Vec F S1x1024 .f32 := View.ld X (Rect.unit (s := S8x1024) ![3, 0] ![1, 1024] inb_S8x1024_S1x1024_3_0)

/-- The row `k` of a group of eight rows replaced. -/
abbrev set0 (X : Vec F S8x1024 .f32) (w : Vec F S1x1024 .f32) : Vec F S8x1024 .f32 := VecWindow.put X ![0, 0] ![1, 1024] w
@[inherit_doc set0] abbrev set1 (X : Vec F S8x1024 .f32) (w : Vec F S1x1024 .f32) : Vec F S8x1024 .f32 := VecWindow.put X ![1, 0] ![1, 1024] w
@[inherit_doc set0] abbrev set2 (X : Vec F S8x1024 .f32) (w : Vec F S1x1024 .f32) : Vec F S8x1024 .f32 := VecWindow.put X ![2, 0] ![1, 1024] w
@[inherit_doc set0] abbrev set3 (X : Vec F S8x1024 .f32) (w : Vec F S1x1024 .f32) : Vec F S8x1024 .f32 := VecWindow.put X ![3, 0] ![1, 1024] w

section Terms
variable (x0 : Vec F S256x1024 .bf16) (x1 : Vec F S256x4096 .bf16) (x2 : Vec F S1024x4096 .bf16) (x3 : Vec F S4096x1024 .bf16) (x4 : Vec F S256x1024 .f32) (x5 : Vec F S8x1024 .f32) (x6 : Vec F S256x1024 .f32) (x7 : Vec F S256x1024 .bf16) (x8 : Vec F S8x1024 .f32) (xo : Vec F S8x1024 .f32)

/-- The gradient of the MLP's hidden layer on the block. -/
def daB : Vec F S256x4096 .bf16 := k0_pay5 x0 x3 x1
/-- The gradient of the MLP's input on the block. -/
def dhB : FVec F S256x1024 .f32 := k0_pay6 x0 x3 x1 x2
/-- The gradient of the stream on the block. -/
def dxB : Vec F S256x1024 .f32 :=
  k0_pay14 (dhB x0 x1 x2 x3) (k0_pay9 x4) (k0_pay10 x4) (k0_pay11 (row0 x5)) (row1 x5) x6
/-- The gradient of the mixer's branch on the block. -/
def dyB : Vec F S256x1024 .bf16 :=
  k0_pay15 (dhB x0 x1 x2 x3) (k0_pay9 x4) (k0_pay10 x4) (k0_pay11 (row0 x5)) (row1 x5) x6 (row0 x8)
/-- The accumulated rows with the block's sums added: row 0 the gain's, row 2 the shift's, row 3 the gate's. -/
def step : Vec F S8x1024 .f32 :=
  set3 (set2 (set0 xo (k0_pay12 (dhB x0 x1 x2 x3) (k0_pay10 x4) (row0 xo))) (k0_pay13 (dhB x0 x1 x2 x3) (row2 xo)))
    (k0_pay1 (dxB x0 x1 x2 x3 x4 x5 x6) (row3 xo) x7)
/-- What the last point makes of the accumulated rows: row 0 times the scale, and in row 1 row 0 times the gain. -/
def fin (xo : Vec F S8x1024 .f32) : Vec F S8x1024 .f32 :=
  set0 (set1 xo (k0_pay3 (row0 xo) (row0 x5))) (k0_pay4 (row0 xo) (row1 x5))

end Terms

/-! ## The rows of a group after a row was replaced -/

/-- A row read back after it was replaced. -/
theorem row0_set0 (X : Vec F S8x1024 .f32) (w : Vec F S1x1024 .f32) : row0 (set0 X w) = w := VecWindow.window_put_same X _ _ inb_S8x1024_S1x1024_0_0 w
/-- A row read back after another was replaced. -/
theorem row0_set2 (X : Vec F S8x1024 .f32) (w : Vec F S1x1024 .f32) : row0 (set2 X w) = row0 X := VecWindow.window_put_of_disjoint X _ _ _ _ inb_S8x1024_S1x1024_0_0 w 0 (by decide)
@[inherit_doc row0_set2] theorem row0_set3 (X : Vec F S8x1024 .f32) (w : Vec F S1x1024 .f32) : row0 (set3 X w) = row0 X := VecWindow.window_put_of_disjoint X _ _ _ _ inb_S8x1024_S1x1024_0_0 w 0 (by decide)
@[inherit_doc row0_set2] theorem row2_set0 (X : Vec F S8x1024 .f32) (w : Vec F S1x1024 .f32) : row2 (set0 X w) = row2 X := VecWindow.window_put_of_disjoint X _ _ _ _ inb_S8x1024_S1x1024_2_0 w 0 (by decide)
@[inherit_doc row0_set2] theorem row3_set0 (X : Vec F S8x1024 .f32) (w : Vec F S1x1024 .f32) : row3 (set0 X w) = row3 X := VecWindow.window_put_of_disjoint X _ _ _ _ inb_S8x1024_S1x1024_3_0 w 0 (by decide)
@[inherit_doc row0_set2] theorem row3_set2 (X : Vec F S8x1024 .f32) (w : Vec F S1x1024 .f32) : row3 (set2 X w) = row3 X := VecWindow.window_put_of_disjoint X _ _ _ _ inb_S8x1024_S1x1024_3_0 w 0 (by decide)
@[inherit_doc row0_set2] theorem row0_set1 (X : Vec F S8x1024 .f32) (w : Vec F S1x1024 .f32) : row0 (set1 X w) = row0 X := VecWindow.window_put_of_disjoint X _ _ _ _ inb_S8x1024_S1x1024_0_0 w 0 (by decide)

/-- Each row read where the rows before it were already replaced. -/
theorem step_raw (x0 : Vec F S256x1024 .bf16) (x1 : Vec F S256x4096 .bf16) (x2 : Vec F S1024x4096 .bf16) (x3 : Vec F S4096x1024 .bf16)
    (x4 : Vec F S256x1024 .f32) (x5 : Vec F S8x1024 .f32) (x6 : Vec F S256x1024 .f32) (x7 : Vec F S256x1024 .bf16) (xo : Vec F S8x1024 .f32) :
    (let s0 := set0 xo (k0_pay12 (dhB x0 x1 x2 x3) (k0_pay10 x4) (row0 xo))
     let s2 := set2 s0 (k0_pay13 (dhB x0 x1 x2 x3) (row2 s0))
     set3 s2 (k0_pay1 (dxB x0 x1 x2 x3 x4 x5 x6) (row3 s2) x7)) = step x0 x1 x2 x3 x4 x5 x6 x7 xo := by
  dsimp only
  rw [row2_set0, row3_set2, row3_set0]
  rfl

/-- The last point reads row 0 where its own sums were already put, whatever was under them. -/
theorem fin_raw (x0 : Vec F S256x1024 .bf16) (x1 : Vec F S256x4096 .bf16) (x2 : Vec F S1024x4096 .bf16) (x3 : Vec F S4096x1024 .bf16)
    (x4 : Vec F S256x1024 .f32) (x5 : Vec F S8x1024 .f32) (x6 : Vec F S256x1024 .f32) (x7 : Vec F S256x1024 .bf16) (xo Z : Vec F S8x1024 .f32) :
    (let over := fun X : Vec F S8x1024 .f32 => set3 (set2 (set0 X (k0_pay12 (dhB x0 x1 x2 x3) (k0_pay10 x4) (row0 xo))) (k0_pay13 (dhB x0 x1 x2 x3) (row2 xo)))
      (k0_pay1 (dxB x0 x1 x2 x3 x4 x5 x6) (row3 xo) x7)
     set0 (set1 (over xo) (k0_pay3 (row0 (over Z)) (row0 x5))) (k0_pay4 (row0 (over Z)) (row1 x5)))
      = fin x5 (step x0 x1 x2 x3 x4 x5 x6 x7 xo) := by
  dsimp only [fin, step]
  rw [row0_set3, row0_set2, row0_set0, row0_set3, row0_set2, row0_set0]

/-! ## The outputs of a point, case by case -/

variable (c : Dev nD) (i : grid0.Coords) (a1 : Memref sig .tc .vmem S256x1024 .bf16) (h1 : a1.IsWhole) (a2 : Memref sig .tc .vmem S256x4096 .bf16) (h2 : a2.IsWhole) (a3 : Memref sig .tc .vmem S1024x4096 .bf16) (h3 : a3.IsWhole) (a4 : Memref sig .tc .vmem S4096x1024 .bf16) (h4 : a4.IsWhole) (a5 : Memref sig .tc .vmem S256x1024 .f32) (h5 : a5.IsWhole) (a6 : Memref sig .tc .vmem S8x1024 .f32) (h6 : a6.IsWhole) (a7 : Memref sig .tc .vmem S256x1024 .f32) (h7 : a7.IsWhole) (a8 : Memref sig .tc .vmem S256x1024 .bf16) (h8 : a8.IsWhole) (a9 : Memref sig .tc .vmem S8x1024 .f32) (h9 : a9.IsWhole) (a10 : Memref sig .tc .vmem S256x4096 .bf16) (h10 : a10.IsWhole) (a11 : Memref sig .tc .vmem S256x1024 .f32) (h11 : a11.IsWhole) (a12 : Memref sig .tc .vmem S8x1024 .f32) (h12 : a12.IsWhole) (a13 : Memref sig .tc .vmem S256x1024 .bf16) (h13 : a13.IsWhole)
variable (x0 : Vec F S256x1024 .bf16) (x1 : Vec F S256x4096 .bf16) (x2 : Vec F S1024x4096 .bf16) (x3 : Vec F S4096x1024 .bf16) (x4 : Vec F S256x1024 .f32) (x5 : Vec F S8x1024 .f32) (x6 : Vec F S256x1024 .f32) (x7 : Vec F S256x1024 .bf16) (x8 : Vec F S8x1024 .f32) (xo : Vec F S8x1024 .f32)

/-- A first point leaves the hidden gradient. -/
theorem out_A_9 (hc0 : cond0_0 i) (hc1 : ¬cond0_1 i) : out0_A_9 c i a1 h1 a2 h2 a3 h3 a4 h4 a5 h5 a6 h6 a7 h7 a8 h8 a9 h9 a10 h10 a11 h11 a12 h12 a13 h13 hc0 hc1 x0 x1 x2 x3 x4 x5 x6 x7 x8 = daB x0 x1 x3 := by
  rw [out0_A_9, View.read_writes_eq_canon _ _ _ (cover0_A_9 c i a1 h1 a2 h2 a3 h3 a4 h4 a5 h5 a6 h6 a7 h7 a8 h8 a9 h9 a10 h10 a11 h11 a12 h12 a13 h13 hc0 hc1 x0 x1 x2 x3 x4 x5 x6 x7 x8)]
  unfold kernelRun0_A; dsimp only; sl_unfold_words
  rw [View.canon_unit_zero hz]
  simp only [View.readAt_eq_ld, h1.read_unread, h2.read_unread, h3.read_unread, h4.read_unread, h5.read_unread, h6.read_unread, h7.read_unread, h8.read_unread, h9.read_unread, View.ld_unit_zero (S := S256x1024) hz, View.ld_unit_zero (S := S256x4096) hz, View.ld_unit_zero (S := S1024x4096) hz, View.ld_unit_zero (S := S4096x1024) hz]
  rfl

/-- A first point leaves the stream's gradient. -/
theorem out_A_10 (hc0 : cond0_0 i) (hc1 : ¬cond0_1 i) : out0_A_10 c i a1 h1 a2 h2 a3 h3 a4 h4 a5 h5 a6 h6 a7 h7 a8 h8 a9 h9 a10 h10 a11 h11 a12 h12 a13 h13 hc0 hc1 x0 x1 x2 x3 x4 x5 x6 x7 x8 = dxB x0 x1 x2 x3 x4 x5 x6 := by
  rw [out0_A_10, View.read_writes_eq_canon _ _ _ (cover0_A_10 c i a1 h1 a2 h2 a3 h3 a4 h4 a5 h5 a6 h6 a7 h7 a8 h8 a9 h9 a10 h10 a11 h11 a12 h12 a13 h13 hc0 hc1 x0 x1 x2 x3 x4 x5 x6 x7 x8)]
  unfold kernelRun0_A; dsimp only; sl_unfold_words
  rw [View.canon_unit_zero hz]
  simp only [View.readAt_eq_ld, h1.read_unread, h2.read_unread, h3.read_unread, h4.read_unread, h5.read_unread, h6.read_unread, h7.read_unread, h8.read_unread, h9.read_unread, View.ld_unit_zero (S := S256x1024) hz, View.ld_unit_zero (S := S256x4096) hz, View.ld_unit_zero (S := S1024x4096) hz, View.ld_unit_zero (S := S4096x1024) hz]
  rfl

/-- A first point leaves the branch's gradient. -/
theorem out_A_12 (hc0 : cond0_0 i) (hc1 : ¬cond0_1 i) : out0_A_12 c i a1 h1 a2 h2 a3 h3 a4 h4 a5 h5 a6 h6 a7 h7 a8 h8 a9 h9 a10 h10 a11 h11 a12 h12 a13 h13 hc0 hc1 x0 x1 x2 x3 x4 x5 x6 x7 x8 = dyB x0 x1 x2 x3 x4 x5 x6 x8 := by
  rw [out0_A_12, View.read_writes_eq_canon _ _ _ (cover0_A_12 c i a1 h1 a2 h2 a3 h3 a4 h4 a5 h5 a6 h6 a7 h7 a8 h8 a9 h9 a10 h10 a11 h11 a12 h12 a13 h13 hc0 hc1 x0 x1 x2 x3 x4 x5 x6 x7 x8)]
  unfold kernelRun0_A; dsimp only; sl_unfold_words
  rw [View.canon_unit_zero hz]
  simp only [View.readAt_eq_ld, h1.read_unread, h2.read_unread, h3.read_unread, h4.read_unread, h5.read_unread, h6.read_unread, h7.read_unread, h8.read_unread, h9.read_unread, View.ld_unit_zero (S := S256x1024) hz, View.ld_unit_zero (S := S256x4096) hz, View.ld_unit_zero (S := S1024x4096) hz, View.ld_unit_zero (S := S4096x1024) hz]
  rfl

/-- A middle point leaves the hidden gradient. -/
theorem out_B_9 (hc0 : ¬cond0_0 i) (hc1 : ¬cond0_1 i) : out0_B_9 c i a1 h1 a2 h2 a3 h3 a4 h4 a5 h5 a6 h6 a7 h7 a8 h8 a9 h9 a10 h10 a11 h11 a12 h12 a13 h13 hc0 hc1 x0 x1 x2 x3 x4 x5 x6 x7 x8 xo = daB x0 x1 x3 := by
  rw [out0_B_9, View.read_writes_eq_canon _ _ _ (cover0_B_9 c i a1 h1 a2 h2 a3 h3 a4 h4 a5 h5 a6 h6 a7 h7 a8 h8 a9 h9 a10 h10 a11 h11 a12 h12 a13 h13 hc0 hc1 x0 x1 x2 x3 x4 x5 x6 x7 x8 xo)]
  unfold kernelRun0_B; dsimp only; sl_unfold_words
  rw [View.canon_unit_zero hz]
  simp only [View.readAt_eq_ld, h1.read_unread, h2.read_unread, h3.read_unread, h4.read_unread, h5.read_unread, h6.read_unread, h7.read_unread, h8.read_unread, h9.read_unread, View.ld_unit_zero (S := S256x1024) hz, View.ld_unit_zero (S := S256x4096) hz, View.ld_unit_zero (S := S1024x4096) hz, View.ld_unit_zero (S := S4096x1024) hz]
  rfl

/-- A middle point leaves the stream's gradient. -/
theorem out_B_10 (hc0 : ¬cond0_0 i) (hc1 : ¬cond0_1 i) : out0_B_10 c i a1 h1 a2 h2 a3 h3 a4 h4 a5 h5 a6 h6 a7 h7 a8 h8 a9 h9 a10 h10 a11 h11 a12 h12 a13 h13 hc0 hc1 x0 x1 x2 x3 x4 x5 x6 x7 x8 xo = dxB x0 x1 x2 x3 x4 x5 x6 := by
  rw [out0_B_10, View.read_writes_eq_canon _ _ _ (cover0_B_10 c i a1 h1 a2 h2 a3 h3 a4 h4 a5 h5 a6 h6 a7 h7 a8 h8 a9 h9 a10 h10 a11 h11 a12 h12 a13 h13 hc0 hc1 x0 x1 x2 x3 x4 x5 x6 x7 x8 xo)]
  unfold kernelRun0_B; dsimp only; sl_unfold_words
  rw [View.canon_unit_zero hz]
  simp only [View.readAt_eq_ld, h1.read_unread, h2.read_unread, h3.read_unread, h4.read_unread, h5.read_unread, h6.read_unread, h7.read_unread, h8.read_unread, h9.read_unread, View.ld_unit_zero (S := S256x1024) hz, View.ld_unit_zero (S := S256x4096) hz, View.ld_unit_zero (S := S1024x4096) hz, View.ld_unit_zero (S := S4096x1024) hz]
  rfl

/-- A middle point leaves the branch's gradient. -/
theorem out_B_12 (hc0 : ¬cond0_0 i) (hc1 : ¬cond0_1 i) : out0_B_12 c i a1 h1 a2 h2 a3 h3 a4 h4 a5 h5 a6 h6 a7 h7 a8 h8 a9 h9 a10 h10 a11 h11 a12 h12 a13 h13 hc0 hc1 x0 x1 x2 x3 x4 x5 x6 x7 x8 xo = dyB x0 x1 x2 x3 x4 x5 x6 x8 := by
  rw [out0_B_12, View.read_writes_eq_canon _ _ _ (cover0_B_12 c i a1 h1 a2 h2 a3 h3 a4 h4 a5 h5 a6 h6 a7 h7 a8 h8 a9 h9 a10 h10 a11 h11 a12 h12 a13 h13 hc0 hc1 x0 x1 x2 x3 x4 x5 x6 x7 x8 xo)]
  unfold kernelRun0_B; dsimp only; sl_unfold_words
  rw [View.canon_unit_zero hz]
  simp only [View.readAt_eq_ld, h1.read_unread, h2.read_unread, h3.read_unread, h4.read_unread, h5.read_unread, h6.read_unread, h7.read_unread, h8.read_unread, h9.read_unread, View.ld_unit_zero (S := S256x1024) hz, View.ld_unit_zero (S := S256x4096) hz, View.ld_unit_zero (S := S1024x4096) hz, View.ld_unit_zero (S := S4096x1024) hz]
  rfl

/-- A last point leaves the hidden gradient. -/
theorem out_C_9 (hc0 : ¬cond0_0 i) (hc1 : cond0_1 i) : out0_C_9 c i a1 h1 a2 h2 a3 h3 a4 h4 a5 h5 a6 h6 a7 h7 a8 h8 a9 h9 a10 h10 a11 h11 a12 h12 a13 h13 hc0 hc1 x0 x1 x2 x3 x4 x5 x6 x7 x8 xo = daB x0 x1 x3 := by
  rw [out0_C_9, View.read_writes_eq_canon _ _ _ (cover0_C_9 c i a1 h1 a2 h2 a3 h3 a4 h4 a5 h5 a6 h6 a7 h7 a8 h8 a9 h9 a10 h10 a11 h11 a12 h12 a13 h13 hc0 hc1 x0 x1 x2 x3 x4 x5 x6 x7 x8 xo)]
  unfold kernelRun0_C; dsimp only; sl_unfold_words
  rw [View.canon_unit_zero hz]
  simp only [View.readAt_eq_ld, h1.read_unread, h2.read_unread, h3.read_unread, h4.read_unread, h5.read_unread, h6.read_unread, h7.read_unread, h8.read_unread, h9.read_unread, View.ld_unit_zero (S := S256x1024) hz, View.ld_unit_zero (S := S256x4096) hz, View.ld_unit_zero (S := S1024x4096) hz, View.ld_unit_zero (S := S4096x1024) hz]
  rfl

/-- A last point leaves the stream's gradient. -/
theorem out_C_10 (hc0 : ¬cond0_0 i) (hc1 : cond0_1 i) : out0_C_10 c i a1 h1 a2 h2 a3 h3 a4 h4 a5 h5 a6 h6 a7 h7 a8 h8 a9 h9 a10 h10 a11 h11 a12 h12 a13 h13 hc0 hc1 x0 x1 x2 x3 x4 x5 x6 x7 x8 xo = dxB x0 x1 x2 x3 x4 x5 x6 := by
  rw [out0_C_10, View.read_writes_eq_canon _ _ _ (cover0_C_10 c i a1 h1 a2 h2 a3 h3 a4 h4 a5 h5 a6 h6 a7 h7 a8 h8 a9 h9 a10 h10 a11 h11 a12 h12 a13 h13 hc0 hc1 x0 x1 x2 x3 x4 x5 x6 x7 x8 xo)]
  unfold kernelRun0_C; dsimp only; sl_unfold_words
  rw [View.canon_unit_zero hz]
  simp only [View.readAt_eq_ld, h1.read_unread, h2.read_unread, h3.read_unread, h4.read_unread, h5.read_unread, h6.read_unread, h7.read_unread, h8.read_unread, h9.read_unread, View.ld_unit_zero (S := S256x1024) hz, View.ld_unit_zero (S := S256x4096) hz, View.ld_unit_zero (S := S1024x4096) hz, View.ld_unit_zero (S := S4096x1024) hz]
  rfl

/-- A last point leaves the branch's gradient. -/
theorem out_C_12 (hc0 : ¬cond0_0 i) (hc1 : cond0_1 i) : out0_C_12 c i a1 h1 a2 h2 a3 h3 a4 h4 a5 h5 a6 h6 a7 h7 a8 h8 a9 h9 a10 h10 a11 h11 a12 h12 a13 h13 hc0 hc1 x0 x1 x2 x3 x4 x5 x6 x7 x8 xo = dyB x0 x1 x2 x3 x4 x5 x6 x8 := by
  rw [out0_C_12, View.read_writes_eq_canon _ _ _ (cover0_C_12 c i a1 h1 a2 h2 a3 h3 a4 h4 a5 h5 a6 h6 a7 h7 a8 h8 a9 h9 a10 h10 a11 h11 a12 h12 a13 h13 hc0 hc1 x0 x1 x2 x3 x4 x5 x6 x7 x8 xo)]
  unfold kernelRun0_C; dsimp only; sl_unfold_words
  rw [View.canon_unit_zero hz]
  simp only [View.readAt_eq_ld, h1.read_unread, h2.read_unread, h3.read_unread, h4.read_unread, h5.read_unread, h6.read_unread, h7.read_unread, h8.read_unread, h9.read_unread, View.ld_unit_zero (S := S256x1024) hz, View.ld_unit_zero (S := S256x4096) hz, View.ld_unit_zero (S := S1024x4096) hz, View.ld_unit_zero (S := S4096x1024) hz]
  rfl

/-- The first point leaves its own sums over zeros. -/
theorem out_A_11 (hc0 : cond0_0 i) (hc1 : ¬cond0_1 i) : out0_A_11 c i a1 h1 a2 h2 a3 h3 a4 h4 a5 h5 a6 h6 a7 h7 a8 h8 a9 h9 a10 h10 a11 h11 a12 h12 a13 h13 hc0 hc1 x0 x1 x2 x3 x4 x5 x6 x7 x8 = step x0 x1 x2 x3 x4 x5 x6 x7 k0_pay7 := by
  rw [out0_A_11, View.read_writes_eq_canon _ _ _ (cover0_A_11 c i a1 h1 a2 h2 a3 h3 a4 h4 a5 h5 a6 h6 a7 h7 a8 h8 a9 h9 a10 h10 a11 h11 a12 h12 a13 h13 hc0 hc1 x0 x1 x2 x3 x4 x5 x6 x7 x8)]
  unfold kernelRun0_A; dsimp only; sl_unfold_words
  simp only [View.readAt_eq_ld, h1.read_unread, h2.read_unread, h3.read_unread, h4.read_unread, h5.read_unread, h6.read_unread, h7.read_unread, h8.read_unread, h9.read_unread, View.ld_unit_zero (S := S256x1024) hz, View.ld_unit_zero (S := S256x4096) hz, View.ld_unit_zero (S := S1024x4096) hz, View.ld_unit_zero (S := S4096x1024) hz]
  simp only [View.readCov_eq_ld, View.canon_cons_put, View.canon_unit_zero (S := S8x1024) hz]
  exact step_raw x0 x1 x2 x3 x4 x5 x6 x7 k0_pay7

/-- A middle point adds its sums to the rows the points before left. -/
theorem out_B_11 (hc0 : ¬cond0_0 i) (hc1 : ¬cond0_1 i) : out0_B_11 c i a1 h1 a2 h2 a3 h3 a4 h4 a5 h5 a6 h6 a7 h7 a8 h8 a9 h9 a10 h10 a11 h11 a12 h12 a13 h13 hc0 hc1 x0 x1 x2 x3 x4 x5 x6 x7 x8 xo = step x0 x1 x2 x3 x4 x5 x6 x7 xo := by
  unfold out0_B_11 kernelRun0_B; dsimp only; sl_unfold_words
  simp only [View.readAt_eq_ld, h1.read_unread, h2.read_unread, h3.read_unread, h4.read_unread, h5.read_unread, h6.read_unread, h7.read_unread, h8.read_unread, h9.read_unread, View.ld_unit_zero (S := S256x1024) hz, View.ld_unit_zero (S := S256x4096) hz, View.ld_unit_zero (S := S1024x4096) hz, View.ld_unit_zero (S := S4096x1024) hz]
  rw [View.read_writes_cons_put _ _ _ _ _ rfl, View.read_writes_cons_put _ _ _ _ _ rfl, View.read_writes_cons_put _ _ _ _ _ rfl]
  simp only [View.writes_nil, h12.read_unread]
  rfl

/-- The last point adds its sums and makes the two gradients of the modulated norm of row 0. -/
theorem out_C_11 (hc0 : ¬cond0_0 i) (hc1 : cond0_1 i) : out0_C_11 c i a1 h1 a2 h2 a3 h3 a4 h4 a5 h5 a6 h6 a7 h7 a8 h8 a9 h9 a10 h10 a11 h11 a12 h12 a13 h13 hc0 hc1 x0 x1 x2 x3 x4 x5 x6 x7 x8 xo = fin x5 (step x0 x1 x2 x3 x4 x5 x6 x7 xo) := by
  unfold out0_C_11 kernelRun0_C; dsimp only; sl_unfold_words
  simp only [View.readAt_eq_ld, h1.read_unread, h2.read_unread, h3.read_unread, h4.read_unread, h5.read_unread, h6.read_unread, h7.read_unread, h8.read_unread, h9.read_unread, View.ld_unit_zero (S := S256x1024) hz, View.ld_unit_zero (S := S256x4096) hz, View.ld_unit_zero (S := S1024x4096) hz, View.ld_unit_zero (S := S4096x1024) hz]
  simp only [View.read_writes_cons_put _ _ _ _ _ rfl, View.writes_nil, h12.read_unread]
  simp only [View.readCov_eq_ld, View.canon_cons_put]
  exact fin_raw x0 x1 x2 x3 x4 x5 x6 x7 xo _

end Cert.KernelIdeal.Points
-- ==== Proof.Sweep.lean ====
/-
  The grid of eight points swept: what each window's block is of its array, what the accumulated rows hold after each
  point, and the four output arrays after the run, over any float operations.
-/
module

public import proofs.«01_k».proof.Proof.Points

@[expose] public section

noncomputable section

namespace Cert.KernelIdeal.Points

open Cert.KernelIdeal Cert.KernelIdeal.Gen Cert.KernelIdeal.Value Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The token at the place `p` of the block `t`. -/
abbrev tok (t : Fin 8) (p : Fin 256) : Fin 2048 := ⟨256 * t.val + p.val, by omega⟩
/-- The grid point of the block `t`. -/
abbrev pt (t : Fin 8) : Fin cfg0.N := ⟨t.val, by rw [show cfg0.N = 8 from N_0]; exact t.isLt⟩

/-- Window 0 reads the scaled gradient that comes in. -/
theorem blk0 (c : Dev nD) (t : Fin 8) (p : Fin 256) (q : Fin 1024) :
    (iblk m c 0 (pt t) : Vec F S256x1024 .bf16) (ix2 p q) = V m c main_v31 (ix2 (tok t p) q) := by
  have hi : ∀ t : Fin cfg0.N, win0_0.index t 0 = t.val ∧ win0_0.index t 1 = 0 :=
    (by decide +kernel : ∀ t : Fin grid0.N, win0_0.index t 0 = t.val ∧ win0_0.index t 1 = 0)
  unfold iblk
  rw [View.read_apply]
  show V m c main_v31 _ = V m c main_v31 _
  congr 1
  funext a
  apply Fin.ext
  match a with
  | ⟨0, _⟩ => show win0_0.index (pt t) 0 * 256 + 1 * p.val = 256 * t.val + p.val; rw [(hi (pt t)).1]; dsimp only; omega
  | ⟨1, _⟩ => show win0_0.index (pt t) 1 * 1024 + 1 * q.val = q.val; rw [(hi (pt t)).2]; omega

/-- Window 1 reads the hidden layer. -/
theorem blk1 (c : Dev nD) (t : Fin 8) (p : Fin 256) (q : Fin 4096) :
    (iblk m c 1 (pt t) : Vec F S256x4096 .bf16) (ix2 p q) = V m c main_v27 (ix2 (tok t p) q) := by
  have hi : ∀ t : Fin cfg0.N, win0_1.index t 0 = t.val ∧ win0_1.index t 1 = 0 :=
    (by decide +kernel : ∀ t : Fin grid0.N, win0_1.index t 0 = t.val ∧ win0_1.index t 1 = 0)
  unfold iblk
  rw [View.read_apply]
  show V m c main_v27 _ = V m c main_v27 _
  congr 1
  funext a
  apply Fin.ext
  match a with
  | ⟨0, _⟩ => show win0_1.index (pt t) 0 * 256 + 1 * p.val = 256 * t.val + p.val; rw [(hi (pt t)).1]; dsimp only; omega
  | ⟨1, _⟩ => show win0_1.index (pt t) 1 * 4096 + 1 * q.val = q.val; rw [(hi (pt t)).2]; omega

/-- Window 2 reads the first weight, whole. -/
theorem blk2 (c : Dev nD) (t : Fin 8) (p : Fin 1024) (q : Fin 4096) :
    (iblk m c 2 (pt t) : Vec F S1024x4096 .bf16) (ix2 p q) = V m c main_v42 (ix2 p q) := by
  have hi : ∀ t : Fin cfg0.N, win0_2.index t 0 = 0 ∧ win0_2.index t 1 = 0 :=
    (by decide +kernel : ∀ t : Fin grid0.N, win0_2.index t 0 = 0 ∧ win0_2.index t 1 = 0)
  unfold iblk
  rw [View.read_apply]
  show V m c main_v42 _ = V m c main_v42 _
  congr 1
  funext a
  apply Fin.ext
  match a with
  | ⟨0, _⟩ => show win0_2.index (pt t) 0 * 1024 + 1 * p.val = p.val; rw [(hi (pt t)).1]; omega
  | ⟨1, _⟩ => show win0_2.index (pt t) 1 * 4096 + 1 * q.val = q.val; rw [(hi (pt t)).2]; omega

/-- Window 3 reads the second weight, whole. -/
theorem blk3 (c : Dev nD) (t : Fin 8) (p : Fin 4096) (q : Fin 1024) :
    (iblk m c 3 (pt t) : Vec F S4096x1024 .bf16) (ix2 p q) = V m c main_v43 (ix2 p q) := by
  have hi : ∀ t : Fin cfg0.N, win0_3.index t 0 = 0 ∧ win0_3.index t 1 = 0 :=
    (by decide +kernel : ∀ t : Fin grid0.N, win0_3.index t 0 = 0 ∧ win0_3.index t 1 = 0)
  unfold iblk
  rw [View.read_apply]
  show V m c main_v43 _ = V m c main_v43 _
  congr 1
  funext a
  apply Fin.ext
  match a with
  | ⟨0, _⟩ => show win0_3.index (pt t) 0 * 4096 + 1 * p.val = p.val; rw [(hi (pt t)).1]; omega
  | ⟨1, _⟩ => show win0_3.index (pt t) 1 * 1024 + 1 * q.val = q.val; rw [(hi (pt t)).2]; omega

/-- Window 4 reads the stream. -/
theorem blk4 (c : Dev nD) (t : Fin 8) (p : Fin 256) (q : Fin 1024) :
    (iblk m c 4 (pt t) : Vec F S256x1024 .f32) (ix2 p q) = V m c main_v3 (ix2 (tok t p) q) := by
  have hi : ∀ t : Fin cfg0.N, win0_4.index t 0 = t.val ∧ win0_4.index t 1 = 0 :=
    (by decide +kernel : ∀ t : Fin grid0.N, win0_4.index t 0 = t.val ∧ win0_4.index t 1 = 0)
  unfold iblk
  rw [View.read_apply]
  show V m c main_v3 _ = V m c main_v3 _
  congr 1
  funext a
  apply Fin.ext
  match a with
  | ⟨0, _⟩ => show win0_4.index (pt t) 0 * 256 + 1 * p.val = 256 * t.val + p.val; rw [(hi (pt t)).1]; dsimp only; omega
  | ⟨1, _⟩ => show win0_4.index (pt t) 1 * 1024 + 1 * q.val = q.val; rw [(hi (pt t)).2]; omega

/-- Window 5 reads the first eight rows of the table. -/
theorem blk5 (c : Dev nD) (t : Fin 8) (p : Fin 8) (q : Fin 1024) :
    (iblk m c 5 (pt t) : Vec F S8x1024 .f32) (ix2 p q) = V m c main_v41 (ix2 ⟨p.val, by omega⟩ q) := by
  have hi : ∀ t : Fin cfg0.N, win0_5.index t 0 = 0 ∧ win0_5.index t 1 = 0 :=
    (by decide +kernel : ∀ t : Fin grid0.N, win0_5.index t 0 = 0 ∧ win0_5.index t 1 = 0)
  unfold iblk
  rw [View.read_apply]
  show V m c main_v41 _ = V m c main_v41 _
  congr 1
  funext a
  apply Fin.ext
  match a with
  | ⟨0, _⟩ => show win0_5.index (pt t) 0 * 8 + 1 * p.val = p.val; rw [(hi (pt t)).1]; omega
  | ⟨1, _⟩ => show win0_5.index (pt t) 1 * 1024 + 1 * q.val = q.val; rw [(hi (pt t)).2]; omega

/-- Window 6 reads the gradient that comes in. -/
theorem blk6 (c : Dev nD) (t : Fin 8) (p : Fin 256) (q : Fin 1024) :
    (iblk m c 6 (pt t) : Vec F S256x1024 .f32) (ix2 p q) = V m c main_arg9 (ix2 (tok t p) q) := by
  have hi : ∀ t : Fin cfg0.N, win0_6.index t 0 = t.val ∧ win0_6.index t 1 = 0 :=
    (by decide +kernel : ∀ t : Fin grid0.N, win0_6.index t 0 = t.val ∧ win0_6.index t 1 = 0)
  unfold iblk
  rw [View.read_apply]
  show V m c main_arg9 _ = V m c main_arg9 _
  congr 1
  funext a
  apply Fin.ext
  match a with
  | ⟨0, _⟩ => show win0_6.index (pt t) 0 * 256 + 1 * p.val = 256 * t.val + p.val; rw [(hi (pt t)).1]; dsimp only; omega
  | ⟨1, _⟩ => show win0_6.index (pt t) 1 * 1024 + 1 * q.val = q.val; rw [(hi (pt t)).2]; omega

/-- Window 7 reads the mixer's branch. -/
theorem blk7 (c : Dev nD) (t : Fin 8) (p : Fin 256) (q : Fin 1024) :
    (iblk m c 7 (pt t) : Vec F S256x1024 .bf16) (ix2 p q) = V m c main_v44 (ix2 (tok t p) q) := by
  have hi : ∀ t : Fin cfg0.N, win0_7.index t 0 = t.val ∧ win0_7.index t 1 = 0 :=
    (by decide +kernel : ∀ t : Fin grid0.N, win0_7.index t 0 = t.val ∧ win0_7.index t 1 = 0)
  unfold iblk
  rw [View.read_apply]
  show V m c main_v44 _ = V m c main_v44 _
  congr 1
  funext a
  apply Fin.ext
  match a with
  | ⟨0, _⟩ => show win0_7.index (pt t) 0 * 256 + 1 * p.val = 256 * t.val + p.val; rw [(hi (pt t)).1]; dsimp only; omega
  | ⟨1, _⟩ => show win0_7.index (pt t) 1 * 1024 + 1 * q.val = q.val; rw [(hi (pt t)).2]; omega

/-- Window 8 reads the last eight rows of the table. -/
theorem blk8 (c : Dev nD) (t : Fin 8) (p : Fin 8) (q : Fin 1024) :
    (iblk m c 8 (pt t) : Vec F S8x1024 .f32) (ix2 p q) = V m c main_v41 (ix2 ⟨8 + p.val, by omega⟩ q) := by
  have hi : ∀ t : Fin cfg0.N, win0_8.index t 0 = 1 ∧ win0_8.index t 1 = 0 :=
    (by decide +kernel : ∀ t : Fin grid0.N, win0_8.index t 0 = 1 ∧ win0_8.index t 1 = 0)
  unfold iblk
  rw [View.read_apply]
  show V m c main_v41 _ = V m c main_v41 _
  congr 1
  funext a
  apply Fin.ext
  match a with
  | ⟨0, _⟩ => show win0_8.index (pt t) 0 * 8 + 1 * p.val = 8 + p.val; rw [(hi (pt t)).1]; omega
  | ⟨1, _⟩ => show win0_8.index (pt t) 1 * 1024 + 1 * q.val = q.val; rw [(hi (pt t)).2]; omega

/-- The accumulated rows after the point `n`: its sums over what the points before left, over zeros at the first. -/
def acc (c : Dev nD) : (n : ℕ) → n < cfg0.N → Vec F S8x1024 .f32
  | 0, h => step (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩) (iblk m c 7 ⟨0, h⟩) k0_pay7
  | n + 1, h => step (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (acc c n (Nat.lt_of_succ_lt h))

/-- Before the last point the accumulator's buffer holds the accumulated rows. -/
theorem outs_acc (c : Dev nD) : ∀ (n : ℕ) (h : n < cfg0.N), n < 7 → (outsAt0 m c n h).2.2.1 = acc m c n h
  | 0, h, _ => by
    have e := congrArg (fun o => o.2.2.1) (outsAt0_A m c ⟨0, h⟩ rfl (by dsimp only; omega))
    dsimp only at e
    rw [out_A_11] at e
    exact e
  | n + 1, h, h7 => by
    have h0 : ¬(⟨n + 1, h⟩ : Fin cfg0.N).val % 8 = 0 := by dsimp only; omega
    have h1 : ¬(⟨n + 1, h⟩ : Fin cfg0.N).val % 8 = 7 := by dsimp only; omega
    rw [outsAt0_B m c ⟨n + 1, h⟩ h0 h1]
    dsimp only
    rw [out_B_11]
    show step _ _ _ _ _ _ _ _ (outsAt0 m c n _).2.2.1 = step _ _ _ _ _ _ _ _ (acc m c n _)
    rw [outs_acc c n _ (by omega)]

/-- After the last point it holds the finished rows. -/
theorem outs_last (c : Dev nD) (n : ℕ) (h : n + 1 < cfg0.N) (h7 : n + 1 = 7) :
    (outsAt0 m c (n + 1) h).2.2.1 = fin (iblk m c 5 ⟨n + 1, h⟩) (acc m c (n + 1) h) := by
  have h0 : ¬(⟨n + 1, h⟩ : Fin cfg0.N).val % 8 = 0 := by dsimp only; omega
  have h1 : (⟨n + 1, h⟩ : Fin cfg0.N).val % 8 = 7 := by dsimp only; omega
  rw [outsAt0_C m c ⟨n + 1, h⟩ h0 h1]
  dsimp only
  rw [out_C_11]
  show fin _ (step _ _ _ _ _ _ _ _ (outsAt0 m c n _).2.2.1) = fin _ (step _ _ _ _ _ _ _ _ (acc m c n _))
  rw [outs_acc m c n _ (by omega)]

/-- Every point leaves the hidden gradient of its block. -/
theorem outs_9 (c : Dev nD) (t : Fin cfg0.N) : (outsAt0 m c t.val t.isLt).1 = daB (iblk m c 0 t) (iblk m c 1 t) (iblk m c 3 t) := by
  by_cases h0 : t.val % 8 = 0
  · rw [outsAt0_A m c t h0 (by omega)]; dsimp only; rw [out_A_9]
  · by_cases h1 : t.val % 8 = 7
    · rw [outsAt0_C m c t h0 h1]; dsimp only; rw [out_C_9]
    · rw [outsAt0_B m c t h0 h1]; dsimp only; rw [out_B_9]

/-- The hidden gradient after the run, block by block. -/
theorem final_9 (c : Dev nD) (t : Fin 8) (p : Fin 256) (q : Fin 4096) :
    ((dats m 0 c).arrAt 9 cfg0.N : Vec F S2048x4096 .bf16) (ix2 (tok t p) q) = daB (iblk m c 0 (pt t)) (iblk m c 1 (pt t)) (iblk m c 3 (pt t)) (ix2 p q) := by
  have hi : ∀ t : Fin cfg0.N, win0_9.index t 0 = t.val ∧ win0_9.index t 1 = 0 :=
    (by decide +kernel : ∀ t : Fin grid0.N, win0_9.index t 0 = t.val ∧ win0_9.index t 1 = 0)
  have e := congrFun (blocks9 m c (pt t) (flush0_9 (pt t))) (ix2 p q : S256x4096.Idx)
  rw [flushed9, outs_9, View.read_apply] at e
  refine Eq.trans (congrArg ((dats m 0 c).arrAt 9 cfg0.N) ?_) e
  funext a
  apply Fin.ext
  match a with
  | ⟨0, _⟩ => show 256 * t.val + p.val = win0_9.index (pt t) 0 * 256 + 1 * p.val; rw [(hi (pt t)).1]; dsimp only; omega
  | ⟨1, _⟩ => show q.val = win0_9.index (pt t) 1 * 4096 + 1 * q.val; rw [(hi (pt t)).2]; omega

/-- Every point leaves the stream's gradient of its block. -/
theorem outs_10 (c : Dev nD) (t : Fin cfg0.N) : (outsAt0 m c t.val t.isLt).2.1 = dxB (iblk m c 0 t) (iblk m c 1 t) (iblk m c 2 t) (iblk m c 3 t) (iblk m c 4 t) (iblk m c 5 t) (iblk m c 6 t) := by
  by_cases h0 : t.val % 8 = 0
  · rw [outsAt0_A m c t h0 (by omega)]; dsimp only; rw [out_A_10]
  · by_cases h1 : t.val % 8 = 7
    · rw [outsAt0_C m c t h0 h1]; dsimp only; rw [out_C_10]
    · rw [outsAt0_B m c t h0 h1]; dsimp only; rw [out_B_10]

/-- The stream's gradient after the run, block by block. -/
theorem final_10 (c : Dev nD) (t : Fin 8) (p : Fin 256) (q : Fin 1024) :
    ((dats m 0 c).arrAt 10 cfg0.N : Vec F S2048x1024 .f32) (ix2 (tok t p) q) = dxB (iblk m c 0 (pt t)) (iblk m c 1 (pt t)) (iblk m c 2 (pt t)) (iblk m c 3 (pt t)) (iblk m c 4 (pt t)) (iblk m c 5 (pt t)) (iblk m c 6 (pt t)) (ix2 p q) := by
  have hi : ∀ t : Fin cfg0.N, win0_10.index t 0 = t.val ∧ win0_10.index t 1 = 0 :=
    (by decide +kernel : ∀ t : Fin grid0.N, win0_10.index t 0 = t.val ∧ win0_10.index t 1 = 0)
  have e := congrFun (blocks10 m c (pt t) (flush0_10 (pt t))) (ix2 p q : S256x1024.Idx)
  rw [flushed10, outs_10, View.read_apply] at e
  refine Eq.trans (congrArg ((dats m 0 c).arrAt 10 cfg0.N) ?_) e
  funext a
  apply Fin.ext
  match a with
  | ⟨0, _⟩ => show 256 * t.val + p.val = win0_10.index (pt t) 0 * 256 + 1 * p.val; rw [(hi (pt t)).1]; dsimp only; omega
  | ⟨1, _⟩ => show q.val = win0_10.index (pt t) 1 * 1024 + 1 * q.val; rw [(hi (pt t)).2]; omega

/-- Every point leaves the branch's gradient of its block. -/
theorem outs_12 (c : Dev nD) (t : Fin cfg0.N) : (outsAt0 m c t.val t.isLt).2.2.2 = dyB (iblk m c 0 t) (iblk m c 1 t) (iblk m c 2 t) (iblk m c 3 t) (iblk m c 4 t) (iblk m c 5 t) (iblk m c 6 t) (iblk m c 8 t) := by
  by_cases h0 : t.val % 8 = 0
  · rw [outsAt0_A m c t h0 (by omega)]; dsimp only; rw [out_A_12]
  · by_cases h1 : t.val % 8 = 7
    · rw [outsAt0_C m c t h0 h1]; dsimp only; rw [out_C_12]
    · rw [outsAt0_B m c t h0 h1]; dsimp only; rw [out_B_12]

/-- The branch's gradient after the run, block by block. -/
theorem final_12 (c : Dev nD) (t : Fin 8) (p : Fin 256) (q : Fin 1024) :
    ((dats m 0 c).arrAt 12 cfg0.N : Vec F S2048x1024 .bf16) (ix2 (tok t p) q) = dyB (iblk m c 0 (pt t)) (iblk m c 1 (pt t)) (iblk m c 2 (pt t)) (iblk m c 3 (pt t)) (iblk m c 4 (pt t)) (iblk m c 5 (pt t)) (iblk m c 6 (pt t)) (iblk m c 8 (pt t)) (ix2 p q) := by
  have hi : ∀ t : Fin cfg0.N, win0_12.index t 0 = t.val ∧ win0_12.index t 1 = 0 :=
    (by decide +kernel : ∀ t : Fin grid0.N, win0_12.index t 0 = t.val ∧ win0_12.index t 1 = 0)
  have e := congrFun (blocks12 m c (pt t) (flush0_12 (pt t))) (ix2 p q : S256x1024.Idx)
  rw [flushed12, outs_12, View.read_apply] at e
  refine Eq.trans (congrArg ((dats m 0 c).arrAt 12 cfg0.N) ?_) e
  funext a
  apply Fin.ext
  match a with
  | ⟨0, _⟩ => show 256 * t.val + p.val = win0_12.index (pt t) 0 * 256 + 1 * p.val; rw [(hi (pt t)).1]; dsimp only; omega
  | ⟨1, _⟩ => show q.val = win0_12.index (pt t) 1 * 1024 + 1 * q.val; rw [(hi (pt t)).2]; omega

/-- The eight rows after the run are the finished rows: the last point's write-back is the only one. -/
theorem final_11 (c : Dev nD) : ((dats m 0 c).arrAt 11 cfg0.N : Vec F S8x1024 .f32) = fin (iblk m c 5 (pt 7)) (acc m c 7 (pt 7).isLt) := by
  have hz' : (fun a => win0_11.index (pt 7) a * main_v45_2.ty.shape.size a) = fun _ => 0 := funext fun a => by fin_cases a <;> decide +kernel
  refine (dats m 0 c).arrAt_eq_of_cover 11 (fin (iblk m c 5 (pt 7)) (acc m c 7 (pt 7).isLt)) (fun t hf => ?_) fun i => ⟨pt 7, (flush0_11 (pt 7)).mpr rfl, ?_⟩
  · have hN : cfg0.N = 8 := N_0
    have h7 : t.val = 7 := by have := (flush0_11 t).mp hf; have := t.isLt; omega
    obtain rfl : t = pt 7 := Fin.ext h7
    show (cfg0.win 11).cut (grid0.coords (pt 7)) ((dats m 0 c).after 11 (pt 7)) = _
    rw [after0_11]
    refine Eq.trans (outs_last m c 6 (pt 7).isLt rfl) ?_
    exact (Memref.read_access_unit_zero (Elt F) main_v45_2 hz' (fun a => by rw [congrFun hz' a]; simp) _).symm
  · show i ∈ ((View.whole main_v45_2).slice (win0_11.rect (pt 7))).set
    rw [View.set_slice_whole, Rect.mem_set_unit]
    intro a
    have h0 : (i 0 : Nat) < 8 := (i 0).isLt
    have h1 : (i 1 : Nat) < 1024 := (i 1).isLt
    match a with
    | ⟨0, _⟩ => show win0_11.index (pt 7) 0 * win0_11.size 0 ≤ (i 0 : Nat) ∧ (i 0 : Nat) < win0_11.index (pt 7) 0 * win0_11.size 0 + win0_11.xsize (grid0.coords (pt 7)) 0
                rw [show win0_11.index (pt 7) 0 * win0_11.size 0 = 0 from by decide +kernel, show win0_11.xsize (grid0.coords (pt 7)) 0 = 8 from by decide +kernel]; omega
    | ⟨1, _⟩ => show win0_11.index (pt 7) 1 * win0_11.size 1 ≤ (i 1 : Nat) ∧ (i 1 : Nat) < win0_11.index (pt 7) 1 * win0_11.size 1 + win0_11.xsize (grid0.coords (pt 7)) 1
                rw [show win0_11.index (pt 7) 1 * win0_11.size 1 = 0 from by decide +kernel, show win0_11.xsize (grid0.coords (pt 7)) 1 = 1024 from by decide +kernel]; omega

end Cert.KernelIdeal.Points
-- ==== Proof.HostIn.lean ====
/-
  The arrays the kernel is launched on: what the operations before the launch leave in each, over real inputs.
-/
module

public import proofs.«01_k».proof.Proof.RefRead
public import proofs.«01_k».proof.Proof.Sweep

@[expose] public section

noncomputable section

namespace Cert.KernelIdeal.Points

open Cert.KernelIdeal Cert.KernelIdeal.Gen Idealize.ShloMosaic.ValueIdx Idealize.ShloMosaic.TcCoe Cert.Mlp
open Idealize.ShloMosaic
open Cert.ReferenceIdeal.Read (Holds val_main_v0 val_main_v0_apply val_main_v37 val_main_v43 val_main_v37_apply val_main_v43_apply val_main_v3 val_main_v29 i0 i37 i43)

variable (m : (ℓ : Loc nD τ sig) → Buf (Elt Ideal) ℓ) (c : Dev nD)

/-- The ten arguments of the kernel's program on a device hold the real tables of `D`. -/
def HoldsAt (D : Data) : Prop :=
  Holds D (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9))

theorem V_v3 : V m c main_v3 = val_main_v3 (F := Ideal) (m ((c.tc : Thread nD τ).loc main_arg0)) (m ((c.tc : Thread nD τ).loc main_arg1))
    (m ((c.tc : Thread nD τ).loc main_arg2)) := by
  unfold_abbrev_sides
  simp only [hostOps0, hostOps0_1, hostOps0_2, List.flatten_cons, List.flatten_nil, List.append_nil, List.cons_append, List.nil_append,
    StableHlo.TRef.nullary, StableHlo.TRef.unary, StableHlo.TRef.binary, StableHlo.TRef.toBuf, StableHlo.TRef.ofBuf, cast_eq]
  after_results_simp
  rfl

theorem V_v27 : V m c main_v27 = (truncf (F := Ideal) (φ := .f32) .bf16 (val_main_v29 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg7))) bitsLt_bf16_f32 : (⟨S2048x4096, .bf16⟩ : BufTy).Contents (Elt Ideal)) := by
  unfold_abbrev_sides
  simp only [hostOps0, hostOps0_1, hostOps0_2, List.flatten_cons, List.flatten_nil, List.append_nil, List.cons_append, List.nil_append,
    StableHlo.TRef.nullary, StableHlo.TRef.unary, StableHlo.TRef.binary, StableHlo.TRef.toBuf, StableHlo.TRef.ofBuf, cast_eq]
  after_results_simp
  rfl

theorem V_v31 : V m c main_v31 = truncf .bf16 (mulf (F := Ideal) (φ := .f32) (m ((c.tc : Thread nD τ).loc main_arg9))
    (broadcastInDim S2048x1024 ![0, 1] bcast_S1x1024_S2048x1024_0_1 (broadcastInDim S1x1024 ![1] bcast_S1024_S1x1024_1
      (m ((c.tc : Thread nD τ).loc main_arg6) : (⟨S1024, .f32⟩ : BufTy).Contents (Elt Ideal))))) bitsLt_bf16_f32 := by
  unfold_abbrev_sides
  simp only [hostOps0, hostOps0_1, hostOps0_2, List.flatten_cons, List.flatten_nil, List.append_nil, List.cons_append, List.nil_append,
    StableHlo.TRef.nullary, StableHlo.TRef.unary, StableHlo.TRef.binary, StableHlo.TRef.toBuf, StableHlo.TRef.ofBuf, cast_eq]
  after_results_simp

theorem V_v42 : V m c main_v42 = truncf (F := Ideal) (φ := .f32) .bf16 (m ((c.tc : Thread nD τ).loc main_arg7)) bitsLt_bf16_f32 := by
  unfold_abbrev_sides
  simp only [hostOps0, hostOps0_1, hostOps0_2, List.flatten_cons, List.flatten_nil, List.append_nil, List.cons_append, List.nil_append,
    StableHlo.TRef.nullary, StableHlo.TRef.unary, StableHlo.TRef.binary, StableHlo.TRef.toBuf, StableHlo.TRef.ofBuf, cast_eq]
  after_results_simp
theorem V_v43 : V m c main_v43 = truncf (F := Ideal) (φ := .f32) .bf16 (m ((c.tc : Thread nD τ).loc main_arg8)) bitsLt_bf16_f32 := by
  unfold_abbrev_sides
  simp only [hostOps0, hostOps0_1, hostOps0_2, List.flatten_cons, List.flatten_nil, List.append_nil, List.cons_append, List.nil_append,
    StableHlo.TRef.nullary, StableHlo.TRef.unary, StableHlo.TRef.binary, StableHlo.TRef.toBuf, StableHlo.TRef.ofBuf, cast_eq]
  after_results_simp
theorem V_v44 : V m c main_v44 = truncf (F := Ideal) (φ := .f32) .bf16 (m ((c.tc : Thread nD τ).loc main_arg1)) bitsLt_bf16_f32 := by
  unfold_abbrev_sides
  simp only [hostOps0, hostOps0_1, hostOps0_2, List.flatten_cons, List.flatten_nil, List.append_nil, List.cons_append, List.nil_append,
    StableHlo.TRef.nullary, StableHlo.TRef.unary, StableHlo.TRef.binary, StableHlo.TRef.toBuf, StableHlo.TRef.ofBuf, cast_eq]
  after_results_simp

/-- A feature vector as one row. -/
def lift (x : (⟨S1024, .f32⟩ : BufTy).Contents (Elt Ideal)) : (⟨S1x1024, .f32⟩ : BufTy).Contents (Elt Ideal) :=
  broadcastInDim S1x1024 ![1] bcast_S1024_S1x1024_1 x

/-- The table of features: the gain, the scale, the shift, five rows of zeros, the gate, seven rows of zeros. -/
def table (n sc sh g : (⟨S1024, .f32⟩ : BufTy).Contents (Elt Ideal)) : (⟨S16x1024, .f32⟩ : BufTy).Contents (Elt Ideal) :=
  concatenate S16x1024 0
    [⟨S8x1024, concatenate S8x1024 0
      [⟨S3x1024, concatenate S3x1024 0 [⟨S1x1024, lift n⟩, ⟨S1x1024, lift sc⟩, ⟨S1x1024, lift sh⟩] concatenates_S1x1024_S1x1024_S1x1024_S3x1024_d0⟩,
        ⟨S5x1024, broadcastInDim S5x1024 ![] bcast_S_S5x1024 (constant (F := Ideal) S_ .f32 0x00000000#32)⟩] concatenates_S3x1024_S5x1024_S8x1024_d0⟩,
      ⟨S8x1024, concatenate S8x1024 0
        [⟨S1x1024, lift g⟩, ⟨S7x1024, broadcastInDim S7x1024 ![] bcast_S_S7x1024 (constant (F := Ideal) S_ .f32 0x00000000#32)⟩]
        concatenates_S1x1024_S7x1024_S8x1024_d0⟩] concatenates_S8x1024_S8x1024_S16x1024_d0

theorem V_v41 : V m c main_v41 = table (m ((c.tc : Thread nD τ).loc main_arg3)) (m ((c.tc : Thread nD τ).loc main_arg4))
    (m ((c.tc : Thread nD τ).loc main_arg5)) (m ((c.tc : Thread nD τ).loc main_arg2)) := by
  unfold_abbrev_sides
  simp only [hostOps0, hostOps0_1, hostOps0_2, List.flatten_cons, List.flatten_nil, List.append_nil, List.cons_append, List.nil_append,
    StableHlo.TRef.nullary, StableHlo.TRef.unary, StableHlo.TRef.binary, StableHlo.TRef.toBuf, StableHlo.TRef.ofBuf, cast_eq]
  after_results_simp
  rfl

theorem lift_apply (x : (⟨S1024, .f32⟩ : BufTy).Contents (Elt Ideal)) (z : Fin 1) (d : Fin 1024) : lift x (ix2 z d) = x (ix1 d) :=
  (val_main_v0_apply x (ix2 z d)).trans (congrArg x (i0 z d))

theorem table_gain (n sc sh g : (⟨S1024, .f32⟩ : BufTy).Contents (Elt Ideal)) (d : Fin 1024) : table n sc sh g (ix2 0 d) = n (ix1 d) := by
  unfold table
  refine (concatenate_pair_apply_left (t := S16x1024) (s₁ := S8x1024) (s₂ := S8x1024) (0 : Fin 2) _ _ concatenates_S8x1024_S8x1024_S16x1024_d0 (ix2 0 d) rfl
    (ix2 (0 : Fin 8) d) (fun b => by match b with | ⟨0, _⟩ => rfl | ⟨1, _⟩ => rfl)).trans ?_
  refine (concatenate_pair_apply_left (t := S8x1024) (s₁ := S3x1024) (s₂ := S5x1024) (0 : Fin 2) _ _ concatenates_S3x1024_S5x1024_S8x1024_d0 (ix2 0 d) rfl
    (ix2 (0 : Fin 3) d) (fun b => by match b with | ⟨0, _⟩ => rfl | ⟨1, _⟩ => rfl)).trans ?_
  refine (concatenate_apply_piece (t := S3x1024) (0 : Fin 2) [⟨S1x1024, lift n⟩, ⟨S1x1024, lift sc⟩, ⟨S1x1024, lift sh⟩]
    concatenates_S1x1024_S1x1024_S1x1024_S3x1024_d0 (ix2 0 d) 0 (by show 0 < 3; omega) S1x1024 (lift n) rfl rfl 0 rfl (ix2 0 d)
    (fun b hb => by match b with | ⟨0, _⟩ => exact absurd rfl hb | ⟨1, _⟩ => rfl) rfl).trans ?_
  exact lift_apply _ _ _

theorem table_scale (n sc sh g : (⟨S1024, .f32⟩ : BufTy).Contents (Elt Ideal)) (d : Fin 1024) : table n sc sh g (ix2 1 d) = sc (ix1 d) := by
  unfold table
  refine (concatenate_pair_apply_left (t := S16x1024) (s₁ := S8x1024) (s₂ := S8x1024) (0 : Fin 2) _ _ concatenates_S8x1024_S8x1024_S16x1024_d0 (ix2 1 d) rfl
    (ix2 (1 : Fin 8) d) (fun b => by match b with | ⟨0, _⟩ => rfl | ⟨1, _⟩ => rfl)).trans ?_
  refine (concatenate_pair_apply_left (t := S8x1024) (s₁ := S3x1024) (s₂ := S5x1024) (0 : Fin 2) _ _ concatenates_S3x1024_S5x1024_S8x1024_d0 (ix2 1 d) rfl
    (ix2 (1 : Fin 3) d) (fun b => by match b with | ⟨0, _⟩ => rfl | ⟨1, _⟩ => rfl)).trans ?_
  refine (concatenate_apply_piece (t := S3x1024) (0 : Fin 2) [⟨S1x1024, lift n⟩, ⟨S1x1024, lift sc⟩, ⟨S1x1024, lift sh⟩]
    concatenates_S1x1024_S1x1024_S1x1024_S3x1024_d0 (ix2 1 d) 1 (by show 1 < 3; omega) S1x1024 (lift sc) rfl rfl 1 rfl (ix2 0 d)
    (fun b hb => by match b with | ⟨0, _⟩ => exact absurd rfl hb | ⟨1, _⟩ => rfl) rfl).trans ?_
  exact lift_apply _ _ _

theorem table_gate (n sc sh g : (⟨S1024, .f32⟩ : BufTy).Contents (Elt Ideal)) (d : Fin 1024) : table n sc sh g (ix2 8 d) = g (ix1 d) := by
  unfold table
  refine (concatenate_pair_apply_right (t := S16x1024) (s₁ := S8x1024) (s₂ := S8x1024) (0 : Fin 2) _ _ concatenates_S8x1024_S8x1024_S16x1024_d0 (ix2 8 d) rfl rfl
    (ix2 (0 : Fin 8) d) (fun b hb => by match b with | ⟨0, _⟩ => exact absurd rfl hb | ⟨1, _⟩ => rfl) rfl).trans ?_
  refine (concatenate_pair_apply_left (t := S8x1024) (s₁ := S1x1024) (s₂ := S7x1024) (0 : Fin 2) _ _ concatenates_S1x1024_S7x1024_S8x1024_d0 (ix2 0 d) rfl
    (ix2 (0 : Fin 1) d) (fun b => by match b with | ⟨0, _⟩ => rfl | ⟨1, _⟩ => rfl)).trans ?_
  exact lift_apply _ _ _

/-! The blocks of a point, over real inputs. -/

variable {m c} {D : Data} (H : HoldsAt m c D)
include H

theorem b0 (t : Fin 8) (p : Fin 256) (k : Fin 1024) :
    (iblk m c 0 (pt t) : Vec Ideal S256x1024 .bf16) (ix2 p k) = ((D.CT (tok t p) k * D.GC k : ℝ) : EReal) := by
  rw [blk0, V_v31]
  have e : broadcastInDim S2048x1024 ![0, 1] bcast_S1x1024_S2048x1024_0_1 (broadcastInDim S1x1024 ![1] bcast_S1024_S1x1024_1
      (m ((c.tc : Thread nD τ).loc main_arg6) : (⟨S1024, .f32⟩ : BufTy).Contents (Elt Ideal))) (ix2 (tok t p) k) = ((D.GC k : ℝ) : EReal) := by
    refine (val_main_v43_apply (m ((c.tc : Thread nD τ).loc main_arg6)) (ix2 (tok t p) k)).trans ?_
    rw [i43, val_main_v37_apply, i37]
    exact Holds.h6 H k
  exact (congrArg₂ (fun u v : EReal => u * v) (Holds.h9 H (tok t p) k) e).trans (EReal.coe_mul _ _).symm

theorem b1 (t : Fin 8) (p : Fin 256) (f : Fin 4096) :
    (iblk m c 1 (pt t) : Vec Ideal S256x4096 .bf16) (ix2 p f) = ((max (D.a (tok t p) f) 0 : ℝ) : EReal) := by
  rw [blk1, V_v27]
  exact Cert.ReferenceIdeal.Read.v29 H (tok t p) f

theorem b2 (t : Fin 8) (d : Fin 1024) (f : Fin 4096) :
    (iblk m c 2 (pt t) : Vec Ideal S1024x4096 .bf16) (ix2 d f) = ((D.W1 d f : ℝ) : EReal) := by
  rw [blk2, V_v42]
  exact Holds.h7 H d f

theorem b3 (t : Fin 8) (f : Fin 4096) (k : Fin 1024) :
    (iblk m c 3 (pt t) : Vec Ideal S4096x1024 .bf16) (ix2 f k) = ((D.W2 f k : ℝ) : EReal) := by
  rw [blk3, V_v43]
  exact Holds.h8 H f k

theorem b4 (t : Fin 8) (p : Fin 256) (d : Fin 1024) :
    (iblk m c 4 (pt t) : Vec Ideal S256x1024 .f32) (ix2 p d) = ((D.s (tok t p) d : ℝ) : EReal) := by
  rw [blk4, V_v3]
  exact Cert.ReferenceIdeal.Read.v3 H (tok t p) d

theorem b5_gain (t : Fin 8) (d : Fin 1024) : row0 (iblk m c 5 (pt t) : Vec Ideal S8x1024 .f32) (ix2 0 d) = ((D.N d : ℝ) : EReal) := by
  refine (View.ld_row_apply _ _ (by omega) 0 d).trans ?_
  rw [blk5, V_v41]
  exact (table_gain _ _ _ _ d).trans (Holds.h3 H d)

theorem b5_scale (t : Fin 8) (d : Fin 1024) : row1 (iblk m c 5 (pt t) : Vec Ideal S8x1024 .f32) (ix2 0 d) = ((D.SC d : ℝ) : EReal) := by
  refine (View.ld_row_apply _ _ (by omega) 0 d).trans ?_
  rw [blk5, V_v41]
  exact (table_scale _ _ _ _ d).trans (Holds.h4 H d)

theorem b6 (t : Fin 8) (p : Fin 256) (d : Fin 1024) :
    (iblk m c 6 (pt t) : Vec Ideal S256x1024 .f32) (ix2 p d) = ((D.CT (tok t p) d : ℝ) : EReal) := by
  rw [blk6, V_main_arg9]
  exact Holds.h9 H (tok t p) d

theorem b7 (t : Fin 8) (p : Fin 256) (d : Fin 1024) :
    (iblk m c 7 (pt t) : Vec Ideal S256x1024 .bf16) (ix2 p d) = ((D.Y (tok t p) d : ℝ) : EReal) := by
  rw [blk7, V_v44]
  exact Holds.h1 H (tok t p) d

theorem b8_gate (t : Fin 8) (d : Fin 1024) : row0 (iblk m c 8 (pt t) : Vec Ideal S8x1024 .f32) (ix2 0 d) = ((D.G d : ℝ) : EReal) := by
  refine (View.ld_row_apply _ _ (by omega) 0 d).trans ?_
  rw [blk8, V_v41]
  exact (table_gate _ _ _ _ d).trans (Holds.h2 H d)

end Cert.KernelIdeal.Points

end
-- ==== Proof.Pay.lean ====
/-
  The kernel's body over real blocks: each value it computes at a point, read at an index, is the real expression of the
  blocks it was computed from.
-/
module

public import proofs.«01_k».proof.Proof.Spec
public import proofs.«01_k».proof.Proof.Points
public import Idealize.ShloMosaic.Lib.Pointwise.Reduce
public import Idealize.ShloMosaic.Lib.Pointwise.Reshape
public import Idealize.ShloMosaic.Lib.Pointwise.ShapeOpsCore
public import Idealize.ShloMosaic.Lib.Pointwise.Tactic
public import Idealize.ShloMosaic.Lib.MatmulPlain

@[expose] public section

noncomputable section

namespace Cert.KernelIdeal.Points

open Cert.KernelIdeal Cert.KernelIdeal.Gen Idealize.ShloMosaic.ValueIdx Cert.Mlp
open Idealize.ShloMosaic hiding ix0 ix1 ix2 ix3 ix4 ix5

/-! Layout changes and sums at an index. -/

theorem col_apply (v : FVec Ideal S256 .f32) (p : Fin 256) (z : Fin 1) :
    shapeCast S256x1 v shapeCasts_S256_S256x1 (ix2 p z) = v (ix1 p) := by
  simp only [pointwise]
  rfl

theorem row_apply (v : FVec Ideal S1024 .f32) (z : Fin 1) (q : Fin 1024) :
    shapeCast S1x1024 v shapeCasts_S1024_S1x1024 (ix2 z q) = v (ix1 q) := by
  simp only [pointwise]
  rfl

theorem bcol_apply (v : FVec Ideal S256x1 .f32) (p : Fin 256) (q : Fin 1024) :
    broadcastTo S256x1024 v broadcasts_S256x1_S256x1024 (ix2 p q) = v (ix2 p 0) := by
  simp only [pointwise]
  rfl

theorem brow_apply (v : FVec Ideal S1x1024 .f32) (p : Fin 256) (q : Fin 1024) :
    broadcastTo S256x1024 v broadcasts_S1x1024_S256x1024 (ix2 p q) = v (ix2 0 q) := by
  simp only [pointwise]
  rfl

theorem sumrow_apply (v : FVec Ideal S256x1024 .f32) (p : Fin 256) :
    multiReduction .add [1] S256 v 0x00000000#32 reduces_S256x1024_S256 (.inl rfl) rfl (ix1 p) = ∑ k : Fin 1024, v (ix2 p k) := by
  refine (multiReduction_add_apply v _ _ _ _ _).trans ?_
  exact Ideal.reduceAdd_r2_a1 _ _ _

theorem sumcol_apply (v : FVec Ideal S256x1024 .f32) (q : Fin 1024) :
    multiReduction .add [0] S1024 v 0x00000000#32 reduces_S256x1024_S1024 (.inl rfl) rfl (ix1 q) = ∑ p : Fin 256, v (ix2 p q) := by
  refine (multiReduction_add_apply v _ _ _ _ _).trans ?_
  exact Ideal.reduceAdd_r2_a0 _ _ _

/-! The body's values over real blocks. -/

theorem pay5_real (v0 : Vec Ideal S256x1024 .bf16) (v2 : Vec Ideal S4096x1024 .bf16) (v5 : Vec Ideal S256x4096 .bf16)
    (A : Fin 256 → Fin 1024 → ℝ) (B : Fin 4096 → Fin 1024 → ℝ) (C : Fin 256 → Fin 4096 → ℝ)
    (h0 : ∀ p k, v0 (ix2 p k) = ((A p k : ℝ) : EReal)) (h2 : ∀ f k, v2 (ix2 f k) = ((B f k : ℝ) : EReal))
    (h5 : ∀ p f, v5 (ix2 p f) = ((C p f : ℝ) : EReal)) (p : Fin 256) (f : Fin 4096) :
    k0_pay5 v0 v2 v5 (ix2 p f) = (((∑ k, A p k * B f k) * (2 * C p f) : ℝ) : EReal) := by
  unfold k0_pay5
  simp only [shapeCast_id]
  show FloatOps.matmul (DotDims.transposedRhs 256 1024 4096) none v0 v2 (fun _ => Ideal.ofBits .f32 0x00000000#32) (ix2 p f)
    * (Ideal.ofBits .f32 0x40000000#32 * v5 (ix2 p f)) = _
  rw [Ideal.matmul_transposedRhs_apply, h5, lit_zero, lit_two]
  simp only [h0, h2, ← EReal.coe_mul, ← coe_sum, ← EReal.coe_add, zero_add]

theorem pay6_real (v0 : Vec Ideal S256x1024 .bf16) (v2 : Vec Ideal S4096x1024 .bf16) (v5 : Vec Ideal S256x4096 .bf16)
    (v13 : Vec Ideal S1024x4096 .bf16) (E : Fin 256 → Fin 4096 → ℝ) (B : Fin 1024 → Fin 4096 → ℝ)
    (h5 : ∀ p f, k0_pay5 v0 v2 v5 (ix2 p f) = ((E p f : ℝ) : EReal)) (h13 : ∀ d f, v13 (ix2 d f) = ((B d f : ℝ) : EReal))
    (p : Fin 256) (d : Fin 1024) :
    k0_pay6 v0 v2 v5 v13 (ix2 p d) = ((∑ f, E p f * B d f : ℝ) : EReal) := by
  unfold k0_pay6
  simp only [shapeCast_id]
  show FloatOps.matmul (DotDims.transposedRhs 256 4096 1024) none (k0_pay5 v0 v2 v5) v13 (fun _ => Ideal.ofBits .f32 0x00000000#32) (ix2 p d) = _
  rw [Ideal.matmul_transposedRhs_apply, lit_zero]
  simp only [h5, h13, ← EReal.coe_mul, ← coe_sum, ← EReal.coe_add, zero_add]

theorem pay9_real (v : Vec Ideal S256x1024 .f32) (A : Fin 256 → Fin 1024 → ℝ) (R : Fin 256 → ℝ)
    (h : ∀ p k, v (ix2 p k) = ((A p k : ℝ) : EReal))
    (hR : ∀ p, Ideal.rsqrt (((∑ k, A p k * A p k) * (1 / 1024) + eps : ℝ) : EReal) = ((R p : ℝ) : EReal)) (p : Fin 256) (z : Fin 1) :
    k0_pay9 v (ix2 p z) = ((R p : ℝ) : EReal) := by
  unfold k0_pay9 k0_pay8
  simp only [shapeCast_id]
  show Ideal.rsqrt (Ideal.div (shapeCast S256x1 _ shapeCasts_S256_S256x1 (ix2 p z)) (Ideal.ofBits .f32 0x44800000#32)
    + Ideal.ofBits .f32 0x358637BD#32) = _
  rw [col_apply, sumrow_apply, lit_width, lit_eps, Ideal.div_coe (by norm_num), ← hR p]
  simp only [mulf_apply, h, ← EReal.coe_mul, ← coe_sum, ← EReal.coe_add]

theorem pay10_real (v : Vec Ideal S256x1024 .f32) (A : Fin 256 → Fin 1024 → ℝ) (R : Fin 256 → ℝ)
    (h : ∀ p k, v (ix2 p k) = ((A p k : ℝ) : EReal)) (h9 : ∀ p z, k0_pay9 v (ix2 p z) = ((R p : ℝ) : EReal)) (p : Fin 256) (d : Fin 1024) :
    k0_pay10 v (ix2 p d) = ((A p d * R p : ℝ) : EReal) := by
  unfold k0_pay10 k0_pay8
  simp only [shapeCast_id]
  rw [mulf_apply, bcol_apply, h, h9, ← EReal.coe_mul]

theorem pay14_real (dh : FVec Ideal S256x1024 .f32) (rs : FVec Ideal S256x1 .f32) (xn : FVec Ideal S256x1024 .f32) (v32 : FVec Ideal S1x1024 .f32)
    (v33 : Vec Ideal S1x1024 .f32) (v53 : Vec Ideal S256x1024 .f32)
    (DH XN CT : Fin 256 → Fin 1024 → ℝ) (R : Fin 256 → ℝ) (N SC : Fin 1024 → ℝ)
    (hdh : ∀ p d, dh (ix2 p d) = ((DH p d : ℝ) : EReal)) (hrs : ∀ p z, rs (ix2 p z) = ((R p : ℝ) : EReal))
    (hxn : ∀ p d, xn (ix2 p d) = ((XN p d : ℝ) : EReal)) (h32 : ∀ d, v32 (ix2 0 d) = ((N d : ℝ) : EReal))
    (h33 : ∀ d, v33 (ix2 0 d) = ((SC d : ℝ) : EReal)) (h53 : ∀ p d, v53 (ix2 p d) = ((CT p d : ℝ) : EReal)) (p : Fin 256) (d : Fin 1024) :
    k0_pay14 dh rs xn v32 v33 v53 (ix2 p d)
      = ((CT p d + R p * (DH p d * (N d * (1 + SC d)) - XN p d * ((∑ k, DH p k * (N k * (1 + SC k)) * XN p k) * (1 / 1024))) : ℝ) : EReal) := by
  have hw : ∀ d, mulf v32 (addf (broadcast S1x1024 (Scalar.ofBits (F := Ideal) .f32 0x3F800000#32)) v33) (ix2 0 d) = ((N d * (1 + SC d) : ℝ) : EReal) := by
    intro d
    rw [mulf_apply, addf_apply, h32, h33]
    show _ * (Ideal.ofBits .f32 0x3F800000#32 + _) = _
    rw [lit_one, ← EReal.coe_add, ← EReal.coe_mul]
  unfold k0_pay14
  simp only [shapeCast_id]
  generalize mulf v32 (addf (broadcast S1x1024 (Scalar.ofBits (F := Ideal) .f32 0x3F800000#32)) v33) = W at hw ⊢
  rw [addf_apply, mulf_apply, subf_apply, mulf_apply, mulf_apply, bcol_apply, bcol_apply, brow_apply, divf_apply, col_apply, sumrow_apply,
    h53, hrs, hdh, hxn, hw]
  simp only [mulf_apply, brow_apply, hw, hdh, hxn]
  show _ + _ * (_ - _ * Ideal.div _ (Ideal.ofBits .f32 0x44800000#32)) = _
  rw [lit_width, Ideal.div_coe (by norm_num)]
  simp only [← EReal.coe_mul, ← coe_sum, ← EReal.coe_add, ← EReal.coe_sub]

theorem pay15_real (dh : FVec Ideal S256x1024 .f32) (rs : FVec Ideal S256x1 .f32) (xn : FVec Ideal S256x1024 .f32) (v32 : FVec Ideal S1x1024 .f32)
    (v33 : Vec Ideal S1x1024 .f32) (v53 : Vec Ideal S256x1024 .f32) (v66 : Vec Ideal S1x1024 .f32) (DX : Fin 256 → Fin 1024 → ℝ) (G : Fin 1024 → ℝ)
    (h14 : ∀ p d, k0_pay14 dh rs xn v32 v33 v53 (ix2 p d) = ((DX p d : ℝ) : EReal)) (h66 : ∀ d, v66 (ix2 0 d) = ((G d : ℝ) : EReal))
    (p : Fin 256) (d : Fin 1024) :
    k0_pay15 dh rs xn v32 v33 v53 v66 (ix2 p d) = ((DX p d * G d : ℝ) : EReal) := by
  unfold k0_pay15
  simp only [shapeCast_id]
  show mulf (F := Ideal) (φ := .f32) (k0_pay14 dh rs xn v32 v33 v53) (broadcastTo S256x1024 v66 broadcasts_S1x1024_S256x1024) (ix2 p d) = _
  rw [mulf_apply, brow_apply, h14, h66, ← EReal.coe_mul]

theorem pay12_real (dh xn : FVec Ideal S256x1024 .f32) (v : Vec Ideal S1x1024 .f32) (DH XN : Fin 256 → Fin 1024 → ℝ) (A : Fin 1024 → ℝ)
    (hdh : ∀ p d, dh (ix2 p d) = ((DH p d : ℝ) : EReal)) (hxn : ∀ p d, xn (ix2 p d) = ((XN p d : ℝ) : EReal))
    (h : ∀ d, v (ix2 0 d) = ((A d : ℝ) : EReal)) (d : Fin 1024) :
    k0_pay12 dh xn v (ix2 0 d) = ((A d + ∑ p, DH p d * XN p d : ℝ) : EReal) := by
  unfold k0_pay12
  simp only [shapeCast_id]
  rw [addf_apply, row_apply, sumcol_apply, h]
  simp only [mulf_apply, hdh, hxn, ← EReal.coe_mul, ← coe_sum, ← EReal.coe_add]

theorem pay13_real (dh : FVec Ideal S256x1024 .f32) (v : Vec Ideal S1x1024 .f32) (DH : Fin 256 → Fin 1024 → ℝ) (A : Fin 1024 → ℝ)
    (hdh : ∀ p d, dh (ix2 p d) = ((DH p d : ℝ) : EReal)) (h : ∀ d, v (ix2 0 d) = ((A d : ℝ) : EReal)) (d : Fin 1024) :
    k0_pay13 dh v (ix2 0 d) = ((A d + ∑ p, DH p d : ℝ) : EReal) := by
  unfold k0_pay13
  simp only [shapeCast_id]
  rw [addf_apply, row_apply, sumcol_apply, h]
  simp only [hdh, ← EReal.coe_mul, ← coe_sum, ← EReal.coe_add]

theorem pay1_real (dx : FVec Ideal S256x1024 .f32) (v : Vec Ideal S1x1024 .f32) (y : Vec Ideal S256x1024 .bf16) (DX Y : Fin 256 → Fin 1024 → ℝ)
    (A : Fin 1024 → ℝ) (hdx : ∀ p d, dx (ix2 p d) = ((DX p d : ℝ) : EReal)) (hy : ∀ p d, y (ix2 p d) = ((Y p d : ℝ) : EReal))
    (h : ∀ d, v (ix2 0 d) = ((A d : ℝ) : EReal)) (d : Fin 1024) :
    k0_pay1 dx v y (ix2 0 d) = ((A d + ∑ p, DX p d * Y p d : ℝ) : EReal) := by
  unfold k0_pay1
  simp only [shapeCast_id]
  rw [addf_apply, row_apply, sumcol_apply, h]
  simp only [mulf_apply, hdx]
  show _ + ∑ p : Fin 256, _ * y (ix2 p d) = _
  simp only [hy, ← EReal.coe_mul, ← coe_sum, ← EReal.coe_add]

theorem pay3_real (a g : Vec Ideal S1x1024 .f32) (A G : Fin 1024 → ℝ) (ha : ∀ d, a (ix2 0 d) = ((A d : ℝ) : EReal))
    (hg : ∀ d, g (ix2 0 d) = ((G d : ℝ) : EReal)) (d : Fin 1024) : k0_pay3 a g (ix2 0 d) = ((A d * G d : ℝ) : EReal) := by
  unfold k0_pay3 k0_pay2
  simp only [shapeCast_id]
  rw [mulf_apply, ha, hg, ← EReal.coe_mul]

theorem pay4_real (a g : Vec Ideal S1x1024 .f32) (A G : Fin 1024 → ℝ) (ha : ∀ d, a (ix2 0 d) = ((A d : ℝ) : EReal))
    (hg : ∀ d, g (ix2 0 d) = ((G d : ℝ) : EReal)) (d : Fin 1024) : k0_pay4 a g (ix2 0 d) = ((A d * (1 + G d) : ℝ) : EReal) := by
  unfold k0_pay4 k0_pay2
  simp only [shapeCast_id]
  rw [mulf_apply, addf_apply, ha, hg]
  show _ * (Ideal.ofBits .f32 0x3F800000#32 + _) = _
  rw [lit_one, ← EReal.coe_add, ← EReal.coe_mul]

end Cert.KernelIdeal.Points

end
-- ==== Proof.Outputs.lean ====
/-
  The kernel's four outputs over real inputs: the gradient of the hidden layer, of the residual stream and of the mixer's output, token
  by token, and the eight rows summed over the tokens block by block.
-/
module

public import proofs.«01_k».proof.Proof.HostIn
public import proofs.«01_k».proof.Proof.Pay

@[expose] public section

noncomputable section

namespace Cert.KernelIdeal.Points

open Cert.KernelIdeal Cert.KernelIdeal.Gen Cert.KernelIdeal.Value Idealize.ShloMosaic.ValueIdx Idealize.ShloMosaic.TcCoe Cert.Mlp
open Idealize.ShloMosaic hiding ix0 ix1 ix2 ix3 ix4 ix5

/-! An array with one row replaced, read at an index. -/

theorem set0_apply {F : FTy → Type} [FloatOps F] (X : Vec F S8x1024 .f32) (w : Vec F S1x1024 .f32) (i : Fin 8) (d : Fin 1024) :
    set0 X w (ix2 i d) = if i.val = 0 then w (ix2 0 d) else X (ix2 i d) := VecWindow.put_row_apply _ _ _ _ _

theorem set1_apply {F : FTy → Type} [FloatOps F] (X : Vec F S8x1024 .f32) (w : Vec F S1x1024 .f32) (i : Fin 8) (d : Fin 1024) :
    set1 X w (ix2 i d) = if i.val = 1 then w (ix2 0 d) else X (ix2 i d) := VecWindow.put_row_apply _ _ _ _ _

theorem set2_apply {F : FTy → Type} [FloatOps F] (X : Vec F S8x1024 .f32) (w : Vec F S1x1024 .f32) (i : Fin 8) (d : Fin 1024) :
    set2 X w (ix2 i d) = if i.val = 2 then w (ix2 0 d) else X (ix2 i d) := VecWindow.put_row_apply _ _ _ _ _

theorem set3_apply {F : FTy → Type} [FloatOps F] (X : Vec F S8x1024 .f32) (w : Vec F S1x1024 .f32) (i : Fin 8) (d : Fin 1024) :
    set3 X w (ix2 i d) = if i.val = 3 then w (ix2 0 d) else X (ix2 i d) := VecWindow.put_row_apply _ _ _ _ _

/-- The rows the accumulation starts from. -/
theorem start_real (i : Fin 8) (d : Fin 1024) : k0_pay7 (F := Ideal) (ix2 i d) = ((0 : ℝ) : EReal) := by
  unfold k0_pay7
  exact lit_zero

variable {m : (ℓ : Loc nD τ sig) → Buf (Elt Ideal) ℓ} {c : Dev nD} {D : Data} (H : HoldsAt m c D)
include H

theorem da_block (t : Fin 8) (p : Fin 256) (f : Fin 4096) :
    daB (iblk m c 0 (pt t)) (iblk m c 1 (pt t)) (iblk m c 3 (pt t)) (ix2 p f) = ((D.da (tok t p) f : ℝ) : EReal) :=
  pay5_real _ _ _ (fun p k => D.CT (tok t p) k * D.GC k) D.W2 (fun p f => max (D.a (tok t p) f) 0) (b0 H t) (b3 H t) (b1 H t) p f

theorem dh_block (t : Fin 8) (p : Fin 256) (d : Fin 1024) :
    dhB (iblk m c 0 (pt t)) (iblk m c 1 (pt t)) (iblk m c 2 (pt t)) (iblk m c 3 (pt t)) (ix2 p d) = ((D.dh (tok t p) d : ℝ) : EReal) :=
  pay6_real _ _ _ _ (fun p f => D.da (tok t p) f) D.W1 (da_block H t) (b2 H t) p d

theorem rs_block (t : Fin 8) (p : Fin 256) (z : Fin 1) : k0_pay9 (iblk m c 4 (pt t)) (ix2 p z) = ((D.r (tok t p) : ℝ) : EReal) :=
  pay9_real _ (fun p d => D.s (tok t p) d) (fun p => D.r (tok t p)) (b4 H t) (fun p => D.rsqrt_m (tok t p)) p z

theorem xn_block (t : Fin 8) (p : Fin 256) (d : Fin 1024) : k0_pay10 (iblk m c 4 (pt t)) (ix2 p d) = ((D.xn (tok t p) d : ℝ) : EReal) :=
  pay10_real _ (fun p d => D.s (tok t p) d) (fun p => D.r (tok t p)) (b4 H t) (rs_block H t) p d

theorem gain_block (t : Fin 8) (d : Fin 1024) : k0_pay11 (row0 (iblk m c 5 (pt t))) (ix2 0 d) = ((D.N d : ℝ) : EReal) := by
  unfold k0_pay11
  simp only [shapeCast_id]
  exact b5_gain H t d

theorem dx_block (t : Fin 8) (p : Fin 256) (d : Fin 1024) :
    dxB (iblk m c 0 (pt t)) (iblk m c 1 (pt t)) (iblk m c 2 (pt t)) (iblk m c 3 (pt t)) (iblk m c 4 (pt t)) (iblk m c 5 (pt t)) (iblk m c 6 (pt t)) (ix2 p d)
      = ((D.dx (tok t p) d : ℝ) : EReal) :=
  pay14_real _ _ _ _ _ _ (fun p d => D.dh (tok t p) d) (fun p d => D.xn (tok t p) d) (fun p d => D.CT (tok t p) d) (fun p => D.r (tok t p)) D.N D.SC
    (dh_block H t) (rs_block H t) (xn_block H t) (gain_block H t) (b5_scale H t) (b6 H t) p d

theorem dy_block (t : Fin 8) (p : Fin 256) (d : Fin 1024) :
    dyB (iblk m c 0 (pt t)) (iblk m c 1 (pt t)) (iblk m c 2 (pt t)) (iblk m c 3 (pt t)) (iblk m c 4 (pt t)) (iblk m c 5 (pt t)) (iblk m c 6 (pt t)) (iblk m c 8 (pt t)) (ix2 p d)
      = ((D.dy (tok t p) d : ℝ) : EReal) :=
  pay15_real _ _ _ _ _ _ _ (fun p d => D.dx (tok t p) d) D.G (dx_block H t) (b8_gate H t) p d

omit H in
/-- What a token adds to the accumulated row `i`. -/
def term (D : Data) (i : Fin 8) (d : Fin 1024) (t : Fin 2048) : ℝ :=
  if i.val = 0 then D.dh t d * D.xn t d else if i.val = 2 then D.dh t d else if i.val = 3 then D.dx t d * D.Y t d else 0

/-- A point adds its block's terms to the rows. -/
theorem step_real (t : Fin 8) (xo : Vec Ideal S8x1024 .f32) (A : Fin 8 → Fin 1024 → ℝ) (hA : ∀ i d, xo (ix2 i d) = ((A i d : ℝ) : EReal)) (i : Fin 8) (d : Fin 1024) :
    step (iblk m c 0 (pt t)) (iblk m c 1 (pt t)) (iblk m c 2 (pt t)) (iblk m c 3 (pt t)) (iblk m c 4 (pt t)) (iblk m c 5 (pt t)) (iblk m c 6 (pt t)) (iblk m c 7 (pt t)) xo (ix2 i d)
      = ((A i d + ∑ p, term D i d (tok t p) : ℝ) : EReal) := by
  have h0 : ∀ d, row0 xo (ix2 0 d) = ((A 0 d : ℝ) : EReal) := fun d => (View.ld_row_apply _ _ (by omega) 0 d).trans (hA 0 d)
  have h2 : ∀ d, row2 xo (ix2 0 d) = ((A 2 d : ℝ) : EReal) := fun d => (View.ld_row_apply _ _ (by omega) 0 d).trans (hA 2 d)
  have h3 : ∀ d, row3 xo (ix2 0 d) = ((A 3 d : ℝ) : EReal) := fun d => (View.ld_row_apply _ _ (by omega) 0 d).trans (hA 3 d)
  have e0 := pay12_real _ _ _ (fun p d => D.dh (tok t p) d) (fun p d => D.xn (tok t p) d) (A 0) (dh_block H t) (xn_block H t) h0 d
  have e2 := pay13_real _ _ (fun p d => D.dh (tok t p) d) (A 2) (dh_block H t) h2 d
  have e3 := pay1_real _ _ _ (fun p d => D.dx (tok t p) d) (fun p d => D.Y (tok t p) d) (A 3) (dx_block H t) (b7 H t) h3 d
  unfold step
  rw [set3_apply, set2_apply, set0_apply, e0, e2, e3, hA]
  unfold term
  by_cases c3 : i.val = 3
  · obtain rfl : i = 3 := Fin.ext c3
    simp
  by_cases c2 : i.val = 2
  · obtain rfl : i = 2 := Fin.ext c2
    simp
  by_cases c0 : i.val = 0
  · obtain rfl : i = 0 := Fin.ext c0
    simp
  simp [c0, c2, c3]

/-- The rows after the point `n`: the terms of the tokens up to it. -/
theorem acc_real : ∀ (n : ℕ) (h : n < cfg0.N) (h8 : n < 8) (i : Fin 8) (d : Fin 1024),
    acc m c n h (ix2 i d) = ((∑ s ∈ Finset.range (n + 1), (if hs : s < 8 then ∑ p, term D i d (tok ⟨s, hs⟩ p) else 0) : ℝ) : EReal)
  | 0, h, h8, i, d => by
    refine (step_real H ⟨0, h8⟩ (k0_pay7 (F := Ideal)) (fun _ _ => 0) start_real i d).trans ?_
    simp
  | n + 1, h, h8, i, d => by
    refine (step_real H ⟨n + 1, h8⟩ (acc m c n (Nat.lt_of_succ_lt h)) _ (acc_real n (Nat.lt_of_succ_lt h) (by omega)) i d).trans ?_
    rw [Finset.sum_range_succ _ (n + 1), dif_pos h8]

omit H in
/-- The sum over the blocks of the sums over their tokens is the sum over the tokens. -/
theorem sum_tok (f : Fin 2048 → ℝ) : ∑ s ∈ Finset.range 8, (if hs : s < 8 then ∑ p, f (tok ⟨s, hs⟩ p) else 0) = ∑ t, f t := by
  rw [Finset.sum_range fun s => if hs : s < 8 then ∑ p, f (tok ⟨s, hs⟩ p) else 0, ← Equiv.sum_comp (finProdFinEquiv (m := 8) (n := 256)) f, Fintype.sum_prod_type]
  refine Finset.sum_congr rfl fun s _ => ?_
  rw [dif_pos s.isLt]
  exact Finset.sum_congr rfl fun p _ => congrArg f (Fin.ext (by show 256 * s.val + p.val = p.val + 256 * s.val; omega))

/-- The eight rows the kernel returns. -/
theorem rows_real (i : Fin 8) (d : Fin 1024) :
    fin (iblk m c 5 (pt 7)) (acc m c 7 (pt 7).isLt) (ix2 i d) = ((D.rows i d : ℝ) : EReal) := by
  have hacc : ∀ i d, acc m c 7 (pt 7).isLt (ix2 i d) = ((∑ t, term D i d t : ℝ) : EReal) := fun i d =>
    (acc_real H 7 (pt 7).isLt (by omega) i d).trans (congrArg _ (sum_tok _))
  have h0 : ∀ d, row0 (acc m c 7 (pt 7).isLt) (ix2 0 d) = ((∑ t, term D 0 d t : ℝ) : EReal) := fun d =>
    (View.ld_row_apply _ _ (by omega) 0 d).trans (hacc 0 d)
  have e3 := pay3_real _ _ _ D.N h0 (b5_gain H 7) d
  have e4 := pay4_real _ _ _ D.SC h0 (b5_scale H 7) d
  unfold fin
  rw [set0_apply, set1_apply, e3, e4, hacc]
  unfold Data.rows term
  by_cases c0 : i.val = 0
  · obtain rfl : i = 0 := Fin.ext c0
    simp
  by_cases c1 : i.val = 1
  · obtain rfl : i = 1 := Fin.ext c1
    simp
  by_cases c2 : i.val = 2
  · obtain rfl : i = 2 := Fin.ext c2
    simp
  by_cases c3 : i.val = 3
  · obtain rfl : i = 3 := Fin.ext c3
    simp
  simp [c0, c1, c2, c3]

end Cert.KernelIdeal.Points

end
-- ==== Proof.Algebra.lean ====
/-
  The value claim for the backward pass of the block's feed-forward part: from finite arguments the kernel's four outputs are the
  reference's, entry by entry, both being the same real numbers.
-/
module

public import proofs.«01_k».proof.Defs
public import proofs.«01_k».proof.Proof.Outputs
public import proofs.«01_k».proof.Proof.Gen.Pre_finite
public import proofs.«01_k».proof.Proof.Gen.ReferenceIdeal.Run

@[expose] public section

noncomputable section

namespace Cert.Mlp

open Idealize.ShloMosaic.ValueIdx Idealize.ShloMosaic.TcCoe Idealize.SL.Sem
open Idealize.ShloMosaic hiding ix0 ix1 ix2 ix3 ix4 ix5
open Cert.KernelIdeal.Points (HoldsAt tok pt)

/-- A value whose magnitude is below infinity is a real number. -/
theorem real_of_lt_top (x : EReal) (h : Ideal.cmp .olt (max x (-x)) ⊤ = 1#1) : x = ((x.toReal : ℝ) : EReal) := by
  have hlt : max x (-x) < ⊤ := by
    by_contra hn
    unfold Ideal.cmp at h
    simp [hn] at h
  refine (EReal.coe_toReal (fun e => ?_) fun e => ?_).symm
  · subst e; simp at hlt
  · subst e; simp at hlt

/-- An array whose entries' magnitudes all compare below infinity holds real numbers. -/
theorem real_of_mask {s : Shape} (x : FVec Ideal s .f32) (hb : Cert.Pre_finite.S_.BroadcastsInDim s (![] : Fin 0 → Fin s.rank))
    (h : cmpf .olt (Host.absf x) (broadcastInDim s ![] hb (constant (F := Ideal) Cert.Pre_finite.S_ .f32 0x7F800000#32)) = fun _ => 1#1) (j : s.Idx) :
    x j = (((x j : EReal).toReal : ℝ) : EReal) := by
  have hj := congrFun h j
  have e : Ideal.cmp .olt (max (x j : EReal) (-(x j : EReal))) (Ideal.ofBits .f32 0x7F800000#32) = 1#1 := hj
  rw [lit_top] at e
  exact real_of_lt_top _ e

section

variable (m : (ℓ : Loc Cert.KernelIdeal.nD Cert.KernelIdeal.τ Cert.KernelIdeal.sig) → Buf (Elt Ideal) ℓ) (c : Dev Cert.KernelIdeal.nD)

open Cert.KernelIdeal in
/-- The real tables of a device's arguments. -/
def dataOf : Data where
  X t d := (m ((c.tc : Thread nD τ).loc main_arg0) (ix2 t d) : EReal).toReal
  Y t d := (m ((c.tc : Thread nD τ).loc main_arg1) (ix2 t d) : EReal).toReal
  G d := (m ((c.tc : Thread nD τ).loc main_arg2) (ix1 d) : EReal).toReal
  N d := (m ((c.tc : Thread nD τ).loc main_arg3) (ix1 d) : EReal).toReal
  SC d := (m ((c.tc : Thread nD τ).loc main_arg4) (ix1 d) : EReal).toReal
  SH d := (m ((c.tc : Thread nD τ).loc main_arg5) (ix1 d) : EReal).toReal
  GC d := (m ((c.tc : Thread nD τ).loc main_arg6) (ix1 d) : EReal).toReal
  W1 k f := (m ((c.tc : Thread nD τ).loc main_arg7) (ix2 k f) : EReal).toReal
  W2 f k := (m ((c.tc : Thread nD τ).loc main_arg8) (ix2 f k) : EReal).toReal
  CT t d := (m ((c.tc : Thread nD τ).loc main_arg9) (ix2 t d) : EReal).toReal

/-- Under the precondition a device's arguments hold their real tables. -/
theorem holds_dataOf (hpre : Cert.Pre_KernelIdeal_finite m) : HoldsAt m c (dataOf m c) := by
  obtain ⟨h0, h1, h2, h3, h4, h5, h6, h7, h8, h9⟩ := hpre c
  exact ⟨fun _ _ => real_of_mask _ _ h0 _, fun _ _ => real_of_mask _ _ h1 _, fun _ => real_of_mask _ _ h2 _, fun _ => real_of_mask _ _ h3 _,
    fun _ => real_of_mask _ _ h4 _, fun _ => real_of_mask _ _ h5 _, fun _ => real_of_mask _ _ h6 _, fun _ _ => real_of_mask _ _ h7 _,
    fun _ _ => real_of_mask _ _ h8 _, fun _ _ => real_of_mask _ _ h9 _⟩

end

/-- Every token lies in a block. -/
theorem exists_tok (t : Fin 2048) : ∃ (b : Fin 8) (p : Fin 256), t = tok b p :=
  ⟨⟨t.val / 256, by omega⟩, ⟨t.val % 256, by omega⟩, Fin.ext (by show t.val = 256 * (t.val / 256) + t.val % 256; omega)⟩

section

variable {m : (ℓ : Loc Cert.KernelIdeal.nD Cert.KernelIdeal.τ Cert.KernelIdeal.sig) → Buf (Elt Ideal) ℓ} {c : Dev Cert.KernelIdeal.nD} {D : Data}

open Cert.KernelIdeal Cert.KernelIdeal.Gen Cert.KernelIdeal.Points Cert.ReferenceIdeal.Read

variable {x0 x1 x9 : (⟨S2048x1024, .f32⟩ : BufTy).Contents (Elt Ideal)} {x2 x3 x4 x5 x6 : (⟨S1024, .f32⟩ : BufTy).Contents (Elt Ideal)}
  {x7 : (⟨S1024x4096, .f32⟩ : BufTy).Contents (Elt Ideal)} {x8 : (⟨S4096x1024, .f32⟩ : BufTy).Contents (Elt Ideal)}

/-- The gradient of the hidden layer. -/
theorem out0 (H : HoldsAt m c D) (H' : Holds D x0 x1 x2 x3 x4 x5 x6 x7 x8 x9) : ((dats m 0 c).arrAt 9 cfg0.N : Vec Ideal S2048x4096 .bf16)
    = val_main_v86 (F := Ideal) x0 x1 x2 x3 x4 x5 x6 x7 x8 x9 := by
  funext i
  obtain ⟨t, f, rfl⟩ : ∃ (t : Fin 2048) (f : Fin 4096), i = ix2 t f := ⟨i 0, i 1, ValueIdx.eq_ix2 i⟩
  obtain ⟨b, p, rfl⟩ := exists_tok t
  exact (final_9 m c b p f).trans ((da_block H b p f).trans (v86 H' (tok b p) f).symm)

/-- The gradient of the residual stream. -/
theorem out1 (H : HoldsAt m c D) (H' : Holds D x0 x1 x2 x3 x4 x5 x6 x7 x8 x9) : ((dats m 0 c).arrAt 10 cfg0.N : Vec Ideal S2048x1024 .f32)
    = val_main_v79 (F := Ideal) x0 x1 x2 x3 x4 x5 x6 x7 x8 x9 := by
  funext i
  obtain ⟨t, d, rfl⟩ : ∃ (t : Fin 2048) (d : Fin 1024), i = ix2 t d := ⟨i 0, i 1, ValueIdx.eq_ix2 i⟩
  obtain ⟨b, p, rfl⟩ := exists_tok t
  exact (final_10 m c b p d).trans ((dx_block H b p d).trans (v79 H' (tok b p) d).symm)

/-- The rows summed over the tokens. -/
theorem out2 (H : HoldsAt m c D) (H' : Holds D x0 x1 x2 x3 x4 x5 x6 x7 x8 x9) : ((dats m 0 c).arrAt 11 cfg0.N : Vec Ideal S8x1024 .f32)
    = val_main_v93 (F := Ideal) x0 x1 x2 x3 x4 x5 x6 x7 x8 x9 := by
  funext i
  obtain ⟨k, d, rfl⟩ : ∃ (k : Fin 8) (d : Fin 1024), i = ix2 k d := ⟨i 0, i 1, ValueIdx.eq_ix2 i⟩
  exact (congrFun (final_11 m c) (ix2 k d)).trans ((rows_real H k d).trans (v93 H' k d).symm)

/-- The gradient of the mixer's output. -/
theorem out3 (H : HoldsAt m c D) (H' : Holds D x0 x1 x2 x3 x4 x5 x6 x7 x8 x9) : ((dats m 0 c).arrAt 12 cfg0.N : Vec Ideal S2048x1024 .bf16)
    = val_main_v94 (F := Ideal) x0 x1 x2 x3 x4 x5 x6 x7 x8 x9 := by
  funext i
  obtain ⟨t, d, rfl⟩ : ∃ (t : Fin 2048) (d : Fin 1024), i = ix2 t d := ⟨i 0, i 1, ValueIdx.eq_ix2 i⟩
  obtain ⟨b, p, rfl⟩ := exists_tok t
  exact (final_12 m c b p d).trans ((dy_block H b p d).trans (v94 H' (tok b p) d).symm)

end

/-- The reference's arguments hold the same real tables. -/
theorem holds_reference (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hpre : Cert.Pre_KernelIdeal_finite m)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.ReferenceIdeal.Read.Holds (dataOf m c) (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9)) := by
  obtain ⟨e0, e1, e2, e3, e4, e5, e6, e7, e8, e9⟩ := h
  rw [e0, e1, e2, e3, e4, e5, e6, e7, e8, e9]
  exact holds_dataOf m c hpre

/-- The kernel's and the reference's results are the same arrays. -/
theorem algebraic : Cert.algebraic_KernelIdeal_ReferenceIdeal_pre_finite := by
  intro m ρ m' ρ' hpre hagree
  refine ⟨_, _, _, _, Cert.KernelIdeal.Value.run_blocks m ρ, ?_⟩
  refine (θ_run Cert.ReferenceIdeal.defs _ _).mono (fun r h c => ?_) (Cert.ReferenceIdeal.Value.run (F := Ideal) m' ρ')
  obtain ⟨r0, r1, r2, r3, rest⟩ := h c
  have H := holds_dataOf m c hpre
  have H' := holds_reference m m' c hpre (hagree c)
  exact ⟨(r0.trans (Cert.ReferenceIdeal.Read.val_main_v86_eq m' c)).trans (out0 H H').symm, (r1.trans (Cert.ReferenceIdeal.Read.val_main_v79_eq m' c)).trans (out1 H H').symm,
    (r2.trans (Cert.ReferenceIdeal.Read.val_main_v93_eq m' c)).trans (out2 H H').symm, (r3.trans (Cert.ReferenceIdeal.Read.val_main_v94_eq m' c)).trans (out3 H H').symm, rest⟩

/-- The reference runs, and leaves its arguments and its semaphores as they were. -/
theorem quiescent_reference : Cert.quiescent_ReferenceIdeal := fun m ρ _ =>
  (θ_run Cert.ReferenceIdeal.defs _ _).mono (fun r h => ⟨fun c => (h c).2.2.2.2, Idealize.ShloMosaic.sem_eq_zero_of_no_sems (by decide) r.2⟩)
    (Cert.ReferenceIdeal.Value.run (F := Ideal) m ρ)

end Cert.Mlp

end
-- ==== Proof.InGrad.lean ====
/-
  The input-side weight gradient of the feed-forward block: each of the eight grid points multiplies the transposed
  normalised stream by one band of columns of the gradient, and the bands side by side are the reference's gradient.
-/
module

public import proofs.«01_k».proof.Proof.Gen.KernelInIdeal.Value
public import proofs.«01_k».proof.Proof.Gen.ReferenceInIdeal.Run
public import proofs.«01_k».proof.Proof.Gen.ReferenceInIdeal.Read
public import proofs.«01_k».proof.Defs
public import Idealize.ShloMosaic.Lib.Pointwise.Reshape
public import Idealize.ShloMosaic.Lib.Pointwise.ShapeOpsCore
public import Idealize.ShloMosaic.Lib.Pointwise.Contract
public import Idealize.ShloMosaic.Lib.Pointwise.Tactic

@[expose] public section

noncomputable section

namespace Cert.KernelInIdeal.Points

open Cert.KernelInIdeal Cert.KernelInIdeal.Gen Cert.KernelInIdeal.Value Idealize.ShloMosaic.TcCoe Idealize.SL.Sem
open Idealize.ShloMosaic.ValueIdx
open Idealize.ShloMosaic hiding ix0 ix1 ix2 ix3 ix4 ix5
open Cert.ReferenceInIdeal.Read

variable (m : (ℓ : Loc nD τ sig) → Buf (Elt Ideal) ℓ)

/-- The grid point of the band `t`. -/
abbrev pt (t : Fin 8) : Fin cfg0.N := ⟨t.val, by rw [show cfg0.N = 8 from N_0]; exact t.isLt⟩
/-- The column at the place `q` of the band `t`. -/
abbrev col (t : Fin 8) (q : Fin 512) : Fin 4096 := ⟨512 * t.val + q.val, by omega⟩

/-- The body's product: rows of the gradient summed over the tokens. -/
theorem pay1_apply (a : Vec Ideal S2048x1024 .bf16) (b : Vec Ideal S2048x512 .bf16) (d : Fin 1024) (q : Fin 512) :
    k0_pay1 a b (ix3 0 d q) = ∑ k : Fin 2048, (a (ix2 k d) : EReal) * (b (ix2 k q) : EReal) := by
  unfold k0_pay1
  simp only [pointwise]
  exact zero_add _

/-- Window 0 reads the normalised stream, whole. -/
theorem blk0 (c : Dev nD) (t : Fin 8) (k : Fin 2048) (d : Fin 1024) :
    (iblk m c 0 (pt t) : Vec Ideal S2048x1024 .bf16) (ix2 k d) = V m c main_v21 (ix2 k d) := by
  have hi : ∀ t : Fin cfg0.N, win0_0.index t 0 = 0 ∧ win0_0.index t 1 = 0 :=
    (by decide +kernel : ∀ t : Fin grid0.N, win0_0.index t 0 = 0 ∧ win0_0.index t 1 = 0)
  unfold iblk
  rw [View.read_apply]
  show V m c main_v21 _ = V m c main_v21 _
  congr 1
  funext a
  apply Fin.ext
  match a with
  | ⟨0, _⟩ => show win0_0.index (pt t) 0 * 2048 + 1 * k.val = k.val; rw [(hi (pt t)).1]; omega
  | ⟨1, _⟩ => show win0_0.index (pt t) 1 * 1024 + 1 * d.val = d.val; rw [(hi (pt t)).2]; omega

/-- Window 1 reads one band of columns of the gradient. -/
theorem blk1 (c : Dev nD) (t : Fin 8) (k : Fin 2048) (q : Fin 512) :
    (iblk m c 1 (pt t) : Vec Ideal S2048x512 .bf16) (ix2 k q) = V m c main_arg5 (ix2 k (col t q)) := by
  have hi : ∀ t : Fin cfg0.N, win0_1.index t 0 = 0 ∧ win0_1.index t 1 = t.val :=
    (by decide +kernel : ∀ t : Fin grid0.N, win0_1.index t 0 = 0 ∧ win0_1.index t 1 = t.val)
  unfold iblk
  rw [View.read_apply]
  show V m c main_arg5 _ = V m c main_arg5 _
  congr 1
  funext a
  apply Fin.ext
  match a with
  | ⟨0, _⟩ => show win0_1.index (pt t) 0 * 2048 + 1 * k.val = k.val; rw [(hi (pt t)).1]; omega
  | ⟨1, _⟩ => show win0_1.index (pt t) 1 * 512 + 1 * q.val = 512 * t.val + q.val; rw [(hi (pt t)).2]; dsimp only; omega

/-- The body's result is its product of the two blocks. -/
theorem out2_eq (a : Vec Ideal S2048x1024 .bf16) (b : Vec Ideal S2048x512 .bf16) : out0_2 a b = k0_pay1 a b := by
  have hz : (![0, 0] : Fin 2 → Nat) = fun _ => 0 := funext fun a => by fin_cases a <;> rfl
  have hz3 : (![0, 0, 0] : Fin 3 → Nat) = fun _ => 0 := funext fun a => by fin_cases a <;> rfl
  unfold out0_2
  rw [View.canon_unit_zero hz3, View.ld_unit_zero (S := S2048x1024) hz _ a, View.ld_unit_zero (S := S2048x512) hz _ b]

/-- The gradient after the run, band by band. -/
theorem final_2 (c : Dev nD) (t : Fin 8) (d : Fin 1024) (q : Fin 512) :
    ((dats m 0 c).arrAt 2 cfg0.N : Vec Ideal S8x1024x512 .bf16) (ix3 t d q) = k0_pay1 (iblk m c 0 (pt t)) (iblk m c 1 (pt t)) (ix3 0 d q) := by
  have hi : ∀ t : Fin cfg0.N, win0_2.index t 0 = t.val ∧ win0_2.index t 1 = 0 ∧ win0_2.index t 2 = 0 :=
    (by decide +kernel : ∀ t : Fin grid0.N, win0_2.index t 0 = t.val ∧ win0_2.index t 1 = 0 ∧ win0_2.index t 2 = 0)
  have e := congrFun (blocks2 m c (pt t) (flush0_2 (pt t))) (ix3 0 d q : S1x1024x512.Idx)
  rw [flushed2, out2_eq, View.read_apply] at e
  refine Eq.trans (congrArg ((dats m 0 c).arrAt 2 cfg0.N) ?_) e
  funext a
  apply Fin.ext
  match a with
  | ⟨0, _⟩ => show t.val = win0_2.index (pt t) 0 * 1 + 1 * 0; rw [(hi (pt t)).1]; dsimp only; omega
  | ⟨1, _⟩ => show d.val = win0_2.index (pt t) 1 * 1024 + 1 * d.val; rw [(hi (pt t)).2.1]; omega
  | ⟨2, _⟩ => show q.val = win0_2.index (pt t) 2 * 512 + 1 * q.val; rw [(hi (pt t)).2.2]; omega

/-- The normalised stream the kernel is launched on is the reference's, rounded. -/
theorem V_v21 (c : Dev nD) : V m c main_v21 = (truncf (F := Ideal) (φ := .f32) .bf16 (val_main_v20 (F := Ideal) (m ((c.tc : Thread nD τ).loc main_arg0)) (m ((c.tc : Thread nD τ).loc main_arg1))
    (m ((c.tc : Thread nD τ).loc main_arg2)) (m ((c.tc : Thread nD τ).loc main_arg3))) bitsLt_bf16_f32 : (⟨S2048x1024, .bf16⟩ : BufTy).Contents (Elt Ideal)) := by
  unfold_abbrev_sides
  simp only [hostOps0, List.flatten_cons, List.flatten_nil, List.append_nil, List.cons_append, List.nil_append,
    StableHlo.TRef.nullary, StableHlo.TRef.unary, StableHlo.TRef.binary, StableHlo.TRef.toBuf, StableHlo.TRef.ofBuf, cast_eq]
  after_results_simp
  rfl

/-- The reference's gradient at an index: the normalised stream times the gradient, summed over the tokens. -/
theorem reference_apply (x0 : (⟨S2048x1024, .f32⟩ : BufTy).Contents (Elt Ideal)) (x1 x2 x3 : (⟨S1024, .f32⟩ : BufTy).Contents (Elt Ideal))
    (x5 : (⟨S2048x4096, .bf16⟩ : BufTy).Contents (Elt Ideal)) (t : Fin 8) (d : Fin 1024) (q : Fin 512) :
    val_main_v27 (F := Ideal) x0 x1 x2 x3 x5 (ix3 t d q)
      = ∑ k : Fin 2048, (val_main_v20 (F := Ideal) x0 x1 x2 x3 (ix2 k d) : EReal) * (x5 (ix2 k (col t q)) : EReal) := by
  rw [val_main_v27_apply, val_main_v26_apply, val_main_v25_apply, val_main_v24_apply]
  refine (val_main_v23_apply x0 x1 x2 x3 x5 _).trans (Finset.sum_congr rfl fun k _ => ?_)
  rw [val_main_v22_apply]
  refine (mul_comm _ _).trans (congrArg₂ (fun u v : EReal => u * v) (congrArg (val_main_v20 (F := Ideal) x0 x1 x2 x3) ?_) (congrArg x5 ?_))
  · funext a
    apply Fin.ext
    match a with
    | ⟨0, _⟩ => rfl
    | ⟨1, _⟩ => show ((d.val * 8 + t.val) * 512 + q.val) / 4096 = d.val; omega
  · funext a
    apply Fin.ext
    match a with
    | ⟨0, _⟩ => rfl
    | ⟨1, _⟩ => show ((d.val * 8 + t.val) * 512 + q.val) % 4096 = 512 * t.val + q.val; omega

omit m in
/-- Two arrays of bands with the same entries are the same. -/
theorem bands_ext {f g : (⟨S8x1024x512, .bf16⟩ : BufTy).Contents (Elt Ideal)} (h : ∀ (t : Fin 8) (d : Fin 1024) (q : Fin 512), f (ix3 t d q) = g (ix3 t d q)) : f = g := by
  funext i
  rw [ValueIdx.eq_ix3 i]
  exact h _ _ _

/-- The kernel's result is the reference's on the same arguments. -/
theorem result (c : Dev nD) : (dats m 0 c).arrAt 2 cfg0.N = val_main_v27 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg5)) := by
  refine bands_ext fun t d q => ?_
  refine (final_2 m c t d q).trans ((pay1_apply _ _ d q).trans ((Finset.sum_congr rfl fun k _ => ?_).trans (reference_apply _ _ _ _ _ t d q).symm))
  refine congrArg₂ (fun u v : EReal => u * v) ((blk0 m c t k d).trans ?_) ((blk1 m c t k q).trans ?_)
  · rw [V_v21]; rfl
  · rw [V_main_arg5]

/-- The reference's result depends on its arguments only. -/
theorem reference_congr {x0 y0 : (⟨S2048x1024, .f32⟩ : BufTy).Contents (Elt Ideal)} {x1 y1 x2 y2 x3 y3 : (⟨S1024, .f32⟩ : BufTy).Contents (Elt Ideal)}
    {x5 y5 : (⟨S2048x4096, .bf16⟩ : BufTy).Contents (Elt Ideal)} (e0 : y0 = x0) (e1 : y1 = x1) (e2 : y2 = x2) (e3 : y3 = x3) (e5 : y5 = x5) :
    val_main_v27 (F := Ideal) y0 y1 y2 y3 y5 = val_main_v27 (F := Ideal) x0 x1 x2 x3 x5 := by
  subst e0; subst e1; subst e2; subst e3; subst e5; rfl

/-- The kernel's and the reference's results are the same array. -/
theorem algebraic : Cert.algebraic_KernelInIdeal_ReferenceInIdeal := by
  intro m ρ m' ρ' hpre hagree
  refine ⟨_, Cert.KernelInIdeal.Value.run_blocks m ρ, ?_⟩
  refine (θ_run Cert.ReferenceInIdeal.defs _ _).mono (fun r h c => ?_) (Cert.ReferenceInIdeal.Value.run (F := Ideal) m' ρ')
  obtain ⟨r0, rest⟩ := h c
  obtain ⟨e0, e1, e2, e3, e4, e5⟩ := hagree c
  exact ⟨(r0.trans (Cert.ReferenceInIdeal.Read.val_main_v27_eq _ _ _ _ _)).trans ((reference_congr e0 e1 e2 e3 e5).trans (result m c).symm), rest⟩

/-- The reference runs, and leaves its arguments and its semaphores as they were. -/
theorem quiescent_reference : Cert.quiescent_ReferenceInIdeal := fun m ρ _ =>
  (θ_run Cert.ReferenceInIdeal.defs _ _).mono (fun r h => ⟨fun c => (h c).2, Idealize.ShloMosaic.sem_eq_zero_of_no_sems (by decide) r.2⟩)
    (Cert.ReferenceInIdeal.Value.run (F := Ideal) m ρ)

end Cert.KernelInIdeal.Points

end
-- ==== Proof.OutGrad.lean ====
/-
  The output-side weight gradient of the feed-forward block: each grid point squares one band of the hidden layer's
  columns, transposes it, and multiplies it by the gradient of the branch; the bands on top of each other are the
  reference's gradient.
-/
module

public import proofs.«01_k».proof.Proof.Gen.KernelOutIdeal.Value
public import proofs.«01_k».proof.Proof.Gen.ReferenceOutIdeal.Run
public import proofs.«01_k».proof.Proof.Gen.ReferenceOutIdeal.Read
public import proofs.«01_k».proof.Defs
public import Idealize.ShloMosaic.Lib.Pointwise.Reshape
public import Idealize.ShloMosaic.Lib.Pointwise.ShapeOpsCore
public import Idealize.ShloMosaic.Lib.Pointwise.Contract
public import Idealize.ShloMosaic.Lib.Pointwise.Tactic

@[expose] public section

noncomputable section

namespace Cert.KernelOutIdeal.Points

open Cert.KernelOutIdeal Cert.KernelOutIdeal.Gen Cert.KernelOutIdeal.Value Idealize.ShloMosaic.TcCoe Idealize.SL.Sem
open Idealize.ShloMosaic.ValueIdx
open Idealize.ShloMosaic hiding ix0 ix1 ix2 ix3 ix4 ix5
open Cert.ReferenceOutIdeal.Read

variable (m : (ℓ : Loc nD τ sig) → Buf (Elt Ideal) ℓ)

/-- The grid point of the band `t`. -/
abbrev pt (t : Fin 4) : Fin cfg0.N := ⟨t.val, by rw [show cfg0.N = 4 from N_0]; exact t.isLt⟩
/-- The hidden unit at the place `p` of the band `t`. -/
abbrev hid (t : Fin 4) (p : Fin 1024) : Fin 4096 := ⟨1024 * t.val + p.val, by omega⟩

/-- The body's product: squared hidden layer times gradient, summed over the tokens. -/
theorem pay1_apply (a b : Vec Ideal S2048x1024 .bf16) (p d : Fin 1024) :
    k0_pay1 a b (ix2 p d) = ∑ k : Fin 2048, ((a (ix2 k p) : EReal) * (a (ix2 k p) : EReal)) * (b (ix2 k d) : EReal) := by
  unfold k0_pay1
  simp only [pointwise]
  exact zero_add _

/-- Window 0 reads one band of columns of the hidden layer. -/
theorem blk0 (c : Dev nD) (t : Fin 4) (k : Fin 2048) (p : Fin 1024) :
    (iblk m c 0 (pt t) : Vec Ideal S2048x1024 .bf16) (ix2 k p) = V m c main_v1 (ix2 k (hid t p)) := by
  have hi : ∀ t : Fin cfg0.N, win0_0.index t 0 = 0 ∧ win0_0.index t 1 = t.val :=
    (by decide +kernel : ∀ t : Fin grid0.N, win0_0.index t 0 = 0 ∧ win0_0.index t 1 = t.val)
  unfold iblk
  rw [View.read_apply]
  show V m c main_v1 _ = V m c main_v1 _
  congr 1
  funext a
  apply Fin.ext
  match a with
  | ⟨0, _⟩ => show win0_0.index (pt t) 0 * 2048 + 1 * k.val = k.val; rw [(hi (pt t)).1]; omega
  | ⟨1, _⟩ => show win0_0.index (pt t) 1 * 1024 + 1 * p.val = 1024 * t.val + p.val; rw [(hi (pt t)).2]; dsimp only; omega

/-- Window 1 reads the gradient of the branch, whole. -/
theorem blk1 (c : Dev nD) (t : Fin 4) (k : Fin 2048) (d : Fin 1024) :
    (iblk m c 1 (pt t) : Vec Ideal S2048x1024 .bf16) (ix2 k d) = V m c main_v5 (ix2 k d) := by
  have hi : ∀ t : Fin cfg0.N, win0_1.index t 0 = 0 ∧ win0_1.index t 1 = 0 :=
    (by decide +kernel : ∀ t : Fin grid0.N, win0_1.index t 0 = 0 ∧ win0_1.index t 1 = 0)
  unfold iblk
  rw [View.read_apply]
  show V m c main_v5 _ = V m c main_v5 _
  congr 1
  funext a
  apply Fin.ext
  match a with
  | ⟨0, _⟩ => show win0_1.index (pt t) 0 * 2048 + 1 * k.val = k.val; rw [(hi (pt t)).1]; omega
  | ⟨1, _⟩ => show win0_1.index (pt t) 1 * 1024 + 1 * d.val = d.val; rw [(hi (pt t)).2]; omega

/-- The body's result is its product of the two blocks. -/
theorem out2_eq (a b : Vec Ideal S2048x1024 .bf16) : out0_2 a b = k0_pay1 a b := by
  have hz : (![0, 0] : Fin 2 → Nat) = fun _ => 0 := funext fun a => by fin_cases a <;> rfl
  unfold out0_2
  rw [View.canon_unit_zero hz, View.ld_unit_zero (S := S2048x1024) hz _ a, View.ld_unit_zero (S := S2048x1024) hz _ b]

/-- The gradient after the run, band by band. -/
theorem final_2 (c : Dev nD) (t : Fin 4) (p d : Fin 1024) :
    ((dats m 0 c).arrAt 2 cfg0.N : Vec Ideal S4096x1024 .bf16) (ix2 (hid t p) d) = k0_pay1 (iblk m c 0 (pt t)) (iblk m c 1 (pt t)) (ix2 p d) := by
  have hi : ∀ t : Fin cfg0.N, win0_2.index t 0 = t.val ∧ win0_2.index t 1 = 0 :=
    (by decide +kernel : ∀ t : Fin grid0.N, win0_2.index t 0 = t.val ∧ win0_2.index t 1 = 0)
  have e := congrFun (blocks2 m c (pt t) (flush0_2 (pt t))) (ix2 p d : S1024x1024.Idx)
  rw [flushed2, out2_eq, View.read_apply] at e
  refine Eq.trans (congrArg ((dats m 0 c).arrAt 2 cfg0.N) ?_) e
  funext a
  apply Fin.ext
  match a with
  | ⟨0, _⟩ => show 1024 * t.val + p.val = win0_2.index (pt t) 0 * 1024 + 1 * p.val; rw [(hi (pt t)).1]; dsimp only; omega
  | ⟨1, _⟩ => show d.val = win0_2.index (pt t) 1 * 1024 + 1 * d.val; rw [(hi (pt t)).2]; omega

/-- The hidden layer the kernel is launched on is the reference's, rounded. -/
theorem V_v1 (c : Dev nD) : V m c main_v1 = (truncf (F := Ideal) (φ := .f32) .bf16 (val_main_v0 (F := Ideal) (m ((c.tc : Thread nD τ).loc main_arg0))) bitsLt_bf16_f32 : (⟨S2048x4096, .bf16⟩ : BufTy).Contents (Elt Ideal)) := by
  unfold_abbrev_sides
  simp only [ List.flatten_cons, List.flatten_nil, List.append_nil, List.cons_append, List.nil_append,
    StableHlo.TRef.nullary, StableHlo.TRef.unary, StableHlo.TRef.binary, StableHlo.TRef.toBuf, StableHlo.TRef.ofBuf, cast_eq]
  after_results_simp
  rfl

/-- The gradient of the branch the kernel is launched on: the stream's gradient times the gate. -/
theorem V_v5 (c : Dev nD) : V m c main_v5 = (truncf (F := Ideal) (φ := .f32) .bf16 (mulf (F := Ideal) (φ := .f32) (m ((c.tc : Thread nD τ).loc main_arg3)) (val_main_v6 (F := Ideal) (m ((c.tc : Thread nD τ).loc main_arg1)))) bitsLt_bf16_f32 : (⟨S2048x1024, .bf16⟩ : BufTy).Contents (Elt Ideal)) := by
  unfold_abbrev_sides
  simp only [ List.flatten_cons, List.flatten_nil, List.append_nil, List.cons_append, List.nil_append,
    StableHlo.TRef.nullary, StableHlo.TRef.unary, StableHlo.TRef.binary, StableHlo.TRef.toBuf, StableHlo.TRef.ofBuf, cast_eq]
  after_results_simp
  rfl

/-- The reference's gradient at an index: the squared hidden layer times the branch's gradient, summed over the tokens. -/
theorem reference_apply (x0 : (⟨S2048x4096, .f32⟩ : BufTy).Contents (Elt Ideal)) (x1 : (⟨S1024, .f32⟩ : BufTy).Contents (Elt Ideal))
    (x3 : (⟨S2048x1024, .f32⟩ : BufTy).Contents (Elt Ideal)) (f : Fin 4096) (d : Fin 1024) :
    val_main_v10 (F := Ideal) x0 x1 x3 (ix2 f d)
      = ∑ k : Fin 2048, ((val_main_v0 (F := Ideal) x0 (ix2 k f) : EReal) * (val_main_v0 (F := Ideal) x0 (ix2 k f) : EReal))
          * ((x3 (ix2 k d) : EReal) * (val_main_v6 (F := Ideal) x1 (ix2 k d) : EReal)) := by
  rw [val_main_v10_apply, val_main_v9_apply]
  refine (val_main_v8_apply x0 x1 x3 _).trans (Finset.sum_congr rfl fun k _ => ?_)
  rw [val_main_v7_apply, val_main_v1_apply]
  have hl : lidx_main_v8 (idx_main_v9 (ix2 f d)) k = ix2 k d := by
    funext a
    apply Fin.ext
    match a with
    | ⟨0, _⟩ => rfl
    | ⟨1, _⟩ => rfl
  have hr : ridx_main_v8 (idx_main_v9 (ix2 f d)) k = ix2 k f := by
    funext a
    apply Fin.ext
    match a with
    | ⟨0, _⟩ => rfl
    | ⟨1, _⟩ => rfl
  rw [hl, hr]
  generalize val_main_v0 (F := Ideal) x0 (ix2 k f) = u
  generalize val_main_v6 (F := Ideal) x1 (ix2 k d) = g
  generalize x3 (ix2 k d) = y
  exact (mul_comm _ _).trans (congrArg _ (mul_comm _ _))

omit m in
/-- Two arrays with the same entries, band by band, are the same. -/
theorem bands_ext {f g : (⟨S4096x1024, .bf16⟩ : BufTy).Contents (Elt Ideal)} (h : ∀ (t : Fin 4) (p d : Fin 1024), f (ix2 (hid t p) d) = g (ix2 (hid t p) d)) : f = g := by
  funext i
  rw [ValueIdx.eq_ix2 i]
  generalize (i 1 : Fin 1024) = d
  generalize (i 0 : Fin 4096) = u
  have hu : u.val < 4096 := u.isLt
  have e : u = hid ⟨u.val / 1024, by omega⟩ ⟨u.val % 1024, by omega⟩ := Fin.ext (by show u.val = 1024 * (u.val / 1024) + u.val % 1024; omega)
  rw [e]
  exact h _ _ _

/-- The kernel's result is the reference's on the same arguments. -/
theorem result (c : Dev nD) : (dats m 0 c).arrAt 2 cfg0.N = val_main_v10 (F := Ideal) (m ((c.tc : Thread nD τ).loc main_arg0)) (m ((c.tc : Thread nD τ).loc main_arg1))
    (m ((c.tc : Thread nD τ).loc main_arg3)) := by
  refine bands_ext fun t p d => ?_
  refine (final_2 m c t p d).trans ((pay1_apply _ _ p d).trans ((Finset.sum_congr rfl fun k _ => ?_).trans (reference_apply _ _ _ (hid t p) d).symm))
  have h0 : (iblk m c 0 (pt t) : Vec Ideal S2048x1024 .bf16) (ix2 k p) = val_main_v0 (F := Ideal) (m ((c.tc : Thread nD τ).loc main_arg0)) (ix2 k (hid t p)) :=
    (blk0 m c t k p).trans (by rw [V_v1]; rfl)
  refine congrArg₂ (fun u v : EReal => u * v) (congrArg₂ (fun u v : EReal => u * v) h0 h0) ((blk1 m c t k d).trans ?_)
  rw [V_v5]
  rfl

/-- The reference's result depends on its arguments only. -/
theorem reference_congr {x0 y0 : (⟨S2048x4096, .f32⟩ : BufTy).Contents (Elt Ideal)} {x1 y1 : (⟨S1024, .f32⟩ : BufTy).Contents (Elt Ideal)}
    {x3 y3 : (⟨S2048x1024, .f32⟩ : BufTy).Contents (Elt Ideal)} (e0 : y0 = x0) (e1 : y1 = x1) (e3 : y3 = x3) :
    val_main_v10 (F := Ideal) y0 y1 y3 = val_main_v10 (F := Ideal) x0 x1 x3 := by
  subst e0; subst e1; subst e3; rfl

/-- The kernel's and the reference's results are the same array. -/
theorem algebraic : Cert.algebraic_KernelOutIdeal_ReferenceOutIdeal := by
  intro m ρ m' ρ' hpre hagree
  refine ⟨_, Cert.KernelOutIdeal.Value.run_blocks m ρ, ?_⟩
  refine (θ_run Cert.ReferenceOutIdeal.defs _ _).mono (fun r h c => ?_) (Cert.ReferenceOutIdeal.Value.run (F := Ideal) m' ρ')
  obtain ⟨r0, rest⟩ := h c
  obtain ⟨e0, e1, e2, e3⟩ := hagree c
  exact ⟨(r0.trans (Cert.ReferenceOutIdeal.Read.val_main_v10_eq _ _ _)).trans ((reference_congr e0 e1 e3).trans (result m c).symm), rest⟩

/-- The reference runs, and leaves its arguments and its semaphores as they were. -/
theorem quiescent_reference : Cert.quiescent_ReferenceOutIdeal := fun m ρ _ =>
  (θ_run Cert.ReferenceOutIdeal.defs _ _).mono (fun r h => ⟨fun c => (h c).2, Idealize.ShloMosaic.sem_eq_zero_of_no_sems (by decide) r.2⟩)
    (Cert.ReferenceOutIdeal.Value.run (F := Ideal) m ρ)

end Cert.KernelOutIdeal.Points

end
-- ==== Proof.Forward.lean ====
/-
  The forward pass of the feed-forward block: each of the eight grid points takes one block of tokens through the two
  products, the gate, the stream and the next layer's norm; block by block the four results are the reference's.
-/
module

public import proofs.«01_k».proof.Proof.Gen.KernelFwdIdeal.Value
public import proofs.«01_k».proof.Proof.Gen.ReferenceFwdIdeal.Run
public import proofs.«01_k».proof.Proof.Gen.ReferenceFwdIdeal.Read
public import proofs.«01_k».proof.Proof.RowStore
public import proofs.«01_k».proof.Proof.Spec
public import proofs.«01_k».proof.Defs
public import Idealize.ShloMosaic.Lib.Pointwise.Reduce
public import Idealize.ShloMosaic.Lib.Pointwise.Reshape
public import Idealize.ShloMosaic.Lib.Pointwise.ShapeOpsCore
public import Idealize.ShloMosaic.Lib.Pointwise.Contract
public import Idealize.ShloMosaic.Lib.Pointwise.Tactic

@[expose] public section

noncomputable section

namespace Cert.KernelFwdIdeal.Points

open Cert.KernelFwdIdeal Cert.KernelFwdIdeal.Gen Cert.KernelFwdIdeal.Value Idealize.ShloMosaic.TcCoe Idealize.SL.Sem
open Idealize.ShloMosaic.ValueIdx
open Idealize.ShloMosaic hiding ix0 ix1 ix2 ix3 ix4 ix5
open Cert.ReferenceFwdIdeal.Read

/-! The body's values at an index. -/

theorem col_apply (v : FVec Ideal S256 .f32) (p : Fin 256) (z : Fin 1) :
    shapeCast S256x1 v shapeCasts_S256_S256x1 (ix2 p z) = v (ix1 p) := by
  simp only [pointwise]
  rfl

theorem bcol_apply (v : FVec Ideal S256x1 .f32) (p : Fin 256) (q : Fin 1024) :
    broadcastTo S256x1024 v broadcasts_S256x1_S256x1024 (ix2 p q) = v (ix2 p 0) := by
  simp only [pointwise]
  rfl

theorem brow_apply (v : FVec Ideal S1x1024 .f32) (p : Fin 256) (q : Fin 1024) :
    broadcastTo S256x1024 v broadcasts_S1x1024_S256x1024 (ix2 p q) = v (ix2 0 q) := by
  simp only [pointwise]
  rfl

theorem sumrow_apply (v : FVec Ideal S256x1024 .f32) (p : Fin 256) :
    multiReduction .add [1] S256 v 0x00000000#32 reduces_S256x1024_S256 (.inl rfl) rfl (ix1 p) = ∑ k : Fin 1024, v (ix2 p k) := by
  refine (multiReduction_add_apply v _ _ _ _ _).trans ?_
  exact Ideal.reduceAdd_r2_a1 _ _ _

theorem up_apply (a : FVec Ideal S256x1024 .bf16) (b : FVec Ideal S1024x4096 .bf16) (p : Fin 256) (f : Fin 4096) :
    matmul dot_S256x1024_S1024x4096_S256x4096_1_0_0_1_n_n none a b (constant S256x4096 .f32 0x00000000#32) (ix2 p f)
      = ∑ k : Fin 1024, (a (ix2 p k) : EReal) * (b (ix2 k f) : EReal) := by
  simp only [pointwise]
  exact zero_add _

theorem down_apply (a : FVec Ideal S256x4096 .bf16) (b : FVec Ideal S4096x1024 .bf16) (p : Fin 256) (d : Fin 1024) :
    matmul dot_S256x4096_S4096x1024_S256x1024_1_0_0_1_n_n none a b (constant S256x1024 .f32 0x00000000#32) (ix2 p d)
      = ∑ k : Fin 4096, (a (ix2 p k) : EReal) * (b (ix2 k d) : EReal) := by
  simp only [pointwise]
  exact zero_add _

/-! The reference's values at an index. -/

section
variable (x0 : (⟨S2048x1024, .f32⟩ : BufTy).Contents (Elt Ideal)) (x1 x2 x3 : (⟨S1024, .f32⟩ : BufTy).Contents (Elt Ideal))
  (x4 : (⟨S1024x4096, .f32⟩ : BufTy).Contents (Elt Ideal)) (x5 : (⟨S4096x1024, .f32⟩ : BufTy).Contents (Elt Ideal))
  (x6 x7 x8 x9 : (⟨S1024, .f32⟩ : BufTy).Contents (Elt Ideal))

/-- The hidden layer of the reference. -/
theorem ref_hidden (t : Fin 2048) (f : Fin 4096) :
    val_main_v22 (F := Ideal) x0 x1 x2 x3 x4 (ix2 t f)
      = max (∑ k : Fin 1024, (val_main_v20 (F := Ideal) x0 x1 x2 x3 (ix2 t k) : EReal) * (x4 (ix2 k f) : EReal)) (Ideal.ofBits .f32 0x00000000#32) := by
  rw [val_main_v22_apply, val_main_call0_v0_apply, val_main_call0_cst_apply]
  refine congrArg (fun u : EReal => max u (Ideal.ofBits .f32 0x00000000#32)) ((val_main_v21_apply x0 x1 x2 x3 x4 _).trans (Finset.sum_congr rfl fun k _ => ?_))
  refine congrArg₂ (fun u v : EReal => u * v) (congrArg (val_main_v20 (F := Ideal) x0 x1 x2 x3) ?_) (congrArg x4 ?_)
  · funext a
    apply Fin.ext
    match a with
    | ⟨0, _⟩ => rfl
    | ⟨1, _⟩ => rfl
  · funext a
    apply Fin.ext
    match a with
    | ⟨0, _⟩ => rfl
    | ⟨1, _⟩ => rfl

/-- The branch of the reference. -/
theorem ref_branch (t : Fin 2048) (d : Fin 1024) :
    val_main_v24 (F := Ideal) x0 x1 x2 x3 x4 x5 (ix2 t d)
      = ∑ f : Fin 4096, ((val_main_v22 (F := Ideal) x0 x1 x2 x3 x4 (ix2 t f) : EReal) * (val_main_v22 (F := Ideal) x0 x1 x2 x3 x4 (ix2 t f) : EReal)) * (x5 (ix2 f d) : EReal) := by
  refine (val_main_v24_apply x0 x1 x2 x3 x4 x5 _).trans (Finset.sum_congr rfl fun f _ => ?_)
  have hl : lidx_main_v24 (ix2 t d) f = ix2 t f := by
    funext a
    apply Fin.ext
    match a with
    | ⟨0, _⟩ => rfl
    | ⟨1, _⟩ => rfl
  have hr : ridx_main_v24 (ix2 t d) f = ix2 f d := by
    funext a
    apply Fin.ext
    match a with
    | ⟨0, _⟩ => rfl
    | ⟨1, _⟩ => rfl
  rw [hl, hr, val_main_v23_apply]
  rfl

/-- A feature vector spread over the tokens. -/
theorem at_feature26 (t : Fin 2048) (d : Fin 1024) : val_main_v26 (F := Ideal) x6 (ix2 t d) = x6 (ix1 d) := by
  rw [val_main_v26_apply, val_main_v25_apply]
  refine congrArg x6 (funext fun a => Fin.ext ?_)
  match a with
  | ⟨0, _⟩ => rfl

@[inherit_doc at_feature26]
theorem at_feature42 (t : Fin 2048) (d : Fin 1024) : val_main_v42 (F := Ideal) x7 (ix2 t d) = x7 (ix1 d) := by
  rw [val_main_v42_apply, val_main_v41_apply]
  refine congrArg x7 (funext fun a => Fin.ext ?_)
  match a with
  | ⟨0, _⟩ => rfl

@[inherit_doc at_feature26]
theorem at_feature50 (t : Fin 2048) (d : Fin 1024) : val_main_v50 (F := Ideal) x9 (ix2 t d) = x9 (ix1 d) := by
  rw [val_main_v50_apply, val_main_v49_apply]
  refine congrArg x9 (funext fun a => Fin.ext ?_)
  match a with
  | ⟨0, _⟩ => rfl

/-- One plus the scale, spread over the tokens. -/
theorem at_feature47 (t : Fin 2048) (d : Fin 1024) :
    val_main_v47 (F := Ideal) x8 (ix2 t d) = (Ideal.ofBits .f32 0x3F800000#32 : EReal) + (x8 (ix1 d) : EReal) := by
  rw [val_main_v47_apply, val_main_v46_apply, val_main_v45_apply, val_main_v44_apply, val_main_cst_6_apply]
  refine congrArg (fun u : EReal => (Ideal.ofBits .f32 0x3F800000#32 : EReal) + u) (congrArg x8 (funext fun a => Fin.ext ?_))
  match a with
  | ⟨0, _⟩ => rfl

/-- The new stream of the reference. -/
theorem ref_stream (t : Fin 2048) (d : Fin 1024) :
    val_main_v28 (F := Ideal) x0 x1 x2 x3 x4 x5 x6 (ix2 t d)
      = (x0 (ix2 t d) : EReal) + (x6 (ix1 d) : EReal) * (val_main_v24 (F := Ideal) x0 x1 x2 x3 x4 x5 (ix2 t d) : EReal) := by
  rw [val_main_v28_apply, val_main_v27_apply, at_feature26]
  rfl

/-- The reciprocal root of a row's mean square. -/
abbrev rootOf (r : Fin 1024 → EReal) : EReal :=
  Ideal.rsqrt (Ideal.div (∑ k : Fin 1024, r k * r k) (Ideal.ofBits .f32 0x44800000#32) + Ideal.ofBits .f32 0x358637BD#32)

/-- The reference's reciprocal root of the new stream. -/
theorem ref_root (t : Fin 2048) (d : Fin 1024) :
    val_main_v39 (F := Ideal) x0 x1 x2 x3 x4 x5 x6 (ix2 t d) = rootOf fun k => val_main_v28 (F := Ideal) x0 x1 x2 x3 x4 x5 x6 (ix2 t k) := by
  rw [val_main_v39_apply, val_main_v38_apply, val_main_v37_apply, val_main_v36_apply, val_main_cst_5_apply, val_main_v35_apply, val_main_v34_apply,
    val_main_cst_4_apply, val_main_v33_apply]
  refine congrArg (fun u : EReal => Ideal.rsqrt (Ideal.div u (Ideal.ofBits .f32 0x44800000#32) + Ideal.ofBits .f32 0x358637BD#32)) ?_
  refine (val_main_v32_apply x0 x1 x2 x3 x4 x5 x6 _).trans ?_
  rw [val_main_cst_3_apply]
  refine (congrArg₂ (fun u v : EReal => u + v) ((Cert.Mlp.lit_zero).trans EReal.coe_zero) (Finset.sum_congr rfl fun k _ => ?_)).trans (zero_add _)
  have hi : idx_main_v32 (idx_main_v33 (idx_main_v39 (ix2 t d))) k = ix2 t k := by
    funext a
    apply Fin.ext
    match a with
    | ⟨0, _⟩ => rfl
    | ⟨1, _⟩ => rfl
  rw [hi, val_main_v31_apply]
  rfl

/-- The next layer's normalised stream of the reference. -/
theorem ref_next (t : Fin 2048) (d : Fin 1024) :
    val_main_v52 (F := Ideal) x0 x1 x2 x3 x4 x5 x6 x7 x8 x9 (ix2 t d)
      = ((val_main_v28 (F := Ideal) x0 x1 x2 x3 x4 x5 x6 (ix2 t d) : EReal) * rootOf (fun k => val_main_v28 (F := Ideal) x0 x1 x2 x3 x4 x5 x6 (ix2 t k)) * (x7 (ix1 d) : EReal))
          * ((Ideal.ofBits .f32 0x3F800000#32 : EReal) + (x8 (ix1 d) : EReal)) + (x9 (ix1 d) : EReal) := by
  rw [val_main_v52_apply, val_main_v51_apply, val_main_v48_apply, val_main_v43_apply, val_main_v40_apply, ref_root, at_feature42, at_feature47, at_feature50]
  rfl

/-! The body over blocks of the reference's values. -/

variable {x0 x1 x2 x3 x4 x5 x6 x7 x8 x9}
variable {v0 : Vec Ideal S256x1024 .bf16} {v2 : Vec Ideal S1024x4096 .bf16} {v10 : Vec Ideal S4096x1024 .bf16} {v15 : Vec Ideal S256x1024 .f32}
  {v16 v32 v36 v42 : Vec Ideal S1x1024 .f32} {T : Fin 256 → Fin 2048}
  (h0 : ∀ p k, v0 (ix2 p k) = val_main_v20 (F := Ideal) x0 x1 x2 x3 (ix2 (T p) k)) (h2 : ∀ k f, v2 (ix2 k f) = x4 (ix2 k f))

include h0 h2 in
theorem hidden_eq (p : Fin 256) (f : Fin 4096) : k0_pay2 v0 v2 (ix2 p f) = val_main_v22 (F := Ideal) x0 x1 x2 x3 x4 (ix2 (T p) f) := by
  unfold k0_pay2
  simp only [shapeCast_id]
  refine Eq.trans ?_ (ref_hidden x0 x1 x2 x3 x4 (T p) f).symm
  refine congrArg (fun u : EReal => max u (Ideal.ofBits .f32 0x00000000#32)) ((up_apply _ _ p f).trans (Finset.sum_congr rfl fun k _ => ?_))
  exact congrArg₂ (fun u v : EReal => u * v) (h0 p k) (h2 k f)

variable (h10 : ∀ f d, v10 (ix2 f d) = x5 (ix2 f d))

include h0 h2 h10 in
theorem branch_eq (p : Fin 256) (d : Fin 1024) : k0_pay3 v0 v2 v10 (ix2 p d) = val_main_v24 (F := Ideal) x0 x1 x2 x3 x4 x5 (ix2 (T p) d) := by
  unfold k0_pay3
  simp only [shapeCast_id]
  refine Eq.trans ?_ (ref_branch x0 x1 x2 x3 x4 x5 (T p) d).symm
  refine (down_apply _ _ p d).trans (Finset.sum_congr rfl fun f _ => ?_)
  have e := hidden_eq h0 h2 p f
  exact congrArg₂ (fun u v : EReal => u * v) (congrArg₂ (fun u v : EReal => u * v) e e) (h10 f d)

variable (h15 : ∀ p d, v15 (ix2 p d) = x0 (ix2 (T p) d)) (h16 : ∀ d, v16 (ix2 0 d) = x6 (ix1 d))

include h0 h2 h10 h15 h16 in
theorem stream_eq (p : Fin 256) (d : Fin 1024) : k0_pay5 v0 v2 v10 v15 v16 (ix2 p d) = val_main_v28 (F := Ideal) x0 x1 x2 x3 x4 x5 x6 (ix2 (T p) d) := by
  unfold k0_pay5
  simp only [shapeCast_id]
  refine Eq.trans ?_ (ref_stream x0 x1 x2 x3 x4 x5 x6 (T p) d).symm
  exact congrArg₂ (fun u v : EReal => u + v) (h15 p d) (congrArg₂ (fun u v : EReal => u * v) ((brow_apply v16 p d).trans (h16 d)) (branch_eq h0 h2 h10 p d))

include h0 h2 h10 h15 h16 in
theorem normal_eq (p : Fin 256) (d : Fin 1024) : k0_pay6 v0 v2 v10 v15 v16 (ix2 p d)
    = (val_main_v28 (F := Ideal) x0 x1 x2 x3 x4 x5 x6 (ix2 (T p) d) : EReal) * rootOf (fun k => val_main_v28 (F := Ideal) x0 x1 x2 x3 x4 x5 x6 (ix2 (T p) k)) := by
  unfold k0_pay6
  have hs := stream_eq h0 h2 h10 h15 h16
  generalize k0_pay5 v0 v2 v10 v15 v16 = s at hs ⊢
  refine congrArg₂ (fun u v : EReal => u * v) (hs p d) ((bcol_apply _ p d).trans ?_)
  refine congrArg (fun u : EReal => Ideal.rsqrt (Ideal.div u (Ideal.ofBits .f32 0x44800000#32) + Ideal.ofBits .f32 0x358637BD#32)) ?_
  refine (col_apply _ p 0).trans ((sumrow_apply _ p).trans (Finset.sum_congr rfl fun k _ => ?_))
  exact congrArg₂ (fun u v : EReal => u * v) (hs p k) (hs p k)

variable (h32 : ∀ d, v32 (ix2 0 d) = x7 (ix1 d)) (h36 : ∀ d, v36 (ix2 0 d) = x8 (ix1 d)) (h42 : ∀ d, v42 (ix2 0 d) = x9 (ix1 d))

include h0 h2 h10 h15 h16 h32 h36 h42 in
theorem next_eq (p : Fin 256) (d : Fin 1024) : k0_pay1 (k0_pay6 v0 v2 v10 v15 v16) v32 v36 v42 (ix2 p d)
    = val_main_v52 (F := Ideal) x0 x1 x2 x3 x4 x5 x6 x7 x8 x9 (ix2 (T p) d) := by
  have hn := normal_eq h0 h2 h10 h15 h16 p d
  generalize k0_pay6 v0 v2 v10 v15 v16 = s at hn ⊢
  unfold k0_pay1
  simp only [shapeCast_id]
  refine Eq.trans ?_ (ref_next x0 x1 x2 x3 x4 x5 x6 x7 x8 x9 (T p) d).symm
  refine congrArg₂ (fun u v : EReal => u + v) (congrArg₂ (fun u v : EReal => u * v) (congrArg₂ (fun u v : EReal => u * v) hn ?_) ?_) ?_
  · exact (brow_apply v32 p d).trans (h32 d)
  · refine (brow_apply _ p d).trans ?_
    exact congrArg (fun u : EReal => (Ideal.ofBits .f32 0x3F800000#32 : EReal) + u) (h36 d)
  · exact (brow_apply v42 p d).trans (h42 d)

end

/-! The grid swept. -/

variable (m : (ℓ : Loc nD τ sig) → Buf (Elt Ideal) ℓ)

/-- The token at the place `p` of the block `t`. -/
abbrev tok (t : Fin 8) (p : Fin 256) : Fin 2048 := ⟨256 * t.val + p.val, by omega⟩
/-- The grid point of the block `t`. -/
abbrev pt (t : Fin 8) : Fin cfg0.N := ⟨t.val, by rw [show cfg0.N = 8 from N_0]; exact t.isLt⟩

/-- Window 0 reads a block of the normalised stream. -/
theorem blk0 (c : Dev nD) (t : Fin 8) (p : Fin 256) (q : Fin 1024) :
    (iblk m c 0 (pt t) : Vec Ideal S256x1024 .bf16) (ix2 p q) = V m c main_v21 (ix2 (tok t p) q) := by
  have hi : ∀ t : Fin cfg0.N, win0_0.index t 0 = t.val ∧ win0_0.index t 1 = 0 :=
    (by decide +kernel : ∀ t : Fin grid0.N, win0_0.index t 0 = t.val ∧ win0_0.index t 1 = 0)
  unfold iblk
  rw [View.read_apply]
  show V m c main_v21 _ = V m c main_v21 _
  congr 1
  funext a
  apply Fin.ext
  match a with
  | ⟨0, _⟩ => show win0_0.index (pt t) 0 * 256 + 1 * p.val = 256 * t.val + p.val; rw [(hi (pt t)).1]; dsimp only; omega
  | ⟨1, _⟩ => show win0_0.index (pt t) 1 * 1024 + 1 * q.val = q.val; rw [(hi (pt t)).2]; omega

/-- Window 1 reads the first weight, whole. -/
theorem blk1 (c : Dev nD) (t : Fin 8) (p : Fin 1024) (q : Fin 4096) :
    (iblk m c 1 (pt t) : Vec Ideal S1024x4096 .bf16) (ix2 p q) = V m c main_v32 (ix2 p q) := by
  have hi : ∀ t : Fin cfg0.N, win0_1.index t 0 = 0 ∧ win0_1.index t 1 = 0 :=
    (by decide +kernel : ∀ t : Fin grid0.N, win0_1.index t 0 = 0 ∧ win0_1.index t 1 = 0)
  unfold iblk
  rw [View.read_apply]
  show V m c main_v32 _ = V m c main_v32 _
  congr 1
  funext a
  apply Fin.ext
  match a with
  | ⟨0, _⟩ => show win0_1.index (pt t) 0 * 1024 + 1 * p.val = p.val; rw [(hi (pt t)).1]; omega
  | ⟨1, _⟩ => show win0_1.index (pt t) 1 * 4096 + 1 * q.val = q.val; rw [(hi (pt t)).2]; omega

/-- Window 2 reads the second weight, whole. -/
theorem blk2 (c : Dev nD) (t : Fin 8) (p : Fin 4096) (q : Fin 1024) :
    (iblk m c 2 (pt t) : Vec Ideal S4096x1024 .bf16) (ix2 p q) = V m c main_v33 (ix2 p q) := by
  have hi : ∀ t : Fin cfg0.N, win0_2.index t 0 = 0 ∧ win0_2.index t 1 = 0 :=
    (by decide +kernel : ∀ t : Fin grid0.N, win0_2.index t 0 = 0 ∧ win0_2.index t 1 = 0)
  unfold iblk
  rw [View.read_apply]
  show V m c main_v33 _ = V m c main_v33 _
  congr 1
  funext a
  apply Fin.ext
  match a with
  | ⟨0, _⟩ => show win0_2.index (pt t) 0 * 4096 + 1 * p.val = p.val; rw [(hi (pt t)).1]; omega
  | ⟨1, _⟩ => show win0_2.index (pt t) 1 * 1024 + 1 * q.val = q.val; rw [(hi (pt t)).2]; omega

/-- Window 3 reads a block of the stream. -/
theorem blk3 (c : Dev nD) (t : Fin 8) (p : Fin 256) (q : Fin 1024) :
    (iblk m c 3 (pt t) : Vec Ideal S256x1024 .f32) (ix2 p q) = V m c main_arg0 (ix2 (tok t p) q) := by
  have hi : ∀ t : Fin cfg0.N, win0_3.index t 0 = t.val ∧ win0_3.index t 1 = 0 :=
    (by decide +kernel : ∀ t : Fin grid0.N, win0_3.index t 0 = t.val ∧ win0_3.index t 1 = 0)
  unfold iblk
  rw [View.read_apply]
  show V m c main_arg0 _ = V m c main_arg0 _
  congr 1
  funext a
  apply Fin.ext
  match a with
  | ⟨0, _⟩ => show win0_3.index (pt t) 0 * 256 + 1 * p.val = 256 * t.val + p.val; rw [(hi (pt t)).1]; dsimp only; omega
  | ⟨1, _⟩ => show win0_3.index (pt t) 1 * 1024 + 1 * q.val = q.val; rw [(hi (pt t)).2]; omega

/-- Window 4 reads the first eight rows of the table. -/
theorem blk4 (c : Dev nD) (t : Fin 8) (p : Fin 8) (q : Fin 1024) :
    (iblk m c 4 (pt t) : Vec Ideal S8x1024 .f32) (ix2 p q) = V m c main_v31 (ix2 ⟨p.val, by omega⟩ q) := by
  have hi : ∀ t : Fin cfg0.N, win0_4.index t 0 = 0 ∧ win0_4.index t 1 = 0 :=
    (by decide +kernel : ∀ t : Fin grid0.N, win0_4.index t 0 = 0 ∧ win0_4.index t 1 = 0)
  unfold iblk
  rw [View.read_apply]
  show V m c main_v31 _ = V m c main_v31 _
  congr 1
  funext a
  apply Fin.ext
  match a with
  | ⟨0, _⟩ => show win0_4.index (pt t) 0 * 8 + 1 * p.val = p.val; rw [(hi (pt t)).1]; omega
  | ⟨1, _⟩ => show win0_4.index (pt t) 1 * 1024 + 1 * q.val = q.val; rw [(hi (pt t)).2]; omega

/-- Window 5 reads the last eight rows of the table. -/
theorem blk5 (c : Dev nD) (t : Fin 8) (p : Fin 8) (q : Fin 1024) :
    (iblk m c 5 (pt t) : Vec Ideal S8x1024 .f32) (ix2 p q) = V m c main_v31 (ix2 ⟨8 + p.val, by omega⟩ q) := by
  have hi : ∀ t : Fin cfg0.N, win0_5.index t 0 = 1 ∧ win0_5.index t 1 = 0 :=
    (by decide +kernel : ∀ t : Fin grid0.N, win0_5.index t 0 = 1 ∧ win0_5.index t 1 = 0)
  unfold iblk
  rw [View.read_apply]
  show V m c main_v31 _ = V m c main_v31 _
  congr 1
  funext a
  apply Fin.ext
  match a with
  | ⟨0, _⟩ => show win0_5.index (pt t) 0 * 8 + 1 * p.val = 8 + p.val; rw [(hi (pt t)).1]; omega
  | ⟨1, _⟩ => show win0_5.index (pt t) 1 * 1024 + 1 * q.val = q.val; rw [(hi (pt t)).2]; omega

/-- The normalised stream the kernel is launched on is the reference's, rounded. -/
theorem V_v21 (c : Dev nD) : V m c main_v21 = (truncf (F := Ideal) (φ := .f32) .bf16 (val_main_v20 (F := Ideal) (m ((c.tc : Thread nD τ).loc main_arg0)) (m ((c.tc : Thread nD τ).loc main_arg1))
    (m ((c.tc : Thread nD τ).loc main_arg2)) (m ((c.tc : Thread nD τ).loc main_arg3))) bitsLt_bf16_f32 : (⟨S2048x1024, .bf16⟩ : BufTy).Contents (Elt Ideal)) := by
  unfold_abbrev_sides
  simp only [hostOps0, List.flatten_cons, List.flatten_nil, List.append_nil, List.cons_append, List.nil_append,
    StableHlo.TRef.nullary, StableHlo.TRef.unary, StableHlo.TRef.binary, StableHlo.TRef.toBuf, StableHlo.TRef.ofBuf, cast_eq]
  after_results_simp
  rfl

/-- The weights the kernel is launched on are the arguments, rounded. -/
theorem V_v32 (c : Dev nD) : V m c main_v32 = truncf (F := Ideal) (φ := .f32) .bf16 (m ((c.tc : Thread nD τ).loc main_arg4)) bitsLt_bf16_f32 := by
  unfold_abbrev_sides
  simp only [hostOps0, List.flatten_cons, List.flatten_nil, List.append_nil, List.cons_append, List.nil_append,
    StableHlo.TRef.nullary, StableHlo.TRef.unary, StableHlo.TRef.binary, StableHlo.TRef.toBuf, StableHlo.TRef.ofBuf, cast_eq]
  after_results_simp

@[inherit_doc V_v32]
theorem V_v33 (c : Dev nD) : V m c main_v33 = truncf (F := Ideal) (φ := .f32) .bf16 (m ((c.tc : Thread nD τ).loc main_arg5)) bitsLt_bf16_f32 := by
  unfold_abbrev_sides
  simp only [hostOps0, List.flatten_cons, List.flatten_nil, List.append_nil, List.cons_append, List.nil_append,
    StableHlo.TRef.nullary, StableHlo.TRef.unary, StableHlo.TRef.binary, StableHlo.TRef.toBuf, StableHlo.TRef.ofBuf, cast_eq]
  after_results_simp

/-- A feature vector as one row. -/
def lift (x : (⟨S1024, .f32⟩ : BufTy).Contents (Elt Ideal)) : (⟨S1x1024, .f32⟩ : BufTy).Contents (Elt Ideal) :=
  broadcastInDim S1x1024 ![1] bcast_S1024_S1x1024_1 x

/-- The table of features: the gate, seven rows of zeros, the next layer's gain, scale and shift, five rows of zeros. -/
def table (g n sc sh : (⟨S1024, .f32⟩ : BufTy).Contents (Elt Ideal)) : (⟨S16x1024, .f32⟩ : BufTy).Contents (Elt Ideal) :=
  concatenate S16x1024 0
    [⟨S8x1024, concatenate S8x1024 0
        [⟨S1x1024, lift g⟩, ⟨S7x1024, broadcastInDim S7x1024 ![] bcast_S_S7x1024 (constant (F := Ideal) S_ .f32 0x00000000#32)⟩]
        concatenates_S1x1024_S7x1024_S8x1024_d0⟩,
      ⟨S8x1024, concatenate S8x1024 0
        [⟨S3x1024, concatenate S3x1024 0 [⟨S1x1024, lift n⟩, ⟨S1x1024, lift sc⟩, ⟨S1x1024, lift sh⟩] concatenates_S1x1024_S1x1024_S1x1024_S3x1024_d0⟩,
        ⟨S5x1024, broadcastInDim S5x1024 ![] bcast_S_S5x1024 (constant (F := Ideal) S_ .f32 0x00000000#32)⟩] concatenates_S3x1024_S5x1024_S8x1024_d0⟩] concatenates_S8x1024_S8x1024_S16x1024_d0

/-- The table the kernel is launched on. -/
theorem V_v31 (c : Dev nD) : V m c main_v31 = table (m ((c.tc : Thread nD τ).loc main_arg6)) (m ((c.tc : Thread nD τ).loc main_arg7))
    (m ((c.tc : Thread nD τ).loc main_arg8)) (m ((c.tc : Thread nD τ).loc main_arg9)) := by
  unfold_abbrev_sides
  simp only [hostOps0, List.flatten_cons, List.flatten_nil, List.append_nil, List.cons_append, List.nil_append,
    StableHlo.TRef.nullary, StableHlo.TRef.unary, StableHlo.TRef.binary, StableHlo.TRef.toBuf, StableHlo.TRef.ofBuf, cast_eq]
  after_results_simp
  rfl

omit m in
theorem lift_apply (x : (⟨S1024, .f32⟩ : BufTy).Contents (Elt Ideal)) (z : Fin 1) (d : Fin 1024) : lift x (ix2 z d) = x (ix1 d) := by
  refine (val_main_v25_apply x (ix2 z d)).trans (congrArg x (funext fun a => Fin.ext ?_))
  match a with
  | ⟨0, _⟩ => rfl

omit m in
theorem table_gain (g n sc sh : (⟨S1024, .f32⟩ : BufTy).Contents (Elt Ideal)) (d : Fin 1024) : table g n sc sh (ix2 8 d) = n (ix1 d) := by
  unfold table
  refine (concatenate_pair_apply_right (t := S16x1024) (s₁ := S8x1024) (s₂ := S8x1024) (0 : Fin 2) _ _ concatenates_S8x1024_S8x1024_S16x1024_d0 (ix2 8 d) rfl rfl
    (ix2 (0 : Fin 8) d) (fun b hb => by match b with | ⟨0, _⟩ => exact absurd rfl hb | ⟨1, _⟩ => rfl) rfl).trans ?_
  refine (concatenate_pair_apply_left (t := S8x1024) (s₁ := S3x1024) (s₂ := S5x1024) (0 : Fin 2) _ _ concatenates_S3x1024_S5x1024_S8x1024_d0 (ix2 0 d) rfl
    (ix2 (0 : Fin 3) d) (fun b => by match b with | ⟨0, _⟩ => rfl | ⟨1, _⟩ => rfl)).trans ?_
  refine (concatenate_apply_piece (t := S3x1024) (0 : Fin 2) [⟨S1x1024, lift n⟩, ⟨S1x1024, lift sc⟩, ⟨S1x1024, lift sh⟩]
    concatenates_S1x1024_S1x1024_S1x1024_S3x1024_d0 (ix2 0 d) 0 (by show 0 < 3; omega) S1x1024 (lift n) rfl rfl 0 rfl (ix2 0 d)
    (fun b hb => by match b with | ⟨0, _⟩ => exact absurd rfl hb | ⟨1, _⟩ => rfl) rfl).trans ?_
  exact lift_apply _ _ _

omit m in
theorem table_scale (g n sc sh : (⟨S1024, .f32⟩ : BufTy).Contents (Elt Ideal)) (d : Fin 1024) : table g n sc sh (ix2 9 d) = sc (ix1 d) := by
  unfold table
  refine (concatenate_pair_apply_right (t := S16x1024) (s₁ := S8x1024) (s₂ := S8x1024) (0 : Fin 2) _ _ concatenates_S8x1024_S8x1024_S16x1024_d0 (ix2 9 d) rfl rfl
    (ix2 (1 : Fin 8) d) (fun b hb => by match b with | ⟨0, _⟩ => exact absurd rfl hb | ⟨1, _⟩ => rfl) rfl).trans ?_
  refine (concatenate_pair_apply_left (t := S8x1024) (s₁ := S3x1024) (s₂ := S5x1024) (0 : Fin 2) _ _ concatenates_S3x1024_S5x1024_S8x1024_d0 (ix2 1 d) rfl
    (ix2 (1 : Fin 3) d) (fun b => by match b with | ⟨0, _⟩ => rfl | ⟨1, _⟩ => rfl)).trans ?_
  refine (concatenate_apply_piece (t := S3x1024) (0 : Fin 2) [⟨S1x1024, lift n⟩, ⟨S1x1024, lift sc⟩, ⟨S1x1024, lift sh⟩]
    concatenates_S1x1024_S1x1024_S1x1024_S3x1024_d0 (ix2 1 d) 1 (by show 1 < 3; omega) S1x1024 (lift sc) rfl rfl 1 rfl (ix2 0 d)
    (fun b hb => by match b with | ⟨0, _⟩ => exact absurd rfl hb | ⟨1, _⟩ => rfl) rfl).trans ?_
  exact lift_apply _ _ _

omit m in
theorem table_shift (g n sc sh : (⟨S1024, .f32⟩ : BufTy).Contents (Elt Ideal)) (d : Fin 1024) : table g n sc sh (ix2 10 d) = sh (ix1 d) := by
  unfold table
  refine (concatenate_pair_apply_right (t := S16x1024) (s₁ := S8x1024) (s₂ := S8x1024) (0 : Fin 2) _ _ concatenates_S8x1024_S8x1024_S16x1024_d0 (ix2 10 d) rfl rfl
    (ix2 (2 : Fin 8) d) (fun b hb => by match b with | ⟨0, _⟩ => exact absurd rfl hb | ⟨1, _⟩ => rfl) rfl).trans ?_
  refine (concatenate_pair_apply_left (t := S8x1024) (s₁ := S3x1024) (s₂ := S5x1024) (0 : Fin 2) _ _ concatenates_S3x1024_S5x1024_S8x1024_d0 (ix2 2 d) rfl
    (ix2 (2 : Fin 3) d) (fun b => by match b with | ⟨0, _⟩ => rfl | ⟨1, _⟩ => rfl)).trans ?_
  refine (concatenate_apply_piece (t := S3x1024) (0 : Fin 2) [⟨S1x1024, lift n⟩, ⟨S1x1024, lift sc⟩, ⟨S1x1024, lift sh⟩]
    concatenates_S1x1024_S1x1024_S1x1024_S3x1024_d0 (ix2 2 d) 2 (by show 2 < 3; omega) S1x1024 (lift sh) rfl rfl 2 rfl (ix2 0 d)
    (fun b hb => by match b with | ⟨0, _⟩ => exact absurd rfl hb | ⟨1, _⟩ => rfl) rfl).trans ?_
  exact lift_apply _ _ _

omit m in
theorem table_gate (g n sc sh : (⟨S1024, .f32⟩ : BufTy).Contents (Elt Ideal)) (d : Fin 1024) : table g n sc sh (ix2 0 d) = g (ix1 d) := by
  unfold table
  refine (concatenate_pair_apply_left (t := S16x1024) (s₁ := S8x1024) (s₂ := S8x1024) (0 : Fin 2) _ _ concatenates_S8x1024_S8x1024_S16x1024_d0 (ix2 0 d) rfl
    (ix2 (0 : Fin 8) d) (fun b => by match b with | ⟨0, _⟩ => rfl | ⟨1, _⟩ => rfl)).trans ?_
  refine (concatenate_pair_apply_left (t := S8x1024) (s₁ := S1x1024) (s₂ := S7x1024) (0 : Fin 2) _ _ concatenates_S1x1024_S7x1024_S8x1024_d0 (ix2 0 d) rfl
    (ix2 (0 : Fin 1) d) (fun b => by match b with | ⟨0, _⟩ => rfl | ⟨1, _⟩ => rfl)).trans ?_
  exact lift_apply _ _ _

omit m in
theorem out6_eq (x0 : Vec Ideal S256x1024 .bf16) (x1 : Vec Ideal S1024x4096 .bf16) (x2 : Vec Ideal S4096x1024 .bf16) (x3 : Vec Ideal S256x1024 .f32) (x4 x5 : Vec Ideal S8x1024 .f32) :
    out0_6 x0 x1 x2 x3 x4 x5 = k0_pay2 x0 x1 := by
  have hz : (![0, 0] : Fin 2 → Nat) = fun _ => 0 := funext fun a => by fin_cases a <;> rfl
  unfold out0_6
  rw [View.canon_unit_zero hz, View.ld_unit_zero (S := S256x1024) hz _ x0, View.ld_unit_zero (S := S1024x4096) hz _ x1]

/-- The hidden layer after the run, block by block. -/
theorem final_6 (c : Dev nD) (t : Fin 8) (p : Fin 256) (q : Fin 4096) :
    ((dats m 0 c).arrAt 6 cfg0.N : Vec Ideal S2048x4096 .bf16) (ix2 (tok t p) q) = k0_pay2 (iblk m c 0 (pt t)) (iblk m c 1 (pt t)) (ix2 p q) := by
  have hi : ∀ t : Fin cfg0.N, win0_6.index t 0 = t.val ∧ win0_6.index t 1 = 0 :=
    (by decide +kernel : ∀ t : Fin grid0.N, win0_6.index t 0 = t.val ∧ win0_6.index t 1 = 0)
  have e := congrFun (blocks6 m c (pt t) (flush0_6 (pt t))) (ix2 p q : S256x4096.Idx)
  rw [flushed6, out6_eq, View.read_apply] at e
  refine Eq.trans (congrArg ((dats m 0 c).arrAt 6 cfg0.N) ?_) e
  funext a
  apply Fin.ext
  match a with
  | ⟨0, _⟩ => show 256 * t.val + p.val = win0_6.index (pt t) 0 * 256 + 1 * p.val; rw [(hi (pt t)).1]; dsimp only; omega
  | ⟨1, _⟩ => show q.val = win0_6.index (pt t) 1 * 4096 + 1 * q.val; rw [(hi (pt t)).2]; omega

omit m in
theorem out7_eq (x0 : Vec Ideal S256x1024 .bf16) (x1 : Vec Ideal S1024x4096 .bf16) (x2 : Vec Ideal S4096x1024 .bf16) (x3 : Vec Ideal S256x1024 .f32) (x4 x5 : Vec Ideal S8x1024 .f32) :
    out0_7 x0 x1 x2 x3 x4 x5 = k0_pay4 x0 x1 x2 := by
  have hz : (![0, 0] : Fin 2 → Nat) = fun _ => 0 := funext fun a => by fin_cases a <;> rfl
  unfold out0_7
  rw [View.canon_unit_zero hz, View.ld_unit_zero (S := S256x1024) hz _ x0, View.ld_unit_zero (S := S1024x4096) hz _ x1, View.ld_unit_zero (S := S4096x1024) hz _ x2]

/-- The branch after the run, block by block. -/
theorem final_7 (c : Dev nD) (t : Fin 8) (p : Fin 256) (q : Fin 1024) :
    ((dats m 0 c).arrAt 7 cfg0.N : Vec Ideal S2048x1024 .bf16) (ix2 (tok t p) q) = k0_pay4 (iblk m c 0 (pt t)) (iblk m c 1 (pt t)) (iblk m c 2 (pt t)) (ix2 p q) := by
  have hi : ∀ t : Fin cfg0.N, win0_7.index t 0 = t.val ∧ win0_7.index t 1 = 0 :=
    (by decide +kernel : ∀ t : Fin grid0.N, win0_7.index t 0 = t.val ∧ win0_7.index t 1 = 0)
  have e := congrFun (blocks7 m c (pt t) (flush0_7 (pt t))) (ix2 p q : S256x1024.Idx)
  rw [flushed7, out7_eq, View.read_apply] at e
  refine Eq.trans (congrArg ((dats m 0 c).arrAt 7 cfg0.N) ?_) e
  funext a
  apply Fin.ext
  match a with
  | ⟨0, _⟩ => show 256 * t.val + p.val = win0_7.index (pt t) 0 * 256 + 1 * p.val; rw [(hi (pt t)).1]; dsimp only; omega
  | ⟨1, _⟩ => show q.val = win0_7.index (pt t) 1 * 1024 + 1 * q.val; rw [(hi (pt t)).2]; omega

omit m in
theorem out8_eq (x0 : Vec Ideal S256x1024 .bf16) (x1 : Vec Ideal S1024x4096 .bf16) (x2 : Vec Ideal S4096x1024 .bf16) (x3 : Vec Ideal S256x1024 .f32) (x4 x5 : Vec Ideal S8x1024 .f32) :
    out0_8 x0 x1 x2 x3 x4 x5 = k0_pay5 x0 x1 x2 x3 (View.ld x4 r0_4) := by
  have hz : (![0, 0] : Fin 2 → Nat) = fun _ => 0 := funext fun a => by fin_cases a <;> rfl
  unfold out0_8
  rw [View.canon_unit_zero hz, View.ld_unit_zero (S := S256x1024) hz _ x0, View.ld_unit_zero (S := S1024x4096) hz _ x1, View.ld_unit_zero (S := S4096x1024) hz _ x2, View.ld_unit_zero (S := S256x1024) hz _ x3]

/-- The new stream after the run, block by block. -/
theorem final_8 (c : Dev nD) (t : Fin 8) (p : Fin 256) (q : Fin 1024) :
    ((dats m 0 c).arrAt 8 cfg0.N : Vec Ideal S2048x1024 .f32) (ix2 (tok t p) q) = k0_pay5 (iblk m c 0 (pt t)) (iblk m c 1 (pt t)) (iblk m c 2 (pt t)) (iblk m c 3 (pt t)) (View.ld (iblk m c 4 (pt t)) r0_4) (ix2 p q) := by
  have hi : ∀ t : Fin cfg0.N, win0_8.index t 0 = t.val ∧ win0_8.index t 1 = 0 :=
    (by decide +kernel : ∀ t : Fin grid0.N, win0_8.index t 0 = t.val ∧ win0_8.index t 1 = 0)
  have e := congrFun (blocks8 m c (pt t) (flush0_8 (pt t))) (ix2 p q : S256x1024.Idx)
  rw [flushed8, out8_eq, View.read_apply] at e
  refine Eq.trans (congrArg ((dats m 0 c).arrAt 8 cfg0.N) ?_) e
  funext a
  apply Fin.ext
  match a with
  | ⟨0, _⟩ => show 256 * t.val + p.val = win0_8.index (pt t) 0 * 256 + 1 * p.val; rw [(hi (pt t)).1]; dsimp only; omega
  | ⟨1, _⟩ => show q.val = win0_8.index (pt t) 1 * 1024 + 1 * q.val; rw [(hi (pt t)).2]; omega

omit m in
theorem out9_eq (x0 : Vec Ideal S256x1024 .bf16) (x1 : Vec Ideal S1024x4096 .bf16) (x2 : Vec Ideal S4096x1024 .bf16) (x3 : Vec Ideal S256x1024 .f32) (x4 x5 : Vec Ideal S8x1024 .f32) :
    out0_9 x0 x1 x2 x3 x4 x5 = k0_pay1 (k0_pay6 x0 x1 x2 x3 (View.ld x4 r0_4)) (View.ld x5 r0_4) (View.ld x5 r0_5) (View.ld x5 r0_6) := by
  have hz : (![0, 0] : Fin 2 → Nat) = fun _ => 0 := funext fun a => by fin_cases a <;> rfl
  unfold out0_9
  rw [View.canon_unit_zero hz, View.ld_unit_zero (S := S256x1024) hz _ x0, View.ld_unit_zero (S := S1024x4096) hz _ x1, View.ld_unit_zero (S := S4096x1024) hz _ x2, View.ld_unit_zero (S := S256x1024) hz _ x3]

/-- The next layer's normalised stream after the run, block by block. -/
theorem final_9 (c : Dev nD) (t : Fin 8) (p : Fin 256) (q : Fin 1024) :
    ((dats m 0 c).arrAt 9 cfg0.N : Vec Ideal S2048x1024 .bf16) (ix2 (tok t p) q) = k0_pay1 (k0_pay6 (iblk m c 0 (pt t)) (iblk m c 1 (pt t)) (iblk m c 2 (pt t)) (iblk m c 3 (pt t)) (View.ld (iblk m c 4 (pt t)) r0_4)) (View.ld (iblk m c 5 (pt t)) r0_4) (View.ld (iblk m c 5 (pt t)) r0_5) (View.ld (iblk m c 5 (pt t)) r0_6) (ix2 p q) := by
  have hi : ∀ t : Fin cfg0.N, win0_9.index t 0 = t.val ∧ win0_9.index t 1 = 0 :=
    (by decide +kernel : ∀ t : Fin grid0.N, win0_9.index t 0 = t.val ∧ win0_9.index t 1 = 0)
  have e := congrFun (blocks9 m c (pt t) (flush0_9 (pt t))) (ix2 p q : S256x1024.Idx)
  rw [flushed9, out9_eq, View.read_apply] at e
  refine Eq.trans (congrArg ((dats m 0 c).arrAt 9 cfg0.N) ?_) e
  funext a
  apply Fin.ext
  match a with
  | ⟨0, _⟩ => show 256 * t.val + p.val = win0_9.index (pt t) 0 * 256 + 1 * p.val; rw [(hi (pt t)).1]; dsimp only; omega
  | ⟨1, _⟩ => show q.val = win0_9.index (pt t) 1 * 1024 + 1 * q.val; rw [(hi (pt t)).2]; omega

/-! The blocks of a point, in the reference's values. -/

theorem b0 (c : Dev nD) (t : Fin 8) (p : Fin 256) (k : Fin 1024) : (iblk m c 0 (pt t) : Vec Ideal S256x1024 .bf16) (ix2 p k)
    = val_main_v20 (F := Ideal) (m ((c.tc : Thread nD τ).loc main_arg0)) (m ((c.tc : Thread nD τ).loc main_arg1))
      (m ((c.tc : Thread nD τ).loc main_arg2)) (m ((c.tc : Thread nD τ).loc main_arg3)) (ix2 (tok t p) k) := by
  refine (blk0 m c t p k).trans ?_
  rw [V_v21]
  rfl

theorem b1 (c : Dev nD) (t : Fin 8) (k : Fin 1024) (f : Fin 4096) : (iblk m c 1 (pt t) : Vec Ideal S1024x4096 .bf16) (ix2 k f)
    = (m ((c.tc : Thread nD τ).loc main_arg4) : (⟨S1024x4096, .f32⟩ : BufTy).Contents (Elt Ideal)) (ix2 k f) := by
  refine (blk1 m c t k f).trans ?_
  rw [V_v32]
  rfl

theorem b2 (c : Dev nD) (t : Fin 8) (f : Fin 4096) (d : Fin 1024) : (iblk m c 2 (pt t) : Vec Ideal S4096x1024 .bf16) (ix2 f d)
    = (m ((c.tc : Thread nD τ).loc main_arg5) : (⟨S4096x1024, .f32⟩ : BufTy).Contents (Elt Ideal)) (ix2 f d) := by
  refine (blk2 m c t f d).trans ?_
  rw [V_v33]
  rfl

theorem b3 (c : Dev nD) (t : Fin 8) (p : Fin 256) (d : Fin 1024) : (iblk m c 3 (pt t) : Vec Ideal S256x1024 .f32) (ix2 p d)
    = (m ((c.tc : Thread nD τ).loc main_arg0) : (⟨S2048x1024, .f32⟩ : BufTy).Contents (Elt Ideal)) (ix2 (tok t p) d) := by
  refine (blk3 m c t p d).trans ?_
  rw [V_main_arg0]

theorem b4 (c : Dev nD) (t : Fin 8) (d : Fin 1024) : View.ld (iblk m c 4 (pt t) : Vec Ideal S8x1024 .f32) r0_4 (ix2 0 d)
    = (m ((c.tc : Thread nD τ).loc main_arg6) : (⟨S1024, .f32⟩ : BufTy).Contents (Elt Ideal)) (ix1 d) := by
  refine (View.ld_row_apply _ _ (by omega) 0 d).trans ((blk4 m c t _ d).trans ?_)
  rw [V_v31]
  exact table_gate _ _ _ _ d

theorem b5_gain (c : Dev nD) (t : Fin 8) (d : Fin 1024) : View.ld (iblk m c 5 (pt t) : Vec Ideal S8x1024 .f32) r0_4 (ix2 0 d)
    = (m ((c.tc : Thread nD τ).loc main_arg7) : (⟨S1024, .f32⟩ : BufTy).Contents (Elt Ideal)) (ix1 d) := by
  refine (View.ld_row_apply _ _ (by omega) 0 d).trans ((blk5 m c t _ d).trans ?_)
  rw [V_v31]
  exact table_gain _ _ _ _ d

theorem b5_scale (c : Dev nD) (t : Fin 8) (d : Fin 1024) : View.ld (iblk m c 5 (pt t) : Vec Ideal S8x1024 .f32) r0_5 (ix2 0 d)
    = (m ((c.tc : Thread nD τ).loc main_arg8) : (⟨S1024, .f32⟩ : BufTy).Contents (Elt Ideal)) (ix1 d) := by
  refine (View.ld_row_apply _ _ (by omega) 0 d).trans ((blk5 m c t _ d).trans ?_)
  rw [V_v31]
  exact table_scale _ _ _ _ d

theorem b5_shift (c : Dev nD) (t : Fin 8) (d : Fin 1024) : View.ld (iblk m c 5 (pt t) : Vec Ideal S8x1024 .f32) r0_6 (ix2 0 d)
    = (m ((c.tc : Thread nD τ).loc main_arg9) : (⟨S1024, .f32⟩ : BufTy).Contents (Elt Ideal)) (ix1 d) := by
  refine (View.ld_row_apply _ _ (by omega) 0 d).trans ((blk5 m c t _ d).trans ?_)
  rw [V_v31]
  exact table_shift _ _ _ _ d

/-! The four results. -/

omit m in
/-- Two arrays with the same entries, block by block, are the same. -/
theorem hidden_ext {f g : (⟨S2048x4096, .bf16⟩ : BufTy).Contents (Elt Ideal)} (h : ∀ (t : Fin 8) (p : Fin 256) (d : Fin 4096), f (ix2 (tok t p) d) = g (ix2 (tok t p) d)) : f = g := by
  funext i
  rw [ValueIdx.eq_ix2 i]
  generalize (i 1 : Fin 4096) = d
  generalize (i 0 : Fin 2048) = u
  have hu : u.val < 2048 := u.isLt
  have e : u = tok ⟨u.val / 256, by omega⟩ ⟨u.val % 256, by omega⟩ := Fin.ext (by show u.val = 256 * (u.val / 256) + u.val % 256; omega)
  rw [e]
  exact h _ _ _

omit m in
/-- Two arrays with the same entries, block by block, are the same. -/
theorem half_ext {f g : (⟨S2048x1024, .bf16⟩ : BufTy).Contents (Elt Ideal)} (h : ∀ (t : Fin 8) (p : Fin 256) (d : Fin 1024), f (ix2 (tok t p) d) = g (ix2 (tok t p) d)) : f = g := by
  funext i
  rw [ValueIdx.eq_ix2 i]
  generalize (i 1 : Fin 1024) = d
  generalize (i 0 : Fin 2048) = u
  have hu : u.val < 2048 := u.isLt
  have e : u = tok ⟨u.val / 256, by omega⟩ ⟨u.val % 256, by omega⟩ := Fin.ext (by show u.val = 256 * (u.val / 256) + u.val % 256; omega)
  rw [e]
  exact h _ _ _

omit m in
/-- Two arrays with the same entries, block by block, are the same. -/
theorem full_ext {f g : (⟨S2048x1024, .f32⟩ : BufTy).Contents (Elt Ideal)} (h : ∀ (t : Fin 8) (p : Fin 256) (d : Fin 1024), f (ix2 (tok t p) d) = g (ix2 (tok t p) d)) : f = g := by
  funext i
  rw [ValueIdx.eq_ix2 i]
  generalize (i 1 : Fin 1024) = d
  generalize (i 0 : Fin 2048) = u
  have hu : u.val < 2048 := u.isLt
  have e : u = tok ⟨u.val / 256, by omega⟩ ⟨u.val % 256, by omega⟩ := Fin.ext (by show u.val = 256 * (u.val / 256) + u.val % 256; omega)
  rw [e]
  exact h _ _ _

theorem result6 (c : Dev nD) : (dats m 0 c).arrAt 6 cfg0.N = val_main_v29 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine hidden_ext fun t p f => (final_6 m c t p f).trans ?_
  exact hidden_eq (T := tok t) (b0 m c t) (b1 m c t) p f

theorem result7 (c : Dev nD) : (dats m 0 c).arrAt 7 cfg0.N = val_main_v30 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine half_ext fun t p d => (final_7 m c t p d).trans ?_
  exact branch_eq (T := tok t) (b0 m c t) (b1 m c t) (b2 m c t) p d

theorem result8 (c : Dev nD) : (dats m 0 c).arrAt 8 cfg0.N = val_main_v28 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine full_ext fun t p d => (final_8 m c t p d).trans ?_
  exact stream_eq (T := tok t) (b0 m c t) (b1 m c t) (b2 m c t) (b3 m c t) (b4 m c t) p d

theorem result9 (c : Dev nD) : (dats m 0 c).arrAt 9 cfg0.N = val_main_v52 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine half_ext fun t p d => (final_9 m c t p d).trans ?_
  exact next_eq (T := tok t) (b0 m c t) (b1 m c t) (b2 m c t) (b3 m c t) (b4 m c t) (b5_gain m c t) (b5_scale m c t) (b5_shift m c t) p d

/-- Ten arguments and ten others are the same. -/
structure Same (x0 y0 : (⟨S2048x1024, .f32⟩ : BufTy).Contents (Elt Ideal)) (x1 y1 x2 y2 x3 y3 : (⟨S1024, .f32⟩ : BufTy).Contents (Elt Ideal))
    (x4 y4 : (⟨S1024x4096, .f32⟩ : BufTy).Contents (Elt Ideal)) (x5 y5 : (⟨S4096x1024, .f32⟩ : BufTy).Contents (Elt Ideal))
    (x6 y6 x7 y7 x8 y8 x9 y9 : (⟨S1024, .f32⟩ : BufTy).Contents (Elt Ideal)) : Prop where
  e0 : y0 = x0
  e1 : y1 = x1
  e2 : y2 = x2
  e3 : y3 = x3
  e4 : y4 = x4
  e5 : y5 = x5
  e6 : y6 = x6
  e7 : y7 = x7
  e8 : y8 = x8
  e9 : y9 = x9

section
variable {x0 y0 : (⟨S2048x1024, .f32⟩ : BufTy).Contents (Elt Ideal)} {x1 y1 x2 y2 x3 y3 : (⟨S1024, .f32⟩ : BufTy).Contents (Elt Ideal)}
  {x4 y4 : (⟨S1024x4096, .f32⟩ : BufTy).Contents (Elt Ideal)} {x5 y5 : (⟨S4096x1024, .f32⟩ : BufTy).Contents (Elt Ideal)}
  {x6 y6 x7 y7 x8 y8 x9 y9 : (⟨S1024, .f32⟩ : BufTy).Contents (Elt Ideal)} (h : Same x0 y0 x1 y1 x2 y2 x3 y3 x4 y4 x5 y5 x6 y6 x7 y7 x8 y8 x9 y9)

include h
omit m

theorem congr29 : val_main_v29 (F := Ideal) y0 y1 y2 y3 y4 = val_main_v29 (F := Ideal) x0 x1 x2 x3 x4 := by
  obtain ⟨rfl, rfl, rfl, rfl, rfl, rfl, rfl, rfl, rfl, rfl⟩ := h
  rfl

theorem congr30 : val_main_v30 (F := Ideal) y0 y1 y2 y3 y4 y5 = val_main_v30 (F := Ideal) x0 x1 x2 x3 x4 x5 := by
  obtain ⟨rfl, rfl, rfl, rfl, rfl, rfl, rfl, rfl, rfl, rfl⟩ := h
  rfl

theorem congr28 : val_main_v28 (F := Ideal) y0 y1 y2 y3 y4 y5 y6 = val_main_v28 (F := Ideal) x0 x1 x2 x3 x4 x5 x6 := by
  obtain ⟨rfl, rfl, rfl, rfl, rfl, rfl, rfl, rfl, rfl, rfl⟩ := h
  rfl

theorem congr52 : val_main_v52 (F := Ideal) y0 y1 y2 y3 y4 y5 y6 y7 y8 y9 = val_main_v52 (F := Ideal) x0 x1 x2 x3 x4 x5 x6 x7 x8 x9 := by
  obtain ⟨rfl, rfl, rfl, rfl, rfl, rfl, rfl, rfl, rfl, rfl⟩ := h
  rfl

end

/-- The kernel's and the reference's results are the same arrays. -/
theorem algebraic : Cert.algebraic_KernelFwdIdeal_ReferenceFwdIdeal := by
  intro m ρ m' ρ' hpre hagree
  refine ⟨_, _, _, _, Cert.KernelFwdIdeal.Value.run_blocks m ρ, ?_⟩
  refine (θ_run Cert.ReferenceFwdIdeal.defs _ _).mono (fun r h c => ?_) (Cert.ReferenceFwdIdeal.Value.run (F := Ideal) m' ρ')
  obtain ⟨r0, r1, r2, r3, rest⟩ := h c
  obtain ⟨e0, e1, e2, e3, e4, e5, e6, e7, e8, e9⟩ := hagree c
  have e : Same _ _ _ _ _ _ _ _ _ _ _ _ _ _ _ _ _ _ _ _ := ⟨e0, e1, e2, e3, e4, e5, e6, e7, e8, e9⟩
  exact ⟨(r0.trans (val_main_v29_eq _ _ _ _ _)).trans ((congr29 e).trans (result6 m c).symm),
    (r1.trans (val_main_v30_eq _ _ _ _ _ _)).trans ((congr30 e).trans (result7 m c).symm),
    (r2.trans (val_main_v28_eq _ _ _ _ _ _ _)).trans ((congr28 e).trans (result8 m c).symm),
    (r3.trans (val_main_v52_eq m' c)).trans ((congr52 e).trans (result9 m c).symm), rest⟩

/-- The reference runs, and leaves its arguments and its semaphores as they were. -/
theorem quiescent_reference : Cert.quiescent_ReferenceFwdIdeal := fun m ρ _ =>
  (θ_run Cert.ReferenceFwdIdeal.defs _ _).mono (fun r h => ⟨fun c => (h c).2.2.2.2, Idealize.ShloMosaic.sem_eq_zero_of_no_sems (by decide) r.2⟩)
    (Cert.ReferenceFwdIdeal.Value.run (F := Ideal) m ρ)

end Cert.KernelFwdIdeal.Points

end
-- ==== Proof.RgInGrad.lean ====
/-
  The input-side weight gradient of the recurrent mixer: each of the eight grid points multiplies the transposed
  normalised stream by one band of columns of the gradient, and the bands side by side are the reference's gradient.
-/
module

public import proofs.«01_k».proof.Proof.Gen.KernelRgInIdeal.Value
public import proofs.«01_k».proof.Proof.Gen.ReferenceRgInIdeal.Run
public import proofs.«01_k».proof.Proof.Gen.ReferenceRgInIdeal.Read
public import proofs.«01_k».proof.Defs
public import Idealize.ShloMosaic.Lib.Pointwise.Reshape
public import Idealize.ShloMosaic.Lib.Pointwise.ShapeOpsCore
public import Idealize.ShloMosaic.Lib.Pointwise.Contract
public import Idealize.ShloMosaic.Lib.Pointwise.Tactic

@[expose] public section

noncomputable section

namespace Cert.KernelRgInIdeal.Points

open Cert.KernelRgInIdeal Cert.KernelRgInIdeal.Gen Cert.KernelRgInIdeal.Value Idealize.ShloMosaic.TcCoe Idealize.SL.Sem
open Idealize.ShloMosaic.ValueIdx
open Idealize.ShloMosaic hiding ix0 ix1 ix2 ix3 ix4 ix5
open Cert.ReferenceRgInIdeal.Read

variable (m : (ℓ : Loc nD τ sig) → Buf (Elt Ideal) ℓ)

/-- The grid point of the band `t`. -/
abbrev pt (t : Fin 8) : Fin cfg0.N := ⟨t.val, by rw [show cfg0.N = 8 from N_0]; exact t.isLt⟩
/-- The column at the place `q` of the band `t`. -/
abbrev col (t : Fin 8) (q : Fin 256) : Fin 2048 := ⟨256 * t.val + q.val, by omega⟩

/-- The body's product: rows of the gradient summed over the tokens. -/
theorem pay1_apply (a : Vec Ideal S2048x1024 .bf16) (b : Vec Ideal S2048x256 .bf16) (d : Fin 1024) (q : Fin 256) :
    k0_pay1 a b (ix3 0 d q) = ∑ k : Fin 2048, (a (ix2 k d) : EReal) * (b (ix2 k q) : EReal) := by
  unfold k0_pay1
  simp only [pointwise]
  exact zero_add _

/-- Window 0 reads the normalised stream, whole. -/
theorem blk0 (c : Dev nD) (t : Fin 8) (k : Fin 2048) (d : Fin 1024) :
    (iblk m c 0 (pt t) : Vec Ideal S2048x1024 .bf16) (ix2 k d) = V m c main_v21 (ix2 k d) := by
  have hi : ∀ t : Fin cfg0.N, win0_0.index t 0 = 0 ∧ win0_0.index t 1 = 0 :=
    (by decide +kernel : ∀ t : Fin grid0.N, win0_0.index t 0 = 0 ∧ win0_0.index t 1 = 0)
  unfold iblk
  rw [View.read_apply]
  show V m c main_v21 _ = V m c main_v21 _
  congr 1
  funext a
  apply Fin.ext
  match a with
  | ⟨0, _⟩ => show win0_0.index (pt t) 0 * 2048 + 1 * k.val = k.val; rw [(hi (pt t)).1]; omega
  | ⟨1, _⟩ => show win0_0.index (pt t) 1 * 1024 + 1 * d.val = d.val; rw [(hi (pt t)).2]; omega

/-- Window 1 reads one band of columns of the gradient. -/
theorem blk1 (c : Dev nD) (t : Fin 8) (k : Fin 2048) (q : Fin 256) :
    (iblk m c 1 (pt t) : Vec Ideal S2048x256 .bf16) (ix2 k q) = V m c main_arg5 (ix2 k (col t q)) := by
  have hi : ∀ t : Fin cfg0.N, win0_1.index t 0 = 0 ∧ win0_1.index t 1 = t.val :=
    (by decide +kernel : ∀ t : Fin grid0.N, win0_1.index t 0 = 0 ∧ win0_1.index t 1 = t.val)
  unfold iblk
  rw [View.read_apply]
  show V m c main_arg5 _ = V m c main_arg5 _
  congr 1
  funext a
  apply Fin.ext
  match a with
  | ⟨0, _⟩ => show win0_1.index (pt t) 0 * 2048 + 1 * k.val = k.val; rw [(hi (pt t)).1]; omega
  | ⟨1, _⟩ => show win0_1.index (pt t) 1 * 256 + 1 * q.val = 256 * t.val + q.val; rw [(hi (pt t)).2]; dsimp only; omega

/-- The body's result is its product of the two blocks. -/
theorem out2_eq (a : Vec Ideal S2048x1024 .bf16) (b : Vec Ideal S2048x256 .bf16) : out0_2 a b = k0_pay1 a b := by
  have hz : (![0, 0] : Fin 2 → Nat) = fun _ => 0 := funext fun a => by fin_cases a <;> rfl
  have hz3 : (![0, 0, 0] : Fin 3 → Nat) = fun _ => 0 := funext fun a => by fin_cases a <;> rfl
  unfold out0_2
  rw [View.canon_unit_zero hz3, View.ld_unit_zero (S := S2048x1024) hz _ a, View.ld_unit_zero (S := S2048x256) hz _ b]

/-- The gradient after the run, band by band. -/
theorem final_2 (c : Dev nD) (t : Fin 8) (d : Fin 1024) (q : Fin 256) :
    ((dats m 0 c).arrAt 2 cfg0.N : Vec Ideal S8x1024x256 .bf16) (ix3 t d q) = k0_pay1 (iblk m c 0 (pt t)) (iblk m c 1 (pt t)) (ix3 0 d q) := by
  have hi : ∀ t : Fin cfg0.N, win0_2.index t 0 = t.val ∧ win0_2.index t 1 = 0 ∧ win0_2.index t 2 = 0 :=
    (by decide +kernel : ∀ t : Fin grid0.N, win0_2.index t 0 = t.val ∧ win0_2.index t 1 = 0 ∧ win0_2.index t 2 = 0)
  have e := congrFun (blocks2 m c (pt t) (flush0_2 (pt t))) (ix3 0 d q : S1x1024x256.Idx)
  rw [flushed2, out2_eq, View.read_apply] at e
  refine Eq.trans (congrArg ((dats m 0 c).arrAt 2 cfg0.N) ?_) e
  funext a
  apply Fin.ext
  match a with
  | ⟨0, _⟩ => show t.val = win0_2.index (pt t) 0 * 1 + 1 * 0; rw [(hi (pt t)).1]; dsimp only; omega
  | ⟨1, _⟩ => show d.val = win0_2.index (pt t) 1 * 1024 + 1 * d.val; rw [(hi (pt t)).2.1]; omega
  | ⟨2, _⟩ => show q.val = win0_2.index (pt t) 2 * 256 + 1 * q.val; rw [(hi (pt t)).2.2]; omega

/-- The normalised stream the kernel is launched on is the reference's, rounded. -/
theorem V_v21 (c : Dev nD) : V m c main_v21 = (truncf (F := Ideal) (φ := .f32) .bf16 (val_main_v20 (F := Ideal) (m ((c.tc : Thread nD τ).loc main_arg0)) (m ((c.tc : Thread nD τ).loc main_arg1))
    (m ((c.tc : Thread nD τ).loc main_arg2)) (m ((c.tc : Thread nD τ).loc main_arg3))) bitsLt_bf16_f32 : (⟨S2048x1024, .bf16⟩ : BufTy).Contents (Elt Ideal)) := by
  unfold_abbrev_sides
  simp only [hostOps0, List.flatten_cons, List.flatten_nil, List.append_nil, List.cons_append, List.nil_append,
    StableHlo.TRef.nullary, StableHlo.TRef.unary, StableHlo.TRef.binary, StableHlo.TRef.toBuf, StableHlo.TRef.ofBuf, cast_eq]
  after_results_simp
  rfl

/-- The reference's gradient at an index: the normalised stream times the gradient, summed over the tokens. -/
theorem reference_apply (x0 : (⟨S2048x1024, .f32⟩ : BufTy).Contents (Elt Ideal)) (x1 x2 x3 : (⟨S1024, .f32⟩ : BufTy).Contents (Elt Ideal))
    (x5 : (⟨S2048x2048, .bf16⟩ : BufTy).Contents (Elt Ideal)) (t : Fin 8) (d : Fin 1024) (q : Fin 256) :
    val_main_v27 (F := Ideal) x0 x1 x2 x3 x5 (ix3 t d q)
      = ∑ k : Fin 2048, (val_main_v20 (F := Ideal) x0 x1 x2 x3 (ix2 k d) : EReal) * (x5 (ix2 k (col t q)) : EReal) := by
  rw [val_main_v27_apply, val_main_v26_apply, val_main_v25_apply, val_main_v24_apply]
  refine (val_main_v23_apply x0 x1 x2 x3 x5 _).trans (Finset.sum_congr rfl fun k _ => ?_)
  rw [val_main_v22_apply]
  refine (mul_comm _ _).trans (congrArg₂ (fun u v : EReal => u * v) (congrArg (val_main_v20 (F := Ideal) x0 x1 x2 x3) ?_) (congrArg x5 ?_))
  · funext a
    apply Fin.ext
    match a with
    | ⟨0, _⟩ => rfl
    | ⟨1, _⟩ => show ((d.val * 8 + t.val) * 256 + q.val) / 2048 = d.val; omega
  · funext a
    apply Fin.ext
    match a with
    | ⟨0, _⟩ => rfl
    | ⟨1, _⟩ => show ((d.val * 8 + t.val) * 256 + q.val) % 2048 = 256 * t.val + q.val; omega

omit m in
/-- Two arrays of bands with the same entries are the same. -/
theorem bands_ext {f g : (⟨S8x1024x256, .bf16⟩ : BufTy).Contents (Elt Ideal)} (h : ∀ (t : Fin 8) (d : Fin 1024) (q : Fin 256), f (ix3 t d q) = g (ix3 t d q)) : f = g := by
  funext i
  rw [ValueIdx.eq_ix3 i]
  exact h _ _ _

/-- The kernel's result is the reference's on the same arguments. -/
theorem result (c : Dev nD) : (dats m 0 c).arrAt 2 cfg0.N = val_main_v27 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg5)) := by
  refine bands_ext fun t d q => ?_
  refine (final_2 m c t d q).trans ((pay1_apply _ _ d q).trans ((Finset.sum_congr rfl fun k _ => ?_).trans (reference_apply _ _ _ _ _ t d q).symm))
  refine congrArg₂ (fun u v : EReal => u * v) ((blk0 m c t k d).trans ?_) ((blk1 m c t k q).trans ?_)
  · rw [V_v21]; rfl
  · rw [V_main_arg5]

/-- The reference's result depends on its arguments only. -/
theorem reference_congr {x0 y0 : (⟨S2048x1024, .f32⟩ : BufTy).Contents (Elt Ideal)} {x1 y1 x2 y2 x3 y3 : (⟨S1024, .f32⟩ : BufTy).Contents (Elt Ideal)}
    {x5 y5 : (⟨S2048x2048, .bf16⟩ : BufTy).Contents (Elt Ideal)} (e0 : y0 = x0) (e1 : y1 = x1) (e2 : y2 = x2) (e3 : y3 = x3) (e5 : y5 = x5) :
    val_main_v27 (F := Ideal) y0 y1 y2 y3 y5 = val_main_v27 (F := Ideal) x0 x1 x2 x3 x5 := by
  subst e0; subst e1; subst e2; subst e3; subst e5; rfl

/-- The kernel's and the reference's results are the same array. -/
theorem algebraic : Cert.algebraic_KernelRgInIdeal_ReferenceRgInIdeal := by
  intro m ρ m' ρ' hpre hagree
  refine ⟨_, Cert.KernelRgInIdeal.Value.run_blocks m ρ, ?_⟩
  refine (θ_run Cert.ReferenceRgInIdeal.defs _ _).mono (fun r h c => ?_) (Cert.ReferenceRgInIdeal.Value.run (F := Ideal) m' ρ')
  obtain ⟨r0, rest⟩ := h c
  obtain ⟨e0, e1, e2, e3, e4, e5⟩ := hagree c
  exact ⟨(r0.trans (Cert.ReferenceRgInIdeal.Read.val_main_v27_eq _ _ _ _ _)).trans ((reference_congr e0 e1 e2 e3 e5).trans (result m c).symm), rest⟩

/-- The reference runs, and leaves its arguments and its semaphores as they were. -/
theorem quiescent_reference : Cert.quiescent_ReferenceRgInIdeal := fun m ρ _ =>
  (θ_run Cert.ReferenceRgInIdeal.defs _ _).mono (fun r h => ⟨fun c => (h c).2, Idealize.ShloMosaic.sem_eq_zero_of_no_sems (by decide) r.2⟩)
    (Cert.ReferenceRgInIdeal.Value.run (F := Ideal) m ρ)

end Cert.KernelRgInIdeal.Points

end
-- ==== Proof.MixGrad.lean ====
/-
  The output-side weight gradient of a mixer: one grid point multiplies the transposed mixed stream by the gradient,
  which is the reference's gradient.
-/
module

public import proofs.«01_k».proof.Proof.Gen.KernelMixIdeal.Value
public import proofs.«01_k».proof.Proof.Gen.ReferenceMixIdeal.Run
public import proofs.«01_k».proof.Proof.Gen.ReferenceMixIdeal.Read
public import proofs.«01_k».proof.Defs
public import Idealize.ShloMosaic.Lib.Pointwise.Reshape
public import Idealize.ShloMosaic.Lib.Pointwise.ShapeOpsCore
public import Idealize.ShloMosaic.Lib.Pointwise.Contract
public import Idealize.ShloMosaic.Lib.Pointwise.Tactic

@[expose] public section

noncomputable section

namespace Cert.KernelMixIdeal.Points

open Cert.KernelMixIdeal Cert.KernelMixIdeal.Gen Cert.KernelMixIdeal.Value Idealize.ShloMosaic.TcCoe Idealize.SL.Sem
open Idealize.ShloMosaic.ValueIdx
open Idealize.ShloMosaic hiding ix0 ix1 ix2 ix3 ix4 ix5
open Cert.ReferenceMixIdeal.Read

/-- The body's product: mixed stream times gradient, summed over the tokens. -/
theorem pay1_apply (a b : Vec Ideal S2048x1024 .bf16) (p d : Fin 1024) :
    k0_pay1 a b (ix2 p d) = ∑ k : Fin 2048, (a (ix2 k p) : EReal) * (b (ix2 k d) : EReal) := by
  unfold k0_pay1
  simp only [pointwise]
  exact zero_add _

/-- The reference's gradient at an index: the mixed stream times the gradient, summed over the tokens. -/
theorem reference_apply (x0 x2 : (⟨S2048x1024, .bf16⟩ : BufTy).Contents (Elt Ideal)) (p d : Fin 1024) :
    val_main_v5 (F := Ideal) x0 x2 (ix2 p d) = ∑ k : Fin 2048, (x0 (ix2 k p) : EReal) * (x2 (ix2 k d) : EReal) := by
  rw [val_main_v5_apply, val_main_v4_apply]
  refine (val_main_v3_apply x0 x2 _).trans (Finset.sum_congr rfl fun k _ => ?_)
  rw [val_main_v2_apply, val_main_v0_apply]
  refine (mul_comm _ _).trans (congrArg₂ (fun u v : EReal => u * v) (congrArg x0 ?_) (congrArg x2 ?_))
  · funext a
    apply Fin.ext
    match a with
    | ⟨0, _⟩ => rfl
    | ⟨1, _⟩ => rfl
  · funext a
    apply Fin.ext
    match a with
    | ⟨0, _⟩ => rfl
    | ⟨1, _⟩ => rfl

/-- The kernel's result and the reference's are the same function of the arguments. -/
theorem result {x0 x2 y0 y2 : (⟨S2048x1024, .bf16⟩ : BufTy).Contents (Elt Ideal)} (e0 : y0 = x0) (e2 : y2 = x2) :
    val_main_v5 (F := Ideal) y0 y2 = G2 (F := Ideal) x0 x2 := by
  subst e0; subst e2
  funext i
  rw [ValueIdx.eq_ix2 i]
  exact (reference_apply _ _ _ _).trans (pay1_apply _ _ _ _).symm

/-- The kernel's and the reference's results are the same array. -/
theorem algebraic : Cert.algebraic_KernelMixIdeal_ReferenceMixIdeal := by
  intro m ρ m' ρ' hpre hagree
  refine ⟨_, Cert.KernelMixIdeal.Value.run m ρ, ?_⟩
  refine (θ_run Cert.ReferenceMixIdeal.defs _ _).mono (fun r h c => ?_) (Cert.ReferenceMixIdeal.Value.run (F := Ideal) m' ρ')
  obtain ⟨r0, rest⟩ := h c
  obtain ⟨e0, e1, e2⟩ := hagree c
  exact ⟨(r0.trans (Cert.ReferenceMixIdeal.Read.val_main_v5_eq _ _)).trans (result e0 e2), rest⟩

/-- The reference runs, and leaves its arguments and its semaphores as they were. -/
theorem quiescent_reference : Cert.quiescent_ReferenceMixIdeal := fun m ρ _ =>
  (θ_run Cert.ReferenceMixIdeal.defs _ _).mono (fun r h => ⟨fun c => (h c).2, Idealize.ShloMosaic.sem_eq_zero_of_no_sems (by decide) r.2⟩)
    (Cert.ReferenceMixIdeal.Value.run (F := Ideal) m ρ)

end Cert.KernelMixIdeal.Points

end
-- ==== Proof.FirstRead.lean ====
/-
  The gradient through the first layer's product and modulated norm over the real numbers, and the reference's operations over real
  inputs: each stage, at an index, is the real quantity it stands for.
-/
module

public import proofs.«01_k».proof.Proof.RefRead
public import proofs.«01_k».proof.Proof.Gen.ReferenceFirstIdeal.Read

@[expose] public section

noncomputable section

namespace Cert.First

open Idealize.ShloMosaic Cert.Mlp

/-- The inputs: the step's input, the product's gradient and the stream's gradient (tokens by features), the norm's gain, the scale and
    the shift (features), and the product's weight. -/
structure Data where
  X : Fin 2048 → Fin 1024 → ℝ
  N : Fin 1024 → ℝ
  SC : Fin 1024 → ℝ
  SH : Fin 1024 → ℝ
  W : Fin 1024 → Fin 2048 → ℝ
  DZ : Fin 2048 → Fin 2048 → ℝ
  CT : Fin 2048 → Fin 1024 → ℝ

namespace Data

variable (D : Data)

/-- The mean square of a token's input, plus the small number. -/
def m (t : Fin 2048) : ℝ := (∑ d, D.X t d * D.X t d) * (1 / 1024) + eps
/-- The reciprocal of the root of the mean square. -/
def r (t : Fin 2048) : ℝ := (√(D.m t))⁻¹
/-- The normalised input. -/
def xn (t : Fin 2048) (d : Fin 1024) : ℝ := D.X t d * D.r t
/-- The gradient at the modulated input. -/
def dh (t : Fin 2048) (d : Fin 1024) : ℝ := ∑ f, D.DZ t f * D.W d f
/-- The two gains a normalised feature is multiplied by. -/
def w (d : Fin 1024) : ℝ := D.N d * (1 + D.SC d)
/-- The gradient at the step's input: the stream's, and the one through the norm. -/
def dx (t : Fin 2048) (d : Fin 1024) : ℝ :=
  D.CT t d + D.r t * (D.dh t d * D.w d - D.xn t d * ((∑ k, D.dh t k * D.w k * D.xn t k) * (1 / 1024)))
/-- The gradients of the gain, the scale and the shift, and five rows of zeros. -/
def rows (i : Fin 8) (d : Fin 1024) : ℝ :=
  if i.val = 0 then (∑ t, D.dh t d * D.xn t d) * (1 + D.SC d)
  else if i.val = 1 then (∑ t, D.dh t d * D.xn t d) * D.N d
  else if i.val = 2 then ∑ t, D.dh t d
  else 0

theorem m_pos (t : Fin 2048) : 0 < D.m t := by
  unfold m
  have : 0 ≤ ∑ d, D.X t d * D.X t d := Finset.sum_nonneg fun d _ => mul_self_nonneg _
  have := eps_pos
  positivity

theorem m_ne (t : Fin 2048) : D.m t ≠ 0 := (D.m_pos t).ne'

/-- The square of the reciprocal root is the reciprocal. -/
theorem r_mul_r (t : Fin 2048) : D.r t * D.r t = 1 / D.m t := by
  unfold r
  rw [← mul_inv, Real.mul_self_sqrt (D.m_pos t).le, one_div]

/-- The reciprocal root of the mean square over the extended reals. -/
theorem rsqrt_m (t : Fin 2048) : Ideal.rsqrt (D.m t : EReal) = (D.r t : EReal) := by
  rw [Ideal.rsqrt_coe, if_neg (not_lt.2 (D.m_pos t).le), if_neg (D.m_ne t)]
  rfl

/-- The gradient of the norm as differentiation gives it: through the product by the reciprocal root, and through the mean square. -/
theorem dx_eq (t : Fin 2048) (d : Fin 1024) :
    (D.CT t d + D.dh t d * (1 + D.SC d) * D.N d * D.r t
        + D.X t d * ((∑ k, D.X t k * (D.dh t k * (1 + D.SC k) * D.N k)) * (-(1 / 2) * (D.r t * (1 / D.m t))) * (1 / 1024)))
      + D.X t d * ((∑ k, D.X t k * (D.dh t k * (1 + D.SC k) * D.N k)) * (-(1 / 2) * (D.r t * (1 / D.m t))) * (1 / 1024))
      = D.dx t d := by
  have hS : ∑ k, D.dh t k * D.w k * D.xn t k = (∑ k, D.X t k * (D.dh t k * (1 + D.SC k) * D.N k)) * D.r t := by
    rw [Finset.sum_mul]
    refine Finset.sum_congr rfl fun k _ => ?_
    unfold w xn; ring
  unfold dx
  rw [hS, ← D.r_mul_r]
  unfold w xn
  ring

/-- The scale's gradient, a feature at a time. -/
theorem dsc_eq (d : Fin 1024) : ∑ t, D.xn t d * D.N d * D.dh t d = (∑ t, D.dh t d * D.xn t d) * D.N d := by
  rw [Finset.sum_mul]
  exact Finset.sum_congr rfl fun t _ => by ring

/-- The gain's gradient, a feature at a time. -/
theorem dnorm_eq (d : Fin 1024) : ∑ t, D.xn t d * (D.dh t d * (1 + D.SC d)) = (∑ t, D.dh t d * D.xn t d) * (1 + D.SC d) := by
  rw [Finset.sum_mul]
  exact Finset.sum_congr rfl fun t _ => by ring

end Data

end Cert.First

namespace Cert.ReferenceFirstIdeal.Read

open Cert.ReferenceFirstIdeal Cert.ReferenceFirstIdeal.Gen Idealize.ShloMosaic Idealize.ShloMosaic.TcCoe Idealize.ShloMosaic.ValueIdx
open Cert.Mlp hiding Data
open Cert.First
open Cert.ReferenceIdeal.Read (at1 at2)

/-! Where the layout operations, the sums and the product read their operands. -/

theorem i1 (t : Fin 2048) (k : Fin 1024) : idx_main_v1 (ix1 t) k = ix2 t k := at2 _ _ _ rfl rfl
theorem i2 (t : Fin 2048) (z : Fin 1) : idx_main_v2 (ix2 t z) = ix1 t := at1 _ _ rfl
theorem i11 (t : Fin 2048) (d : Fin 1024) : idx_main_v11 (ix2 t d) = ix2 t 0 := at2 _ _ _ rfl rfl
theorem i13 (z : Fin 1) (d : Fin 1024) : idx_main_v13 (ix2 z d) = ix1 d := at1 _ _ rfl
theorem i18 (z : Fin 1) (d : Fin 1024) : idx_main_v18 (ix2 z d) = ix1 d := at1 _ _ rfl
theorem i57 (z : Fin 1) (d : Fin 1024) : idx_main_v57 (ix2 z d) = ix1 d := at1 _ _ rfl
theorem i58 (z : Fin 1) (d : Fin 1024) : idx_main_v58 (ix2 z d) = ix1 d := at1 _ _ rfl
theorem i59 (z : Fin 1) (d : Fin 1024) : idx_main_v59 (ix2 z d) = ix1 d := at1 _ _ rfl
theorem i14 (t : Fin 2048) (d : Fin 1024) : idx_main_v14 (ix2 t d) = ix2 0 d := at2 _ _ _ rfl rfl
theorem i19 (t : Fin 2048) (d : Fin 1024) : idx_main_v19 (ix2 t d) = ix2 0 d := at2 _ _ _ rfl rfl
theorem i33 (t : Fin 2048) (d : Fin 1024) : idx_main_v33 (ix2 t d) = ix2 0 d := at2 _ _ _ rfl rfl
theorem i39 (t : Fin 2048) (d : Fin 1024) : idx_main_v39 (ix2 t d) = ix2 0 d := at2 _ _ _ rfl rfl
theorem i28 (z : Fin 1) (d : Fin 1024) : idx_main_v28 (ix2 z d) = ix1 d := at1 _ _ (by have := z.isLt; dsimp only [ix2]; omega)
theorem i32 (z : Fin 1) (d : Fin 1024) : idx_main_v32 (ix2 z d) = ix1 d := at1 _ _ (by have := z.isLt; dsimp only [ix2]; omega)
theorem i38 (z : Fin 1) (d : Fin 1024) : idx_main_v38 (ix2 z d) = ix1 d := at1 _ _ (by have := z.isLt; dsimp only [ix2]; omega)
theorem i27 (d : Fin 1024) (t : Fin 2048) : idx_main_v27 (ix1 d) t = ix2 t d := at2 _ _ _ rfl rfl
theorem i31 (d : Fin 1024) (t : Fin 2048) : idx_main_v31 (ix1 d) t = ix2 t d := at2 _ _ _ rfl rfl
theorem i37 (d : Fin 1024) (t : Fin 2048) : idx_main_v37 (ix1 d) t = ix2 t d := at2 _ _ _ rfl rfl
theorem i29 (d : Fin 1024) (z : Fin 1) : idx_main_v29 (ix1 d) z = ix2 z d := at2 _ _ _ rfl rfl
theorem i35 (d : Fin 1024) (z : Fin 1) : idx_main_v35 (ix1 d) z = ix2 z d := at2 _ _ _ rfl rfl
theorem i41 (d : Fin 1024) (z : Fin 1) : idx_main_v41 (ix1 d) z = ix2 z d := at2 _ _ _ rfl rfl
theorem i43 (t : Fin 2048) (k : Fin 1024) : idx_main_v43 (ix1 t) k = ix2 t k := at2 _ _ _ rfl rfl
theorem i44 (t : Fin 2048) (z : Fin 1) : idx_main_v44 (ix2 t z) = ix1 t := at1 _ _ (by have := z.isLt; dsimp only [ix2]; omega)
theorem i45 (t : Fin 2048) (d : Fin 1024) : idx_main_v45 (ix2 t d) = ix2 t 0 := at2 _ _ _ rfl rfl
theorem i51 (t : Fin 2048) (z : Fin 1) : idx_main_v51 (ix1 t) z = ix2 t z := at2 _ _ _ rfl rfl
theorem i52 (t : Fin 2048) (d : Fin 1024) : idx_main_v52 (ix2 t d) = ix1 t := at1 _ _ rfl
theorem l26 (t : Fin 2048) (d : Fin 1024) (f : Fin 2048) : lidx_main_v26 (ix2 t d) f = ix2 t f := at2 _ _ _ rfl rfl
theorem r26 (t : Fin 2048) (d : Fin 1024) (f : Fin 2048) : ridx_main_v26 (ix2 t d) f = ix2 d f := at2 _ _ _ rfl rfl

/-- The seven arguments hold the real tables of `D`. -/
structure Holds (D : Data) (x0 : (⟨S2048x1024, .f32⟩ : BufTy).Contents (Elt Ideal)) (x1 x2 x3 : (⟨S1024, .f32⟩ : BufTy).Contents (Elt Ideal))
    (x4 : (⟨S1024x2048, .f32⟩ : BufTy).Contents (Elt Ideal)) (x5 : (⟨S2048x2048, .bf16⟩ : BufTy).Contents (Elt Ideal))
    (x6 : (⟨S2048x1024, .f32⟩ : BufTy).Contents (Elt Ideal)) : Prop where
  h0 : ∀ t d, x0 (ix2 t d) = ((D.X t d : ℝ) : EReal)
  h1 : ∀ d, x1 (ix1 d) = ((D.N d : ℝ) : EReal)
  h2 : ∀ d, x2 (ix1 d) = ((D.SC d : ℝ) : EReal)
  h3 : ∀ d, x3 (ix1 d) = ((D.SH d : ℝ) : EReal)
  h4 : ∀ d f, x4 (ix2 d f) = ((D.W d f : ℝ) : EReal)
  h5 : ∀ t f, x5 (ix2 t f) = ((D.DZ t f : ℝ) : EReal)
  h6 : ∀ t d, x6 (ix2 t d) = ((D.CT t d : ℝ) : EReal)

variable {D : Data} {x0 x6 : (⟨S2048x1024, .f32⟩ : BufTy).Contents (Elt Ideal)} {x1 x2 x3 : (⟨S1024, .f32⟩ : BufTy).Contents (Elt Ideal)}
  {x4 : (⟨S1024x2048, .f32⟩ : BufTy).Contents (Elt Ideal)} {x5 : (⟨S2048x2048, .bf16⟩ : BufTy).Contents (Elt Ideal)}
  (H : Holds D x0 x1 x2 x3 x4 x5 x6)
include H

/-- The mean square plus the small number. -/
theorem v6 (t : Fin 2048) (z : Fin 1) : val_main_v6 (F := Ideal) x0 (ix2 t z) = ((D.m t : ℝ) : EReal) := by
  rw [val_main_v6_apply, val_main_v4_apply, val_main_v5_apply, val_main_v2_apply, i2, val_main_v1_apply, val_main_v3_apply, val_main_cst_apply, val_main_cst_0_apply, val_main_cst_1_apply]
  simp only [i1, val_main_v0_apply, H.h0]
  show Ideal.div (Ideal.ofBits .f32 _ + ∑ k, ((_ : ℝ) : EReal) * ((_ : ℝ) : EReal)) (Ideal.ofBits .f32 _) + Ideal.ofBits .f32 _ = _
  rw [lit_zero, lit_width, lit_eps, Ideal.div_coe (by norm_num)]
  simp only [← EReal.coe_mul, ← coe_sum, ← EReal.coe_add, zero_add]
  rfl

/-- The reciprocal root. -/
theorem v7 (t : Fin 2048) (z : Fin 1) : val_main_v7 (F := Ideal) x0 (ix2 t z) = ((D.r t : ℝ) : EReal) := by
  rw [val_main_v7_apply, v6 H]
  exact D.rsqrt_m t

/-- The derivative of the reciprocal root. -/
theorem v10 (t : Fin 2048) (z : Fin 1) : val_main_v10 (F := Ideal) x0 (ix2 t z) = ((-(1 / 2) * (D.r t * (1 / D.m t)) : ℝ) : EReal) := by
  rw [val_main_v10_apply, val_main_v9_apply, val_main_v8_apply, v6 H, v7 H, val_main_cst_2_apply]
  show Ideal.ofBits .f32 _ * Ideal.div _ _ = _
  rw [lit_neg_half, Ideal.div_coe (D.m_ne t), ← EReal.coe_mul, ← EReal.coe_mul]

/-- The normalised input. -/
theorem v12 (t : Fin 2048) (d : Fin 1024) : val_main_v12 (F := Ideal) x0 (ix2 t d) = ((D.xn t d : ℝ) : EReal) := by
  rw [val_main_v12_apply, val_main_v11_apply, i11, H.h0, v7 H]
  show ((_ : ℝ) : EReal) * ((_ : ℝ) : EReal) = _
  rw [← EReal.coe_mul]; rfl

/-- The normalised input times the gain. -/
theorem v15 (t : Fin 2048) (d : Fin 1024) : val_main_v15 (F := Ideal) x0 x1 (ix2 t d) = ((D.xn t d * D.N d : ℝ) : EReal) := by
  rw [val_main_v15_apply, val_main_v14_apply, i14, val_main_v13_apply, i13, v12 H, H.h1]
  show ((_ : ℝ) : EReal) * ((_ : ℝ) : EReal) = _
  rw [← EReal.coe_mul]

/-- One plus the scale. -/
theorem v18 (z : Fin 1) (d : Fin 1024) : val_main_v18 (F := Ideal) x2 (ix2 z d) = ((1 + D.SC d : ℝ) : EReal) := by
  rw [val_main_v18_apply, i18, val_main_v17_apply, val_main_v16_apply, H.h2, val_main_cst_3_apply]
  show Ideal.ofBits .f32 _ + ((_ : ℝ) : EReal) = _
  rw [lit_one, ← EReal.coe_add]

/-- The gradient at the modulated input. -/
theorem v26 (t : Fin 2048) (d : Fin 1024) : val_main_v26 (F := Ideal) x4 x5 (ix2 t d) = ((D.dh t d : ℝ) : EReal) := by
  rw [val_main_v26_apply]
  unfold First.Data.dh
  rw [coe_sum]
  refine Finset.sum_congr rfl fun f _ => ?_
  rw [l26, r26, val_main_v25_apply, H.h4, EReal.coe_mul]
  exact congrArg (fun u : EReal => u * _) (H.h5 t f)

/-- The gradient after the scale. -/
theorem v34 (t : Fin 2048) (d : Fin 1024) : val_main_v34 (F := Ideal) x2 x4 x5 (ix2 t d) = ((D.dh t d * (1 + D.SC d) : ℝ) : EReal) := by
  rw [val_main_v34_apply, val_main_v33_apply, i33, v26 H, v18 H]
  show ((_ : ℝ) : EReal) * ((_ : ℝ) : EReal) = _
  rw [← EReal.coe_mul]

/-- The gradient at the normalised input. -/
theorem v40 (t : Fin 2048) (d : Fin 1024) : val_main_v40 (F := Ideal) x1 x2 x4 x5 (ix2 t d) = ((D.dh t d * (1 + D.SC d) * D.N d : ℝ) : EReal) := by
  rw [val_main_v40_apply, val_main_v39_apply, i39, val_main_v13_apply, i13, v34 H, H.h1]
  show ((_ : ℝ) : EReal) * ((_ : ℝ) : EReal) = _
  rw [← EReal.coe_mul]

/-- The gradient at the reciprocal root. -/
theorem v43 (t : Fin 2048) : val_main_v43 (F := Ideal) x0 x1 x2 x4 x5 (ix1 t) = ((∑ k, D.X t k * (D.dh t k * (1 + D.SC k) * D.N k) : ℝ) : EReal) := by
  rw [val_main_v43_apply, val_main_cst_10_apply]
  simp only [i43, val_main_v42_apply, H.h0, v40 H]
  show Ideal.ofBits .f32 _ + ∑ k, ((_ : ℝ) : EReal) * ((_ : ℝ) : EReal) = _
  rw [lit_zero]
  simp only [← EReal.coe_mul, ← coe_sum, ← EReal.coe_add, zero_add]

/-- The gradient at a squared input. -/
theorem v52 (t : Fin 2048) (d : Fin 1024) : val_main_v52 (F := Ideal) x0 x1 x2 x4 x5 (ix2 t d) = (((∑ k, D.X t k * (D.dh t k * (1 + D.SC k) * D.N k)) * (-(1 / 2) * (D.r t * (1 / D.m t))) * (1 / 1024) : ℝ) : EReal) := by
  rw [val_main_v52_apply, i52, val_main_v51_apply, val_main_cst_12_apply, Fin.sum_univ_one, i51, val_main_v50_apply, val_main_v48_apply, val_main_v44_apply, i44, val_main_v49_apply, v43 H, v10 H, val_main_cst_11_apply]
  show Ideal.ofBits .f32 _ + Ideal.div (((_ : ℝ) : EReal) * ((_ : ℝ) : EReal)) (Ideal.ofBits .f32 _) = _
  rw [lit_zero, lit_width, Ideal.div_coe (by norm_num)]
  simp only [← EReal.coe_mul, ← EReal.coe_add, zero_add]

/-- The gradient at the step's input. -/
theorem v56 (t : Fin 2048) (d : Fin 1024) : val_main_v56 (F := Ideal) x0 x1 x2 x4 x5 x6 (ix2 t d) = ((D.dx t d : ℝ) : EReal) := by
  rw [val_main_v56_apply, val_main_v54_apply, val_main_v55_apply, val_main_v53_apply, val_main_v47_apply, val_main_v46_apply, val_main_v45_apply, i45, v52 H, v40 H, v7 H, H.h0, H.h6]
  show ((_ : ℝ) : EReal) + ((_ : ℝ) : EReal) * ((_ : ℝ) : EReal) + ((_ : ℝ) : EReal) * ((_ : ℝ) : EReal) + ((_ : ℝ) : EReal) * ((_ : ℝ) : EReal) = _
  simp only [← EReal.coe_mul, ← EReal.coe_add]
  rw [← D.dx_eq t d, mul_comm (D.X t d)]

/-- The gradient of the shift. -/
theorem v29 (d : Fin 1024) : val_main_v29 (F := Ideal) x4 x5 (ix1 d) = ((∑ t, D.dh t d : ℝ) : EReal) := by
  rw [val_main_v29_apply, val_main_cst_5_apply, Fin.sum_univ_one, i29, val_main_v28_apply, i28, val_main_v27_apply, val_main_cst_4_apply]
  simp only [i27, v26 H]
  show Ideal.ofBits .f32 _ + (Ideal.ofBits .f32 _ + ∑ k, ((_ : ℝ) : EReal)) = _
  rw [lit_zero, ← coe_sum, ← EReal.coe_add, ← EReal.coe_add, zero_add, zero_add]

/-- The gradient of the scale. -/
theorem v35 (d : Fin 1024) : val_main_v35 (F := Ideal) x0 x1 x4 x5 (ix1 d) = (((∑ t, D.dh t d * D.xn t d) * D.N d : ℝ) : EReal) := by
  rw [val_main_v35_apply, val_main_cst_7_apply, Fin.sum_univ_one, i35, val_main_v32_apply, i32, val_main_v31_apply, val_main_cst_6_apply]
  simp only [i31, val_main_v30_apply, v15 H, v26 H]
  show Ideal.ofBits .f32 _ + (Ideal.ofBits .f32 _ + ∑ k, ((_ : ℝ) : EReal) * ((_ : ℝ) : EReal)) = _
  simp only [← EReal.coe_mul]
  rw [lit_zero, ← coe_sum, ← EReal.coe_add, ← EReal.coe_add, zero_add, zero_add]
  rw [← D.dsc_eq]

/-- The gradient of the gain. -/
theorem v41 (d : Fin 1024) : val_main_v41 (F := Ideal) x0 x2 x4 x5 (ix1 d) = (((∑ t, D.dh t d * D.xn t d) * (1 + D.SC d) : ℝ) : EReal) := by
  rw [val_main_v41_apply, val_main_cst_9_apply, Fin.sum_univ_one, i41, val_main_v38_apply, i38, val_main_v37_apply, val_main_cst_8_apply]
  simp only [i37, val_main_v36_apply, v12 H, v34 H]
  show Ideal.ofBits .f32 _ + (Ideal.ofBits .f32 _ + ∑ k, ((_ : ℝ) : EReal) * ((_ : ℝ) : EReal)) = _
  simp only [← EReal.coe_mul]
  rw [lit_zero, ← coe_sum, ← EReal.coe_add, ← EReal.coe_add, zero_add, zero_add]
  rw [← D.dnorm_eq]

omit H in
/-- One of the first three rows is the piece it was stacked from. -/
theorem v62_row (n : ℕ) (hn : n < 3) (y : (⟨S1x1024, .f32⟩ : BufTy).Contents (Elt Ideal))
    (hy : [(⟨S1x1024, val_main_v57 (F := Ideal) x0 x2 x4 x5⟩ : (s : Shape) × (s.Idx → EReal)), ⟨S1x1024, val_main_v58 (F := Ideal) x0 x1 x4 x5⟩, ⟨S1x1024, val_main_v59 (F := Ideal) x4 x5⟩][n]'hn = ⟨S1x1024, y⟩)
    (d : Fin 1024) : val_main_v62 (F := Ideal) x0 x1 x2 x4 x5 (ix2 (⟨n, by omega⟩ : Fin 8) d) = y (ix2 0 d) := by
  unfold val_main_v62
  refine (concatenate_pair_apply_left (t := S8x1024) (s₁ := S3x1024) (s₂ := S5x1024) (0 : Fin 2) _ _ concatenates_S3x1024_S5x1024_S8x1024_d0 (ix2 (⟨n, by omega⟩ : Fin 8) d) rfl
    (ix2 (⟨n, hn⟩ : Fin 3) d) (fun b => by match b with | ⟨0, _⟩ => rfl | ⟨1, _⟩ => rfl)).trans ?_
  unfold val_main_v60
  refine concatenate_apply_piece (t := S3x1024) (0 : Fin 2)
    [⟨S1x1024, val_main_v57 (F := Ideal) x0 x2 x4 x5⟩, ⟨S1x1024, val_main_v58 (F := Ideal) x0 x1 x4 x5⟩, ⟨S1x1024, val_main_v59 (F := Ideal) x4 x5⟩]
    concatenates_S1x1024_S1x1024_S1x1024_S3x1024_d0 (ix2 (⟨n, hn⟩ : Fin 3) d) n hn S1x1024 y hy rfl n ?_ (ix2 0 d)
    (fun b hb => by match b with | ⟨0, _⟩ => exact absurd rfl hb | ⟨1, _⟩ => rfl) rfl
  interval_cases n <;> rfl

/-- The eight rows: the gradients of the gain, the scale and the shift, then five rows of zeros. -/
theorem v62 (i : Fin 8) (d : Fin 1024) : val_main_v62 (F := Ideal) x0 x1 x2 x4 x5 (ix2 i d) = ((D.rows i d : ℝ) : EReal) := by
  by_cases hi : i.val < 3
  · obtain ⟨n, hn⟩ := i
    dsimp only at hi
    interval_cases n
    · rw [v62_row 0 (by omega) _ rfl, val_main_v57_apply, i57, v41 H]; rfl
    · rw [v62_row 1 (by omega) _ rfl, val_main_v58_apply, i58, v35 H]; rfl
    · rw [v62_row 2 (by omega) _ rfl, val_main_v59_apply, i59, v29 H]; rfl
  · have h8 : i.val < 8 := i.isLt
    have hz : D.rows i d = 0 := by
      unfold First.Data.rows
      rw [if_neg (by omega), if_neg (by omega), if_neg (by omega)]
    rw [hz]
    unfold val_main_v62
    refine (concatenate_pair_apply_right (t := S8x1024) (s₁ := S3x1024) (s₂ := S5x1024) (0 : Fin 2) _ _ concatenates_S3x1024_S5x1024_S8x1024_d0 (ix2 i d) rfl rfl
      (ix2 (⟨i.val - 3, by omega⟩ : Fin 5) d) (fun b hb => by match b with | ⟨0, _⟩ => exact absurd rfl hb | ⟨1, _⟩ => rfl) (by show (i.val - 3) + 3 = i.val; omega)).trans ?_
    rw [val_main_v61_apply, val_main_cst_13_apply]
    exact lit_zero

end Cert.ReferenceFirstIdeal.Read

end
-- ==== Proof.MixerRead.lean ====
/-
  The gradient through the product of the token mixer's stage, its modulated norm and the gated branch before it, over the real numbers,
  and the reference's operations over real inputs.

  Past its product the stage is the first layer's with the stream `x + g * y` for its input: a matrix is its own product with the units,
  so what is known of the first layer's gradients is used here with the gradient at the modulated input for the first factor of the
  product. The branch's gradient and the gate's follow from the stream's.
-/
module

public import proofs.«01_k».proof.Proof.FirstRead
public import proofs.«01_k».proof.Proof.Gen.ReferenceMixerTIdeal.Read
public import Idealize.ShloMosaic.Lib.Pointwise.Reshape

@[expose] public section

noncomputable section

namespace Cert.MixerT

open Idealize.ShloMosaic Cert.Mlp

/-- The inputs: the stream before the branch and the branch (tokens by features), the branch's gate, the norm's gain, the scale and the
    shift (features), the product's weight and its gradient, and the stream's gradient. -/
structure Data where
  X0 : Fin 2048 → Fin 1024 → ℝ
  Y : Fin 2048 → Fin 1024 → ℝ
  G : Fin 1024 → ℝ
  N : Fin 1024 → ℝ
  SC : Fin 1024 → ℝ
  SH : Fin 1024 → ℝ
  W : Fin 1024 → Fin 4096 → ℝ
  DZ : Fin 2048 → Fin 4096 → ℝ
  CT : Fin 2048 → Fin 1024 → ℝ

namespace Data

variable (D : Data)

/-- The gradient at the modulated input. -/
def dh (t : Fin 2048) (d : Fin 1024) : ℝ := ∑ f, D.DZ t f * D.W d f
/-- The first layer's inputs for which its gradients are the ones past the product here. -/
def flat : First.Data where
  X := fun t d => D.X0 t d + D.G d * D.Y t d
  N := D.N
  SC := D.SC
  SH := D.SH
  W := fun d f => if f.val = d.val then 1 else 0
  DZ := fun t f => if h : f.val < 1024 then D.dh t ⟨f.val, h⟩ else 0
  CT := D.CT
/-- The branch's gradient. -/
def dy (t : Fin 2048) (d : Fin 1024) : ℝ := D.G d * D.flat.dx t d
/-- The gradients of the gain, the scale, the shift and the gate, and four rows of zeros. -/
def rows (i : Fin 8) (d : Fin 1024) : ℝ := if i.val = 3 then ∑ t, D.flat.dx t d * D.Y t d else D.flat.rows i d

/-- The product with the units is the matrix itself. -/
theorem flat_dh (t : Fin 2048) (d : Fin 1024) : D.flat.dh t d = D.dh t d := by
  unfold First.Data.dh
  have h1 : d.val < 2048 := by have := d.isLt; omega
  rw [Finset.sum_eq_single (⟨d.val, h1⟩ : Fin 2048)]
  · show (if h : d.val < 1024 then D.dh t ⟨d.val, h⟩ else 0) * (if d.val = d.val then (1 : ℝ) else 0) = _
    rw [dif_pos d.isLt, if_pos rfl, mul_one]
  · intro f _ hf
    show _ * (if f.val = d.val then (1 : ℝ) else 0) = 0
    rw [if_neg fun e => hf (Fin.ext e), mul_zero]
  · exact fun h => absurd (Finset.mem_univ _) h

end Data

end Cert.MixerT

namespace Cert.ReferenceMixerTIdeal.Read

open Cert.ReferenceMixerTIdeal Cert.ReferenceMixerTIdeal.Gen Idealize.ShloMosaic.TcCoe Idealize.ShloMosaic.ValueIdx
open Idealize.ShloMosaic hiding ix0 ix1 ix2 ix3 ix4 ix5
open Cert.Mlp hiding Data
open Cert.MixerT
open Cert.ReferenceIdeal.Read (at1 at2)

/-- The nine arguments hold the real tables of `D`. -/
structure Holds (D : Data) (x0 x1 : Vec Ideal S2048x1024 .f32) (x2 x3 x4 x5 : Vec Ideal S1024 .f32) (x6 : Vec Ideal S1024x4096 .f32)
    (x7 : Vec Ideal S2048x4096 .bf16) (x8 : Vec Ideal S2048x1024 .f32) : Prop where
  h0 : ∀ t d, x0 (ix2 t d) = ((D.X0 t d : ℝ) : EReal)
  h1 : ∀ t d, x1 (ix2 t d) = ((D.Y t d : ℝ) : EReal)
  h2 : ∀ d, x2 (ix1 d) = ((D.G d : ℝ) : EReal)
  h3 : ∀ d, x3 (ix1 d) = ((D.N d : ℝ) : EReal)
  h4 : ∀ d, x4 (ix1 d) = ((D.SC d : ℝ) : EReal)
  h5 : ∀ d, x5 (ix1 d) = ((D.SH d : ℝ) : EReal)
  h6 : ∀ d f, x6 (ix2 d f) = ((D.W d f : ℝ) : EReal)
  h7 : ∀ t f, x7 (ix2 t f) = ((D.DZ t f : ℝ) : EReal)
  h8 : ∀ t d, x8 (ix2 t d) = ((D.CT t d : ℝ) : EReal)

/-- The first factor of the first layer's product that makes the product the matrix of `D`. -/
def fz (D : Data) : Vec Ideal Cert.ReferenceFirstIdeal.S2048x2048 .bf16 := fun i => ((D.flat.DZ (i 0) (i 1) : ℝ) : EReal)
/-- The units. -/
def fw (D : Data) : Vec Ideal Cert.ReferenceFirstIdeal.S1024x2048 .f32 := fun i => ((D.flat.W (i 0) (i 1) : ℝ) : EReal)

variable {D : Data} {x0 x1 : Vec Ideal S2048x1024 .f32} {x2 x3 x4 x5 : Vec Ideal S1024 .f32} {x6 : Vec Ideal S1024x4096 .f32}
  {x7 : Vec Ideal S2048x4096 .bf16} {x8 : Vec Ideal S2048x1024 .f32} (H : Holds D x0 x1 x2 x3 x4 x5 x6 x7 x8)
include H

/-- The stream. -/
theorem v3 (t : Fin 2048) (d : Fin 1024) : val_main_v3 (F := Ideal) x0 x1 x2 (ix2 t d) = ((D.flat.X t d : ℝ) : EReal) := by
  rw [val_main_v3_apply, val_main_v2_apply, val_main_v1_apply, val_main_v0_apply, at1 (idx_main_v0 _) d rfl, H.h0, H.h1, H.h2]
  exact congrArg (_ + ·) (EReal.coe_mul _ _).symm |>.trans (EReal.coe_add _ _).symm

/-- The first layer's arguments. -/
theorem flat : Cert.ReferenceFirstIdeal.Read.Holds D.flat (val_main_v3 (F := Ideal) x0 x1 x2) x3 x4 x5 (fw D) (fz D) x8 :=
  ⟨v3 H, H.h3, H.h4, H.h5, fun _ _ => rfl, fun _ _ => rfl, H.h8⟩

/-- The product is the first layer's. -/
theorem v30 : val_main_v30 (F := Ideal) x6 x7 = Cert.ReferenceFirstIdeal.Read.val_main_v26 (F := Ideal) (fw D) (fz D) := by
  funext i
  obtain ⟨t, d, rfl⟩ : ∃ (t : Fin 2048) (d : Fin 1024), i = ix2 t d := ⟨i 0, i 1, ValueIdx.eq_ix2 i⟩
  rw [Cert.ReferenceFirstIdeal.Read.v26 (flat H), D.flat_dh, val_main_v30_apply]
  unfold MixerT.Data.dh
  rw [coe_sum]
  refine Finset.sum_congr rfl fun f _ => ?_
  rw [val_main_v29_apply, at2 (lidx_main_v30 _ f) t f rfl rfl, at2 (ridx_main_v30 _ f) d f rfl rfl, H.h6, H.h7, EReal.coe_mul]
  rfl

/-- The gradient of the stream. -/
theorem v60 (t : Fin 2048) (d : Fin 1024) : val_main_v60 (F := Ideal) x0 x1 x2 x3 x4 x6 x7 x8 (ix2 t d) = ((D.flat.dx t d : ℝ) : EReal) := by
  have e : val_main_v60 (F := Ideal) x0 x1 x2 x3 x4 x6 x7 x8
      = Cert.ReferenceFirstIdeal.Read.val_main_v56 (F := Ideal) (val_main_v3 (F := Ideal) x0 x1 x2) x3 x4 (fw D) (fz D) x8 := by
    unfold val_main_v60 val_main_v59 val_main_v58 val_main_v57 val_main_v56 val_main_v55 val_main_v54 val_main_v52 val_main_v51
      val_main_v50 val_main_v49 val_main_v48 val_main_v47 val_main_v46 val_main_v44 val_main_v43 val_main_v38
    rw [v30 H]
    rfl
  rw [e]
  exact Cert.ReferenceFirstIdeal.Read.v56 (flat H) t d

theorem v61 (t : Fin 2048) (d : Fin 1024) : val_main_v61 (F := Ideal) x0 x1 x2 x3 x4 x6 x7 x8 (ix2 t d) = ((D.flat.dx t d : ℝ) : EReal) := by
  unfold val_main_v61
  rw [shapeCast_id]
  exact v60 H t d

/-- The gradient of the branch. -/
theorem v75 (t : Fin 2048) (d : Fin 1024) : val_main_v75 (F := Ideal) x0 x1 x2 x3 x4 x6 x7 x8 (ix2 t d) = ((D.dy t d : ℝ) : EReal) := by
  rw [val_main_v75_apply, val_main_v63_apply, val_main_v62_apply, val_main_v0_apply, at1 (idx_main_v0 _) d rfl, H.h2, v61 H]
  exact (EReal.coe_mul _ _).symm

/-- The gradient of the gate. -/
theorem v67 (d : Fin 1024) : val_main_v67 (F := Ideal) x0 x1 x2 x3 x4 x6 x7 x8 (ix1 d) = ((∑ t, D.flat.dx t d * D.Y t d : ℝ) : EReal) := by
  rw [val_main_v67_apply, val_main_cst_14_apply, Fin.sum_univ_one, val_main_v66_apply, at1 (idx_main_v66 _) d (by show 0 * 1024 + d.val = d.val; omega),
    val_main_v65_apply, val_main_cst_13_apply]
  simp only [fun k => at2 (idx_main_v65 (ix1 d) k) k d rfl rfl, val_main_v64_apply, v61 H, H.h1]
  show Ideal.ofBits .f32 _ + (Ideal.ofBits .f32 _ + ∑ k, ((_ : ℝ) : EReal) * ((_ : ℝ) : EReal)) = _
  simp only [← EReal.coe_mul]
  rw [lit_zero, ← coe_sum, ← EReal.coe_add, ← EReal.coe_add, zero_add, zero_add]

/-- The gradient of the shift. -/
theorem v33 (d : Fin 1024) : val_main_v33 (F := Ideal) x6 x7 (ix1 d) = ((∑ t, D.flat.dh t d : ℝ) : EReal) := by
  unfold val_main_v33 val_main_v32 val_main_v31
  rw [v30 H]
  exact Cert.ReferenceFirstIdeal.Read.v29 (flat H) d

/-- The gradient of the scale. -/
theorem v39 (d : Fin 1024) : val_main_v39 (F := Ideal) x0 x1 x2 x3 x6 x7 (ix1 d) = (((∑ t, D.flat.dh t d * D.flat.xn t d) * D.N d : ℝ) : EReal) := by
  unfold val_main_v39 val_main_v36 val_main_v35 val_main_v34
  rw [v30 H]
  exact Cert.ReferenceFirstIdeal.Read.v35 (flat H) d

/-- The gradient of the gain. -/
theorem v45 (d : Fin 1024) : val_main_v45 (F := Ideal) x0 x1 x2 x4 x6 x7 (ix1 d) = (((∑ t, D.flat.dh t d * D.flat.xn t d) * (1 + D.SC d) : ℝ) : EReal) := by
  unfold val_main_v45 val_main_v42 val_main_v41 val_main_v40 val_main_v38
  rw [v30 H]
  exact Cert.ReferenceFirstIdeal.Read.v41 (flat H) d

omit H in
/-- One of the first four rows is the piece it was stacked from. -/
theorem v74_row (n : ℕ) (hn : n < 4) (y : (⟨S1x1024, .f32⟩ : BufTy).Contents (Elt Ideal))
    (hy : [(⟨S1x1024, val_main_v68 (F := Ideal) x0 x1 x2 x4 x6 x7⟩ : (s : Shape) × (s.Idx → EReal)), ⟨S1x1024, val_main_v69 (F := Ideal) x0 x1 x2 x3 x6 x7⟩,
      ⟨S1x1024, val_main_v70 (F := Ideal) x6 x7⟩, ⟨S1x1024, val_main_v71 (F := Ideal) x0 x1 x2 x3 x4 x6 x7 x8⟩][n]'hn = ⟨S1x1024, y⟩)
    (d : Fin 1024) : val_main_v74 (F := Ideal) x0 x1 x2 x3 x4 x6 x7 x8 (ix2 (⟨n, by omega⟩ : Fin 8) d) = y (ix2 0 d) := by
  unfold val_main_v74
  refine (concatenate_pair_apply_left (t := S8x1024) (s₁ := S4x1024) (s₂ := S4x1024) (0 : Fin 2) _ _ concatenates_S4x1024_S4x1024_S8x1024_d0 (ix2 (⟨n, by omega⟩ : Fin 8) d) rfl
    (ix2 (⟨n, hn⟩ : Fin 4) d) (fun b => by match b with | ⟨0, _⟩ => rfl | ⟨1, _⟩ => rfl)).trans ?_
  unfold val_main_v72
  refine concatenate_apply_piece (t := S4x1024) (0 : Fin 2)
    [⟨S1x1024, val_main_v68 (F := Ideal) x0 x1 x2 x4 x6 x7⟩, ⟨S1x1024, val_main_v69 (F := Ideal) x0 x1 x2 x3 x6 x7⟩, ⟨S1x1024, val_main_v70 (F := Ideal) x6 x7⟩, ⟨S1x1024, val_main_v71 (F := Ideal) x0 x1 x2 x3 x4 x6 x7 x8⟩]
    concatenates_S1x1024_S1x1024_S1x1024_S1x1024_S4x1024_d0 (ix2 (⟨n, hn⟩ : Fin 4) d) n hn S1x1024 y hy rfl n ?_ (ix2 0 d)
    (fun b hb => by match b with | ⟨0, _⟩ => exact absurd rfl hb | ⟨1, _⟩ => rfl) rfl
  interval_cases n <;> rfl

/-- The eight rows: the gradients of the gain, the scale, the shift and the gate, then four rows of zeros. -/
theorem v74 (i : Fin 8) (d : Fin 1024) : val_main_v74 (F := Ideal) x0 x1 x2 x3 x4 x6 x7 x8 (ix2 i d) = ((D.rows i d : ℝ) : EReal) := by
  by_cases hi : i.val < 4
  · obtain ⟨n, hn⟩ := i
    dsimp only at hi
    interval_cases n
    · rw [v74_row 0 (by omega) _ rfl, val_main_v68_apply, at1 (idx_main_v68 _) d rfl, v45 H]; rfl
    · rw [v74_row 1 (by omega) _ rfl, val_main_v69_apply, at1 (idx_main_v69 _) d rfl, v39 H]; rfl
    · rw [v74_row 2 (by omega) _ rfl, val_main_v70_apply, at1 (idx_main_v70 _) d rfl, v33 H]; rfl
    · rw [v74_row 3 (by omega) _ rfl, val_main_v71_apply, at1 (idx_main_v71 _) d rfl, v67 H]; rfl
  · have h8 : i.val < 8 := i.isLt
    have hz : D.rows i d = 0 := by
      unfold MixerT.Data.rows First.Data.rows
      rw [if_neg (by omega), if_neg (by omega), if_neg (by omega), if_neg (by omega)]
    rw [hz]
    unfold val_main_v74
    refine (concatenate_pair_apply_right (t := S8x1024) (s₁ := S4x1024) (s₂ := S4x1024) (0 : Fin 2) _ _ concatenates_S4x1024_S4x1024_S8x1024_d0 (ix2 i d) rfl rfl
      (ix2 (⟨i.val - 4, by omega⟩ : Fin 4) d) (fun b hb => by match b with | ⟨0, _⟩ => exact absurd rfl hb | ⟨1, _⟩ => rfl) (by show (i.val - 4) + 4 = i.val; omega)).trans ?_
    rw [val_main_v73_apply, val_main_cst_15_apply]
    exact lit_zero

end Cert.ReferenceMixerTIdeal.Read

end
-- ==== Proof.FirstSweep.lean ====
/-
  The first layer's mixer, the gradient through its modulated norm: what a grid point leaves in the two outputs (the gradient of the
  step's input on its block of tokens, and the eight rows that the points accumulate), and what the arrays hold after the four points,
  over any float operations.
-/
module

public import proofs.«01_k».proof.Proof.RowStore
public import proofs.«01_k».proof.Proof.Gen.KernelFirstIdeal.Value
public import Idealize.ShloMosaic.Lib.Tactic
public import Idealize.ShloMosaic.Lib.Pipeline.ReadBack

@[expose] public section

noncomputable section

namespace Cert.KernelFirstIdeal.Points

open Cert.KernelFirstIdeal Cert.KernelFirstIdeal.Gen Cert.KernelFirstIdeal.Value Idealize.ShloMosaic Idealize.ShloMosaic.TcCoe Idealize.SL.Sem
open Idealize.ShloMosaic.ValueIdx

variable {F : FTy → Type} [FloatOps F]

/-- The zero offsets. -/
theorem hz : (![0, 0] : Fin 2 → Nat) = fun _ => 0 := funext fun a => by fin_cases a <;> rfl

/-- The row `k` of a group of eight rows. -/
abbrev row0 (X : Vec F S8x1024 .f32) : Vec F S1x1024 .f32 := View.ld X (Rect.unit (s := S8x1024) ![0, 0] ![1, 1024] inb_S8x1024_S1x1024_0_0)
@[inherit_doc row0] abbrev row1 (X : Vec F S8x1024 .f32) : Vec F S1x1024 .f32 := View.ld X (Rect.unit (s := S8x1024) ![1, 0] ![1, 1024] inb_S8x1024_S1x1024_1_0)
@[inherit_doc row0] abbrev row2 (X : Vec F S8x1024 .f32) : Vec F S1x1024 .f32 := View.ld X (Rect.unit (s := S8x1024) ![2, 0] ![1, 1024] inb_S8x1024_S1x1024_2_0)

/-- The row `k` of a group of eight rows replaced. -/
abbrev put (k : ℕ) (X : Vec F S8x1024 .f32) (w : Vec F S1x1024 .f32) : Vec F S8x1024 .f32 := VecWindow.put X ![k, 0] ![1, 1024] w

section Terms
variable (x0 : Vec F S512x2048 .bf16) (x1 : Vec F S1024x2048 .bf16) (x2 : Vec F S512x1024 .f32) (x3 : Vec F S8x1024 .f32) (x4 : Vec F S512x1024 .f32) (xo : Vec F S8x1024 .f32)

/-- The gradient of the step's input on the block. -/
def dxB : Vec F S512x1024 .f32 := k0_pay2 (k0_pay6 x0 x1) (k0_pay8 x2) (k0_pay9 x2) (k0_pay10 (row0 x3) (row1 x3)) x4
/-- The accumulated rows with the block's sums added: row 0 the gain's, row 2 the shift's. -/
def step : Vec F S8x1024 .f32 := put 2 (put 0 xo (k0_pay11 x0 x1 x2 (row0 xo))) (k0_pay1 (k0_pay6 x0 x1) (row2 xo))
/-- What the last point makes of the accumulated rows: row 0 times the scale, and in row 1 row 0 times the gain. -/
def fin : Vec F S8x1024 .f32 := put 0 (put 1 xo (k0_pay4 (row0 xo) (row0 x3))) (k0_pay5 (row0 xo) (row1 x3))

end Terms

/-! ## The rows of a group after a row was replaced -/

theorem row0_put0 (X : Vec F S8x1024 .f32) (w : Vec F S1x1024 .f32) : row0 (put 0 X w) = w := VecWindow.window_put_same X _ _ inb_S8x1024_S1x1024_0_0 w
theorem row0_put2 (X : Vec F S8x1024 .f32) (w : Vec F S1x1024 .f32) : row0 (put 2 X w) = row0 X := VecWindow.window_put_of_disjoint X _ _ _ _ inb_S8x1024_S1x1024_0_0 w 0 (by decide)
theorem row2_put0 (X : Vec F S8x1024 .f32) (w : Vec F S1x1024 .f32) : row2 (put 0 X w) = row2 X := VecWindow.window_put_of_disjoint X _ _ _ _ inb_S8x1024_S1x1024_2_0 w 0 (by decide)

/-- Row 2 read where row 0 was already replaced. -/
theorem step_raw (x0 : Vec F S512x2048 .bf16) (x1 : Vec F S1024x2048 .bf16) (x2 : Vec F S512x1024 .f32) (xo : Vec F S8x1024 .f32) :
    (let s0 := put 0 xo (k0_pay11 x0 x1 x2 (row0 xo)); put 2 s0 (k0_pay1 (k0_pay6 x0 x1) (row2 s0))) = step x0 x1 x2 xo := by
  dsimp only
  rw [row2_put0]
  rfl

/-- The last point reads row 0 where its own sums were already put, whatever was under them. -/
theorem fin_raw (x0 : Vec F S512x2048 .bf16) (x1 : Vec F S1024x2048 .bf16) (x2 : Vec F S512x1024 .f32) (x3 xo Z : Vec F S8x1024 .f32) :
    (let over := fun X : Vec F S8x1024 .f32 => put 2 (put 0 X (k0_pay11 x0 x1 x2 (row0 xo))) (k0_pay1 (k0_pay6 x0 x1) (row2 xo))
     put 0 (put 1 (over xo) (k0_pay4 (row0 (over Z)) (row0 x3))) (k0_pay5 (row0 (over Z)) (row1 x3))) = fin x3 (step x0 x1 x2 xo) := by
  dsimp only [fin, step]
  rw [row0_put2, row0_put0, row0_put2, row0_put0]

/-! ## The outputs of a point, case by case -/

section Cases
variable (c : Dev nD) (i : grid0.Coords) (a1 : Memref sig .tc .vmem S512x2048 .bf16) (h1 : a1.IsWhole) (a2 : Memref sig .tc .vmem S1024x2048 .bf16) (h2 : a2.IsWhole) (a3 : Memref sig .tc .vmem S512x1024 .f32) (h3 : a3.IsWhole) (a4 : Memref sig .tc .vmem S8x1024 .f32) (h4 : a4.IsWhole) (a5 : Memref sig .tc .vmem S512x1024 .f32) (h5 : a5.IsWhole) (a6 : Memref sig .tc .vmem S512x1024 .f32) (h6 : a6.IsWhole) (a7 : Memref sig .tc .vmem S8x1024 .f32) (h7 : a7.IsWhole)
variable (x0 : Vec F S512x2048 .bf16) (x1 : Vec F S1024x2048 .bf16) (x2 : Vec F S512x1024 .f32) (x3 : Vec F S8x1024 .f32) (x4 : Vec F S512x1024 .f32) (xo : Vec F S8x1024 .f32)

/-- A first point leaves the gradient on its block. -/
theorem out_A_5 (hc0 : cond0_0 i) (hc1 : ¬cond0_1 i) : out0_A_5 c i a1 h1 a2 h2 a3 h3 a4 h4 a5 h5 a6 h6 a7 h7 hc0 hc1 x0 x1 x2 x3 x4 = dxB x0 x1 x2 x3 x4 := by
  rw [out0_A_5, View.read_writes_eq_canon _ _ _ (cover0_A_5 c i a1 h1 a2 h2 a3 h3 a4 h4 a5 h5 a6 h6 a7 h7 hc0 hc1 x0 x1 x2 x3 x4)]
  unfold kernelRun0_A; dsimp only; sl_unfold_words
  rw [View.canon_unit_zero hz]
  simp only [View.readAt_eq_ld, h1.read_unread, h2.read_unread, h3.read_unread, h4.read_unread, h5.read_unread, View.ld_unit_zero (S := S512x2048) hz, View.ld_unit_zero (S := S1024x2048) hz, View.ld_unit_zero (S := S512x1024) hz]
  rfl

/-- A middle point leaves the gradient on its block. -/
theorem out_B_5 (hc0 : ¬cond0_0 i) (hc1 : ¬cond0_1 i) : out0_B_5 c i a1 h1 a2 h2 a3 h3 a4 h4 a5 h5 a6 h6 a7 h7 hc0 hc1 x0 x1 x2 x3 x4 xo = dxB x0 x1 x2 x3 x4 := by
  rw [out0_B_5, View.read_writes_eq_canon _ _ _ (cover0_B_5 c i a1 h1 a2 h2 a3 h3 a4 h4 a5 h5 a6 h6 a7 h7 hc0 hc1 x0 x1 x2 x3 x4 xo)]
  unfold kernelRun0_B; dsimp only; sl_unfold_words
  rw [View.canon_unit_zero hz]
  simp only [View.readAt_eq_ld, h1.read_unread, h2.read_unread, h3.read_unread, h4.read_unread, h5.read_unread, View.ld_unit_zero (S := S512x2048) hz, View.ld_unit_zero (S := S1024x2048) hz, View.ld_unit_zero (S := S512x1024) hz]
  rfl

/-- A last point leaves the gradient on its block. -/
theorem out_C_5 (hc0 : ¬cond0_0 i) (hc1 : cond0_1 i) : out0_C_5 c i a1 h1 a2 h2 a3 h3 a4 h4 a5 h5 a6 h6 a7 h7 hc0 hc1 x0 x1 x2 x3 x4 xo = dxB x0 x1 x2 x3 x4 := by
  rw [out0_C_5, View.read_writes_eq_canon _ _ _ (cover0_C_5 c i a1 h1 a2 h2 a3 h3 a4 h4 a5 h5 a6 h6 a7 h7 hc0 hc1 x0 x1 x2 x3 x4 xo)]
  unfold kernelRun0_C; dsimp only; sl_unfold_words
  rw [View.canon_unit_zero hz]
  simp only [View.readAt_eq_ld, h1.read_unread, h2.read_unread, h3.read_unread, h4.read_unread, h5.read_unread, View.ld_unit_zero (S := S512x2048) hz, View.ld_unit_zero (S := S1024x2048) hz, View.ld_unit_zero (S := S512x1024) hz]
  rfl

/-- The first point leaves its own sums over zeros. -/
theorem out_A_6 (hc0 : cond0_0 i) (hc1 : ¬cond0_1 i) : out0_A_6 c i a1 h1 a2 h2 a3 h3 a4 h4 a5 h5 a6 h6 a7 h7 hc0 hc1 x0 x1 x2 x3 x4 = step x0 x1 x2 k0_pay7 := by
  rw [out0_A_6, View.read_writes_eq_canon _ _ _ (cover0_A_6 c i a1 h1 a2 h2 a3 h3 a4 h4 a5 h5 a6 h6 a7 h7 hc0 hc1 x0 x1 x2 x3 x4)]
  unfold kernelRun0_A; dsimp only; sl_unfold_words
  simp only [View.readAt_eq_ld, h1.read_unread, h2.read_unread, h3.read_unread, h4.read_unread, h5.read_unread, View.ld_unit_zero (S := S512x2048) hz, View.ld_unit_zero (S := S1024x2048) hz, View.ld_unit_zero (S := S512x1024) hz]
  simp only [View.readCov_eq_ld, View.canon_cons_put, View.canon_unit_zero (S := S8x1024) hz]
  exact step_raw x0 x1 x2 k0_pay7

/-- A middle point adds its sums to the rows the points before left. -/
theorem out_B_6 (hc0 : ¬cond0_0 i) (hc1 : ¬cond0_1 i) : out0_B_6 c i a1 h1 a2 h2 a3 h3 a4 h4 a5 h5 a6 h6 a7 h7 hc0 hc1 x0 x1 x2 x3 x4 xo = step x0 x1 x2 xo := by
  unfold out0_B_6 kernelRun0_B; dsimp only; sl_unfold_words
  simp only [View.readAt_eq_ld, h1.read_unread, h2.read_unread, h3.read_unread, h4.read_unread, h5.read_unread, View.ld_unit_zero (S := S512x2048) hz, View.ld_unit_zero (S := S1024x2048) hz, View.ld_unit_zero (S := S512x1024) hz]
  simp only [View.read_writes_cons_put _ _ _ _ _ rfl, View.writes_nil, h7.read_unread]
  rfl

/-- The last point adds its sums and makes the two gradients of the modulated norm of row 0. -/
theorem out_C_6 (hc0 : ¬cond0_0 i) (hc1 : cond0_1 i) : out0_C_6 c i a1 h1 a2 h2 a3 h3 a4 h4 a5 h5 a6 h6 a7 h7 hc0 hc1 x0 x1 x2 x3 x4 xo = fin x3 (step x0 x1 x2 xo) := by
  unfold out0_C_6 kernelRun0_C; dsimp only; sl_unfold_words
  simp only [View.readAt_eq_ld, h1.read_unread, h2.read_unread, h3.read_unread, h4.read_unread, h5.read_unread, View.ld_unit_zero (S := S512x2048) hz, View.ld_unit_zero (S := S1024x2048) hz, View.ld_unit_zero (S := S512x1024) hz]
  simp only [View.read_writes_cons_put _ _ _ _ _ rfl, View.writes_nil, h7.read_unread]
  simp only [View.readCov_eq_ld, View.canon_cons_put]
  exact fin_raw x0 x1 x2 x3 xo _

end Cases

variable (m : (ℓ : Loc nD τ sig) → Buf (Elt F) ℓ)

/-- The token at the place `p` of the block `t`. -/
abbrev tok (t : Fin 4) (p : Fin 512) : Fin 2048 := ⟨512 * t.val + p.val, by omega⟩
/-- The grid point of the block `t`. -/
abbrev pt (t : Fin 4) : Fin cfg0.N := ⟨t.val, by rw [show cfg0.N = 4 from N_0]; exact t.isLt⟩

/-- Window 0 reads the gradient of the product. -/
theorem blk0 (c : Dev nD) (t : Fin 4) (p : Fin 512) (q : Fin 2048) :
    (iblk m c 0 (pt t) : Vec F S512x2048 .bf16) (ix2 p q) = V m c main_arg5 (ix2 (tok t p) q) := by
  have hi : ∀ t : Fin cfg0.N, win0_0.index t 0 = t.val ∧ win0_0.index t 1 = 0 :=
    (by decide +kernel : ∀ t : Fin grid0.N, win0_0.index t 0 = t.val ∧ win0_0.index t 1 = 0)
  unfold iblk
  rw [View.read_apply]
  show V m c main_arg5 _ = V m c main_arg5 _
  congr 1
  funext a
  apply Fin.ext
  match a with
  | ⟨0, _⟩ => show win0_0.index (pt t) 0 * 512 + 1 * p.val = 512 * t.val + p.val; rw [(hi (pt t)).1]; dsimp only; omega
  | ⟨1, _⟩ => show win0_0.index (pt t) 1 * 2048 + 1 * q.val = q.val; rw [(hi (pt t)).2]; omega

/-- Window 1 reads the weight, whole. -/
theorem blk1 (c : Dev nD) (t : Fin 4) (p : Fin 1024) (q : Fin 2048) :
    (iblk m c 1 (pt t) : Vec F S1024x2048 .bf16) (ix2 p q) = V m c main_v0 (ix2 p q) := by
  have hi : ∀ t : Fin cfg0.N, win0_1.index t 0 = 0 ∧ win0_1.index t 1 = 0 :=
    (by decide +kernel : ∀ t : Fin grid0.N, win0_1.index t 0 = 0 ∧ win0_1.index t 1 = 0)
  unfold iblk
  rw [View.read_apply]
  show V m c main_v0 _ = V m c main_v0 _
  congr 1
  funext a
  apply Fin.ext
  match a with
  | ⟨0, _⟩ => show win0_1.index (pt t) 0 * 1024 + 1 * p.val = p.val; rw [(hi (pt t)).1]; omega
  | ⟨1, _⟩ => show win0_1.index (pt t) 1 * 2048 + 1 * q.val = q.val; rw [(hi (pt t)).2]; omega

/-- Window 2 reads the step's input. -/
theorem blk2 (c : Dev nD) (t : Fin 4) (p : Fin 512) (q : Fin 1024) :
    (iblk m c 2 (pt t) : Vec F S512x1024 .f32) (ix2 p q) = V m c main_arg0 (ix2 (tok t p) q) := by
  have hi : ∀ t : Fin cfg0.N, win0_2.index t 0 = t.val ∧ win0_2.index t 1 = 0 :=
    (by decide +kernel : ∀ t : Fin grid0.N, win0_2.index t 0 = t.val ∧ win0_2.index t 1 = 0)
  unfold iblk
  rw [View.read_apply]
  show V m c main_arg0 _ = V m c main_arg0 _
  congr 1
  funext a
  apply Fin.ext
  match a with
  | ⟨0, _⟩ => show win0_2.index (pt t) 0 * 512 + 1 * p.val = 512 * t.val + p.val; rw [(hi (pt t)).1]; dsimp only; omega
  | ⟨1, _⟩ => show win0_2.index (pt t) 1 * 1024 + 1 * q.val = q.val; rw [(hi (pt t)).2]; omega

/-- Window 3 reads the table's rows, all eight. -/
theorem blk3 (c : Dev nD) (t : Fin 4) (p : Fin 8) (q : Fin 1024) :
    (iblk m c 3 (pt t) : Vec F S8x1024 .f32) (ix2 p q) = V m c main_v6 (ix2 p q) := by
  have hi : ∀ t : Fin cfg0.N, win0_3.index t 0 = 0 ∧ win0_3.index t 1 = 0 :=
    (by decide +kernel : ∀ t : Fin grid0.N, win0_3.index t 0 = 0 ∧ win0_3.index t 1 = 0)
  unfold iblk
  rw [View.read_apply]
  show V m c main_v6 _ = V m c main_v6 _
  congr 1
  funext a
  apply Fin.ext
  match a with
  | ⟨0, _⟩ => show win0_3.index (pt t) 0 * 8 + 1 * p.val = p.val; rw [(hi (pt t)).1]; omega
  | ⟨1, _⟩ => show win0_3.index (pt t) 1 * 1024 + 1 * q.val = q.val; rw [(hi (pt t)).2]; omega

/-- Window 4 reads the stream's gradient. -/
theorem blk4 (c : Dev nD) (t : Fin 4) (p : Fin 512) (q : Fin 1024) :
    (iblk m c 4 (pt t) : Vec F S512x1024 .f32) (ix2 p q) = V m c main_arg6 (ix2 (tok t p) q) := by
  have hi : ∀ t : Fin cfg0.N, win0_4.index t 0 = t.val ∧ win0_4.index t 1 = 0 :=
    (by decide +kernel : ∀ t : Fin grid0.N, win0_4.index t 0 = t.val ∧ win0_4.index t 1 = 0)
  unfold iblk
  rw [View.read_apply]
  show V m c main_arg6 _ = V m c main_arg6 _
  congr 1
  funext a
  apply Fin.ext
  match a with
  | ⟨0, _⟩ => show win0_4.index (pt t) 0 * 512 + 1 * p.val = 512 * t.val + p.val; rw [(hi (pt t)).1]; dsimp only; omega
  | ⟨1, _⟩ => show win0_4.index (pt t) 1 * 1024 + 1 * q.val = q.val; rw [(hi (pt t)).2]; omega

/-- The accumulated rows after the point `n`: its sums over what the points before left, over zeros at the first. -/
def acc (c : Dev nD) : (n : ℕ) → n < cfg0.N → Vec F S8x1024 .f32
  | 0, h => step (iblk m c 0 ⟨0, h⟩) (iblk m c 1 ⟨0, h⟩) (iblk m c 2 ⟨0, h⟩) k0_pay7
  | n + 1, h => step (iblk m c 0 ⟨n + 1, h⟩) (iblk m c 1 ⟨n + 1, h⟩) (iblk m c 2 ⟨n + 1, h⟩) (acc c n (Nat.lt_of_succ_lt h))

/-- Before the last point the accumulator's buffer holds the accumulated rows. -/
theorem outs_acc (c : Dev nD) : ∀ (n : ℕ) (h : n < cfg0.N), n < 3 → (outsAt0 m c n h).2 = acc m c n h
  | 0, h, _ => by
    have e := congrArg (fun o => o.2) (outsAt0_A m c ⟨0, h⟩ rfl (by dsimp only; omega))
    dsimp only at e
    rw [out_A_6] at e
    exact e
  | n + 1, h, h3 => by
    have h0 : ¬(⟨n + 1, h⟩ : Fin cfg0.N).val % 4 = 0 := by dsimp only; omega
    have h1 : ¬(⟨n + 1, h⟩ : Fin cfg0.N).val % 4 = 3 := by dsimp only; omega
    rw [outsAt0_B m c ⟨n + 1, h⟩ h0 h1]
    dsimp only
    rw [out_B_6]
    show step _ _ _ (outsAt0 m c n _).2 = step _ _ _ (acc m c n _)
    rw [outs_acc c n _ (by omega)]

/-- After the last point it holds the finished rows. -/
theorem outs_last (c : Dev nD) (n : ℕ) (h : n + 1 < cfg0.N) (h3 : n + 1 = 3) :
    (outsAt0 m c (n + 1) h).2 = fin (iblk m c 3 ⟨n + 1, h⟩) (acc m c (n + 1) h) := by
  have h0 : ¬(⟨n + 1, h⟩ : Fin cfg0.N).val % 4 = 0 := by dsimp only; omega
  have h1 : (⟨n + 1, h⟩ : Fin cfg0.N).val % 4 = 3 := by dsimp only; omega
  rw [outsAt0_C m c ⟨n + 1, h⟩ h0 h1]
  dsimp only
  rw [out_C_6]
  show fin _ (step _ _ _ (outsAt0 m c n _).2) = fin _ (step _ _ _ (acc m c n _))
  rw [outs_acc m c n _ (by omega)]

/-- Every point leaves the gradient of its block. -/
theorem outs_5 (c : Dev nD) (t : Fin cfg0.N) : (outsAt0 m c t.val t.isLt).1 = dxB (iblk m c 0 t) (iblk m c 1 t) (iblk m c 2 t) (iblk m c 3 t) (iblk m c 4 t) := by
  by_cases h0 : t.val % 4 = 0
  · rw [outsAt0_A m c t h0 (by omega)]; dsimp only; rw [out_A_5]
  · by_cases h1 : t.val % 4 = 3
    · rw [outsAt0_C m c t h0 h1]; dsimp only; rw [out_C_5]
    · rw [outsAt0_B m c t h0 h1]; dsimp only; rw [out_B_5]

/-- The gradient after the run, block by block. -/
theorem final_5 (c : Dev nD) (t : Fin 4) (p : Fin 512) (q : Fin 1024) :
    ((dats m 0 c).arrAt 5 cfg0.N : Vec F S2048x1024 .f32) (ix2 (tok t p) q) = dxB (iblk m c 0 (pt t)) (iblk m c 1 (pt t)) (iblk m c 2 (pt t)) (iblk m c 3 (pt t)) (iblk m c 4 (pt t)) (ix2 p q) := by
  have hi : ∀ t : Fin cfg0.N, win0_5.index t 0 = t.val ∧ win0_5.index t 1 = 0 :=
    (by decide +kernel : ∀ t : Fin grid0.N, win0_5.index t 0 = t.val ∧ win0_5.index t 1 = 0)
  have e := congrFun (blocks5 m c (pt t) (flush0_5 (pt t))) (ix2 p q : S512x1024.Idx)
  rw [flushed5, outs_5, View.read_apply] at e
  refine Eq.trans (congrArg ((dats m 0 c).arrAt 5 cfg0.N) ?_) e
  funext a
  apply Fin.ext
  match a with
  | ⟨0, _⟩ => show 512 * t.val + p.val = win0_5.index (pt t) 0 * 512 + 1 * p.val; rw [(hi (pt t)).1]; dsimp only; omega
  | ⟨1, _⟩ => show q.val = win0_5.index (pt t) 1 * 1024 + 1 * q.val; rw [(hi (pt t)).2]; omega

/-- The eight rows after the run are the finished rows: the last point's write-back is the only one. -/
theorem final_6 (c : Dev nD) : ((dats m 0 c).arrAt 6 cfg0.N : Vec F S8x1024 .f32) = fin (iblk m c 3 (pt 3)) (acc m c 3 (pt 3).isLt) := by
  have hz' : (fun a => win0_6.index (pt 3) a * main_v7_1.ty.shape.size a) = fun _ => 0 := funext fun a => by fin_cases a <;> decide +kernel
  refine (dats m 0 c).arrAt_eq_of_cover 6 (fin (iblk m c 3 (pt 3)) (acc m c 3 (pt 3).isLt)) (fun t hf => ?_) fun i => ⟨pt 3, (flush0_6 (pt 3)).mpr rfl, ?_⟩
  · have hN : cfg0.N = 4 := N_0
    have h3 : t.val = 3 := by have := (flush0_6 t).mp hf; have := t.isLt; omega
    obtain rfl : t = pt 3 := Fin.ext h3
    show (cfg0.win 6).cut (grid0.coords (pt 3)) ((dats m 0 c).after 6 (pt 3)) = _
    rw [after0_6]
    refine Eq.trans (outs_last m c 2 (pt 3).isLt rfl) ?_
    exact (Memref.read_access_unit_zero (Elt F) main_v7_1 hz' (fun a => by rw [congrFun hz' a]; simp) _).symm
  · show i ∈ ((View.whole main_v7_1).slice (win0_6.rect (pt 3))).set
    rw [View.set_slice_whole, Rect.mem_set_unit]
    intro a
    have h0 : (i 0 : Nat) < 8 := (i 0).isLt
    have h1 : (i 1 : Nat) < 1024 := (i 1).isLt
    match a with
    | ⟨0, _⟩ => show win0_6.index (pt 3) 0 * win0_6.size 0 ≤ (i 0 : Nat) ∧ (i 0 : Nat) < win0_6.index (pt 3) 0 * win0_6.size 0 + win0_6.xsize (grid0.coords (pt 3)) 0
                rw [show win0_6.index (pt 3) 0 * win0_6.size 0 = 0 from by decide +kernel, show win0_6.xsize (grid0.coords (pt 3)) 0 = 8 from by decide +kernel]; omega
    | ⟨1, _⟩ => show win0_6.index (pt 3) 1 * win0_6.size 1 ≤ (i 1 : Nat) ∧ (i 1 : Nat) < win0_6.index (pt 3) 1 * win0_6.size 1 + win0_6.xsize (grid0.coords (pt 3)) 1
                rw [show win0_6.index (pt 3) 1 * win0_6.size 1 = 0 from by decide +kernel, show win0_6.xsize (grid0.coords (pt 3)) 1 = 1024 from by decide +kernel]; omega

end Cert.KernelFirstIdeal.Points

end
-- ==== Proof.MixerSweep.lean ====
/-
  The token mixer's stage, the gradient through its modulated norm and the gated branch before it: what a grid point leaves in the three
  outputs (the gradient of the stream and of the branch on its block of tokens, and the eight rows that the points accumulate), and what
  the arrays hold after the four points, over any float operations.
-/
module

public import proofs.«01_k».proof.Proof.RefRead
public import proofs.«01_k».proof.Proof.FirstSweep
public import proofs.«01_k».proof.Proof.Gen.KernelMixerTIdeal.Value

@[expose] public section

noncomputable section

namespace Cert.KernelMixerTIdeal.Points

open Cert.KernelMixerTIdeal Cert.KernelMixerTIdeal.Gen Cert.KernelMixerTIdeal.Value Idealize.ShloMosaic Idealize.ShloMosaic.TcCoe Idealize.SL.Sem
open Idealize.ShloMosaic.ValueIdx
open Cert.KernelFirstIdeal.Points (hz row0 row1 row2 put row0_put0 row0_put2 row2_put0)
open Cert.ReferenceIdeal.Read (at2)

variable {F : FTy → Type} [FloatOps F]

/-- The row 3 of a group of eight rows. -/
abbrev row3 (X : Vec F S8x1024 .f32) : Vec F S1x1024 .f32 := View.ld X (Rect.unit (s := S8x1024) ![3, 0] ![1, 1024] inb_S8x1024_S1x1024_3_0)

section Terms
variable (x0 : Vec F S512x4096 .bf16) (x1 : Vec F S1024x4096 .bf16) (x2 : Vec F S512x1024 .f32) (x3 : Vec F S8x1024 .f32) (x4 : Vec F S512x1024 .f32) (x5 : Vec F S512x1024 .bf16) (x6 : Vec F S8x1024 .f32) (xo : Vec F S8x1024 .f32)

/-- The gradient of the stream on the block. -/
def dxB : Vec F S512x1024 .f32 := k0_pay12 (k0_pay4 x0 x1) (k0_pay7 x2) (k0_pay8 x2) (k0_pay9 (row0 x3) (row1 x3)) x4
/-- The gradient of the branch on the block. -/
def dyB : Vec F S512x1024 .bf16 := k0_pay13 (k0_pay4 x0 x1) (k0_pay7 x2) (k0_pay8 x2) (k0_pay9 (row0 x3) (row1 x3)) x4 (row0 x6)
/-- The gate's row with the block's sums added. -/
def gate : Vec F S1x1024 .f32 := k0_pay14 (k0_pay4 x0 x1) (k0_pay7 x2) (k0_pay8 x2) (k0_pay9 (row0 x3) (row1 x3)) x4 (row3 xo) x5
/-- The accumulated rows with the block's sums added: row 0 the gain's, row 2 the shift's, row 3 the gate's. -/
def step : Vec F S8x1024 .f32 :=
  put 3 (put 2 (put 0 xo (k0_pay10 x0 x1 x2 (row0 xo))) (k0_pay11 (k0_pay4 x0 x1) (row2 xo))) (gate x0 x1 x2 x3 x4 x5 xo)
/-- What the last point makes of the accumulated rows: row 0 times the scale, and in row 1 row 0 times the gain. -/
def fin : Vec F S8x1024 .f32 := put 0 (put 1 xo (k0_pay2 (row0 xo) (row0 x3))) (k0_pay3 (row0 xo) (row1 x3))

end Terms

/-! ## The rows of a group after a row was replaced -/

theorem row0_put3 (X : Vec F S8x1024 .f32) (w : Vec F S1x1024 .f32) : row0 (put 3 X w) = row0 X := VecWindow.window_put_of_disjoint X _ _ _ _ inb_S8x1024_S1x1024_0_0 w 0 (by decide)
theorem row3_put0 (X : Vec F S8x1024 .f32) (w : Vec F S1x1024 .f32) : row3 (put 0 X w) = row3 X := VecWindow.window_put_of_disjoint X _ _ _ _ inb_S8x1024_S1x1024_3_0 w 0 (by decide)
theorem row3_put2 (X : Vec F S8x1024 .f32) (w : Vec F S1x1024 .f32) : row3 (put 2 X w) = row3 X := VecWindow.window_put_of_disjoint X _ _ _ _ inb_S8x1024_S1x1024_3_0 w 0 (by decide)

section Raw
variable (x0 : Vec F S512x4096 .bf16) (x1 : Vec F S1024x4096 .bf16) (x2 : Vec F S512x1024 .f32) (x3 : Vec F S8x1024 .f32) (x4 : Vec F S512x1024 .f32) (x5 : Vec F S512x1024 .bf16) (x6 : Vec F S8x1024 .f32)

/-- Rows 2 and 3 read where the rows before them were already replaced. -/
theorem step_raw (xo : Vec F S8x1024 .f32) :
    (let s0 := put 0 xo (k0_pay10 x0 x1 x2 (row0 xo)); let s2 := put 2 s0 (k0_pay11 (k0_pay4 x0 x1) (row2 s0)); put 3 s2 (gate x0 x1 x2 x3 x4 x5 s2)) = step x0 x1 x2 x3 x4 x5 xo := by
  dsimp only [gate, step]
  rw [row3_put2, row3_put0, row2_put0]

/-- The last point reads row 0 where its own sums were already put, whatever was under them. -/
theorem fin_raw (xo Z : Vec F S8x1024 .f32) :
    (let over := fun X : Vec F S8x1024 .f32 => put 3 (put 2 (put 0 X (k0_pay10 x0 x1 x2 (row0 xo))) (k0_pay11 (k0_pay4 x0 x1) (row2 xo))) (gate x0 x1 x2 x3 x4 x5 xo)
     put 0 (put 1 (over xo) (k0_pay2 (row0 (over Z)) (row0 x3))) (k0_pay3 (row0 (over Z)) (row1 x3))) = fin x3 (step x0 x1 x2 x3 x4 x5 xo) := by
  dsimp only [fin, step]
  rw [row0_put3, row0_put2, row0_put0, row0_put3, row0_put2, row0_put0]

end Raw

/-! ## The outputs of a point, case by case -/

section Cases
variable (c : Dev nD) (i : grid0.Coords) (a1 : Memref sig .tc .vmem S512x4096 .bf16) (h1 : a1.IsWhole) (a2 : Memref sig .tc .vmem S1024x4096 .bf16) (h2 : a2.IsWhole) (a3 : Memref sig .tc .vmem S512x1024 .f32) (h3 : a3.IsWhole) (a4 : Memref sig .tc .vmem S8x1024 .f32) (h4 : a4.IsWhole) (a5 : Memref sig .tc .vmem S512x1024 .f32) (h5 : a5.IsWhole) (a6 : Memref sig .tc .vmem S512x1024 .bf16) (h6 : a6.IsWhole) (a7 : Memref sig .tc .vmem S8x1024 .f32) (h7 : a7.IsWhole) (a8 : Memref sig .tc .vmem S512x1024 .f32) (h8 : a8.IsWhole) (a9 : Memref sig .tc .vmem S8x1024 .f32) (h9 : a9.IsWhole) (a10 : Memref sig .tc .vmem S512x1024 .bf16) (h10 : a10.IsWhole)
variable (x0 : Vec F S512x4096 .bf16) (x1 : Vec F S1024x4096 .bf16) (x2 : Vec F S512x1024 .f32) (x3 : Vec F S8x1024 .f32) (x4 : Vec F S512x1024 .f32) (x5 : Vec F S512x1024 .bf16) (x6 : Vec F S8x1024 .f32) (xo : Vec F S8x1024 .f32)

/-- A first point leaves the gradient of the stream on its block. -/
theorem out_A_7 (hc0 : cond0_0 i) (hc1 : ¬cond0_1 i) : out0_A_7 c i a1 h1 a2 h2 a3 h3 a4 h4 a5 h5 a6 h6 a7 h7 a8 h8 a9 h9 a10 h10 hc0 hc1 x0 x1 x2 x3 x4 x5 x6 = dxB x0 x1 x2 x3 x4 := by
  rw [out0_A_7, View.read_writes_eq_canon _ _ _ (cover0_A_7 c i a1 h1 a2 h2 a3 h3 a4 h4 a5 h5 a6 h6 a7 h7 a8 h8 a9 h9 a10 h10 hc0 hc1 x0 x1 x2 x3 x4 x5 x6)]
  unfold kernelRun0_A; dsimp only; sl_unfold_words
  rw [View.canon_unit_zero hz]
  simp only [View.readAt_eq_ld, h1.read_unread, h2.read_unread, h3.read_unread, h4.read_unread, h5.read_unread, h6.read_unread, h7.read_unread, View.ld_unit_zero (S := S512x4096) hz, View.ld_unit_zero (S := S1024x4096) hz, View.ld_unit_zero (S := S512x1024) hz]
  rfl

/-- A middle point leaves the gradient of the stream on its block. -/
theorem out_B_7 (hc0 : ¬cond0_0 i) (hc1 : ¬cond0_1 i) : out0_B_7 c i a1 h1 a2 h2 a3 h3 a4 h4 a5 h5 a6 h6 a7 h7 a8 h8 a9 h9 a10 h10 hc0 hc1 x0 x1 x2 x3 x4 x5 x6 xo = dxB x0 x1 x2 x3 x4 := by
  rw [out0_B_7, View.read_writes_eq_canon _ _ _ (cover0_B_7 c i a1 h1 a2 h2 a3 h3 a4 h4 a5 h5 a6 h6 a7 h7 a8 h8 a9 h9 a10 h10 hc0 hc1 x0 x1 x2 x3 x4 x5 x6 xo)]
  unfold kernelRun0_B; dsimp only; sl_unfold_words
  rw [View.canon_unit_zero hz]
  simp only [View.readAt_eq_ld, h1.read_unread, h2.read_unread, h3.read_unread, h4.read_unread, h5.read_unread, h6.read_unread, h7.read_unread, View.ld_unit_zero (S := S512x4096) hz, View.ld_unit_zero (S := S1024x4096) hz, View.ld_unit_zero (S := S512x1024) hz]
  rfl

/-- A last point leaves the gradient of the stream on its block. -/
theorem out_C_7 (hc0 : ¬cond0_0 i) (hc1 : cond0_1 i) : out0_C_7 c i a1 h1 a2 h2 a3 h3 a4 h4 a5 h5 a6 h6 a7 h7 a8 h8 a9 h9 a10 h10 hc0 hc1 x0 x1 x2 x3 x4 x5 x6 xo = dxB x0 x1 x2 x3 x4 := by
  rw [out0_C_7, View.read_writes_eq_canon _ _ _ (cover0_C_7 c i a1 h1 a2 h2 a3 h3 a4 h4 a5 h5 a6 h6 a7 h7 a8 h8 a9 h9 a10 h10 hc0 hc1 x0 x1 x2 x3 x4 x5 x6 xo)]
  unfold kernelRun0_C; dsimp only; sl_unfold_words
  rw [View.canon_unit_zero hz]
  simp only [View.readAt_eq_ld, h1.read_unread, h2.read_unread, h3.read_unread, h4.read_unread, h5.read_unread, h6.read_unread, h7.read_unread, View.ld_unit_zero (S := S512x4096) hz, View.ld_unit_zero (S := S1024x4096) hz, View.ld_unit_zero (S := S512x1024) hz]
  rfl

/-- A first point leaves the gradient of the branch on its block. -/
theorem out_A_9 (hc0 : cond0_0 i) (hc1 : ¬cond0_1 i) : out0_A_9 c i a1 h1 a2 h2 a3 h3 a4 h4 a5 h5 a6 h6 a7 h7 a8 h8 a9 h9 a10 h10 hc0 hc1 x0 x1 x2 x3 x4 x5 x6 = dyB x0 x1 x2 x3 x4 x6 := by
  rw [out0_A_9, View.read_writes_eq_canon _ _ _ (cover0_A_9 c i a1 h1 a2 h2 a3 h3 a4 h4 a5 h5 a6 h6 a7 h7 a8 h8 a9 h9 a10 h10 hc0 hc1 x0 x1 x2 x3 x4 x5 x6)]
  unfold kernelRun0_A; dsimp only; sl_unfold_words
  rw [View.canon_unit_zero hz]
  simp only [View.readAt_eq_ld, h1.read_unread, h2.read_unread, h3.read_unread, h4.read_unread, h5.read_unread, h6.read_unread, h7.read_unread, View.ld_unit_zero (S := S512x4096) hz, View.ld_unit_zero (S := S1024x4096) hz, View.ld_unit_zero (S := S512x1024) hz]
  rfl

/-- A middle point leaves the gradient of the branch on its block. -/
theorem out_B_9 (hc0 : ¬cond0_0 i) (hc1 : ¬cond0_1 i) : out0_B_9 c i a1 h1 a2 h2 a3 h3 a4 h4 a5 h5 a6 h6 a7 h7 a8 h8 a9 h9 a10 h10 hc0 hc1 x0 x1 x2 x3 x4 x5 x6 xo = dyB x0 x1 x2 x3 x4 x6 := by
  rw [out0_B_9, View.read_writes_eq_canon _ _ _ (cover0_B_9 c i a1 h1 a2 h2 a3 h3 a4 h4 a5 h5 a6 h6 a7 h7 a8 h8 a9 h9 a10 h10 hc0 hc1 x0 x1 x2 x3 x4 x5 x6 xo)]
  unfold kernelRun0_B; dsimp only; sl_unfold_words
  rw [View.canon_unit_zero hz]
  simp only [View.readAt_eq_ld, h1.read_unread, h2.read_unread, h3.read_unread, h4.read_unread, h5.read_unread, h6.read_unread, h7.read_unread, View.ld_unit_zero (S := S512x4096) hz, View.ld_unit_zero (S := S1024x4096) hz, View.ld_unit_zero (S := S512x1024) hz]
  rfl

/-- A last point leaves the gradient of the branch on its block. -/
theorem out_C_9 (hc0 : ¬cond0_0 i) (hc1 : cond0_1 i) : out0_C_9 c i a1 h1 a2 h2 a3 h3 a4 h4 a5 h5 a6 h6 a7 h7 a8 h8 a9 h9 a10 h10 hc0 hc1 x0 x1 x2 x3 x4 x5 x6 xo = dyB x0 x1 x2 x3 x4 x6 := by
  rw [out0_C_9, View.read_writes_eq_canon _ _ _ (cover0_C_9 c i a1 h1 a2 h2 a3 h3 a4 h4 a5 h5 a6 h6 a7 h7 a8 h8 a9 h9 a10 h10 hc0 hc1 x0 x1 x2 x3 x4 x5 x6 xo)]
  unfold kernelRun0_C; dsimp only; sl_unfold_words
  rw [View.canon_unit_zero hz]
  simp only [View.readAt_eq_ld, h1.read_unread, h2.read_unread, h3.read_unread, h4.read_unread, h5.read_unread, h6.read_unread, h7.read_unread, View.ld_unit_zero (S := S512x4096) hz, View.ld_unit_zero (S := S1024x4096) hz, View.ld_unit_zero (S := S512x1024) hz]
  rfl

/-- The first point leaves its own sums over zeros. -/
theorem out_A_8 (hc0 : cond0_0 i) (hc1 : ¬cond0_1 i) : out0_A_8 c i a1 h1 a2 h2 a3 h3 a4 h4 a5 h5 a6 h6 a7 h7 a8 h8 a9 h9 a10 h10 hc0 hc1 x0 x1 x2 x3 x4 x5 x6 = step x0 x1 x2 x3 x4 x5 k0_pay5 := by
  rw [out0_A_8, View.read_writes_eq_canon _ _ _ (cover0_A_8 c i a1 h1 a2 h2 a3 h3 a4 h4 a5 h5 a6 h6 a7 h7 a8 h8 a9 h9 a10 h10 hc0 hc1 x0 x1 x2 x3 x4 x5 x6)]
  unfold kernelRun0_A; dsimp only; sl_unfold_words
  simp only [View.readAt_eq_ld, h1.read_unread, h2.read_unread, h3.read_unread, h4.read_unread, h5.read_unread, h6.read_unread, h7.read_unread, View.ld_unit_zero (S := S512x4096) hz, View.ld_unit_zero (S := S1024x4096) hz, View.ld_unit_zero (S := S512x1024) hz]
  simp only [View.readCov_eq_ld, View.canon_cons_put, View.canon_unit_zero (S := S8x1024) hz]
  exact step_raw x0 x1 x2 x3 x4 x5 k0_pay5

/-- A middle point adds its sums to the rows the points before left. -/
theorem out_B_8 (hc0 : ¬cond0_0 i) (hc1 : ¬cond0_1 i) : out0_B_8 c i a1 h1 a2 h2 a3 h3 a4 h4 a5 h5 a6 h6 a7 h7 a8 h8 a9 h9 a10 h10 hc0 hc1 x0 x1 x2 x3 x4 x5 x6 xo = step x0 x1 x2 x3 x4 x5 xo := by
  unfold out0_B_8 kernelRun0_B; dsimp only; sl_unfold_words
  simp only [View.readAt_eq_ld, h1.read_unread, h2.read_unread, h3.read_unread, h4.read_unread, h5.read_unread, h6.read_unread, h7.read_unread, View.ld_unit_zero (S := S512x4096) hz, View.ld_unit_zero (S := S1024x4096) hz, View.ld_unit_zero (S := S512x1024) hz]
  simp only [View.read_writes_cons_put _ _ _ _ _ rfl, View.writes_nil, h9.read_unread]
  rfl

/-- The last point adds its sums and makes the two gradients of the modulated norm of row 0. -/
theorem out_C_8 (hc0 : ¬cond0_0 i) (hc1 : cond0_1 i) : out0_C_8 c i a1 h1 a2 h2 a3 h3 a4 h4 a5 h5 a6 h6 a7 h7 a8 h8 a9 h9 a10 h10 hc0 hc1 x0 x1 x2 x3 x4 x5 x6 xo = fin x3 (step x0 x1 x2 x3 x4 x5 xo) := by
  unfold out0_C_8 kernelRun0_C; dsimp only; sl_unfold_words
  simp only [View.readAt_eq_ld, h1.read_unread, h2.read_unread, h3.read_unread, h4.read_unread, h5.read_unread, h6.read_unread, h7.read_unread, View.ld_unit_zero (S := S512x4096) hz, View.ld_unit_zero (S := S1024x4096) hz, View.ld_unit_zero (S := S512x1024) hz]
  simp only [View.read_writes_cons_put _ _ _ _ _ rfl, View.writes_nil, h9.read_unread]
  simp only [View.readCov_eq_ld, View.canon_cons_put]
  exact fin_raw x0 x1 x2 x3 x4 x5 xo _

end Cases

variable (m : (ℓ : Loc nD τ sig) → Buf (Elt F) ℓ)

/-- The token at the place `p` of the block `t`. -/
abbrev tok (t : Fin 4) (p : Fin 512) : Fin 2048 := ⟨512 * t.val + p.val, by omega⟩
/-- The grid point of the block `t`. -/
abbrev pt (t : Fin 4) : Fin cfg0.N := ⟨t.val, by rw [show cfg0.N = 4 from N_0]; exact t.isLt⟩

/-- Window 0 reads the gradient of the product. -/
theorem blk0 (c : Dev nD) (t : Fin 4) (p : Fin 512) (q : Fin 4096) :
    (iblk m c 0 (pt t) : Vec F S512x4096 .bf16) (ix2 p q) = V m c main_arg7 (ix2 (tok t p) q) := by
  have hi : ∀ t : Fin cfg0.N, win0_0.index t 0 = t.val ∧ win0_0.index t 1 = 0 :=
    (by decide +kernel : ∀ t : Fin grid0.N, win0_0.index t 0 = t.val ∧ win0_0.index t 1 = 0)
  unfold iblk
  rw [View.read_apply]
  exact congrArg (V m c main_arg7) (at2 _ _ _ (by show win0_0.index (pt t) 0 * 512 + 1 * p.val = 512 * t.val + p.val; rw [(hi (pt t)).1]; dsimp only; omega)
    (by show win0_0.index (pt t) 1 * 4096 + 1 * q.val = q.val; rw [(hi (pt t)).2]; omega))

/-- Window 1 reads the weight, whole. -/
theorem blk1 (c : Dev nD) (t : Fin 4) (p : Fin 1024) (q : Fin 4096) :
    (iblk m c 1 (pt t) : Vec F S1024x4096 .bf16) (ix2 p q) = V m c main_v10 (ix2 p q) := by
  have hi : ∀ t : Fin cfg0.N, win0_1.index t 0 = 0 ∧ win0_1.index t 1 = 0 :=
    (by decide +kernel : ∀ t : Fin grid0.N, win0_1.index t 0 = 0 ∧ win0_1.index t 1 = 0)
  unfold iblk
  rw [View.read_apply]
  exact congrArg (V m c main_v10) (at2 _ _ _ (by show win0_1.index (pt t) 0 * 1024 + 1 * p.val = p.val; rw [(hi (pt t)).1]; omega)
    (by show win0_1.index (pt t) 1 * 4096 + 1 * q.val = q.val; rw [(hi (pt t)).2]; omega))

/-- Window 2 reads the stream. -/
theorem blk2 (c : Dev nD) (t : Fin 4) (p : Fin 512) (q : Fin 1024) :
    (iblk m c 2 (pt t) : Vec F S512x1024 .f32) (ix2 p q) = V m c main_v14 (ix2 (tok t p) q) := by
  have hi : ∀ t : Fin cfg0.N, win0_2.index t 0 = t.val ∧ win0_2.index t 1 = 0 :=
    (by decide +kernel : ∀ t : Fin grid0.N, win0_2.index t 0 = t.val ∧ win0_2.index t 1 = 0)
  unfold iblk
  rw [View.read_apply]
  exact congrArg (V m c main_v14) (at2 _ _ _ (by show win0_2.index (pt t) 0 * 512 + 1 * p.val = 512 * t.val + p.val; rw [(hi (pt t)).1]; dsimp only; omega)
    (by show win0_2.index (pt t) 1 * 1024 + 1 * q.val = q.val; rw [(hi (pt t)).2]; omega))

/-- Window 3 reads the table's first eight rows. -/
theorem blk3 (c : Dev nD) (t : Fin 4) (p : Fin 8) (q : Fin 1024) :
    (iblk m c 3 (pt t) : Vec F S8x1024 .f32) (ix2 p q) = V m c main_v9 (ix2 (⟨p.val, by omega⟩ : Fin 16) q) := by
  have hi : ∀ t : Fin cfg0.N, win0_3.index t 0 = 0 ∧ win0_3.index t 1 = 0 :=
    (by decide +kernel : ∀ t : Fin grid0.N, win0_3.index t 0 = 0 ∧ win0_3.index t 1 = 0)
  unfold iblk
  rw [View.read_apply]
  exact congrArg (V m c main_v9) (at2 _ _ _ (by show win0_3.index (pt t) 0 * 8 + 1 * p.val = p.val; rw [(hi (pt t)).1]; omega)
    (by show win0_3.index (pt t) 1 * 1024 + 1 * q.val = q.val; rw [(hi (pt t)).2]; omega))

/-- Window 4 reads the stream's gradient. -/
theorem blk4 (c : Dev nD) (t : Fin 4) (p : Fin 512) (q : Fin 1024) :
    (iblk m c 4 (pt t) : Vec F S512x1024 .f32) (ix2 p q) = V m c main_arg8 (ix2 (tok t p) q) := by
  have hi : ∀ t : Fin cfg0.N, win0_4.index t 0 = t.val ∧ win0_4.index t 1 = 0 :=
    (by decide +kernel : ∀ t : Fin grid0.N, win0_4.index t 0 = t.val ∧ win0_4.index t 1 = 0)
  unfold iblk
  rw [View.read_apply]
  exact congrArg (V m c main_arg8) (at2 _ _ _ (by show win0_4.index (pt t) 0 * 512 + 1 * p.val = 512 * t.val + p.val; rw [(hi (pt t)).1]; dsimp only; omega)
    (by show win0_4.index (pt t) 1 * 1024 + 1 * q.val = q.val; rw [(hi (pt t)).2]; omega))

/-- Window 5 reads the branch. -/
theorem blk5 (c : Dev nD) (t : Fin 4) (p : Fin 512) (q : Fin 1024) :
    (iblk m c 5 (pt t) : Vec F S512x1024 .bf16) (ix2 p q) = V m c main_v15 (ix2 (tok t p) q) := by
  have hi : ∀ t : Fin cfg0.N, win0_5.index t 0 = t.val ∧ win0_5.index t 1 = 0 :=
    (by decide +kernel : ∀ t : Fin grid0.N, win0_5.index t 0 = t.val ∧ win0_5.index t 1 = 0)
  unfold iblk
  rw [View.read_apply]
  exact congrArg (V m c main_v15) (at2 _ _ _ (by show win0_5.index (pt t) 0 * 512 + 1 * p.val = 512 * t.val + p.val; rw [(hi (pt t)).1]; dsimp only; omega)
    (by show win0_5.index (pt t) 1 * 1024 + 1 * q.val = q.val; rw [(hi (pt t)).2]; omega))

/-- Window 6 reads the table's other eight rows. -/
theorem blk6 (c : Dev nD) (t : Fin 4) (p : Fin 8) (q : Fin 1024) :
    (iblk m c 6 (pt t) : Vec F S8x1024 .f32) (ix2 p q) = V m c main_v9 (ix2 (⟨8 + p.val, by omega⟩ : Fin 16) q) := by
  have hi : ∀ t : Fin cfg0.N, win0_6.index t 0 = 1 ∧ win0_6.index t 1 = 0 :=
    (by decide +kernel : ∀ t : Fin grid0.N, win0_6.index t 0 = 1 ∧ win0_6.index t 1 = 0)
  unfold iblk
  rw [View.read_apply]
  exact congrArg (V m c main_v9) (at2 _ _ _ (by show win0_6.index (pt t) 0 * 8 + 1 * p.val = 8 + p.val; rw [(hi (pt t)).1]; omega)
    (by show win0_6.index (pt t) 1 * 1024 + 1 * q.val = q.val; rw [(hi (pt t)).2]; omega))

/-- A point's step on the blocks it reads. -/
abbrev stepAt (c : Dev nD) (t : Fin cfg0.N) (xo : Vec F S8x1024 .f32) : Vec F S8x1024 .f32 :=
  step (iblk m c 0 t) (iblk m c 1 t) (iblk m c 2 t) (iblk m c 3 t) (iblk m c 4 t) (iblk m c 5 t) xo

/-- The accumulated rows after the point `n`: its sums over what the points before left, over zeros at the first. -/
def acc (c : Dev nD) : (n : ℕ) → n < cfg0.N → Vec F S8x1024 .f32
  | 0, h => stepAt m c ⟨0, h⟩ k0_pay5
  | n + 1, h => stepAt m c ⟨n + 1, h⟩ (acc c n (Nat.lt_of_succ_lt h))

/-- Before the last point the accumulator's buffer holds the accumulated rows. -/
theorem outs_acc (c : Dev nD) : ∀ (n : ℕ) (h : n < cfg0.N), n < 3 → (outsAt0 m c n h).2.1 = acc m c n h
  | 0, h, _ => by
    have e := congrArg (fun o => o.2.1) (outsAt0_A m c ⟨0, h⟩ rfl (by dsimp only; omega))
    dsimp only at e
    rw [out_A_8] at e
    exact e
  | n + 1, h, h3 => by
    have h0 : ¬(⟨n + 1, h⟩ : Fin cfg0.N).val % 4 = 0 := by dsimp only; omega
    have h1 : ¬(⟨n + 1, h⟩ : Fin cfg0.N).val % 4 = 3 := by dsimp only; omega
    rw [outsAt0_B m c ⟨n + 1, h⟩ h0 h1]
    dsimp only
    rw [out_B_8]
    show stepAt m c _ (outsAt0 m c n _).2.1 = stepAt m c _ (acc m c n _)
    rw [outs_acc c n _ (by omega)]

/-- After the last point it holds the finished rows. -/
theorem outs_last (c : Dev nD) (n : ℕ) (h : n + 1 < cfg0.N) (h3 : n + 1 = 3) :
    (outsAt0 m c (n + 1) h).2.1 = fin (iblk m c 3 ⟨n + 1, h⟩) (acc m c (n + 1) h) := by
  have h0 : ¬(⟨n + 1, h⟩ : Fin cfg0.N).val % 4 = 0 := by dsimp only; omega
  have h1 : (⟨n + 1, h⟩ : Fin cfg0.N).val % 4 = 3 := by dsimp only; omega
  rw [outsAt0_C m c ⟨n + 1, h⟩ h0 h1]
  dsimp only
  rw [out_C_8]
  show fin _ (stepAt m c _ (outsAt0 m c n _).2.1) = fin _ (stepAt m c _ (acc m c n _))
  rw [outs_acc m c n _ (by omega)]

/-- Every point leaves the gradient of the stream on its block. -/
theorem outs_7 (c : Dev nD) (t : Fin cfg0.N) : (outsAt0 m c t.val t.isLt).1 = dxB (iblk m c 0 t) (iblk m c 1 t) (iblk m c 2 t) (iblk m c 3 t) (iblk m c 4 t) := by
  by_cases h0 : t.val % 4 = 0
  · rw [outsAt0_A m c t h0 (by omega)]; dsimp only; rw [out_A_7]
  · by_cases h1 : t.val % 4 = 3
    · rw [outsAt0_C m c t h0 h1]; dsimp only; rw [out_C_7]
    · rw [outsAt0_B m c t h0 h1]; dsimp only; rw [out_B_7]

/-- The gradient of the stream after the run, block by block. -/
theorem final_7 (c : Dev nD) (t : Fin 4) (p : Fin 512) (q : Fin 1024) :
    ((dats m 0 c).arrAt 7 cfg0.N : Vec F S2048x1024 .f32) (ix2 (tok t p) q) = dxB (iblk m c 0 (pt t)) (iblk m c 1 (pt t)) (iblk m c 2 (pt t)) (iblk m c 3 (pt t)) (iblk m c 4 (pt t)) (ix2 p q) := by
  have hi : ∀ t : Fin cfg0.N, win0_7.index t 0 = t.val ∧ win0_7.index t 1 = 0 :=
    (by decide +kernel : ∀ t : Fin grid0.N, win0_7.index t 0 = t.val ∧ win0_7.index t 1 = 0)
  have e := congrFun (blocks7 m c (pt t) (flush0_7 (pt t))) (ix2 p q : S512x1024.Idx)
  rw [flushed7, outs_7, View.read_apply] at e
  refine Eq.trans (congrArg ((dats m 0 c).arrAt 7 cfg0.N) (at2 _ _ _ ?_ ?_).symm) e
  · show win0_7.index (pt t) 0 * 512 + 1 * p.val = 512 * t.val + p.val; rw [(hi (pt t)).1]; dsimp only; omega
  · show win0_7.index (pt t) 1 * 1024 + 1 * q.val = q.val; rw [(hi (pt t)).2]; omega

/-- Every point leaves the gradient of the branch on its block. -/
theorem outs_9 (c : Dev nD) (t : Fin cfg0.N) : (outsAt0 m c t.val t.isLt).2.2 = dyB (iblk m c 0 t) (iblk m c 1 t) (iblk m c 2 t) (iblk m c 3 t) (iblk m c 4 t) (iblk m c 6 t) := by
  by_cases h0 : t.val % 4 = 0
  · rw [outsAt0_A m c t h0 (by omega)]; dsimp only; rw [out_A_9]
  · by_cases h1 : t.val % 4 = 3
    · rw [outsAt0_C m c t h0 h1]; dsimp only; rw [out_C_9]
    · rw [outsAt0_B m c t h0 h1]; dsimp only; rw [out_B_9]

/-- The gradient of the branch after the run, block by block. -/
theorem final_9 (c : Dev nD) (t : Fin 4) (p : Fin 512) (q : Fin 1024) :
    ((dats m 0 c).arrAt 9 cfg0.N : Vec F S2048x1024 .bf16) (ix2 (tok t p) q) = dyB (iblk m c 0 (pt t)) (iblk m c 1 (pt t)) (iblk m c 2 (pt t)) (iblk m c 3 (pt t)) (iblk m c 4 (pt t)) (iblk m c 6 (pt t)) (ix2 p q) := by
  have hi : ∀ t : Fin cfg0.N, win0_9.index t 0 = t.val ∧ win0_9.index t 1 = 0 :=
    (by decide +kernel : ∀ t : Fin grid0.N, win0_9.index t 0 = t.val ∧ win0_9.index t 1 = 0)
  have e := congrFun (blocks9 m c (pt t) (flush0_9 (pt t))) (ix2 p q : S512x1024.Idx)
  rw [flushed9, outs_9, View.read_apply] at e
  refine Eq.trans (congrArg ((dats m 0 c).arrAt 9 cfg0.N) (at2 _ _ _ ?_ ?_).symm) e
  · show win0_9.index (pt t) 0 * 512 + 1 * p.val = 512 * t.val + p.val; rw [(hi (pt t)).1]; dsimp only; omega
  · show win0_9.index (pt t) 1 * 1024 + 1 * q.val = q.val; rw [(hi (pt t)).2]; omega

/-- The eight rows after the run are the finished rows: the last point's write-back is the only one. -/
theorem final_8 (c : Dev nD) : ((dats m 0 c).arrAt 8 cfg0.N : Vec F S8x1024 .f32) = fin (iblk m c 3 (pt 3)) (acc m c 3 (pt 3).isLt) := by
  have hz' : (fun a => win0_8.index (pt 3) a * main_v16_1.ty.shape.size a) = fun _ => 0 := funext fun a => by fin_cases a <;> decide +kernel
  refine (dats m 0 c).arrAt_eq_of_cover 8 (fin (iblk m c 3 (pt 3)) (acc m c 3 (pt 3).isLt)) (fun t hf => ?_) fun i => ⟨pt 3, (flush0_8 (pt 3)).mpr rfl, ?_⟩
  · have hN : cfg0.N = 4 := N_0
    have h3 : t.val = 3 := by have := (flush0_8 t).mp hf; have := t.isLt; omega
    obtain rfl : t = pt 3 := Fin.ext h3
    show (cfg0.win 8).cut (grid0.coords (pt 3)) ((dats m 0 c).after 8 (pt 3)) = _
    rw [after0_8]
    refine Eq.trans (outs_last m c 2 (pt 3).isLt rfl) ?_
    exact (Memref.read_access_unit_zero (Elt F) main_v16_1 hz' (fun a => by rw [congrFun hz' a]; simp) _).symm
  · show i ∈ ((View.whole main_v16_1).slice (win0_8.rect (pt 3))).set
    rw [View.set_slice_whole, Rect.mem_set_unit]
    intro a
    have h0 : (i 0 : Nat) < 8 := (i 0).isLt
    have h1 : (i 1 : Nat) < 1024 := (i 1).isLt
    match a with
    | ⟨0, _⟩ => show win0_8.index (pt 3) 0 * win0_8.size 0 ≤ (i 0 : Nat) ∧ (i 0 : Nat) < win0_8.index (pt 3) 0 * win0_8.size 0 + win0_8.xsize (grid0.coords (pt 3)) 0
                rw [show win0_8.index (pt 3) 0 * win0_8.size 0 = 0 from by decide +kernel, show win0_8.xsize (grid0.coords (pt 3)) 0 = 8 from by decide +kernel]; omega
    | ⟨1, _⟩ => show win0_8.index (pt 3) 1 * win0_8.size 1 ≤ (i 1 : Nat) ∧ (i 1 : Nat) < win0_8.index (pt 3) 1 * win0_8.size 1 + win0_8.xsize (grid0.coords (pt 3)) 1
                rw [show win0_8.index (pt 3) 1 * win0_8.size 1 = 0 from by decide +kernel, show win0_8.xsize (grid0.coords (pt 3)) 1 = 1024 from by decide +kernel]; omega

end Cert.KernelMixerTIdeal.Points

end
-- ==== Proof.FirstAlgebra.lean ====
/-
  The value claim for the gradient through the first layer's modulated norm: over real inputs the kernel's two outputs are the real
  gradient of the step's input and the real rows of the norm's gradients, and so are the reference's.
-/
module

public import proofs.«01_k».proof.Defs
public import proofs.«01_k».proof.Proof.FirstRead
public import proofs.«01_k».proof.Proof.FirstSweep
public import proofs.«01_k».proof.Proof.Algebra
public import proofs.«01_k».proof.Proof.Gen.Pre_finite_first
public import proofs.«01_k».proof.Proof.Gen.ReferenceFirstIdeal.Run
public import Idealize.ShloMosaic.Lib.Pointwise.Reduce
public import Idealize.ShloMosaic.Lib.Pointwise.Reshape
public import Idealize.ShloMosaic.Lib.Pointwise.ShapeOpsCore
public import Idealize.ShloMosaic.Lib.Pointwise.Tactic
public import Idealize.ShloMosaic.Lib.MatmulPlain

@[expose] public section

noncomputable section

namespace Cert.KernelFirstIdeal.Points

open Cert.KernelFirstIdeal Cert.KernelFirstIdeal.Gen Cert.KernelFirstIdeal.Value Idealize.ShloMosaic.ValueIdx Idealize.ShloMosaic.TcCoe Idealize.SL.Sem
open Cert.Mlp hiding Data
open Cert.First
open Idealize.ShloMosaic hiding ix0 ix1 ix2 ix3 ix4 ix5

/-! Layout changes and sums at an index. -/

theorem col_apply (v : FVec Ideal S512 .f32) (p : Fin 512) (z : Fin 1) : shapeCast S512x1 v shapeCasts_S512_S512x1 (ix2 p z) = v (ix1 p) := by
  simp only [pointwise]
  rfl

theorem row_apply (v : FVec Ideal S1024 .f32) (z : Fin 1) (q : Fin 1024) : shapeCast S1x1024 v shapeCasts_S1024_S1x1024 (ix2 z q) = v (ix1 q) := by
  simp only [pointwise]
  rfl

theorem bcol_apply (v : FVec Ideal S512x1 .f32) (p : Fin 512) (q : Fin 1024) : broadcastTo S512x1024 v broadcasts_S512x1_S512x1024 (ix2 p q) = v (ix2 p 0) := by
  simp only [pointwise]
  rfl

theorem brow_apply (v : FVec Ideal S1x1024 .f32) (p : Fin 512) (q : Fin 1024) : broadcastTo S512x1024 v broadcasts_S1x1024_S512x1024 (ix2 p q) = v (ix2 0 q) := by
  simp only [pointwise]
  rfl

theorem sumrow_apply (v : FVec Ideal S512x1024 .f32) (p : Fin 512) :
    multiReduction .add [1] S512 v 0x00000000#32 reduces_S512x1024_S512 (.inl rfl) rfl (ix1 p) = ∑ k : Fin 1024, v (ix2 p k) :=
  (multiReduction_add_apply v _ _ _ _ _).trans (Ideal.reduceAdd_r2_a1 _ _ _)

theorem sumcol_apply (v : FVec Ideal S512x1024 .f32) (q : Fin 1024) :
    multiReduction .add [0] S1024 v 0x00000000#32 reduces_S512x1024_S1024 (.inl rfl) rfl (ix1 q) = ∑ p : Fin 512, v (ix2 p q) :=
  (multiReduction_add_apply v _ _ _ _ _).trans (Ideal.reduceAdd_r2_a0 _ _ _)

/-! The arrays the kernel is launched on. -/

variable (m : (ℓ : Loc nD τ sig) → Buf (Elt Ideal) ℓ) (c : Dev nD)

/-- The weight at a narrow width. -/
theorem V_v0 : V m c main_v0 = truncf (F := Ideal) (φ := .f32) .bf16 (m ((c.tc : Thread nD τ).loc main_arg4)) bitsLt_bf16_f32 := by
  unfold_abbrev_sides
  simp only [hostOps0, StableHlo.TRef.nullary, StableHlo.TRef.unary, StableHlo.TRef.binary, StableHlo.TRef.toBuf, StableHlo.TRef.ofBuf, cast_eq]
  after_results_simp

/-- A feature vector as one row. -/
def lift (x : (⟨S1024, .f32⟩ : BufTy).Contents (Elt Ideal)) : (⟨S1x1024, .f32⟩ : BufTy).Contents (Elt Ideal) :=
  broadcastInDim S1x1024 ![1] bcast_S1024_S1x1024_1 x

theorem lift_apply (x : (⟨S1024, .f32⟩ : BufTy).Contents (Elt Ideal)) (z : Fin 1) (d : Fin 1024) : lift x (ix2 z d) = x (ix1 d) :=
  (Cert.ReferenceFirstIdeal.Read.val_main_v13_apply x (ix2 z d)).trans (congrArg x (Cert.ReferenceFirstIdeal.Read.i13 z d))

/-- The table of features: the gain, the scale, the shift, five rows of zeros. -/
def table (n sc sh : (⟨S1024, .f32⟩ : BufTy).Contents (Elt Ideal)) : (⟨S8x1024, .f32⟩ : BufTy).Contents (Elt Ideal) :=
  concatenate S8x1024 0
    [⟨S3x1024, concatenate S3x1024 0 [⟨S1x1024, lift n⟩, ⟨S1x1024, lift sc⟩, ⟨S1x1024, lift sh⟩] concatenates_S1x1024_S1x1024_S1x1024_S3x1024_d0⟩,
      ⟨S5x1024, broadcastInDim S5x1024 ![] bcast_S_S5x1024 (constant (F := Ideal) S_ .f32 0x00000000#32)⟩] concatenates_S3x1024_S5x1024_S8x1024_d0

theorem V_v6 : V m c main_v6 = table (m ((c.tc : Thread nD τ).loc main_arg1)) (m ((c.tc : Thread nD τ).loc main_arg2)) (m ((c.tc : Thread nD τ).loc main_arg3)) := by
  unfold_abbrev_sides
  simp only [hostOps0, StableHlo.TRef.nullary, StableHlo.TRef.unary, StableHlo.TRef.binary, StableHlo.TRef.toBuf, StableHlo.TRef.ofBuf, cast_eq]
  after_results_simp
  rfl

/-- One of the table's first three rows is the piece it was stacked from. -/
theorem table_row (n sc sh : (⟨S1024, .f32⟩ : BufTy).Contents (Elt Ideal)) (k : ℕ) (hk : k < 3) (y : (⟨S1x1024, .f32⟩ : BufTy).Contents (Elt Ideal))
    (hy : [(⟨S1x1024, lift n⟩ : (s : Shape) × (s.Idx → EReal)), ⟨S1x1024, lift sc⟩, ⟨S1x1024, lift sh⟩][k]'hk = ⟨S1x1024, y⟩) (d : Fin 1024) :
    table n sc sh (ix2 (⟨k, by omega⟩ : Fin 8) d) = y (ix2 0 d) := by
  unfold table
  refine (concatenate_pair_apply_left (t := S8x1024) (s₁ := S3x1024) (s₂ := S5x1024) (0 : Fin 2) _ _ concatenates_S3x1024_S5x1024_S8x1024_d0 (ix2 (⟨k, by omega⟩ : Fin 8) d) rfl
    (ix2 (⟨k, hk⟩ : Fin 3) d) (fun b => by match b with | ⟨0, _⟩ => rfl | ⟨1, _⟩ => rfl)).trans ?_
  refine concatenate_apply_piece (t := S3x1024) (0 : Fin 2) [⟨S1x1024, lift n⟩, ⟨S1x1024, lift sc⟩, ⟨S1x1024, lift sh⟩]
    concatenates_S1x1024_S1x1024_S1x1024_S3x1024_d0 (ix2 (⟨k, hk⟩ : Fin 3) d) k hk S1x1024 y hy rfl k ?_ (ix2 0 d)
    (fun b hb => by match b with | ⟨0, _⟩ => exact absurd rfl hb | ⟨1, _⟩ => rfl) rfl
  interval_cases k <;> rfl

/-- The seven arguments of the kernel's program on a device hold the real tables of `D`. -/
def HoldsAt (D : Data) : Prop :=
  Cert.ReferenceFirstIdeal.Read.Holds D (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6))

variable {m c} {D : Data} (H : HoldsAt m c D)
include H

/-! The blocks of a point, over real inputs. -/

theorem b0 (t : Fin 4) (p : Fin 512) (f : Fin 2048) : (iblk m c 0 (pt t) : Vec Ideal S512x2048 .bf16) (ix2 p f) = ((D.DZ (tok t p) f : ℝ) : EReal) := by
  rw [blk0, V_main_arg5]
  exact H.h5 (tok t p) f

theorem b1 (t : Fin 4) (d : Fin 1024) (f : Fin 2048) : (iblk m c 1 (pt t) : Vec Ideal S1024x2048 .bf16) (ix2 d f) = ((D.W d f : ℝ) : EReal) := by
  rw [blk1, V_v0]
  exact H.h4 d f

theorem b2 (t : Fin 4) (p : Fin 512) (d : Fin 1024) : (iblk m c 2 (pt t) : Vec Ideal S512x1024 .f32) (ix2 p d) = ((D.X (tok t p) d : ℝ) : EReal) := by
  rw [blk2, V_main_arg0]
  exact H.h0 (tok t p) d

theorem b3_gain (t : Fin 4) (d : Fin 1024) : row0 (iblk m c 3 (pt t) : Vec Ideal S8x1024 .f32) (ix2 0 d) = ((D.N d : ℝ) : EReal) := by
  refine (View.ld_row_apply _ _ (by omega) 0 d).trans ?_
  rw [blk3, V_v6]
  exact (table_row _ _ _ 0 (by omega) _ rfl d).trans ((lift_apply _ _ _).trans (H.h1 d))

theorem b3_scale (t : Fin 4) (d : Fin 1024) : row1 (iblk m c 3 (pt t) : Vec Ideal S8x1024 .f32) (ix2 0 d) = ((D.SC d : ℝ) : EReal) := by
  refine (View.ld_row_apply _ _ (by omega) 0 d).trans ?_
  rw [blk3, V_v6]
  exact (table_row _ _ _ 1 (by omega) _ rfl d).trans ((lift_apply _ _ _).trans (H.h2 d))

theorem b4 (t : Fin 4) (p : Fin 512) (d : Fin 1024) : (iblk m c 4 (pt t) : Vec Ideal S512x1024 .f32) (ix2 p d) = ((D.CT (tok t p) d : ℝ) : EReal) := by
  rw [blk4, V_main_arg6]
  exact H.h6 (tok t p) d

/-! What the body computes of them. -/

theorem dh_block (t : Fin 4) (p : Fin 512) (d : Fin 1024) : k0_pay6 (iblk m c 0 (pt t)) (iblk m c 1 (pt t)) (ix2 p d) = ((D.dh (tok t p) d : ℝ) : EReal) := by
  unfold k0_pay6
  simp only [shapeCast_id]
  show FloatOps.matmul (DotDims.transposedRhs 512 2048 1024) none (iblk m c 0 (pt t)) (iblk m c 1 (pt t)) (fun _ => Ideal.ofBits .f32 0x00000000#32) (ix2 p d) = _
  rw [Ideal.matmul_transposedRhs_apply, lit_zero]
  simp only [b0 H, b1 H, ← EReal.coe_mul, ← coe_sum, ← EReal.coe_add, zero_add]
  rfl

omit H in
/-- The reciprocal root of a block of the step's input. -/
theorem rs_real (D : Data) (t : Fin 4) (v : Vec Ideal S512x1024 .f32) (hv : ∀ p d, v (ix2 p d) = ((D.X (tok t p) d : ℝ) : EReal)) (p : Fin 512) (z : Fin 1) :
    k0_pay8 v (ix2 p z) = ((D.r (tok t p) : ℝ) : EReal) := by
  unfold k0_pay8
  show Ideal.rsqrt (Ideal.div (shapeCast S512x1 _ shapeCasts_S512_S512x1 (ix2 p z)) (Ideal.ofBits .f32 0x44800000#32) + Ideal.ofBits .f32 0x358637BD#32) = _
  rw [col_apply, sumrow_apply, lit_width, lit_eps, Ideal.div_coe (by norm_num), ← D.rsqrt_m (tok t p)]
  simp only [mulf_apply, hv, ← EReal.coe_mul, ← coe_sum, ← EReal.coe_add]
  rfl

omit H in
/-- The normalised block of the step's input. -/
theorem xn_real (D : Data) (t : Fin 4) (v : Vec Ideal S512x1024 .f32) (hv : ∀ p d, v (ix2 p d) = ((D.X (tok t p) d : ℝ) : EReal)) (p : Fin 512) (d : Fin 1024) :
    k0_pay9 v (ix2 p d) = ((D.xn (tok t p) d : ℝ) : EReal) := by
  unfold k0_pay9
  rw [mulf_apply, bcol_apply, hv, rs_real D t v hv, ← EReal.coe_mul]
  rfl

omit H in
/-- The two gains' product. -/
theorem w_real (D : Data) (n sc : Vec Ideal S1x1024 .f32) (hn : ∀ d, n (ix2 0 d) = ((D.N d : ℝ) : EReal)) (hs : ∀ d, sc (ix2 0 d) = ((D.SC d : ℝ) : EReal)) (d : Fin 1024) :
    k0_pay10 n sc (ix2 0 d) = ((D.w d : ℝ) : EReal) := by
  unfold k0_pay10
  simp only [shapeCast_id]
  rw [mulf_apply, addf_apply, hn, hs]
  show _ * (Ideal.ofBits .f32 0x3F800000#32 + _) = _
  rw [lit_one, ← EReal.coe_add, ← EReal.coe_mul]
  rfl

theorem rs_block (t : Fin 4) (p : Fin 512) (z : Fin 1) : k0_pay8 (iblk m c 2 (pt t)) (ix2 p z) = ((D.r (tok t p) : ℝ) : EReal) := rs_real D t _ (b2 H t) p z

theorem xn_block (t : Fin 4) (p : Fin 512) (d : Fin 1024) : k0_pay9 (iblk m c 2 (pt t)) (ix2 p d) = ((D.xn (tok t p) d : ℝ) : EReal) := xn_real D t _ (b2 H t) p d

theorem w_block (t : Fin 4) (d : Fin 1024) : k0_pay10 (row0 (iblk m c 3 (pt t))) (row1 (iblk m c 3 (pt t))) (ix2 0 d) = ((D.w d : ℝ) : EReal) :=
  w_real D _ _ (b3_gain H t) (b3_scale H t) d

omit H in
/-- The gradient through the norm of blocks of real numbers. -/
theorem dx_real (dh : FVec Ideal S512x1024 .f32) (rs : FVec Ideal S512x1 .f32) (xn : FVec Ideal S512x1024 .f32) (w : FVec Ideal S1x1024 .f32) (ct : Vec Ideal S512x1024 .f32)
    (DH XN CT : Fin 512 → Fin 1024 → ℝ) (R : Fin 512 → ℝ) (W : Fin 1024 → ℝ)
    (hdh : ∀ p d, dh (ix2 p d) = ((DH p d : ℝ) : EReal)) (hrs : ∀ p z, rs (ix2 p z) = ((R p : ℝ) : EReal)) (hxn : ∀ p d, xn (ix2 p d) = ((XN p d : ℝ) : EReal))
    (hw : ∀ d, w (ix2 0 d) = ((W d : ℝ) : EReal)) (hct : ∀ p d, ct (ix2 p d) = ((CT p d : ℝ) : EReal)) (p : Fin 512) (d : Fin 1024) :
    k0_pay2 dh rs xn w ct (ix2 p d) = ((CT p d + R p * (DH p d * W d - XN p d * ((∑ k, DH p k * W k * XN p k) * (1 / 1024))) : ℝ) : EReal) := by
  unfold k0_pay2
  rw [addf_apply, mulf_apply, subf_apply, mulf_apply, mulf_apply, bcol_apply, bcol_apply, brow_apply, divf_apply, col_apply, sumrow_apply, hct, hrs, hdh, hxn, hw]
  simp only [mulf_apply, brow_apply, hw, hdh, hxn]
  show _ + _ * (_ - _ * Ideal.div _ (Ideal.ofBits .f32 0x44800000#32)) = _
  rw [lit_width, Ideal.div_coe (by norm_num)]
  simp only [← EReal.coe_mul, ← coe_sum, ← EReal.coe_add, ← EReal.coe_sub]

theorem dx_block (t : Fin 4) (p : Fin 512) (d : Fin 1024) :
    dxB (iblk m c 0 (pt t)) (iblk m c 1 (pt t)) (iblk m c 2 (pt t)) (iblk m c 3 (pt t)) (iblk m c 4 (pt t)) (ix2 p d) = ((D.dx (tok t p) d : ℝ) : EReal) :=
  dx_real _ _ _ _ _ (fun p d => D.dh (tok t p) d) (fun p d => D.xn (tok t p) d) (fun p d => D.CT (tok t p) d) (fun p => D.r (tok t p)) D.w
    (dh_block H t) (rs_block H t) (xn_block H t) (w_block H t) (b4 H t) p d

/-! The accumulated rows. -/

omit H in
theorem put_apply (k : ℕ) (X : Vec Ideal S8x1024 .f32) (w : Vec Ideal S1x1024 .f32) (i : Fin 8) (d : Fin 1024) :
    put k X w (ix2 i d) = if i.val = k then w (ix2 0 d) else X (ix2 i d) := VecWindow.put_row_apply _ _ _ _ _

omit H in
/-- What a token adds to the accumulated row `i`. -/
def term (D : Data) (i : Fin 8) (d : Fin 1024) (t : Fin 2048) : ℝ :=
  if i.val = 0 then D.dh t d * D.xn t d else if i.val = 2 then D.dh t d else 0

/-- A point adds its block's terms to the rows. -/
theorem step_real (t : Fin 4) (xo : Vec Ideal S8x1024 .f32) (A : Fin 8 → Fin 1024 → ℝ) (hA : ∀ i d, xo (ix2 i d) = ((A i d : ℝ) : EReal)) (i : Fin 8) (d : Fin 1024) :
    step (iblk m c 0 (pt t)) (iblk m c 1 (pt t)) (iblk m c 2 (pt t)) xo (ix2 i d) = ((A i d + ∑ p, term D i d (tok t p) : ℝ) : EReal) := by
  have h0 : row0 xo (ix2 0 d) = ((A 0 d : ℝ) : EReal) := (View.ld_row_apply _ _ (by omega) 0 d).trans (hA 0 d)
  have h2 : row2 xo (ix2 0 d) = ((A 2 d : ℝ) : EReal) := (View.ld_row_apply _ _ (by omega) 0 d).trans (hA 2 d)
  have e0 : k0_pay11 (iblk m c 0 (pt t)) (iblk m c 1 (pt t)) (iblk m c 2 (pt t)) (row0 xo) (ix2 0 d) = ((A 0 d + ∑ p, D.dh (tok t p) d * D.xn (tok t p) d : ℝ) : EReal) := by
    unfold k0_pay11
    simp only [shapeCast_id]
    rw [addf_apply, row_apply, sumcol_apply, h0]
    simp only [mulf_apply, dh_block H, xn_block H, ← EReal.coe_mul, ← coe_sum, ← EReal.coe_add]
  have e2 : k0_pay1 (k0_pay6 (iblk m c 0 (pt t)) (iblk m c 1 (pt t))) (row2 xo) (ix2 0 d) = ((A 2 d + ∑ p, D.dh (tok t p) d : ℝ) : EReal) := by
    unfold k0_pay1
    simp only [shapeCast_id]
    rw [addf_apply, row_apply, sumcol_apply, h2]
    simp only [dh_block H, ← coe_sum, ← EReal.coe_add]
  unfold step
  refine (put_apply 2 _ _ i d).trans ?_
  rw [put_apply 0 _ _ i d, e0, e2, hA]
  unfold term
  by_cases c2 : i.val = 2
  · obtain rfl : i = 2 := Fin.ext c2
    simp
  by_cases c0 : i.val = 0
  · obtain rfl : i = 0 := Fin.ext c0
    simp
  simp [c0, c2]

/-- The rows after the point `n`: the terms of the tokens up to it. -/
theorem acc_real : ∀ (n : ℕ) (h : n < cfg0.N) (h4 : n < 4) (i : Fin 8) (d : Fin 1024),
    acc m c n h (ix2 i d) = ((∑ s ∈ Finset.range (n + 1), (if hs : s < 4 then ∑ p, term D i d (tok ⟨s, hs⟩ p) else 0) : ℝ) : EReal)
  | 0, h, h4, i, d => by
    refine (step_real H ⟨0, h4⟩ (k0_pay7 (F := Ideal)) (fun _ _ => 0) (fun _ _ => lit_zero) i d).trans ?_
    simp
  | n + 1, h, h4, i, d => by
    refine (step_real H ⟨n + 1, h4⟩ (acc m c n (Nat.lt_of_succ_lt h)) _ (acc_real n (Nat.lt_of_succ_lt h) (by omega)) i d).trans ?_
    rw [Finset.sum_range_succ _ (n + 1), dif_pos h4]

omit H in
/-- The sum over the blocks of the sums over their tokens is the sum over the tokens. -/
theorem sum_tok (f : Fin 2048 → ℝ) : ∑ s ∈ Finset.range 4, (if hs : s < 4 then ∑ p, f (tok ⟨s, hs⟩ p) else 0) = ∑ t, f t := by
  rw [Finset.sum_range fun s => if hs : s < 4 then ∑ p, f (tok ⟨s, hs⟩ p) else 0, ← Equiv.sum_comp (finProdFinEquiv (m := 4) (n := 512)) f, Fintype.sum_prod_type]
  refine Finset.sum_congr rfl fun s _ => ?_
  rw [dif_pos s.isLt]
  exact Finset.sum_congr rfl fun p _ => congrArg f (Fin.ext (by show 512 * s.val + p.val = p.val + 512 * s.val; omega))

/-- The eight rows the kernel returns. -/
theorem rows_real (i : Fin 8) (d : Fin 1024) : fin (iblk m c 3 (pt 3)) (acc m c 3 (pt 3).isLt) (ix2 i d) = ((D.rows i d : ℝ) : EReal) := by
  have hacc : ∀ i d, acc m c 3 (pt 3).isLt (ix2 i d) = ((∑ t, term D i d t : ℝ) : EReal) := fun i d =>
    (acc_real H 3 (pt 3).isLt (by omega) i d).trans (congrArg _ (sum_tok _))
  have h0 : row0 (acc m c 3 (pt 3).isLt) (ix2 0 d) = ((∑ t, term D 0 d t : ℝ) : EReal) := (View.ld_row_apply _ _ (by omega) 0 d).trans (hacc 0 d)
  have e4 : k0_pay4 (row0 (acc m c 3 (pt 3).isLt)) (row0 (iblk m c 3 (pt 3))) (ix2 0 d) = (((∑ t, term D 0 d t) * D.N d : ℝ) : EReal) := by
    unfold k0_pay4 k0_pay3
    simp only [shapeCast_id]
    rw [mulf_apply, h0, b3_gain H, ← EReal.coe_mul]
  have e5 : k0_pay5 (row0 (acc m c 3 (pt 3).isLt)) (row1 (iblk m c 3 (pt 3))) (ix2 0 d) = (((∑ t, term D 0 d t) * (1 + D.SC d) : ℝ) : EReal) := by
    unfold k0_pay5 k0_pay3
    simp only [shapeCast_id]
    rw [mulf_apply, addf_apply, h0, b3_scale H]
    show _ * (Ideal.ofBits .f32 0x3F800000#32 + _) = _
    rw [lit_one, ← EReal.coe_add, ← EReal.coe_mul]
  unfold fin
  refine (put_apply 0 _ _ i d).trans ?_
  rw [put_apply 1 _ _ i d, e4, e5, hacc]
  unfold First.Data.rows term
  by_cases c0 : i.val = 0
  · obtain rfl : i = 0 := Fin.ext c0
    simp
  by_cases c1 : i.val = 1
  · obtain rfl : i = 1 := Fin.ext c1
    simp
  by_cases c2 : i.val = 2
  · obtain rfl : i = 2 := Fin.ext c2
    simp
  simp [c0, c1, c2]

omit H in
/-- Every token lies in a block. -/
theorem exists_tok (t : Fin 2048) : ∃ (b : Fin 4) (p : Fin 512), t = tok b p :=
  ⟨⟨t.val / 512, by omega⟩, ⟨t.val % 512, by omega⟩, Fin.ext (by show t.val = 512 * (t.val / 512) + t.val % 512; omega)⟩

section

variable {x0 x6 : (⟨S2048x1024, .f32⟩ : BufTy).Contents (Elt Ideal)} {x1 x2 x3 : (⟨S1024, .f32⟩ : BufTy).Contents (Elt Ideal)}
  {x4 : (⟨S1024x2048, .f32⟩ : BufTy).Contents (Elt Ideal)} {x5 : (⟨S2048x2048, .bf16⟩ : BufTy).Contents (Elt Ideal)}
  (H' : Cert.ReferenceFirstIdeal.Read.Holds D x0 x1 x2 x3 x4 x5 x6)
include H'

/-- The gradient of the step's input. -/
theorem out0 : ((dats m 0 c).arrAt 5 cfg0.N : Vec Ideal S2048x1024 .f32) = Cert.ReferenceFirstIdeal.Read.val_main_v56 (F := Ideal) x0 x1 x2 x4 x5 x6 := by
  funext i
  obtain ⟨t, d, rfl⟩ : ∃ (t : Fin 2048) (d : Fin 1024), i = ix2 t d := ⟨i 0, i 1, ValueIdx.eq_ix2 i⟩
  obtain ⟨b, p, rfl⟩ := exists_tok t
  exact (final_5 m c b p d).trans ((dx_block H b p d).trans (Cert.ReferenceFirstIdeal.Read.v56 H' (tok b p) d).symm)

/-- The rows summed over the tokens. -/
theorem out1 : ((dats m 0 c).arrAt 6 cfg0.N : Vec Ideal S8x1024 .f32) = Cert.ReferenceFirstIdeal.Read.val_main_v62 (F := Ideal) x0 x1 x2 x4 x5 := by
  funext i
  obtain ⟨k, d, rfl⟩ : ∃ (k : Fin 8) (d : Fin 1024), i = ix2 k d := ⟨i 0, i 1, ValueIdx.eq_ix2 i⟩
  exact (congrFun (final_6 m c) (ix2 k d)).trans ((rows_real H k d).trans (Cert.ReferenceFirstIdeal.Read.v62 H' k d).symm)

end

omit H

variable (m c) in
/-- The real tables of a device's arguments. -/
def dataOf : Data where
  X t d := (m ((c.tc : Thread nD τ).loc main_arg0) (ix2 t d) : EReal).toReal
  N d := (m ((c.tc : Thread nD τ).loc main_arg1) (ix1 d) : EReal).toReal
  SC d := (m ((c.tc : Thread nD τ).loc main_arg2) (ix1 d) : EReal).toReal
  SH d := (m ((c.tc : Thread nD τ).loc main_arg3) (ix1 d) : EReal).toReal
  W d f := (m ((c.tc : Thread nD τ).loc main_arg4) (ix2 d f) : EReal).toReal
  DZ t f := (m ((c.tc : Thread nD τ).loc main_arg5) (ix2 t f) : EReal).toReal
  CT t d := (m ((c.tc : Thread nD τ).loc main_arg6) (ix2 t d) : EReal).toReal

/-- Under the precondition a device's arguments hold their real tables. -/
theorem holds_dataOf (hpre : Cert.Pre_KernelFirstIdeal_finite_first m) : HoldsAt m c (dataOf m c) := by
  obtain ⟨h0, h1, h2, h3, h4, h5, h6⟩ := hpre c
  have e5 := fun t f => real_of_mask _ _ h5 (ix2 t f)
  exact ⟨fun _ _ => real_of_mask _ _ h0 _, fun _ => real_of_mask _ _ h1 _, fun _ => real_of_mask _ _ h2 _, fun _ => real_of_mask _ _ h3 _,
    fun _ _ => real_of_mask _ _ h4 _, e5, fun _ _ => real_of_mask _ _ h6 _⟩

/-- The kernel's and the reference's results are the same arrays. -/
theorem algebraic : Cert.algebraic_KernelFirstIdeal_ReferenceFirstIdeal_pre_finite_first := by
  intro m ρ m' ρ' hpre hagree
  refine ⟨_, _, Cert.KernelFirstIdeal.Value.run_blocks m ρ, ?_⟩
  refine (θ_run Cert.ReferenceFirstIdeal.defs _ _).mono (fun r h c => ?_) (Cert.ReferenceFirstIdeal.Value.run (F := Ideal) m' ρ')
  obtain ⟨r0, r1, rest⟩ := h c
  have H := holds_dataOf (c := c) hpre
  have H' : Cert.ReferenceFirstIdeal.Read.Holds (dataOf m c)
      (m' ((c.tc : Thread Cert.ReferenceFirstIdeal.nD Cert.ReferenceFirstIdeal.τ).loc Cert.ReferenceFirstIdeal.main_arg0))
      (m' ((c.tc : Thread Cert.ReferenceFirstIdeal.nD Cert.ReferenceFirstIdeal.τ).loc Cert.ReferenceFirstIdeal.main_arg1))
      (m' ((c.tc : Thread Cert.ReferenceFirstIdeal.nD Cert.ReferenceFirstIdeal.τ).loc Cert.ReferenceFirstIdeal.main_arg2))
      (m' ((c.tc : Thread Cert.ReferenceFirstIdeal.nD Cert.ReferenceFirstIdeal.τ).loc Cert.ReferenceFirstIdeal.main_arg3))
      (m' ((c.tc : Thread Cert.ReferenceFirstIdeal.nD Cert.ReferenceFirstIdeal.τ).loc Cert.ReferenceFirstIdeal.main_arg4))
      (m' ((c.tc : Thread Cert.ReferenceFirstIdeal.nD Cert.ReferenceFirstIdeal.τ).loc Cert.ReferenceFirstIdeal.main_arg5))
      (m' ((c.tc : Thread Cert.ReferenceFirstIdeal.nD Cert.ReferenceFirstIdeal.τ).loc Cert.ReferenceFirstIdeal.main_arg6)) := by
    obtain ⟨e0, e1, e2, e3, e4, e5, e6⟩ := hagree c
    rw [e0, e1, e2, e3, e4, e5, e6]
    exact H
  exact ⟨(r0.trans (Cert.ReferenceFirstIdeal.Read.val_main_v56_eq m' c)).trans (out0 H H').symm,
    (r1.trans (Cert.ReferenceFirstIdeal.Read.val_main_v62_eq _ _ _ _ _)).trans (out1 H H').symm, rest⟩

/-- The reference runs, and leaves its arguments and its semaphores as they were. -/
theorem quiescent_reference : Cert.quiescent_ReferenceFirstIdeal := fun m ρ _ =>
  (θ_run Cert.ReferenceFirstIdeal.defs _ _).mono (fun r h => ⟨fun c => (h c).2.2, Idealize.ShloMosaic.sem_eq_zero_of_no_sems (by decide) r.2⟩)
    (Cert.ReferenceFirstIdeal.Value.run (F := Ideal) m ρ)

end Cert.KernelFirstIdeal.Points

end
-- ==== Proof.MixerAlgebra.lean ====
/-
  The value claim for the gradient through the token mixer's modulated norm and its gated branch: over real inputs the kernel's three
  outputs are the real gradients of the stream and of the branch and the real rows of the features' gradients, and so are the reference's.
-/
module

public import proofs.«01_k».proof.Defs
public import proofs.«01_k».proof.Proof.MixerRead
public import proofs.«01_k».proof.Proof.MixerSweep
public import proofs.«01_k».proof.Proof.FirstAlgebra
public import proofs.«01_k».proof.Proof.Gen.Pre_finite_mixer
public import proofs.«01_k».proof.Proof.Gen.ReferenceMixerTIdeal.Run

@[expose] public section

noncomputable section

namespace Cert.KernelMixerTIdeal.Points

open Cert.KernelMixerTIdeal Cert.KernelMixerTIdeal.Gen Cert.KernelMixerTIdeal.Value Idealize.ShloMosaic.ValueIdx Idealize.ShloMosaic.TcCoe Idealize.SL.Sem
open Cert.Mlp hiding Data
open Cert.MixerT
open Idealize.ShloMosaic hiding ix0 ix1 ix2 ix3 ix4 ix5
open Cert.KernelFirstIdeal.Points (row0 row1 row2 put row_apply brow_apply sumcol_apply lift lift_apply table table_row rs_real xn_real w_real dx_real put_apply sum_tok)

/-! The arrays the kernel is launched on. -/

variable (m : (ℓ : Loc nD τ sig) → Buf (Elt Ideal) ℓ) (c : Dev nD)

/-- The weight at a narrow width. -/
theorem V_v10 : V m c main_v10 = truncf (F := Ideal) (φ := .f32) .bf16 (m ((c.tc : Thread nD τ).loc main_arg6)) bitsLt_bf16_f32 := by
  unfold_abbrev_sides
  simp only [hostOps0, StableHlo.TRef.nullary, StableHlo.TRef.unary, StableHlo.TRef.binary, StableHlo.TRef.toBuf, StableHlo.TRef.ofBuf, cast_eq]
  after_results_simp

/-- The branch at a narrow width. -/
theorem V_v15 : V m c main_v15 = truncf (F := Ideal) (φ := .f32) .bf16 (m ((c.tc : Thread nD τ).loc main_arg1)) bitsLt_bf16_f32 := by
  unfold_abbrev_sides
  simp only [hostOps0, StableHlo.TRef.nullary, StableHlo.TRef.unary, StableHlo.TRef.binary, StableHlo.TRef.toBuf, StableHlo.TRef.ofBuf, cast_eq]
  after_results_simp

/-- The stream after the branch. -/
theorem V_v14 : V m c main_v14 = Cert.ReferenceMixerTIdeal.Read.val_main_v3 (F := Ideal) (m ((c.tc : Thread nD τ).loc main_arg0)) (m ((c.tc : Thread nD τ).loc main_arg1)) (m ((c.tc : Thread nD τ).loc main_arg2)) := by
  unfold_abbrev_sides
  simp only [hostOps0, StableHlo.TRef.nullary, StableHlo.TRef.unary, StableHlo.TRef.binary, StableHlo.TRef.toBuf, StableHlo.TRef.ofBuf, cast_eq]
  after_results_simp
  rfl

/-- The gate, seven rows of zeros under it. -/
def gates (g : (⟨S1024, .f32⟩ : BufTy).Contents (Elt Ideal)) : (⟨S8x1024, .f32⟩ : BufTy).Contents (Elt Ideal) :=
  concatenate S8x1024 0 [⟨S1x1024, lift g⟩, ⟨S7x1024, broadcastInDim S7x1024 ![] bcast_S_S7x1024 (constant (F := Ideal) S_ .f32 0x00000000#32)⟩] concatenates_S1x1024_S7x1024_S8x1024_d0

theorem V_v9 : V m c main_v9 = concatenate S16x1024 0
    [⟨S8x1024, table (m ((c.tc : Thread nD τ).loc main_arg3)) (m ((c.tc : Thread nD τ).loc main_arg4)) (m ((c.tc : Thread nD τ).loc main_arg5))⟩,
      ⟨S8x1024, gates (m ((c.tc : Thread nD τ).loc main_arg2))⟩] concatenates_S8x1024_S8x1024_S16x1024_d0 := by
  unfold_abbrev_sides
  simp only [hostOps0, StableHlo.TRef.nullary, StableHlo.TRef.unary, StableHlo.TRef.binary, StableHlo.TRef.toBuf, StableHlo.TRef.ofBuf, cast_eq]
  after_results_simp
  rfl

/-- The table's first eight rows. -/
theorem v9_left (k : Fin 8) (d : Fin 1024) : V m c main_v9 (ix2 (⟨k.val, by omega⟩ : Fin 16) d)
    = table (m ((c.tc : Thread nD τ).loc main_arg3)) (m ((c.tc : Thread nD τ).loc main_arg4)) (m ((c.tc : Thread nD τ).loc main_arg5)) (ix2 k d) := by
  rw [V_v9]
  exact concatenate_pair_apply_left (t := S16x1024) (s₁ := S8x1024) (s₂ := S8x1024) (0 : Fin 2) _ _ concatenates_S8x1024_S8x1024_S16x1024_d0 (ix2 (⟨k.val, by omega⟩ : Fin 16) d) rfl
    (ix2 k d) (fun b => by match b with | ⟨0, _⟩ => rfl | ⟨1, _⟩ => rfl)

/-- The ninth row is the gate. -/
theorem v9_gate (d : Fin 1024) : V m c main_v9 (ix2 (8 : Fin 16) d) = m ((c.tc : Thread nD τ).loc main_arg2) (ix1 d) := by
  rw [V_v9]
  refine (concatenate_pair_apply_right (t := S16x1024) (s₁ := S8x1024) (s₂ := S8x1024) (0 : Fin 2) _ _ concatenates_S8x1024_S8x1024_S16x1024_d0 (ix2 (8 : Fin 16) d) rfl rfl
    (ix2 (0 : Fin 8) d) (fun b hb => by match b with | ⟨0, _⟩ => exact absurd rfl hb | ⟨1, _⟩ => rfl) rfl).trans ?_
  unfold gates
  exact (concatenate_pair_apply_left (t := S8x1024) (s₁ := S1x1024) (s₂ := S7x1024) (0 : Fin 2) _ _ concatenates_S1x1024_S7x1024_S8x1024_d0 (ix2 (0 : Fin 8) d) rfl
    (ix2 (0 : Fin 1) d) (fun b => by match b with | ⟨0, _⟩ => rfl | ⟨1, _⟩ => rfl)).trans (lift_apply _ _ _)

/-- The nine arguments of the kernel's program on a device hold the real tables of `D`. -/
def HoldsAt (D : Data) : Prop :=
  Cert.ReferenceMixerTIdeal.Read.Holds D
    (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))

variable {m c} {D : Data} (H : HoldsAt m c D)
include H

/-! The blocks of a point, over real inputs. -/

theorem b0 (t : Fin 4) (p : Fin 512) (f : Fin 4096) : (iblk m c 0 (pt t) : Vec Ideal S512x4096 .bf16) (ix2 p f) = ((D.DZ (tok t p) f : ℝ) : EReal) := by
  rw [blk0, V_main_arg7]
  exact H.h7 (tok t p) f

theorem b1 (t : Fin 4) (d : Fin 1024) (f : Fin 4096) : (iblk m c 1 (pt t) : Vec Ideal S1024x4096 .bf16) (ix2 d f) = ((D.W d f : ℝ) : EReal) := by
  rw [blk1, V_v10]
  exact H.h6 d f

theorem b2 (t : Fin 4) (p : Fin 512) (d : Fin 1024) : (iblk m c 2 (pt t) : Vec Ideal S512x1024 .f32) (ix2 p d) = ((D.flat.X (tok t p) d : ℝ) : EReal) := by
  rw [blk2, V_v14]
  exact Cert.ReferenceMixerTIdeal.Read.v3 H (tok t p) d

theorem b3_gain (t : Fin 4) (d : Fin 1024) : row0 (iblk m c 3 (pt t) : Vec Ideal S8x1024 .f32) (ix2 0 d) = ((D.N d : ℝ) : EReal) := by
  refine (View.ld_row_apply _ _ (by omega) 0 d).trans ?_
  rw [blk3, v9_left]
  exact (table_row _ _ _ 0 (by omega) _ rfl d).trans ((lift_apply _ _ _).trans (H.h3 d))

theorem b3_scale (t : Fin 4) (d : Fin 1024) : row1 (iblk m c 3 (pt t) : Vec Ideal S8x1024 .f32) (ix2 0 d) = ((D.SC d : ℝ) : EReal) := by
  refine (View.ld_row_apply _ _ (by omega) 0 d).trans ?_
  rw [blk3, v9_left]
  exact (table_row _ _ _ 1 (by omega) _ rfl d).trans ((lift_apply _ _ _).trans (H.h4 d))

theorem b4 (t : Fin 4) (p : Fin 512) (d : Fin 1024) : (iblk m c 4 (pt t) : Vec Ideal S512x1024 .f32) (ix2 p d) = ((D.CT (tok t p) d : ℝ) : EReal) := by
  rw [blk4, V_main_arg8]
  exact H.h8 (tok t p) d

theorem b5 (t : Fin 4) (p : Fin 512) (d : Fin 1024) : (iblk m c 5 (pt t) : Vec Ideal S512x1024 .bf16) (ix2 p d) = ((D.Y (tok t p) d : ℝ) : EReal) := by
  rw [blk5, V_v15]
  exact H.h1 (tok t p) d

theorem b6 (t : Fin 4) (d : Fin 1024) : row0 (iblk m c 6 (pt t) : Vec Ideal S8x1024 .f32) (ix2 0 d) = ((D.G d : ℝ) : EReal) := by
  refine (View.ld_row_apply _ _ (by omega) 0 d).trans ?_
  rw [blk6]
  exact (v9_gate m c d).trans (H.h2 d)

/-! What the body computes of them: past the product, what the first layer's kernel computes. -/

theorem dh_block (t : Fin 4) (p : Fin 512) (d : Fin 1024) : k0_pay4 (iblk m c 0 (pt t)) (iblk m c 1 (pt t)) (ix2 p d) = ((D.flat.dh (tok t p) d : ℝ) : EReal) := by
  unfold k0_pay4
  simp only [shapeCast_id]
  show FloatOps.matmul (DotDims.transposedRhs 512 4096 1024) none (iblk m c 0 (pt t)) (iblk m c 1 (pt t)) (fun _ => Ideal.ofBits .f32 0x00000000#32) (ix2 p d) = _
  rw [Ideal.matmul_transposedRhs_apply, lit_zero, D.flat_dh]
  simp only [b0 H, b1 H, ← EReal.coe_mul, ← coe_sum, ← EReal.coe_add, zero_add]
  rfl

omit H in
theorem pay7_eq (v : Vec Ideal S512x1024 .f32) : k0_pay7 v = Cert.KernelFirstIdeal.Gen.k0_pay8 v := by
  unfold k0_pay7 k0_pay6
  simp only [shapeCast_id]
  rfl

omit H in
theorem pay8_eq (v : Vec Ideal S512x1024 .f32) : k0_pay8 v = Cert.KernelFirstIdeal.Gen.k0_pay9 v := by
  unfold k0_pay8 k0_pay6
  simp only [shapeCast_id, pay7_eq]
  rfl

theorem xn_block (t : Fin 4) (p : Fin 512) (d : Fin 1024) : k0_pay8 (iblk m c 2 (pt t)) (ix2 p d) = ((D.flat.xn (tok t p) d : ℝ) : EReal) := by
  rw [pay8_eq]
  exact xn_real D.flat t _ (b2 H t) p d

theorem dx_block (t : Fin 4) (p : Fin 512) (d : Fin 1024) :
    k0_pay12 (k0_pay4 (iblk m c 0 (pt t)) (iblk m c 1 (pt t))) (k0_pay7 (iblk m c 2 (pt t))) (k0_pay8 (iblk m c 2 (pt t))) (k0_pay9 (row0 (iblk m c 3 (pt t))) (row1 (iblk m c 3 (pt t)))) (iblk m c 4 (pt t)) (ix2 p d)
      = ((D.flat.dx (tok t p) d : ℝ) : EReal) :=
  dx_real _ _ _ _ _ (fun p d => D.flat.dh (tok t p) d) (fun p d => D.flat.xn (tok t p) d) (fun p d => D.CT (tok t p) d) (fun p => D.flat.r (tok t p)) D.flat.w
    (dh_block H t) (fun p z => by rw [pay7_eq]; exact rs_real D.flat t _ (b2 H t) p z) (xn_block H t) (w_real D.flat _ _ (b3_gain H t) (b3_scale H t)) (b4 H t) p d

theorem dy_block (t : Fin 4) (p : Fin 512) (d : Fin 1024) :
    dyB (iblk m c 0 (pt t)) (iblk m c 1 (pt t)) (iblk m c 2 (pt t)) (iblk m c 3 (pt t)) (iblk m c 4 (pt t)) (iblk m c 6 (pt t)) (ix2 p d) = ((D.dy (tok t p) d : ℝ) : EReal) := by
  unfold dyB k0_pay13
  simp only [shapeCast_id]
  show mulf (F := Ideal) _ _ (ix2 p d) = _
  rw [mulf_apply, brow_apply, dx_block H, b6 H, ← EReal.coe_mul, mul_comm]
  rfl

/-! The accumulated rows. -/

omit H in
/-- What a token adds to the accumulated row `i`. -/
def term (D : Data) (i : Fin 8) (d : Fin 1024) (t : Fin 2048) : ℝ :=
  if i.val = 3 then D.flat.dx t d * D.Y t d else Cert.KernelFirstIdeal.Points.term D.flat i d t

/-- A point adds its block's terms to the rows. -/
theorem step_real (t : Fin 4) (xo : Vec Ideal S8x1024 .f32) (A : Fin 8 → Fin 1024 → ℝ) (hA : ∀ i d, xo (ix2 i d) = ((A i d : ℝ) : EReal)) (i : Fin 8) (d : Fin 1024) :
    stepAt m c (pt t) xo (ix2 i d) = ((A i d + ∑ p, term D i d (tok t p) : ℝ) : EReal) := by
  have h0 : row0 xo (ix2 0 d) = ((A 0 d : ℝ) : EReal) := (View.ld_row_apply _ _ (by omega) 0 d).trans (hA 0 d)
  have h2 : row2 xo (ix2 0 d) = ((A 2 d : ℝ) : EReal) := (View.ld_row_apply _ _ (by omega) 0 d).trans (hA 2 d)
  have h3 : row3 xo (ix2 0 d) = ((A 3 d : ℝ) : EReal) := (View.ld_row_apply _ _ (by omega) 0 d).trans (hA 3 d)
  have e0 : k0_pay10 (iblk m c 0 (pt t)) (iblk m c 1 (pt t)) (iblk m c 2 (pt t)) (row0 xo) (ix2 0 d) = ((A 0 d + ∑ p, D.flat.dh (tok t p) d * D.flat.xn (tok t p) d : ℝ) : EReal) := by
    unfold k0_pay10
    simp only [shapeCast_id]
    rw [addf_apply, row_apply, sumcol_apply, h0]
    simp only [mulf_apply, dh_block H, xn_block H, ← EReal.coe_mul, ← coe_sum, ← EReal.coe_add]
  have e2 : k0_pay11 (k0_pay4 (iblk m c 0 (pt t)) (iblk m c 1 (pt t))) (row2 xo) (ix2 0 d) = ((A 2 d + ∑ p, D.flat.dh (tok t p) d : ℝ) : EReal) := by
    unfold k0_pay11
    simp only [shapeCast_id]
    rw [addf_apply, row_apply, sumcol_apply, h2]
    simp only [dh_block H, ← coe_sum, ← EReal.coe_add]
  have e3 : gate (iblk m c 0 (pt t)) (iblk m c 1 (pt t)) (iblk m c 2 (pt t)) (iblk m c 3 (pt t)) (iblk m c 4 (pt t)) (iblk m c 5 (pt t)) xo (ix2 0 d)
      = ((A 3 d + ∑ p, D.flat.dx (tok t p) d * D.Y (tok t p) d : ℝ) : EReal) := by
    have hy : ∀ p, extf (F := Ideal) (φ := .bf16) .f32 (iblk m c 5 (pt t) : Vec Ideal S512x1024 .bf16) bitsLt_bf16_f32 (ix2 p d) = ((D.Y (tok t p) d : ℝ) : EReal) := fun p => b5 H t p d
    unfold gate k0_pay14
    simp only [shapeCast_id]
    rw [addf_apply, row_apply, sumcol_apply, h3]
    simp only [mulf_apply, dx_block H, hy, ← EReal.coe_mul, ← coe_sum, ← EReal.coe_add]
  unfold stepAt step
  refine (put_apply 3 _ _ i d).trans ?_
  rw [put_apply 2 _ _ i d, put_apply 0 _ _ i d, e0, e2, e3, hA]
  unfold term Cert.KernelFirstIdeal.Points.term
  by_cases c3 : i.val = 3
  · obtain rfl : i = 3 := Fin.ext c3
    simp
  by_cases c2 : i.val = 2
  · obtain rfl : i = 2 := Fin.ext c2
    simp
  by_cases c0 : i.val = 0
  · obtain rfl : i = 0 := Fin.ext c0
    simp
  simp [c0, c2, c3]

/-- The rows after the point `n`: the terms of the tokens up to it. -/
theorem acc_real : ∀ (n : ℕ) (h : n < cfg0.N) (h4 : n < 4) (i : Fin 8) (d : Fin 1024),
    acc m c n h (ix2 i d) = ((∑ s ∈ Finset.range (n + 1), (if hs : s < 4 then ∑ p, term D i d (tok ⟨s, hs⟩ p) else 0) : ℝ) : EReal)
  | 0, h, h4, i, d => by
    refine (step_real H ⟨0, h4⟩ (k0_pay5 (F := Ideal)) (fun _ _ => 0) (fun _ _ => lit_zero) i d).trans ?_
    simp
  | n + 1, h, h4, i, d => by
    refine (step_real H ⟨n + 1, h4⟩ (acc m c n (Nat.lt_of_succ_lt h)) _ (acc_real n (Nat.lt_of_succ_lt h) (by omega)) i d).trans ?_
    rw [Finset.sum_range_succ _ (n + 1), dif_pos h4]

/-- The eight rows the kernel returns. -/
theorem rows_real (i : Fin 8) (d : Fin 1024) : fin (iblk m c 3 (pt 3)) (acc m c 3 (pt 3).isLt) (ix2 i d) = ((D.rows i d : ℝ) : EReal) := by
  have hacc : ∀ i d, acc m c 3 (pt 3).isLt (ix2 i d) = ((∑ t, term D i d t : ℝ) : EReal) := fun i d =>
    (acc_real H 3 (pt 3).isLt (by omega) i d).trans (congrArg _ (sum_tok _))
  have h0 : row0 (acc m c 3 (pt 3).isLt) (ix2 0 d) = ((∑ t, term D 0 d t : ℝ) : EReal) := (View.ld_row_apply _ _ (by omega) 0 d).trans (hacc 0 d)
  have e4 : k0_pay2 (row0 (acc m c 3 (pt 3).isLt)) (row0 (iblk m c 3 (pt 3))) (ix2 0 d) = (((∑ t, term D 0 d t) * D.N d : ℝ) : EReal) := by
    unfold k0_pay2 k0_pay1
    simp only [shapeCast_id]
    rw [mulf_apply, h0, b3_gain H, ← EReal.coe_mul]
  have e5 : k0_pay3 (row0 (acc m c 3 (pt 3).isLt)) (row1 (iblk m c 3 (pt 3))) (ix2 0 d) = (((∑ t, term D 0 d t) * (1 + D.SC d) : ℝ) : EReal) := by
    unfold k0_pay3 k0_pay1
    simp only [shapeCast_id]
    rw [mulf_apply, addf_apply, h0, b3_scale H]
    show _ * (Ideal.ofBits .f32 0x3F800000#32 + _) = _
    rw [lit_one, ← EReal.coe_add, ← EReal.coe_mul]
  unfold fin
  refine (put_apply 0 _ _ i d).trans ?_
  rw [put_apply 1 _ _ i d, e4, e5, hacc]
  unfold MixerT.Data.rows First.Data.rows term Cert.KernelFirstIdeal.Points.term
  by_cases c0 : i.val = 0
  · obtain rfl : i = 0 := Fin.ext c0
    simp [MixerT.Data.flat]
  by_cases c1 : i.val = 1
  · obtain rfl : i = 1 := Fin.ext c1
    simp [MixerT.Data.flat]
  by_cases c2 : i.val = 2
  · obtain rfl : i = 2 := Fin.ext c2
    simp
  by_cases c3 : i.val = 3
  · obtain rfl : i = 3 := Fin.ext c3
    simp
  simp [c0, c1, c2, c3]

section

variable {x0 x1 x8 : (⟨S2048x1024, .f32⟩ : BufTy).Contents (Elt Ideal)} {x2 x3 x4 x5 : (⟨S1024, .f32⟩ : BufTy).Contents (Elt Ideal)}
  {x6 : (⟨S1024x4096, .f32⟩ : BufTy).Contents (Elt Ideal)} {x7 : (⟨S2048x4096, .bf16⟩ : BufTy).Contents (Elt Ideal)}
  (H' : Cert.ReferenceMixerTIdeal.Read.Holds D x0 x1 x2 x3 x4 x5 x6 x7 x8)
include H'

/-- The gradient of the stream. -/
theorem out0 : ((dats m 0 c).arrAt 7 cfg0.N : Vec Ideal S2048x1024 .f32) = Cert.ReferenceMixerTIdeal.Read.val_main_v60 (F := Ideal) x0 x1 x2 x3 x4 x6 x7 x8 := by
  funext i
  obtain ⟨t, d, rfl⟩ : ∃ (t : Fin 2048) (d : Fin 1024), i = ix2 t d := ⟨i 0, i 1, ValueIdx.eq_ix2 i⟩
  obtain ⟨b, p, rfl⟩ := Cert.KernelFirstIdeal.Points.exists_tok t
  exact (final_7 m c b p d).trans ((dx_block H b p d).trans (Cert.ReferenceMixerTIdeal.Read.v60 H' (tok b p) d).symm)

/-- The rows summed over the tokens. -/
theorem out1 : ((dats m 0 c).arrAt 8 cfg0.N : Vec Ideal S8x1024 .f32) = Cert.ReferenceMixerTIdeal.Read.val_main_v74 (F := Ideal) x0 x1 x2 x3 x4 x6 x7 x8 := by
  funext i
  obtain ⟨k, d, rfl⟩ : ∃ (k : Fin 8) (d : Fin 1024), i = ix2 k d := ⟨i 0, i 1, ValueIdx.eq_ix2 i⟩
  exact (congrFun (final_8 m c) (ix2 k d)).trans ((rows_real H k d).trans (Cert.ReferenceMixerTIdeal.Read.v74 H' k d).symm)

/-- The gradient of the branch. -/
theorem out2 : ((dats m 0 c).arrAt 9 cfg0.N : Vec Ideal S2048x1024 .bf16) = Cert.ReferenceMixerTIdeal.Read.val_main_v75 (F := Ideal) x0 x1 x2 x3 x4 x6 x7 x8 := by
  funext i
  obtain ⟨t, d, rfl⟩ : ∃ (t : Fin 2048) (d : Fin 1024), i = ix2 t d := ⟨i 0, i 1, ValueIdx.eq_ix2 i⟩
  obtain ⟨b, p, rfl⟩ := Cert.KernelFirstIdeal.Points.exists_tok t
  exact (final_9 m c b p d).trans ((dy_block H b p d).trans (Cert.ReferenceMixerTIdeal.Read.v75 H' (tok b p) d).symm)

end

omit H

variable (m c) in
/-- The real tables of a device's arguments. -/
def dataOf : Data where
  X0 t d := (m ((c.tc : Thread nD τ).loc main_arg0) (ix2 t d) : EReal).toReal
  Y t d := (m ((c.tc : Thread nD τ).loc main_arg1) (ix2 t d) : EReal).toReal
  G d := (m ((c.tc : Thread nD τ).loc main_arg2) (ix1 d) : EReal).toReal
  N d := (m ((c.tc : Thread nD τ).loc main_arg3) (ix1 d) : EReal).toReal
  SC d := (m ((c.tc : Thread nD τ).loc main_arg4) (ix1 d) : EReal).toReal
  SH d := (m ((c.tc : Thread nD τ).loc main_arg5) (ix1 d) : EReal).toReal
  W d f := (m ((c.tc : Thread nD τ).loc main_arg6) (ix2 d f) : EReal).toReal
  DZ t f := (m ((c.tc : Thread nD τ).loc main_arg7) (ix2 t f) : EReal).toReal
  CT t d := (m ((c.tc : Thread nD τ).loc main_arg8) (ix2 t d) : EReal).toReal

/-- Under the precondition a device's arguments hold their real tables. -/
theorem holds_dataOf (hpre : Cert.Pre_KernelMixerTIdeal_finite_mixer m) : HoldsAt m c (dataOf m c) := by
  obtain ⟨h0, h1, h2, h3, h4, h5, h6, h7, h8⟩ := hpre c
  have e7 := fun t f => real_of_mask _ _ h7 (ix2 t f)
  exact ⟨fun _ _ => real_of_mask _ _ h0 _, fun _ _ => real_of_mask _ _ h1 _, fun _ => real_of_mask _ _ h2 _, fun _ => real_of_mask _ _ h3 _,
    fun _ => real_of_mask _ _ h4 _, fun _ => real_of_mask _ _ h5 _, fun _ _ => real_of_mask _ _ h6 _, e7, fun _ _ => real_of_mask _ _ h8 _⟩

/-- The kernel's and the reference's results are the same arrays. -/
theorem algebraic : Cert.algebraic_KernelMixerTIdeal_ReferenceMixerTIdeal_pre_finite_mixer := by
  intro m ρ m' ρ' hpre hagree
  refine ⟨_, _, _, Cert.KernelMixerTIdeal.Value.run_blocks m ρ, ?_⟩
  refine (θ_run Cert.ReferenceMixerTIdeal.defs _ _).mono (fun r h c => ?_) (Cert.ReferenceMixerTIdeal.Value.run (F := Ideal) m' ρ')
  obtain ⟨r0, r1, r2, rest⟩ := h c
  have H := holds_dataOf (c := c) hpre
  have H' : Cert.ReferenceMixerTIdeal.Read.Holds (dataOf m c)
      (m' ((c.tc : Thread Cert.ReferenceMixerTIdeal.nD Cert.ReferenceMixerTIdeal.τ).loc Cert.ReferenceMixerTIdeal.main_arg0))
      (m' ((c.tc : Thread Cert.ReferenceMixerTIdeal.nD Cert.ReferenceMixerTIdeal.τ).loc Cert.ReferenceMixerTIdeal.main_arg1))
      (m' ((c.tc : Thread Cert.ReferenceMixerTIdeal.nD Cert.ReferenceMixerTIdeal.τ).loc Cert.ReferenceMixerTIdeal.main_arg2))
      (m' ((c.tc : Thread Cert.ReferenceMixerTIdeal.nD Cert.ReferenceMixerTIdeal.τ).loc Cert.ReferenceMixerTIdeal.main_arg3))
      (m' ((c.tc : Thread Cert.ReferenceMixerTIdeal.nD Cert.ReferenceMixerTIdeal.τ).loc Cert.ReferenceMixerTIdeal.main_arg4))
      (m' ((c.tc : Thread Cert.ReferenceMixerTIdeal.nD Cert.ReferenceMixerTIdeal.τ).loc Cert.ReferenceMixerTIdeal.main_arg5))
      (m' ((c.tc : Thread Cert.ReferenceMixerTIdeal.nD Cert.ReferenceMixerTIdeal.τ).loc Cert.ReferenceMixerTIdeal.main_arg6))
      (m' ((c.tc : Thread Cert.ReferenceMixerTIdeal.nD Cert.ReferenceMixerTIdeal.τ).loc Cert.ReferenceMixerTIdeal.main_arg7))
      (m' ((c.tc : Thread Cert.ReferenceMixerTIdeal.nD Cert.ReferenceMixerTIdeal.τ).loc Cert.ReferenceMixerTIdeal.main_arg8)) := by
    obtain ⟨e0, e1, e2, e3, e4, e5, e6, e7, e8⟩ := hagree c
    rw [e0, e1, e2, e3, e4, e5, e6, e7, e8]
    exact H
  exact ⟨(r0.trans (Cert.ReferenceMixerTIdeal.Read.val_main_v60_eq m' c)).trans (out0 H H').symm,
    (r1.trans (Cert.ReferenceMixerTIdeal.Read.val_main_v74_eq m' c)).trans (out1 H H').symm,
    (r2.trans (Cert.ReferenceMixerTIdeal.Read.val_main_v75_eq m' c)).trans (out2 H H').symm, rest⟩

/-- The reference runs, and leaves its arguments and its semaphores as they were. -/
theorem quiescent_reference : Cert.quiescent_ReferenceMixerTIdeal := fun m ρ _ =>
  (θ_run Cert.ReferenceMixerTIdeal.defs _ _).mono (fun r h => ⟨fun c => (h c).2.2.2, Idealize.ShloMosaic.sem_eq_zero_of_no_sems (by decide) r.2⟩)
    (Cert.ReferenceMixerTIdeal.Value.run (F := Ideal) m ρ)

end Cert.KernelMixerTIdeal.Points

end
-- ==== Proof.Adam.lean ====
/-
  The optimiser's step on one entry, as a function of the entry's gradient and of what it moves: the two moving averages and the
  change of the weight. The optimiser's programs are this function at every index.
-/
module

public import Idealize.ShloMosaic.Lib.Pointwise.Tactic
public import Idealize.ShloMosaic.PureOps.Ideal
public import proofs.«01_k».proof.Proof.Spec

@[expose] public section

noncomputable section

namespace Cert.Adam

open Idealize.ShloMosaic

/-- The literal zero is zero. -/
theorem zero : (Scalar.ofBits .f32 0x00000000#32 : Ideal .f32) = (0 : EReal) := Cert.Mlp.lit_zero.trans EReal.coe_zero

/-- The moving average of the gradient: nine tenths of the old, one tenth of the new. -/
def first (g m : Ideal .f32) : Ideal .f32 :=
  FloatOps.addf (FloatOps.mulf (Scalar.ofBits .f32 0x3F666666#32) m) (FloatOps.mulf (Scalar.ofBits .f32 0x3DCCCCCD#32) g)

/-- The moving average of the gradient's square. -/
def second (g v : Ideal .f32) : Ideal .f32 :=
  FloatOps.addf (FloatOps.mulf (Scalar.ofBits .f32 0x3F7FBE77#32) v) (FloatOps.mulf (Scalar.ofBits .f32 0x3A83126F#32) (FloatOps.mulf g g))

/-- The weight's change: the corrected averages' quotient and the decay, times the rate. -/
def change (g w m v : Ideal .f32) : Ideal .f32 :=
  FloatOps.mulf (Scalar.ofBits .f32 0xBA83126F#32)
    (FloatOps.addf
      (FloatOps.divf (FloatOps.divf (first g m) (Scalar.ofBits .f32 0x3F26BD02#32))
        (FloatOps.addf (FloatOps.sqrt (FloatOps.divf (second g v) (Scalar.ofBits .f32 0x3C231ACC#32))) (Scalar.ofBits .f32 0x322BCC77#32)))
      (FloatOps.mulf (Scalar.ofBits .f32 0x3C23D70A#32) w))

end Cert.Adam

end
-- ==== Proof.AdamSmall.lean ====
/-
  The optimiser's step on the small parameters, packed in one array: the devices' gradients are added and every entry is moved. Each result is, entry by entry, the
  reference's. The loss is the sum of one row of the added gradients, taken after the launch.
-/
module

public import proofs.«01_k».proof.Proof.Gen.KernelSmallIdeal.Frame
public import Idealize.ShloMosaic.Lib.Pipeline.Value
public import proofs.«01_k».proof.Proof.Gen.ReferenceSmallIdeal.Run
public import proofs.«01_k».proof.Proof.Gen.ReferenceSmallIdeal.Read
public import proofs.«01_k».proof.Proof.Adam
public import proofs.«01_k».proof.Defs
public import Idealize.ShloMosaic.Lib.Pointwise.Reshape
public import Idealize.ShloMosaic.Lib.Pointwise.ShapeOpsCore
public import Idealize.ShloMosaic.Lib.Pointwise.Contract
public import Idealize.ShloMosaic.Lib.Pointwise.Tactic
public import Idealize.ShloMosaic.Lib.ValueLayout

@[expose] public section

noncomputable section

namespace Cert.KernelSmallIdeal.Points

open Cert.KernelSmallIdeal Cert.KernelSmallIdeal.Gen Idealize.ShloMosaic.TcCoe Idealize.SL.Sem
open Idealize.ShloMosaic.ValueIdx
open Idealize.ShloMosaic hiding ix0 ix1 ix2 ix3 ix4 ix5
open Cert.ReferenceSmallIdeal.Read

variable (m : (ℓ : Loc nD τ sig) → Buf (Elt Ideal) ℓ)

/-- The grid point of the block `t`. -/
abbrev pt (t : Fin 1) : Fin cfg0.N := ⟨t.val, by rw [show cfg0.N = 1 from N_0]; exact t.isLt⟩
/-- The row at the place `p` of the block `t`. -/
abbrev row (t : Fin 1) (p : Fin 112) : Fin 112 := ⟨112 * t.val + p.val, by omega⟩

/-- Window 0 reads a block of the devices' gradients. -/
theorem blk0 (c : Dev nD) (t : Fin 1) (k : Fin 8) (p : Fin 112) (q : Fin 1024) :
    (iblk m c 0 (pt t) : Vec Ideal S8x112x1024 .f32) (ix3 k p q) = V m c main_arg0 (ix3 k (row t p) q) := by
  have hi : ∀ t : Fin cfg0.N, win0_0.index t 0 = 0 ∧ win0_0.index t 1 = t.val ∧ win0_0.index t 2 = 0 :=
    (by decide +kernel : ∀ t : Fin grid0.N, win0_0.index t 0 = 0 ∧ win0_0.index t 1 = t.val ∧ win0_0.index t 2 = 0)
  unfold iblk
  rw [View.read_apply]
  show V m c main_arg0 _ = V m c main_arg0 _
  congr 1
  funext a
  apply Fin.ext
  match a with
  | ⟨0, _⟩ => show win0_0.index (pt t) 0 * 8 + 1 * k.val = k.val; rw [(hi (pt t)).1]; omega
  | ⟨1, _⟩ => show win0_0.index (pt t) 1 * 112 + 1 * p.val = 112 * t.val + p.val; rw [(hi (pt t)).2.1]; dsimp only; omega
  | ⟨2, _⟩ => show win0_0.index (pt t) 2 * 1024 + 1 * q.val = q.val; rw [(hi (pt t)).2.2]; omega

/-- Window 1 reads a block of the weight. -/
theorem blk1 (c : Dev nD) (t : Fin 1) (p : Fin 112) (q : Fin 1024) :
    (iblk m c 1 (pt t) : Vec Ideal S112x1024 .f32) (ix2 p q) = V m c main_arg1 (ix2 (row t p) q) := by
  have hi : ∀ t : Fin cfg0.N, win0_1.index t 0 = t.val ∧ win0_1.index t 1 = 0 :=
    (by decide +kernel : ∀ t : Fin grid0.N, win0_1.index t 0 = t.val ∧ win0_1.index t 1 = 0)
  unfold iblk
  rw [View.read_apply]
  show V m c main_arg1 _ = V m c main_arg1 _
  congr 1
  funext a
  apply Fin.ext
  match a with
  | ⟨0, _⟩ => show win0_1.index (pt t) 0 * 112 + 1 * p.val = 112 * t.val + p.val; rw [(hi (pt t)).1]; dsimp only; omega
  | ⟨1, _⟩ => show win0_1.index (pt t) 1 * 1024 + 1 * q.val = q.val; rw [(hi (pt t)).2]; omega

/-- Window 2 reads a block of the first average. -/
theorem blk2 (c : Dev nD) (t : Fin 1) (p : Fin 112) (q : Fin 1024) :
    (iblk m c 2 (pt t) : Vec Ideal S112x1024 .f32) (ix2 p q) = V m c main_arg2 (ix2 (row t p) q) := by
  have hi : ∀ t : Fin cfg0.N, win0_2.index t 0 = t.val ∧ win0_2.index t 1 = 0 :=
    (by decide +kernel : ∀ t : Fin grid0.N, win0_2.index t 0 = t.val ∧ win0_2.index t 1 = 0)
  unfold iblk
  rw [View.read_apply]
  show V m c main_arg2 _ = V m c main_arg2 _
  congr 1
  funext a
  apply Fin.ext
  match a with
  | ⟨0, _⟩ => show win0_2.index (pt t) 0 * 112 + 1 * p.val = 112 * t.val + p.val; rw [(hi (pt t)).1]; dsimp only; omega
  | ⟨1, _⟩ => show win0_2.index (pt t) 1 * 1024 + 1 * q.val = q.val; rw [(hi (pt t)).2]; omega

/-- Window 3 reads a block of the second average. -/
theorem blk3 (c : Dev nD) (t : Fin 1) (p : Fin 112) (q : Fin 1024) :
    (iblk m c 3 (pt t) : Vec Ideal S112x1024 .f32) (ix2 p q) = V m c main_arg3 (ix2 (row t p) q) := by
  have hi : ∀ t : Fin cfg0.N, win0_3.index t 0 = t.val ∧ win0_3.index t 1 = 0 :=
    (by decide +kernel : ∀ t : Fin grid0.N, win0_3.index t 0 = t.val ∧ win0_3.index t 1 = 0)
  unfold iblk
  rw [View.read_apply]
  show V m c main_arg3 _ = V m c main_arg3 _
  congr 1
  funext a
  apply Fin.ext
  match a with
  | ⟨0, _⟩ => show win0_3.index (pt t) 0 * 112 + 1 * p.val = 112 * t.val + p.val; rw [(hi (pt t)).1]; dsimp only; omega
  | ⟨1, _⟩ => show win0_3.index (pt t) 1 * 1024 + 1 * q.val = q.val; rw [(hi (pt t)).2]; omega

omit m in
/-- A sum of parts at an index. -/
theorem cast_apply (v : Vec Ideal S1x112x1024 .f32) (p : Fin 112) (q : Fin 1024) :
    shapeCast S112x1024 v shapeCasts_S1x112x1024_S112x1024 (ix2 p q) = v (ix3 0 p q) := shapeCast_1ab_ab_apply _ _ _ _

omit m in
/-- The gradient of a block at an index: its eight parts, added. -/
theorem grad_apply (x0 : Vec Ideal S8x112x1024 .f32) (x1 x2 x3 : Vec Ideal S112x1024 .f32) (p : Fin 112) (q : Fin 1024) : out0_4 x0 x1 x2 x3 (ix2 p q) = ∑ k : Fin 8, (x0 (ix3 k p q) : EReal) := by
  have hz : (![0, 0] : Fin 2 → Nat) = fun _ => 0 := funext fun a => by fin_cases a <;> rfl
  unfold out0_4
  rw [View.canon_unit_zero hz, Fin.sum_univ_eight]
  unfold k0_pay5 k0_pay3
  simp only [addf_apply]
  refine congrArg₂ (fun u v : EReal => u + v) (congrArg₂ (fun u v : EReal => u + v) (congrArg₂ (fun u v : EReal => u + v) (congrArg₂ (fun u v : EReal => u + v)
    (congrArg₂ (fun u v : EReal => u + v) (congrArg₂ (fun u v : EReal => u + v) (congrArg₂ (fun u v : EReal => u + v) ?_ ?_) ?_) ?_) ?_) ?_) ?_) ?_ <;>
  · refine (cast_apply _ p q).trans (congrArg x0 (funext fun a => Fin.ext ?_))
    match a with
    | ⟨0, _⟩ => rfl
    | ⟨1, _⟩ => show 0 + 1 * p.val = p.val; omega
    | ⟨2, _⟩ => show 0 + 1 * q.val = q.val; omega

omit m in
/-- The first average of a block at an index. -/
theorem first_apply (x0 : Vec Ideal S8x112x1024 .f32) (x1 x2 x3 : Vec Ideal S112x1024 .f32) (p : Fin 112) (q : Fin 1024) :
    out0_6 x0 x1 x2 x3 (ix2 p q) = Cert.Adam.first (out0_4 x0 x1 x2 x3 (ix2 p q)) (x2 (ix2 p q)) := by
  have hz : (![0, 0] : Fin 2 → Nat) = fun _ => 0 := funext fun a => by fin_cases a <;> rfl
  unfold out0_4 out0_6
  rw [View.canon_unit_zero hz, View.canon_unit_zero hz]
  unfold k0_pay6
  rw [View.ld_unit_zero (S := S112x1024) hz _ x2]
  rfl

omit m in
/-- The second average of a block at an index. -/
theorem second_apply (x0 : Vec Ideal S8x112x1024 .f32) (x1 x2 x3 : Vec Ideal S112x1024 .f32) (p : Fin 112) (q : Fin 1024) :
    out0_7 x0 x1 x2 x3 (ix2 p q) = Cert.Adam.second (out0_4 x0 x1 x2 x3 (ix2 p q)) (x3 (ix2 p q)) := by
  have hz : (![0, 0] : Fin 2 → Nat) = fun _ => 0 := funext fun a => by fin_cases a <;> rfl
  unfold out0_4 out0_7
  rw [View.canon_unit_zero hz, View.canon_unit_zero hz]
  rw [View.ld_unit_zero (S := S112x1024) hz _ x3]
  rfl

omit m in
/-- The weight's change of a block at an index. -/
theorem change_apply (x0 : Vec Ideal S8x112x1024 .f32) (x1 x2 x3 : Vec Ideal S112x1024 .f32) (p : Fin 112) (q : Fin 1024) :
    out0_5 x0 x1 x2 x3 (ix2 p q) = Cert.Adam.change (out0_4 x0 x1 x2 x3 (ix2 p q)) (x1 (ix2 p q)) (x2 (ix2 p q)) (x3 (ix2 p q)) := by
  have hz : (![0, 0] : Fin 2 → Nat) = fun _ => 0 := funext fun a => by fin_cases a <;> rfl
  unfold out0_4 out0_5
  rw [View.canon_unit_zero hz, View.canon_unit_zero hz]
  unfold k0_pay6
  rw [View.ld_unit_zero (S := S112x1024) hz _ x2, View.ld_unit_zero (S := S112x1024) hz _ x3, View.ld_unit_zero (S := S112x1024) hz _ x1]
  rfl

/-- The launch has one grid point, so no two of them meet in an output. -/
theorem apart (w : Fin cfg0.W) (t t' : Fin cfg0.N) (hne : t ≠ t') : Disjoint ((cfg0.win w).blk t).view.set ((cfg0.win w).blk t').view.set :=
  absurd ((by decide +kernel : ∀ t t' : Fin grid0.N, t = t') t t') hne

/-- What the one point writes back to an output is what the output holds there at the end. -/
theorem kept (c : Dev nD) (w : Fin cfg0.W) (t : Fin cfg0.N) (hf : (cfg0.win w).flush t = true) :
    ((cfg0.win w).blk t).view.read (Elt Ideal) ((dats m 0 c).arrAt w cfg0.N) = (dats m 0 c).flushed w t :=
  (dats m 0 c).read_blk_arrAt_eq_flushed w (fun t t' _ _ hne => apart w t t' hne) cfg0.N t t.isLt hf

/-- What a point writes back of the gradient. -/
theorem flushed4 (c : Dev nD) (t : Fin cfg0.N) :
    (dats m 0 c).flushed 4 t = (cfg0.win 4).cut (grid0.coords t) (out0_4 (iblk m c 0 t) (iblk m c 1 t) (iblk m c 2 t) (iblk m c 3 t)) := by
  show (cfg0.win 4).cut (grid0.coords t) ((dats m 0 c).after 4 t) = _
  rw [after0_4]

/-- What a point writes back of the change. -/
theorem flushed5 (c : Dev nD) (t : Fin cfg0.N) :
    (dats m 0 c).flushed 5 t = (cfg0.win 5).cut (grid0.coords t) (out0_5 (iblk m c 0 t) (iblk m c 1 t) (iblk m c 2 t) (iblk m c 3 t)) := by
  show (cfg0.win 5).cut (grid0.coords t) ((dats m 0 c).after 5 t) = _
  rw [after0_5]

/-- What a point writes back of the first average. -/
theorem flushed6 (c : Dev nD) (t : Fin cfg0.N) :
    (dats m 0 c).flushed 6 t = (cfg0.win 6).cut (grid0.coords t) (out0_6 (iblk m c 0 t) (iblk m c 1 t) (iblk m c 2 t) (iblk m c 3 t)) := by
  show (cfg0.win 6).cut (grid0.coords t) ((dats m 0 c).after 6 t) = _
  rw [after0_6]

/-- What a point writes back of the second average. -/
theorem flushed7 (c : Dev nD) (t : Fin cfg0.N) :
    (dats m 0 c).flushed 7 t = (cfg0.win 7).cut (grid0.coords t) (out0_7 (iblk m c 0 t) (iblk m c 1 t) (iblk m c 2 t) (iblk m c 3 t)) := by
  show (cfg0.win 7).cut (grid0.coords t) ((dats m 0 c).after 7 t) = _
  rw [after0_7]

/-- The gradient after the run, block by block. -/
theorem final_4 (c : Dev nD) (t : Fin 1) (p : Fin 112) (q : Fin 1024) :
    ((dats m 0 c).arrAt 4 cfg0.N : Vec Ideal S112x1024 .f32) (ix2 (row t p) q) = out0_4 (iblk m c 0 (pt t)) (iblk m c 1 (pt t)) (iblk m c 2 (pt t)) (iblk m c 3 (pt t)) (ix2 p q) := by
  have hi : ∀ t : Fin cfg0.N, win0_4.index t 0 = t.val ∧ win0_4.index t 1 = 0 :=
    (by decide +kernel : ∀ t : Fin grid0.N, win0_4.index t 0 = t.val ∧ win0_4.index t 1 = 0)
  have e := congrFun (kept m c 4 (pt t) (flush0_4 (pt t))) (ix2 p q : S112x1024.Idx)
  rw [flushed4, View.read_apply] at e
  refine Eq.trans (congrArg ((dats m 0 c).arrAt 4 cfg0.N) ?_) e
  funext a
  apply Fin.ext
  match a with
  | ⟨0, _⟩ => show 112 * t.val + p.val = win0_4.index (pt t) 0 * 112 + 1 * p.val; rw [(hi (pt t)).1]; dsimp only; omega
  | ⟨1, _⟩ => show q.val = win0_4.index (pt t) 1 * 1024 + 1 * q.val; rw [(hi (pt t)).2]; omega

/-- The weight's change after the run, block by block. -/
theorem final_5 (c : Dev nD) (t : Fin 1) (p : Fin 112) (q : Fin 1024) :
    ((dats m 0 c).arrAt 5 cfg0.N : Vec Ideal S112x1024 .f32) (ix2 (row t p) q) = out0_5 (iblk m c 0 (pt t)) (iblk m c 1 (pt t)) (iblk m c 2 (pt t)) (iblk m c 3 (pt t)) (ix2 p q) := by
  have hi : ∀ t : Fin cfg0.N, win0_5.index t 0 = t.val ∧ win0_5.index t 1 = 0 :=
    (by decide +kernel : ∀ t : Fin grid0.N, win0_5.index t 0 = t.val ∧ win0_5.index t 1 = 0)
  have e := congrFun (kept m c 5 (pt t) (flush0_5 (pt t))) (ix2 p q : S112x1024.Idx)
  rw [flushed5, View.read_apply] at e
  refine Eq.trans (congrArg ((dats m 0 c).arrAt 5 cfg0.N) ?_) e
  funext a
  apply Fin.ext
  match a with
  | ⟨0, _⟩ => show 112 * t.val + p.val = win0_5.index (pt t) 0 * 112 + 1 * p.val; rw [(hi (pt t)).1]; dsimp only; omega
  | ⟨1, _⟩ => show q.val = win0_5.index (pt t) 1 * 1024 + 1 * q.val; rw [(hi (pt t)).2]; omega

/-- The first average after the run, block by block. -/
theorem final_6 (c : Dev nD) (t : Fin 1) (p : Fin 112) (q : Fin 1024) :
    ((dats m 0 c).arrAt 6 cfg0.N : Vec Ideal S112x1024 .f32) (ix2 (row t p) q) = out0_6 (iblk m c 0 (pt t)) (iblk m c 1 (pt t)) (iblk m c 2 (pt t)) (iblk m c 3 (pt t)) (ix2 p q) := by
  have hi : ∀ t : Fin cfg0.N, win0_6.index t 0 = t.val ∧ win0_6.index t 1 = 0 :=
    (by decide +kernel : ∀ t : Fin grid0.N, win0_6.index t 0 = t.val ∧ win0_6.index t 1 = 0)
  have e := congrFun (kept m c 6 (pt t) (flush0_6 (pt t))) (ix2 p q : S112x1024.Idx)
  rw [flushed6, View.read_apply] at e
  refine Eq.trans (congrArg ((dats m 0 c).arrAt 6 cfg0.N) ?_) e
  funext a
  apply Fin.ext
  match a with
  | ⟨0, _⟩ => show 112 * t.val + p.val = win0_6.index (pt t) 0 * 112 + 1 * p.val; rw [(hi (pt t)).1]; dsimp only; omega
  | ⟨1, _⟩ => show q.val = win0_6.index (pt t) 1 * 1024 + 1 * q.val; rw [(hi (pt t)).2]; omega

/-- The second average after the run, block by block. -/
theorem final_7 (c : Dev nD) (t : Fin 1) (p : Fin 112) (q : Fin 1024) :
    ((dats m 0 c).arrAt 7 cfg0.N : Vec Ideal S112x1024 .f32) (ix2 (row t p) q) = out0_7 (iblk m c 0 (pt t)) (iblk m c 1 (pt t)) (iblk m c 2 (pt t)) (iblk m c 3 (pt t)) (ix2 p q) := by
  have hi : ∀ t : Fin cfg0.N, win0_7.index t 0 = t.val ∧ win0_7.index t 1 = 0 :=
    (by decide +kernel : ∀ t : Fin grid0.N, win0_7.index t 0 = t.val ∧ win0_7.index t 1 = 0)
  have e := congrFun (kept m c 7 (pt t) (flush0_7 (pt t))) (ix2 p q : S112x1024.Idx)
  rw [flushed7, View.read_apply] at e
  refine Eq.trans (congrArg ((dats m 0 c).arrAt 7 cfg0.N) ?_) e
  funext a
  apply Fin.ext
  match a with
  | ⟨0, _⟩ => show 112 * t.val + p.val = win0_7.index (pt t) 0 * 112 + 1 * p.val; rw [(hi (pt t)).1]; dsimp only; omega
  | ⟨1, _⟩ => show q.val = win0_7.index (pt t) 1 * 1024 + 1 * q.val; rw [(hi (pt t)).2]; omega

section
omit m

/-- The reference's gradient at an index: the parts, added. -/
theorem ref_grad (x0 : (⟨S8x112x1024, .f32⟩ : BufTy).Contents (Elt Ideal)) (u : Fin 112) (q : Fin 1024) : val_main_v0 (F := Ideal) x0 (ix2 u q) = ∑ k : Fin 8, (x0 (ix3 k u q) : EReal) := by
  rw [val_main_v0_apply, val_main_cst_apply]
  refine (congrArg (fun z : EReal => z + _) Cert.Adam.zero).trans ((zero_add _).trans (Finset.sum_congr rfl fun k _ => congrArg x0 (funext fun a => Fin.ext ?_)))
  match a with
  | ⟨0, _⟩ => rfl
  | ⟨1, _⟩ => rfl
  | ⟨2, _⟩ => rfl

/-- The reference's first average at an index. -/
theorem ref_first (x0 : (⟨S8x112x1024, .f32⟩ : BufTy).Contents (Elt Ideal)) (x2 : (⟨S112x1024, .f32⟩ : BufTy).Contents (Elt Ideal)) (i : S112x1024.Idx) :
    val_main_v5 (F := Ideal) x0 x2 i = Cert.Adam.first (val_main_v0 (F := Ideal) x0 i) (x2 i) := by
  rw [val_main_v5_apply, val_main_v2_apply, val_main_v4_apply, val_main_v1_apply, val_main_v3_apply, val_main_cst_0_apply, val_main_cst_1_apply]; rfl

/-- The reference's second average at an index. -/
theorem ref_second (x0 : (⟨S8x112x1024, .f32⟩ : BufTy).Contents (Elt Ideal)) (x3 : (⟨S112x1024, .f32⟩ : BufTy).Contents (Elt Ideal)) (i : S112x1024.Idx) :
    val_main_v11 (F := Ideal) x0 x3 i = Cert.Adam.second (val_main_v0 (F := Ideal) x0 i) (x3 i) := by
  rw [val_main_v11_apply, val_main_v7_apply, val_main_v10_apply, val_main_v8_apply, val_main_v6_apply, val_main_v9_apply, val_main_cst_2_apply, val_main_cst_3_apply]; rfl

/-- The reference's change at an index. -/
theorem ref_change (x0 : (⟨S8x112x1024, .f32⟩ : BufTy).Contents (Elt Ideal)) (x1 x2 x3 : (⟨S112x1024, .f32⟩ : BufTy).Contents (Elt Ideal)) (i : S112x1024.Idx) :
    val_main_v24 (F := Ideal) x0 x1 x2 x3 i = Cert.Adam.change (val_main_v0 (F := Ideal) x0 i) (x1 i) (x2 i) (x3 i) := by
  rw [val_main_v24_apply, val_main_v22_apply, val_main_v19_apply, val_main_v13_apply, val_main_v18_apply, val_main_v16_apply, val_main_v15_apply, val_main_v21_apply,
    ref_first, ref_second, val_main_v12_apply, val_main_v14_apply, val_main_v17_apply, val_main_v20_apply, val_main_v23_apply,
    val_main_cst_4_apply, val_main_cst_5_apply, val_main_cst_6_apply, val_main_cst_7_apply, val_main_cst_8_apply]; rfl

/-- Two arrays with the same entries, block by block, are the same. -/
theorem blocks_ext {f g : (⟨S112x1024, .f32⟩ : BufTy).Contents (Elt Ideal)} (h : ∀ (t : Fin 1) (p : Fin 112) (q : Fin 1024), f (ix2 (row t p) q) = g (ix2 (row t p) q)) : f = g := by
  funext i
  rw [ValueIdx.eq_ix2 i]
  generalize (i 1 : Fin 1024) = q
  generalize (i 0 : Fin 112) = u
  have hu : u.val < 112 := u.isLt
  have e : u = row ⟨u.val / 112, by omega⟩ ⟨u.val % 112, by omega⟩ := Fin.ext (by show u.val = 112 * (u.val / 112) + u.val % 112; omega)
  rw [e]
  exact h _ _ _

end

/-- The gradient of a block is the reference's. -/
theorem grad_eq (c : Dev nD) (t : Fin 1) (p : Fin 112) (q : Fin 1024) :
    out0_4 (iblk m c 0 (pt t)) (iblk m c 1 (pt t)) (iblk m c 2 (pt t)) (iblk m c 3 (pt t)) (ix2 p q)
      = val_main_v0 (F := Ideal) (m ((c.tc : Thread nD τ).loc main_arg0)) (ix2 (row t p) q) := by
  refine (grad_apply _ _ _ _ p q).trans ((Finset.sum_congr rfl fun k _ => ?_).trans (ref_grad _ _ q).symm)
  rw [blk0, V_main_arg0]

omit m in
/-- The change from equal entries is the same. -/
theorem congr4 {g g' w w' a a' b b' : Ideal .f32} (hg : g = g') (hw : w = w') (ha : a = a') (hb : b = b') : Cert.Adam.change g w a b = Cert.Adam.change g' w' a' b' := by
  rw [hg, hw, ha, hb]

/-- The kernel's gradient is the reference's. -/
theorem result_grad (c : Dev nD) : (dats m 0 c).arrAt 4 cfg0.N = val_main_v0 (F := Ideal) (m ((c.tc : Thread nD τ).loc main_arg0)) :=
  blocks_ext fun t p q => (final_4 m c t p q).trans (grad_eq m c t p q)

/-- The kernel's change is the reference's. -/
theorem result_change (c : Dev nD) : (dats m 0 c).arrAt 5 cfg0.N = val_main_v24 (F := Ideal) (m ((c.tc : Thread nD τ).loc main_arg0)) (m ((c.tc : Thread nD τ).loc main_arg1)) (m ((c.tc : Thread nD τ).loc main_arg2)) (m ((c.tc : Thread nD τ).loc main_arg3)) := by
  refine blocks_ext fun t p q => (final_5 m c t p q).trans ((change_apply _ _ _ _ p q).trans ((congr4 (grad_eq m c t p q) ?_ ?_ ?_).trans (ref_change _ _ _ _ _ ).symm))
  · exact (blk1 m c t p q).trans (by rw [V_main_arg1])
  · exact (blk2 m c t p q).trans (by rw [V_main_arg2])
  · exact (blk3 m c t p q).trans (by rw [V_main_arg3])

/-- The kernel's first average is the reference's. -/
theorem result_first (c : Dev nD) : (dats m 0 c).arrAt 6 cfg0.N = val_main_v5 (F := Ideal) (m ((c.tc : Thread nD τ).loc main_arg0)) (m ((c.tc : Thread nD τ).loc main_arg2)) := by
  refine blocks_ext fun t p q => (final_6 m c t p q).trans ((first_apply _ _ _ _ p q).trans ((congrArg₂ Cert.Adam.first (grad_eq m c t p q) ?_).trans (ref_first _ _ _ ).symm))
  · exact (blk2 m c t p q).trans (by rw [V_main_arg2])

/-- The kernel's second average is the reference's. -/
theorem result_second (c : Dev nD) : (dats m 0 c).arrAt 7 cfg0.N = val_main_v11 (F := Ideal) (m ((c.tc : Thread nD τ).loc main_arg0)) (m ((c.tc : Thread nD τ).loc main_arg3)) := by
  refine blocks_ext fun t p q => (final_7 m c t p q).trans ((second_apply _ _ _ _ p q).trans ((congrArg₂ Cert.Adam.second (grad_eq m c t p q) ?_).trans (ref_second _ _ _ ).symm))
  · exact (blk3 m c t p q).trans (by rw [V_main_arg3])

/-- The loss after the run: one row of the added gradients, summed. -/
theorem result_loss (c : Dev nD) : Pipeline.afterTail₀ cfgs (dats m) 0 (V0 m) [hostOps1] c main_v3 = val_main_v27 (F := Ideal) (m ((c.tc : Thread nD τ).loc main_arg0)) := by
  have e : Pipeline.withArrays spec0 c (V0 m c) (fun w => (dats m 0 c).arrAt w cfg0.N) (Proc.devRef .tc (Pipeline.arrRef spec0 4)) = (dats m 0 c).arrAt 4 cfg0.N :=
    Pipeline.withArrays_arr spec0 launch0.win.arr_inj c (V0 m c) (fun w => (dats m 0 c).arrAt w cfg0.N) 4
  have e' : Pipeline.withArrays spec0 c (V0 m c) (fun w => (dats m 0 c).arrAt w cfg0.N) (Proc.devRef .tc main_v0_0) = val_main_v0 (F := Ideal) (m ((c.tc : Thread nD τ).loc main_arg0)) :=
    e.trans (result_grad m c)
  show StableHlo.after hostOps1 (Pipeline.withArrays spec0 c (V0 m c) fun w => (dats m 0 c).arrAt w cfg0.N) (Proc.devRef .tc main_v3) = _
  after_results_simp
  rw [e']
  rfl

/-- The run of the kernel's program: its outputs by name, the loss, and its arguments as they were. -/
theorem run (ρ : Dev nD → PrngReg) : θ_run defs (onTc (τ := τ) (main (F := Ideal))) ⟨m, fun _ => 0, ρ⟩ fun r => ∀ c : Dev nD,
      r.2.mem ((c.tc : Thread nD τ).loc main_v0_0) = (dats m 0 c).arrAt 4 cfg0.N
      ∧ r.2.mem ((c.tc : Thread nD τ).loc main_v0_1) = (dats m 0 c).arrAt 5 cfg0.N
      ∧ r.2.mem ((c.tc : Thread nD τ).loc main_v0_2) = (dats m 0 c).arrAt 6 cfg0.N
      ∧ r.2.mem ((c.tc : Thread nD τ).loc main_v0_3) = (dats m 0 c).arrAt 7 cfg0.N
      ∧ r.2.mem ((c.tc : Thread nD τ).loc main_v3) = val_main_v27 (F := Ideal) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1 4, (h c).1 5, (h c).1 6, (h c).1 7, ((h c).2 main_v3 (by decide)).trans (result_loss m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (Gen.run_main m ρ)

/-- The kernel's and the reference's results are the same arrays. -/
theorem algebraic : Cert.algebraic_KernelSmallIdeal_ReferenceSmallIdeal := by
  intro m ρ m' ρ' hpre hagree
  refine ⟨_, _, _, _, _, run m ρ, ?_⟩
  refine (θ_run Cert.ReferenceSmallIdeal.defs _ _).mono (fun r h c => ?_) (Cert.ReferenceSmallIdeal.Value.run (F := Ideal) m' ρ')
  obtain ⟨r0, r1, r2, r3, r4, rest⟩ := h c
  obtain ⟨e0, e1, e2, e3⟩ := hagree c
  refine ⟨(r0.trans (val_main_v0_eq _)).trans (Eq.trans ?_ (result_grad m c).symm), (r1.trans (val_main_v24_eq _ _ _ _)).trans (Eq.trans ?_ (result_change m c).symm),
    (r2.trans (val_main_v5_eq _ _)).trans (Eq.trans ?_ (result_first m c).symm), (r3.trans (val_main_v11_eq _ _)).trans (Eq.trans ?_ (result_second m c).symm), r4.trans ?_, rest⟩
  · exact congrArg (val_main_v0 (F := Ideal)) e0
  · exact (congrArg (fun z => val_main_v24 (F := Ideal) z _ _ _) e0).trans ((congrArg (fun z => val_main_v24 (F := Ideal) _ z _ _) e1).trans
      ((congrArg (fun z => val_main_v24 (F := Ideal) _ _ z _) e2).trans (congrArg (fun z => val_main_v24 (F := Ideal) _ _ _ z) e3)))
  · exact congrArg₂ (val_main_v5 (F := Ideal)) e0 e2
  · exact congrArg₂ (val_main_v11 (F := Ideal)) e0 e3
  · exact congrArg (val_main_v27 (F := Ideal)) e0

/-- The reference runs, and leaves its arguments and its semaphores as they were. -/
theorem quiescent_reference : Cert.quiescent_ReferenceSmallIdeal := fun m ρ _ =>
  (θ_run Cert.ReferenceSmallIdeal.defs _ _).mono (fun r h => ⟨fun c => (h c).2.2.2.2.2, Idealize.ShloMosaic.sem_eq_zero_of_no_sems (by decide) r.2⟩)
    (Cert.ReferenceSmallIdeal.Value.run (F := Ideal) m ρ)

end Cert.KernelSmallIdeal.Points

end
-- ==== Proof.AdamMod.lean ====
/-
  The optimiser's step on the modulation's weights: the devices' gradients are added and every entry is moved. Each result is, entry by entry, the
  reference's.
-/
module

public import proofs.«01_k».proof.Proof.Gen.KernelModIdeal.Value
public import proofs.«01_k».proof.Proof.Gen.ReferenceModIdeal.Run
public import proofs.«01_k».proof.Proof.Gen.ReferenceModIdeal.Read
public import proofs.«01_k».proof.Proof.Adam
public import proofs.«01_k».proof.Defs
public import Idealize.ShloMosaic.Lib.Pointwise.Reshape
public import Idealize.ShloMosaic.Lib.Pointwise.ShapeOpsCore
public import Idealize.ShloMosaic.Lib.Pointwise.Contract
public import Idealize.ShloMosaic.Lib.Pointwise.Tactic
public import Idealize.ShloMosaic.Lib.ValueLayout

@[expose] public section

noncomputable section

namespace Cert.KernelModIdeal.Points

open Cert.KernelModIdeal Cert.KernelModIdeal.Gen Cert.KernelModIdeal.Value Idealize.ShloMosaic.TcCoe Idealize.SL.Sem
open Idealize.ShloMosaic.ValueIdx
open Idealize.ShloMosaic hiding ix0 ix1 ix2 ix3 ix4 ix5
open Cert.ReferenceModIdeal.Read

variable (m : (ℓ : Loc nD τ sig) → Buf (Elt Ideal) ℓ)

/-- The grid point of the block `t`. -/
abbrev pt (t : Fin 16) : Fin cfg0.N := ⟨t.val, by rw [show cfg0.N = 16 from N_0]; exact t.isLt⟩
/-- The row at the place `p` of the block `t`. -/
abbrev row (t : Fin 16) (p : Fin 256) : Fin 4096 := ⟨256 * t.val + p.val, by omega⟩

/-- Window 0 reads a block of the devices' gradients. -/
theorem blk0 (c : Dev nD) (t : Fin 16) (k : Fin 1) (p : Fin 256) (q : Fin 768) :
    (iblk m c 0 (pt t) : Vec Ideal S1x256x768 .f32) (ix3 k p q) = V m c main_arg0 (ix3 k (row t p) q) := by
  have hi : ∀ t : Fin cfg0.N, win0_0.index t 0 = 0 ∧ win0_0.index t 1 = t.val ∧ win0_0.index t 2 = 0 :=
    (by decide +kernel : ∀ t : Fin grid0.N, win0_0.index t 0 = 0 ∧ win0_0.index t 1 = t.val ∧ win0_0.index t 2 = 0)
  unfold iblk
  rw [View.read_apply]
  show V m c main_arg0 _ = V m c main_arg0 _
  congr 1
  funext a
  apply Fin.ext
  match a with
  | ⟨0, _⟩ => show win0_0.index (pt t) 0 * 1 + 1 * k.val = k.val; rw [(hi (pt t)).1]; omega
  | ⟨1, _⟩ => show win0_0.index (pt t) 1 * 256 + 1 * p.val = 256 * t.val + p.val; rw [(hi (pt t)).2.1]; dsimp only; omega
  | ⟨2, _⟩ => show win0_0.index (pt t) 2 * 768 + 1 * q.val = q.val; rw [(hi (pt t)).2.2]; omega

/-- Window 1 reads a block of the weight. -/
theorem blk1 (c : Dev nD) (t : Fin 16) (p : Fin 256) (q : Fin 768) :
    (iblk m c 1 (pt t) : Vec Ideal S256x768 .f32) (ix2 p q) = V m c main_arg1 (ix2 (row t p) q) := by
  have hi : ∀ t : Fin cfg0.N, win0_1.index t 0 = t.val ∧ win0_1.index t 1 = 0 :=
    (by decide +kernel : ∀ t : Fin grid0.N, win0_1.index t 0 = t.val ∧ win0_1.index t 1 = 0)
  unfold iblk
  rw [View.read_apply]
  show V m c main_arg1 _ = V m c main_arg1 _
  congr 1
  funext a
  apply Fin.ext
  match a with
  | ⟨0, _⟩ => show win0_1.index (pt t) 0 * 256 + 1 * p.val = 256 * t.val + p.val; rw [(hi (pt t)).1]; dsimp only; omega
  | ⟨1, _⟩ => show win0_1.index (pt t) 1 * 768 + 1 * q.val = q.val; rw [(hi (pt t)).2]; omega

/-- Window 2 reads a block of the first average. -/
theorem blk2 (c : Dev nD) (t : Fin 16) (p : Fin 256) (q : Fin 768) :
    (iblk m c 2 (pt t) : Vec Ideal S256x768 .f32) (ix2 p q) = V m c main_arg2 (ix2 (row t p) q) := by
  have hi : ∀ t : Fin cfg0.N, win0_2.index t 0 = t.val ∧ win0_2.index t 1 = 0 :=
    (by decide +kernel : ∀ t : Fin grid0.N, win0_2.index t 0 = t.val ∧ win0_2.index t 1 = 0)
  unfold iblk
  rw [View.read_apply]
  show V m c main_arg2 _ = V m c main_arg2 _
  congr 1
  funext a
  apply Fin.ext
  match a with
  | ⟨0, _⟩ => show win0_2.index (pt t) 0 * 256 + 1 * p.val = 256 * t.val + p.val; rw [(hi (pt t)).1]; dsimp only; omega
  | ⟨1, _⟩ => show win0_2.index (pt t) 1 * 768 + 1 * q.val = q.val; rw [(hi (pt t)).2]; omega

/-- Window 3 reads a block of the second average. -/
theorem blk3 (c : Dev nD) (t : Fin 16) (p : Fin 256) (q : Fin 768) :
    (iblk m c 3 (pt t) : Vec Ideal S256x768 .f32) (ix2 p q) = V m c main_arg3 (ix2 (row t p) q) := by
  have hi : ∀ t : Fin cfg0.N, win0_3.index t 0 = t.val ∧ win0_3.index t 1 = 0 :=
    (by decide +kernel : ∀ t : Fin grid0.N, win0_3.index t 0 = t.val ∧ win0_3.index t 1 = 0)
  unfold iblk
  rw [View.read_apply]
  show V m c main_arg3 _ = V m c main_arg3 _
  congr 1
  funext a
  apply Fin.ext
  match a with
  | ⟨0, _⟩ => show win0_3.index (pt t) 0 * 256 + 1 * p.val = 256 * t.val + p.val; rw [(hi (pt t)).1]; dsimp only; omega
  | ⟨1, _⟩ => show win0_3.index (pt t) 1 * 768 + 1 * q.val = q.val; rw [(hi (pt t)).2]; omega

omit m in
/-- A sum of parts at an index. -/
theorem cast_apply (v : Vec Ideal S1x256x768 .f32) (p : Fin 256) (q : Fin 768) :
    shapeCast S256x768 v shapeCasts_S1x256x768_S256x768 (ix2 p q) = v (ix3 0 p q) := shapeCast_1ab_ab_apply _ _ _ _

omit m in
/-- The gradient of a block at an index: its one part. -/
theorem grad_apply (x0 : Vec Ideal S1x256x768 .f32) (x1 x2 x3 : Vec Ideal S256x768 .f32) (p : Fin 256) (q : Fin 768) : out0_4 x0 x1 x2 x3 (ix2 p q) = ∑ k : Fin 1, (x0 (ix3 k p q) : EReal) := by
  have hz : (![0, 0] : Fin 2 → Nat) = fun _ => 0 := funext fun a => by fin_cases a <;> rfl
  have hz3 : (![0, 0, 0] : Fin 3 → Nat) = fun _ => 0 := funext fun a => by fin_cases a <;> rfl
  rw [Fin.sum_univ_one]
  unfold out0_4
  rw [View.canon_unit_zero hz, View.ld_unit_zero (S := S1x256x768) hz3 _ x0]
  exact cast_apply x0 p q

omit m in
/-- The first average of a block at an index. -/
theorem first_apply (x0 : Vec Ideal S1x256x768 .f32) (x1 x2 x3 : Vec Ideal S256x768 .f32) (p : Fin 256) (q : Fin 768) :
    out0_6 x0 x1 x2 x3 (ix2 p q) = Cert.Adam.first (out0_4 x0 x1 x2 x3 (ix2 p q)) (x2 (ix2 p q)) := by
  have hz : (![0, 0] : Fin 2 → Nat) = fun _ => 0 := funext fun a => by fin_cases a <;> rfl
  unfold out0_4 out0_6
  rw [View.canon_unit_zero hz, View.canon_unit_zero hz]
  rw [View.ld_unit_zero (S := S256x768) hz _ x2]
  rfl

omit m in
/-- The second average of a block at an index. -/
theorem second_apply (x0 : Vec Ideal S1x256x768 .f32) (x1 x2 x3 : Vec Ideal S256x768 .f32) (p : Fin 256) (q : Fin 768) :
    out0_7 x0 x1 x2 x3 (ix2 p q) = Cert.Adam.second (out0_4 x0 x1 x2 x3 (ix2 p q)) (x3 (ix2 p q)) := by
  have hz : (![0, 0] : Fin 2 → Nat) = fun _ => 0 := funext fun a => by fin_cases a <;> rfl
  unfold out0_4 out0_7
  rw [View.canon_unit_zero hz, View.canon_unit_zero hz]
  rw [View.ld_unit_zero (S := S256x768) hz _ x3]
  rfl

omit m in
/-- The weight's change of a block at an index. -/
theorem change_apply (x0 : Vec Ideal S1x256x768 .f32) (x1 x2 x3 : Vec Ideal S256x768 .f32) (p : Fin 256) (q : Fin 768) :
    out0_5 x0 x1 x2 x3 (ix2 p q) = Cert.Adam.change (out0_4 x0 x1 x2 x3 (ix2 p q)) (x1 (ix2 p q)) (x2 (ix2 p q)) (x3 (ix2 p q)) := by
  have hz : (![0, 0] : Fin 2 → Nat) = fun _ => 0 := funext fun a => by fin_cases a <;> rfl
  unfold out0_4 out0_5
  rw [View.canon_unit_zero hz, View.canon_unit_zero hz]
  rw [View.ld_unit_zero (S := S256x768) hz _ x2, View.ld_unit_zero (S := S256x768) hz _ x3, View.ld_unit_zero (S := S256x768) hz _ x1]
  rfl

/-- The gradient after the run, block by block. -/
theorem final_4 (c : Dev nD) (t : Fin 16) (p : Fin 256) (q : Fin 768) :
    ((dats m 0 c).arrAt 4 cfg0.N : Vec Ideal S4096x768 .f32) (ix2 (row t p) q) = out0_4 (iblk m c 0 (pt t)) (iblk m c 1 (pt t)) (iblk m c 2 (pt t)) (iblk m c 3 (pt t)) (ix2 p q) := by
  have hi : ∀ t : Fin cfg0.N, win0_4.index t 0 = t.val ∧ win0_4.index t 1 = 0 :=
    (by decide +kernel : ∀ t : Fin grid0.N, win0_4.index t 0 = t.val ∧ win0_4.index t 1 = 0)
  have e := congrFun (blocks4 m c (pt t) (flush0_4 (pt t))) (ix2 p q : S256x768.Idx)
  rw [flushed4, View.read_apply] at e
  refine Eq.trans (congrArg ((dats m 0 c).arrAt 4 cfg0.N) ?_) e
  funext a
  apply Fin.ext
  match a with
  | ⟨0, _⟩ => show 256 * t.val + p.val = win0_4.index (pt t) 0 * 256 + 1 * p.val; rw [(hi (pt t)).1]; dsimp only; omega
  | ⟨1, _⟩ => show q.val = win0_4.index (pt t) 1 * 768 + 1 * q.val; rw [(hi (pt t)).2]; omega

/-- The weight's change after the run, block by block. -/
theorem final_5 (c : Dev nD) (t : Fin 16) (p : Fin 256) (q : Fin 768) :
    ((dats m 0 c).arrAt 5 cfg0.N : Vec Ideal S4096x768 .f32) (ix2 (row t p) q) = out0_5 (iblk m c 0 (pt t)) (iblk m c 1 (pt t)) (iblk m c 2 (pt t)) (iblk m c 3 (pt t)) (ix2 p q) := by
  have hi : ∀ t : Fin cfg0.N, win0_5.index t 0 = t.val ∧ win0_5.index t 1 = 0 :=
    (by decide +kernel : ∀ t : Fin grid0.N, win0_5.index t 0 = t.val ∧ win0_5.index t 1 = 0)
  have e := congrFun (blocks5 m c (pt t) (flush0_5 (pt t))) (ix2 p q : S256x768.Idx)
  rw [flushed5, View.read_apply] at e
  refine Eq.trans (congrArg ((dats m 0 c).arrAt 5 cfg0.N) ?_) e
  funext a
  apply Fin.ext
  match a with
  | ⟨0, _⟩ => show 256 * t.val + p.val = win0_5.index (pt t) 0 * 256 + 1 * p.val; rw [(hi (pt t)).1]; dsimp only; omega
  | ⟨1, _⟩ => show q.val = win0_5.index (pt t) 1 * 768 + 1 * q.val; rw [(hi (pt t)).2]; omega

/-- The first average after the run, block by block. -/
theorem final_6 (c : Dev nD) (t : Fin 16) (p : Fin 256) (q : Fin 768) :
    ((dats m 0 c).arrAt 6 cfg0.N : Vec Ideal S4096x768 .f32) (ix2 (row t p) q) = out0_6 (iblk m c 0 (pt t)) (iblk m c 1 (pt t)) (iblk m c 2 (pt t)) (iblk m c 3 (pt t)) (ix2 p q) := by
  have hi : ∀ t : Fin cfg0.N, win0_6.index t 0 = t.val ∧ win0_6.index t 1 = 0 :=
    (by decide +kernel : ∀ t : Fin grid0.N, win0_6.index t 0 = t.val ∧ win0_6.index t 1 = 0)
  have e := congrFun (blocks6 m c (pt t) (flush0_6 (pt t))) (ix2 p q : S256x768.Idx)
  rw [flushed6, View.read_apply] at e
  refine Eq.trans (congrArg ((dats m 0 c).arrAt 6 cfg0.N) ?_) e
  funext a
  apply Fin.ext
  match a with
  | ⟨0, _⟩ => show 256 * t.val + p.val = win0_6.index (pt t) 0 * 256 + 1 * p.val; rw [(hi (pt t)).1]; dsimp only; omega
  | ⟨1, _⟩ => show q.val = win0_6.index (pt t) 1 * 768 + 1 * q.val; rw [(hi (pt t)).2]; omega

/-- The second average after the run, block by block. -/
theorem final_7 (c : Dev nD) (t : Fin 16) (p : Fin 256) (q : Fin 768) :
    ((dats m 0 c).arrAt 7 cfg0.N : Vec Ideal S4096x768 .f32) (ix2 (row t p) q) = out0_7 (iblk m c 0 (pt t)) (iblk m c 1 (pt t)) (iblk m c 2 (pt t)) (iblk m c 3 (pt t)) (ix2 p q) := by
  have hi : ∀ t : Fin cfg0.N, win0_7.index t 0 = t.val ∧ win0_7.index t 1 = 0 :=
    (by decide +kernel : ∀ t : Fin grid0.N, win0_7.index t 0 = t.val ∧ win0_7.index t 1 = 0)
  have e := congrFun (blocks7 m c (pt t) (flush0_7 (pt t))) (ix2 p q : S256x768.Idx)
  rw [flushed7, View.read_apply] at e
  refine Eq.trans (congrArg ((dats m 0 c).arrAt 7 cfg0.N) ?_) e
  funext a
  apply Fin.ext
  match a with
  | ⟨0, _⟩ => show 256 * t.val + p.val = win0_7.index (pt t) 0 * 256 + 1 * p.val; rw [(hi (pt t)).1]; dsimp only; omega
  | ⟨1, _⟩ => show q.val = win0_7.index (pt t) 1 * 768 + 1 * q.val; rw [(hi (pt t)).2]; omega

section
omit m

/-- The reference's gradient at an index: the parts, added. -/
theorem ref_grad (x0 : (⟨S1x4096x768, .f32⟩ : BufTy).Contents (Elt Ideal)) (u : Fin 4096) (q : Fin 768) : val_main_v0 (F := Ideal) x0 (ix2 u q) = ∑ k : Fin 1, (x0 (ix3 k u q) : EReal) := by
  rw [val_main_v0_apply, val_main_cst_apply]
  refine (congrArg (fun z : EReal => z + _) Cert.Adam.zero).trans ((zero_add _).trans (Finset.sum_congr rfl fun k _ => congrArg x0 (funext fun a => Fin.ext ?_)))
  match a with
  | ⟨0, _⟩ => rfl
  | ⟨1, _⟩ => rfl
  | ⟨2, _⟩ => rfl

/-- The reference's first average at an index. -/
theorem ref_first (x0 : (⟨S1x4096x768, .f32⟩ : BufTy).Contents (Elt Ideal)) (x2 : (⟨S4096x768, .f32⟩ : BufTy).Contents (Elt Ideal)) (i : S4096x768.Idx) :
    val_main_v5 (F := Ideal) x0 x2 i = Cert.Adam.first (val_main_v0 (F := Ideal) x0 i) (x2 i) := by
  rw [val_main_v5_apply, val_main_v2_apply, val_main_v4_apply, val_main_v1_apply, val_main_v3_apply, val_main_cst_0_apply, val_main_cst_1_apply]; rfl

/-- The reference's second average at an index. -/
theorem ref_second (x0 : (⟨S1x4096x768, .f32⟩ : BufTy).Contents (Elt Ideal)) (x3 : (⟨S4096x768, .f32⟩ : BufTy).Contents (Elt Ideal)) (i : S4096x768.Idx) :
    val_main_v11 (F := Ideal) x0 x3 i = Cert.Adam.second (val_main_v0 (F := Ideal) x0 i) (x3 i) := by
  rw [val_main_v11_apply, val_main_v7_apply, val_main_v10_apply, val_main_v8_apply, val_main_v6_apply, val_main_v9_apply, val_main_cst_2_apply, val_main_cst_3_apply]; rfl

/-- The reference's change at an index. -/
theorem ref_change (x0 : (⟨S1x4096x768, .f32⟩ : BufTy).Contents (Elt Ideal)) (x1 x2 x3 : (⟨S4096x768, .f32⟩ : BufTy).Contents (Elt Ideal)) (i : S4096x768.Idx) :
    val_main_v24 (F := Ideal) x0 x1 x2 x3 i = Cert.Adam.change (val_main_v0 (F := Ideal) x0 i) (x1 i) (x2 i) (x3 i) := by
  rw [val_main_v24_apply, val_main_v22_apply, val_main_v19_apply, val_main_v13_apply, val_main_v18_apply, val_main_v16_apply, val_main_v15_apply, val_main_v21_apply,
    ref_first, ref_second, val_main_v12_apply, val_main_v14_apply, val_main_v17_apply, val_main_v20_apply, val_main_v23_apply,
    val_main_cst_4_apply, val_main_cst_5_apply, val_main_cst_6_apply, val_main_cst_7_apply, val_main_cst_8_apply]; rfl

/-- Two arrays with the same entries, block by block, are the same. -/
theorem blocks_ext {f g : (⟨S4096x768, .f32⟩ : BufTy).Contents (Elt Ideal)} (h : ∀ (t : Fin 16) (p : Fin 256) (q : Fin 768), f (ix2 (row t p) q) = g (ix2 (row t p) q)) : f = g := by
  funext i
  rw [ValueIdx.eq_ix2 i]
  generalize (i 1 : Fin 768) = q
  generalize (i 0 : Fin 4096) = u
  have hu : u.val < 4096 := u.isLt
  have e : u = row ⟨u.val / 256, by omega⟩ ⟨u.val % 256, by omega⟩ := Fin.ext (by show u.val = 256 * (u.val / 256) + u.val % 256; omega)
  rw [e]
  exact h _ _ _

end

/-- The gradient of a block is the reference's. -/
theorem grad_eq (c : Dev nD) (t : Fin 16) (p : Fin 256) (q : Fin 768) :
    out0_4 (iblk m c 0 (pt t)) (iblk m c 1 (pt t)) (iblk m c 2 (pt t)) (iblk m c 3 (pt t)) (ix2 p q)
      = val_main_v0 (F := Ideal) (m ((c.tc : Thread nD τ).loc main_arg0)) (ix2 (row t p) q) := by
  refine (grad_apply _ _ _ _ p q).trans ((Finset.sum_congr rfl fun k _ => ?_).trans (ref_grad _ _ q).symm)
  rw [blk0, V_main_arg0]

omit m in
/-- The change from equal entries is the same. -/
theorem congr4 {g g' w w' a a' b b' : Ideal .f32} (hg : g = g') (hw : w = w') (ha : a = a') (hb : b = b') : Cert.Adam.change g w a b = Cert.Adam.change g' w' a' b' := by
  rw [hg, hw, ha, hb]

/-- The kernel's gradient is the reference's. -/
theorem result_grad (c : Dev nD) : (dats m 0 c).arrAt 4 cfg0.N = val_main_v0 (F := Ideal) (m ((c.tc : Thread nD τ).loc main_arg0)) :=
  blocks_ext fun t p q => (final_4 m c t p q).trans (grad_eq m c t p q)

/-- The kernel's change is the reference's. -/
theorem result_change (c : Dev nD) : (dats m 0 c).arrAt 5 cfg0.N = val_main_v24 (F := Ideal) (m ((c.tc : Thread nD τ).loc main_arg0)) (m ((c.tc : Thread nD τ).loc main_arg1)) (m ((c.tc : Thread nD τ).loc main_arg2)) (m ((c.tc : Thread nD τ).loc main_arg3)) := by
  refine blocks_ext fun t p q => (final_5 m c t p q).trans ((change_apply _ _ _ _ p q).trans ((congr4 (grad_eq m c t p q) ?_ ?_ ?_).trans (ref_change _ _ _ _ _ ).symm))
  · exact (blk1 m c t p q).trans (by rw [V_main_arg1])
  · exact (blk2 m c t p q).trans (by rw [V_main_arg2])
  · exact (blk3 m c t p q).trans (by rw [V_main_arg3])

/-- The kernel's first average is the reference's. -/
theorem result_first (c : Dev nD) : (dats m 0 c).arrAt 6 cfg0.N = val_main_v5 (F := Ideal) (m ((c.tc : Thread nD τ).loc main_arg0)) (m ((c.tc : Thread nD τ).loc main_arg2)) := by
  refine blocks_ext fun t p q => (final_6 m c t p q).trans ((first_apply _ _ _ _ p q).trans ((congrArg₂ Cert.Adam.first (grad_eq m c t p q) ?_).trans (ref_first _ _ _ ).symm))
  · exact (blk2 m c t p q).trans (by rw [V_main_arg2])

/-- The kernel's second average is the reference's. -/
theorem result_second (c : Dev nD) : (dats m 0 c).arrAt 7 cfg0.N = val_main_v11 (F := Ideal) (m ((c.tc : Thread nD τ).loc main_arg0)) (m ((c.tc : Thread nD τ).loc main_arg3)) := by
  refine blocks_ext fun t p q => (final_7 m c t p q).trans ((second_apply _ _ _ _ p q).trans ((congrArg₂ Cert.Adam.second (grad_eq m c t p q) ?_).trans (ref_second _ _ _ ).symm))
  · exact (blk3 m c t p q).trans (by rw [V_main_arg3])

/-- The kernel's and the reference's results are the same arrays. -/
theorem algebraic : Cert.algebraic_KernelModIdeal_ReferenceModIdeal := by
  intro m ρ m' ρ' hpre hagree
  refine ⟨_, _, _, _, Cert.KernelModIdeal.Value.run_blocks m ρ, ?_⟩
  refine (θ_run Cert.ReferenceModIdeal.defs _ _).mono (fun r h c => ?_) (Cert.ReferenceModIdeal.Value.run (F := Ideal) m' ρ')
  obtain ⟨r0, r1, r2, r3, rest⟩ := h c
  obtain ⟨e0, e1, e2, e3⟩ := hagree c
  refine ⟨(r0.trans (val_main_v0_eq _)).trans (Eq.trans ?_ (result_grad m c).symm), (r1.trans (val_main_v24_eq _ _ _ _)).trans (Eq.trans ?_ (result_change m c).symm),
    (r2.trans (val_main_v5_eq _ _)).trans (Eq.trans ?_ (result_first m c).symm), (r3.trans (val_main_v11_eq _ _)).trans (Eq.trans ?_ (result_second m c).symm), rest⟩
  · exact congrArg (val_main_v0 (F := Ideal)) e0
  · exact (congrArg (fun z => val_main_v24 (F := Ideal) z _ _ _) e0).trans ((congrArg (fun z => val_main_v24 (F := Ideal) _ z _ _) e1).trans
      ((congrArg (fun z => val_main_v24 (F := Ideal) _ _ z _) e2).trans (congrArg (fun z => val_main_v24 (F := Ideal) _ _ _ z) e3)))
  · exact congrArg₂ (val_main_v5 (F := Ideal)) e0 e2
  · exact congrArg₂ (val_main_v11 (F := Ideal)) e0 e3

/-- The reference runs, and leaves its arguments and its semaphores as they were. -/
theorem quiescent_reference : Cert.quiescent_ReferenceModIdeal := fun m ρ _ =>
  (θ_run Cert.ReferenceModIdeal.defs _ _).mono (fun r h => ⟨fun c => (h c).2.2.2.2, Idealize.ShloMosaic.sem_eq_zero_of_no_sems (by decide) r.2⟩)
    (Cert.ReferenceModIdeal.Value.run (F := Ideal) m ρ)

end Cert.KernelModIdeal.Points

end
-- ==== Proof.AdamConv.lean ====
/-
  The optimiser's step on the convolution's weights: the devices' gradients are added and every entry is moved. Each result is, entry by entry, the
  reference's.
-/
module

public import proofs.«01_k».proof.Proof.Gen.KernelConvIdeal.Value
public import proofs.«01_k».proof.Proof.Gen.ReferenceConvIdeal.Run
public import proofs.«01_k».proof.Proof.Gen.ReferenceConvIdeal.Read
public import proofs.«01_k».proof.Proof.Adam
public import proofs.«01_k».proof.Defs
public import Idealize.ShloMosaic.Lib.Pointwise.Reshape
public import Idealize.ShloMosaic.Lib.Pointwise.ShapeOpsCore
public import Idealize.ShloMosaic.Lib.Pointwise.Contract
public import Idealize.ShloMosaic.Lib.Pointwise.Tactic
public import Idealize.ShloMosaic.Lib.ValueLayout

@[expose] public section

noncomputable section

namespace Cert.KernelConvIdeal.Points

open Cert.KernelConvIdeal Cert.KernelConvIdeal.Gen Cert.KernelConvIdeal.Value Idealize.ShloMosaic.TcCoe Idealize.SL.Sem
open Idealize.ShloMosaic.ValueIdx
open Idealize.ShloMosaic hiding ix0 ix1 ix2 ix3 ix4 ix5
open Cert.ReferenceConvIdeal.Read

variable (m : (ℓ : Loc nD τ sig) → Buf (Elt Ideal) ℓ)

/-- The grid point of the block `t`. -/
abbrev pt (t : Fin 1) : Fin cfg0.N := ⟨t.val, by rw [show cfg0.N = 1 from N_0]; exact t.isLt⟩
/-- The row at the place `p` of the block `t`. -/
abbrev row (t : Fin 1) (p : Fin 8) : Fin 8 := ⟨8 * t.val + p.val, by omega⟩

/-- Window 0 reads a block of the devices' gradients. -/
theorem blk0 (c : Dev nD) (t : Fin 1) (k : Fin 8) (p : Fin 8) (q : Fin 128) :
    (iblk m c 0 (pt t) : Vec Ideal S8x8x128 .f32) (ix3 k p q) = V m c main_arg0 (ix3 k (row t p) q) := by
  have hi : ∀ t : Fin cfg0.N, win0_0.index t 0 = 0 ∧ win0_0.index t 1 = t.val ∧ win0_0.index t 2 = 0 :=
    (by decide +kernel : ∀ t : Fin grid0.N, win0_0.index t 0 = 0 ∧ win0_0.index t 1 = t.val ∧ win0_0.index t 2 = 0)
  unfold iblk
  rw [View.read_apply]
  show V m c main_arg0 _ = V m c main_arg0 _
  congr 1
  funext a
  apply Fin.ext
  match a with
  | ⟨0, _⟩ => show win0_0.index (pt t) 0 * 8 + 1 * k.val = k.val; rw [(hi (pt t)).1]; omega
  | ⟨1, _⟩ => show win0_0.index (pt t) 1 * 8 + 1 * p.val = 8 * t.val + p.val; rw [(hi (pt t)).2.1]; dsimp only; omega
  | ⟨2, _⟩ => show win0_0.index (pt t) 2 * 128 + 1 * q.val = q.val; rw [(hi (pt t)).2.2]; omega

/-- Window 1 reads a block of the weight. -/
theorem blk1 (c : Dev nD) (t : Fin 1) (p : Fin 8) (q : Fin 128) :
    (iblk m c 1 (pt t) : Vec Ideal S8x128 .f32) (ix2 p q) = V m c main_arg1 (ix2 (row t p) q) := by
  have hi : ∀ t : Fin cfg0.N, win0_1.index t 0 = t.val ∧ win0_1.index t 1 = 0 :=
    (by decide +kernel : ∀ t : Fin grid0.N, win0_1.index t 0 = t.val ∧ win0_1.index t 1 = 0)
  unfold iblk
  rw [View.read_apply]
  show V m c main_arg1 _ = V m c main_arg1 _
  congr 1
  funext a
  apply Fin.ext
  match a with
  | ⟨0, _⟩ => show win0_1.index (pt t) 0 * 8 + 1 * p.val = 8 * t.val + p.val; rw [(hi (pt t)).1]; dsimp only; omega
  | ⟨1, _⟩ => show win0_1.index (pt t) 1 * 128 + 1 * q.val = q.val; rw [(hi (pt t)).2]; omega

/-- Window 2 reads a block of the first average. -/
theorem blk2 (c : Dev nD) (t : Fin 1) (p : Fin 8) (q : Fin 128) :
    (iblk m c 2 (pt t) : Vec Ideal S8x128 .f32) (ix2 p q) = V m c main_arg2 (ix2 (row t p) q) := by
  have hi : ∀ t : Fin cfg0.N, win0_2.index t 0 = t.val ∧ win0_2.index t 1 = 0 :=
    (by decide +kernel : ∀ t : Fin grid0.N, win0_2.index t 0 = t.val ∧ win0_2.index t 1 = 0)
  unfold iblk
  rw [View.read_apply]
  show V m c main_arg2 _ = V m c main_arg2 _
  congr 1
  funext a
  apply Fin.ext
  match a with
  | ⟨0, _⟩ => show win0_2.index (pt t) 0 * 8 + 1 * p.val = 8 * t.val + p.val; rw [(hi (pt t)).1]; dsimp only; omega
  | ⟨1, _⟩ => show win0_2.index (pt t) 1 * 128 + 1 * q.val = q.val; rw [(hi (pt t)).2]; omega

/-- Window 3 reads a block of the second average. -/
theorem blk3 (c : Dev nD) (t : Fin 1) (p : Fin 8) (q : Fin 128) :
    (iblk m c 3 (pt t) : Vec Ideal S8x128 .f32) (ix2 p q) = V m c main_arg3 (ix2 (row t p) q) := by
  have hi : ∀ t : Fin cfg0.N, win0_3.index t 0 = t.val ∧ win0_3.index t 1 = 0 :=
    (by decide +kernel : ∀ t : Fin grid0.N, win0_3.index t 0 = t.val ∧ win0_3.index t 1 = 0)
  unfold iblk
  rw [View.read_apply]
  show V m c main_arg3 _ = V m c main_arg3 _
  congr 1
  funext a
  apply Fin.ext
  match a with
  | ⟨0, _⟩ => show win0_3.index (pt t) 0 * 8 + 1 * p.val = 8 * t.val + p.val; rw [(hi (pt t)).1]; dsimp only; omega
  | ⟨1, _⟩ => show win0_3.index (pt t) 1 * 128 + 1 * q.val = q.val; rw [(hi (pt t)).2]; omega

omit m in
/-- A sum of parts at an index. -/
theorem cast_apply (v : Vec Ideal S1x8x128 .f32) (p : Fin 8) (q : Fin 128) :
    shapeCast S8x128 v shapeCasts_S1x8x128_S8x128 (ix2 p q) = v (ix3 0 p q) := shapeCast_1ab_ab_apply _ _ _ _

omit m in
/-- The gradient of a block at an index: its eight parts, added. -/
theorem grad_apply (x0 : Vec Ideal S8x8x128 .f32) (x1 x2 x3 : Vec Ideal S8x128 .f32) (p : Fin 8) (q : Fin 128) : out0_4 x0 x1 x2 x3 (ix2 p q) = ∑ k : Fin 8, (x0 (ix3 k p q) : EReal) := by
  have hz : (![0, 0] : Fin 2 → Nat) = fun _ => 0 := funext fun a => by fin_cases a <;> rfl
  unfold out0_4
  rw [View.canon_unit_zero hz, Fin.sum_univ_eight]
  unfold k0_pay5 k0_pay3
  simp only [addf_apply]
  refine congrArg₂ (fun u v : EReal => u + v) (congrArg₂ (fun u v : EReal => u + v) (congrArg₂ (fun u v : EReal => u + v) (congrArg₂ (fun u v : EReal => u + v)
    (congrArg₂ (fun u v : EReal => u + v) (congrArg₂ (fun u v : EReal => u + v) (congrArg₂ (fun u v : EReal => u + v) ?_ ?_) ?_) ?_) ?_) ?_) ?_) ?_ <;>
  · refine (cast_apply _ p q).trans (congrArg x0 (funext fun a => Fin.ext ?_))
    match a with
    | ⟨0, _⟩ => rfl
    | ⟨1, _⟩ => show 0 + 1 * p.val = p.val; omega
    | ⟨2, _⟩ => show 0 + 1 * q.val = q.val; omega

omit m in
/-- The first average of a block at an index. -/
theorem first_apply (x0 : Vec Ideal S8x8x128 .f32) (x1 x2 x3 : Vec Ideal S8x128 .f32) (p : Fin 8) (q : Fin 128) :
    out0_6 x0 x1 x2 x3 (ix2 p q) = Cert.Adam.first (out0_4 x0 x1 x2 x3 (ix2 p q)) (x2 (ix2 p q)) := by
  have hz : (![0, 0] : Fin 2 → Nat) = fun _ => 0 := funext fun a => by fin_cases a <;> rfl
  unfold out0_4 out0_6
  rw [View.canon_unit_zero hz, View.canon_unit_zero hz]
  unfold k0_pay6
  rw [View.ld_unit_zero (S := S8x128) hz _ x2]
  rfl

omit m in
/-- The second average of a block at an index. -/
theorem second_apply (x0 : Vec Ideal S8x8x128 .f32) (x1 x2 x3 : Vec Ideal S8x128 .f32) (p : Fin 8) (q : Fin 128) :
    out0_7 x0 x1 x2 x3 (ix2 p q) = Cert.Adam.second (out0_4 x0 x1 x2 x3 (ix2 p q)) (x3 (ix2 p q)) := by
  have hz : (![0, 0] : Fin 2 → Nat) = fun _ => 0 := funext fun a => by fin_cases a <;> rfl
  unfold out0_4 out0_7
  rw [View.canon_unit_zero hz, View.canon_unit_zero hz]
  rw [View.ld_unit_zero (S := S8x128) hz _ x3]
  rfl

omit m in
/-- The weight's change of a block at an index. -/
theorem change_apply (x0 : Vec Ideal S8x8x128 .f32) (x1 x2 x3 : Vec Ideal S8x128 .f32) (p : Fin 8) (q : Fin 128) :
    out0_5 x0 x1 x2 x3 (ix2 p q) = Cert.Adam.change (out0_4 x0 x1 x2 x3 (ix2 p q)) (x1 (ix2 p q)) (x2 (ix2 p q)) (x3 (ix2 p q)) := by
  have hz : (![0, 0] : Fin 2 → Nat) = fun _ => 0 := funext fun a => by fin_cases a <;> rfl
  unfold out0_4 out0_5
  rw [View.canon_unit_zero hz, View.canon_unit_zero hz]
  unfold k0_pay6
  rw [View.ld_unit_zero (S := S8x128) hz _ x2, View.ld_unit_zero (S := S8x128) hz _ x3, View.ld_unit_zero (S := S8x128) hz _ x1]
  rfl

/-- The gradient after the run, block by block. -/
theorem final_4 (c : Dev nD) (t : Fin 1) (p : Fin 8) (q : Fin 128) :
    ((dats m 0 c).arrAt 4 cfg0.N : Vec Ideal S8x128 .f32) (ix2 (row t p) q) = out0_4 (iblk m c 0 (pt t)) (iblk m c 1 (pt t)) (iblk m c 2 (pt t)) (iblk m c 3 (pt t)) (ix2 p q) := by
  have hi : ∀ t : Fin cfg0.N, win0_4.index t 0 = t.val ∧ win0_4.index t 1 = 0 :=
    (by decide +kernel : ∀ t : Fin grid0.N, win0_4.index t 0 = t.val ∧ win0_4.index t 1 = 0)
  have e := congrFun (blocks4 m c (pt t) (flush0_4 (pt t))) (ix2 p q : S8x128.Idx)
  rw [flushed4, View.read_apply] at e
  refine Eq.trans (congrArg ((dats m 0 c).arrAt 4 cfg0.N) ?_) e
  funext a
  apply Fin.ext
  match a with
  | ⟨0, _⟩ => show 8 * t.val + p.val = win0_4.index (pt t) 0 * 8 + 1 * p.val; rw [(hi (pt t)).1]; dsimp only; omega
  | ⟨1, _⟩ => show q.val = win0_4.index (pt t) 1 * 128 + 1 * q.val; rw [(hi (pt t)).2]; omega

/-- The weight's change after the run, block by block. -/
theorem final_5 (c : Dev nD) (t : Fin 1) (p : Fin 8) (q : Fin 128) :
    ((dats m 0 c).arrAt 5 cfg0.N : Vec Ideal S8x128 .f32) (ix2 (row t p) q) = out0_5 (iblk m c 0 (pt t)) (iblk m c 1 (pt t)) (iblk m c 2 (pt t)) (iblk m c 3 (pt t)) (ix2 p q) := by
  have hi : ∀ t : Fin cfg0.N, win0_5.index t 0 = t.val ∧ win0_5.index t 1 = 0 :=
    (by decide +kernel : ∀ t : Fin grid0.N, win0_5.index t 0 = t.val ∧ win0_5.index t 1 = 0)
  have e := congrFun (blocks5 m c (pt t) (flush0_5 (pt t))) (ix2 p q : S8x128.Idx)
  rw [flushed5, View.read_apply] at e
  refine Eq.trans (congrArg ((dats m 0 c).arrAt 5 cfg0.N) ?_) e
  funext a
  apply Fin.ext
  match a with
  | ⟨0, _⟩ => show 8 * t.val + p.val = win0_5.index (pt t) 0 * 8 + 1 * p.val; rw [(hi (pt t)).1]; dsimp only; omega
  | ⟨1, _⟩ => show q.val = win0_5.index (pt t) 1 * 128 + 1 * q.val; rw [(hi (pt t)).2]; omega

/-- The first average after the run, block by block. -/
theorem final_6 (c : Dev nD) (t : Fin 1) (p : Fin 8) (q : Fin 128) :
    ((dats m 0 c).arrAt 6 cfg0.N : Vec Ideal S8x128 .f32) (ix2 (row t p) q) = out0_6 (iblk m c 0 (pt t)) (iblk m c 1 (pt t)) (iblk m c 2 (pt t)) (iblk m c 3 (pt t)) (ix2 p q) := by
  have hi : ∀ t : Fin cfg0.N, win0_6.index t 0 = t.val ∧ win0_6.index t 1 = 0 :=
    (by decide +kernel : ∀ t : Fin grid0.N, win0_6.index t 0 = t.val ∧ win0_6.index t 1 = 0)
  have e := congrFun (blocks6 m c (pt t) (flush0_6 (pt t))) (ix2 p q : S8x128.Idx)
  rw [flushed6, View.read_apply] at e
  refine Eq.trans (congrArg ((dats m 0 c).arrAt 6 cfg0.N) ?_) e
  funext a
  apply Fin.ext
  match a with
  | ⟨0, _⟩ => show 8 * t.val + p.val = win0_6.index (pt t) 0 * 8 + 1 * p.val; rw [(hi (pt t)).1]; dsimp only; omega
  | ⟨1, _⟩ => show q.val = win0_6.index (pt t) 1 * 128 + 1 * q.val; rw [(hi (pt t)).2]; omega

/-- The second average after the run, block by block. -/
theorem final_7 (c : Dev nD) (t : Fin 1) (p : Fin 8) (q : Fin 128) :
    ((dats m 0 c).arrAt 7 cfg0.N : Vec Ideal S8x128 .f32) (ix2 (row t p) q) = out0_7 (iblk m c 0 (pt t)) (iblk m c 1 (pt t)) (iblk m c 2 (pt t)) (iblk m c 3 (pt t)) (ix2 p q) := by
  have hi : ∀ t : Fin cfg0.N, win0_7.index t 0 = t.val ∧ win0_7.index t 1 = 0 :=
    (by decide +kernel : ∀ t : Fin grid0.N, win0_7.index t 0 = t.val ∧ win0_7.index t 1 = 0)
  have e := congrFun (blocks7 m c (pt t) (flush0_7 (pt t))) (ix2 p q : S8x128.Idx)
  rw [flushed7, View.read_apply] at e
  refine Eq.trans (congrArg ((dats m 0 c).arrAt 7 cfg0.N) ?_) e
  funext a
  apply Fin.ext
  match a with
  | ⟨0, _⟩ => show 8 * t.val + p.val = win0_7.index (pt t) 0 * 8 + 1 * p.val; rw [(hi (pt t)).1]; dsimp only; omega
  | ⟨1, _⟩ => show q.val = win0_7.index (pt t) 1 * 128 + 1 * q.val; rw [(hi (pt t)).2]; omega

section
omit m

/-- The reference's gradient at an index: the parts, added. -/
theorem ref_grad (x0 : (⟨S8x8x128, .f32⟩ : BufTy).Contents (Elt Ideal)) (u : Fin 8) (q : Fin 128) : val_main_v0 (F := Ideal) x0 (ix2 u q) = ∑ k : Fin 8, (x0 (ix3 k u q) : EReal) := by
  rw [val_main_v0_apply, val_main_cst_apply]
  refine (congrArg (fun z : EReal => z + _) Cert.Adam.zero).trans ((zero_add _).trans (Finset.sum_congr rfl fun k _ => congrArg x0 (funext fun a => Fin.ext ?_)))
  match a with
  | ⟨0, _⟩ => rfl
  | ⟨1, _⟩ => rfl
  | ⟨2, _⟩ => rfl

/-- The reference's first average at an index. -/
theorem ref_first (x0 : (⟨S8x8x128, .f32⟩ : BufTy).Contents (Elt Ideal)) (x2 : (⟨S8x128, .f32⟩ : BufTy).Contents (Elt Ideal)) (i : S8x128.Idx) :
    val_main_v5 (F := Ideal) x0 x2 i = Cert.Adam.first (val_main_v0 (F := Ideal) x0 i) (x2 i) := by
  rw [val_main_v5_apply, val_main_v2_apply, val_main_v4_apply, val_main_v1_apply, val_main_v3_apply, val_main_cst_0_apply, val_main_cst_1_apply]; rfl

/-- The reference's second average at an index. -/
theorem ref_second (x0 : (⟨S8x8x128, .f32⟩ : BufTy).Contents (Elt Ideal)) (x3 : (⟨S8x128, .f32⟩ : BufTy).Contents (Elt Ideal)) (i : S8x128.Idx) :
    val_main_v11 (F := Ideal) x0 x3 i = Cert.Adam.second (val_main_v0 (F := Ideal) x0 i) (x3 i) := by
  rw [val_main_v11_apply, val_main_v7_apply, val_main_v10_apply, val_main_v8_apply, val_main_v6_apply, val_main_v9_apply, val_main_cst_2_apply, val_main_cst_3_apply]; rfl

/-- The reference's change at an index. -/
theorem ref_change (x0 : (⟨S8x8x128, .f32⟩ : BufTy).Contents (Elt Ideal)) (x1 x2 x3 : (⟨S8x128, .f32⟩ : BufTy).Contents (Elt Ideal)) (i : S8x128.Idx) :
    val_main_v24 (F := Ideal) x0 x1 x2 x3 i = Cert.Adam.change (val_main_v0 (F := Ideal) x0 i) (x1 i) (x2 i) (x3 i) := by
  rw [val_main_v24_apply, val_main_v22_apply, val_main_v19_apply, val_main_v13_apply, val_main_v18_apply, val_main_v16_apply, val_main_v15_apply, val_main_v21_apply,
    ref_first, ref_second, val_main_v12_apply, val_main_v14_apply, val_main_v17_apply, val_main_v20_apply, val_main_v23_apply,
    val_main_cst_4_apply, val_main_cst_5_apply, val_main_cst_6_apply, val_main_cst_7_apply, val_main_cst_8_apply]; rfl

/-- Two arrays with the same entries, block by block, are the same. -/
theorem blocks_ext {f g : (⟨S8x128, .f32⟩ : BufTy).Contents (Elt Ideal)} (h : ∀ (t : Fin 1) (p : Fin 8) (q : Fin 128), f (ix2 (row t p) q) = g (ix2 (row t p) q)) : f = g := by
  funext i
  rw [ValueIdx.eq_ix2 i]
  generalize (i 1 : Fin 128) = q
  generalize (i 0 : Fin 8) = u
  have hu : u.val < 8 := u.isLt
  have e : u = row ⟨u.val / 8, by omega⟩ ⟨u.val % 8, by omega⟩ := Fin.ext (by show u.val = 8 * (u.val / 8) + u.val % 8; omega)
  rw [e]
  exact h _ _ _

end

/-- The gradient of a block is the reference's. -/
theorem grad_eq (c : Dev nD) (t : Fin 1) (p : Fin 8) (q : Fin 128) :
    out0_4 (iblk m c 0 (pt t)) (iblk m c 1 (pt t)) (iblk m c 2 (pt t)) (iblk m c 3 (pt t)) (ix2 p q)
      = val_main_v0 (F := Ideal) (m ((c.tc : Thread nD τ).loc main_arg0)) (ix2 (row t p) q) := by
  refine (grad_apply _ _ _ _ p q).trans ((Finset.sum_congr rfl fun k _ => ?_).trans (ref_grad _ _ q).symm)
  rw [blk0, V_main_arg0]

omit m in
/-- The change from equal entries is the same. -/
theorem congr4 {g g' w w' a a' b b' : Ideal .f32} (hg : g = g') (hw : w = w') (ha : a = a') (hb : b = b') : Cert.Adam.change g w a b = Cert.Adam.change g' w' a' b' := by
  rw [hg, hw, ha, hb]

/-- The kernel's gradient is the reference's. -/
theorem result_grad (c : Dev nD) : (dats m 0 c).arrAt 4 cfg0.N = val_main_v0 (F := Ideal) (m ((c.tc : Thread nD τ).loc main_arg0)) :=
  blocks_ext fun t p q => (final_4 m c t p q).trans (grad_eq m c t p q)

/-- The kernel's change is the reference's. -/
theorem result_change (c : Dev nD) : (dats m 0 c).arrAt 5 cfg0.N = val_main_v24 (F := Ideal) (m ((c.tc : Thread nD τ).loc main_arg0)) (m ((c.tc : Thread nD τ).loc main_arg1)) (m ((c.tc : Thread nD τ).loc main_arg2)) (m ((c.tc : Thread nD τ).loc main_arg3)) := by
  refine blocks_ext fun t p q => (final_5 m c t p q).trans ((change_apply _ _ _ _ p q).trans ((congr4 (grad_eq m c t p q) ?_ ?_ ?_).trans (ref_change _ _ _ _ _ ).symm))
  · exact (blk1 m c t p q).trans (by rw [V_main_arg1])
  · exact (blk2 m c t p q).trans (by rw [V_main_arg2])
  · exact (blk3 m c t p q).trans (by rw [V_main_arg3])

/-- The kernel's first average is the reference's. -/
theorem result_first (c : Dev nD) : (dats m 0 c).arrAt 6 cfg0.N = val_main_v5 (F := Ideal) (m ((c.tc : Thread nD τ).loc main_arg0)) (m ((c.tc : Thread nD τ).loc main_arg2)) := by
  refine blocks_ext fun t p q => (final_6 m c t p q).trans ((first_apply _ _ _ _ p q).trans ((congrArg₂ Cert.Adam.first (grad_eq m c t p q) ?_).trans (ref_first _ _ _ ).symm))
  · exact (blk2 m c t p q).trans (by rw [V_main_arg2])

/-- The kernel's second average is the reference's. -/
theorem result_second (c : Dev nD) : (dats m 0 c).arrAt 7 cfg0.N = val_main_v11 (F := Ideal) (m ((c.tc : Thread nD τ).loc main_arg0)) (m ((c.tc : Thread nD τ).loc main_arg3)) := by
  refine blocks_ext fun t p q => (final_7 m c t p q).trans ((second_apply _ _ _ _ p q).trans ((congrArg₂ Cert.Adam.second (grad_eq m c t p q) ?_).trans (ref_second _ _ _ ).symm))
  · exact (blk3 m c t p q).trans (by rw [V_main_arg3])

/-- The kernel's and the reference's results are the same arrays. -/
theorem algebraic : Cert.algebraic_KernelConvIdeal_ReferenceConvIdeal := by
  intro m ρ m' ρ' hpre hagree
  refine ⟨_, _, _, _, Cert.KernelConvIdeal.Value.run_blocks m ρ, ?_⟩
  refine (θ_run Cert.ReferenceConvIdeal.defs _ _).mono (fun r h c => ?_) (Cert.ReferenceConvIdeal.Value.run (F := Ideal) m' ρ')
  obtain ⟨r0, r1, r2, r3, rest⟩ := h c
  obtain ⟨e0, e1, e2, e3⟩ := hagree c
  refine ⟨(r0.trans (val_main_v0_eq _)).trans (Eq.trans ?_ (result_grad m c).symm), (r1.trans (val_main_v24_eq _ _ _ _)).trans (Eq.trans ?_ (result_change m c).symm),
    (r2.trans (val_main_v5_eq _ _)).trans (Eq.trans ?_ (result_first m c).symm), (r3.trans (val_main_v11_eq _ _)).trans (Eq.trans ?_ (result_second m c).symm), rest⟩
  · exact congrArg (val_main_v0 (F := Ideal)) e0
  · exact (congrArg (fun z => val_main_v24 (F := Ideal) z _ _ _) e0).trans ((congrArg (fun z => val_main_v24 (F := Ideal) _ z _ _) e1).trans
      ((congrArg (fun z => val_main_v24 (F := Ideal) _ _ z _) e2).trans (congrArg (fun z => val_main_v24 (F := Ideal) _ _ _ z) e3)))
  · exact congrArg₂ (val_main_v5 (F := Ideal)) e0 e2
  · exact congrArg₂ (val_main_v11 (F := Ideal)) e0 e3

/-- The reference runs, and leaves its arguments and its semaphores as they were. -/
theorem quiescent_reference : Cert.quiescent_ReferenceConvIdeal := fun m ρ _ =>
  (θ_run Cert.ReferenceConvIdeal.defs _ _).mono (fun r h => ⟨fun c => (h c).2.2.2.2, Idealize.ShloMosaic.sem_eq_zero_of_no_sems (by decide) r.2⟩)
    (Cert.ReferenceConvIdeal.Value.run (F := Ideal) m ρ)

end Cert.KernelConvIdeal.Points

end
-- ==== Proof.MixOut.lean ====
/-
  A mixer's last product in the forward pass: each of the four grid points takes one block of tokens through the product, adds it,
  gated, to the stream, and normalises the sum for the MLP; block by block the three results are the reference's.
-/
module

public import proofs.«01_k».proof.Proof.Gen.KernelMixOutIdeal.Value
public import proofs.«01_k».proof.Proof.Gen.ReferenceMixOutIdeal.Run
public import proofs.«01_k».proof.Proof.Gen.ReferenceMixOutIdeal.Read
public import proofs.«01_k».proof.Proof.Forward

@[expose] public section

noncomputable section

namespace Cert.KernelMixOutIdeal.Points

open Cert.KernelMixOutIdeal Cert.KernelMixOutIdeal.Gen Cert.KernelMixOutIdeal.Value Idealize.ShloMosaic.TcCoe Idealize.SL.Sem
open Idealize.ShloMosaic.ValueIdx
open Idealize.ShloMosaic hiding ix0 ix1 ix2 ix3 ix4 ix5
open Cert.ReferenceMixOutIdeal.Read
open Cert.KernelFwdIdeal.Points (rootOf table table_gate table_gain table_scale table_shift)

/-- Two indices of a matrix with the same coordinates are the same. -/
theorem two {a b : ℕ} {i j : (⟨2, ![a, b]⟩ : Shape).Idx} (h0 : (i 0).val = (j 0).val) (h1 : (i 1).val = (j 1).val) : i = j := by
  funext d
  apply Fin.ext
  match d with
  | ⟨0, _⟩ => exact h0
  | ⟨1, _⟩ => exact h1

/-- A feature vector read as a row, and at a coordinate. -/
theorem one {a : ℕ} {i j : (⟨1, ![a]⟩ : Shape).Idx} (h0 : (i 0).val = (j 0).val) : i = j := by
  funext d
  apply Fin.ext
  match d with
  | ⟨0, _⟩ => exact h0

/-! The body's values at an index. -/

theorem brow_apply (v : FVec Ideal S1x1024 .f32) (p : Fin 512) (q : Fin 1024) :
    broadcastTo S512x1024 v broadcasts_S1x1024_S512x1024 (ix2 p q) = v (ix2 0 q) := by
  simp only [pointwise]
  rfl

theorem bcol_apply (v : FVec Ideal S512x1 .f32) (p : Fin 512) (q : Fin 1024) :
    broadcastTo S512x1024 v broadcasts_S512x1_S512x1024 (ix2 p q) = v (ix2 p 0) := by
  simp only [pointwise]
  rfl

theorem rowsum_apply (v : FVec Ideal S512x1024 .f32) (p : Fin 512) (z : Fin 1) :
    shapeCast S512x1 (multiReduction .add [1] S512 v 0x00000000#32 reduces_S512x1024_S512 (.inl rfl) rfl) shapeCasts_S512_S512x1 (ix2 p z)
      = ∑ k : Fin 1024, v (ix2 p k) := by
  refine Eq.trans (b := multiReduction .add [1] S512 v 0x00000000#32 reduces_S512x1024_S512 (.inl rfl) rfl (ix1 p)) ?_
    ((multiReduction_add_apply v _ _ _ _ _).trans (Ideal.reduceAdd_r2_a1 _ _ _))
  simp only [pointwise]
  rfl

theorem dot_apply (a : FVec Ideal S512x1024 .bf16) (b : FVec Ideal S1024x1024 .bf16) (p : Fin 512) (d : Fin 1024) :
    matmul dot_S512x1024_S1024x1024_S512x1024_1_0_0_1_n_n none a b (constant S512x1024 .f32 0x00000000#32) (ix2 p d)
      = ∑ k : Fin 1024, (a (ix2 p k) : EReal) * (b (ix2 k d) : EReal) := by
  simp only [pointwise]
  exact zero_add _

/-! The reference's values at an index. -/

section
variable (x0 : (⟨S2048x1024, .f32⟩ : BufTy).Contents (Elt Ideal)) (x1 : (⟨S2048x1024, .bf16⟩ : BufTy).Contents (Elt Ideal))
  (x2 : (⟨S1024x1024, .f32⟩ : BufTy).Contents (Elt Ideal)) (x3 x4 x5 x6 : (⟨S1024, .f32⟩ : BufTy).Contents (Elt Ideal))

/-- The product of the reference. -/
theorem ref_product (t : Fin 2048) (d : Fin 1024) :
    val_main_v1 (F := Ideal) x1 x2 (ix2 t d) = ∑ k : Fin 1024, (x1 (ix2 t k) : EReal) * (x2 (ix2 k d) : EReal) := by
  refine (val_main_v1_apply x1 x2 _).trans (Finset.sum_congr rfl fun k _ => ?_)
  exact congrArg₂ (fun u v : EReal => u * v) (congrArg x1 (two rfl rfl)) (congrArg x2 (two rfl rfl))

/-- The new stream of the reference. -/
theorem ref_stream (t : Fin 2048) (d : Fin 1024) :
    val_main_v5 (F := Ideal) x0 x1 x2 x3 (ix2 t d) = (x0 (ix2 t d) : EReal) + (x3 (ix1 d) : EReal) * (val_main_v1 (F := Ideal) x1 x2 (ix2 t d) : EReal) := by
  rw [val_main_v5_apply, val_main_v4_apply, val_main_v3_apply, val_main_v2_apply]
  exact congrArg (fun u : EReal => (x0 (ix2 t d) : EReal) + u * (val_main_v1 (F := Ideal) x1 x2 (ix2 t d) : EReal)) (congrArg x3 (one rfl))

/-- The reference's reciprocal root of the new stream. -/
theorem ref_root (t : Fin 2048) (d : Fin 1024) :
    val_main_v15 (F := Ideal) x0 x1 x2 x3 (ix2 t d) = rootOf fun k => val_main_v5 (F := Ideal) x0 x1 x2 x3 (ix2 t k) := by
  rw [val_main_v15_apply, val_main_v14_apply, val_main_v13_apply, val_main_v12_apply, val_main_cst_1_apply, val_main_v11_apply, val_main_v10_apply,
    val_main_cst_0_apply, val_main_v9_apply]
  refine congrArg (fun u : EReal => Ideal.rsqrt (Ideal.div u (Ideal.ofBits .f32 0x44800000#32) + Ideal.ofBits .f32 0x358637BD#32)) ?_
  refine (val_main_v8_apply x0 x1 x2 x3 _).trans ?_
  rw [val_main_cst_apply]
  refine (congrArg₂ (fun u v : EReal => u + v) ((Cert.Mlp.lit_zero).trans EReal.coe_zero) (Finset.sum_congr rfl fun k _ => ?_)).trans (zero_add _)
  have hi : idx_main_v8 (idx_main_v9 (idx_main_v15 (ix2 t d))) k = ix2 t k := two rfl rfl
  rw [hi, val_main_v7_apply]
  rfl

/-- The normalised stream of the reference. -/
theorem ref_next (t : Fin 2048) (d : Fin 1024) :
    val_main_v27 (F := Ideal) x0 x1 x2 x3 x4 x5 x6 (ix2 t d)
      = ((val_main_v5 (F := Ideal) x0 x1 x2 x3 (ix2 t d) : EReal) * rootOf (fun k => val_main_v5 (F := Ideal) x0 x1 x2 x3 (ix2 t k)) * (x4 (ix1 d) : EReal))
          * ((Ideal.ofBits .f32 0x3F800000#32 : EReal) + (x5 (ix1 d) : EReal)) + (x6 (ix1 d) : EReal) := by
  rw [val_main_v27_apply, val_main_v24_apply, val_main_v19_apply, val_main_v16_apply, ref_root, val_main_v18_apply, val_main_v17_apply,
    val_main_v23_apply, val_main_v22_apply, val_main_v21_apply, val_main_v20_apply, val_main_cst_2_apply, val_main_v26_apply, val_main_v25_apply]
  have e4 : x4 (idx_main_v17 (idx_main_v18 (ix2 t d))) = x4 (ix1 d) := congrArg x4 (one rfl)
  have e5 : x5 (idx_main_v22 (idx_main_v23 (ix2 t d))) = x5 (ix1 d) := congrArg x5 (one rfl)
  have e6 : x6 (idx_main_v25 (idx_main_v26 (ix2 t d))) = x6 (ix1 d) := congrArg x6 (one rfl)
  rw [e4, e5, e6]
  rfl

/-! The body over blocks of the reference's values. -/

variable {x0 x1 x2 x3 x4 x5 x6}
variable {v0 : Vec Ideal S512x1024 .bf16} {v1 : Vec Ideal S1024x1024 .bf16} {v6 : Vec Ideal S512x1024 .f32} {v7 v23 v27 v33 : Vec Ideal S1x1024 .f32}
  {T : Fin 512 → Fin 2048} (h0 : ∀ p k, v0 (ix2 p k) = x1 (ix2 (T p) k)) (h1 : ∀ k d, v1 (ix2 k d) = x2 (ix2 k d))

include h0 h1 in
theorem product_eq (p : Fin 512) (d : Fin 1024) : k0_pay2 v0 v1 (ix2 p d) = val_main_v1 (F := Ideal) x1 x2 (ix2 (T p) d) := by
  unfold k0_pay2
  simp only [shapeCast_id]
  refine ((dot_apply _ _ p d).trans (Finset.sum_congr rfl fun k _ => ?_)).trans (ref_product x1 x2 (T p) d).symm
  exact congrArg₂ (fun u v : EReal => u * v) (h0 p k) (h1 k d)

variable (h6 : ∀ p d, v6 (ix2 p d) = x0 (ix2 (T p) d)) (h7 : ∀ d, v7 (ix2 0 d) = x3 (ix1 d))

include h0 h1 h6 h7 in
theorem stream_eq (p : Fin 512) (d : Fin 1024) : k0_pay4 v0 v1 v6 v7 (ix2 p d) = val_main_v5 (F := Ideal) x0 x1 x2 x3 (ix2 (T p) d) := by
  unfold k0_pay4
  simp only [shapeCast_id]
  refine Eq.trans ?_ (ref_stream x0 x1 x2 x3 (T p) d).symm
  exact congrArg₂ (fun u v : EReal => u + v) (h6 p d) (congrArg₂ (fun u v : EReal => u * v) ((brow_apply v7 p d).trans (h7 d)) (product_eq h0 h1 p d))

variable (h23 : ∀ d, v23 (ix2 0 d) = x4 (ix1 d)) (h27 : ∀ d, v27 (ix2 0 d) = x5 (ix1 d)) (h33 : ∀ d, v33 (ix2 0 d) = x6 (ix1 d))

include h0 h1 h6 h7 h23 h27 h33 in
theorem next_eq (p : Fin 512) (d : Fin 1024) :
    k0_pay1 (k0_pay5 v0 v1 v6 v7 v23 v27) v33 (ix2 p d) = val_main_v28 (F := Ideal) x0 x1 x2 x3 x4 x5 x6 (ix2 (T p) d) := by
  unfold k0_pay1 k0_pay5
  have hs := stream_eq h0 h1 h6 h7
  generalize k0_pay4 v0 v1 v6 v7 = s at hs ⊢
  simp only [shapeCast_id]
  rw [val_main_v28_apply]
  refine Eq.trans ?_ (ref_next x0 x1 x2 x3 x4 x5 x6 (T p) d).symm
  refine congrArg₂ (fun u v : EReal => u + v) (congrArg₂ (fun u v : EReal => u * v) (congrArg₂ (fun u v : EReal => u * v)
    (congrArg₂ (fun u v : EReal => u * v) (hs p d) ((bcol_apply _ p d).trans ?_)) ((brow_apply v23 p d).trans (h23 d))) ((brow_apply _ p d).trans ?_))
    ((brow_apply v33 p d).trans (h33 d))
  · refine congrArg (fun u : EReal => Ideal.rsqrt (Ideal.div u (Ideal.ofBits .f32 0x44800000#32) + Ideal.ofBits .f32 0x358637BD#32)) ?_
    refine (rowsum_apply _ p 0).trans (Finset.sum_congr rfl fun k _ => ?_)
    exact congrArg₂ (fun u v : EReal => u * v) (hs p k) (hs p k)
  · exact congrArg (fun u : EReal => (Ideal.ofBits .f32 0x3F800000#32 : EReal) + u) (h27 d)

end

/-! The grid swept. -/

variable (m : (ℓ : Loc nD τ sig) → Buf (Elt Ideal) ℓ)

/-- The token at the place `p` of the block `t`. -/
abbrev tok (t : Fin 4) (p : Fin 512) : Fin 2048 := ⟨512 * t.val + p.val, by omega⟩
/-- The grid point of the block `t`. -/
abbrev pt (t : Fin 4) : Fin cfg0.N := ⟨t.val, by rw [show cfg0.N = 4 from N_0]; exact t.isLt⟩

/-- Where the windows over the tokens lie, and the windows over the weight and the table. -/
theorem places : ∀ t : Fin cfg0.N, (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = 0 ∧ win0_3.index t 1 = 0) ∧ (win0_4.index t 0 = 1 ∧ win0_4.index t 1 = 0)
    ∧ (win0_5.index t 0 = t.val ∧ win0_5.index t 1 = 0) ∧ (win0_6.index t 0 = t.val ∧ win0_6.index t 1 = 0) ∧ (win0_7.index t 0 = t.val ∧ win0_7.index t 1 = 0) :=
  (by decide +kernel : ∀ t : Fin grid0.N, (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = 0 ∧ win0_3.index t 1 = 0) ∧ (win0_4.index t 0 = 1 ∧ win0_4.index t 1 = 0)
    ∧ (win0_5.index t 0 = t.val ∧ win0_5.index t 1 = 0) ∧ (win0_6.index t 0 = t.val ∧ win0_6.index t 1 = 0) ∧ (win0_7.index t 0 = t.val ∧ win0_7.index t 1 = 0))

/-- A coordinate of a block over the tokens, and one of a block that is the same at every point. -/
theorem coord {i k s n x : ℕ} (h : i = k) (e : s * k + x = n) : i * s + 1 * x = n := by
  subst h
  rw [one_mul, mul_comm]
  exact e

/-- Window 0 reads a block of what the product multiplies. -/
theorem b0 (c : Dev nD) (t : Fin 4) (p : Fin 512) (k : Fin 1024) : (iblk m c 0 (pt t) : Vec Ideal S512x1024 .bf16) (ix2 p k)
    = (m ((c.tc : Thread nD τ).loc main_arg1) : (⟨S2048x1024, .bf16⟩ : BufTy).Contents (Elt Ideal)) (ix2 (tok t p) k) := by
  have h := (places (pt t)).1
  rw [← V_main_arg1 m c]
  unfold iblk
  rw [View.read_apply]
  exact congrArg (V m c main_arg1) (two (coord h.1 rfl) (coord h.2 (by rw [mul_zero, zero_add])))

/-- Window 1 reads the weight, whole. -/
theorem b1 (c : Dev nD) (t : Fin 4) (k : Fin 1024) (d : Fin 1024) : (iblk m c 1 (pt t) : Vec Ideal S1024x1024 .bf16) (ix2 k d)
    = (m ((c.tc : Thread nD τ).loc main_arg2) : (⟨S1024x1024, .f32⟩ : BufTy).Contents (Elt Ideal)) (ix2 k d) := by
  have h := (places (pt t)).2.1
  have e : V m c main_v10 = truncf (F := Ideal) (φ := .f32) .bf16 (m ((c.tc : Thread nD τ).loc main_arg2)) bitsLt_bf16_f32 := by
    unfold_abbrev_sides
    simp only [hostOps0, List.flatten_cons, List.flatten_nil, List.append_nil, List.cons_append, List.nil_append,
      StableHlo.TRef.nullary, StableHlo.TRef.unary, StableHlo.TRef.binary, StableHlo.TRef.toBuf, StableHlo.TRef.ofBuf, cast_eq]
    after_results_simp
  unfold iblk
  rw [View.read_apply]
  refine (congrArg (V m c main_v10) (two (coord h.1 (by rw [mul_zero, zero_add])) (coord h.2 (by rw [mul_zero, zero_add])))).trans (?_ : V m c main_v10 (ix2 k d) = _)
  rw [e]
  rfl

/-- Window 2 reads a block of the stream. -/
theorem b2 (c : Dev nD) (t : Fin 4) (p : Fin 512) (d : Fin 1024) : (iblk m c 2 (pt t) : Vec Ideal S512x1024 .f32) (ix2 p d)
    = (m ((c.tc : Thread nD τ).loc main_arg0) : (⟨S2048x1024, .f32⟩ : BufTy).Contents (Elt Ideal)) (ix2 (tok t p) d) := by
  have h := (places (pt t)).2.2.1
  rw [← V_main_arg0 m c]
  unfold iblk
  rw [View.read_apply]
  exact congrArg (V m c main_arg0) (two (coord h.1 rfl) (coord h.2 (by rw [mul_zero, zero_add])))

/-- The table the kernel is launched on. -/
theorem V_v9 (c : Dev nD) : V m c main_v9 = table (m ((c.tc : Thread nD τ).loc main_arg3)) (m ((c.tc : Thread nD τ).loc main_arg4))
    (m ((c.tc : Thread nD τ).loc main_arg5)) (m ((c.tc : Thread nD τ).loc main_arg6)) := by
  unfold_abbrev_sides
  simp only [hostOps0, List.flatten_cons, List.flatten_nil, List.append_nil, List.cons_append, List.nil_append,
    StableHlo.TRef.nullary, StableHlo.TRef.unary, StableHlo.TRef.binary, StableHlo.TRef.toBuf, StableHlo.TRef.ofBuf, cast_eq]
  after_results_simp
  rfl

/-- Window 3 reads the first eight rows of the table. -/
theorem b3 (c : Dev nD) (t : Fin 4) (p : Fin 8) (d : Fin 1024) :
    (iblk m c 3 (pt t) : Vec Ideal S8x1024 .f32) (ix2 p d) = V m c main_v9 (ix2 ⟨p.val, by omega⟩ d) := by
  have h := (places (pt t)).2.2.2.1
  unfold iblk
  rw [View.read_apply]
  exact congrArg (V m c main_v9) (two (coord h.1 (by rw [mul_zero, zero_add])) (coord h.2 (by rw [mul_zero, zero_add])))

/-- Window 4 reads the last eight rows of the table. -/
theorem b4 (c : Dev nD) (t : Fin 4) (p : Fin 8) (d : Fin 1024) :
    (iblk m c 4 (pt t) : Vec Ideal S8x1024 .f32) (ix2 p d) = V m c main_v9 (ix2 ⟨8 + p.val, by omega⟩ d) := by
  have h := (places (pt t)).2.2.2.2.1
  unfold iblk
  rw [View.read_apply]
  exact congrArg (V m c main_v9) (two (coord h.1 rfl) (coord h.2 (by rw [mul_zero, zero_add])))

theorem gate (c : Dev nD) (t : Fin 4) (d : Fin 1024) : View.ld (iblk m c 3 (pt t) : Vec Ideal S8x1024 .f32) r0_2 (ix2 0 d)
    = (m ((c.tc : Thread nD τ).loc main_arg3) : (⟨S1024, .f32⟩ : BufTy).Contents (Elt Ideal)) (ix1 d) := by
  refine (View.ld_row_apply _ _ (by omega) 0 d).trans ((b3 m c t _ d).trans ?_)
  rw [V_v9]
  exact table_gate _ _ _ _ d

theorem gain (c : Dev nD) (t : Fin 4) (d : Fin 1024) : View.ld (iblk m c 4 (pt t) : Vec Ideal S8x1024 .f32) r0_2 (ix2 0 d)
    = (m ((c.tc : Thread nD τ).loc main_arg4) : (⟨S1024, .f32⟩ : BufTy).Contents (Elt Ideal)) (ix1 d) := by
  refine (View.ld_row_apply _ _ (by omega) 0 d).trans ((b4 m c t _ d).trans ?_)
  rw [V_v9]
  exact table_gain _ _ _ _ d

theorem scale (c : Dev nD) (t : Fin 4) (d : Fin 1024) : View.ld (iblk m c 4 (pt t) : Vec Ideal S8x1024 .f32) r0_3 (ix2 0 d)
    = (m ((c.tc : Thread nD τ).loc main_arg5) : (⟨S1024, .f32⟩ : BufTy).Contents (Elt Ideal)) (ix1 d) := by
  refine (View.ld_row_apply _ _ (by omega) 0 d).trans ((b4 m c t _ d).trans ?_)
  rw [V_v9]
  exact table_scale _ _ _ _ d

theorem shift (c : Dev nD) (t : Fin 4) (d : Fin 1024) : View.ld (iblk m c 4 (pt t) : Vec Ideal S8x1024 .f32) r0_4 (ix2 0 d)
    = (m ((c.tc : Thread nD τ).loc main_arg6) : (⟨S1024, .f32⟩ : BufTy).Contents (Elt Ideal)) (ix1 d) := by
  refine (View.ld_row_apply _ _ (by omega) 0 d).trans ((b4 m c t _ d).trans ?_)
  rw [V_v9]
  exact table_shift _ _ _ _ d

/-- The offset of a whole block. -/
theorem hz : (![0, 0] : Fin 2 → Nat) = fun _ => 0 := funext fun a => by fin_cases a <;> rfl

omit m in
/-- Two arrays over the tokens with the same entries, block by block, are the same. -/
theorem tokens_ext {α : Type} {f g : S2048x1024.Idx → α} (h : ∀ (t : Fin 4) (p : Fin 512) (d : Fin 1024), f (ix2 (tok t p) d) = g (ix2 (tok t p) d)) : f = g := by
  funext i
  rw [ValueIdx.eq_ix2 i]
  generalize (i 1 : Fin 1024) = d
  generalize (i 0 : Fin 2048) = u
  have hu : u.val < 2048 := u.isLt
  have e : u = tok ⟨u.val / 512, by omega⟩ ⟨u.val % 512, by omega⟩ := Fin.ext (by show u.val = 512 * (u.val / 512) + u.val % 512; omega)
  rw [e]
  exact h _ _ _

/-- The product after the run. -/
theorem result5 (c : Dev nD) : (dats m 0 c).arrAt 5 cfg0.N
    = val_main_v6 (F := Ideal) (m ((c.tc : Thread nD τ).loc main_arg1)) (m ((c.tc : Thread nD τ).loc main_arg2)) := by
  refine tokens_ext fun t p d => ?_
  have h := (places (pt t)).2.2.2.2.2.1
  have e := congrFun (blocks5 m c (pt t) (flush0_5 (pt t))) (ix2 p d : S512x1024.Idx)
  rw [flushed5, View.read_apply] at e
  refine (congrArg ((dats m 0 c).arrAt 5 cfg0.N) (two (coord h.1 rfl).symm (coord h.2 (by rw [mul_zero, zero_add])).symm)).trans (e.trans ?_)
  unfold out0_5
  rw [View.canon_unit_zero hz, View.ld_unit_zero (S := S512x1024) hz, View.ld_unit_zero (S := S1024x1024) hz]
  exact product_eq (T := tok t) (b0 m c t) (b1 m c t) p d

/-- The new stream after the run. -/
theorem result6 (c : Dev nD) : (dats m 0 c).arrAt 6 cfg0.N = val_main_v5 (F := Ideal) (m ((c.tc : Thread nD τ).loc main_arg0))
    (m ((c.tc : Thread nD τ).loc main_arg1)) (m ((c.tc : Thread nD τ).loc main_arg2)) (m ((c.tc : Thread nD τ).loc main_arg3)) := by
  refine tokens_ext fun t p d => ?_
  have h := (places (pt t)).2.2.2.2.2.2.1
  have e := congrFun (blocks6 m c (pt t) (flush0_6 (pt t))) (ix2 p d : S512x1024.Idx)
  rw [flushed6, View.read_apply] at e
  refine (congrArg ((dats m 0 c).arrAt 6 cfg0.N) (two (coord h.1 rfl).symm (coord h.2 (by rw [mul_zero, zero_add])).symm)).trans (e.trans ?_)
  unfold out0_6
  rw [View.canon_unit_zero hz, View.ld_unit_zero (S := S512x1024) hz, View.ld_unit_zero (S := S1024x1024) hz, View.ld_unit_zero (S := S512x1024) hz]
  exact stream_eq (T := tok t) (b0 m c t) (b1 m c t) (b2 m c t) (gate m c t) p d

/-- The normalised stream after the run. -/
theorem result7 (c : Dev nD) : (dats m 0 c).arrAt 7 cfg0.N = val_main_v28 (F := Ideal) (m ((c.tc : Thread nD τ).loc main_arg0))
    (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) := by
  refine tokens_ext fun t p d => ?_
  have h := (places (pt t)).2.2.2.2.2.2.2
  have e := congrFun (blocks7 m c (pt t) (flush0_7 (pt t))) (ix2 p d : S512x1024.Idx)
  rw [flushed7, View.read_apply] at e
  refine (congrArg ((dats m 0 c).arrAt 7 cfg0.N) (two (coord h.1 rfl).symm (coord h.2 (by rw [mul_zero, zero_add])).symm)).trans (e.trans ?_)
  unfold out0_7
  rw [View.canon_unit_zero hz, View.ld_unit_zero (S := S512x1024) hz, View.ld_unit_zero (S := S1024x1024) hz, View.ld_unit_zero (S := S512x1024) hz]
  exact next_eq (T := tok t) (b0 m c t) (b1 m c t) (b2 m c t) (gate m c t) (gain m c t) (scale m c t) (shift m c t) p d

/-- The kernel's and the reference's results are the same arrays. -/
theorem algebraic : Cert.algebraic_KernelMixOutIdeal_ReferenceMixOutIdeal := by
  intro m ρ m' ρ' hpre hagree
  refine ⟨_, _, _, Cert.KernelMixOutIdeal.Value.run_blocks m ρ, ?_⟩
  refine (θ_run Cert.ReferenceMixOutIdeal.defs _ _).mono (fun r h c => ?_) (Cert.ReferenceMixOutIdeal.Value.run (F := Ideal) m' ρ')
  obtain ⟨r0, r1, r2, rest⟩ := h c
  obtain ⟨e0, e1, e2, e3, e4, e5, e6⟩ := hagree c
  rw [e1, e2] at r0
  rw [e0, e1, e2, e3] at r1
  rw [e0, e1, e2, e3, e4, e5, e6] at r2
  exact ⟨(r0.trans (val_main_v6_eq _ _)).trans (result5 m c).symm, (r1.trans (val_main_v5_eq _ _ _ _)).trans (result6 m c).symm,
    (r2.trans (val_main_v28_eq _ _ _ _ _ _ _)).trans (result7 m c).symm, rest⟩

/-- The reference runs, and leaves its arguments and its semaphores as they were. -/
theorem quiescent_reference : Cert.quiescent_ReferenceMixOutIdeal := fun m ρ _ =>
  (θ_run Cert.ReferenceMixOutIdeal.defs _ _).mono (fun r h => ⟨fun c => (h c).2.2.2, Idealize.ShloMosaic.sem_eq_zero_of_no_sems (by decide) r.2⟩)
    (Cert.ReferenceMixOutIdeal.Value.run (F := Ideal) m ρ)

end Cert.KernelMixOutIdeal.Points

end
-- ==== Proof.MixOutT.lean ====
/-
  The gradient of a mixer's output product in what it multiplies: each of the four grid points multiplies one block of tokens of
  the gradient by the transposed weight; block by block this is the reference's gradient.
-/
module

public import proofs.«01_k».proof.Proof.Gen.KernelMixOutTIdeal.Value
public import proofs.«01_k».proof.Proof.Gen.ReferenceMixOutTIdeal.Run
public import proofs.«01_k».proof.Proof.Gen.ReferenceMixOutTIdeal.Read
public import proofs.«01_k».proof.Defs
public import Idealize.ShloMosaic.Lib.Pointwise.Reshape
public import Idealize.ShloMosaic.Lib.Pointwise.ShapeOpsCore
public import Idealize.ShloMosaic.Lib.Pointwise.Contract
public import Idealize.ShloMosaic.Lib.Pointwise.Tactic

@[expose] public section

noncomputable section

namespace Cert.KernelMixOutTIdeal.Points

open Cert.KernelMixOutTIdeal Cert.KernelMixOutTIdeal.Gen Cert.KernelMixOutTIdeal.Value Idealize.ShloMosaic.TcCoe Idealize.SL.Sem
open Idealize.ShloMosaic.ValueIdx
open Idealize.ShloMosaic hiding ix0 ix1 ix2 ix3 ix4 ix5
open Cert.ReferenceMixOutTIdeal.Read

variable (m : (ℓ : Loc nD τ sig) → Buf (Elt Ideal) ℓ)

/-- The grid point of the block `t`. -/
abbrev pt (t : Fin 4) : Fin cfg0.N := ⟨t.val, by rw [show cfg0.N = 4 from N_0]; exact t.isLt⟩
/-- The token at the place `p` of the block `t`. -/
abbrev tok (t : Fin 4) (p : Fin 512) : Fin 2048 := ⟨512 * t.val + p.val, by omega⟩

omit m in
/-- The body's product: the gradient times the transposed weight. -/
theorem pay1_apply (a : Vec Ideal S512x1024 .bf16) (b : Vec Ideal S1024x1024 .bf16) (p : Fin 512) (d : Fin 1024) :
    k0_pay1 a b (ix2 p d) = ∑ k : Fin 1024, (a (ix2 p k) : EReal) * (b (ix2 d k) : EReal) := by
  unfold k0_pay1
  simp only [pointwise]
  exact zero_add _

/-- Window 0 reads a block of the gradient. -/
theorem blk0 (c : Dev nD) (t : Fin 4) (p : Fin 512) (q : Fin 1024) :
    (iblk m c 0 (pt t) : Vec Ideal S512x1024 .bf16) (ix2 p q) = V m c main_arg2 (ix2 (tok t p) q) := by
  have hi : ∀ t : Fin cfg0.N, win0_0.index t 0 = t.val ∧ win0_0.index t 1 = 0 :=
    (by decide +kernel : ∀ t : Fin grid0.N, win0_0.index t 0 = t.val ∧ win0_0.index t 1 = 0)
  unfold iblk
  rw [View.read_apply]
  show V m c main_arg2 _ = V m c main_arg2 _
  congr 1
  funext a
  apply Fin.ext
  match a with
  | ⟨0, _⟩ => show win0_0.index (pt t) 0 * 512 + 1 * p.val = 512 * t.val + p.val; rw [(hi (pt t)).1]; dsimp only; omega
  | ⟨1, _⟩ => show win0_0.index (pt t) 1 * 1024 + 1 * q.val = q.val; rw [(hi (pt t)).2]; omega

/-- Window 1 reads the weight, whole. -/
theorem blk1 (c : Dev nD) (t : Fin 4) (p : Fin 1024) (q : Fin 1024) :
    (iblk m c 1 (pt t) : Vec Ideal S1024x1024 .bf16) (ix2 p q) = V m c main_v0 (ix2 p q) := by
  have hi : ∀ t : Fin cfg0.N, win0_1.index t 0 = 0 ∧ win0_1.index t 1 = 0 :=
    (by decide +kernel : ∀ t : Fin grid0.N, win0_1.index t 0 = 0 ∧ win0_1.index t 1 = 0)
  unfold iblk
  rw [View.read_apply]
  show V m c main_v0 _ = V m c main_v0 _
  congr 1
  funext a
  apply Fin.ext
  match a with
  | ⟨0, _⟩ => show win0_1.index (pt t) 0 * 1024 + 1 * p.val = p.val; rw [(hi (pt t)).1]; omega
  | ⟨1, _⟩ => show win0_1.index (pt t) 1 * 1024 + 1 * q.val = q.val; rw [(hi (pt t)).2]; omega

omit m in
/-- The body's result is its product of the two blocks. -/
theorem out2_eq (a : Vec Ideal S512x1024 .bf16) (b : Vec Ideal S1024x1024 .bf16) : out0_2 a b = k0_pay1 a b := by
  have hz : (![0, 0] : Fin 2 → Nat) = fun _ => 0 := funext fun a => by fin_cases a <;> rfl
  unfold out0_2
  rw [View.canon_unit_zero hz, View.ld_unit_zero (S := S512x1024) hz _ a, View.ld_unit_zero (S := S1024x1024) hz _ b]

/-- The result after the run, block by block. -/
theorem final_2 (c : Dev nD) (t : Fin 4) (p : Fin 512) (q : Fin 1024) :
    ((dats m 0 c).arrAt 2 cfg0.N : Vec Ideal S2048x1024 .f32) (ix2 (tok t p) q) = k0_pay1 (iblk m c 0 (pt t)) (iblk m c 1 (pt t)) (ix2 p q) := by
  have hi : ∀ t : Fin cfg0.N, win0_2.index t 0 = t.val ∧ win0_2.index t 1 = 0 :=
    (by decide +kernel : ∀ t : Fin grid0.N, win0_2.index t 0 = t.val ∧ win0_2.index t 1 = 0)
  have e := congrFun (blocks2 m c (pt t) (flush0_2 (pt t))) (ix2 p q : S512x1024.Idx)
  rw [flushed2, out2_eq, View.read_apply] at e
  refine Eq.trans (congrArg ((dats m 0 c).arrAt 2 cfg0.N) ?_) e
  funext a
  apply Fin.ext
  match a with
  | ⟨0, _⟩ => show 512 * t.val + p.val = win0_2.index (pt t) 0 * 512 + 1 * p.val; rw [(hi (pt t)).1]; dsimp only; omega
  | ⟨1, _⟩ => show q.val = win0_2.index (pt t) 1 * 1024 + 1 * q.val; rw [(hi (pt t)).2]; omega

/-- The weight the kernel is launched on is the argument, rounded. -/
theorem V_v0 (c : Dev nD) : V m c main_v0 = truncf (F := Ideal) (φ := .f32) .bf16 (m ((c.tc : Thread nD τ).loc main_arg1)) bitsLt_bf16_f32 := by
  unfold_abbrev_sides
  simp only [hostOps0, List.flatten_cons, List.flatten_nil, List.append_nil, List.cons_append, List.nil_append,
    StableHlo.TRef.nullary, StableHlo.TRef.unary, StableHlo.TRef.binary, StableHlo.TRef.toBuf, StableHlo.TRef.ofBuf, cast_eq]
  after_results_simp

omit m in
/-- The reference's gradient at an index: the gradient times the transposed weight. -/
theorem reference_apply (x1 : (⟨S1024x1024, .f32⟩ : BufTy).Contents (Elt Ideal)) (x2 : (⟨S2048x1024, .bf16⟩ : BufTy).Contents (Elt Ideal)) (t : Fin 2048) (d : Fin 1024) :
    val_main_v3 (F := Ideal) x1 x2 (ix2 t d) = ∑ k : Fin 1024, (x2 (ix2 t k) : EReal) * (x1 (ix2 d k) : EReal) := by
  refine (val_main_v3_apply x1 x2 _).trans (Finset.sum_congr rfl fun k _ => ?_)
  rw [val_main_v2_apply]
  refine congrArg₂ (fun u v : EReal => u * v) (congrArg x2 ?_) (congrArg x1 ?_)
  · funext a
    apply Fin.ext
    match a with
    | ⟨0, _⟩ => rfl
    | ⟨1, _⟩ => rfl
  · funext a
    apply Fin.ext
    match a with
    | ⟨0, _⟩ => rfl
    | ⟨1, _⟩ => rfl

omit m in
/-- Two arrays with the same entries, block by block, are the same. -/
theorem blocks_ext {f g : (⟨S2048x1024, .f32⟩ : BufTy).Contents (Elt Ideal)} (h : ∀ (t : Fin 4) (p : Fin 512) (d : Fin 1024), f (ix2 (tok t p) d) = g (ix2 (tok t p) d)) : f = g := by
  funext i
  rw [ValueIdx.eq_ix2 i]
  generalize (i 1 : Fin 1024) = d
  generalize (i 0 : Fin 2048) = u
  have hu : u.val < 2048 := u.isLt
  have e : u = tok ⟨u.val / 512, by omega⟩ ⟨u.val % 512, by omega⟩ := Fin.ext (by show u.val = 512 * (u.val / 512) + u.val % 512; omega)
  rw [e]
  exact h _ _ _

/-- The kernel's result is the reference's on the same arguments. -/
theorem result (c : Dev nD) : (dats m 0 c).arrAt 2 cfg0.N = val_main_v3 (F := Ideal) (m ((c.tc : Thread nD τ).loc main_arg1)) (m ((c.tc : Thread nD τ).loc main_arg2)) := by
  refine blocks_ext fun t p d => (final_2 m c t p d).trans ((pay1_apply _ _ p d).trans ((Finset.sum_congr rfl fun k _ => ?_).trans (reference_apply _ _ _ d).symm))
  refine congrArg₂ (fun u v : EReal => u * v) ((blk0 m c t p k).trans ?_) ((blk1 m c t d k).trans ?_)
  · rw [V_main_arg2]
  · rw [V_v0]; rfl

omit m in
/-- The reference's result depends on its arguments only. -/
theorem reference_congr {x1 y1 : (⟨S1024x1024, .f32⟩ : BufTy).Contents (Elt Ideal)} {x2 y2 : (⟨S2048x1024, .bf16⟩ : BufTy).Contents (Elt Ideal)} (e1 : y1 = x1) (e2 : y2 = x2) :
    val_main_v3 (F := Ideal) y1 y2 = val_main_v3 (F := Ideal) x1 x2 := by
  subst e1; subst e2; rfl

/-- The kernel's and the reference's results are the same array. -/
theorem algebraic : Cert.algebraic_KernelMixOutTIdeal_ReferenceMixOutTIdeal := by
  intro m ρ m' ρ' hpre hagree
  refine ⟨_, Cert.KernelMixOutTIdeal.Value.run_blocks m ρ, ?_⟩
  refine (θ_run Cert.ReferenceMixOutTIdeal.defs _ _).mono (fun r h c => ?_) (Cert.ReferenceMixOutTIdeal.Value.run (F := Ideal) m' ρ')
  obtain ⟨r0, rest⟩ := h c
  obtain ⟨e0, e1, e2⟩ := hagree c
  exact ⟨(r0.trans (val_main_v3_eq _ _)).trans ((reference_congr e1 e2).trans (result m c).symm), rest⟩

/-- The reference runs, and leaves its arguments and its semaphores as they were. -/
theorem quiescent_reference : Cert.quiescent_ReferenceMixOutTIdeal := fun m ρ _ =>
  (θ_run Cert.ReferenceMixOutTIdeal.defs _ _).mono (fun r h => ⟨fun c => (h c).2, Idealize.ShloMosaic.sem_eq_zero_of_no_sems (by decide) r.2⟩)
    (Cert.ReferenceMixOutTIdeal.Value.run (F := Ideal) m ρ)

end Cert.KernelMixOutTIdeal.Points

end
-- ==== Proof.HgProduct.lean ====
/-
  The input product of the chunked mixer: each of the four grid points multiplies one block of tokens of the normalised stream by
  the weight; block by block this is the reference's product.
-/
module

public import proofs.«01_k».proof.Proof.Gen.KernelHgZIdeal.Value
public import proofs.«01_k».proof.Proof.Gen.ReferenceHgZIdeal.Run
public import proofs.«01_k».proof.Proof.Gen.ReferenceHgZIdeal.Read
public import proofs.«01_k».proof.Defs
public import Idealize.ShloMosaic.Lib.Pointwise.Reshape
public import Idealize.ShloMosaic.Lib.Pointwise.ShapeOpsCore
public import Idealize.ShloMosaic.Lib.Pointwise.Contract
public import Idealize.ShloMosaic.Lib.Pointwise.Tactic

@[expose] public section

noncomputable section

namespace Cert.KernelHgZIdeal.Points

open Cert.KernelHgZIdeal Cert.KernelHgZIdeal.Gen Cert.KernelHgZIdeal.Value Idealize.ShloMosaic.TcCoe Idealize.SL.Sem
open Idealize.ShloMosaic.ValueIdx
open Idealize.ShloMosaic hiding ix0 ix1 ix2 ix3 ix4 ix5
open Cert.ReferenceHgZIdeal.Read

variable (m : (ℓ : Loc nD τ sig) → Buf (Elt Ideal) ℓ)

/-- The grid point of the block `t`. -/
abbrev pt (t : Fin 4) : Fin cfg0.N := ⟨t.val, by rw [show cfg0.N = 4 from N_0]; exact t.isLt⟩
/-- The token at the place `p` of the block `t`. -/
abbrev tok (t : Fin 4) (p : Fin 512) : Fin 2048 := ⟨512 * t.val + p.val, by omega⟩

omit m in
/-- The body's product: the stream times the weight. -/
theorem pay1_apply (a : Vec Ideal S512x1024 .bf16) (b : Vec Ideal S1024x4096 .bf16) (p : Fin 512) (d : Fin 4096) :
    k0_pay1 a b (ix2 p d) = ∑ k : Fin 1024, (a (ix2 p k) : EReal) * (b (ix2 k d) : EReal) := by
  unfold k0_pay1
  simp only [pointwise]
  exact zero_add _

/-- Window 0 reads a block of the normalised stream. -/
theorem blk0 (c : Dev nD) (t : Fin 4) (p : Fin 512) (q : Fin 1024) :
    (iblk m c 0 (pt t) : Vec Ideal S512x1024 .bf16) (ix2 p q) = V m c main_v21 (ix2 (tok t p) q) := by
  have hi : ∀ t : Fin cfg0.N, win0_0.index t 0 = t.val ∧ win0_0.index t 1 = 0 :=
    (by decide +kernel : ∀ t : Fin grid0.N, win0_0.index t 0 = t.val ∧ win0_0.index t 1 = 0)
  unfold iblk
  rw [View.read_apply]
  show V m c main_v21 _ = V m c main_v21 _
  congr 1
  funext a
  apply Fin.ext
  match a with
  | ⟨0, _⟩ => show win0_0.index (pt t) 0 * 512 + 1 * p.val = 512 * t.val + p.val; rw [(hi (pt t)).1]; dsimp only; omega
  | ⟨1, _⟩ => show win0_0.index (pt t) 1 * 1024 + 1 * q.val = q.val; rw [(hi (pt t)).2]; omega

/-- Window 1 reads the weight, whole. -/
theorem blk1 (c : Dev nD) (t : Fin 4) (p : Fin 1024) (q : Fin 4096) :
    (iblk m c 1 (pt t) : Vec Ideal S1024x4096 .bf16) (ix2 p q) = V m c main_v22 (ix2 p q) := by
  have hi : ∀ t : Fin cfg0.N, win0_1.index t 0 = 0 ∧ win0_1.index t 1 = 0 :=
    (by decide +kernel : ∀ t : Fin grid0.N, win0_1.index t 0 = 0 ∧ win0_1.index t 1 = 0)
  unfold iblk
  rw [View.read_apply]
  show V m c main_v22 _ = V m c main_v22 _
  congr 1
  funext a
  apply Fin.ext
  match a with
  | ⟨0, _⟩ => show win0_1.index (pt t) 0 * 1024 + 1 * p.val = p.val; rw [(hi (pt t)).1]; omega
  | ⟨1, _⟩ => show win0_1.index (pt t) 1 * 4096 + 1 * q.val = q.val; rw [(hi (pt t)).2]; omega

omit m in
/-- The body's result is its product of the two blocks. -/
theorem out2_eq (a : Vec Ideal S512x1024 .bf16) (b : Vec Ideal S1024x4096 .bf16) : out0_2 a b = k0_pay1 a b := by
  have hz : (![0, 0] : Fin 2 → Nat) = fun _ => 0 := funext fun a => by fin_cases a <;> rfl
  unfold out0_2
  rw [View.canon_unit_zero hz, View.ld_unit_zero (S := S512x1024) hz _ a, View.ld_unit_zero (S := S1024x4096) hz _ b]

/-- The result after the run, block by block. -/
theorem final_2 (c : Dev nD) (t : Fin 4) (p : Fin 512) (q : Fin 4096) :
    ((dats m 0 c).arrAt 2 cfg0.N : Vec Ideal S2048x4096 .f32) (ix2 (tok t p) q) = k0_pay1 (iblk m c 0 (pt t)) (iblk m c 1 (pt t)) (ix2 p q) := by
  have hi : ∀ t : Fin cfg0.N, win0_2.index t 0 = t.val ∧ win0_2.index t 1 = 0 :=
    (by decide +kernel : ∀ t : Fin grid0.N, win0_2.index t 0 = t.val ∧ win0_2.index t 1 = 0)
  have e := congrFun (blocks2 m c (pt t) (flush0_2 (pt t))) (ix2 p q : S512x4096.Idx)
  rw [flushed2, out2_eq, View.read_apply] at e
  refine Eq.trans (congrArg ((dats m 0 c).arrAt 2 cfg0.N) ?_) e
  funext a
  apply Fin.ext
  match a with
  | ⟨0, _⟩ => show 512 * t.val + p.val = win0_2.index (pt t) 0 * 512 + 1 * p.val; rw [(hi (pt t)).1]; dsimp only; omega
  | ⟨1, _⟩ => show q.val = win0_2.index (pt t) 1 * 4096 + 1 * q.val; rw [(hi (pt t)).2]; omega

/-- The normalised stream the kernel is launched on is the reference's, rounded. -/
theorem V_v21 (c : Dev nD) : V m c main_v21 = (truncf (F := Ideal) (φ := .f32) .bf16 (val_main_v20 (F := Ideal) (m ((c.tc : Thread nD τ).loc main_arg0)) (m ((c.tc : Thread nD τ).loc main_arg1))
    (m ((c.tc : Thread nD τ).loc main_arg2)) (m ((c.tc : Thread nD τ).loc main_arg3))) bitsLt_bf16_f32 : (⟨S2048x1024, .bf16⟩ : BufTy).Contents (Elt Ideal)) := by
  unfold_abbrev_sides
  simp only [hostOps0, List.flatten_cons, List.flatten_nil, List.append_nil, List.cons_append, List.nil_append,
    StableHlo.TRef.nullary, StableHlo.TRef.unary, StableHlo.TRef.binary, StableHlo.TRef.toBuf, StableHlo.TRef.ofBuf, cast_eq]
  after_results_simp
  rfl

/-- The weight the kernel is launched on is the argument, rounded. -/
theorem V_v22 (c : Dev nD) : V m c main_v22 = truncf (F := Ideal) (φ := .f32) .bf16 (m ((c.tc : Thread nD τ).loc main_arg4)) bitsLt_bf16_f32 := by
  unfold_abbrev_sides
  simp only [hostOps0, List.flatten_cons, List.flatten_nil, List.append_nil, List.cons_append, List.nil_append,
    StableHlo.TRef.nullary, StableHlo.TRef.unary, StableHlo.TRef.binary, StableHlo.TRef.toBuf, StableHlo.TRef.ofBuf, cast_eq]
  after_results_simp

section
omit m

/-- The reference's product at an index: the normalised stream times the weight. -/
theorem reference_apply (x0 : (⟨S2048x1024, .f32⟩ : BufTy).Contents (Elt Ideal)) (x1 x2 x3 : (⟨S1024, .f32⟩ : BufTy).Contents (Elt Ideal))
    (x4 : (⟨S1024x4096, .f32⟩ : BufTy).Contents (Elt Ideal)) (t : Fin 2048) (d : Fin 4096) :
    val_main_v21 (F := Ideal) x0 x1 x2 x3 x4 (ix2 t d) = ∑ k : Fin 1024, (val_main_v20 (F := Ideal) x0 x1 x2 x3 (ix2 t k) : EReal) * (x4 (ix2 k d) : EReal) := by
  refine (val_main_v21_apply x0 x1 x2 x3 x4 _).trans (Finset.sum_congr rfl fun k _ => ?_)
  refine congrArg₂ (fun u v : EReal => u * v) (congrArg (val_main_v20 (F := Ideal) x0 x1 x2 x3) ?_) (congrArg x4 ?_)
  · funext a
    apply Fin.ext
    match a with
    | ⟨0, _⟩ => rfl
    | ⟨1, _⟩ => rfl
  · funext a
    apply Fin.ext
    match a with
    | ⟨0, _⟩ => rfl
    | ⟨1, _⟩ => rfl

/-- The reference's result depends on its arguments only. -/
theorem reference_congr {x0 y0 : (⟨S2048x1024, .f32⟩ : BufTy).Contents (Elt Ideal)} {x1 y1 x2 y2 x3 y3 : (⟨S1024, .f32⟩ : BufTy).Contents (Elt Ideal)}
    {x4 y4 : (⟨S1024x4096, .f32⟩ : BufTy).Contents (Elt Ideal)} (e0 : y0 = x0) (e1 : y1 = x1) (e2 : y2 = x2) (e3 : y3 = x3) (e4 : y4 = x4) :
    val_main_v21 (F := Ideal) y0 y1 y2 y3 y4 = val_main_v21 (F := Ideal) x0 x1 x2 x3 x4 := by
  subst e0; subst e1; subst e2; subst e3; subst e4; rfl

end

omit m in
/-- Two arrays with the same entries, block by block, are the same. -/
theorem blocks_ext {f g : (⟨S2048x4096, .f32⟩ : BufTy).Contents (Elt Ideal)} (h : ∀ (t : Fin 4) (p : Fin 512) (d : Fin 4096), f (ix2 (tok t p) d) = g (ix2 (tok t p) d)) : f = g := by
  funext i
  rw [ValueIdx.eq_ix2 i]
  generalize (i 1 : Fin 4096) = d
  generalize (i 0 : Fin 2048) = u
  have hu : u.val < 2048 := u.isLt
  have e : u = tok ⟨u.val / 512, by omega⟩ ⟨u.val % 512, by omega⟩ := Fin.ext (by show u.val = 512 * (u.val / 512) + u.val % 512; omega)
  rw [e]
  exact h _ _ _

/-- The kernel's result is the reference's on the same arguments. -/
theorem result (c : Dev nD) : (dats m 0 c).arrAt 2 cfg0.N = val_main_v21 (F := Ideal) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) := by
  refine blocks_ext fun t p d => (final_2 m c t p d).trans ((pay1_apply _ _ p d).trans ((Finset.sum_congr rfl fun k _ => ?_).trans (reference_apply _ _ _ _ _ _ d).symm))
  refine congrArg₂ (fun u v : EReal => u * v) ((blk0 m c t p k).trans ?_) ((blk1 m c t k d).trans ?_)
  · rw [V_v21]; rfl
  · rw [V_v22]; rfl

/-- The kernel's and the reference's results are the same array. -/
theorem algebraic : Cert.algebraic_KernelHgZIdeal_ReferenceHgZIdeal := by
  intro m ρ m' ρ' hpre hagree
  refine ⟨_, Cert.KernelHgZIdeal.Value.run_blocks m ρ, ?_⟩
  refine (θ_run Cert.ReferenceHgZIdeal.defs _ _).mono (fun r h c => ?_) (Cert.ReferenceHgZIdeal.Value.run (F := Ideal) m' ρ')
  obtain ⟨r0, rest⟩ := h c
  obtain ⟨e0, e1, e2, e3, e4⟩ := hagree c
  exact ⟨(r0.trans (val_main_v21_eq _ _ _ _ _)).trans ((reference_congr e0 e1 e2 e3 e4).trans (result m c).symm), rest⟩

/-- The reference runs, and leaves its arguments and its semaphores as they were. -/
theorem quiescent_reference : Cert.quiescent_ReferenceHgZIdeal := fun m ρ _ =>
  (θ_run Cert.ReferenceHgZIdeal.defs _ _).mono (fun r h => ⟨fun c => (h c).2, Idealize.ShloMosaic.sem_eq_zero_of_no_sems (by decide) r.2⟩)
    (Cert.ReferenceHgZIdeal.Value.run (F := Ideal) m ρ)

end Cert.KernelHgZIdeal.Points

end
-- ==== Proof.RgProduct.lean ====
/-
  The input product of the recurrent mixer: each of the four grid points multiplies one block of tokens of the normalised stream by
  the weight; block by block this is the reference's product.
-/
module

public import proofs.«01_k».proof.Proof.Gen.KernelRgZIdeal.Value
public import proofs.«01_k».proof.Proof.Gen.ReferenceRgZIdeal.Run
public import proofs.«01_k».proof.Proof.Gen.ReferenceRgZIdeal.Read
public import proofs.«01_k».proof.Defs
public import Idealize.ShloMosaic.Lib.Pointwise.Reshape
public import Idealize.ShloMosaic.Lib.Pointwise.ShapeOpsCore
public import Idealize.ShloMosaic.Lib.Pointwise.Contract
public import Idealize.ShloMosaic.Lib.Pointwise.Tactic

@[expose] public section

noncomputable section

namespace Cert.KernelRgZIdeal.Points

open Cert.KernelRgZIdeal Cert.KernelRgZIdeal.Gen Cert.KernelRgZIdeal.Value Idealize.ShloMosaic.TcCoe Idealize.SL.Sem
open Idealize.ShloMosaic.ValueIdx
open Idealize.ShloMosaic hiding ix0 ix1 ix2 ix3 ix4 ix5
open Cert.ReferenceRgZIdeal.Read

variable (m : (ℓ : Loc nD τ sig) → Buf (Elt Ideal) ℓ)

/-- The grid point of the block `t`. -/
abbrev pt (t : Fin 4) : Fin cfg0.N := ⟨t.val, by rw [show cfg0.N = 4 from N_0]; exact t.isLt⟩
/-- The token at the place `p` of the block `t`. -/
abbrev tok (t : Fin 4) (p : Fin 512) : Fin 2048 := ⟨512 * t.val + p.val, by omega⟩

omit m in
/-- The body's product: the stream times the weight. -/
theorem pay1_apply (a : Vec Ideal S512x1024 .bf16) (b : Vec Ideal S1024x2048 .bf16) (p : Fin 512) (d : Fin 2048) :
    k0_pay1 a b (ix2 p d) = ∑ k : Fin 1024, (a (ix2 p k) : EReal) * (b (ix2 k d) : EReal) := by
  unfold k0_pay1
  simp only [pointwise]
  exact zero_add _

/-- Window 0 reads a block of the normalised stream. -/
theorem blk0 (c : Dev nD) (t : Fin 4) (p : Fin 512) (q : Fin 1024) :
    (iblk m c 0 (pt t) : Vec Ideal S512x1024 .bf16) (ix2 p q) = V m c main_v21 (ix2 (tok t p) q) := by
  have hi : ∀ t : Fin cfg0.N, win0_0.index t 0 = t.val ∧ win0_0.index t 1 = 0 :=
    (by decide +kernel : ∀ t : Fin grid0.N, win0_0.index t 0 = t.val ∧ win0_0.index t 1 = 0)
  unfold iblk
  rw [View.read_apply]
  show V m c main_v21 _ = V m c main_v21 _
  congr 1
  funext a
  apply Fin.ext
  match a with
  | ⟨0, _⟩ => show win0_0.index (pt t) 0 * 512 + 1 * p.val = 512 * t.val + p.val; rw [(hi (pt t)).1]; dsimp only; omega
  | ⟨1, _⟩ => show win0_0.index (pt t) 1 * 1024 + 1 * q.val = q.val; rw [(hi (pt t)).2]; omega

/-- Window 1 reads the weight, whole. -/
theorem blk1 (c : Dev nD) (t : Fin 4) (p : Fin 1024) (q : Fin 2048) :
    (iblk m c 1 (pt t) : Vec Ideal S1024x2048 .bf16) (ix2 p q) = V m c main_v22 (ix2 p q) := by
  have hi : ∀ t : Fin cfg0.N, win0_1.index t 0 = 0 ∧ win0_1.index t 1 = 0 :=
    (by decide +kernel : ∀ t : Fin grid0.N, win0_1.index t 0 = 0 ∧ win0_1.index t 1 = 0)
  unfold iblk
  rw [View.read_apply]
  show V m c main_v22 _ = V m c main_v22 _
  congr 1
  funext a
  apply Fin.ext
  match a with
  | ⟨0, _⟩ => show win0_1.index (pt t) 0 * 1024 + 1 * p.val = p.val; rw [(hi (pt t)).1]; omega
  | ⟨1, _⟩ => show win0_1.index (pt t) 1 * 2048 + 1 * q.val = q.val; rw [(hi (pt t)).2]; omega

omit m in
/-- The body's result is its product of the two blocks. -/
theorem out2_eq (a : Vec Ideal S512x1024 .bf16) (b : Vec Ideal S1024x2048 .bf16) : out0_2 a b = k0_pay1 a b := by
  have hz : (![0, 0] : Fin 2 → Nat) = fun _ => 0 := funext fun a => by fin_cases a <;> rfl
  unfold out0_2
  rw [View.canon_unit_zero hz, View.ld_unit_zero (S := S512x1024) hz _ a, View.ld_unit_zero (S := S1024x2048) hz _ b]

/-- The result after the run, block by block. -/
theorem final_2 (c : Dev nD) (t : Fin 4) (p : Fin 512) (q : Fin 2048) :
    ((dats m 0 c).arrAt 2 cfg0.N : Vec Ideal S2048x2048 .f32) (ix2 (tok t p) q) = k0_pay1 (iblk m c 0 (pt t)) (iblk m c 1 (pt t)) (ix2 p q) := by
  have hi : ∀ t : Fin cfg0.N, win0_2.index t 0 = t.val ∧ win0_2.index t 1 = 0 :=
    (by decide +kernel : ∀ t : Fin grid0.N, win0_2.index t 0 = t.val ∧ win0_2.index t 1 = 0)
  have e := congrFun (blocks2 m c (pt t) (flush0_2 (pt t))) (ix2 p q : S512x2048.Idx)
  rw [flushed2, out2_eq, View.read_apply] at e
  refine Eq.trans (congrArg ((dats m 0 c).arrAt 2 cfg0.N) ?_) e
  funext a
  apply Fin.ext
  match a with
  | ⟨0, _⟩ => show 512 * t.val + p.val = win0_2.index (pt t) 0 * 512 + 1 * p.val; rw [(hi (pt t)).1]; dsimp only; omega
  | ⟨1, _⟩ => show q.val = win0_2.index (pt t) 1 * 2048 + 1 * q.val; rw [(hi (pt t)).2]; omega

/-- The normalised stream the kernel is launched on is the reference's, rounded. -/
theorem V_v21 (c : Dev nD) : V m c main_v21 = (truncf (F := Ideal) (φ := .f32) .bf16 (val_main_v20 (F := Ideal) (m ((c.tc : Thread nD τ).loc main_arg0)) (m ((c.tc : Thread nD τ).loc main_arg1))
    (m ((c.tc : Thread nD τ).loc main_arg2)) (m ((c.tc : Thread nD τ).loc main_arg3))) bitsLt_bf16_f32 : (⟨S2048x1024, .bf16⟩ : BufTy).Contents (Elt Ideal)) := by
  unfold_abbrev_sides
  simp only [hostOps0, List.flatten_cons, List.flatten_nil, List.append_nil, List.cons_append, List.nil_append,
    StableHlo.TRef.nullary, StableHlo.TRef.unary, StableHlo.TRef.binary, StableHlo.TRef.toBuf, StableHlo.TRef.ofBuf, cast_eq]
  after_results_simp
  rfl

/-- The weight the kernel is launched on is the argument, rounded. -/
theorem V_v22 (c : Dev nD) : V m c main_v22 = truncf (F := Ideal) (φ := .f32) .bf16 (m ((c.tc : Thread nD τ).loc main_arg4)) bitsLt_bf16_f32 := by
  unfold_abbrev_sides
  simp only [hostOps0, List.flatten_cons, List.flatten_nil, List.append_nil, List.cons_append, List.nil_append,
    StableHlo.TRef.nullary, StableHlo.TRef.unary, StableHlo.TRef.binary, StableHlo.TRef.toBuf, StableHlo.TRef.ofBuf, cast_eq]
  after_results_simp

section
omit m

/-- The reference's product at an index: the normalised stream times the weight. -/
theorem reference_apply (x0 : (⟨S2048x1024, .f32⟩ : BufTy).Contents (Elt Ideal)) (x1 x2 x3 : (⟨S1024, .f32⟩ : BufTy).Contents (Elt Ideal))
    (x4 : (⟨S1024x2048, .f32⟩ : BufTy).Contents (Elt Ideal)) (t : Fin 2048) (d : Fin 2048) :
    val_main_v21 (F := Ideal) x0 x1 x2 x3 x4 (ix2 t d) = ∑ k : Fin 1024, (val_main_v20 (F := Ideal) x0 x1 x2 x3 (ix2 t k) : EReal) * (x4 (ix2 k d) : EReal) := by
  refine (val_main_v21_apply x0 x1 x2 x3 x4 _).trans (Finset.sum_congr rfl fun k _ => ?_)
  refine congrArg₂ (fun u v : EReal => u * v) (congrArg (val_main_v20 (F := Ideal) x0 x1 x2 x3) ?_) (congrArg x4 ?_)
  · funext a
    apply Fin.ext
    match a with
    | ⟨0, _⟩ => rfl
    | ⟨1, _⟩ => rfl
  · funext a
    apply Fin.ext
    match a with
    | ⟨0, _⟩ => rfl
    | ⟨1, _⟩ => rfl

/-- The reference's result depends on its arguments only. -/
theorem reference_congr {x0 y0 : (⟨S2048x1024, .f32⟩ : BufTy).Contents (Elt Ideal)} {x1 y1 x2 y2 x3 y3 : (⟨S1024, .f32⟩ : BufTy).Contents (Elt Ideal)}
    {x4 y4 : (⟨S1024x2048, .f32⟩ : BufTy).Contents (Elt Ideal)} (e0 : y0 = x0) (e1 : y1 = x1) (e2 : y2 = x2) (e3 : y3 = x3) (e4 : y4 = x4) :
    val_main_v21 (F := Ideal) y0 y1 y2 y3 y4 = val_main_v21 (F := Ideal) x0 x1 x2 x3 x4 := by
  subst e0; subst e1; subst e2; subst e3; subst e4; rfl

end

omit m in
/-- Two arrays with the same entries, block by block, are the same. -/
theorem blocks_ext {f g : (⟨S2048x2048, .f32⟩ : BufTy).Contents (Elt Ideal)} (h : ∀ (t : Fin 4) (p : Fin 512) (d : Fin 2048), f (ix2 (tok t p) d) = g (ix2 (tok t p) d)) : f = g := by
  funext i
  rw [ValueIdx.eq_ix2 i]
  generalize (i 1 : Fin 2048) = d
  generalize (i 0 : Fin 2048) = u
  have hu : u.val < 2048 := u.isLt
  have e : u = tok ⟨u.val / 512, by omega⟩ ⟨u.val % 512, by omega⟩ := Fin.ext (by show u.val = 512 * (u.val / 512) + u.val % 512; omega)
  rw [e]
  exact h _ _ _

/-- The kernel's result is the reference's on the same arguments. -/
theorem result (c : Dev nD) : (dats m 0 c).arrAt 2 cfg0.N = val_main_v21 (F := Ideal) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) := by
  refine blocks_ext fun t p d => (final_2 m c t p d).trans ((pay1_apply _ _ p d).trans ((Finset.sum_congr rfl fun k _ => ?_).trans (reference_apply _ _ _ _ _ _ d).symm))
  refine congrArg₂ (fun u v : EReal => u * v) ((blk0 m c t p k).trans ?_) ((blk1 m c t k d).trans ?_)
  · rw [V_v21]; rfl
  · rw [V_v22]; rfl

/-- The kernel's and the reference's results are the same array. -/
theorem algebraic : Cert.algebraic_KernelRgZIdeal_ReferenceRgZIdeal := by
  intro m ρ m' ρ' hpre hagree
  refine ⟨_, Cert.KernelRgZIdeal.Value.run_blocks m ρ, ?_⟩
  refine (θ_run Cert.ReferenceRgZIdeal.defs _ _).mono (fun r h c => ?_) (Cert.ReferenceRgZIdeal.Value.run (F := Ideal) m' ρ')
  obtain ⟨r0, rest⟩ := h c
  obtain ⟨e0, e1, e2, e3, e4⟩ := hagree c
  exact ⟨(r0.trans (val_main_v21_eq _ _ _ _ _)).trans ((reference_congr e0 e1 e2 e3 e4).trans (result m c).symm), rest⟩

/-- The reference runs, and leaves its arguments and its semaphores as they were. -/
theorem quiescent_reference : Cert.quiescent_ReferenceRgZIdeal := fun m ρ _ =>
  (θ_run Cert.ReferenceRgZIdeal.defs _ _).mono (fun r h => ⟨fun c => (h c).2, Idealize.ShloMosaic.sem_eq_zero_of_no_sems (by decide) r.2⟩)
    (Cert.ReferenceRgZIdeal.Value.run (F := Ideal) m ρ)

end Cert.KernelRgZIdeal.Points

end
-- ==== Proof.Stack.lean ====
/-
  Stacks of layers: a stack whose first layer is one array and whose others are another's, read entry by entry. The optimiser's programs
  move the first layer of a stack and keep the others, so each of their results is such a stack; what holds at every shape is here.
-/
module

public import proofs.«01_k».proof.Proof.Adam
public import Idealize.ShloMosaic.Lib.ValueLayout
public import Idealize.ShloMosaic.Lib.ViewIndex
public import Idealize.ShloMosaic.Lib.Pointwise.Reshape
public import Idealize.ShloMosaic.Lib.Pointwise.ShapeOpsCore
public import Idealize.ShloMosaic.Lib.Pointwise.Tactic

@[expose] public section

noncomputable section

namespace Cert.Stack

open Idealize.ShloMosaic.ValueIdx
open Idealize.ShloMosaic hiding ix0 ix1 ix2 ix3 ix4 ix5

/-- Two indices of a matrix with the same coordinates are the same. -/
theorem two {a b : ℕ} {i j : (⟨2, ![a, b]⟩ : Shape).Idx} (h0 : (i 0).val = (j 0).val) (h1 : (i 1).val = (j 1).val) : i = j := by
  funext d
  apply Fin.ext
  match d with
  | ⟨0, _⟩ => exact h0
  | ⟨1, _⟩ => exact h1

/-- Two indices of a stack with the same coordinates are the same. -/
theorem three {a b c : ℕ} {i j : (⟨3, ![a, b, c]⟩ : Shape).Idx} (h0 : (i 0).val = (j 0).val) (h1 : (i 1).val = (j 1).val) (h2 : (i 2).val = (j 2).val) : i = j := by
  funext d
  apply Fin.ext
  match d with
  | ⟨0, _⟩ => exact h0
  | ⟨1, _⟩ => exact h1
  | ⟨2, _⟩ => exact h2

/-- The offset of a whole block. -/
theorem whole : (![0, 0, 0] : Fin 3 → Nat) = fun _ => 0 := funext fun a => by fin_cases a <;> rfl

variable {K L n b R C : ℕ}

/-- The row at the place `p` of the block `t`. -/
abbrev row (hR : n * b = R) (t : Fin n) (p : Fin b) : Fin R :=
  ⟨b * t.val + p.val, by
    rw [← hR]
    exact (Nat.add_lt_add_left p.isLt _).trans_le (by rw [← Nat.mul_succ, mul_comm]; exact Nat.mul_le_mul_right _ t.isLt)⟩
/-- The layer after the layer `l`. -/
abbrev nxt (l : Fin L) : Fin (L + 1) := ⟨1 + l.val, by omega⟩

/-- The stack whose first layer is a matrix, and whose other layers are a stack's. -/
def stack (top : Vec Ideal ⟨2, ![R, C]⟩ .f32) (rest : Vec Ideal ⟨3, ![L + 1, R, C]⟩ .f32) : Vec Ideal ⟨3, ![L + 1, R, C]⟩ .f32 :=
  fun i => if (i 0).val = 0 then top (ix2 (i 1) (i 2)) else rest i

/-- A stack that is so at every entry, the first layer's entries block by block, is so. -/
theorem ext (hR : n * b = R) {f rest : Vec Ideal ⟨3, ![L + 1, R, C]⟩ .f32} {top : Vec Ideal ⟨2, ![R, C]⟩ .f32}
    (h : ∀ (t : Fin n) (p : Fin b) (q : Fin C), f (ix3 0 (row hR t p) q) = top (ix2 (row hR t p) q))
    (h' : ∀ (l : Fin L) (u : Fin R) (q : Fin C), f (ix3 (nxt l) u q) = rest (ix3 (nxt l) u q)) : f = stack top rest := by
  have key : ∀ (l : Fin (L + 1)) (u : Fin R) (q : Fin C), f (ix3 l u q) = if l.val = 0 then top (ix2 u q) else rest (ix3 l u q) := fun l u q => by
    have hu := u.isLt
    have hb : 0 < b := Nat.pos_of_ne_zero fun e => by rw [e, mul_zero] at hR; omega
    have e1 : u = row hR ⟨u.val / b, Nat.div_lt_of_lt_mul (by rw [mul_comm, hR]; exact hu)⟩ ⟨u.val % b, Nat.mod_lt _ hb⟩ := Fin.ext (Nat.div_add_mod u.val b).symm
    split
    · next e =>
      have e0 : l = (0 : Fin (L + 1)) := Fin.ext e
      rw [e0, e1]
      exact h _ _ _
    · next e =>
      have hl := l.isLt
      have e0 : l = nxt ⟨l.val - 1, by omega⟩ := Fin.ext (by show l.val = 1 + (l.val - 1); omega)
      rw [e0]
      exact h' _ _ _
  funext i
  rw [ValueIdx.eq_ix3 i]
  exact key (i 0) (i 1) (i 2)

/-- A layer put before the later layers of a stack. -/
theorem concat (hc : Shape.Concatenates [⟨3, ![1, R, C]⟩, ⟨3, ![L, R, C]⟩] ⟨3, ![L + 1, R, C]⟩ 0) (x : Vec Ideal ⟨3, ![1, R, C]⟩ .f32) (y : Vec Ideal ⟨3, ![L, R, C]⟩ .f32)
    {top : Vec Ideal ⟨2, ![R, C]⟩ .f32} {rest : Vec Ideal ⟨3, ![L + 1, R, C]⟩ .f32} (hx : ∀ (u : Fin R) (q : Fin C), x (ix3 0 u q) = top (ix2 u q))
    (hy : ∀ (l : Fin L) (u : Fin R) (q : Fin C), y (ix3 l u q) = rest (ix3 (nxt l) u q)) :
    concatenate ⟨3, ![L + 1, R, C]⟩ 0 [⟨⟨3, ![1, R, C]⟩, x⟩, ⟨⟨3, ![L, R, C]⟩, y⟩] hc = stack top rest := by
  refine ext (n := 1) (one_mul R) (fun t p q => ?_) (fun l u q => ?_)
  · refine (concatenate_pair_apply_left (t := ⟨3, ![L + 1, R, C]⟩) (s₁ := ⟨3, ![1, R, C]⟩) (s₂ := ⟨3, ![L, R, C]⟩) (0 : Fin 3) _ _ hc _ rfl (ix3 0 (row (one_mul R) t p) q)
      (fun b => by match b with | ⟨0, _⟩ => rfl | ⟨1, _⟩ => rfl | ⟨2, _⟩ => rfl)).trans (hx _ _)
  · refine (concatenate_pair_apply_right (t := ⟨3, ![L + 1, R, C]⟩) (s₁ := ⟨3, ![1, R, C]⟩) (s₂ := ⟨3, ![L, R, C]⟩) (0 : Fin 3) _ _ hc _ rfl rfl (ix3 l u q)
      (fun b hb => by match b with | ⟨0, _⟩ => exact absurd rfl hb | ⟨1, _⟩ => rfl | ⟨2, _⟩ => rfl) (by show l.val + 1 = 1 + l.val; omega)).trans (hy _ _ _)

/-- Where an entry of a block lies in the stack: the block is `t` blocks down, at the first layer. -/
theorem index (hR : n * b = R) {idx : Fin 3 → ℕ} {t : Fin n} (h : idx = ![0, t.val, 0]) {s : ℕ} {k : Fin K} {p : Fin b} {q : Fin C} {i : (⟨3, ![K, R, C]⟩ : Shape).Idx}
    (h0 : (i 0).val = idx 0 * s + 1 * k.val) (h1 : (i 1).val = idx 1 * b + 1 * p.val) (h2 : (i 2).val = idx 2 * C + 1 * q.val) : i = ix3 k (row hR t p) q := by
  subst h
  refine three (h0.trans ?_) (h1.trans ?_) (h2.trans ?_)
  · show 0 * s + 1 * k.val = k.val; omega
  · show t.val * b + 1 * p.val = b * t.val + p.val; rw [one_mul, mul_comm]
  · show 0 * C + 1 * q.val = q.val; omega

/-- No block at the first layer has an entry of a later one. -/
theorem later {idx : Fin 3 → ℕ} {t x l : ℕ} (h : idx = ![0, t, 0]) (hx : x < 1) (e : idx 0 * 1 + 1 * x = 1 + l) : False := by
  have h0 : idx 0 = 0 := congrFun h 0
  omega

/-- A slab of a block, read as a matrix. -/
theorem slab {x0 : Vec Ideal ⟨3, ![K, b, C]⟩ .bf16} (k : Fin K) (h : ∀ a, (![k.val, 0, 0] : Fin 3 → Nat) a + (⟨3, ![1, b, C]⟩ : Shape).size a ≤ (⟨3, ![K, b, C]⟩ : Shape).size a)
    (hs : (⟨3, ![1, b, C]⟩ : Shape).ShapeCasts ⟨2, ![b, C]⟩) (p : Fin b) (q : Fin C) :
    (shapeCast ⟨2, ![b, C]⟩ (View.ld x0 (Rect.unit (s := ⟨3, ![K, b, C]⟩) ![k.val, 0, 0] (⟨3, ![1, b, C]⟩ : Shape).size h)) hs (ix2 p q) : EReal) = x0 (ix3 k p q) :=
  (shapeCast_1ab_ab_apply (View.ld x0 (Rect.unit (s := ⟨3, ![K, b, C]⟩) ![k.val, 0, 0] (⟨3, ![1, b, C]⟩ : Shape).size h)) hs p q).trans
    (congrArg x0 (three rfl (by show 0 + 1 * p.val = p.val; omega) (by show 0 + 1 * q.val = q.val; omega)))

/-- The row and the column of an entry counted row by row. -/
theorem row_of (u : Fin R) (q : Fin C) : (u.val * C + q.val) / C % R = u.val := by
  rw [mul_comm, Nat.mul_add_div (by have := q.isLt; omega), Nat.div_eq_of_lt q.isLt, add_zero, Nat.mod_eq_of_lt u.isLt]
/-- The column of an entry counted row by row. -/
theorem col_of (u : Fin R) (q : Fin C) : (u.val * C + q.val) % C = q.val := by rw [mul_comm, Nat.mul_add_mod, Nat.mod_eq_of_lt q.isLt]

end Cert.Stack

end
-- ==== Proof.AdamGate.lean ====
/-
  The optimiser's step on the gates' weights: the devices' gradients of the first of the stacked layers are added and every entry of that
  layer is moved; the other layers keep what they were given. Each result is, entry by entry, the reference's.
-/
module

public import proofs.«01_k».proof.Proof.Gen.KernelGateIdeal.Value
public import proofs.«01_k».proof.Proof.Gen.ReferenceGateIdeal.Run
public import proofs.«01_k».proof.Proof.Gen.ReferenceGateIdeal.Read
public import proofs.«01_k».proof.Proof.Stack
public import Idealize.ShloMosaic.Lib.Pipeline.Value
public import Idealize.ShloMosaic.Lib.Pipeline.ValueKit
public import Idealize.ShloMosaic.Lib.Pointwise.Contract
public import proofs.«01_k».proof.Defs

@[expose] public section

noncomputable section

namespace Cert.KernelGateIdeal.Points

open Cert.KernelGateIdeal Cert.KernelGateIdeal.Gen Cert.KernelGateIdeal.Value Idealize.ShloMosaic.TcCoe Idealize.SL.Sem
open Idealize.ShloMosaic.ValueIdx
open Idealize.ShloMosaic hiding ix0 ix1 ix2 ix3 ix4 ix5
open Cert.ReferenceGateIdeal.Read Cert.Stack

variable (m : (ℓ : Loc nD τ sig) → Buf (Elt Ideal) ℓ)

/-- The grid point of the block `t`. -/
abbrev pt (t : Fin 1) : Fin cfg0.N := ⟨t.val, by rw [show cfg0.N = 1 from N_0]; exact t.isLt⟩
/-- The blocks make up a layer. -/
theorem rows : 1 * 1024 = 1024 := rfl

/-- Where the windows' blocks lie. -/
theorem places : ∀ t : Fin cfg0.N, win0_0.index t = ![0, t.val, 0] ∧ win0_1.index t = ![0, t.val, 0] ∧ win0_2.index t = ![0, t.val, 0] ∧ win0_3.index t = ![0, t.val, 0]
    ∧ win0_4.index t = ![0, t.val, 0] ∧ win0_5.index t = ![0, t.val, 0] ∧ win0_6.index t = ![0, t.val, 0] ∧ win0_7.index t = ![0, t.val, 0] :=
  (by decide +kernel : ∀ t : Fin grid0.N, win0_0.index t = ![0, t.val, 0] ∧ win0_1.index t = ![0, t.val, 0] ∧ win0_2.index t = ![0, t.val, 0] ∧ win0_3.index t = ![0, t.val, 0]
    ∧ win0_4.index t = ![0, t.val, 0] ∧ win0_5.index t = ![0, t.val, 0] ∧ win0_6.index t = ![0, t.val, 0] ∧ win0_7.index t = ![0, t.val, 0])

/-- Window 0 reads a block of the devices' gradients. -/
theorem blk0 (c : Dev nD) (t : Fin 1) (k : Fin 8) (p : Fin 1024) (q : Fin 128) :
    (iblk m c 0 (pt t) : Vec Ideal S8x1024x128 .bf16) (ix3 k p q) = V m c main_arg0 (ix3 k (row rows t p) q) := by
  unfold iblk
  rw [View.read_apply]
  exact congrArg (V m c main_arg0) (index rows (places (pt t)).1 rfl rfl rfl)

/-- Window 1 reads a block of the first layer's weight. -/
theorem blk1 (c : Dev nD) (t : Fin 1) (p : Fin 1024) (q : Fin 128) :
    (iblk m c 1 (pt t) : Vec Ideal S1x1024x128 .f32) (ix3 0 p q) = V m c main_arg1 (ix3 0 (row rows t p) q) := by
  unfold iblk
  rw [View.read_apply]
  exact congrArg (V m c main_arg1) (index rows (places (pt t)).2.1 rfl rfl rfl)

/-- Window 2 reads a block of the first layer's first average. -/
theorem blk2 (c : Dev nD) (t : Fin 1) (p : Fin 1024) (q : Fin 128) :
    (iblk m c 2 (pt t) : Vec Ideal S1x1024x128 .f32) (ix3 0 p q) = V m c main_arg2 (ix3 0 (row rows t p) q) := by
  unfold iblk
  rw [View.read_apply]
  exact congrArg (V m c main_arg2) (index rows (places (pt t)).2.2.1 rfl rfl rfl)

/-- Window 3 reads a block of the first layer's second average. -/
theorem blk3 (c : Dev nD) (t : Fin 1) (p : Fin 1024) (q : Fin 128) :
    (iblk m c 3 (pt t) : Vec Ideal S1x1024x128 .f32) (ix3 0 p q) = V m c main_arg3 (ix3 0 (row rows t p) q) := by
  unfold iblk
  rw [View.read_apply]
  exact congrArg (V m c main_arg3) (index rows (places (pt t)).2.2.2.1 rfl rfl rfl)

section
omit m

/-- The part `k` of a block. -/
abbrev part (x0 : Vec Ideal S8x1024x128 .bf16) (k : Fin 8) (h : ∀ a, (![k.val, 0, 0] : Fin 3 → Nat) a + S1x1024x128.size a ≤ S8x1024x128.size a) : Vec Ideal S1x1024x128 .bf16 :=
  View.ld x0 (Rect.unit (s := S8x1024x128) ![k.val, 0, 0] S1x1024x128.size h)

/-- The parts of a block, added in the kernel's order. -/
def total (x0 : Vec Ideal S8x1024x128 .bf16) : FVec Ideal S1024x128 .f32 :=
  k0_pay3 (part x0 0 inb_S8x1024x128_S1x1024x128_0_0_0) (part x0 1 inb_S8x1024x128_S1x1024x128_1_0_0) (part x0 2 inb_S8x1024x128_S1x1024x128_2_0_0) (part x0 3 inb_S8x1024x128_S1x1024x128_3_0_0) (part x0 4 inb_S8x1024x128_S1x1024x128_4_0_0) (part x0 5 inb_S8x1024x128_S1x1024x128_5_0_0) (part x0 6 inb_S8x1024x128_S1x1024x128_6_0_0) (part x0 7 inb_S8x1024x128_S1x1024x128_7_0_0)

/-- A slab read as a matrix. -/
theorem cast_apply (v : Vec Ideal S1x1024x128 .f32) (p : Fin 1024) (q : Fin 128) : shapeCast S1024x128 v shapeCasts_S1x1024x128_S1024x128 (ix2 p q) = v (ix3 0 p q) :=
  shapeCast_1ab_ab_apply _ _ _ _

/-- The added parts at an index: the sum over the parts. -/
theorem total_apply (x0 : Vec Ideal S8x1024x128 .bf16) (p : Fin 1024) (q : Fin 128) : total x0 (ix2 p q) = ∑ k : Fin 8, (x0 (ix3 k p q) : EReal) := by
  rw [Fin.sum_univ_eight]
  unfold total k0_pay3
  simp only [addf_apply]
  exact congrArg₂ (fun u v : EReal => u + v) (congrArg₂ (fun u v : EReal => u + v) (congrArg₂ (fun u v : EReal => u + v) (congrArg₂ (fun u v : EReal => u + v) (congrArg₂ (fun u v : EReal => u + v) (congrArg₂ (fun u v : EReal => u + v) (congrArg₂ (fun u v : EReal => u + v) (slab 0 _ _ p q) (slab 1 _ _ p q)) (slab 2 _ _ p q)) (slab 3 _ _ p q)) (slab 4 _ _ p q)) (slab 5 _ _ p q)) (slab 6 _ _ p q)) (slab 7 _ _ p q)

variable {c : Dev nD} {i : grid0.Coords} {a1 : Memref sig .tc .vmem S8x1024x128 .bf16} {h1 : a1.IsWhole} {a2 a3 a4 a5 a6 a7 a8 : Memref sig .tc .vmem S1x1024x128 .f32}
  {h2 : a2.IsWhole} {h3 : a3.IsWhole} {h4 : a4.IsWhole} {h5 : a5.IsWhole} {h6 : a6.IsWhole} {h7 : a7.IsWhole} {h8 : a8.IsWhole}
variable {x0 : Vec Ideal S8x1024x128 .bf16} {x1 x2 x3 : Vec Ideal S1x1024x128 .f32} {p : Fin 1024} {q : Fin 128}

/-- The gradient of a block at an index. -/
theorem out_grad : out0_A_4 c i a1 h1 a2 h2 a3 h3 a4 h4 a5 h5 a6 h6 a7 h7 a8 h8 x0 x1 x2 x3 (ix3 0 p q) = total x0 (ix2 p q) := by
  rw [out0_A_4, View.read_writes_eq_canon _ _ _ (cover0_A_4 c i a1 h1 a2 h2 a3 h3 a4 h4 a5 h5 a6 h6 a7 h7 a8 h8 x0 x1 x2 x3)]
  unfold kernelRun0_A; dsimp only; sl_unfold_words
  rw [View.canon_unit_zero whole]
  simp only [View.readAt_eq_ld, h1.read_unread, h2.read_unread, h3.read_unread, h4.read_unread, View.ld_unit_zero (S := S1x1024x128) whole]
  exact shapeCast_ab_1ab_apply (total x0) _ _ _ _

/-- The weight's change of a block at an index. -/
theorem out_change : out0_A_5 c i a1 h1 a2 h2 a3 h3 a4 h4 a5 h5 a6 h6 a7 h7 a8 h8 x0 x1 x2 x3 (ix3 0 p q)
    = Cert.Adam.change (total x0 (ix2 p q)) (x1 (ix3 0 p q)) (x2 (ix3 0 p q)) (x3 (ix3 0 p q)) := by
  rw [out0_A_5, View.read_writes_eq_canon _ _ _ (cover0_A_5 c i a1 h1 a2 h2 a3 h3 a4 h4 a5 h5 a6 h6 a7 h7 a8 h8 x0 x1 x2 x3)]
  unfold kernelRun0_A; dsimp only; sl_unfold_words
  rw [View.canon_unit_zero whole]
  simp only [View.readAt_eq_ld, h1.read_unread, h2.read_unread, h3.read_unread, h4.read_unread, View.ld_unit_zero (S := S1x1024x128) whole]
  rw [← cast_apply x1 p q, ← cast_apply x2 p q, ← cast_apply x3 p q]
  unfold k0_pay7 k0_pay4 k0_pay5
  exact shapeCast_ab_1ab_apply _ _ _ _ _

/-- The first average of a block at an index. -/
theorem out_first : out0_A_6 c i a1 h1 a2 h2 a3 h3 a4 h4 a5 h5 a6 h6 a7 h7 a8 h8 x0 x1 x2 x3 (ix3 0 p q) = Cert.Adam.first (total x0 (ix2 p q)) (x2 (ix3 0 p q)) := by
  rw [out0_A_6, View.read_writes_eq_canon _ _ _ (cover0_A_6 c i a1 h1 a2 h2 a3 h3 a4 h4 a5 h5 a6 h6 a7 h7 a8 h8 x0 x1 x2 x3)]
  unfold kernelRun0_A; dsimp only; sl_unfold_words
  rw [View.canon_unit_zero whole]
  simp only [View.readAt_eq_ld, h1.read_unread, h2.read_unread, h3.read_unread, h4.read_unread, View.ld_unit_zero (S := S1x1024x128) whole]
  rw [← cast_apply x2 p q]
  unfold k0_pay1 k0_pay4
  exact shapeCast_ab_1ab_apply _ _ _ _ _

/-- The second average of a block at an index. -/
theorem out_second : out0_A_7 c i a1 h1 a2 h2 a3 h3 a4 h4 a5 h5 a6 h6 a7 h7 a8 h8 x0 x1 x2 x3 (ix3 0 p q) = Cert.Adam.second (total x0 (ix2 p q)) (x3 (ix3 0 p q)) := by
  rw [out0_A_7, View.read_writes_eq_canon _ _ _ (cover0_A_7 c i a1 h1 a2 h2 a3 h3 a4 h4 a5 h5 a6 h6 a7 h7 a8 h8 x0 x1 x2 x3)]
  unfold kernelRun0_A; dsimp only; sl_unfold_words
  rw [View.canon_unit_zero whole]
  simp only [View.readAt_eq_ld, h1.read_unread, h2.read_unread, h3.read_unread, h4.read_unread, View.ld_unit_zero (S := S1x1024x128) whole]
  rw [← cast_apply x3 p q]
  unfold k0_pay2 k0_pay5
  exact shapeCast_ab_1ab_apply _ _ _ _ _

/-- The reference's gradient at an index: the parts, added. -/
theorem ref_grad (x0 : (⟨S8x1024x128, .bf16⟩ : BufTy).Contents (Elt Ideal)) (u : Fin 1024) (q : Fin 128) : val_main_v1 (F := Ideal) x0 (ix2 u q) = ∑ k : Fin 8, (x0 (ix3 k u q) : EReal) := by
  rw [val_main_v1_apply, val_main_cst_apply]
  exact (congrArg (fun z : EReal => z + _) Cert.Adam.zero).trans ((zero_add _).trans (Finset.sum_congr rfl fun k _ => congrArg x0 (three rfl rfl rfl)))

/-- The reference's first layer of the weight. -/
theorem ref_layer1 (x : (⟨S2x1024x128, .f32⟩ : BufTy).Contents (Elt Ideal)) (u : Fin 1024) (q : Fin 128) : val_main_v3 (F := Ideal) x (ix2 u q) = x (ix3 0 u q) := by
  rw [val_main_v3_apply, val_main_v2_apply]
  exact congrArg x (three rfl (row_of u q) (col_of u q))

/-- The reference's first layer of the first average. -/
theorem ref_layer2 (x : (⟨S2x1024x128, .f32⟩ : BufTy).Contents (Elt Ideal)) (u : Fin 1024) (q : Fin 128) : val_main_v5 (F := Ideal) x (ix2 u q) = x (ix3 0 u q) := by
  rw [val_main_v5_apply, val_main_v4_apply]
  exact congrArg x (three rfl (row_of u q) (col_of u q))

/-- The reference's first layer of the second average. -/
theorem ref_layer3 (x : (⟨S2x1024x128, .f32⟩ : BufTy).Contents (Elt Ideal)) (u : Fin 1024) (q : Fin 128) : val_main_v7 (F := Ideal) x (ix2 u q) = x (ix3 0 u q) := by
  rw [val_main_v7_apply, val_main_v6_apply]
  exact congrArg x (three rfl (row_of u q) (col_of u q))

/-- The reference's first average at an index. -/
theorem ref_first (x0 : (⟨S8x1024x128, .bf16⟩ : BufTy).Contents (Elt Ideal)) (x2 : (⟨S2x1024x128, .f32⟩ : BufTy).Contents (Elt Ideal)) (u : Fin 1024) (q : Fin 128) :
    val_main_v12 (F := Ideal) x0 x2 (ix2 u q) = Cert.Adam.first (val_main_v1 (F := Ideal) x0 (ix2 u q)) (x2 (ix3 0 u q)) := by
  rw [val_main_v12_apply, val_main_v9_apply, val_main_v11_apply, val_main_v8_apply, val_main_v10_apply, val_main_cst_0_apply, val_main_cst_1_apply, ref_layer2]; rfl

/-- The reference's second average at an index. -/
theorem ref_second (x0 : (⟨S8x1024x128, .bf16⟩ : BufTy).Contents (Elt Ideal)) (x3 : (⟨S2x1024x128, .f32⟩ : BufTy).Contents (Elt Ideal)) (u : Fin 1024) (q : Fin 128) :
    val_main_v18 (F := Ideal) x0 x3 (ix2 u q) = Cert.Adam.second (val_main_v1 (F := Ideal) x0 (ix2 u q)) (x3 (ix3 0 u q)) := by
  rw [val_main_v18_apply, val_main_v14_apply, val_main_v17_apply, val_main_v15_apply, val_main_v13_apply, val_main_v16_apply, val_main_cst_2_apply, val_main_cst_3_apply,
    ref_layer3]; rfl

/-- The reference's change at an index. -/
theorem ref_change (x0 : (⟨S8x1024x128, .bf16⟩ : BufTy).Contents (Elt Ideal)) (x1 x2 x3 : (⟨S2x1024x128, .f32⟩ : BufTy).Contents (Elt Ideal)) (u : Fin 1024) (q : Fin 128) :
    val_main_v31 (F := Ideal) x0 x1 x2 x3 (ix2 u q)
      = Cert.Adam.change (val_main_v1 (F := Ideal) x0 (ix2 u q)) (x1 (ix3 0 u q)) (x2 (ix3 0 u q)) (x3 (ix3 0 u q)) := by
  rw [val_main_v31_apply, val_main_v29_apply, val_main_v26_apply, val_main_v20_apply, val_main_v25_apply, val_main_v23_apply, val_main_v22_apply, val_main_v28_apply,
    ref_first, ref_second, val_main_v19_apply, val_main_v21_apply, val_main_v24_apply, val_main_v27_apply, val_main_v30_apply,
    val_main_cst_4_apply, val_main_cst_5_apply, val_main_cst_6_apply, val_main_cst_7_apply, val_main_cst_8_apply, ref_layer1]; rfl

/-- The reference's stack of gradients. -/
theorem stack_grad (x0 : (⟨S8x1024x128, .bf16⟩ : BufTy).Contents (Elt Ideal)) (x4 : (⟨S2x1024x128, .f32⟩ : BufTy).Contents (Elt Ideal)) :
    val_main_v34 (F := Ideal) x0 x4 = stack (L := 1) (val_main_v1 (F := Ideal) x0) x4 :=
  concat _ _ _ (fun _ _ => (val_main_v32_apply _ _).trans (congrArg _ (two rfl rfl))) (fun _ _ _ => (val_main_v33_apply _ _).trans (congrArg _ (three rfl rfl rfl)))

/-- The reference's stack of changes. -/
theorem stack_change (x0 : (⟨S8x1024x128, .bf16⟩ : BufTy).Contents (Elt Ideal)) (x1 x2 x3 x5 : (⟨S2x1024x128, .f32⟩ : BufTy).Contents (Elt Ideal)) :
    val_main_v37 (F := Ideal) x0 x1 x2 x3 x5 = stack (L := 1) (val_main_v31 (F := Ideal) x0 x1 x2 x3) x5 :=
  concat _ _ _ (fun _ _ => (val_main_v35_apply _ _ _ _ _).trans (congrArg _ (two rfl rfl))) (fun _ _ _ => (val_main_v36_apply _ _).trans (congrArg _ (three rfl rfl rfl)))

/-- The reference's stack of first averages. -/
theorem stack_first (x0 : (⟨S8x1024x128, .bf16⟩ : BufTy).Contents (Elt Ideal)) (x2 x6 : (⟨S2x1024x128, .f32⟩ : BufTy).Contents (Elt Ideal)) :
    val_main_v40 (F := Ideal) x0 x2 x6 = stack (L := 1) (val_main_v12 (F := Ideal) x0 x2) x6 :=
  concat _ _ _ (fun _ _ => (val_main_v38_apply _ _ _).trans (congrArg _ (two rfl rfl))) (fun _ _ _ => (val_main_v39_apply _ _).trans (congrArg _ (three rfl rfl rfl)))

/-- The reference's stack of second averages. -/
theorem stack_second (x0 : (⟨S8x1024x128, .bf16⟩ : BufTy).Contents (Elt Ideal)) (x3 x7 : (⟨S2x1024x128, .f32⟩ : BufTy).Contents (Elt Ideal)) :
    val_main_v43 (F := Ideal) x0 x3 x7 = stack (L := 1) (val_main_v18 (F := Ideal) x0 x3) x7 :=
  concat _ _ _ (fun _ _ => (val_main_v41_apply _ _ _).trans (congrArg _ (two rfl rfl))) (fun _ _ _ => (val_main_v42_apply _ _).trans (congrArg _ (three rfl rfl rfl)))

end

/-- The added parts of a block are the reference's gradient. -/
theorem total_eq (c : Dev nD) (t : Fin 1) (p : Fin 1024) (q : Fin 128) :
    total (iblk m c 0 (pt t)) (ix2 p q) = val_main_v1 (F := Ideal) (m ((c.tc : Thread nD τ).loc main_arg0)) (ix2 (row rows t p) q) := by
  refine (total_apply _ p q).trans ((Finset.sum_congr rfl fun k _ => ?_).trans (ref_grad _ _ q).symm)
  rw [blk0, V_main_arg0]

/-- The results' arrays before the run are what was given. -/
theorem given (c : Dev nD) : V m c main_v0_0 = m ((c.tc : Thread nD τ).loc main_arg4) ∧ V m c main_v0_1 = m ((c.tc : Thread nD τ).loc main_arg5)
    ∧ V m c main_v0_2 = m ((c.tc : Thread nD τ).loc main_arg6) ∧ V m c main_v0_3 = m ((c.tc : Thread nD τ).loc main_arg7) := by
  refine ⟨?_, ?_, ?_, ?_⟩ <;>
  · unfold_abbrev_sides
    simp only [hostOps0, List.flatten_cons, List.flatten_nil, List.append_nil, List.cons_append, List.nil_append,
      StableHlo.TRef.nullary, StableHlo.TRef.unary, StableHlo.TRef.binary, StableHlo.TRef.toBuf, StableHlo.TRef.ofBuf, cast_eq]
    after_results_simp
    rfl

/-- The kernel's gradient is the reference's. -/
theorem result_grad (c : Dev nD) : (dats m 0 c).arrAt 4 cfg0.N = val_main_v34 (F := Ideal) (m ((c.tc : Thread nD τ).loc main_arg0)) (m ((c.tc : Thread nD τ).loc main_arg4)) := by
  refine (ext rows (fun t p q => ?_) (fun l u q => ?_)).trans (stack_grad _ _).symm
  · have e := congrFun (blocks4 m c (pt t) (flush0_4 (pt t))) (ix3 0 p q : S1x1024x128.Idx)
    rw [flushed4_A, View.read_apply] at e
    exact (congrArg ((dats m 0 c).arrAt 4 cfg0.N) (index rows (places (pt t)).2.2.2.2.1 rfl rfl rfl).symm).trans (e.trans (out_grad.trans (total_eq m c t p q)))
  · refine (entry4 m c (ix3 (nxt l) u q) fun t _ hm => ?_).trans (congrFun (given m c).1 _)
    obtain ⟨x, hx⟩ := View.exists_of_mem_set_slice hm
    exact later (places t).2.2.2.2.1 (x 0).isLt (congrArg (fun z : S2x1024x128.Idx => (z 0).val) hx)

/-- The kernel's change is the reference's. -/
theorem result_change (c : Dev nD) : (dats m 0 c).arrAt 5 cfg0.N = val_main_v37 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg5)) := by
  refine (ext rows (fun t p q => ?_) (fun l u q => ?_)).trans (stack_change _ _ _ _ _).symm
  · have e := congrFun (blocks5 m c (pt t) (flush0_5 (pt t))) (ix3 0 p q : S1x1024x128.Idx)
    rw [flushed5_A, View.read_apply] at e
    refine (congrArg ((dats m 0 c).arrAt 5 cfg0.N) (index rows (places (pt t)).2.2.2.2.2.1 rfl rfl rfl).symm).trans (e.trans (out_change.trans ?_))
    rw [ref_change, total_eq, blk1, blk2, blk3, V_main_arg1, V_main_arg2, V_main_arg3]
  · refine (entry5 m c (ix3 (nxt l) u q) fun t _ hm => ?_).trans (congrFun (given m c).2.1 _)
    obtain ⟨x, hx⟩ := View.exists_of_mem_set_slice hm
    exact later (places t).2.2.2.2.2.1 (x 0).isLt (congrArg (fun z : S2x1024x128.Idx => (z 0).val) hx)

/-- The kernel's first average is the reference's. -/
theorem result_first (c : Dev nD) : (dats m 0 c).arrAt 6 cfg0.N = val_main_v40 (F := Ideal) (m ((c.tc : Thread nD τ).loc main_arg0)) (m ((c.tc : Thread nD τ).loc main_arg2))
    (m ((c.tc : Thread nD τ).loc main_arg6)) := by
  refine (ext rows (fun t p q => ?_) (fun l u q => ?_)).trans (stack_first _ _ _).symm
  · have e := congrFun (blocks6 m c (pt t) (flush0_6 (pt t))) (ix3 0 p q : S1x1024x128.Idx)
    rw [flushed6_A, View.read_apply] at e
    refine (congrArg ((dats m 0 c).arrAt 6 cfg0.N) (index rows (places (pt t)).2.2.2.2.2.2.1 rfl rfl rfl).symm).trans (e.trans (out_first.trans ?_))
    rw [ref_first, total_eq, blk2, V_main_arg2]
  · refine (entry6 m c (ix3 (nxt l) u q) fun t _ hm => ?_).trans (congrFun (given m c).2.2.1 _)
    obtain ⟨x, hx⟩ := View.exists_of_mem_set_slice hm
    exact later (places t).2.2.2.2.2.2.1 (x 0).isLt (congrArg (fun z : S2x1024x128.Idx => (z 0).val) hx)

/-- The kernel's second average is the reference's. -/
theorem result_second (c : Dev nD) : (dats m 0 c).arrAt 7 cfg0.N = val_main_v43 (F := Ideal) (m ((c.tc : Thread nD τ).loc main_arg0)) (m ((c.tc : Thread nD τ).loc main_arg3))
    (m ((c.tc : Thread nD τ).loc main_arg7)) := by
  refine (ext rows (fun t p q => ?_) (fun l u q => ?_)).trans (stack_second _ _ _).symm
  · have e := congrFun (blocks7 m c (pt t) (flush0_7 (pt t))) (ix3 0 p q : S1x1024x128.Idx)
    rw [flushed7_A, View.read_apply] at e
    refine (congrArg ((dats m 0 c).arrAt 7 cfg0.N) (index rows (places (pt t)).2.2.2.2.2.2.2 rfl rfl rfl).symm).trans (e.trans (out_second.trans ?_))
    rw [ref_second, total_eq, blk3, V_main_arg3]
  · refine (entry7 m c (ix3 (nxt l) u q) fun t _ hm => ?_).trans (congrFun (given m c).2.2.2 _)
    obtain ⟨x, hx⟩ := View.exists_of_mem_set_slice hm
    exact later (places t).2.2.2.2.2.2.2 (x 0).isLt (congrArg (fun z : S2x1024x128.Idx => (z 0).val) hx)

/-- The kernel's and the reference's results are the same arrays. -/
theorem algebraic : Cert.algebraic_KernelGateIdeal_ReferenceGateIdeal := by
  intro m ρ m' ρ' hpre hagree
  refine ⟨_, _, _, _, Cert.KernelGateIdeal.Value.run_blocks m ρ, ?_⟩
  refine (θ_run Cert.ReferenceGateIdeal.defs _ _).mono (fun r h c => ?_) (Cert.ReferenceGateIdeal.Value.run (F := Ideal) m' ρ')
  obtain ⟨r0, r1, r2, r3, rest⟩ := h c
  obtain ⟨e0, e1, e2, e3, e4, e5, e6, e7⟩ := hagree c
  refine ⟨(r0.trans (val_main_v34_eq _ _)).trans (Eq.trans ?_ (result_grad m c).symm), (r1.trans (val_main_v37_eq _ _ _ _ _)).trans (Eq.trans ?_ (result_change m c).symm),
    (r2.trans (val_main_v40_eq _ _ _)).trans (Eq.trans ?_ (result_first m c).symm), (r3.trans (val_main_v43_eq _ _ _)).trans (Eq.trans ?_ (result_second m c).symm), rest⟩
  · exact congrArg₂ (val_main_v34 (F := Ideal)) e0 e4
  · exact (congrArg (fun z => val_main_v37 (F := Ideal) z _ _ _ _) e0).trans ((congrArg (fun z => val_main_v37 (F := Ideal) _ z _ _ _) e1).trans
      ((congrArg (fun z => val_main_v37 (F := Ideal) _ _ z _ _) e2).trans ((congrArg (fun z => val_main_v37 (F := Ideal) _ _ _ z _) e3).trans
        (congrArg (fun z => val_main_v37 (F := Ideal) _ _ _ _ z) e5))))
  · exact (congrArg (fun z => val_main_v40 (F := Ideal) z _ _) e0).trans (congrArg₂ (val_main_v40 (F := Ideal) _) e2 e6)
  · exact (congrArg (fun z => val_main_v43 (F := Ideal) z _ _) e0).trans (congrArg₂ (val_main_v43 (F := Ideal) _) e3 e7)

/-- The reference runs, and leaves its arguments and its semaphores as they were. -/
theorem quiescent_reference : Cert.quiescent_ReferenceGateIdeal := fun m ρ _ =>
  (θ_run Cert.ReferenceGateIdeal.defs _ _).mono (fun r h => ⟨fun c => (h c).2.2.2.2, Idealize.ShloMosaic.sem_eq_zero_of_no_sems (by decide) r.2⟩)
    (Cert.ReferenceGateIdeal.Value.run (F := Ideal) m ρ)

end Cert.KernelGateIdeal.Points

end
-- ==== Proof.AdamRgIn.lean ====
/-
  The optimiser's step on the recurrent mixers' first weights: the devices' gradients of the first of the stacked layers are added and every entry of that
  layer is moved; the other layers keep what they were given. Each result is, entry by entry, the reference's.
-/
module

public import proofs.«01_k».proof.Proof.Gen.KernelRgWInIdeal.Value
public import proofs.«01_k».proof.Proof.Gen.ReferenceRgWInIdeal.Run
public import proofs.«01_k».proof.Proof.Gen.ReferenceRgWInIdeal.Read
public import proofs.«01_k».proof.Proof.Stack
public import Idealize.ShloMosaic.Lib.Pipeline.Value
public import Idealize.ShloMosaic.Lib.Pipeline.ValueKit
public import Idealize.ShloMosaic.Lib.Pointwise.Contract
public import proofs.«01_k».proof.Defs

@[expose] public section

noncomputable section

namespace Cert.KernelRgWInIdeal.Points

open Cert.KernelRgWInIdeal Cert.KernelRgWInIdeal.Gen Cert.KernelRgWInIdeal.Value Idealize.ShloMosaic.TcCoe Idealize.SL.Sem
open Idealize.ShloMosaic.ValueIdx
open Idealize.ShloMosaic hiding ix0 ix1 ix2 ix3 ix4 ix5
open Cert.ReferenceRgWInIdeal.Read Cert.Stack

variable (m : (ℓ : Loc nD τ sig) → Buf (Elt Ideal) ℓ)

/-- The grid point of the block `t`. -/
abbrev pt (t : Fin 2) : Fin cfg0.N := ⟨t.val, by rw [show cfg0.N = 2 from N_0]; exact t.isLt⟩
/-- The blocks make up a layer. -/
theorem rows : 2 * 512 = 1024 := rfl

/-- Where the windows' blocks lie. -/
theorem places : ∀ t : Fin cfg0.N, win0_0.index t = ![0, t.val, 0] ∧ win0_1.index t = ![0, t.val, 0] ∧ win0_2.index t = ![0, t.val, 0] ∧ win0_3.index t = ![0, t.val, 0]
    ∧ win0_4.index t = ![0, t.val, 0] ∧ win0_5.index t = ![0, t.val, 0] ∧ win0_6.index t = ![0, t.val, 0] ∧ win0_7.index t = ![0, t.val, 0] :=
  (by decide +kernel : ∀ t : Fin grid0.N, win0_0.index t = ![0, t.val, 0] ∧ win0_1.index t = ![0, t.val, 0] ∧ win0_2.index t = ![0, t.val, 0] ∧ win0_3.index t = ![0, t.val, 0]
    ∧ win0_4.index t = ![0, t.val, 0] ∧ win0_5.index t = ![0, t.val, 0] ∧ win0_6.index t = ![0, t.val, 0] ∧ win0_7.index t = ![0, t.val, 0])

/-- Window 0 reads a block of the devices' gradients. -/
theorem blk0 (c : Dev nD) (t : Fin 2) (k : Fin 4) (p : Fin 512) (q : Fin 256) :
    (iblk m c 0 (pt t) : Vec Ideal S4x512x256 .bf16) (ix3 k p q) = V m c main_arg0 (ix3 k (row rows t p) q) := by
  unfold iblk
  rw [View.read_apply]
  exact congrArg (V m c main_arg0) (index rows (places (pt t)).1 rfl rfl rfl)

/-- Window 1 reads a block of the first layer's weight. -/
theorem blk1 (c : Dev nD) (t : Fin 2) (p : Fin 512) (q : Fin 256) :
    (iblk m c 1 (pt t) : Vec Ideal S1x512x256 .f32) (ix3 0 p q) = V m c main_arg1 (ix3 0 (row rows t p) q) := by
  unfold iblk
  rw [View.read_apply]
  exact congrArg (V m c main_arg1) (index rows (places (pt t)).2.1 rfl rfl rfl)

/-- Window 2 reads a block of the first layer's first average. -/
theorem blk2 (c : Dev nD) (t : Fin 2) (p : Fin 512) (q : Fin 256) :
    (iblk m c 2 (pt t) : Vec Ideal S1x512x256 .f32) (ix3 0 p q) = V m c main_arg2 (ix3 0 (row rows t p) q) := by
  unfold iblk
  rw [View.read_apply]
  exact congrArg (V m c main_arg2) (index rows (places (pt t)).2.2.1 rfl rfl rfl)

/-- Window 3 reads a block of the first layer's second average. -/
theorem blk3 (c : Dev nD) (t : Fin 2) (p : Fin 512) (q : Fin 256) :
    (iblk m c 3 (pt t) : Vec Ideal S1x512x256 .f32) (ix3 0 p q) = V m c main_arg3 (ix3 0 (row rows t p) q) := by
  unfold iblk
  rw [View.read_apply]
  exact congrArg (V m c main_arg3) (index rows (places (pt t)).2.2.2.1 rfl rfl rfl)

section
omit m

/-- The part `k` of a block. -/
abbrev part (x0 : Vec Ideal S4x512x256 .bf16) (k : Fin 4) (h : ∀ a, (![k.val, 0, 0] : Fin 3 → Nat) a + S1x512x256.size a ≤ S4x512x256.size a) : Vec Ideal S1x512x256 .bf16 :=
  View.ld x0 (Rect.unit (s := S4x512x256) ![k.val, 0, 0] S1x512x256.size h)

/-- The parts of a block, added in the kernel's order. -/
def total (x0 : Vec Ideal S4x512x256 .bf16) : FVec Ideal S512x256 .f32 :=
  k0_pay5 (part x0 0 inb_S4x512x256_S1x512x256_0_0_0) (part x0 1 inb_S4x512x256_S1x512x256_1_0_0) (part x0 2 inb_S4x512x256_S1x512x256_2_0_0) (part x0 3 inb_S4x512x256_S1x512x256_3_0_0)

/-- A slab read as a matrix. -/
theorem cast_apply (v : Vec Ideal S1x512x256 .f32) (p : Fin 512) (q : Fin 256) : shapeCast S512x256 v shapeCasts_S1x512x256_S512x256 (ix2 p q) = v (ix3 0 p q) :=
  shapeCast_1ab_ab_apply _ _ _ _

/-- The added parts at an index: the sum over the parts. -/
theorem total_apply (x0 : Vec Ideal S4x512x256 .bf16) (p : Fin 512) (q : Fin 256) : total x0 (ix2 p q) = ∑ k : Fin 4, (x0 (ix3 k p q) : EReal) := by
  rw [Fin.sum_univ_four]
  unfold total k0_pay5
  simp only [addf_apply]
  exact congrArg₂ (fun u v : EReal => u + v) (congrArg₂ (fun u v : EReal => u + v) (congrArg₂ (fun u v : EReal => u + v) (slab 0 _ _ p q) (slab 1 _ _ p q)) (slab 2 _ _ p q)) (slab 3 _ _ p q)

variable {c : Dev nD} {i : grid0.Coords} {a1 : Memref sig .tc .vmem S4x512x256 .bf16} {h1 : a1.IsWhole} {a2 a3 a4 a5 a6 a7 a8 : Memref sig .tc .vmem S1x512x256 .f32}
  {h2 : a2.IsWhole} {h3 : a3.IsWhole} {h4 : a4.IsWhole} {h5 : a5.IsWhole} {h6 : a6.IsWhole} {h7 : a7.IsWhole} {h8 : a8.IsWhole}
variable {x0 : Vec Ideal S4x512x256 .bf16} {x1 x2 x3 : Vec Ideal S1x512x256 .f32} {p : Fin 512} {q : Fin 256}

/-- The gradient of a block at an index. -/
theorem out_grad : out0_A_4 c i a1 h1 a2 h2 a3 h3 a4 h4 a5 h5 a6 h6 a7 h7 a8 h8 x0 x1 x2 x3 (ix3 0 p q) = total x0 (ix2 p q) := by
  rw [out0_A_4, View.read_writes_eq_canon _ _ _ (cover0_A_4 c i a1 h1 a2 h2 a3 h3 a4 h4 a5 h5 a6 h6 a7 h7 a8 h8 x0 x1 x2 x3)]
  unfold kernelRun0_A; dsimp only; sl_unfold_words
  rw [View.canon_unit_zero whole]
  simp only [View.readAt_eq_ld, h1.read_unread, h2.read_unread, h3.read_unread, h4.read_unread, View.ld_unit_zero (S := S1x512x256) whole]
  exact shapeCast_ab_1ab_apply (total x0) _ _ _ _

/-- The weight's change of a block at an index. -/
theorem out_change : out0_A_5 c i a1 h1 a2 h2 a3 h3 a4 h4 a5 h5 a6 h6 a7 h7 a8 h8 x0 x1 x2 x3 (ix3 0 p q)
    = Cert.Adam.change (total x0 (ix2 p q)) (x1 (ix3 0 p q)) (x2 (ix3 0 p q)) (x3 (ix3 0 p q)) := by
  rw [out0_A_5, View.read_writes_eq_canon _ _ _ (cover0_A_5 c i a1 h1 a2 h2 a3 h3 a4 h4 a5 h5 a6 h6 a7 h7 a8 h8 x0 x1 x2 x3)]
  unfold kernelRun0_A; dsimp only; sl_unfold_words
  rw [View.canon_unit_zero whole]
  simp only [View.readAt_eq_ld, h1.read_unread, h2.read_unread, h3.read_unread, h4.read_unread, View.ld_unit_zero (S := S1x512x256) whole]
  rw [← cast_apply x1 p q, ← cast_apply x2 p q, ← cast_apply x3 p q]
  unfold k0_pay2 k0_pay8 k0_pay9 k0_pay6 k0_pay7
  exact shapeCast_ab_1ab_apply _ _ _ _ _

/-- The first average of a block at an index. -/
theorem out_first : out0_A_6 c i a1 h1 a2 h2 a3 h3 a4 h4 a5 h5 a6 h6 a7 h7 a8 h8 x0 x1 x2 x3 (ix3 0 p q) = Cert.Adam.first (total x0 (ix2 p q)) (x2 (ix3 0 p q)) := by
  rw [out0_A_6, View.read_writes_eq_canon _ _ _ (cover0_A_6 c i a1 h1 a2 h2 a3 h3 a4 h4 a5 h5 a6 h6 a7 h7 a8 h8 x0 x1 x2 x3)]
  unfold kernelRun0_A; dsimp only; sl_unfold_words
  rw [View.canon_unit_zero whole]
  simp only [View.readAt_eq_ld, h1.read_unread, h2.read_unread, h3.read_unread, h4.read_unread, View.ld_unit_zero (S := S1x512x256) whole]
  rw [← cast_apply x2 p q]
  unfold k0_pay3 k0_pay6
  exact shapeCast_ab_1ab_apply _ _ _ _ _

/-- The second average of a block at an index. -/
theorem out_second : out0_A_7 c i a1 h1 a2 h2 a3 h3 a4 h4 a5 h5 a6 h6 a7 h7 a8 h8 x0 x1 x2 x3 (ix3 0 p q) = Cert.Adam.second (total x0 (ix2 p q)) (x3 (ix3 0 p q)) := by
  rw [out0_A_7, View.read_writes_eq_canon _ _ _ (cover0_A_7 c i a1 h1 a2 h2 a3 h3 a4 h4 a5 h5 a6 h6 a7 h7 a8 h8 x0 x1 x2 x3)]
  unfold kernelRun0_A; dsimp only; sl_unfold_words
  rw [View.canon_unit_zero whole]
  simp only [View.readAt_eq_ld, h1.read_unread, h2.read_unread, h3.read_unread, h4.read_unread, View.ld_unit_zero (S := S1x512x256) whole]
  rw [← cast_apply x3 p q]
  unfold k0_pay4 k0_pay7
  exact shapeCast_ab_1ab_apply _ _ _ _ _

/-- The reference's gradient at an index: the parts, added. -/
theorem ref_grad (x0 : (⟨S4x1024x256, .bf16⟩ : BufTy).Contents (Elt Ideal)) (u : Fin 1024) (q : Fin 256) : val_main_v1 (F := Ideal) x0 (ix2 u q) = ∑ k : Fin 4, (x0 (ix3 k u q) : EReal) := by
  rw [val_main_v1_apply, val_main_cst_apply]
  exact (congrArg (fun z : EReal => z + _) Cert.Adam.zero).trans ((zero_add _).trans (Finset.sum_congr rfl fun k _ => congrArg x0 (three rfl rfl rfl)))

/-- The reference's first layer of the weight. -/
theorem ref_layer1 (x : (⟨S2x1024x256, .f32⟩ : BufTy).Contents (Elt Ideal)) (u : Fin 1024) (q : Fin 256) : val_main_v3 (F := Ideal) x (ix2 u q) = x (ix3 0 u q) := by
  rw [val_main_v3_apply, val_main_v2_apply]
  exact congrArg x (three rfl (row_of u q) (col_of u q))

/-- The reference's first layer of the first average. -/
theorem ref_layer2 (x : (⟨S2x1024x256, .f32⟩ : BufTy).Contents (Elt Ideal)) (u : Fin 1024) (q : Fin 256) : val_main_v5 (F := Ideal) x (ix2 u q) = x (ix3 0 u q) := by
  rw [val_main_v5_apply, val_main_v4_apply]
  exact congrArg x (three rfl (row_of u q) (col_of u q))

/-- The reference's first layer of the second average. -/
theorem ref_layer3 (x : (⟨S2x1024x256, .f32⟩ : BufTy).Contents (Elt Ideal)) (u : Fin 1024) (q : Fin 256) : val_main_v7 (F := Ideal) x (ix2 u q) = x (ix3 0 u q) := by
  rw [val_main_v7_apply, val_main_v6_apply]
  exact congrArg x (three rfl (row_of u q) (col_of u q))

/-- The reference's first average at an index. -/
theorem ref_first (x0 : (⟨S4x1024x256, .bf16⟩ : BufTy).Contents (Elt Ideal)) (x2 : (⟨S2x1024x256, .f32⟩ : BufTy).Contents (Elt Ideal)) (u : Fin 1024) (q : Fin 256) :
    val_main_v12 (F := Ideal) x0 x2 (ix2 u q) = Cert.Adam.first (val_main_v1 (F := Ideal) x0 (ix2 u q)) (x2 (ix3 0 u q)) := by
  rw [val_main_v12_apply, val_main_v9_apply, val_main_v11_apply, val_main_v8_apply, val_main_v10_apply, val_main_cst_0_apply, val_main_cst_1_apply, ref_layer2]; rfl

/-- The reference's second average at an index. -/
theorem ref_second (x0 : (⟨S4x1024x256, .bf16⟩ : BufTy).Contents (Elt Ideal)) (x3 : (⟨S2x1024x256, .f32⟩ : BufTy).Contents (Elt Ideal)) (u : Fin 1024) (q : Fin 256) :
    val_main_v18 (F := Ideal) x0 x3 (ix2 u q) = Cert.Adam.second (val_main_v1 (F := Ideal) x0 (ix2 u q)) (x3 (ix3 0 u q)) := by
  rw [val_main_v18_apply, val_main_v14_apply, val_main_v17_apply, val_main_v15_apply, val_main_v13_apply, val_main_v16_apply, val_main_cst_2_apply, val_main_cst_3_apply,
    ref_layer3]; rfl

/-- The reference's change at an index. -/
theorem ref_change (x0 : (⟨S4x1024x256, .bf16⟩ : BufTy).Contents (Elt Ideal)) (x1 x2 x3 : (⟨S2x1024x256, .f32⟩ : BufTy).Contents (Elt Ideal)) (u : Fin 1024) (q : Fin 256) :
    val_main_v31 (F := Ideal) x0 x1 x2 x3 (ix2 u q)
      = Cert.Adam.change (val_main_v1 (F := Ideal) x0 (ix2 u q)) (x1 (ix3 0 u q)) (x2 (ix3 0 u q)) (x3 (ix3 0 u q)) := by
  rw [val_main_v31_apply, val_main_v29_apply, val_main_v26_apply, val_main_v20_apply, val_main_v25_apply, val_main_v23_apply, val_main_v22_apply, val_main_v28_apply,
    ref_first, ref_second, val_main_v19_apply, val_main_v21_apply, val_main_v24_apply, val_main_v27_apply, val_main_v30_apply,
    val_main_cst_4_apply, val_main_cst_5_apply, val_main_cst_6_apply, val_main_cst_7_apply, val_main_cst_8_apply, ref_layer1]; rfl

/-- The reference's stack of gradients. -/
theorem stack_grad (x0 : (⟨S4x1024x256, .bf16⟩ : BufTy).Contents (Elt Ideal)) (x4 : (⟨S2x1024x256, .f32⟩ : BufTy).Contents (Elt Ideal)) :
    val_main_v34 (F := Ideal) x0 x4 = stack (L := 1) (val_main_v1 (F := Ideal) x0) x4 :=
  concat _ _ _ (fun _ _ => (val_main_v32_apply _ _).trans (congrArg _ (two rfl rfl))) (fun _ _ _ => (val_main_v33_apply _ _).trans (congrArg _ (three rfl rfl rfl)))

/-- The reference's stack of changes. -/
theorem stack_change (x0 : (⟨S4x1024x256, .bf16⟩ : BufTy).Contents (Elt Ideal)) (x1 x2 x3 x5 : (⟨S2x1024x256, .f32⟩ : BufTy).Contents (Elt Ideal)) :
    val_main_v37 (F := Ideal) x0 x1 x2 x3 x5 = stack (L := 1) (val_main_v31 (F := Ideal) x0 x1 x2 x3) x5 :=
  concat _ _ _ (fun _ _ => (val_main_v35_apply _ _ _ _ _).trans (congrArg _ (two rfl rfl))) (fun _ _ _ => (val_main_v36_apply _ _).trans (congrArg _ (three rfl rfl rfl)))

/-- The reference's stack of first averages. -/
theorem stack_first (x0 : (⟨S4x1024x256, .bf16⟩ : BufTy).Contents (Elt Ideal)) (x2 x6 : (⟨S2x1024x256, .f32⟩ : BufTy).Contents (Elt Ideal)) :
    val_main_v40 (F := Ideal) x0 x2 x6 = stack (L := 1) (val_main_v12 (F := Ideal) x0 x2) x6 :=
  concat _ _ _ (fun _ _ => (val_main_v38_apply _ _ _).trans (congrArg _ (two rfl rfl))) (fun _ _ _ => (val_main_v39_apply _ _).trans (congrArg _ (three rfl rfl rfl)))

/-- The reference's stack of second averages. -/
theorem stack_second (x0 : (⟨S4x1024x256, .bf16⟩ : BufTy).Contents (Elt Ideal)) (x3 x7 : (⟨S2x1024x256, .f32⟩ : BufTy).Contents (Elt Ideal)) :
    val_main_v43 (F := Ideal) x0 x3 x7 = stack (L := 1) (val_main_v18 (F := Ideal) x0 x3) x7 :=
  concat _ _ _ (fun _ _ => (val_main_v41_apply _ _ _).trans (congrArg _ (two rfl rfl))) (fun _ _ _ => (val_main_v42_apply _ _).trans (congrArg _ (three rfl rfl rfl)))

end

/-- The added parts of a block are the reference's gradient. -/
theorem total_eq (c : Dev nD) (t : Fin 2) (p : Fin 512) (q : Fin 256) :
    total (iblk m c 0 (pt t)) (ix2 p q) = val_main_v1 (F := Ideal) (m ((c.tc : Thread nD τ).loc main_arg0)) (ix2 (row rows t p) q) := by
  refine (total_apply _ p q).trans ((Finset.sum_congr rfl fun k _ => ?_).trans (ref_grad _ _ q).symm)
  rw [blk0, V_main_arg0]

/-- The results' arrays before the run are what was given. -/
theorem given (c : Dev nD) : V m c main_v0_0 = m ((c.tc : Thread nD τ).loc main_arg4) ∧ V m c main_v0_1 = m ((c.tc : Thread nD τ).loc main_arg5)
    ∧ V m c main_v0_2 = m ((c.tc : Thread nD τ).loc main_arg6) ∧ V m c main_v0_3 = m ((c.tc : Thread nD τ).loc main_arg7) := by
  refine ⟨?_, ?_, ?_, ?_⟩ <;>
  · unfold_abbrev_sides
    simp only [hostOps0, List.flatten_cons, List.flatten_nil, List.append_nil, List.cons_append, List.nil_append,
      StableHlo.TRef.nullary, StableHlo.TRef.unary, StableHlo.TRef.binary, StableHlo.TRef.toBuf, StableHlo.TRef.ofBuf, cast_eq]
    after_results_simp
    rfl

/-- The kernel's gradient is the reference's. -/
theorem result_grad (c : Dev nD) : (dats m 0 c).arrAt 4 cfg0.N = val_main_v34 (F := Ideal) (m ((c.tc : Thread nD τ).loc main_arg0)) (m ((c.tc : Thread nD τ).loc main_arg4)) := by
  refine (ext rows (fun t p q => ?_) (fun l u q => ?_)).trans (stack_grad _ _).symm
  · have e := congrFun (blocks4 m c (pt t) (flush0_4 (pt t))) (ix3 0 p q : S1x512x256.Idx)
    rw [flushed4_A, View.read_apply] at e
    exact (congrArg ((dats m 0 c).arrAt 4 cfg0.N) (index rows (places (pt t)).2.2.2.2.1 rfl rfl rfl).symm).trans (e.trans (out_grad.trans (total_eq m c t p q)))
  · refine (entry4 m c (ix3 (nxt l) u q) fun t _ hm => ?_).trans (congrFun (given m c).1 _)
    obtain ⟨x, hx⟩ := View.exists_of_mem_set_slice hm
    exact later (places t).2.2.2.2.1 (x 0).isLt (congrArg (fun z : S2x1024x256.Idx => (z 0).val) hx)

/-- The kernel's change is the reference's. -/
theorem result_change (c : Dev nD) : (dats m 0 c).arrAt 5 cfg0.N = val_main_v37 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg5)) := by
  refine (ext rows (fun t p q => ?_) (fun l u q => ?_)).trans (stack_change _ _ _ _ _).symm
  · have e := congrFun (blocks5 m c (pt t) (flush0_5 (pt t))) (ix3 0 p q : S1x512x256.Idx)
    rw [flushed5_A, View.read_apply] at e
    refine (congrArg ((dats m 0 c).arrAt 5 cfg0.N) (index rows (places (pt t)).2.2.2.2.2.1 rfl rfl rfl).symm).trans (e.trans (out_change.trans ?_))
    rw [ref_change, total_eq, blk1, blk2, blk3, V_main_arg1, V_main_arg2, V_main_arg3]
  · refine (entry5 m c (ix3 (nxt l) u q) fun t _ hm => ?_).trans (congrFun (given m c).2.1 _)
    obtain ⟨x, hx⟩ := View.exists_of_mem_set_slice hm
    exact later (places t).2.2.2.2.2.1 (x 0).isLt (congrArg (fun z : S2x1024x256.Idx => (z 0).val) hx)

/-- The kernel's first average is the reference's. -/
theorem result_first (c : Dev nD) : (dats m 0 c).arrAt 6 cfg0.N = val_main_v40 (F := Ideal) (m ((c.tc : Thread nD τ).loc main_arg0)) (m ((c.tc : Thread nD τ).loc main_arg2))
    (m ((c.tc : Thread nD τ).loc main_arg6)) := by
  refine (ext rows (fun t p q => ?_) (fun l u q => ?_)).trans (stack_first _ _ _).symm
  · have e := congrFun (blocks6 m c (pt t) (flush0_6 (pt t))) (ix3 0 p q : S1x512x256.Idx)
    rw [flushed6_A, View.read_apply] at e
    refine (congrArg ((dats m 0 c).arrAt 6 cfg0.N) (index rows (places (pt t)).2.2.2.2.2.2.1 rfl rfl rfl).symm).trans (e.trans (out_first.trans ?_))
    rw [ref_first, total_eq, blk2, V_main_arg2]
  · refine (entry6 m c (ix3 (nxt l) u q) fun t _ hm => ?_).trans (congrFun (given m c).2.2.1 _)
    obtain ⟨x, hx⟩ := View.exists_of_mem_set_slice hm
    exact later (places t).2.2.2.2.2.2.1 (x 0).isLt (congrArg (fun z : S2x1024x256.Idx => (z 0).val) hx)

/-- The kernel's second average is the reference's. -/
theorem result_second (c : Dev nD) : (dats m 0 c).arrAt 7 cfg0.N = val_main_v43 (F := Ideal) (m ((c.tc : Thread nD τ).loc main_arg0)) (m ((c.tc : Thread nD τ).loc main_arg3))
    (m ((c.tc : Thread nD τ).loc main_arg7)) := by
  refine (ext rows (fun t p q => ?_) (fun l u q => ?_)).trans (stack_second _ _ _).symm
  · have e := congrFun (blocks7 m c (pt t) (flush0_7 (pt t))) (ix3 0 p q : S1x512x256.Idx)
    rw [flushed7_A, View.read_apply] at e
    refine (congrArg ((dats m 0 c).arrAt 7 cfg0.N) (index rows (places (pt t)).2.2.2.2.2.2.2 rfl rfl rfl).symm).trans (e.trans (out_second.trans ?_))
    rw [ref_second, total_eq, blk3, V_main_arg3]
  · refine (entry7 m c (ix3 (nxt l) u q) fun t _ hm => ?_).trans (congrFun (given m c).2.2.2 _)
    obtain ⟨x, hx⟩ := View.exists_of_mem_set_slice hm
    exact later (places t).2.2.2.2.2.2.2 (x 0).isLt (congrArg (fun z : S2x1024x256.Idx => (z 0).val) hx)

/-- The kernel's and the reference's results are the same arrays. -/
theorem algebraic : Cert.algebraic_KernelRgWInIdeal_ReferenceRgWInIdeal := by
  intro m ρ m' ρ' hpre hagree
  refine ⟨_, _, _, _, Cert.KernelRgWInIdeal.Value.run_blocks m ρ, ?_⟩
  refine (θ_run Cert.ReferenceRgWInIdeal.defs _ _).mono (fun r h c => ?_) (Cert.ReferenceRgWInIdeal.Value.run (F := Ideal) m' ρ')
  obtain ⟨r0, r1, r2, r3, rest⟩ := h c
  obtain ⟨e0, e1, e2, e3, e4, e5, e6, e7⟩ := hagree c
  refine ⟨(r0.trans (val_main_v34_eq _ _)).trans (Eq.trans ?_ (result_grad m c).symm), (r1.trans (val_main_v37_eq _ _ _ _ _)).trans (Eq.trans ?_ (result_change m c).symm),
    (r2.trans (val_main_v40_eq _ _ _)).trans (Eq.trans ?_ (result_first m c).symm), (r3.trans (val_main_v43_eq _ _ _)).trans (Eq.trans ?_ (result_second m c).symm), rest⟩
  · exact congrArg₂ (val_main_v34 (F := Ideal)) e0 e4
  · exact (congrArg (fun z => val_main_v37 (F := Ideal) z _ _ _ _) e0).trans ((congrArg (fun z => val_main_v37 (F := Ideal) _ z _ _ _) e1).trans
      ((congrArg (fun z => val_main_v37 (F := Ideal) _ _ z _ _) e2).trans ((congrArg (fun z => val_main_v37 (F := Ideal) _ _ _ z _) e3).trans
        (congrArg (fun z => val_main_v37 (F := Ideal) _ _ _ _ z) e5))))
  · exact (congrArg (fun z => val_main_v40 (F := Ideal) z _ _) e0).trans (congrArg₂ (val_main_v40 (F := Ideal) _) e2 e6)
  · exact (congrArg (fun z => val_main_v43 (F := Ideal) z _ _) e0).trans (congrArg₂ (val_main_v43 (F := Ideal) _) e3 e7)

/-- The reference runs, and leaves its arguments and its semaphores as they were. -/
theorem quiescent_reference : Cert.quiescent_ReferenceRgWInIdeal := fun m ρ _ =>
  (θ_run Cert.ReferenceRgWInIdeal.defs _ _).mono (fun r h => ⟨fun c => (h c).2.2.2.2, Idealize.ShloMosaic.sem_eq_zero_of_no_sems (by decide) r.2⟩)
    (Cert.ReferenceRgWInIdeal.Value.run (F := Ideal) m ρ)

end Cert.KernelRgWInIdeal.Points

end
-- ==== Proof.AdamOut.lean ====
/-
  The optimiser's step on the mixers' last weights: the devices' gradients of the first of the stacked layers are added and every entry of that
  layer is moved; the other layers keep what they were given. Each result is, entry by entry, the reference's.
-/
module

public import proofs.«01_k».proof.Proof.Gen.KernelWOutIdeal.Value
public import proofs.«01_k».proof.Proof.Gen.ReferenceWOutIdeal.Run
public import proofs.«01_k».proof.Proof.Gen.ReferenceWOutIdeal.Read
public import proofs.«01_k».proof.Proof.Stack
public import Idealize.ShloMosaic.Lib.Pipeline.Value
public import Idealize.ShloMosaic.Lib.Pipeline.ValueKit
public import Idealize.ShloMosaic.Lib.Pointwise.Contract
public import proofs.«01_k».proof.Defs

@[expose] public section

noncomputable section

namespace Cert.KernelWOutIdeal.Points

open Cert.KernelWOutIdeal Cert.KernelWOutIdeal.Gen Cert.KernelWOutIdeal.Value Idealize.ShloMosaic.TcCoe Idealize.SL.Sem
open Idealize.ShloMosaic.ValueIdx
open Idealize.ShloMosaic hiding ix0 ix1 ix2 ix3 ix4 ix5
open Cert.ReferenceWOutIdeal.Read Cert.Stack

variable (m : (ℓ : Loc nD τ sig) → Buf (Elt Ideal) ℓ)

/-- The grid point of the block `t`. -/
abbrev pt (t : Fin 1) : Fin cfg0.N := ⟨t.val, by rw [show cfg0.N = 1 from N_0]; exact t.isLt⟩
/-- The blocks make up a layer. -/
theorem rows : 1 * 128 = 128 := rfl

/-- Where the windows' blocks lie. -/
theorem places : ∀ t : Fin cfg0.N, win0_0.index t = ![0, t.val, 0] ∧ win0_1.index t = ![0, t.val, 0] ∧ win0_2.index t = ![0, t.val, 0] ∧ win0_3.index t = ![0, t.val, 0]
    ∧ win0_4.index t = ![0, t.val, 0] ∧ win0_5.index t = ![0, t.val, 0] ∧ win0_6.index t = ![0, t.val, 0] ∧ win0_7.index t = ![0, t.val, 0] :=
  (by decide +kernel : ∀ t : Fin grid0.N, win0_0.index t = ![0, t.val, 0] ∧ win0_1.index t = ![0, t.val, 0] ∧ win0_2.index t = ![0, t.val, 0] ∧ win0_3.index t = ![0, t.val, 0]
    ∧ win0_4.index t = ![0, t.val, 0] ∧ win0_5.index t = ![0, t.val, 0] ∧ win0_6.index t = ![0, t.val, 0] ∧ win0_7.index t = ![0, t.val, 0])

/-- Window 0 reads a block of the devices' gradients. -/
theorem blk0 (c : Dev nD) (t : Fin 1) (k : Fin 4) (p : Fin 128) (q : Fin 1024) :
    (iblk m c 0 (pt t) : Vec Ideal S4x128x1024 .bf16) (ix3 k p q) = V m c main_arg0 (ix3 k (row rows t p) q) := by
  unfold iblk
  rw [View.read_apply]
  exact congrArg (V m c main_arg0) (index rows (places (pt t)).1 rfl rfl rfl)

/-- Window 1 reads a block of the first layer's weight. -/
theorem blk1 (c : Dev nD) (t : Fin 1) (p : Fin 128) (q : Fin 1024) :
    (iblk m c 1 (pt t) : Vec Ideal S1x128x1024 .f32) (ix3 0 p q) = V m c main_arg1 (ix3 0 (row rows t p) q) := by
  unfold iblk
  rw [View.read_apply]
  exact congrArg (V m c main_arg1) (index rows (places (pt t)).2.1 rfl rfl rfl)

/-- Window 2 reads a block of the first layer's first average. -/
theorem blk2 (c : Dev nD) (t : Fin 1) (p : Fin 128) (q : Fin 1024) :
    (iblk m c 2 (pt t) : Vec Ideal S1x128x1024 .f32) (ix3 0 p q) = V m c main_arg2 (ix3 0 (row rows t p) q) := by
  unfold iblk
  rw [View.read_apply]
  exact congrArg (V m c main_arg2) (index rows (places (pt t)).2.2.1 rfl rfl rfl)

/-- Window 3 reads a block of the first layer's second average. -/
theorem blk3 (c : Dev nD) (t : Fin 1) (p : Fin 128) (q : Fin 1024) :
    (iblk m c 3 (pt t) : Vec Ideal S1x128x1024 .f32) (ix3 0 p q) = V m c main_arg3 (ix3 0 (row rows t p) q) := by
  unfold iblk
  rw [View.read_apply]
  exact congrArg (V m c main_arg3) (index rows (places (pt t)).2.2.2.1 rfl rfl rfl)

section
omit m

/-- The part `k` of a block. -/
abbrev part (x0 : Vec Ideal S4x128x1024 .bf16) (k : Fin 4) (h : ∀ a, (![k.val, 0, 0] : Fin 3 → Nat) a + S1x128x1024.size a ≤ S4x128x1024.size a) : Vec Ideal S1x128x1024 .bf16 :=
  View.ld x0 (Rect.unit (s := S4x128x1024) ![k.val, 0, 0] S1x128x1024.size h)

/-- The parts of a block, added in the kernel's order. -/
def total (x0 : Vec Ideal S4x128x1024 .bf16) : FVec Ideal S128x1024 .f32 :=
  k0_pay5 (part x0 0 inb_S4x128x1024_S1x128x1024_0_0_0) (part x0 1 inb_S4x128x1024_S1x128x1024_1_0_0) (part x0 2 inb_S4x128x1024_S1x128x1024_2_0_0) (part x0 3 inb_S4x128x1024_S1x128x1024_3_0_0)

/-- A slab read as a matrix. -/
theorem cast_apply (v : Vec Ideal S1x128x1024 .f32) (p : Fin 128) (q : Fin 1024) : shapeCast S128x1024 v shapeCasts_S1x128x1024_S128x1024 (ix2 p q) = v (ix3 0 p q) :=
  shapeCast_1ab_ab_apply _ _ _ _

/-- The added parts at an index: the sum over the parts. -/
theorem total_apply (x0 : Vec Ideal S4x128x1024 .bf16) (p : Fin 128) (q : Fin 1024) : total x0 (ix2 p q) = ∑ k : Fin 4, (x0 (ix3 k p q) : EReal) := by
  rw [Fin.sum_univ_four]
  unfold total k0_pay5
  simp only [addf_apply]
  exact congrArg₂ (fun u v : EReal => u + v) (congrArg₂ (fun u v : EReal => u + v) (congrArg₂ (fun u v : EReal => u + v) (slab 0 _ _ p q) (slab 1 _ _ p q)) (slab 2 _ _ p q)) (slab 3 _ _ p q)

variable {c : Dev nD} {i : grid0.Coords} {a1 : Memref sig .tc .vmem S4x128x1024 .bf16} {h1 : a1.IsWhole} {a2 a3 a4 a5 a6 a7 a8 : Memref sig .tc .vmem S1x128x1024 .f32}
  {h2 : a2.IsWhole} {h3 : a3.IsWhole} {h4 : a4.IsWhole} {h5 : a5.IsWhole} {h6 : a6.IsWhole} {h7 : a7.IsWhole} {h8 : a8.IsWhole}
variable {x0 : Vec Ideal S4x128x1024 .bf16} {x1 x2 x3 : Vec Ideal S1x128x1024 .f32} {p : Fin 128} {q : Fin 1024}

/-- The gradient of a block at an index. -/
theorem out_grad : out0_A_4 c i a1 h1 a2 h2 a3 h3 a4 h4 a5 h5 a6 h6 a7 h7 a8 h8 x0 x1 x2 x3 (ix3 0 p q) = total x0 (ix2 p q) := by
  rw [out0_A_4, View.read_writes_eq_canon _ _ _ (cover0_A_4 c i a1 h1 a2 h2 a3 h3 a4 h4 a5 h5 a6 h6 a7 h7 a8 h8 x0 x1 x2 x3)]
  unfold kernelRun0_A; dsimp only; sl_unfold_words
  rw [View.canon_unit_zero whole]
  simp only [View.readAt_eq_ld, h1.read_unread, h2.read_unread, h3.read_unread, h4.read_unread, View.ld_unit_zero (S := S1x128x1024) whole]
  exact shapeCast_ab_1ab_apply (total x0) _ _ _ _

/-- The weight's change of a block at an index. -/
theorem out_change : out0_A_5 c i a1 h1 a2 h2 a3 h3 a4 h4 a5 h5 a6 h6 a7 h7 a8 h8 x0 x1 x2 x3 (ix3 0 p q)
    = Cert.Adam.change (total x0 (ix2 p q)) (x1 (ix3 0 p q)) (x2 (ix3 0 p q)) (x3 (ix3 0 p q)) := by
  rw [out0_A_5, View.read_writes_eq_canon _ _ _ (cover0_A_5 c i a1 h1 a2 h2 a3 h3 a4 h4 a5 h5 a6 h6 a7 h7 a8 h8 x0 x1 x2 x3)]
  unfold kernelRun0_A; dsimp only; sl_unfold_words
  rw [View.canon_unit_zero whole]
  simp only [View.readAt_eq_ld, h1.read_unread, h2.read_unread, h3.read_unread, h4.read_unread, View.ld_unit_zero (S := S1x128x1024) whole]
  rw [← cast_apply x1 p q, ← cast_apply x2 p q, ← cast_apply x3 p q]
  unfold k0_pay2 k0_pay8 k0_pay9 k0_pay6 k0_pay7
  exact shapeCast_ab_1ab_apply _ _ _ _ _

/-- The first average of a block at an index. -/
theorem out_first : out0_A_6 c i a1 h1 a2 h2 a3 h3 a4 h4 a5 h5 a6 h6 a7 h7 a8 h8 x0 x1 x2 x3 (ix3 0 p q) = Cert.Adam.first (total x0 (ix2 p q)) (x2 (ix3 0 p q)) := by
  rw [out0_A_6, View.read_writes_eq_canon _ _ _ (cover0_A_6 c i a1 h1 a2 h2 a3 h3 a4 h4 a5 h5 a6 h6 a7 h7 a8 h8 x0 x1 x2 x3)]
  unfold kernelRun0_A; dsimp only; sl_unfold_words
  rw [View.canon_unit_zero whole]
  simp only [View.readAt_eq_ld, h1.read_unread, h2.read_unread, h3.read_unread, h4.read_unread, View.ld_unit_zero (S := S1x128x1024) whole]
  rw [← cast_apply x2 p q]
  unfold k0_pay3 k0_pay6
  exact shapeCast_ab_1ab_apply _ _ _ _ _

/-- The second average of a block at an index. -/
theorem out_second : out0_A_7 c i a1 h1 a2 h2 a3 h3 a4 h4 a5 h5 a6 h6 a7 h7 a8 h8 x0 x1 x2 x3 (ix3 0 p q) = Cert.Adam.second (total x0 (ix2 p q)) (x3 (ix3 0 p q)) := by
  rw [out0_A_7, View.read_writes_eq_canon _ _ _ (cover0_A_7 c i a1 h1 a2 h2 a3 h3 a4 h4 a5 h5 a6 h6 a7 h7 a8 h8 x0 x1 x2 x3)]
  unfold kernelRun0_A; dsimp only; sl_unfold_words
  rw [View.canon_unit_zero whole]
  simp only [View.readAt_eq_ld, h1.read_unread, h2.read_unread, h3.read_unread, h4.read_unread, View.ld_unit_zero (S := S1x128x1024) whole]
  rw [← cast_apply x3 p q]
  unfold k0_pay4 k0_pay7
  exact shapeCast_ab_1ab_apply _ _ _ _ _

/-- The reference's gradient at an index: the parts, added. -/
theorem ref_grad (x0 : (⟨S4x128x1024, .bf16⟩ : BufTy).Contents (Elt Ideal)) (u : Fin 128) (q : Fin 1024) : val_main_v1 (F := Ideal) x0 (ix2 u q) = ∑ k : Fin 4, (x0 (ix3 k u q) : EReal) := by
  rw [val_main_v1_apply, val_main_cst_apply]
  exact (congrArg (fun z : EReal => z + _) Cert.Adam.zero).trans ((zero_add _).trans (Finset.sum_congr rfl fun k _ => congrArg x0 (three rfl rfl rfl)))

/-- The reference's first layer of the weight. -/
theorem ref_layer1 (x : (⟨S2x128x1024, .f32⟩ : BufTy).Contents (Elt Ideal)) (u : Fin 128) (q : Fin 1024) : val_main_v3 (F := Ideal) x (ix2 u q) = x (ix3 0 u q) := by
  rw [val_main_v3_apply, val_main_v2_apply]
  exact congrArg x (three rfl (row_of u q) (col_of u q))

/-- The reference's first layer of the first average. -/
theorem ref_layer2 (x : (⟨S2x128x1024, .f32⟩ : BufTy).Contents (Elt Ideal)) (u : Fin 128) (q : Fin 1024) : val_main_v5 (F := Ideal) x (ix2 u q) = x (ix3 0 u q) := by
  rw [val_main_v5_apply, val_main_v4_apply]
  exact congrArg x (three rfl (row_of u q) (col_of u q))

/-- The reference's first layer of the second average. -/
theorem ref_layer3 (x : (⟨S2x128x1024, .f32⟩ : BufTy).Contents (Elt Ideal)) (u : Fin 128) (q : Fin 1024) : val_main_v7 (F := Ideal) x (ix2 u q) = x (ix3 0 u q) := by
  rw [val_main_v7_apply, val_main_v6_apply]
  exact congrArg x (three rfl (row_of u q) (col_of u q))

/-- The reference's first average at an index. -/
theorem ref_first (x0 : (⟨S4x128x1024, .bf16⟩ : BufTy).Contents (Elt Ideal)) (x2 : (⟨S2x128x1024, .f32⟩ : BufTy).Contents (Elt Ideal)) (u : Fin 128) (q : Fin 1024) :
    val_main_v12 (F := Ideal) x0 x2 (ix2 u q) = Cert.Adam.first (val_main_v1 (F := Ideal) x0 (ix2 u q)) (x2 (ix3 0 u q)) := by
  rw [val_main_v12_apply, val_main_v9_apply, val_main_v11_apply, val_main_v8_apply, val_main_v10_apply, val_main_cst_0_apply, val_main_cst_1_apply, ref_layer2]; rfl

/-- The reference's second average at an index. -/
theorem ref_second (x0 : (⟨S4x128x1024, .bf16⟩ : BufTy).Contents (Elt Ideal)) (x3 : (⟨S2x128x1024, .f32⟩ : BufTy).Contents (Elt Ideal)) (u : Fin 128) (q : Fin 1024) :
    val_main_v18 (F := Ideal) x0 x3 (ix2 u q) = Cert.Adam.second (val_main_v1 (F := Ideal) x0 (ix2 u q)) (x3 (ix3 0 u q)) := by
  rw [val_main_v18_apply, val_main_v14_apply, val_main_v17_apply, val_main_v15_apply, val_main_v13_apply, val_main_v16_apply, val_main_cst_2_apply, val_main_cst_3_apply,
    ref_layer3]; rfl

/-- The reference's change at an index. -/
theorem ref_change (x0 : (⟨S4x128x1024, .bf16⟩ : BufTy).Contents (Elt Ideal)) (x1 x2 x3 : (⟨S2x128x1024, .f32⟩ : BufTy).Contents (Elt Ideal)) (u : Fin 128) (q : Fin 1024) :
    val_main_v31 (F := Ideal) x0 x1 x2 x3 (ix2 u q)
      = Cert.Adam.change (val_main_v1 (F := Ideal) x0 (ix2 u q)) (x1 (ix3 0 u q)) (x2 (ix3 0 u q)) (x3 (ix3 0 u q)) := by
  rw [val_main_v31_apply, val_main_v29_apply, val_main_v26_apply, val_main_v20_apply, val_main_v25_apply, val_main_v23_apply, val_main_v22_apply, val_main_v28_apply,
    ref_first, ref_second, val_main_v19_apply, val_main_v21_apply, val_main_v24_apply, val_main_v27_apply, val_main_v30_apply,
    val_main_cst_4_apply, val_main_cst_5_apply, val_main_cst_6_apply, val_main_cst_7_apply, val_main_cst_8_apply, ref_layer1]; rfl

/-- The reference's stack of gradients. -/
theorem stack_grad (x0 : (⟨S4x128x1024, .bf16⟩ : BufTy).Contents (Elt Ideal)) (x4 : (⟨S2x128x1024, .f32⟩ : BufTy).Contents (Elt Ideal)) :
    val_main_v34 (F := Ideal) x0 x4 = stack (L := 1) (val_main_v1 (F := Ideal) x0) x4 :=
  concat _ _ _ (fun _ _ => (val_main_v32_apply _ _).trans (congrArg _ (two rfl rfl))) (fun _ _ _ => (val_main_v33_apply _ _).trans (congrArg _ (three rfl rfl rfl)))

/-- The reference's stack of changes. -/
theorem stack_change (x0 : (⟨S4x128x1024, .bf16⟩ : BufTy).Contents (Elt Ideal)) (x1 x2 x3 x5 : (⟨S2x128x1024, .f32⟩ : BufTy).Contents (Elt Ideal)) :
    val_main_v37 (F := Ideal) x0 x1 x2 x3 x5 = stack (L := 1) (val_main_v31 (F := Ideal) x0 x1 x2 x3) x5 :=
  concat _ _ _ (fun _ _ => (val_main_v35_apply _ _ _ _ _).trans (congrArg _ (two rfl rfl))) (fun _ _ _ => (val_main_v36_apply _ _).trans (congrArg _ (three rfl rfl rfl)))

/-- The reference's stack of first averages. -/
theorem stack_first (x0 : (⟨S4x128x1024, .bf16⟩ : BufTy).Contents (Elt Ideal)) (x2 x6 : (⟨S2x128x1024, .f32⟩ : BufTy).Contents (Elt Ideal)) :
    val_main_v40 (F := Ideal) x0 x2 x6 = stack (L := 1) (val_main_v12 (F := Ideal) x0 x2) x6 :=
  concat _ _ _ (fun _ _ => (val_main_v38_apply _ _ _).trans (congrArg _ (two rfl rfl))) (fun _ _ _ => (val_main_v39_apply _ _).trans (congrArg _ (three rfl rfl rfl)))

/-- The reference's stack of second averages. -/
theorem stack_second (x0 : (⟨S4x128x1024, .bf16⟩ : BufTy).Contents (Elt Ideal)) (x3 x7 : (⟨S2x128x1024, .f32⟩ : BufTy).Contents (Elt Ideal)) :
    val_main_v43 (F := Ideal) x0 x3 x7 = stack (L := 1) (val_main_v18 (F := Ideal) x0 x3) x7 :=
  concat _ _ _ (fun _ _ => (val_main_v41_apply _ _ _).trans (congrArg _ (two rfl rfl))) (fun _ _ _ => (val_main_v42_apply _ _).trans (congrArg _ (three rfl rfl rfl)))

end

/-- The added parts of a block are the reference's gradient. -/
theorem total_eq (c : Dev nD) (t : Fin 1) (p : Fin 128) (q : Fin 1024) :
    total (iblk m c 0 (pt t)) (ix2 p q) = val_main_v1 (F := Ideal) (m ((c.tc : Thread nD τ).loc main_arg0)) (ix2 (row rows t p) q) := by
  refine (total_apply _ p q).trans ((Finset.sum_congr rfl fun k _ => ?_).trans (ref_grad _ _ q).symm)
  rw [blk0, V_main_arg0]

/-- The results' arrays before the run are what was given. -/
theorem given (c : Dev nD) : V m c main_v0_0 = m ((c.tc : Thread nD τ).loc main_arg4) ∧ V m c main_v0_1 = m ((c.tc : Thread nD τ).loc main_arg5)
    ∧ V m c main_v0_2 = m ((c.tc : Thread nD τ).loc main_arg6) ∧ V m c main_v0_3 = m ((c.tc : Thread nD τ).loc main_arg7) := by
  refine ⟨?_, ?_, ?_, ?_⟩ <;>
  · unfold_abbrev_sides
    simp only [hostOps0, List.flatten_cons, List.flatten_nil, List.append_nil, List.cons_append, List.nil_append,
      StableHlo.TRef.nullary, StableHlo.TRef.unary, StableHlo.TRef.binary, StableHlo.TRef.toBuf, StableHlo.TRef.ofBuf, cast_eq]
    after_results_simp
    rfl

/-- The kernel's gradient is the reference's. -/
theorem result_grad (c : Dev nD) : (dats m 0 c).arrAt 4 cfg0.N = val_main_v34 (F := Ideal) (m ((c.tc : Thread nD τ).loc main_arg0)) (m ((c.tc : Thread nD τ).loc main_arg4)) := by
  refine (ext rows (fun t p q => ?_) (fun l u q => ?_)).trans (stack_grad _ _).symm
  · have e := congrFun (blocks4 m c (pt t) (flush0_4 (pt t))) (ix3 0 p q : S1x128x1024.Idx)
    rw [flushed4_A, View.read_apply] at e
    exact (congrArg ((dats m 0 c).arrAt 4 cfg0.N) (index rows (places (pt t)).2.2.2.2.1 rfl rfl rfl).symm).trans (e.trans (out_grad.trans (total_eq m c t p q)))
  · refine (entry4 m c (ix3 (nxt l) u q) fun t _ hm => ?_).trans (congrFun (given m c).1 _)
    obtain ⟨x, hx⟩ := View.exists_of_mem_set_slice hm
    exact later (places t).2.2.2.2.1 (x 0).isLt (congrArg (fun z : S2x128x1024.Idx => (z 0).val) hx)

/-- The kernel's change is the reference's. -/
theorem result_change (c : Dev nD) : (dats m 0 c).arrAt 5 cfg0.N = val_main_v37 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg5)) := by
  refine (ext rows (fun t p q => ?_) (fun l u q => ?_)).trans (stack_change _ _ _ _ _).symm
  · have e := congrFun (blocks5 m c (pt t) (flush0_5 (pt t))) (ix3 0 p q : S1x128x1024.Idx)
    rw [flushed5_A, View.read_apply] at e
    refine (congrArg ((dats m 0 c).arrAt 5 cfg0.N) (index rows (places (pt t)).2.2.2.2.2.1 rfl rfl rfl).symm).trans (e.trans (out_change.trans ?_))
    rw [ref_change, total_eq, blk1, blk2, blk3, V_main_arg1, V_main_arg2, V_main_arg3]
  · refine (entry5 m c (ix3 (nxt l) u q) fun t _ hm => ?_).trans (congrFun (given m c).2.1 _)
    obtain ⟨x, hx⟩ := View.exists_of_mem_set_slice hm
    exact later (places t).2.2.2.2.2.1 (x 0).isLt (congrArg (fun z : S2x128x1024.Idx => (z 0).val) hx)

/-- The kernel's first average is the reference's. -/
theorem result_first (c : Dev nD) : (dats m 0 c).arrAt 6 cfg0.N = val_main_v40 (F := Ideal) (m ((c.tc : Thread nD τ).loc main_arg0)) (m ((c.tc : Thread nD τ).loc main_arg2))
    (m ((c.tc : Thread nD τ).loc main_arg6)) := by
  refine (ext rows (fun t p q => ?_) (fun l u q => ?_)).trans (stack_first _ _ _).symm
  · have e := congrFun (blocks6 m c (pt t) (flush0_6 (pt t))) (ix3 0 p q : S1x128x1024.Idx)
    rw [flushed6_A, View.read_apply] at e
    refine (congrArg ((dats m 0 c).arrAt 6 cfg0.N) (index rows (places (pt t)).2.2.2.2.2.2.1 rfl rfl rfl).symm).trans (e.trans (out_first.trans ?_))
    rw [ref_first, total_eq, blk2, V_main_arg2]
  · refine (entry6 m c (ix3 (nxt l) u q) fun t _ hm => ?_).trans (congrFun (given m c).2.2.1 _)
    obtain ⟨x, hx⟩ := View.exists_of_mem_set_slice hm
    exact later (places t).2.2.2.2.2.2.1 (x 0).isLt (congrArg (fun z : S2x128x1024.Idx => (z 0).val) hx)

/-- The kernel's second average is the reference's. -/
theorem result_second (c : Dev nD) : (dats m 0 c).arrAt 7 cfg0.N = val_main_v43 (F := Ideal) (m ((c.tc : Thread nD τ).loc main_arg0)) (m ((c.tc : Thread nD τ).loc main_arg3))
    (m ((c.tc : Thread nD τ).loc main_arg7)) := by
  refine (ext rows (fun t p q => ?_) (fun l u q => ?_)).trans (stack_second _ _ _).symm
  · have e := congrFun (blocks7 m c (pt t) (flush0_7 (pt t))) (ix3 0 p q : S1x128x1024.Idx)
    rw [flushed7_A, View.read_apply] at e
    refine (congrArg ((dats m 0 c).arrAt 7 cfg0.N) (index rows (places (pt t)).2.2.2.2.2.2.2 rfl rfl rfl).symm).trans (e.trans (out_second.trans ?_))
    rw [ref_second, total_eq, blk3, V_main_arg3]
  · refine (entry7 m c (ix3 (nxt l) u q) fun t _ hm => ?_).trans (congrFun (given m c).2.2.2 _)
    obtain ⟨x, hx⟩ := View.exists_of_mem_set_slice hm
    exact later (places t).2.2.2.2.2.2.2 (x 0).isLt (congrArg (fun z : S2x128x1024.Idx => (z 0).val) hx)

/-- The kernel's and the reference's results are the same arrays. -/
theorem algebraic : Cert.algebraic_KernelWOutIdeal_ReferenceWOutIdeal := by
  intro m ρ m' ρ' hpre hagree
  refine ⟨_, _, _, _, Cert.KernelWOutIdeal.Value.run_blocks m ρ, ?_⟩
  refine (θ_run Cert.ReferenceWOutIdeal.defs _ _).mono (fun r h c => ?_) (Cert.ReferenceWOutIdeal.Value.run (F := Ideal) m' ρ')
  obtain ⟨r0, r1, r2, r3, rest⟩ := h c
  obtain ⟨e0, e1, e2, e3, e4, e5, e6, e7⟩ := hagree c
  refine ⟨(r0.trans (val_main_v34_eq _ _)).trans (Eq.trans ?_ (result_grad m c).symm), (r1.trans (val_main_v37_eq _ _ _ _ _)).trans (Eq.trans ?_ (result_change m c).symm),
    (r2.trans (val_main_v40_eq _ _ _)).trans (Eq.trans ?_ (result_first m c).symm), (r3.trans (val_main_v43_eq _ _ _)).trans (Eq.trans ?_ (result_second m c).symm), rest⟩
  · exact congrArg₂ (val_main_v34 (F := Ideal)) e0 e4
  · exact (congrArg (fun z => val_main_v37 (F := Ideal) z _ _ _ _) e0).trans ((congrArg (fun z => val_main_v37 (F := Ideal) _ z _ _ _) e1).trans
      ((congrArg (fun z => val_main_v37 (F := Ideal) _ _ z _ _) e2).trans ((congrArg (fun z => val_main_v37 (F := Ideal) _ _ _ z _) e3).trans
        (congrArg (fun z => val_main_v37 (F := Ideal) _ _ _ _ z) e5))))
  · exact (congrArg (fun z => val_main_v40 (F := Ideal) z _ _) e0).trans (congrArg₂ (val_main_v40 (F := Ideal) _) e2 e6)
  · exact (congrArg (fun z => val_main_v43 (F := Ideal) z _ _) e0).trans (congrArg₂ (val_main_v43 (F := Ideal) _) e3 e7)

/-- The reference runs, and leaves its arguments and its semaphores as they were. -/
theorem quiescent_reference : Cert.quiescent_ReferenceWOutIdeal := fun m ρ _ =>
  (θ_run Cert.ReferenceWOutIdeal.defs _ _).mono (fun r h => ⟨fun c => (h c).2.2.2.2, Idealize.ShloMosaic.sem_eq_zero_of_no_sems (by decide) r.2⟩)
    (Cert.ReferenceWOutIdeal.Value.run (F := Ideal) m ρ)

end Cert.KernelWOutIdeal.Points

end
-- ==== Proof.AdamHgIn.lean ====
/-
  The optimiser's step on the other mixers' first weights: the devices' gradients of the first of the stacked layers are added and every entry of that
  layer is moved; the other layers keep what they were given. Each result is, entry by entry, the reference's.
-/
module

public import proofs.«01_k».proof.Proof.Gen.KernelHgWInIdeal.Value
public import proofs.«01_k».proof.Proof.Gen.ReferenceHgWInIdeal.Run
public import proofs.«01_k».proof.Proof.Gen.ReferenceHgWInIdeal.Read
public import proofs.«01_k».proof.Proof.Stack
public import Idealize.ShloMosaic.Lib.Pipeline.Value
public import Idealize.ShloMosaic.Lib.Pipeline.ValueKit
public import Idealize.ShloMosaic.Lib.Pointwise.Contract
public import proofs.«01_k».proof.Defs

@[expose] public section

noncomputable section

namespace Cert.KernelHgWInIdeal.Points

open Cert.KernelHgWInIdeal Cert.KernelHgWInIdeal.Gen Cert.KernelHgWInIdeal.Value Idealize.ShloMosaic.TcCoe Idealize.SL.Sem
open Idealize.ShloMosaic.ValueIdx
open Idealize.ShloMosaic hiding ix0 ix1 ix2 ix3 ix4 ix5
open Cert.ReferenceHgWInIdeal.Read Cert.Stack

variable (m : (ℓ : Loc nD τ sig) → Buf (Elt Ideal) ℓ)

/-- The grid point of the block `t`. -/
abbrev pt (t : Fin 4) : Fin cfg0.N := ⟨t.val, by rw [show cfg0.N = 4 from N_0]; exact t.isLt⟩
/-- The blocks make up a layer. -/
theorem rows : 4 * 256 = 1024 := rfl

/-- Where the windows' blocks lie. -/
theorem places : ∀ t : Fin cfg0.N, win0_0.index t = ![0, t.val, 0] ∧ win0_1.index t = ![0, t.val, 0] ∧ win0_2.index t = ![0, t.val, 0] ∧ win0_3.index t = ![0, t.val, 0]
    ∧ win0_4.index t = ![0, t.val, 0] ∧ win0_5.index t = ![0, t.val, 0] ∧ win0_6.index t = ![0, t.val, 0] ∧ win0_7.index t = ![0, t.val, 0] :=
  (by decide +kernel : ∀ t : Fin grid0.N, win0_0.index t = ![0, t.val, 0] ∧ win0_1.index t = ![0, t.val, 0] ∧ win0_2.index t = ![0, t.val, 0] ∧ win0_3.index t = ![0, t.val, 0]
    ∧ win0_4.index t = ![0, t.val, 0] ∧ win0_5.index t = ![0, t.val, 0] ∧ win0_6.index t = ![0, t.val, 0] ∧ win0_7.index t = ![0, t.val, 0])

/-- Window 0 reads a block of the devices' gradients. -/
theorem blk0 (c : Dev nD) (t : Fin 4) (k : Fin 4) (p : Fin 256) (q : Fin 512) :
    (iblk m c 0 (pt t) : Vec Ideal S4x256x512 .bf16) (ix3 k p q) = V m c main_arg0 (ix3 k (row rows t p) q) := by
  unfold iblk
  rw [View.read_apply]
  exact congrArg (V m c main_arg0) (index rows (places (pt t)).1 rfl rfl rfl)

/-- Window 1 reads a block of the first layer's weight. -/
theorem blk1 (c : Dev nD) (t : Fin 4) (p : Fin 256) (q : Fin 512) :
    (iblk m c 1 (pt t) : Vec Ideal S1x256x512 .f32) (ix3 0 p q) = V m c main_arg1 (ix3 0 (row rows t p) q) := by
  unfold iblk
  rw [View.read_apply]
  exact congrArg (V m c main_arg1) (index rows (places (pt t)).2.1 rfl rfl rfl)

/-- Window 2 reads a block of the first layer's first average. -/
theorem blk2 (c : Dev nD) (t : Fin 4) (p : Fin 256) (q : Fin 512) :
    (iblk m c 2 (pt t) : Vec Ideal S1x256x512 .f32) (ix3 0 p q) = V m c main_arg2 (ix3 0 (row rows t p) q) := by
  unfold iblk
  rw [View.read_apply]
  exact congrArg (V m c main_arg2) (index rows (places (pt t)).2.2.1 rfl rfl rfl)

/-- Window 3 reads a block of the first layer's second average. -/
theorem blk3 (c : Dev nD) (t : Fin 4) (p : Fin 256) (q : Fin 512) :
    (iblk m c 3 (pt t) : Vec Ideal S1x256x512 .f32) (ix3 0 p q) = V m c main_arg3 (ix3 0 (row rows t p) q) := by
  unfold iblk
  rw [View.read_apply]
  exact congrArg (V m c main_arg3) (index rows (places (pt t)).2.2.2.1 rfl rfl rfl)

section
omit m

/-- The part `k` of a block. -/
abbrev part (x0 : Vec Ideal S4x256x512 .bf16) (k : Fin 4) (h : ∀ a, (![k.val, 0, 0] : Fin 3 → Nat) a + S1x256x512.size a ≤ S4x256x512.size a) : Vec Ideal S1x256x512 .bf16 :=
  View.ld x0 (Rect.unit (s := S4x256x512) ![k.val, 0, 0] S1x256x512.size h)

/-- The parts of a block, added in the kernel's order. -/
def total (x0 : Vec Ideal S4x256x512 .bf16) : FVec Ideal S256x512 .f32 :=
  k0_pay5 (part x0 0 inb_S4x256x512_S1x256x512_0_0_0) (part x0 1 inb_S4x256x512_S1x256x512_1_0_0) (part x0 2 inb_S4x256x512_S1x256x512_2_0_0) (part x0 3 inb_S4x256x512_S1x256x512_3_0_0)

/-- A slab read as a matrix. -/
theorem cast_apply (v : Vec Ideal S1x256x512 .f32) (p : Fin 256) (q : Fin 512) : shapeCast S256x512 v shapeCasts_S1x256x512_S256x512 (ix2 p q) = v (ix3 0 p q) :=
  shapeCast_1ab_ab_apply _ _ _ _

/-- The added parts at an index: the sum over the parts. -/
theorem total_apply (x0 : Vec Ideal S4x256x512 .bf16) (p : Fin 256) (q : Fin 512) : total x0 (ix2 p q) = ∑ k : Fin 4, (x0 (ix3 k p q) : EReal) := by
  rw [Fin.sum_univ_four]
  unfold total k0_pay5
  simp only [addf_apply]
  exact congrArg₂ (fun u v : EReal => u + v) (congrArg₂ (fun u v : EReal => u + v) (congrArg₂ (fun u v : EReal => u + v) (slab 0 _ _ p q) (slab 1 _ _ p q)) (slab 2 _ _ p q)) (slab 3 _ _ p q)

variable {c : Dev nD} {i : grid0.Coords} {a1 : Memref sig .tc .vmem S4x256x512 .bf16} {h1 : a1.IsWhole} {a2 a3 a4 a5 a6 a7 a8 : Memref sig .tc .vmem S1x256x512 .f32}
  {h2 : a2.IsWhole} {h3 : a3.IsWhole} {h4 : a4.IsWhole} {h5 : a5.IsWhole} {h6 : a6.IsWhole} {h7 : a7.IsWhole} {h8 : a8.IsWhole}
variable {x0 : Vec Ideal S4x256x512 .bf16} {x1 x2 x3 : Vec Ideal S1x256x512 .f32} {p : Fin 256} {q : Fin 512}

/-- The gradient of a block at an index. -/
theorem out_grad : out0_A_4 c i a1 h1 a2 h2 a3 h3 a4 h4 a5 h5 a6 h6 a7 h7 a8 h8 x0 x1 x2 x3 (ix3 0 p q) = total x0 (ix2 p q) := by
  rw [out0_A_4, View.read_writes_eq_canon _ _ _ (cover0_A_4 c i a1 h1 a2 h2 a3 h3 a4 h4 a5 h5 a6 h6 a7 h7 a8 h8 x0 x1 x2 x3)]
  unfold kernelRun0_A; dsimp only; sl_unfold_words
  rw [View.canon_unit_zero whole]
  simp only [View.readAt_eq_ld, h1.read_unread, h2.read_unread, h3.read_unread, h4.read_unread, View.ld_unit_zero (S := S1x256x512) whole]
  exact shapeCast_ab_1ab_apply (total x0) _ _ _ _

/-- The weight's change of a block at an index. -/
theorem out_change : out0_A_5 c i a1 h1 a2 h2 a3 h3 a4 h4 a5 h5 a6 h6 a7 h7 a8 h8 x0 x1 x2 x3 (ix3 0 p q)
    = Cert.Adam.change (total x0 (ix2 p q)) (x1 (ix3 0 p q)) (x2 (ix3 0 p q)) (x3 (ix3 0 p q)) := by
  rw [out0_A_5, View.read_writes_eq_canon _ _ _ (cover0_A_5 c i a1 h1 a2 h2 a3 h3 a4 h4 a5 h5 a6 h6 a7 h7 a8 h8 x0 x1 x2 x3)]
  unfold kernelRun0_A; dsimp only; sl_unfold_words
  rw [View.canon_unit_zero whole]
  simp only [View.readAt_eq_ld, h1.read_unread, h2.read_unread, h3.read_unread, h4.read_unread, View.ld_unit_zero (S := S1x256x512) whole]
  rw [← cast_apply x1 p q, ← cast_apply x2 p q, ← cast_apply x3 p q]
  unfold k0_pay2 k0_pay8 k0_pay9 k0_pay6 k0_pay7
  exact shapeCast_ab_1ab_apply _ _ _ _ _

/-- The first average of a block at an index. -/
theorem out_first : out0_A_6 c i a1 h1 a2 h2 a3 h3 a4 h4 a5 h5 a6 h6 a7 h7 a8 h8 x0 x1 x2 x3 (ix3 0 p q) = Cert.Adam.first (total x0 (ix2 p q)) (x2 (ix3 0 p q)) := by
  rw [out0_A_6, View.read_writes_eq_canon _ _ _ (cover0_A_6 c i a1 h1 a2 h2 a3 h3 a4 h4 a5 h5 a6 h6 a7 h7 a8 h8 x0 x1 x2 x3)]
  unfold kernelRun0_A; dsimp only; sl_unfold_words
  rw [View.canon_unit_zero whole]
  simp only [View.readAt_eq_ld, h1.read_unread, h2.read_unread, h3.read_unread, h4.read_unread, View.ld_unit_zero (S := S1x256x512) whole]
  rw [← cast_apply x2 p q]
  unfold k0_pay3 k0_pay6
  exact shapeCast_ab_1ab_apply _ _ _ _ _

/-- The second average of a block at an index. -/
theorem out_second : out0_A_7 c i a1 h1 a2 h2 a3 h3 a4 h4 a5 h5 a6 h6 a7 h7 a8 h8 x0 x1 x2 x3 (ix3 0 p q) = Cert.Adam.second (total x0 (ix2 p q)) (x3 (ix3 0 p q)) := by
  rw [out0_A_7, View.read_writes_eq_canon _ _ _ (cover0_A_7 c i a1 h1 a2 h2 a3 h3 a4 h4 a5 h5 a6 h6 a7 h7 a8 h8 x0 x1 x2 x3)]
  unfold kernelRun0_A; dsimp only; sl_unfold_words
  rw [View.canon_unit_zero whole]
  simp only [View.readAt_eq_ld, h1.read_unread, h2.read_unread, h3.read_unread, h4.read_unread, View.ld_unit_zero (S := S1x256x512) whole]
  rw [← cast_apply x3 p q]
  unfold k0_pay4 k0_pay7
  exact shapeCast_ab_1ab_apply _ _ _ _ _

/-- The reference's gradient at an index: the parts, added. -/
theorem ref_grad (x0 : (⟨S4x1024x512, .bf16⟩ : BufTy).Contents (Elt Ideal)) (u : Fin 1024) (q : Fin 512) : val_main_v1 (F := Ideal) x0 (ix2 u q) = ∑ k : Fin 4, (x0 (ix3 k u q) : EReal) := by
  rw [val_main_v1_apply, val_main_cst_apply]
  exact (congrArg (fun z : EReal => z + _) Cert.Adam.zero).trans ((zero_add _).trans (Finset.sum_congr rfl fun k _ => congrArg x0 (three rfl rfl rfl)))

/-- The reference's first layer of the weight. -/
theorem ref_layer1 (x : (⟨S2x1024x512, .f32⟩ : BufTy).Contents (Elt Ideal)) (u : Fin 1024) (q : Fin 512) : val_main_v3 (F := Ideal) x (ix2 u q) = x (ix3 0 u q) := by
  rw [val_main_v3_apply, val_main_v2_apply]
  exact congrArg x (three rfl (row_of u q) (col_of u q))

/-- The reference's first layer of the first average. -/
theorem ref_layer2 (x : (⟨S2x1024x512, .f32⟩ : BufTy).Contents (Elt Ideal)) (u : Fin 1024) (q : Fin 512) : val_main_v5 (F := Ideal) x (ix2 u q) = x (ix3 0 u q) := by
  rw [val_main_v5_apply, val_main_v4_apply]
  exact congrArg x (three rfl (row_of u q) (col_of u q))

/-- The reference's first layer of the second average. -/
theorem ref_layer3 (x : (⟨S2x1024x512, .f32⟩ : BufTy).Contents (Elt Ideal)) (u : Fin 1024) (q : Fin 512) : val_main_v7 (F := Ideal) x (ix2 u q) = x (ix3 0 u q) := by
  rw [val_main_v7_apply, val_main_v6_apply]
  exact congrArg x (three rfl (row_of u q) (col_of u q))

/-- The reference's first average at an index. -/
theorem ref_first (x0 : (⟨S4x1024x512, .bf16⟩ : BufTy).Contents (Elt Ideal)) (x2 : (⟨S2x1024x512, .f32⟩ : BufTy).Contents (Elt Ideal)) (u : Fin 1024) (q : Fin 512) :
    val_main_v12 (F := Ideal) x0 x2 (ix2 u q) = Cert.Adam.first (val_main_v1 (F := Ideal) x0 (ix2 u q)) (x2 (ix3 0 u q)) := by
  rw [val_main_v12_apply, val_main_v9_apply, val_main_v11_apply, val_main_v8_apply, val_main_v10_apply, val_main_cst_0_apply, val_main_cst_1_apply, ref_layer2]; rfl

/-- The reference's second average at an index. -/
theorem ref_second (x0 : (⟨S4x1024x512, .bf16⟩ : BufTy).Contents (Elt Ideal)) (x3 : (⟨S2x1024x512, .f32⟩ : BufTy).Contents (Elt Ideal)) (u : Fin 1024) (q : Fin 512) :
    val_main_v18 (F := Ideal) x0 x3 (ix2 u q) = Cert.Adam.second (val_main_v1 (F := Ideal) x0 (ix2 u q)) (x3 (ix3 0 u q)) := by
  rw [val_main_v18_apply, val_main_v14_apply, val_main_v17_apply, val_main_v15_apply, val_main_v13_apply, val_main_v16_apply, val_main_cst_2_apply, val_main_cst_3_apply,
    ref_layer3]; rfl

/-- The reference's change at an index. -/
theorem ref_change (x0 : (⟨S4x1024x512, .bf16⟩ : BufTy).Contents (Elt Ideal)) (x1 x2 x3 : (⟨S2x1024x512, .f32⟩ : BufTy).Contents (Elt Ideal)) (u : Fin 1024) (q : Fin 512) :
    val_main_v31 (F := Ideal) x0 x1 x2 x3 (ix2 u q)
      = Cert.Adam.change (val_main_v1 (F := Ideal) x0 (ix2 u q)) (x1 (ix3 0 u q)) (x2 (ix3 0 u q)) (x3 (ix3 0 u q)) := by
  rw [val_main_v31_apply, val_main_v29_apply, val_main_v26_apply, val_main_v20_apply, val_main_v25_apply, val_main_v23_apply, val_main_v22_apply, val_main_v28_apply,
    ref_first, ref_second, val_main_v19_apply, val_main_v21_apply, val_main_v24_apply, val_main_v27_apply, val_main_v30_apply,
    val_main_cst_4_apply, val_main_cst_5_apply, val_main_cst_6_apply, val_main_cst_7_apply, val_main_cst_8_apply, ref_layer1]; rfl

/-- The reference's stack of gradients. -/
theorem stack_grad (x0 : (⟨S4x1024x512, .bf16⟩ : BufTy).Contents (Elt Ideal)) (x4 : (⟨S2x1024x512, .f32⟩ : BufTy).Contents (Elt Ideal)) :
    val_main_v34 (F := Ideal) x0 x4 = stack (L := 1) (val_main_v1 (F := Ideal) x0) x4 :=
  concat _ _ _ (fun _ _ => (val_main_v32_apply _ _).trans (congrArg _ (two rfl rfl))) (fun _ _ _ => (val_main_v33_apply _ _).trans (congrArg _ (three rfl rfl rfl)))

/-- The reference's stack of changes. -/
theorem stack_change (x0 : (⟨S4x1024x512, .bf16⟩ : BufTy).Contents (Elt Ideal)) (x1 x2 x3 x5 : (⟨S2x1024x512, .f32⟩ : BufTy).Contents (Elt Ideal)) :
    val_main_v37 (F := Ideal) x0 x1 x2 x3 x5 = stack (L := 1) (val_main_v31 (F := Ideal) x0 x1 x2 x3) x5 :=
  concat _ _ _ (fun _ _ => (val_main_v35_apply _ _ _ _ _).trans (congrArg _ (two rfl rfl))) (fun _ _ _ => (val_main_v36_apply _ _).trans (congrArg _ (three rfl rfl rfl)))

/-- The reference's stack of first averages. -/
theorem stack_first (x0 : (⟨S4x1024x512, .bf16⟩ : BufTy).Contents (Elt Ideal)) (x2 x6 : (⟨S2x1024x512, .f32⟩ : BufTy).Contents (Elt Ideal)) :
    val_main_v40 (F := Ideal) x0 x2 x6 = stack (L := 1) (val_main_v12 (F := Ideal) x0 x2) x6 :=
  concat _ _ _ (fun _ _ => (val_main_v38_apply _ _ _).trans (congrArg _ (two rfl rfl))) (fun _ _ _ => (val_main_v39_apply _ _).trans (congrArg _ (three rfl rfl rfl)))

/-- The reference's stack of second averages. -/
theorem stack_second (x0 : (⟨S4x1024x512, .bf16⟩ : BufTy).Contents (Elt Ideal)) (x3 x7 : (⟨S2x1024x512, .f32⟩ : BufTy).Contents (Elt Ideal)) :
    val_main_v43 (F := Ideal) x0 x3 x7 = stack (L := 1) (val_main_v18 (F := Ideal) x0 x3) x7 :=
  concat _ _ _ (fun _ _ => (val_main_v41_apply _ _ _).trans (congrArg _ (two rfl rfl))) (fun _ _ _ => (val_main_v42_apply _ _).trans (congrArg _ (three rfl rfl rfl)))

end

/-- The added parts of a block are the reference's gradient. -/
theorem total_eq (c : Dev nD) (t : Fin 4) (p : Fin 256) (q : Fin 512) :
    total (iblk m c 0 (pt t)) (ix2 p q) = val_main_v1 (F := Ideal) (m ((c.tc : Thread nD τ).loc main_arg0)) (ix2 (row rows t p) q) := by
  refine (total_apply _ p q).trans ((Finset.sum_congr rfl fun k _ => ?_).trans (ref_grad _ _ q).symm)
  rw [blk0, V_main_arg0]

/-- The results' arrays before the run are what was given. -/
theorem given (c : Dev nD) : V m c main_v0_0 = m ((c.tc : Thread nD τ).loc main_arg4) ∧ V m c main_v0_1 = m ((c.tc : Thread nD τ).loc main_arg5)
    ∧ V m c main_v0_2 = m ((c.tc : Thread nD τ).loc main_arg6) ∧ V m c main_v0_3 = m ((c.tc : Thread nD τ).loc main_arg7) := by
  refine ⟨?_, ?_, ?_, ?_⟩ <;>
  · unfold_abbrev_sides
    simp only [hostOps0, List.flatten_cons, List.flatten_nil, List.append_nil, List.cons_append, List.nil_append,
      StableHlo.TRef.nullary, StableHlo.TRef.unary, StableHlo.TRef.binary, StableHlo.TRef.toBuf, StableHlo.TRef.ofBuf, cast_eq]
    after_results_simp
    rfl

/-- The kernel's gradient is the reference's. -/
theorem result_grad (c : Dev nD) : (dats m 0 c).arrAt 4 cfg0.N = val_main_v34 (F := Ideal) (m ((c.tc : Thread nD τ).loc main_arg0)) (m ((c.tc : Thread nD τ).loc main_arg4)) := by
  refine (ext rows (fun t p q => ?_) (fun l u q => ?_)).trans (stack_grad _ _).symm
  · have e := congrFun (blocks4 m c (pt t) (flush0_4 (pt t))) (ix3 0 p q : S1x256x512.Idx)
    rw [flushed4_A, View.read_apply] at e
    exact (congrArg ((dats m 0 c).arrAt 4 cfg0.N) (index rows (places (pt t)).2.2.2.2.1 rfl rfl rfl).symm).trans (e.trans (out_grad.trans (total_eq m c t p q)))
  · refine (entry4 m c (ix3 (nxt l) u q) fun t _ hm => ?_).trans (congrFun (given m c).1 _)
    obtain ⟨x, hx⟩ := View.exists_of_mem_set_slice hm
    exact later (places t).2.2.2.2.1 (x 0).isLt (congrArg (fun z : S2x1024x512.Idx => (z 0).val) hx)

/-- The kernel's change is the reference's. -/
theorem result_change (c : Dev nD) : (dats m 0 c).arrAt 5 cfg0.N = val_main_v37 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg5)) := by
  refine (ext rows (fun t p q => ?_) (fun l u q => ?_)).trans (stack_change _ _ _ _ _).symm
  · have e := congrFun (blocks5 m c (pt t) (flush0_5 (pt t))) (ix3 0 p q : S1x256x512.Idx)
    rw [flushed5_A, View.read_apply] at e
    refine (congrArg ((dats m 0 c).arrAt 5 cfg0.N) (index rows (places (pt t)).2.2.2.2.2.1 rfl rfl rfl).symm).trans (e.trans (out_change.trans ?_))
    rw [ref_change, total_eq, blk1, blk2, blk3, V_main_arg1, V_main_arg2, V_main_arg3]
  · refine (entry5 m c (ix3 (nxt l) u q) fun t _ hm => ?_).trans (congrFun (given m c).2.1 _)
    obtain ⟨x, hx⟩ := View.exists_of_mem_set_slice hm
    exact later (places t).2.2.2.2.2.1 (x 0).isLt (congrArg (fun z : S2x1024x512.Idx => (z 0).val) hx)

/-- The kernel's first average is the reference's. -/
theorem result_first (c : Dev nD) : (dats m 0 c).arrAt 6 cfg0.N = val_main_v40 (F := Ideal) (m ((c.tc : Thread nD τ).loc main_arg0)) (m ((c.tc : Thread nD τ).loc main_arg2))
    (m ((c.tc : Thread nD τ).loc main_arg6)) := by
  refine (ext rows (fun t p q => ?_) (fun l u q => ?_)).trans (stack_first _ _ _).symm
  · have e := congrFun (blocks6 m c (pt t) (flush0_6 (pt t))) (ix3 0 p q : S1x256x512.Idx)
    rw [flushed6_A, View.read_apply] at e
    refine (congrArg ((dats m 0 c).arrAt 6 cfg0.N) (index rows (places (pt t)).2.2.2.2.2.2.1 rfl rfl rfl).symm).trans (e.trans (out_first.trans ?_))
    rw [ref_first, total_eq, blk2, V_main_arg2]
  · refine (entry6 m c (ix3 (nxt l) u q) fun t _ hm => ?_).trans (congrFun (given m c).2.2.1 _)
    obtain ⟨x, hx⟩ := View.exists_of_mem_set_slice hm
    exact later (places t).2.2.2.2.2.2.1 (x 0).isLt (congrArg (fun z : S2x1024x512.Idx => (z 0).val) hx)

/-- The kernel's second average is the reference's. -/
theorem result_second (c : Dev nD) : (dats m 0 c).arrAt 7 cfg0.N = val_main_v43 (F := Ideal) (m ((c.tc : Thread nD τ).loc main_arg0)) (m ((c.tc : Thread nD τ).loc main_arg3))
    (m ((c.tc : Thread nD τ).loc main_arg7)) := by
  refine (ext rows (fun t p q => ?_) (fun l u q => ?_)).trans (stack_second _ _ _).symm
  · have e := congrFun (blocks7 m c (pt t) (flush0_7 (pt t))) (ix3 0 p q : S1x256x512.Idx)
    rw [flushed7_A, View.read_apply] at e
    refine (congrArg ((dats m 0 c).arrAt 7 cfg0.N) (index rows (places (pt t)).2.2.2.2.2.2.2 rfl rfl rfl).symm).trans (e.trans (out_second.trans ?_))
    rw [ref_second, total_eq, blk3, V_main_arg3]
  · refine (entry7 m c (ix3 (nxt l) u q) fun t _ hm => ?_).trans (congrFun (given m c).2.2.2 _)
    obtain ⟨x, hx⟩ := View.exists_of_mem_set_slice hm
    exact later (places t).2.2.2.2.2.2.2 (x 0).isLt (congrArg (fun z : S2x1024x512.Idx => (z 0).val) hx)

/-- The kernel's and the reference's results are the same arrays. -/
theorem algebraic : Cert.algebraic_KernelHgWInIdeal_ReferenceHgWInIdeal := by
  intro m ρ m' ρ' hpre hagree
  refine ⟨_, _, _, _, Cert.KernelHgWInIdeal.Value.run_blocks m ρ, ?_⟩
  refine (θ_run Cert.ReferenceHgWInIdeal.defs _ _).mono (fun r h c => ?_) (Cert.ReferenceHgWInIdeal.Value.run (F := Ideal) m' ρ')
  obtain ⟨r0, r1, r2, r3, rest⟩ := h c
  obtain ⟨e0, e1, e2, e3, e4, e5, e6, e7⟩ := hagree c
  refine ⟨(r0.trans (val_main_v34_eq _ _)).trans (Eq.trans ?_ (result_grad m c).symm), (r1.trans (val_main_v37_eq _ _ _ _ _)).trans (Eq.trans ?_ (result_change m c).symm),
    (r2.trans (val_main_v40_eq _ _ _)).trans (Eq.trans ?_ (result_first m c).symm), (r3.trans (val_main_v43_eq _ _ _)).trans (Eq.trans ?_ (result_second m c).symm), rest⟩
  · exact congrArg₂ (val_main_v34 (F := Ideal)) e0 e4
  · exact (congrArg (fun z => val_main_v37 (F := Ideal) z _ _ _ _) e0).trans ((congrArg (fun z => val_main_v37 (F := Ideal) _ z _ _ _) e1).trans
      ((congrArg (fun z => val_main_v37 (F := Ideal) _ _ z _ _) e2).trans ((congrArg (fun z => val_main_v37 (F := Ideal) _ _ _ z _) e3).trans
        (congrArg (fun z => val_main_v37 (F := Ideal) _ _ _ _ z) e5))))
  · exact (congrArg (fun z => val_main_v40 (F := Ideal) z _ _) e0).trans (congrArg₂ (val_main_v40 (F := Ideal) _) e2 e6)
  · exact (congrArg (fun z => val_main_v43 (F := Ideal) z _ _) e0).trans (congrArg₂ (val_main_v43 (F := Ideal) _) e3 e7)

/-- The reference runs, and leaves its arguments and its semaphores as they were. -/
theorem quiescent_reference : Cert.quiescent_ReferenceHgWInIdeal := fun m ρ _ =>
  (θ_run Cert.ReferenceHgWInIdeal.defs _ _).mono (fun r h => ⟨fun c => (h c).2.2.2.2, Idealize.ShloMosaic.sem_eq_zero_of_no_sems (by decide) r.2⟩)
    (Cert.ReferenceHgWInIdeal.Value.run (F := Ideal) m ρ)

end Cert.KernelHgWInIdeal.Points

end
-- ==== Proof.AdamUp.lean ====
/-
  The optimiser's step on the MLPs' first weights: the devices' gradients of the first of the stacked layers are added and every entry of that
  layer is moved; the other layers keep what they were given. Each result is, entry by entry, the reference's.
-/
module

public import proofs.«01_k».proof.Proof.Gen.KernelW1Ideal.Value
public import proofs.«01_k».proof.Proof.Gen.ReferenceW1Ideal.Run
public import proofs.«01_k».proof.Proof.Gen.ReferenceW1Ideal.Read
public import proofs.«01_k».proof.Proof.Stack
public import Idealize.ShloMosaic.Lib.Pipeline.Value
public import Idealize.ShloMosaic.Lib.Pipeline.ValueKit
public import Idealize.ShloMosaic.Lib.Pointwise.Contract
public import proofs.«01_k».proof.Defs

@[expose] public section

noncomputable section

namespace Cert.KernelW1Ideal.Points

open Cert.KernelW1Ideal Cert.KernelW1Ideal.Gen Cert.KernelW1Ideal.Value Idealize.ShloMosaic.TcCoe Idealize.SL.Sem
open Idealize.ShloMosaic.ValueIdx
open Idealize.ShloMosaic hiding ix0 ix1 ix2 ix3 ix4 ix5
open Cert.ReferenceW1Ideal.Read Cert.Stack

variable (m : (ℓ : Loc nD τ sig) → Buf (Elt Ideal) ℓ)

/-- The grid point of the block `t`. -/
abbrev pt (t : Fin 4) : Fin cfg0.N := ⟨t.val, by rw [show cfg0.N = 4 from N_0]; exact t.isLt⟩
/-- The blocks make up a layer. -/
theorem rows : 4 * 256 = 1024 := rfl

/-- Where the windows' blocks lie. -/
theorem places : ∀ t : Fin cfg0.N, win0_0.index t = ![0, t.val, 0] ∧ win0_1.index t = ![0, t.val, 0] ∧ win0_2.index t = ![0, t.val, 0] ∧ win0_3.index t = ![0, t.val, 0]
    ∧ win0_4.index t = ![0, t.val, 0] ∧ win0_5.index t = ![0, t.val, 0] ∧ win0_6.index t = ![0, t.val, 0] ∧ win0_7.index t = ![0, t.val, 0] :=
  (by decide +kernel : ∀ t : Fin grid0.N, win0_0.index t = ![0, t.val, 0] ∧ win0_1.index t = ![0, t.val, 0] ∧ win0_2.index t = ![0, t.val, 0] ∧ win0_3.index t = ![0, t.val, 0]
    ∧ win0_4.index t = ![0, t.val, 0] ∧ win0_5.index t = ![0, t.val, 0] ∧ win0_6.index t = ![0, t.val, 0] ∧ win0_7.index t = ![0, t.val, 0])

/-- Window 0 reads a block of the devices' gradients. -/
theorem blk0 (c : Dev nD) (t : Fin 4) (k : Fin 4) (p : Fin 256) (q : Fin 512) :
    (iblk m c 0 (pt t) : Vec Ideal S4x256x512 .bf16) (ix3 k p q) = V m c main_arg0 (ix3 k (row rows t p) q) := by
  unfold iblk
  rw [View.read_apply]
  exact congrArg (V m c main_arg0) (index rows (places (pt t)).1 rfl rfl rfl)

/-- Window 1 reads a block of the first layer's weight. -/
theorem blk1 (c : Dev nD) (t : Fin 4) (p : Fin 256) (q : Fin 512) :
    (iblk m c 1 (pt t) : Vec Ideal S1x256x512 .f32) (ix3 0 p q) = V m c main_arg1 (ix3 0 (row rows t p) q) := by
  unfold iblk
  rw [View.read_apply]
  exact congrArg (V m c main_arg1) (index rows (places (pt t)).2.1 rfl rfl rfl)

/-- Window 2 reads a block of the first layer's first average. -/
theorem blk2 (c : Dev nD) (t : Fin 4) (p : Fin 256) (q : Fin 512) :
    (iblk m c 2 (pt t) : Vec Ideal S1x256x512 .f32) (ix3 0 p q) = V m c main_arg2 (ix3 0 (row rows t p) q) := by
  unfold iblk
  rw [View.read_apply]
  exact congrArg (V m c main_arg2) (index rows (places (pt t)).2.2.1 rfl rfl rfl)

/-- Window 3 reads a block of the first layer's second average. -/
theorem blk3 (c : Dev nD) (t : Fin 4) (p : Fin 256) (q : Fin 512) :
    (iblk m c 3 (pt t) : Vec Ideal S1x256x512 .f32) (ix3 0 p q) = V m c main_arg3 (ix3 0 (row rows t p) q) := by
  unfold iblk
  rw [View.read_apply]
  exact congrArg (V m c main_arg3) (index rows (places (pt t)).2.2.2.1 rfl rfl rfl)

section
omit m

/-- The part `k` of a block. -/
abbrev part (x0 : Vec Ideal S4x256x512 .bf16) (k : Fin 4) (h : ∀ a, (![k.val, 0, 0] : Fin 3 → Nat) a + S1x256x512.size a ≤ S4x256x512.size a) : Vec Ideal S1x256x512 .bf16 :=
  View.ld x0 (Rect.unit (s := S4x256x512) ![k.val, 0, 0] S1x256x512.size h)

/-- The parts of a block, added in the kernel's order. -/
def total (x0 : Vec Ideal S4x256x512 .bf16) : FVec Ideal S256x512 .f32 :=
  k0_pay5 (part x0 0 inb_S4x256x512_S1x256x512_0_0_0) (part x0 1 inb_S4x256x512_S1x256x512_1_0_0) (part x0 2 inb_S4x256x512_S1x256x512_2_0_0) (part x0 3 inb_S4x256x512_S1x256x512_3_0_0)

/-- A slab read as a matrix. -/
theorem cast_apply (v : Vec Ideal S1x256x512 .f32) (p : Fin 256) (q : Fin 512) : shapeCast S256x512 v shapeCasts_S1x256x512_S256x512 (ix2 p q) = v (ix3 0 p q) :=
  shapeCast_1ab_ab_apply _ _ _ _

/-- The added parts at an index: the sum over the parts. -/
theorem total_apply (x0 : Vec Ideal S4x256x512 .bf16) (p : Fin 256) (q : Fin 512) : total x0 (ix2 p q) = ∑ k : Fin 4, (x0 (ix3 k p q) : EReal) := by
  rw [Fin.sum_univ_four]
  unfold total k0_pay5
  simp only [addf_apply]
  exact congrArg₂ (fun u v : EReal => u + v) (congrArg₂ (fun u v : EReal => u + v) (congrArg₂ (fun u v : EReal => u + v) (slab 0 _ _ p q) (slab 1 _ _ p q)) (slab 2 _ _ p q)) (slab 3 _ _ p q)

variable {c : Dev nD} {i : grid0.Coords} {a1 : Memref sig .tc .vmem S4x256x512 .bf16} {h1 : a1.IsWhole} {a2 a3 a4 a5 a6 a7 a8 : Memref sig .tc .vmem S1x256x512 .f32}
  {h2 : a2.IsWhole} {h3 : a3.IsWhole} {h4 : a4.IsWhole} {h5 : a5.IsWhole} {h6 : a6.IsWhole} {h7 : a7.IsWhole} {h8 : a8.IsWhole}
variable {x0 : Vec Ideal S4x256x512 .bf16} {x1 x2 x3 : Vec Ideal S1x256x512 .f32} {p : Fin 256} {q : Fin 512}

/-- The gradient of a block at an index. -/
theorem out_grad : out0_A_4 c i a1 h1 a2 h2 a3 h3 a4 h4 a5 h5 a6 h6 a7 h7 a8 h8 x0 x1 x2 x3 (ix3 0 p q) = total x0 (ix2 p q) := by
  rw [out0_A_4, View.read_writes_eq_canon _ _ _ (cover0_A_4 c i a1 h1 a2 h2 a3 h3 a4 h4 a5 h5 a6 h6 a7 h7 a8 h8 x0 x1 x2 x3)]
  unfold kernelRun0_A; dsimp only; sl_unfold_words
  rw [View.canon_unit_zero whole]
  simp only [View.readAt_eq_ld, h1.read_unread, h2.read_unread, h3.read_unread, h4.read_unread, View.ld_unit_zero (S := S1x256x512) whole]
  exact shapeCast_ab_1ab_apply (total x0) _ _ _ _

/-- The weight's change of a block at an index. -/
theorem out_change : out0_A_5 c i a1 h1 a2 h2 a3 h3 a4 h4 a5 h5 a6 h6 a7 h7 a8 h8 x0 x1 x2 x3 (ix3 0 p q)
    = Cert.Adam.change (total x0 (ix2 p q)) (x1 (ix3 0 p q)) (x2 (ix3 0 p q)) (x3 (ix3 0 p q)) := by
  rw [out0_A_5, View.read_writes_eq_canon _ _ _ (cover0_A_5 c i a1 h1 a2 h2 a3 h3 a4 h4 a5 h5 a6 h6 a7 h7 a8 h8 x0 x1 x2 x3)]
  unfold kernelRun0_A; dsimp only; sl_unfold_words
  rw [View.canon_unit_zero whole]
  simp only [View.readAt_eq_ld, h1.read_unread, h2.read_unread, h3.read_unread, h4.read_unread, View.ld_unit_zero (S := S1x256x512) whole]
  rw [← cast_apply x1 p q, ← cast_apply x2 p q, ← cast_apply x3 p q]
  unfold k0_pay2 k0_pay8 k0_pay9 k0_pay6 k0_pay7
  exact shapeCast_ab_1ab_apply _ _ _ _ _

/-- The first average of a block at an index. -/
theorem out_first : out0_A_6 c i a1 h1 a2 h2 a3 h3 a4 h4 a5 h5 a6 h6 a7 h7 a8 h8 x0 x1 x2 x3 (ix3 0 p q) = Cert.Adam.first (total x0 (ix2 p q)) (x2 (ix3 0 p q)) := by
  rw [out0_A_6, View.read_writes_eq_canon _ _ _ (cover0_A_6 c i a1 h1 a2 h2 a3 h3 a4 h4 a5 h5 a6 h6 a7 h7 a8 h8 x0 x1 x2 x3)]
  unfold kernelRun0_A; dsimp only; sl_unfold_words
  rw [View.canon_unit_zero whole]
  simp only [View.readAt_eq_ld, h1.read_unread, h2.read_unread, h3.read_unread, h4.read_unread, View.ld_unit_zero (S := S1x256x512) whole]
  rw [← cast_apply x2 p q]
  unfold k0_pay3 k0_pay6
  exact shapeCast_ab_1ab_apply _ _ _ _ _

/-- The second average of a block at an index. -/
theorem out_second : out0_A_7 c i a1 h1 a2 h2 a3 h3 a4 h4 a5 h5 a6 h6 a7 h7 a8 h8 x0 x1 x2 x3 (ix3 0 p q) = Cert.Adam.second (total x0 (ix2 p q)) (x3 (ix3 0 p q)) := by
  rw [out0_A_7, View.read_writes_eq_canon _ _ _ (cover0_A_7 c i a1 h1 a2 h2 a3 h3 a4 h4 a5 h5 a6 h6 a7 h7 a8 h8 x0 x1 x2 x3)]
  unfold kernelRun0_A; dsimp only; sl_unfold_words
  rw [View.canon_unit_zero whole]
  simp only [View.readAt_eq_ld, h1.read_unread, h2.read_unread, h3.read_unread, h4.read_unread, View.ld_unit_zero (S := S1x256x512) whole]
  rw [← cast_apply x3 p q]
  unfold k0_pay4 k0_pay7
  exact shapeCast_ab_1ab_apply _ _ _ _ _

/-- The reference's gradient at an index: the parts, added. -/
theorem ref_grad (x0 : (⟨S4x1024x512, .bf16⟩ : BufTy).Contents (Elt Ideal)) (u : Fin 1024) (q : Fin 512) : val_main_v1 (F := Ideal) x0 (ix2 u q) = ∑ k : Fin 4, (x0 (ix3 k u q) : EReal) := by
  rw [val_main_v1_apply, val_main_cst_apply]
  exact (congrArg (fun z : EReal => z + _) Cert.Adam.zero).trans ((zero_add _).trans (Finset.sum_congr rfl fun k _ => congrArg x0 (three rfl rfl rfl)))

/-- The reference's first layer of the weight. -/
theorem ref_layer1 (x : (⟨S4x1024x512, .f32⟩ : BufTy).Contents (Elt Ideal)) (u : Fin 1024) (q : Fin 512) : val_main_v3 (F := Ideal) x (ix2 u q) = x (ix3 0 u q) := by
  rw [val_main_v3_apply, val_main_v2_apply]
  exact congrArg x (three rfl (row_of u q) (col_of u q))

/-- The reference's first layer of the first average. -/
theorem ref_layer2 (x : (⟨S4x1024x512, .f32⟩ : BufTy).Contents (Elt Ideal)) (u : Fin 1024) (q : Fin 512) : val_main_v5 (F := Ideal) x (ix2 u q) = x (ix3 0 u q) := by
  rw [val_main_v5_apply, val_main_v4_apply]
  exact congrArg x (three rfl (row_of u q) (col_of u q))

/-- The reference's first layer of the second average. -/
theorem ref_layer3 (x : (⟨S4x1024x512, .f32⟩ : BufTy).Contents (Elt Ideal)) (u : Fin 1024) (q : Fin 512) : val_main_v7 (F := Ideal) x (ix2 u q) = x (ix3 0 u q) := by
  rw [val_main_v7_apply, val_main_v6_apply]
  exact congrArg x (three rfl (row_of u q) (col_of u q))

/-- The reference's first average at an index. -/
theorem ref_first (x0 : (⟨S4x1024x512, .bf16⟩ : BufTy).Contents (Elt Ideal)) (x2 : (⟨S4x1024x512, .f32⟩ : BufTy).Contents (Elt Ideal)) (u : Fin 1024) (q : Fin 512) :
    val_main_v12 (F := Ideal) x0 x2 (ix2 u q) = Cert.Adam.first (val_main_v1 (F := Ideal) x0 (ix2 u q)) (x2 (ix3 0 u q)) := by
  rw [val_main_v12_apply, val_main_v9_apply, val_main_v11_apply, val_main_v8_apply, val_main_v10_apply, val_main_cst_0_apply, val_main_cst_1_apply, ref_layer2]; rfl

/-- The reference's second average at an index. -/
theorem ref_second (x0 : (⟨S4x1024x512, .bf16⟩ : BufTy).Contents (Elt Ideal)) (x3 : (⟨S4x1024x512, .f32⟩ : BufTy).Contents (Elt Ideal)) (u : Fin 1024) (q : Fin 512) :
    val_main_v18 (F := Ideal) x0 x3 (ix2 u q) = Cert.Adam.second (val_main_v1 (F := Ideal) x0 (ix2 u q)) (x3 (ix3 0 u q)) := by
  rw [val_main_v18_apply, val_main_v14_apply, val_main_v17_apply, val_main_v15_apply, val_main_v13_apply, val_main_v16_apply, val_main_cst_2_apply, val_main_cst_3_apply,
    ref_layer3]; rfl

/-- The reference's change at an index. -/
theorem ref_change (x0 : (⟨S4x1024x512, .bf16⟩ : BufTy).Contents (Elt Ideal)) (x1 x2 x3 : (⟨S4x1024x512, .f32⟩ : BufTy).Contents (Elt Ideal)) (u : Fin 1024) (q : Fin 512) :
    val_main_v31 (F := Ideal) x0 x1 x2 x3 (ix2 u q)
      = Cert.Adam.change (val_main_v1 (F := Ideal) x0 (ix2 u q)) (x1 (ix3 0 u q)) (x2 (ix3 0 u q)) (x3 (ix3 0 u q)) := by
  rw [val_main_v31_apply, val_main_v29_apply, val_main_v26_apply, val_main_v20_apply, val_main_v25_apply, val_main_v23_apply, val_main_v22_apply, val_main_v28_apply,
    ref_first, ref_second, val_main_v19_apply, val_main_v21_apply, val_main_v24_apply, val_main_v27_apply, val_main_v30_apply,
    val_main_cst_4_apply, val_main_cst_5_apply, val_main_cst_6_apply, val_main_cst_7_apply, val_main_cst_8_apply, ref_layer1]; rfl

/-- The reference's stack of gradients. -/
theorem stack_grad (x0 : (⟨S4x1024x512, .bf16⟩ : BufTy).Contents (Elt Ideal)) (x4 : (⟨S4x1024x512, .f32⟩ : BufTy).Contents (Elt Ideal)) :
    val_main_v34 (F := Ideal) x0 x4 = stack (L := 3) (val_main_v1 (F := Ideal) x0) x4 :=
  concat _ _ _ (fun _ _ => (val_main_v32_apply _ _).trans (congrArg _ (two rfl rfl))) (fun _ _ _ => (val_main_v33_apply _ _).trans (congrArg _ (three rfl rfl rfl)))

/-- The reference's stack of changes. -/
theorem stack_change (x0 : (⟨S4x1024x512, .bf16⟩ : BufTy).Contents (Elt Ideal)) (x1 x2 x3 x5 : (⟨S4x1024x512, .f32⟩ : BufTy).Contents (Elt Ideal)) :
    val_main_v37 (F := Ideal) x0 x1 x2 x3 x5 = stack (L := 3) (val_main_v31 (F := Ideal) x0 x1 x2 x3) x5 :=
  concat _ _ _ (fun _ _ => (val_main_v35_apply _ _ _ _ _).trans (congrArg _ (two rfl rfl))) (fun _ _ _ => (val_main_v36_apply _ _).trans (congrArg _ (three rfl rfl rfl)))

/-- The reference's stack of first averages. -/
theorem stack_first (x0 : (⟨S4x1024x512, .bf16⟩ : BufTy).Contents (Elt Ideal)) (x2 x6 : (⟨S4x1024x512, .f32⟩ : BufTy).Contents (Elt Ideal)) :
    val_main_v40 (F := Ideal) x0 x2 x6 = stack (L := 3) (val_main_v12 (F := Ideal) x0 x2) x6 :=
  concat _ _ _ (fun _ _ => (val_main_v38_apply _ _ _).trans (congrArg _ (two rfl rfl))) (fun _ _ _ => (val_main_v39_apply _ _).trans (congrArg _ (three rfl rfl rfl)))

/-- The reference's stack of second averages. -/
theorem stack_second (x0 : (⟨S4x1024x512, .bf16⟩ : BufTy).Contents (Elt Ideal)) (x3 x7 : (⟨S4x1024x512, .f32⟩ : BufTy).Contents (Elt Ideal)) :
    val_main_v43 (F := Ideal) x0 x3 x7 = stack (L := 3) (val_main_v18 (F := Ideal) x0 x3) x7 :=
  concat _ _ _ (fun _ _ => (val_main_v41_apply _ _ _).trans (congrArg _ (two rfl rfl))) (fun _ _ _ => (val_main_v42_apply _ _).trans (congrArg _ (three rfl rfl rfl)))

end

/-- The added parts of a block are the reference's gradient. -/
theorem total_eq (c : Dev nD) (t : Fin 4) (p : Fin 256) (q : Fin 512) :
    total (iblk m c 0 (pt t)) (ix2 p q) = val_main_v1 (F := Ideal) (m ((c.tc : Thread nD τ).loc main_arg0)) (ix2 (row rows t p) q) := by
  refine (total_apply _ p q).trans ((Finset.sum_congr rfl fun k _ => ?_).trans (ref_grad _ _ q).symm)
  rw [blk0, V_main_arg0]

/-- The results' arrays before the run are what was given. -/
theorem given (c : Dev nD) : V m c main_v0_0 = m ((c.tc : Thread nD τ).loc main_arg4) ∧ V m c main_v0_1 = m ((c.tc : Thread nD τ).loc main_arg5)
    ∧ V m c main_v0_2 = m ((c.tc : Thread nD τ).loc main_arg6) ∧ V m c main_v0_3 = m ((c.tc : Thread nD τ).loc main_arg7) := by
  refine ⟨?_, ?_, ?_, ?_⟩ <;>
  · unfold_abbrev_sides
    simp only [hostOps0, List.flatten_cons, List.flatten_nil, List.append_nil, List.cons_append, List.nil_append,
      StableHlo.TRef.nullary, StableHlo.TRef.unary, StableHlo.TRef.binary, StableHlo.TRef.toBuf, StableHlo.TRef.ofBuf, cast_eq]
    after_results_simp
    rfl

/-- The kernel's gradient is the reference's. -/
theorem result_grad (c : Dev nD) : (dats m 0 c).arrAt 4 cfg0.N = val_main_v34 (F := Ideal) (m ((c.tc : Thread nD τ).loc main_arg0)) (m ((c.tc : Thread nD τ).loc main_arg4)) := by
  refine (ext rows (fun t p q => ?_) (fun l u q => ?_)).trans (stack_grad _ _).symm
  · have e := congrFun (blocks4 m c (pt t) (flush0_4 (pt t))) (ix3 0 p q : S1x256x512.Idx)
    rw [flushed4_A, View.read_apply] at e
    exact (congrArg ((dats m 0 c).arrAt 4 cfg0.N) (index rows (places (pt t)).2.2.2.2.1 rfl rfl rfl).symm).trans (e.trans (out_grad.trans (total_eq m c t p q)))
  · refine (entry4 m c (ix3 (nxt l) u q) fun t _ hm => ?_).trans (congrFun (given m c).1 _)
    obtain ⟨x, hx⟩ := View.exists_of_mem_set_slice hm
    exact later (places t).2.2.2.2.1 (x 0).isLt (congrArg (fun z : S4x1024x512.Idx => (z 0).val) hx)

/-- The kernel's change is the reference's. -/
theorem result_change (c : Dev nD) : (dats m 0 c).arrAt 5 cfg0.N = val_main_v37 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg5)) := by
  refine (ext rows (fun t p q => ?_) (fun l u q => ?_)).trans (stack_change _ _ _ _ _).symm
  · have e := congrFun (blocks5 m c (pt t) (flush0_5 (pt t))) (ix3 0 p q : S1x256x512.Idx)
    rw [flushed5_A, View.read_apply] at e
    refine (congrArg ((dats m 0 c).arrAt 5 cfg0.N) (index rows (places (pt t)).2.2.2.2.2.1 rfl rfl rfl).symm).trans (e.trans (out_change.trans ?_))
    rw [ref_change, total_eq, blk1, blk2, blk3, V_main_arg1, V_main_arg2, V_main_arg3]
  · refine (entry5 m c (ix3 (nxt l) u q) fun t _ hm => ?_).trans (congrFun (given m c).2.1 _)
    obtain ⟨x, hx⟩ := View.exists_of_mem_set_slice hm
    exact later (places t).2.2.2.2.2.1 (x 0).isLt (congrArg (fun z : S4x1024x512.Idx => (z 0).val) hx)

/-- The kernel's first average is the reference's. -/
theorem result_first (c : Dev nD) : (dats m 0 c).arrAt 6 cfg0.N = val_main_v40 (F := Ideal) (m ((c.tc : Thread nD τ).loc main_arg0)) (m ((c.tc : Thread nD τ).loc main_arg2))
    (m ((c.tc : Thread nD τ).loc main_arg6)) := by
  refine (ext rows (fun t p q => ?_) (fun l u q => ?_)).trans (stack_first _ _ _).symm
  · have e := congrFun (blocks6 m c (pt t) (flush0_6 (pt t))) (ix3 0 p q : S1x256x512.Idx)
    rw [flushed6_A, View.read_apply] at e
    refine (congrArg ((dats m 0 c).arrAt 6 cfg0.N) (index rows (places (pt t)).2.2.2.2.2.2.1 rfl rfl rfl).symm).trans (e.trans (out_first.trans ?_))
    rw [ref_first, total_eq, blk2, V_main_arg2]
  · refine (entry6 m c (ix3 (nxt l) u q) fun t _ hm => ?_).trans (congrFun (given m c).2.2.1 _)
    obtain ⟨x, hx⟩ := View.exists_of_mem_set_slice hm
    exact later (places t).2.2.2.2.2.2.1 (x 0).isLt (congrArg (fun z : S4x1024x512.Idx => (z 0).val) hx)

/-- The kernel's second average is the reference's. -/
theorem result_second (c : Dev nD) : (dats m 0 c).arrAt 7 cfg0.N = val_main_v43 (F := Ideal) (m ((c.tc : Thread nD τ).loc main_arg0)) (m ((c.tc : Thread nD τ).loc main_arg3))
    (m ((c.tc : Thread nD τ).loc main_arg7)) := by
  refine (ext rows (fun t p q => ?_) (fun l u q => ?_)).trans (stack_second _ _ _).symm
  · have e := congrFun (blocks7 m c (pt t) (flush0_7 (pt t))) (ix3 0 p q : S1x256x512.Idx)
    rw [flushed7_A, View.read_apply] at e
    refine (congrArg ((dats m 0 c).arrAt 7 cfg0.N) (index rows (places (pt t)).2.2.2.2.2.2.2 rfl rfl rfl).symm).trans (e.trans (out_second.trans ?_))
    rw [ref_second, total_eq, blk3, V_main_arg3]
  · refine (entry7 m c (ix3 (nxt l) u q) fun t _ hm => ?_).trans (congrFun (given m c).2.2.2 _)
    obtain ⟨x, hx⟩ := View.exists_of_mem_set_slice hm
    exact later (places t).2.2.2.2.2.2.2 (x 0).isLt (congrArg (fun z : S4x1024x512.Idx => (z 0).val) hx)

/-- The kernel's and the reference's results are the same arrays. -/
theorem algebraic : Cert.algebraic_KernelW1Ideal_ReferenceW1Ideal := by
  intro m ρ m' ρ' hpre hagree
  refine ⟨_, _, _, _, Cert.KernelW1Ideal.Value.run_blocks m ρ, ?_⟩
  refine (θ_run Cert.ReferenceW1Ideal.defs _ _).mono (fun r h c => ?_) (Cert.ReferenceW1Ideal.Value.run (F := Ideal) m' ρ')
  obtain ⟨r0, r1, r2, r3, rest⟩ := h c
  obtain ⟨e0, e1, e2, e3, e4, e5, e6, e7⟩ := hagree c
  refine ⟨(r0.trans (val_main_v34_eq _ _)).trans (Eq.trans ?_ (result_grad m c).symm), (r1.trans (val_main_v37_eq _ _ _ _ _)).trans (Eq.trans ?_ (result_change m c).symm),
    (r2.trans (val_main_v40_eq _ _ _)).trans (Eq.trans ?_ (result_first m c).symm), (r3.trans (val_main_v43_eq _ _ _)).trans (Eq.trans ?_ (result_second m c).symm), rest⟩
  · exact congrArg₂ (val_main_v34 (F := Ideal)) e0 e4
  · exact (congrArg (fun z => val_main_v37 (F := Ideal) z _ _ _ _) e0).trans ((congrArg (fun z => val_main_v37 (F := Ideal) _ z _ _ _) e1).trans
      ((congrArg (fun z => val_main_v37 (F := Ideal) _ _ z _ _) e2).trans ((congrArg (fun z => val_main_v37 (F := Ideal) _ _ _ z _) e3).trans
        (congrArg (fun z => val_main_v37 (F := Ideal) _ _ _ _ z) e5))))
  · exact (congrArg (fun z => val_main_v40 (F := Ideal) z _ _) e0).trans (congrArg₂ (val_main_v40 (F := Ideal) _) e2 e6)
  · exact (congrArg (fun z => val_main_v43 (F := Ideal) z _ _) e0).trans (congrArg₂ (val_main_v43 (F := Ideal) _) e3 e7)

/-- The reference runs, and leaves its arguments and its semaphores as they were. -/
theorem quiescent_reference : Cert.quiescent_ReferenceW1Ideal := fun m ρ _ =>
  (θ_run Cert.ReferenceW1Ideal.defs _ _).mono (fun r h => ⟨fun c => (h c).2.2.2.2, Idealize.ShloMosaic.sem_eq_zero_of_no_sems (by decide) r.2⟩)
    (Cert.ReferenceW1Ideal.Value.run (F := Ideal) m ρ)

end Cert.KernelW1Ideal.Points

end
-- ==== Proof.AdamDown.lean ====
/-
  The optimiser's step on the MLPs' second weights: the devices' gradients of the first of the stacked layers are added and every entry of that
  layer is moved; the other layers keep what they were given. Each result is, entry by entry, the reference's.
-/
module

public import proofs.«01_k».proof.Proof.Gen.KernelW2Ideal.Value
public import proofs.«01_k».proof.Proof.Gen.ReferenceW2Ideal.Run
public import proofs.«01_k».proof.Proof.Gen.ReferenceW2Ideal.Read
public import proofs.«01_k».proof.Proof.Stack
public import Idealize.ShloMosaic.Lib.Pipeline.Value
public import Idealize.ShloMosaic.Lib.Pipeline.ValueKit
public import Idealize.ShloMosaic.Lib.Pointwise.Contract
public import proofs.«01_k».proof.Defs

@[expose] public section

noncomputable section

namespace Cert.KernelW2Ideal.Points

open Cert.KernelW2Ideal Cert.KernelW2Ideal.Gen Cert.KernelW2Ideal.Value Idealize.ShloMosaic.TcCoe Idealize.SL.Sem
open Idealize.ShloMosaic.ValueIdx
open Idealize.ShloMosaic hiding ix0 ix1 ix2 ix3 ix4 ix5
open Cert.ReferenceW2Ideal.Read Cert.Stack

variable (m : (ℓ : Loc nD τ sig) → Buf (Elt Ideal) ℓ)

/-- The grid point of the block `t`. -/
abbrev pt (t : Fin 4) : Fin cfg0.N := ⟨t.val, by rw [show cfg0.N = 4 from N_0]; exact t.isLt⟩
/-- The blocks make up a layer. -/
theorem rows : 4 * 128 = 512 := rfl

/-- Where the windows' blocks lie. -/
theorem places : ∀ t : Fin cfg0.N, win0_0.index t = ![0, t.val, 0] ∧ win0_1.index t = ![0, t.val, 0] ∧ win0_2.index t = ![0, t.val, 0] ∧ win0_3.index t = ![0, t.val, 0]
    ∧ win0_4.index t = ![0, t.val, 0] ∧ win0_5.index t = ![0, t.val, 0] ∧ win0_6.index t = ![0, t.val, 0] ∧ win0_7.index t = ![0, t.val, 0] :=
  (by decide +kernel : ∀ t : Fin grid0.N, win0_0.index t = ![0, t.val, 0] ∧ win0_1.index t = ![0, t.val, 0] ∧ win0_2.index t = ![0, t.val, 0] ∧ win0_3.index t = ![0, t.val, 0]
    ∧ win0_4.index t = ![0, t.val, 0] ∧ win0_5.index t = ![0, t.val, 0] ∧ win0_6.index t = ![0, t.val, 0] ∧ win0_7.index t = ![0, t.val, 0])

/-- Window 0 reads a block of the devices' gradients. -/
theorem blk0 (c : Dev nD) (t : Fin 4) (k : Fin 4) (p : Fin 128) (q : Fin 1024) :
    (iblk m c 0 (pt t) : Vec Ideal S4x128x1024 .bf16) (ix3 k p q) = V m c main_arg0 (ix3 k (row rows t p) q) := by
  unfold iblk
  rw [View.read_apply]
  exact congrArg (V m c main_arg0) (index rows (places (pt t)).1 rfl rfl rfl)

/-- Window 1 reads a block of the first layer's weight. -/
theorem blk1 (c : Dev nD) (t : Fin 4) (p : Fin 128) (q : Fin 1024) :
    (iblk m c 1 (pt t) : Vec Ideal S1x128x1024 .f32) (ix3 0 p q) = V m c main_arg1 (ix3 0 (row rows t p) q) := by
  unfold iblk
  rw [View.read_apply]
  exact congrArg (V m c main_arg1) (index rows (places (pt t)).2.1 rfl rfl rfl)

/-- Window 2 reads a block of the first layer's first average. -/
theorem blk2 (c : Dev nD) (t : Fin 4) (p : Fin 128) (q : Fin 1024) :
    (iblk m c 2 (pt t) : Vec Ideal S1x128x1024 .f32) (ix3 0 p q) = V m c main_arg2 (ix3 0 (row rows t p) q) := by
  unfold iblk
  rw [View.read_apply]
  exact congrArg (V m c main_arg2) (index rows (places (pt t)).2.2.1 rfl rfl rfl)

/-- Window 3 reads a block of the first layer's second average. -/
theorem blk3 (c : Dev nD) (t : Fin 4) (p : Fin 128) (q : Fin 1024) :
    (iblk m c 3 (pt t) : Vec Ideal S1x128x1024 .f32) (ix3 0 p q) = V m c main_arg3 (ix3 0 (row rows t p) q) := by
  unfold iblk
  rw [View.read_apply]
  exact congrArg (V m c main_arg3) (index rows (places (pt t)).2.2.2.1 rfl rfl rfl)

section
omit m

/-- The part `k` of a block. -/
abbrev part (x0 : Vec Ideal S4x128x1024 .bf16) (k : Fin 4) (h : ∀ a, (![k.val, 0, 0] : Fin 3 → Nat) a + S1x128x1024.size a ≤ S4x128x1024.size a) : Vec Ideal S1x128x1024 .bf16 :=
  View.ld x0 (Rect.unit (s := S4x128x1024) ![k.val, 0, 0] S1x128x1024.size h)

/-- The parts of a block, added in the kernel's order. -/
def total (x0 : Vec Ideal S4x128x1024 .bf16) : FVec Ideal S128x1024 .f32 :=
  k0_pay5 (part x0 0 inb_S4x128x1024_S1x128x1024_0_0_0) (part x0 1 inb_S4x128x1024_S1x128x1024_1_0_0) (part x0 2 inb_S4x128x1024_S1x128x1024_2_0_0) (part x0 3 inb_S4x128x1024_S1x128x1024_3_0_0)

/-- A slab read as a matrix. -/
theorem cast_apply (v : Vec Ideal S1x128x1024 .f32) (p : Fin 128) (q : Fin 1024) : shapeCast S128x1024 v shapeCasts_S1x128x1024_S128x1024 (ix2 p q) = v (ix3 0 p q) :=
  shapeCast_1ab_ab_apply _ _ _ _

/-- The added parts at an index: the sum over the parts. -/
theorem total_apply (x0 : Vec Ideal S4x128x1024 .bf16) (p : Fin 128) (q : Fin 1024) : total x0 (ix2 p q) = ∑ k : Fin 4, (x0 (ix3 k p q) : EReal) := by
  rw [Fin.sum_univ_four]
  unfold total k0_pay5
  simp only [addf_apply]
  exact congrArg₂ (fun u v : EReal => u + v) (congrArg₂ (fun u v : EReal => u + v) (congrArg₂ (fun u v : EReal => u + v) (slab 0 _ _ p q) (slab 1 _ _ p q)) (slab 2 _ _ p q)) (slab 3 _ _ p q)

variable {c : Dev nD} {i : grid0.Coords} {a1 : Memref sig .tc .vmem S4x128x1024 .bf16} {h1 : a1.IsWhole} {a2 a3 a4 a5 a6 a7 a8 : Memref sig .tc .vmem S1x128x1024 .f32}
  {h2 : a2.IsWhole} {h3 : a3.IsWhole} {h4 : a4.IsWhole} {h5 : a5.IsWhole} {h6 : a6.IsWhole} {h7 : a7.IsWhole} {h8 : a8.IsWhole}
variable {x0 : Vec Ideal S4x128x1024 .bf16} {x1 x2 x3 : Vec Ideal S1x128x1024 .f32} {p : Fin 128} {q : Fin 1024}

/-- The gradient of a block at an index. -/
theorem out_grad : out0_A_4 c i a1 h1 a2 h2 a3 h3 a4 h4 a5 h5 a6 h6 a7 h7 a8 h8 x0 x1 x2 x3 (ix3 0 p q) = total x0 (ix2 p q) := by
  rw [out0_A_4, View.read_writes_eq_canon _ _ _ (cover0_A_4 c i a1 h1 a2 h2 a3 h3 a4 h4 a5 h5 a6 h6 a7 h7 a8 h8 x0 x1 x2 x3)]
  unfold kernelRun0_A; dsimp only; sl_unfold_words
  rw [View.canon_unit_zero whole]
  simp only [View.readAt_eq_ld, h1.read_unread, h2.read_unread, h3.read_unread, h4.read_unread, View.ld_unit_zero (S := S1x128x1024) whole]
  exact shapeCast_ab_1ab_apply (total x0) _ _ _ _

/-- The weight's change of a block at an index. -/
theorem out_change : out0_A_5 c i a1 h1 a2 h2 a3 h3 a4 h4 a5 h5 a6 h6 a7 h7 a8 h8 x0 x1 x2 x3 (ix3 0 p q)
    = Cert.Adam.change (total x0 (ix2 p q)) (x1 (ix3 0 p q)) (x2 (ix3 0 p q)) (x3 (ix3 0 p q)) := by
  rw [out0_A_5, View.read_writes_eq_canon _ _ _ (cover0_A_5 c i a1 h1 a2 h2 a3 h3 a4 h4 a5 h5 a6 h6 a7 h7 a8 h8 x0 x1 x2 x3)]
  unfold kernelRun0_A; dsimp only; sl_unfold_words
  rw [View.canon_unit_zero whole]
  simp only [View.readAt_eq_ld, h1.read_unread, h2.read_unread, h3.read_unread, h4.read_unread, View.ld_unit_zero (S := S1x128x1024) whole]
  rw [← cast_apply x1 p q, ← cast_apply x2 p q, ← cast_apply x3 p q]
  unfold k0_pay2 k0_pay8 k0_pay9 k0_pay6 k0_pay7
  exact shapeCast_ab_1ab_apply _ _ _ _ _

/-- The first average of a block at an index. -/
theorem out_first : out0_A_6 c i a1 h1 a2 h2 a3 h3 a4 h4 a5 h5 a6 h6 a7 h7 a8 h8 x0 x1 x2 x3 (ix3 0 p q) = Cert.Adam.first (total x0 (ix2 p q)) (x2 (ix3 0 p q)) := by
  rw [out0_A_6, View.read_writes_eq_canon _ _ _ (cover0_A_6 c i a1 h1 a2 h2 a3 h3 a4 h4 a5 h5 a6 h6 a7 h7 a8 h8 x0 x1 x2 x3)]
  unfold kernelRun0_A; dsimp only; sl_unfold_words
  rw [View.canon_unit_zero whole]
  simp only [View.readAt_eq_ld, h1.read_unread, h2.read_unread, h3.read_unread, h4.read_unread, View.ld_unit_zero (S := S1x128x1024) whole]
  rw [← cast_apply x2 p q]
  unfold k0_pay3 k0_pay6
  exact shapeCast_ab_1ab_apply _ _ _ _ _

/-- The second average of a block at an index. -/
theorem out_second : out0_A_7 c i a1 h1 a2 h2 a3 h3 a4 h4 a5 h5 a6 h6 a7 h7 a8 h8 x0 x1 x2 x3 (ix3 0 p q) = Cert.Adam.second (total x0 (ix2 p q)) (x3 (ix3 0 p q)) := by
  rw [out0_A_7, View.read_writes_eq_canon _ _ _ (cover0_A_7 c i a1 h1 a2 h2 a3 h3 a4 h4 a5 h5 a6 h6 a7 h7 a8 h8 x0 x1 x2 x3)]
  unfold kernelRun0_A; dsimp only; sl_unfold_words
  rw [View.canon_unit_zero whole]
  simp only [View.readAt_eq_ld, h1.read_unread, h2.read_unread, h3.read_unread, h4.read_unread, View.ld_unit_zero (S := S1x128x1024) whole]
  rw [← cast_apply x3 p q]
  unfold k0_pay4 k0_pay7
  exact shapeCast_ab_1ab_apply _ _ _ _ _

/-- The reference's gradient at an index: the parts, added. -/
theorem ref_grad (x0 : (⟨S4x512x1024, .bf16⟩ : BufTy).Contents (Elt Ideal)) (u : Fin 512) (q : Fin 1024) : val_main_v1 (F := Ideal) x0 (ix2 u q) = ∑ k : Fin 4, (x0 (ix3 k u q) : EReal) := by
  rw [val_main_v1_apply, val_main_cst_apply]
  exact (congrArg (fun z : EReal => z + _) Cert.Adam.zero).trans ((zero_add _).trans (Finset.sum_congr rfl fun k _ => congrArg x0 (three rfl rfl rfl)))

/-- The reference's first layer of the weight. -/
theorem ref_layer1 (x : (⟨S4x512x1024, .f32⟩ : BufTy).Contents (Elt Ideal)) (u : Fin 512) (q : Fin 1024) : val_main_v3 (F := Ideal) x (ix2 u q) = x (ix3 0 u q) := by
  rw [val_main_v3_apply, val_main_v2_apply]
  exact congrArg x (three rfl (row_of u q) (col_of u q))

/-- The reference's first layer of the first average. -/
theorem ref_layer2 (x : (⟨S4x512x1024, .f32⟩ : BufTy).Contents (Elt Ideal)) (u : Fin 512) (q : Fin 1024) : val_main_v5 (F := Ideal) x (ix2 u q) = x (ix3 0 u q) := by
  rw [val_main_v5_apply, val_main_v4_apply]
  exact congrArg x (three rfl (row_of u q) (col_of u q))

/-- The reference's first layer of the second average. -/
theorem ref_layer3 (x : (⟨S4x512x1024, .f32⟩ : BufTy).Contents (Elt Ideal)) (u : Fin 512) (q : Fin 1024) : val_main_v7 (F := Ideal) x (ix2 u q) = x (ix3 0 u q) := by
  rw [val_main_v7_apply, val_main_v6_apply]
  exact congrArg x (three rfl (row_of u q) (col_of u q))

/-- The reference's first average at an index. -/
theorem ref_first (x0 : (⟨S4x512x1024, .bf16⟩ : BufTy).Contents (Elt Ideal)) (x2 : (⟨S4x512x1024, .f32⟩ : BufTy).Contents (Elt Ideal)) (u : Fin 512) (q : Fin 1024) :
    val_main_v12 (F := Ideal) x0 x2 (ix2 u q) = Cert.Adam.first (val_main_v1 (F := Ideal) x0 (ix2 u q)) (x2 (ix3 0 u q)) := by
  rw [val_main_v12_apply, val_main_v9_apply, val_main_v11_apply, val_main_v8_apply, val_main_v10_apply, val_main_cst_0_apply, val_main_cst_1_apply, ref_layer2]; rfl

/-- The reference's second average at an index. -/
theorem ref_second (x0 : (⟨S4x512x1024, .bf16⟩ : BufTy).Contents (Elt Ideal)) (x3 : (⟨S4x512x1024, .f32⟩ : BufTy).Contents (Elt Ideal)) (u : Fin 512) (q : Fin 1024) :
    val_main_v18 (F := Ideal) x0 x3 (ix2 u q) = Cert.Adam.second (val_main_v1 (F := Ideal) x0 (ix2 u q)) (x3 (ix3 0 u q)) := by
  rw [val_main_v18_apply, val_main_v14_apply, val_main_v17_apply, val_main_v15_apply, val_main_v13_apply, val_main_v16_apply, val_main_cst_2_apply, val_main_cst_3_apply,
    ref_layer3]; rfl

/-- The reference's change at an index. -/
theorem ref_change (x0 : (⟨S4x512x1024, .bf16⟩ : BufTy).Contents (Elt Ideal)) (x1 x2 x3 : (⟨S4x512x1024, .f32⟩ : BufTy).Contents (Elt Ideal)) (u : Fin 512) (q : Fin 1024) :
    val_main_v31 (F := Ideal) x0 x1 x2 x3 (ix2 u q)
      = Cert.Adam.change (val_main_v1 (F := Ideal) x0 (ix2 u q)) (x1 (ix3 0 u q)) (x2 (ix3 0 u q)) (x3 (ix3 0 u q)) := by
  rw [val_main_v31_apply, val_main_v29_apply, val_main_v26_apply, val_main_v20_apply, val_main_v25_apply, val_main_v23_apply, val_main_v22_apply, val_main_v28_apply,
    ref_first, ref_second, val_main_v19_apply, val_main_v21_apply, val_main_v24_apply, val_main_v27_apply, val_main_v30_apply,
    val_main_cst_4_apply, val_main_cst_5_apply, val_main_cst_6_apply, val_main_cst_7_apply, val_main_cst_8_apply, ref_layer1]; rfl

/-- The reference's stack of gradients. -/
theorem stack_grad (x0 : (⟨S4x512x1024, .bf16⟩ : BufTy).Contents (Elt Ideal)) (x4 : (⟨S4x512x1024, .f32⟩ : BufTy).Contents (Elt Ideal)) :
    val_main_v34 (F := Ideal) x0 x4 = stack (L := 3) (val_main_v1 (F := Ideal) x0) x4 :=
  concat _ _ _ (fun _ _ => (val_main_v32_apply _ _).trans (congrArg _ (two rfl rfl))) (fun _ _ _ => (val_main_v33_apply _ _).trans (congrArg _ (three rfl rfl rfl)))

/-- The reference's stack of changes. -/
theorem stack_change (x0 : (⟨S4x512x1024, .bf16⟩ : BufTy).Contents (Elt Ideal)) (x1 x2 x3 x5 : (⟨S4x512x1024, .f32⟩ : BufTy).Contents (Elt Ideal)) :
    val_main_v37 (F := Ideal) x0 x1 x2 x3 x5 = stack (L := 3) (val_main_v31 (F := Ideal) x0 x1 x2 x3) x5 :=
  concat _ _ _ (fun _ _ => (val_main_v35_apply _ _ _ _ _).trans (congrArg _ (two rfl rfl))) (fun _ _ _ => (val_main_v36_apply _ _).trans (congrArg _ (three rfl rfl rfl)))

/-- The reference's stack of first averages. -/
theorem stack_first (x0 : (⟨S4x512x1024, .bf16⟩ : BufTy).Contents (Elt Ideal)) (x2 x6 : (⟨S4x512x1024, .f32⟩ : BufTy).Contents (Elt Ideal)) :
    val_main_v40 (F := Ideal) x0 x2 x6 = stack (L := 3) (val_main_v12 (F := Ideal) x0 x2) x6 :=
  concat _ _ _ (fun _ _ => (val_main_v38_apply _ _ _).trans (congrArg _ (two rfl rfl))) (fun _ _ _ => (val_main_v39_apply _ _).trans (congrArg _ (three rfl rfl rfl)))

/-- The reference's stack of second averages. -/
theorem stack_second (x0 : (⟨S4x512x1024, .bf16⟩ : BufTy).Contents (Elt Ideal)) (x3 x7 : (⟨S4x512x1024, .f32⟩ : BufTy).Contents (Elt Ideal)) :
    val_main_v43 (F := Ideal) x0 x3 x7 = stack (L := 3) (val_main_v18 (F := Ideal) x0 x3) x7 :=
  concat _ _ _ (fun _ _ => (val_main_v41_apply _ _ _).trans (congrArg _ (two rfl rfl))) (fun _ _ _ => (val_main_v42_apply _ _).trans (congrArg _ (three rfl rfl rfl)))

end

/-- The added parts of a block are the reference's gradient. -/
theorem total_eq (c : Dev nD) (t : Fin 4) (p : Fin 128) (q : Fin 1024) :
    total (iblk m c 0 (pt t)) (ix2 p q) = val_main_v1 (F := Ideal) (m ((c.tc : Thread nD τ).loc main_arg0)) (ix2 (row rows t p) q) := by
  refine (total_apply _ p q).trans ((Finset.sum_congr rfl fun k _ => ?_).trans (ref_grad _ _ q).symm)
  rw [blk0, V_main_arg0]

/-- The results' arrays before the run are what was given. -/
theorem given (c : Dev nD) : V m c main_v0_0 = m ((c.tc : Thread nD τ).loc main_arg4) ∧ V m c main_v0_1 = m ((c.tc : Thread nD τ).loc main_arg5)
    ∧ V m c main_v0_2 = m ((c.tc : Thread nD τ).loc main_arg6) ∧ V m c main_v0_3 = m ((c.tc : Thread nD τ).loc main_arg7) := by
  refine ⟨?_, ?_, ?_, ?_⟩ <;>
  · unfold_abbrev_sides
    simp only [hostOps0, List.flatten_cons, List.flatten_nil, List.append_nil, List.cons_append, List.nil_append,
      StableHlo.TRef.nullary, StableHlo.TRef.unary, StableHlo.TRef.binary, StableHlo.TRef.toBuf, StableHlo.TRef.ofBuf, cast_eq]
    after_results_simp
    rfl

/-- The kernel's gradient is the reference's. -/
theorem result_grad (c : Dev nD) : (dats m 0 c).arrAt 4 cfg0.N = val_main_v34 (F := Ideal) (m ((c.tc : Thread nD τ).loc main_arg0)) (m ((c.tc : Thread nD τ).loc main_arg4)) := by
  refine (ext rows (fun t p q => ?_) (fun l u q => ?_)).trans (stack_grad _ _).symm
  · have e := congrFun (blocks4 m c (pt t) (flush0_4 (pt t))) (ix3 0 p q : S1x128x1024.Idx)
    rw [flushed4_A, View.read_apply] at e
    exact (congrArg ((dats m 0 c).arrAt 4 cfg0.N) (index rows (places (pt t)).2.2.2.2.1 rfl rfl rfl).symm).trans (e.trans (out_grad.trans (total_eq m c t p q)))
  · refine (entry4 m c (ix3 (nxt l) u q) fun t _ hm => ?_).trans (congrFun (given m c).1 _)
    obtain ⟨x, hx⟩ := View.exists_of_mem_set_slice hm
    exact later (places t).2.2.2.2.1 (x 0).isLt (congrArg (fun z : S4x512x1024.Idx => (z 0).val) hx)

/-- The kernel's change is the reference's. -/
theorem result_change (c : Dev nD) : (dats m 0 c).arrAt 5 cfg0.N = val_main_v37 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg5)) := by
  refine (ext rows (fun t p q => ?_) (fun l u q => ?_)).trans (stack_change _ _ _ _ _).symm
  · have e := congrFun (blocks5 m c (pt t) (flush0_5 (pt t))) (ix3 0 p q : S1x128x1024.Idx)
    rw [flushed5_A, View.read_apply] at e
    refine (congrArg ((dats m 0 c).arrAt 5 cfg0.N) (index rows (places (pt t)).2.2.2.2.2.1 rfl rfl rfl).symm).trans (e.trans (out_change.trans ?_))
    rw [ref_change, total_eq, blk1, blk2, blk3, V_main_arg1, V_main_arg2, V_main_arg3]
  · refine (entry5 m c (ix3 (nxt l) u q) fun t _ hm => ?_).trans (congrFun (given m c).2.1 _)
    obtain ⟨x, hx⟩ := View.exists_of_mem_set_slice hm
    exact later (places t).2.2.2.2.2.1 (x 0).isLt (congrArg (fun z : S4x512x1024.Idx => (z 0).val) hx)

/-- The kernel's first average is the reference's. -/
theorem result_first (c : Dev nD) : (dats m 0 c).arrAt 6 cfg0.N = val_main_v40 (F := Ideal) (m ((c.tc : Thread nD τ).loc main_arg0)) (m ((c.tc : Thread nD τ).loc main_arg2))
    (m ((c.tc : Thread nD τ).loc main_arg6)) := by
  refine (ext rows (fun t p q => ?_) (fun l u q => ?_)).trans (stack_first _ _ _).symm
  · have e := congrFun (blocks6 m c (pt t) (flush0_6 (pt t))) (ix3 0 p q : S1x128x1024.Idx)
    rw [flushed6_A, View.read_apply] at e
    refine (congrArg ((dats m 0 c).arrAt 6 cfg0.N) (index rows (places (pt t)).2.2.2.2.2.2.1 rfl rfl rfl).symm).trans (e.trans (out_first.trans ?_))
    rw [ref_first, total_eq, blk2, V_main_arg2]
  · refine (entry6 m c (ix3 (nxt l) u q) fun t _ hm => ?_).trans (congrFun (given m c).2.2.1 _)
    obtain ⟨x, hx⟩ := View.exists_of_mem_set_slice hm
    exact later (places t).2.2.2.2.2.2.1 (x 0).isLt (congrArg (fun z : S4x512x1024.Idx => (z 0).val) hx)

/-- The kernel's second average is the reference's. -/
theorem result_second (c : Dev nD) : (dats m 0 c).arrAt 7 cfg0.N = val_main_v43 (F := Ideal) (m ((c.tc : Thread nD τ).loc main_arg0)) (m ((c.tc : Thread nD τ).loc main_arg3))
    (m ((c.tc : Thread nD τ).loc main_arg7)) := by
  refine (ext rows (fun t p q => ?_) (fun l u q => ?_)).trans (stack_second _ _ _).symm
  · have e := congrFun (blocks7 m c (pt t) (flush0_7 (pt t))) (ix3 0 p q : S1x128x1024.Idx)
    rw [flushed7_A, View.read_apply] at e
    refine (congrArg ((dats m 0 c).arrAt 7 cfg0.N) (index rows (places (pt t)).2.2.2.2.2.2.2 rfl rfl rfl).symm).trans (e.trans (out_second.trans ?_))
    rw [ref_second, total_eq, blk3, V_main_arg3]
  · refine (entry7 m c (ix3 (nxt l) u q) fun t _ hm => ?_).trans (congrFun (given m c).2.2.2 _)
    obtain ⟨x, hx⟩ := View.exists_of_mem_set_slice hm
    exact later (places t).2.2.2.2.2.2.2 (x 0).isLt (congrArg (fun z : S4x512x1024.Idx => (z 0).val) hx)

/-- The kernel's and the reference's results are the same arrays. -/
theorem algebraic : Cert.algebraic_KernelW2Ideal_ReferenceW2Ideal := by
  intro m ρ m' ρ' hpre hagree
  refine ⟨_, _, _, _, Cert.KernelW2Ideal.Value.run_blocks m ρ, ?_⟩
  refine (θ_run Cert.ReferenceW2Ideal.defs _ _).mono (fun r h c => ?_) (Cert.ReferenceW2Ideal.Value.run (F := Ideal) m' ρ')
  obtain ⟨r0, r1, r2, r3, rest⟩ := h c
  obtain ⟨e0, e1, e2, e3, e4, e5, e6, e7⟩ := hagree c
  refine ⟨(r0.trans (val_main_v34_eq _ _)).trans (Eq.trans ?_ (result_grad m c).symm), (r1.trans (val_main_v37_eq _ _ _ _ _)).trans (Eq.trans ?_ (result_change m c).symm),
    (r2.trans (val_main_v40_eq _ _ _)).trans (Eq.trans ?_ (result_first m c).symm), (r3.trans (val_main_v43_eq _ _ _)).trans (Eq.trans ?_ (result_second m c).symm), rest⟩
  · exact congrArg₂ (val_main_v34 (F := Ideal)) e0 e4
  · exact (congrArg (fun z => val_main_v37 (F := Ideal) z _ _ _ _) e0).trans ((congrArg (fun z => val_main_v37 (F := Ideal) _ z _ _ _) e1).trans
      ((congrArg (fun z => val_main_v37 (F := Ideal) _ _ z _ _) e2).trans ((congrArg (fun z => val_main_v37 (F := Ideal) _ _ _ z _) e3).trans
        (congrArg (fun z => val_main_v37 (F := Ideal) _ _ _ _ z) e5))))
  · exact (congrArg (fun z => val_main_v40 (F := Ideal) z _ _) e0).trans (congrArg₂ (val_main_v40 (F := Ideal) _) e2 e6)
  · exact (congrArg (fun z => val_main_v43 (F := Ideal) z _ _) e0).trans (congrArg₂ (val_main_v43 (F := Ideal) _) e3 e7)

/-- The reference runs, and leaves its arguments and its semaphores as they were. -/
theorem quiescent_reference : Cert.quiescent_ReferenceW2Ideal := fun m ρ _ =>
  (θ_run Cert.ReferenceW2Ideal.defs _ _).mono (fun r h => ⟨fun c => (h c).2.2.2.2, Idealize.ShloMosaic.sem_eq_zero_of_no_sems (by decide) r.2⟩)
    (Cert.ReferenceW2Ideal.Value.run (F := Ideal) m ρ)

end Cert.KernelW2Ideal.Points

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.KernelIn
public import proofs.«01_k».proof.Proof.Gen.KernelIn.Skeleton
public import proofs.«01_k».proof.Proof.Gen.KernelIn.Launch
public import proofs.«01_k».proof.Proof.Gen.KernelIn.Points
public import proofs.«01_k».proof.Proof.Gen.KernelIn.Frame
public import proofs.«01_k».proof.Proof.Gen.KernelInIdeal
public import proofs.«01_k».proof.Proof.Gen.KernelInIdeal.Skeleton
public import proofs.«01_k».proof.Proof.Gen.KernelInIdeal.Launch
public import proofs.«01_k».proof.Proof.Gen.KernelInIdeal.Points
public import proofs.«01_k».proof.Proof.Gen.KernelInIdeal.Frame
public import proofs.«01_k».proof.Proof.Gen.KernelInIdeal.Value
public import proofs.«01_k».proof.Proof.Gen.ReferenceInIdeal
public import proofs.«01_k».proof.Proof.Gen.ReferenceInIdeal.Run
public import proofs.«01_k».proof.Proof.Gen.ReferenceInIdeal.Read
public import proofs.«01_k».proof.Proof.Gen.KernelOut
public import proofs.«01_k».proof.Proof.Gen.KernelOut.Skeleton
public import proofs.«01_k».proof.Proof.Gen.KernelOut.Launch
public import proofs.«01_k».proof.Proof.Gen.KernelOut.Points
public import proofs.«01_k».proof.Proof.Gen.KernelOut.Frame
public import proofs.«01_k».proof.Proof.Gen.KernelOutIdeal
public import proofs.«01_k».proof.Proof.Gen.KernelOutIdeal.Skeleton
public import proofs.«01_k».proof.Proof.Gen.KernelOutIdeal.Launch
public import proofs.«01_k».proof.Proof.Gen.KernelOutIdeal.Points
public import proofs.«01_k».proof.Proof.Gen.KernelOutIdeal.Frame
public import proofs.«01_k».proof.Proof.Gen.KernelOutIdeal.Value
public import proofs.«01_k».proof.Proof.Gen.ReferenceOutIdeal
public import proofs.«01_k».proof.Proof.Gen.ReferenceOutIdeal.Run
public import proofs.«01_k».proof.Proof.Gen.ReferenceOutIdeal.Read
public import proofs.«01_k».proof.Proof.Gen.KernelFwd
public import proofs.«01_k».proof.Proof.Gen.KernelFwd.Skeleton
public import proofs.«01_k».proof.Proof.Gen.KernelFwd.Launch
public import proofs.«01_k».proof.Proof.Gen.KernelFwd.Points
public import proofs.«01_k».proof.Proof.Gen.KernelFwd.Frame
public import proofs.«01_k».proof.Proof.Gen.KernelFwdIdeal
public import proofs.«01_k».proof.Proof.Gen.KernelFwdIdeal.Skeleton
public import proofs.«01_k».proof.Proof.Gen.KernelFwdIdeal.Launch
public import proofs.«01_k».proof.Proof.Gen.KernelFwdIdeal.Points
public import proofs.«01_k».proof.Proof.Gen.KernelFwdIdeal.Frame
public import proofs.«01_k».proof.Proof.Gen.KernelFwdIdeal.Value
public import proofs.«01_k».proof.Proof.Gen.ReferenceFwdIdeal
public import proofs.«01_k».proof.Proof.Gen.ReferenceFwdIdeal.Run
public import proofs.«01_k».proof.Proof.Gen.ReferenceFwdIdeal.Read
public import proofs.«01_k».proof.Proof.Gen.KernelRgIn
public import proofs.«01_k».proof.Proof.Gen.KernelRgIn.Skeleton
public import proofs.«01_k».proof.Proof.Gen.KernelRgIn.Launch
public import proofs.«01_k».proof.Proof.Gen.KernelRgIn.Points
public import proofs.«01_k».proof.Proof.Gen.KernelRgIn.Frame
public import proofs.«01_k».proof.Proof.Gen.KernelRgInIdeal
public import proofs.«01_k».proof.Proof.Gen.KernelRgInIdeal.Skeleton
public import proofs.«01_k».proof.Proof.Gen.KernelRgInIdeal.Launch
public import proofs.«01_k».proof.Proof.Gen.KernelRgInIdeal.Points
public import proofs.«01_k».proof.Proof.Gen.KernelRgInIdeal.Frame
public import proofs.«01_k».proof.Proof.Gen.KernelRgInIdeal.Value
public import proofs.«01_k».proof.Proof.Gen.ReferenceRgInIdeal
public import proofs.«01_k».proof.Proof.Gen.ReferenceRgInIdeal.Run
public import proofs.«01_k».proof.Proof.Gen.ReferenceRgInIdeal.Read
public import proofs.«01_k».proof.Proof.Gen.KernelMix
public import proofs.«01_k».proof.Proof.Gen.KernelMix.Skeleton
public import proofs.«01_k».proof.Proof.Gen.KernelMix.Launch
public import proofs.«01_k».proof.Proof.Gen.KernelMix.Points
public import proofs.«01_k».proof.Proof.Gen.KernelMix.Frame
public import proofs.«01_k».proof.Proof.Gen.KernelMixIdeal
public import proofs.«01_k».proof.Proof.Gen.KernelMixIdeal.Skeleton
public import proofs.«01_k».proof.Proof.Gen.KernelMixIdeal.Launch
public import proofs.«01_k».proof.Proof.Gen.KernelMixIdeal.Points
public import proofs.«01_k».proof.Proof.Gen.KernelMixIdeal.Frame
public import proofs.«01_k».proof.Proof.Gen.KernelMixIdeal.Value
public import proofs.«01_k».proof.Proof.Gen.ReferenceMixIdeal
public import proofs.«01_k».proof.Proof.Gen.ReferenceMixIdeal.Run
public import proofs.«01_k».proof.Proof.Gen.ReferenceMixIdeal.Read
public import proofs.«01_k».proof.Proof.Gen.KernelMixerT
public import proofs.«01_k».proof.Proof.Gen.KernelMixerT.Skeleton
public import proofs.«01_k».proof.Proof.Gen.KernelMixerT.Launch
public import proofs.«01_k».proof.Proof.Gen.KernelMixerT.Points
public import proofs.«01_k».proof.Proof.Gen.KernelMixerT.Frame
public import proofs.«01_k».proof.Proof.Gen.KernelMixerTIdeal
public import proofs.«01_k».proof.Proof.Gen.KernelMixerTIdeal.Skeleton
public import proofs.«01_k».proof.Proof.Gen.KernelMixerTIdeal.Launch
public import proofs.«01_k».proof.Proof.Gen.KernelMixerTIdeal.Points
public import proofs.«01_k».proof.Proof.Gen.KernelMixerTIdeal.Frame
public import proofs.«01_k».proof.Proof.Gen.KernelMixerTIdeal.Value
public import proofs.«01_k».proof.Proof.Gen.ReferenceMixerTIdeal
public import proofs.«01_k».proof.Proof.Gen.ReferenceMixerTIdeal.Run
public import proofs.«01_k».proof.Proof.Gen.ReferenceMixerTIdeal.Read
public import proofs.«01_k».proof.Proof.Gen.Pre_finite_mixer
public import proofs.«01_k».proof.Proof.Gen.KernelFirst
public import proofs.«01_k».proof.Proof.Gen.KernelFirst.Skeleton
public import proofs.«01_k».proof.Proof.Gen.KernelFirst.Launch
public import proofs.«01_k».proof.Proof.Gen.KernelFirst.Points
public import proofs.«01_k».proof.Proof.Gen.KernelFirst.Frame
public import proofs.«01_k».proof.Proof.Gen.KernelFirstIdeal
public import proofs.«01_k».proof.Proof.Gen.KernelFirstIdeal.Skeleton
public import proofs.«01_k».proof.Proof.Gen.KernelFirstIdeal.Launch
public import proofs.«01_k».proof.Proof.Gen.KernelFirstIdeal.Points
public import proofs.«01_k».proof.Proof.Gen.KernelFirstIdeal.Frame
public import proofs.«01_k».proof.Proof.Gen.KernelFirstIdeal.Value
public import proofs.«01_k».proof.Proof.Gen.ReferenceFirstIdeal
public import proofs.«01_k».proof.Proof.Gen.ReferenceFirstIdeal.Run
public import proofs.«01_k».proof.Proof.Gen.ReferenceFirstIdeal.Read
public import proofs.«01_k».proof.Proof.Gen.Pre_finite_first
public import proofs.«01_k».proof.Proof.Gen.KernelSmall
public import proofs.«01_k».proof.Proof.Gen.KernelSmall.Skeleton
public import proofs.«01_k».proof.Proof.Gen.KernelSmall.Launch
public import proofs.«01_k».proof.Proof.Gen.KernelSmall.Points
public import proofs.«01_k».proof.Proof.Gen.KernelSmall.Frame
public import proofs.«01_k».proof.Proof.Gen.KernelSmallIdeal
public import proofs.«01_k».proof.Proof.Gen.KernelSmallIdeal.Skeleton
public import proofs.«01_k».proof.Proof.Gen.KernelSmallIdeal.Launch
public import proofs.«01_k».proof.Proof.Gen.KernelSmallIdeal.Points
public import proofs.«01_k».proof.Proof.Gen.KernelSmallIdeal.Frame
public import proofs.«01_k».proof.Proof.Gen.ReferenceSmallIdeal
public import proofs.«01_k».proof.Proof.Gen.ReferenceSmallIdeal.Run
public import proofs.«01_k».proof.Proof.Gen.ReferenceSmallIdeal.Read
public import proofs.«01_k».proof.Proof.Gen.KernelMod
public import proofs.«01_k».proof.Proof.Gen.KernelMod.Skeleton
public import proofs.«01_k».proof.Proof.Gen.KernelMod.Launch
public import proofs.«01_k».proof.Proof.Gen.KernelMod.Points
public import proofs.«01_k».proof.Proof.Gen.KernelMod.Frame
public import proofs.«01_k».proof.Proof.Gen.KernelModIdeal
public import proofs.«01_k».proof.Proof.Gen.KernelModIdeal.Skeleton
public import proofs.«01_k».proof.Proof.Gen.KernelModIdeal.Launch
public import proofs.«01_k».proof.Proof.Gen.KernelModIdeal.Points
public import proofs.«01_k».proof.Proof.Gen.KernelModIdeal.Frame
public import proofs.«01_k».proof.Proof.Gen.KernelModIdeal.Value
public import proofs.«01_k».proof.Proof.Gen.ReferenceModIdeal
public import proofs.«01_k».proof.Proof.Gen.ReferenceModIdeal.Run
public import proofs.«01_k».proof.Proof.Gen.ReferenceModIdeal.Read
public import proofs.«01_k».proof.Proof.Gen.KernelConv
public import proofs.«01_k».proof.Proof.Gen.KernelConv.Skeleton
public import proofs.«01_k».proof.Proof.Gen.KernelConv.Launch
public import proofs.«01_k».proof.Proof.Gen.KernelConv.Points
public import proofs.«01_k».proof.Proof.Gen.KernelConv.Frame
public import proofs.«01_k».proof.Proof.Gen.KernelConvIdeal
public import proofs.«01_k».proof.Proof.Gen.KernelConvIdeal.Skeleton
public import proofs.«01_k».proof.Proof.Gen.KernelConvIdeal.Launch
public import proofs.«01_k».proof.Proof.Gen.KernelConvIdeal.Points
public import proofs.«01_k».proof.Proof.Gen.KernelConvIdeal.Frame
public import proofs.«01_k».proof.Proof.Gen.KernelConvIdeal.Value
public import proofs.«01_k».proof.Proof.Gen.ReferenceConvIdeal
public import proofs.«01_k».proof.Proof.Gen.ReferenceConvIdeal.Run
public import proofs.«01_k».proof.Proof.Gen.ReferenceConvIdeal.Read
public import proofs.«01_k».proof.Proof.Gen.KernelMixOut
public import proofs.«01_k».proof.Proof.Gen.KernelMixOut.Skeleton
public import proofs.«01_k».proof.Proof.Gen.KernelMixOut.Launch
public import proofs.«01_k».proof.Proof.Gen.KernelMixOut.Points
public import proofs.«01_k».proof.Proof.Gen.KernelMixOut.Frame
public import proofs.«01_k».proof.Proof.Gen.KernelMixOutIdeal
public import proofs.«01_k».proof.Proof.Gen.KernelMixOutIdeal.Skeleton
public import proofs.«01_k».proof.Proof.Gen.KernelMixOutIdeal.Launch
public import proofs.«01_k».proof.Proof.Gen.KernelMixOutIdeal.Points
public import proofs.«01_k».proof.Proof.Gen.KernelMixOutIdeal.Frame
public import proofs.«01_k».proof.Proof.Gen.KernelMixOutIdeal.Value
public import proofs.«01_k».proof.Proof.Gen.ReferenceMixOutIdeal
public import proofs.«01_k».proof.Proof.Gen.ReferenceMixOutIdeal.Run
public import proofs.«01_k».proof.Proof.Gen.ReferenceMixOutIdeal.Read
public import proofs.«01_k».proof.Proof.Gen.KernelMixOutT
public import proofs.«01_k».proof.Proof.Gen.KernelMixOutT.Skeleton
public import proofs.«01_k».proof.Proof.Gen.KernelMixOutT.Launch
public import proofs.«01_k».proof.Proof.Gen.KernelMixOutT.Points
public import proofs.«01_k».proof.Proof.Gen.KernelMixOutT.Frame
public import proofs.«01_k».proof.Proof.Gen.KernelMixOutTIdeal
public import proofs.«01_k».proof.Proof.Gen.KernelMixOutTIdeal.Skeleton
public import proofs.«01_k».proof.Proof.Gen.KernelMixOutTIdeal.Launch
public import proofs.«01_k».proof.Proof.Gen.KernelMixOutTIdeal.Points
public import proofs.«01_k».proof.Proof.Gen.KernelMixOutTIdeal.Frame
public import proofs.«01_k».proof.Proof.Gen.KernelMixOutTIdeal.Value
public import proofs.«01_k».proof.Proof.Gen.ReferenceMixOutTIdeal
public import proofs.«01_k».proof.Proof.Gen.ReferenceMixOutTIdeal.Run
public import proofs.«01_k».proof.Proof.Gen.ReferenceMixOutTIdeal.Read
public import proofs.«01_k».proof.Proof.Gen.KernelHgZ
public import proofs.«01_k».proof.Proof.Gen.KernelHgZ.Skeleton
public import proofs.«01_k».proof.Proof.Gen.KernelHgZ.Launch
public import proofs.«01_k».proof.Proof.Gen.KernelHgZ.Points
public import proofs.«01_k».proof.Proof.Gen.KernelHgZ.Frame
public import proofs.«01_k».proof.Proof.Gen.KernelHgZIdeal
public import proofs.«01_k».proof.Proof.Gen.KernelHgZIdeal.Skeleton
public import proofs.«01_k».proof.Proof.Gen.KernelHgZIdeal.Launch
public import proofs.«01_k».proof.Proof.Gen.KernelHgZIdeal.Points
public import proofs.«01_k».proof.Proof.Gen.KernelHgZIdeal.Frame
public import proofs.«01_k».proof.Proof.Gen.KernelHgZIdeal.Value
public import proofs.«01_k».proof.Proof.Gen.ReferenceHgZIdeal
public import proofs.«01_k».proof.Proof.Gen.ReferenceHgZIdeal.Run
public import proofs.«01_k».proof.Proof.Gen.ReferenceHgZIdeal.Read
public import proofs.«01_k».proof.Proof.Gen.KernelRgZ
public import proofs.«01_k».proof.Proof.Gen.KernelRgZ.Skeleton
public import proofs.«01_k».proof.Proof.Gen.KernelRgZ.Launch
public import proofs.«01_k».proof.Proof.Gen.KernelRgZ.Points
public import proofs.«01_k».proof.Proof.Gen.KernelRgZ.Frame
public import proofs.«01_k».proof.Proof.Gen.KernelRgZIdeal
public import proofs.«01_k».proof.Proof.Gen.KernelRgZIdeal.Skeleton
public import proofs.«01_k».proof.Proof.Gen.KernelRgZIdeal.Launch
public import proofs.«01_k».proof.Proof.Gen.KernelRgZIdeal.Points
public import proofs.«01_k».proof.Proof.Gen.KernelRgZIdeal.Frame
public import proofs.«01_k».proof.Proof.Gen.KernelRgZIdeal.Value
public import proofs.«01_k».proof.Proof.Gen.ReferenceRgZIdeal
public import proofs.«01_k».proof.Proof.Gen.ReferenceRgZIdeal.Run
public import proofs.«01_k».proof.Proof.Gen.ReferenceRgZIdeal.Read
public import proofs.«01_k».proof.Proof.Gen.KernelGate
public import proofs.«01_k».proof.Proof.Gen.KernelGate.Skeleton
public import proofs.«01_k».proof.Proof.Gen.KernelGate.Launch
public import proofs.«01_k».proof.Proof.Gen.KernelGate.Points
public import proofs.«01_k».proof.Proof.Gen.KernelGate.Frame
public import proofs.«01_k».proof.Proof.Gen.KernelGateIdeal
public import proofs.«01_k».proof.Proof.Gen.KernelGateIdeal.Skeleton
public import proofs.«01_k».proof.Proof.Gen.KernelGateIdeal.Launch
public import proofs.«01_k».proof.Proof.Gen.KernelGateIdeal.Points
public import proofs.«01_k».proof.Proof.Gen.KernelGateIdeal.Frame
public import proofs.«01_k».proof.Proof.Gen.KernelGateIdeal.Value
public import proofs.«01_k».proof.Proof.Gen.ReferenceGateIdeal
public import proofs.«01_k».proof.Proof.Gen.ReferenceGateIdeal.Run
public import proofs.«01_k».proof.Proof.Gen.ReferenceGateIdeal.Read
public import proofs.«01_k».proof.Proof.Gen.KernelRgWIn
public import proofs.«01_k».proof.Proof.Gen.KernelRgWIn.Skeleton
public import proofs.«01_k».proof.Proof.Gen.KernelRgWIn.Launch
public import proofs.«01_k».proof.Proof.Gen.KernelRgWIn.Points
public import proofs.«01_k».proof.Proof.Gen.KernelRgWIn.Frame
public import proofs.«01_k».proof.Proof.Gen.KernelRgWInIdeal
public import proofs.«01_k».proof.Proof.Gen.KernelRgWInIdeal.Skeleton
public import proofs.«01_k».proof.Proof.Gen.KernelRgWInIdeal.Launch
public import proofs.«01_k».proof.Proof.Gen.KernelRgWInIdeal.Points
public import proofs.«01_k».proof.Proof.Gen.KernelRgWInIdeal.Frame
public import proofs.«01_k».proof.Proof.Gen.KernelRgWInIdeal.Value
public import proofs.«01_k».proof.Proof.Gen.ReferenceRgWInIdeal
public import proofs.«01_k».proof.Proof.Gen.ReferenceRgWInIdeal.Run
public import proofs.«01_k».proof.Proof.Gen.ReferenceRgWInIdeal.Read
public import proofs.«01_k».proof.Proof.Gen.KernelWOut
public import proofs.«01_k».proof.Proof.Gen.KernelWOut.Skeleton
public import proofs.«01_k».proof.Proof.Gen.KernelWOut.Launch
public import proofs.«01_k».proof.Proof.Gen.KernelWOut.Points
public import proofs.«01_k».proof.Proof.Gen.KernelWOut.Frame
public import proofs.«01_k».proof.Proof.Gen.KernelWOutIdeal
public import proofs.«01_k».proof.Proof.Gen.KernelWOutIdeal.Skeleton
public import proofs.«01_k».proof.Proof.Gen.KernelWOutIdeal.Launch
public import proofs.«01_k».proof.Proof.Gen.KernelWOutIdeal.Points
public import proofs.«01_k».proof.Proof.Gen.KernelWOutIdeal.Frame
public import proofs.«01_k».proof.Proof.Gen.KernelWOutIdeal.Value
public import proofs.«01_k».proof.Proof.Gen.ReferenceWOutIdeal
public import proofs.«01_k».proof.Proof.Gen.ReferenceWOutIdeal.Run
public import proofs.«01_k».proof.Proof.Gen.ReferenceWOutIdeal.Read
public import proofs.«01_k».proof.Proof.Gen.KernelHgWIn
public import proofs.«01_k».proof.Proof.Gen.KernelHgWIn.Skeleton
public import proofs.«01_k».proof.Proof.Gen.KernelHgWIn.Launch
public import proofs.«01_k».proof.Proof.Gen.KernelHgWIn.Points
public import proofs.«01_k».proof.Proof.Gen.KernelHgWIn.Frame
public import proofs.«01_k».proof.Proof.Gen.KernelHgWInIdeal
public import proofs.«01_k».proof.Proof.Gen.KernelHgWInIdeal.Skeleton
public import proofs.«01_k».proof.Proof.Gen.KernelHgWInIdeal.Launch
public import proofs.«01_k».proof.Proof.Gen.KernelHgWInIdeal.Points
public import proofs.«01_k».proof.Proof.Gen.KernelHgWInIdeal.Frame
public import proofs.«01_k».proof.Proof.Gen.KernelHgWInIdeal.Value
public import proofs.«01_k».proof.Proof.Gen.ReferenceHgWInIdeal
public import proofs.«01_k».proof.Proof.Gen.ReferenceHgWInIdeal.Run
public import proofs.«01_k».proof.Proof.Gen.ReferenceHgWInIdeal.Read
public import proofs.«01_k».proof.Proof.Gen.KernelW1
public import proofs.«01_k».proof.Proof.Gen.KernelW1.Skeleton
public import proofs.«01_k».proof.Proof.Gen.KernelW1.Launch
public import proofs.«01_k».proof.Proof.Gen.KernelW1.Points
public import proofs.«01_k».proof.Proof.Gen.KernelW1.Frame
public import proofs.«01_k».proof.Proof.Gen.KernelW1Ideal
public import proofs.«01_k».proof.Proof.Gen.KernelW1Ideal.Skeleton
public import proofs.«01_k».proof.Proof.Gen.KernelW1Ideal.Launch
public import proofs.«01_k».proof.Proof.Gen.KernelW1Ideal.Points
public import proofs.«01_k».proof.Proof.Gen.KernelW1Ideal.Frame
public import proofs.«01_k».proof.Proof.Gen.KernelW1Ideal.Value
public import proofs.«01_k».proof.Proof.Gen.ReferenceW1Ideal
public import proofs.«01_k».proof.Proof.Gen.ReferenceW1Ideal.Run
public import proofs.«01_k».proof.Proof.Gen.ReferenceW1Ideal.Read
public import proofs.«01_k».proof.Proof.Gen.KernelW2
public import proofs.«01_k».proof.Proof.Gen.KernelW2.Skeleton
public import proofs.«01_k».proof.Proof.Gen.KernelW2.Launch
public import proofs.«01_k».proof.Proof.Gen.KernelW2.Points
public import proofs.«01_k».proof.Proof.Gen.KernelW2.Frame
public import proofs.«01_k».proof.Proof.Gen.KernelW2Ideal
public import proofs.«01_k».proof.Proof.Gen.KernelW2Ideal.Skeleton
public import proofs.«01_k».proof.Proof.Gen.KernelW2Ideal.Launch
public import proofs.«01_k».proof.Proof.Gen.KernelW2Ideal.Points
public import proofs.«01_k».proof.Proof.Gen.KernelW2Ideal.Frame
public import proofs.«01_k».proof.Proof.Gen.KernelW2Ideal.Value
public import proofs.«01_k».proof.Proof.Gen.ReferenceW2Ideal
public import proofs.«01_k».proof.Proof.Gen.ReferenceW2Ideal.Run
public import proofs.«01_k».proof.Proof.Gen.ReferenceW2Ideal.Read
public import proofs.«01_k».proof.Proof.Algebra
public import proofs.«01_k».proof.Proof.InGrad
public import proofs.«01_k».proof.Proof.OutGrad
public import proofs.«01_k».proof.Proof.Forward
public import proofs.«01_k».proof.Proof.RgInGrad
public import proofs.«01_k».proof.Proof.MixGrad
public import proofs.«01_k».proof.Proof.MixerAlgebra
public import proofs.«01_k».proof.Proof.FirstAlgebra
public import proofs.«01_k».proof.Proof.AdamSmall
public import proofs.«01_k».proof.Proof.AdamMod
public import proofs.«01_k».proof.Proof.AdamConv
public import proofs.«01_k».proof.Proof.MixOut
public import proofs.«01_k».proof.Proof.MixOutT
public import proofs.«01_k».proof.Proof.HgProduct
public import proofs.«01_k».proof.Proof.RgProduct
public import proofs.«01_k».proof.Proof.AdamGate
public import proofs.«01_k».proof.Proof.AdamRgIn
public import proofs.«01_k».proof.Proof.AdamOut
public import proofs.«01_k».proof.Proof.AdamHgIn
public import proofs.«01_k».proof.Proof.AdamUp
public import proofs.«01_k».proof.Proof.AdamDown
public import Idealize.ShloMosaic.Adequacy
public import Idealize.ShloMosaic.Init

@[expose] public section

noncomputable section

namespace Cert.Proof

open Idealize.ShloMosaic Idealize.SL.Sem Cert.Kernel

/-- Every claim of the certificate: the twenty-one calls run and keep their arguments, as do their references, and each call's results are its reference's. -/
theorem claim : Cert.Claim := ⟨
  Cert.Kernel.Gen.facts, Cert.KernelIdeal.Gen.facts, Cert.ReferenceIdeal.Gen.facts, Cert.KernelIn.Gen.facts,
  Cert.KernelInIdeal.Gen.facts, Cert.ReferenceInIdeal.Gen.facts, Cert.KernelOut.Gen.facts, Cert.KernelOutIdeal.Gen.facts,
  Cert.ReferenceOutIdeal.Gen.facts, Cert.KernelFwd.Gen.facts, Cert.KernelFwdIdeal.Gen.facts, Cert.ReferenceFwdIdeal.Gen.facts,
  Cert.KernelRgIn.Gen.facts, Cert.KernelRgInIdeal.Gen.facts, Cert.ReferenceRgInIdeal.Gen.facts, Cert.KernelMix.Gen.facts,
  Cert.KernelMixIdeal.Gen.facts, Cert.ReferenceMixIdeal.Gen.facts, Cert.KernelMixerT.Gen.facts, Cert.KernelMixerTIdeal.Gen.facts,
  Cert.ReferenceMixerTIdeal.Gen.facts, Cert.KernelFirst.Gen.facts, Cert.KernelFirstIdeal.Gen.facts,
  Cert.ReferenceFirstIdeal.Gen.facts, Cert.KernelSmall.Gen.facts, Cert.KernelSmallIdeal.Gen.facts,
  Cert.ReferenceSmallIdeal.Gen.facts, Cert.KernelMod.Gen.facts, Cert.KernelModIdeal.Gen.facts, Cert.ReferenceModIdeal.Gen.facts,
  Cert.KernelConv.Gen.facts, Cert.KernelConvIdeal.Gen.facts, Cert.ReferenceConvIdeal.Gen.facts, Cert.KernelMixOut.Gen.facts,
  Cert.KernelMixOutIdeal.Gen.facts, Cert.ReferenceMixOutIdeal.Gen.facts, Cert.KernelMixOutT.Gen.facts,
  Cert.KernelMixOutTIdeal.Gen.facts, Cert.ReferenceMixOutTIdeal.Gen.facts, Cert.KernelHgZ.Gen.facts, Cert.KernelHgZIdeal.Gen.facts,
  Cert.ReferenceHgZIdeal.Gen.facts, Cert.KernelRgZ.Gen.facts, Cert.KernelRgZIdeal.Gen.facts, Cert.ReferenceRgZIdeal.Gen.facts,
  Cert.KernelGate.Gen.facts, Cert.KernelGateIdeal.Gen.facts, Cert.ReferenceGateIdeal.Gen.facts, Cert.KernelRgWIn.Gen.facts,
  Cert.KernelRgWInIdeal.Gen.facts, Cert.ReferenceRgWInIdeal.Gen.facts, Cert.KernelWOut.Gen.facts, Cert.KernelWOutIdeal.Gen.facts,
  Cert.ReferenceWOutIdeal.Gen.facts, Cert.KernelHgWIn.Gen.facts, Cert.KernelHgWInIdeal.Gen.facts,
  Cert.ReferenceHgWInIdeal.Gen.facts, Cert.KernelW1.Gen.facts, Cert.KernelW1Ideal.Gen.facts, Cert.ReferenceW1Ideal.Gen.facts,
  Cert.KernelW2.Gen.facts, Cert.KernelW2Ideal.Gen.facts, Cert.ReferenceW2Ideal.Gen.facts, Cert.Pre_finite.Gen.facts,
  Cert.Pre_finite_mixer.Gen.facts, Cert.Pre_finite_first.Gen.facts,
  fun m ρ _ => Cert.Kernel.Gen.frame m ρ, fun m ρ _ => Cert.KernelIdeal.Gen.frame m ρ, fun m ρ _ => Cert.KernelIdeal.Gen.frame m ρ,
  Cert.Mlp.quiescent_reference, fun m ρ _ => Cert.Mlp.quiescent_reference m ρ trivial,
  fun m ρ _ => Cert.KernelIn.Gen.frame m ρ, fun m ρ _ => Cert.KernelInIdeal.Gen.frame m ρ, Cert.KernelInIdeal.Points.quiescent_reference,
  fun m ρ _ => Cert.KernelOut.Gen.frame m ρ, fun m ρ _ => Cert.KernelOutIdeal.Gen.frame m ρ, Cert.KernelOutIdeal.Points.quiescent_reference,
  fun m ρ _ => Cert.KernelFwd.Gen.frame m ρ, fun m ρ _ => Cert.KernelFwdIdeal.Gen.frame m ρ, Cert.KernelFwdIdeal.Points.quiescent_reference,
  fun m ρ _ => Cert.KernelRgIn.Gen.frame m ρ, fun m ρ _ => Cert.KernelRgInIdeal.Gen.frame m ρ, Cert.KernelRgInIdeal.Points.quiescent_reference,
  fun m ρ _ => Cert.KernelMix.Gen.frame m ρ, fun m ρ _ => Cert.KernelMixIdeal.Gen.frame m ρ, Cert.KernelMixIdeal.Points.quiescent_reference,
  fun m ρ _ => Cert.KernelMixerT.Gen.frame m ρ, fun m ρ _ => Cert.KernelMixerTIdeal.Gen.frame m ρ, fun m ρ _ => Cert.KernelMixerTIdeal.Gen.frame m ρ,
  Cert.KernelMixerTIdeal.Points.quiescent_reference, fun m ρ _ => Cert.KernelMixerTIdeal.Points.quiescent_reference m ρ trivial,
  fun m ρ _ => Cert.KernelFirst.Gen.frame m ρ, fun m ρ _ => Cert.KernelFirstIdeal.Gen.frame m ρ, fun m ρ _ => Cert.KernelFirstIdeal.Gen.frame m ρ,
  Cert.KernelFirstIdeal.Points.quiescent_reference, fun m ρ _ => Cert.KernelFirstIdeal.Points.quiescent_reference m ρ trivial,
  fun m ρ _ => Cert.KernelSmall.Gen.frame m ρ, fun m ρ _ => Cert.KernelSmallIdeal.Gen.frame m ρ, Cert.KernelSmallIdeal.Points.quiescent_reference,
  fun m ρ _ => Cert.KernelMod.Gen.frame m ρ, fun m ρ _ => Cert.KernelModIdeal.Gen.frame m ρ, Cert.KernelModIdeal.Points.quiescent_reference,
  fun m ρ _ => Cert.KernelConv.Gen.frame m ρ, fun m ρ _ => Cert.KernelConvIdeal.Gen.frame m ρ, Cert.KernelConvIdeal.Points.quiescent_reference,
  fun m ρ _ => Cert.KernelMixOut.Gen.frame m ρ, fun m ρ _ => Cert.KernelMixOutIdeal.Gen.frame m ρ, Cert.KernelMixOutIdeal.Points.quiescent_reference,
  fun m ρ _ => Cert.KernelMixOutT.Gen.frame m ρ, fun m ρ _ => Cert.KernelMixOutTIdeal.Gen.frame m ρ, Cert.KernelMixOutTIdeal.Points.quiescent_reference,
  fun m ρ _ => Cert.KernelHgZ.Gen.frame m ρ, fun m ρ _ => Cert.KernelHgZIdeal.Gen.frame m ρ, Cert.KernelHgZIdeal.Points.quiescent_reference,
  fun m ρ _ => Cert.KernelRgZ.Gen.frame m ρ, fun m ρ _ => Cert.KernelRgZIdeal.Gen.frame m ρ, Cert.KernelRgZIdeal.Points.quiescent_reference,
  fun m ρ _ => Cert.KernelGate.Gen.frame m ρ, fun m ρ _ => Cert.KernelGateIdeal.Gen.frame m ρ, Cert.KernelGateIdeal.Points.quiescent_reference,
  fun m ρ _ => Cert.KernelRgWIn.Gen.frame m ρ, fun m ρ _ => Cert.KernelRgWInIdeal.Gen.frame m ρ, Cert.KernelRgWInIdeal.Points.quiescent_reference,
  fun m ρ _ => Cert.KernelWOut.Gen.frame m ρ, fun m ρ _ => Cert.KernelWOutIdeal.Gen.frame m ρ, Cert.KernelWOutIdeal.Points.quiescent_reference,
  fun m ρ _ => Cert.KernelHgWIn.Gen.frame m ρ, fun m ρ _ => Cert.KernelHgWInIdeal.Gen.frame m ρ, Cert.KernelHgWInIdeal.Points.quiescent_reference,
  fun m ρ _ => Cert.KernelW1.Gen.frame m ρ, fun m ρ _ => Cert.KernelW1Ideal.Gen.frame m ρ, Cert.KernelW1Ideal.Points.quiescent_reference,
  fun m ρ _ => Cert.KernelW2.Gen.frame m ρ, fun m ρ _ => Cert.KernelW2Ideal.Gen.frame m ρ, Cert.KernelW2Ideal.Points.quiescent_reference,
  trivial, Cert.Mlp.algebraic, trivial, Cert.KernelInIdeal.Points.algebraic, trivial, Cert.KernelOutIdeal.Points.algebraic,
  trivial, Cert.KernelFwdIdeal.Points.algebraic, trivial, Cert.KernelRgInIdeal.Points.algebraic,
  trivial, Cert.KernelMixIdeal.Points.algebraic, trivial, Cert.KernelMixerTIdeal.Points.algebraic,
  trivial, Cert.KernelFirstIdeal.Points.algebraic, trivial, Cert.KernelSmallIdeal.Points.algebraic,
  trivial, Cert.KernelModIdeal.Points.algebraic, trivial, Cert.KernelConvIdeal.Points.algebraic,
  trivial, Cert.KernelMixOutIdeal.Points.algebraic, trivial, Cert.KernelMixOutTIdeal.Points.algebraic,
  trivial, Cert.KernelHgZIdeal.Points.algebraic, trivial, Cert.KernelRgZIdeal.Points.algebraic,
  trivial, Cert.KernelGateIdeal.Points.algebraic, trivial, Cert.KernelRgWInIdeal.Points.algebraic,
  trivial, Cert.KernelWOutIdeal.Points.algebraic, trivial, Cert.KernelHgWInIdeal.Points.algebraic,
  trivial, Cert.KernelW1Ideal.Points.algebraic, trivial, Cert.KernelW2Ideal.Points.algebraic⟩

end Cert.Proof

end
